-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelAct (m : (ℓ : Loc Cert.KernelAct.nD Cert.KernelAct.τ Cert.KernelAct.sig) → Buf (Elt Bits) ℓ) : Prop :=
  True

def Pre_KernelActIdeal (m : (ℓ : Loc Cert.KernelActIdeal.nD Cert.KernelActIdeal.τ Cert.KernelActIdeal.sig) → Buf (Elt Ideal) ℓ) : Prop :=
  True

def Pre_KernelActIdeal_finite_act [hPre_finite_act : Cert.Pre_finite_act.Facts] (m : (ℓ : Loc Cert.KernelActIdeal.nD Cert.KernelActIdeal.τ Cert.KernelActIdeal.sig) → Buf (Elt Ideal) ℓ) : Prop :=
  ∀ c : Dev Cert.KernelActIdeal.nD,
    (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2.1 = (fun _ => 1#1)
    ∧ (Cert.Pre_finite_act.fn (F := Ideal) (m ((c.tc : Thread Cert.KernelActIdeal.nD Cert.KernelActIdeal.τ).loc Cert.KernelActIdeal.main_arg0)) (m ((c.tc : Thread Cert.KernelActIdeal.nD Cert.KernelActIdeal.τ).loc Cert.KernelActIdeal.main_arg1)) (m ((c.tc : Thread Cert.KernelActIdeal.nD Cert.KernelActIdeal.τ).loc Cert.KernelActIdeal.main_arg2)) (m ((c.tc : Thread Cert.KernelActIdeal.nD Cert.KernelActIdeal.τ).loc Cert.KernelActIdeal.main_arg3))).2.2.2 = (fun _ => 1#1)

def Pre_ReferenceActIdeal (m : (ℓ : Loc Cert.ReferenceActIdeal.nD Cert.ReferenceActIdeal.τ Cert.ReferenceActIdeal.sig) → Buf (Elt Ideal) ℓ) : Prop :=
  True

def Pre_ReferenceActIdeal_finite_act [hPre_finite_act : Cert.Pre_finite_act.Facts] (m : (ℓ : Loc Cert.ReferenceActIdeal.nD Cert.ReferenceActIdeal.τ Cert.ReferenceActIdeal.sig) → Buf (Elt Ideal) ℓ) : Prop :=
  ∀ c : Dev Cert.ReferenceActIdeal.nD,
    (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2.1 = (fun _ => 1#1)
    ∧ (Cert.Pre_finite_act.fn (F := Ideal) (m ((c.tc : Thread Cert.ReferenceActIdeal.nD Cert.ReferenceActIdeal.τ).loc Cert.ReferenceActIdeal.main_arg0)) (m ((c.tc : Thread Cert.ReferenceActIdeal.nD Cert.ReferenceActIdeal.τ).loc Cert.ReferenceActIdeal.main_arg1)) (m ((c.tc : Thread Cert.ReferenceActIdeal.nD Cert.ReferenceActIdeal.τ).loc Cert.ReferenceActIdeal.main_arg2)) (m ((c.tc : Thread Cert.ReferenceActIdeal.nD Cert.ReferenceActIdeal.τ).loc Cert.ReferenceActIdeal.main_arg3))).2.2.2 = (fun _ => 1#1)

def Pre_KernelDownW (m : (ℓ : Loc Cert.KernelDownW.nD Cert.KernelDownW.τ Cert.KernelDownW.sig) → Buf (Elt Bits) ℓ) : Prop :=
  True

def Pre_KernelDownWIdeal (m : (ℓ : Loc Cert.KernelDownWIdeal.nD Cert.KernelDownWIdeal.τ Cert.KernelDownWIdeal.sig) → Buf (Elt Ideal) ℓ) : Prop :=
  True

def Pre_ReferenceDownWIdeal (m : (ℓ : Loc Cert.ReferenceDownWIdeal.nD Cert.ReferenceDownWIdeal.τ Cert.ReferenceDownWIdeal.sig) → Buf (Elt Ideal) ℓ) : Prop :=
  True

def Pre_KernelUpW (m : (ℓ : Loc Cert.KernelUpW.nD Cert.KernelUpW.τ Cert.KernelUpW.sig) → Buf (Elt Bits) ℓ) : Prop :=
  True

def Pre_KernelUpWIdeal (m : (ℓ : Loc Cert.KernelUpWIdeal.nD Cert.KernelUpWIdeal.τ Cert.KernelUpWIdeal.sig) → Buf (Elt Ideal) ℓ) : Prop :=
  True

def Pre_ReferenceUpWIdeal (m : (ℓ : Loc Cert.ReferenceUpWIdeal.nD Cert.ReferenceUpWIdeal.τ Cert.ReferenceUpWIdeal.sig) → Buf (Elt Ideal) ℓ) : Prop :=
  True

def Pre_KernelUpX (m : (ℓ : Loc Cert.KernelUpX.nD Cert.KernelUpX.τ Cert.KernelUpX.sig) → Buf (Elt Bits) ℓ) : Prop :=
  True

def Pre_KernelUpXIdeal (m : (ℓ : Loc Cert.KernelUpXIdeal.nD Cert.KernelUpXIdeal.τ Cert.KernelUpXIdeal.sig) → Buf (Elt Ideal) ℓ) : Prop :=
  True

def Pre_ReferenceUpXIdeal (m : (ℓ : Loc Cert.ReferenceUpXIdeal.nD Cert.ReferenceUpXIdeal.τ Cert.ReferenceUpXIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelProjX (m : (ℓ : Loc Cert.KernelProjX.nD Cert.KernelProjX.τ Cert.KernelProjX.sig) → Buf (Elt Bits) ℓ) : Prop :=
  True

def Pre_KernelProjXIdeal (m : (ℓ : Loc Cert.KernelProjXIdeal.nD Cert.KernelProjXIdeal.τ Cert.KernelProjXIdeal.sig) → Buf (Elt Ideal) ℓ) : Prop :=
  True

def Pre_ReferenceProjXIdeal (m : (ℓ : Loc Cert.ReferenceProjXIdeal.nD Cert.ReferenceProjXIdeal.τ Cert.ReferenceProjXIdeal.sig) → Buf (Elt Ideal) ℓ) : Prop :=
  True

def Pre_KernelMixX (m : (ℓ : Loc Cert.KernelMixX.nD Cert.KernelMixX.τ Cert.KernelMixX.sig) → Buf (Elt Bits) ℓ) : Prop :=
  True

def Pre_KernelMixXIdeal (m : (ℓ : Loc Cert.KernelMixXIdeal.nD Cert.KernelMixXIdeal.τ Cert.KernelMixXIdeal.sig) → Buf (Elt Ideal) ℓ) : Prop :=
  True

def Pre_ReferenceMixXIdeal (m : (ℓ : Loc Cert.ReferenceMixXIdeal.nD Cert.ReferenceMixXIdeal.τ Cert.ReferenceMixXIdeal.sig) → Buf (Elt Ideal) ℓ) : Prop :=
  True

def Pre_KernelOutW (m : (ℓ : Loc Cert.KernelOutW.nD Cert.KernelOutW.τ Cert.KernelOutW.sig) → Buf (Elt Bits) ℓ) : Prop :=
  True

def Pre_KernelOutWIdeal (m : (ℓ : Loc Cert.KernelOutWIdeal.nD Cert.KernelOutWIdeal.τ Cert.KernelOutWIdeal.sig) → Buf (Elt Ideal) ℓ) : Prop :=
  True

def Pre_ReferenceOutWIdeal (m : (ℓ : Loc Cert.ReferenceOutWIdeal.nD Cert.ReferenceOutWIdeal.τ Cert.ReferenceOutWIdeal.sig) → Buf (Elt Ideal) ℓ) : Prop :=
  True

def Pre_KernelBranchW (m : (ℓ : Loc Cert.KernelBranchW.nD Cert.KernelBranchW.τ Cert.KernelBranchW.sig) → Buf (Elt Bits) ℓ) : Prop :=
  True

def Pre_KernelBranchWIdeal (m : (ℓ : Loc Cert.KernelBranchWIdeal.nD Cert.KernelBranchWIdeal.τ Cert.KernelBranchWIdeal.sig) → Buf (Elt Ideal) ℓ) : Prop :=
  True

def Pre_ReferenceBranchWIdeal (m : (ℓ : Loc Cert.ReferenceBranchWIdeal.nD Cert.ReferenceBranchWIdeal.τ Cert.ReferenceBranchWIdeal.sig) → Buf (Elt Ideal) ℓ) : Prop :=
  True

def Pre_KernelBranchX (m : (ℓ : Loc Cert.KernelBranchX.nD Cert.KernelBranchX.τ Cert.KernelBranchX.sig) → Buf (Elt Bits) ℓ) : Prop :=
  True

def Pre_KernelBranchXIdeal (m : (ℓ : Loc Cert.KernelBranchXIdeal.nD Cert.KernelBranchXIdeal.τ Cert.KernelBranchXIdeal.sig) → Buf (Elt Ideal) ℓ) : Prop :=
  True

def Pre_ReferenceBranchXIdeal (m : (ℓ : Loc Cert.ReferenceBranchXIdeal.nD Cert.ReferenceBranchXIdeal.τ Cert.ReferenceBranchXIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelFoxF (m : (ℓ : Loc Cert.KernelFoxF.nD Cert.KernelFoxF.τ Cert.KernelFoxF.sig) → Buf (Elt Bits) ℓ) : Prop :=
  True

def Pre_KernelFoxFIdeal (m : (ℓ : Loc Cert.KernelFoxFIdeal.nD Cert.KernelFoxFIdeal.τ Cert.KernelFoxFIdeal.sig) → Buf (Elt Ideal) ℓ) : Prop :=
  True

def Pre_KernelFoxFIdeal_finite_fox [hPre_finite_fox : Cert.Pre_finite_fox.Facts] (m : (ℓ : Loc Cert.KernelFoxFIdeal.nD Cert.KernelFoxFIdeal.τ Cert.KernelFoxFIdeal.sig) → Buf (Elt Ideal) ℓ) : Prop :=
  ∀ c : Dev Cert.KernelFoxFIdeal.nD,
    (Cert.Pre_finite_fox.fn (F := Ideal) (m ((c.tc : Thread Cert.KernelFoxFIdeal.nD Cert.KernelFoxFIdeal.τ).loc Cert.KernelFoxFIdeal.main_arg0)) (m ((c.tc : Thread Cert.KernelFoxFIdeal.nD Cert.KernelFoxFIdeal.τ).loc Cert.KernelFoxFIdeal.main_arg1))).1 = (fun _ => 1#1)
    ∧ (Cert.Pre_finite_fox.fn (F := Ideal) (m ((c.tc : Thread Cert.KernelFoxFIdeal.nD Cert.KernelFoxFIdeal.τ).loc Cert.KernelFoxFIdeal.main_arg0)) (m ((c.tc : Thread Cert.KernelFoxFIdeal.nD Cert.KernelFoxFIdeal.τ).loc Cert.KernelFoxFIdeal.main_arg1))).2 = (fun _ => 1#1)

def Pre_ReferenceFoxFIdeal (m : (ℓ : Loc Cert.ReferenceFoxFIdeal.nD Cert.ReferenceFoxFIdeal.τ Cert.ReferenceFoxFIdeal.sig) → Buf (Elt Ideal) ℓ) : Prop :=
  True

def Pre_ReferenceFoxFIdeal_finite_fox [hPre_finite_fox : Cert.Pre_finite_fox.Facts] (m : (ℓ : Loc Cert.ReferenceFoxFIdeal.nD Cert.ReferenceFoxFIdeal.τ Cert.ReferenceFoxFIdeal.sig) → Buf (Elt Ideal) ℓ) : Prop :=
  ∀ c : Dev Cert.ReferenceFoxFIdeal.nD,
    (Cert.Pre_finite_fox.fn (F := Ideal) (m ((c.tc : Thread Cert.ReferenceFoxFIdeal.nD Cert.ReferenceFoxFIdeal.τ).loc Cert.ReferenceFoxFIdeal.main_arg0)) (m ((c.tc : Thread Cert.ReferenceFoxFIdeal.nD Cert.ReferenceFoxFIdeal.τ).loc Cert.ReferenceFoxFIdeal.main_arg1))).1 = (fun _ => 1#1)
    ∧ (Cert.Pre_finite_fox.fn (F := Ideal) (m ((c.tc : Thread Cert.ReferenceFoxFIdeal.nD Cert.ReferenceFoxFIdeal.τ).loc Cert.ReferenceFoxFIdeal.main_arg0)) (m ((c.tc : Thread Cert.ReferenceFoxFIdeal.nD Cert.ReferenceFoxFIdeal.τ).loc Cert.ReferenceFoxFIdeal.main_arg1))).2 = (fun _ => 1#1)

def Pre_KernelProjW (m : (ℓ : Loc Cert.KernelProjW.nD Cert.KernelProjW.τ Cert.KernelProjW.sig) → Buf (Elt Bits) ℓ) : Prop :=
  True

def Pre_KernelProjWIdeal (m : (ℓ : Loc Cert.KernelProjWIdeal.nD Cert.KernelProjWIdeal.τ Cert.KernelProjWIdeal.sig) → Buf (Elt Ideal) ℓ) : Prop :=
  True

def Pre_ReferenceProjWIdeal (m : (ℓ : Loc Cert.ReferenceProjWIdeal.nD Cert.ReferenceProjWIdeal.τ Cert.ReferenceProjWIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNormF (m : (ℓ : Loc Cert.KernelNormF.nD Cert.KernelNormF.τ Cert.KernelNormF.sig) → Buf (Elt Bits) ℓ) : Prop :=
  True

def Pre_KernelNormFIdeal (m : (ℓ : Loc Cert.KernelNormFIdeal.nD Cert.KernelNormFIdeal.τ Cert.KernelNormFIdeal.sig) → Buf (Elt Ideal) ℓ) : Prop :=
  True

def Pre_ReferenceNormFIdeal (m : (ℓ : Loc Cert.ReferenceNormFIdeal.nD Cert.ReferenceNormFIdeal.τ Cert.ReferenceNormFIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelAdamS (m : (ℓ : Loc Cert.KernelAdamS.nD Cert.KernelAdamS.τ Cert.KernelAdamS.sig) → Buf (Elt Bits) ℓ) : Prop :=
  True

def Pre_KernelAdamSIdeal (m : (ℓ : Loc Cert.KernelAdamSIdeal.nD Cert.KernelAdamSIdeal.τ Cert.KernelAdamSIdeal.sig) → Buf (Elt Ideal) ℓ) : Prop :=
  True

def Pre_ReferenceAdamSIdeal (m : (ℓ : Loc Cert.ReferenceAdamSIdeal.nD Cert.ReferenceAdamSIdeal.τ Cert.ReferenceAdamSIdeal.sig) → Buf (Elt Ideal) ℓ) : Prop :=
  True

def Pre_KernelAdamF (m : (ℓ : Loc Cert.KernelAdamF.nD Cert.KernelAdamF.τ Cert.KernelAdamF.sig) → Buf (Elt Bits) ℓ) : Prop :=
  True

def Pre_KernelAdamFIdeal (m : (ℓ : Loc Cert.KernelAdamFIdeal.nD Cert.KernelAdamFIdeal.τ Cert.KernelAdamFIdeal.sig) → Buf (Elt Ideal) ℓ) : Prop :=
  True

def Pre_ReferenceAdamFIdeal (m : (ℓ : Loc Cert.ReferenceAdamFIdeal.nD Cert.ReferenceAdamFIdeal.τ Cert.ReferenceAdamFIdeal.sig) → Buf (Elt Ideal) ℓ) : Prop :=
  True

def Pre_KernelAdamI (m : (ℓ : Loc Cert.KernelAdamI.nD Cert.KernelAdamI.τ Cert.KernelAdamI.sig) → Buf (Elt Bits) ℓ) : Prop :=
  True

def Pre_KernelAdamIIdeal (m : (ℓ : Loc Cert.KernelAdamIIdeal.nD Cert.KernelAdamIIdeal.τ Cert.KernelAdamIIdeal.sig) → Buf (Elt Ideal) ℓ) : Prop :=
  True

def Pre_ReferenceAdamIIdeal (m : (ℓ : Loc Cert.ReferenceAdamIIdeal.nD Cert.ReferenceAdamIIdeal.τ Cert.ReferenceAdamIIdeal.sig) → Buf (Elt Ideal) ℓ) : Prop :=
  True

def Pre_KernelAdamO (m : (ℓ : Loc Cert.KernelAdamO.nD Cert.KernelAdamO.τ Cert.KernelAdamO.sig) → Buf (Elt Bits) ℓ) : Prop :=
  True

def Pre_KernelAdamOIdeal (m : (ℓ : Loc Cert.KernelAdamOIdeal.nD Cert.KernelAdamOIdeal.τ Cert.KernelAdamOIdeal.sig) → Buf (Elt Ideal) ℓ) : Prop :=
  True

def Pre_ReferenceAdamOIdeal (m : (ℓ : Loc Cert.ReferenceAdamOIdeal.nD Cert.ReferenceAdamOIdeal.τ Cert.ReferenceAdamOIdeal.sig) → Buf (Elt Ideal) ℓ) : Prop :=
  True

def Pre_KernelAdamB (m : (ℓ : Loc Cert.KernelAdamB.nD Cert.KernelAdamB.τ Cert.KernelAdamB.sig) → Buf (Elt Bits) ℓ) : Prop :=
  True

def Pre_KernelAdamBIdeal (m : (ℓ : Loc Cert.KernelAdamBIdeal.nD Cert.KernelAdamBIdeal.τ Cert.KernelAdamBIdeal.sig) → Buf (Elt Ideal) ℓ) : Prop :=
  True

def Pre_ReferenceAdamBIdeal (m : (ℓ : Loc Cert.ReferenceAdamBIdeal.nD Cert.ReferenceAdamBIdeal.τ Cert.ReferenceAdamBIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelAct [hKernelAct : Cert.KernelAct.Facts] : Prop :=
  ∀ (m : (ℓ : Loc Cert.KernelAct.nD Cert.KernelAct.τ Cert.KernelAct.sig) → Buf (Elt Bits) ℓ) (g : Dev Cert.KernelAct.nD → PrngReg), Pre_KernelAct m →
    θ_run (Cert.KernelAct.defs (F := Bits)) (onTc (τ := Cert.KernelAct.τ) (Cert.KernelAct.main (F := Bits))) ⟨m, fun _ => 0, g⟩ (fun r => (∀ c : Dev Cert.KernelAct.nD,
      r.2.mem ((c.tc : Thread Cert.KernelAct.nD Cert.KernelAct.τ).loc Cert.KernelAct.main_arg0) = m ((c.tc : Thread Cert.KernelAct.nD Cert.KernelAct.τ).loc Cert.KernelAct.main_arg0)
      ∧ r.2.mem ((c.tc : Thread Cert.KernelAct.nD Cert.KernelAct.τ).loc Cert.KernelAct.main_arg1) = m ((c.tc : Thread Cert.KernelAct.nD Cert.KernelAct.τ).loc Cert.KernelAct.main_arg1)
      ∧ r.2.mem ((c.tc : Thread Cert.KernelAct.nD Cert.KernelAct.τ).loc Cert.KernelAct.main_arg2) = m ((c.tc : Thread Cert.KernelAct.nD Cert.KernelAct.τ).loc Cert.KernelAct.main_arg2)
      ∧ r.2.mem ((c.tc : Thread Cert.KernelAct.nD Cert.KernelAct.τ).loc Cert.KernelAct.main_arg3) = m ((c.tc : Thread Cert.KernelAct.nD Cert.KernelAct.τ).loc Cert.KernelAct.main_arg3))
      ∧ r.2.sem = fun _ => 0)

def quiescent_KernelActIdeal [hKernelActIdeal : Cert.KernelActIdeal.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_KernelActIdeal_pre_finite_act [hKernelActIdeal : Cert.KernelActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg), Pre_KernelActIdeal_finite_act m →
    θ_run (Cert.KernelActIdeal.defs (F := Ideal)) (onTc (τ := Cert.KernelActIdeal.τ) (Cert.KernelActIdeal.main (F := Ideal))) ⟨m, fun _ => 0, g⟩ (fun r => (∀ c : Dev Cert.KernelActIdeal.nD,
      r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
      ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
      ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
      ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ r.2.sem = fun _ => 0)

def quiescent_ReferenceActIdeal [hReferenceActIdeal : Cert.ReferenceActIdeal.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_ReferenceActIdeal_pre_finite_act [hReferenceActIdeal : Cert.ReferenceActIdeal.Facts] [hPre_finite_act : Cert.Pre_finite_act.Facts] : Prop :=
  ∀ (m : (ℓ : Loc Cert.ReferenceActIdeal.nD Cert.ReferenceActIdeal.τ Cert.ReferenceActIdeal.sig) → Buf (Elt Ideal) ℓ) (g : Dev Cert.ReferenceActIdeal.nD → PrngReg), Pre_ReferenceActIdeal_finite_act m →
    θ_run (Cert.ReferenceActIdeal.defs (F := Ideal)) (onTc (τ := Cert.ReferenceActIdeal.τ) (Cert.ReferenceActIdeal.main (F := Ideal))) ⟨m, fun _ => 0, g⟩ (fun r => (∀ c : Dev Cert.ReferenceActIdeal.nD,
      r.2.mem ((c.tc : Thread Cert.ReferenceActIdeal.nD Cert.ReferenceActIdeal.τ).loc Cert.ReferenceActIdeal.main_arg0) = m ((c.tc : Thread Cert.ReferenceActIdeal.nD Cert.ReferenceActIdeal.τ).loc Cert.ReferenceActIdeal.main_arg0)
      ∧ r.2.mem ((c.tc : Thread Cert.ReferenceActIdeal.nD Cert.ReferenceActIdeal.τ).loc Cert.ReferenceActIdeal.main_arg1) = m ((c.tc : Thread Cert.ReferenceActIdeal.nD Cert.ReferenceActIdeal.τ).loc Cert.ReferenceActIdeal.main_arg1)
      ∧ r.2.mem ((c.tc : Thread Cert.ReferenceActIdeal.nD Cert.ReferenceActIdeal.τ).loc Cert.ReferenceActIdeal.main_arg2) = m ((c.tc : Thread Cert.ReferenceActIdeal.nD Cert.ReferenceActIdeal.τ).loc Cert.ReferenceActIdeal.main_arg2)
      ∧ r.2.mem ((c.tc : Thread Cert.ReferenceActIdeal.nD Cert.ReferenceActIdeal.τ).loc Cert.ReferenceActIdeal.main_arg3) = m ((c.tc : Thread Cert.ReferenceActIdeal.nD Cert.ReferenceActIdeal.τ).loc Cert.ReferenceActIdeal.main_arg3))
      ∧ r.2.sem = fun _ => 0)

def quiescent_KernelDownW [hKernelDownW : Cert.KernelDownW.Facts] : Prop :=
  ∀ (m : (ℓ : Loc Cert.KernelDownW.nD Cert.KernelDownW.τ Cert.KernelDownW.sig) → Buf (Elt Bits) ℓ) (g : Dev Cert.KernelDownW.nD → PrngReg), Pre_KernelDownW m →
    θ_run (Cert.KernelDownW.defs (F := Bits)) (onTc (τ := Cert.KernelDownW.τ) (Cert.KernelDownW.main (F := Bits))) ⟨m, fun _ => 0, g⟩ (fun r => (∀ c : Dev Cert.KernelDownW.nD,
      r.2.mem ((c.tc : Thread Cert.KernelDownW.nD Cert.KernelDownW.τ).loc Cert.KernelDownW.main_arg0) = m ((c.tc : Thread Cert.KernelDownW.nD Cert.KernelDownW.τ).loc Cert.KernelDownW.main_arg0)
      ∧ r.2.mem ((c.tc : Thread Cert.KernelDownW.nD Cert.KernelDownW.τ).loc Cert.KernelDownW.main_arg1) = m ((c.tc : Thread Cert.KernelDownW.nD Cert.KernelDownW.τ).loc Cert.KernelDownW.main_arg1))
      ∧ r.2.sem = fun _ => 0)

def quiescent_KernelDownWIdeal [hKernelDownWIdeal : Cert.KernelDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg), Pre_KernelDownWIdeal m →
    θ_run (Cert.KernelDownWIdeal.defs (F := Ideal)) (onTc (τ := Cert.KernelDownWIdeal.τ) (Cert.KernelDownWIdeal.main (F := Ideal))) ⟨m, fun _ => 0, g⟩ (fun r => (∀ c : Dev Cert.KernelDownWIdeal.nD,
      r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
      ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ r.2.sem = fun _ => 0)

def quiescent_ReferenceDownWIdeal [hReferenceDownWIdeal : Cert.ReferenceDownWIdeal.Facts] : Prop :=
  ∀ (m : (ℓ : Loc Cert.ReferenceDownWIdeal.nD Cert.ReferenceDownWIdeal.τ Cert.ReferenceDownWIdeal.sig) → Buf (Elt Ideal) ℓ) (g : Dev Cert.ReferenceDownWIdeal.nD → PrngReg), Pre_ReferenceDownWIdeal m →
    θ_run (Cert.ReferenceDownWIdeal.defs (F := Ideal)) (onTc (τ := Cert.ReferenceDownWIdeal.τ) (Cert.ReferenceDownWIdeal.main (F := Ideal))) ⟨m, fun _ => 0, g⟩ (fun r => (∀ c : Dev Cert.ReferenceDownWIdeal.nD,
      r.2.mem ((c.tc : Thread Cert.ReferenceDownWIdeal.nD Cert.ReferenceDownWIdeal.τ).loc Cert.ReferenceDownWIdeal.main_arg0) = m ((c.tc : Thread Cert.ReferenceDownWIdeal.nD Cert.ReferenceDownWIdeal.τ).loc Cert.ReferenceDownWIdeal.main_arg0)
      ∧ r.2.mem ((c.tc : Thread Cert.ReferenceDownWIdeal.nD Cert.ReferenceDownWIdeal.τ).loc Cert.ReferenceDownWIdeal.main_arg1) = m ((c.tc : Thread Cert.ReferenceDownWIdeal.nD Cert.ReferenceDownWIdeal.τ).loc Cert.ReferenceDownWIdeal.main_arg1))
      ∧ r.2.sem = fun _ => 0)

def quiescent_KernelUpW [hKernelUpW : Cert.KernelUpW.Facts] : Prop :=
  ∀ (m : (ℓ : Loc Cert.KernelUpW.nD Cert.KernelUpW.τ Cert.KernelUpW.sig) → Buf (Elt Bits) ℓ) (g : Dev Cert.KernelUpW.nD → PrngReg), Pre_KernelUpW m →
    θ_run (Cert.KernelUpW.defs (F := Bits)) (onTc (τ := Cert.KernelUpW.τ) (Cert.KernelUpW.main (F := Bits))) ⟨m, fun _ => 0, g⟩ (fun r => (∀ c : Dev Cert.KernelUpW.nD,
      r.2.mem ((c.tc : Thread Cert.KernelUpW.nD Cert.KernelUpW.τ).loc Cert.KernelUpW.main_arg0) = m ((c.tc : Thread Cert.KernelUpW.nD Cert.KernelUpW.τ).loc Cert.KernelUpW.main_arg0)
      ∧ r.2.mem ((c.tc : Thread Cert.KernelUpW.nD Cert.KernelUpW.τ).loc Cert.KernelUpW.main_arg1) = m ((c.tc : Thread Cert.KernelUpW.nD Cert.KernelUpW.τ).loc Cert.KernelUpW.main_arg1))
      ∧ r.2.sem = fun _ => 0)

def quiescent_KernelUpWIdeal [hKernelUpWIdeal : Cert.KernelUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg), Pre_KernelUpWIdeal m →
    θ_run (Cert.KernelUpWIdeal.defs (F := Ideal)) (onTc (τ := Cert.KernelUpWIdeal.τ) (Cert.KernelUpWIdeal.main (F := Ideal))) ⟨m, fun _ => 0, g⟩ (fun r => (∀ c : Dev Cert.KernelUpWIdeal.nD,
      r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
      ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1))
      ∧ r.2.sem = fun _ => 0)

def quiescent_ReferenceUpWIdeal [hReferenceUpWIdeal : Cert.ReferenceUpWIdeal.Facts] : Prop :=
  ∀ (m : (ℓ : Loc Cert.ReferenceUpWIdeal.nD Cert.ReferenceUpWIdeal.τ Cert.ReferenceUpWIdeal.sig) → Buf (Elt Ideal) ℓ) (g : Dev Cert.ReferenceUpWIdeal.nD → PrngReg), Pre_ReferenceUpWIdeal m →
    θ_run (Cert.ReferenceUpWIdeal.defs (F := Ideal)) (onTc (τ := Cert.ReferenceUpWIdeal.τ) (Cert.ReferenceUpWIdeal.main (F := Ideal))) ⟨m, fun _ => 0, g⟩ (fun r => (∀ c : Dev Cert.ReferenceUpWIdeal.nD,
      r.2.mem ((c.tc : Thread Cert.ReferenceUpWIdeal.nD Cert.ReferenceUpWIdeal.τ).loc Cert.ReferenceUpWIdeal.main_arg0) = m ((c.tc : Thread Cert.ReferenceUpWIdeal.nD Cert.ReferenceUpWIdeal.τ).loc Cert.ReferenceUpWIdeal.main_arg0)
      ∧ r.2.mem ((c.tc : Thread Cert.ReferenceUpWIdeal.nD Cert.ReferenceUpWIdeal.τ).loc Cert.ReferenceUpWIdeal.main_arg1) = m ((c.tc : Thread Cert.ReferenceUpWIdeal.nD Cert.ReferenceUpWIdeal.τ).loc Cert.ReferenceUpWIdeal.main_arg1))
      ∧ r.2.sem = fun _ => 0)

def quiescent_KernelUpX [hKernelUpX : Cert.KernelUpX.Facts] : Prop :=
  ∀ (m : (ℓ : Loc Cert.KernelUpX.nD Cert.KernelUpX.τ Cert.KernelUpX.sig) → Buf (Elt Bits) ℓ) (g : Dev Cert.KernelUpX.nD → PrngReg), Pre_KernelUpX m →
    θ_run (Cert.KernelUpX.defs (F := Bits)) (onTc (τ := Cert.KernelUpX.τ) (Cert.KernelUpX.main (F := Bits))) ⟨m, fun _ => 0, g⟩ (fun r => (∀ c : Dev Cert.KernelUpX.nD,
      r.2.mem ((c.tc : Thread Cert.KernelUpX.nD Cert.KernelUpX.τ).loc Cert.KernelUpX.main_arg0) = m ((c.tc : Thread Cert.KernelUpX.nD Cert.KernelUpX.τ).loc Cert.KernelUpX.main_arg0)
      ∧ r.2.mem ((c.tc : Thread Cert.KernelUpX.nD Cert.KernelUpX.τ).loc Cert.KernelUpX.main_arg1) = m ((c.tc : Thread Cert.KernelUpX.nD Cert.KernelUpX.τ).loc Cert.KernelUpX.main_arg1)
      ∧ r.2.mem ((c.tc : Thread Cert.KernelUpX.nD Cert.KernelUpX.τ).loc Cert.KernelUpX.main_arg2) = m ((c.tc : Thread Cert.KernelUpX.nD Cert.KernelUpX.τ).loc Cert.KernelUpX.main_arg2)
      ∧ r.2.mem ((c.tc : Thread Cert.KernelUpX.nD Cert.KernelUpX.τ).loc Cert.KernelUpX.main_arg3) = m ((c.tc : Thread Cert.KernelUpX.nD Cert.KernelUpX.τ).loc Cert.KernelUpX.main_arg3))
      ∧ r.2.sem = fun _ => 0)

def quiescent_KernelUpXIdeal [hKernelUpXIdeal : Cert.KernelUpXIdeal.Facts] : Prop :=
  ∀ (m : (ℓ : Loc Cert.KernelUpXIdeal.nD Cert.KernelUpXIdeal.τ Cert.KernelUpXIdeal.sig) → Buf (Elt Ideal) ℓ) (g : Dev Cert.KernelUpXIdeal.nD → PrngReg), Pre_KernelUpXIdeal m →
    θ_run (Cert.KernelUpXIdeal.defs (F := Ideal)) (onTc (τ := Cert.KernelUpXIdeal.τ) (Cert.KernelUpXIdeal.main (F := Ideal))) ⟨m, fun _ => 0, g⟩ (fun r => (∀ c : Dev Cert.KernelUpXIdeal.nD,
      r.2.mem ((c.tc : Thread Cert.KernelUpXIdeal.nD Cert.KernelUpXIdeal.τ).loc Cert.KernelUpXIdeal.main_arg0) = m ((c.tc : Thread Cert.KernelUpXIdeal.nD Cert.KernelUpXIdeal.τ).loc Cert.KernelUpXIdeal.main_arg0)
      ∧ r.2.mem ((c.tc : Thread Cert.KernelUpXIdeal.nD Cert.KernelUpXIdeal.τ).loc Cert.KernelUpXIdeal.main_arg1) = m ((c.tc : Thread Cert.KernelUpXIdeal.nD Cert.KernelUpXIdeal.τ).loc Cert.KernelUpXIdeal.main_arg1)
      ∧ r.2.mem ((c.tc : Thread Cert.KernelUpXIdeal.nD Cert.KernelUpXIdeal.τ).loc Cert.KernelUpXIdeal.main_arg2) = m ((c.tc : Thread Cert.KernelUpXIdeal.nD Cert.KernelUpXIdeal.τ).loc Cert.KernelUpXIdeal.main_arg2)
      ∧ r.2.mem ((c.tc : Thread Cert.KernelUpXIdeal.nD Cert.KernelUpXIdeal.τ).loc Cert.KernelUpXIdeal.main_arg3) = m ((c.tc : Thread Cert.KernelUpXIdeal.nD Cert.KernelUpXIdeal.τ).loc Cert.KernelUpXIdeal.main_arg3))
      ∧ r.2.sem = fun _ => 0)

def quiescent_ReferenceUpXIdeal [hReferenceUpXIdeal : Cert.ReferenceUpXIdeal.Facts] : Prop :=
  ∀ (m : (ℓ : Loc Cert.ReferenceUpXIdeal.nD Cert.ReferenceUpXIdeal.τ Cert.ReferenceUpXIdeal.sig) → Buf (Elt Ideal) ℓ) (g : Dev Cert.ReferenceUpXIdeal.nD → PrngReg), Pre_ReferenceUpXIdeal m →
    θ_run (Cert.ReferenceUpXIdeal.defs (F := Ideal)) (onTc (τ := Cert.ReferenceUpXIdeal.τ) (Cert.ReferenceUpXIdeal.main (F := Ideal))) ⟨m, fun _ => 0, g⟩ (fun r => (∀ c : Dev Cert.ReferenceUpXIdeal.nD,
      r.2.mem ((c.tc : Thread Cert.ReferenceUpXIdeal.nD Cert.ReferenceUpXIdeal.τ).loc Cert.ReferenceUpXIdeal.main_arg0) = m ((c.tc : Thread Cert.ReferenceUpXIdeal.nD Cert.ReferenceUpXIdeal.τ).loc Cert.ReferenceUpXIdeal.main_arg0)
      ∧ r.2.mem ((c.tc : Thread Cert.ReferenceUpXIdeal.nD Cert.ReferenceUpXIdeal.τ).loc Cert.ReferenceUpXIdeal.main_arg1) = m ((c.tc : Thread Cert.ReferenceUpXIdeal.nD Cert.ReferenceUpXIdeal.τ).loc Cert.ReferenceUpXIdeal.main_arg1)
      ∧ r.2.mem ((c.tc : Thread Cert.ReferenceUpXIdeal.nD Cert.ReferenceUpXIdeal.τ).loc Cert.ReferenceUpXIdeal.main_arg2) = m ((c.tc : Thread Cert.ReferenceUpXIdeal.nD Cert.ReferenceUpXIdeal.τ).loc Cert.ReferenceUpXIdeal.main_arg2)
      ∧ r.2.mem ((c.tc : Thread Cert.ReferenceUpXIdeal.nD Cert.ReferenceUpXIdeal.τ).loc Cert.ReferenceUpXIdeal.main_arg3) = m ((c.tc : Thread Cert.ReferenceUpXIdeal.nD Cert.ReferenceUpXIdeal.τ).loc Cert.ReferenceUpXIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelProjX [hKernelProjX : Cert.KernelProjX.Facts] : Prop :=
  ∀ (m : (ℓ : Loc Cert.KernelProjX.nD Cert.KernelProjX.τ Cert.KernelProjX.sig) → Buf (Elt Bits) ℓ) (g : Dev Cert.KernelProjX.nD → PrngReg), Pre_KernelProjX m →
    θ_run (Cert.KernelProjX.defs (F := Bits)) (onTc (τ := Cert.KernelProjX.τ) (Cert.KernelProjX.main (F := Bits))) ⟨m, fun _ => 0, g⟩ (fun r => (∀ c : Dev Cert.KernelProjX.nD,
      r.2.mem ((c.tc : Thread Cert.KernelProjX.nD Cert.KernelProjX.τ).loc Cert.KernelProjX.main_arg0) = m ((c.tc : Thread Cert.KernelProjX.nD Cert.KernelProjX.τ).loc Cert.KernelProjX.main_arg0)
      ∧ r.2.mem ((c.tc : Thread Cert.KernelProjX.nD Cert.KernelProjX.τ).loc Cert.KernelProjX.main_arg1) = m ((c.tc : Thread Cert.KernelProjX.nD Cert.KernelProjX.τ).loc Cert.KernelProjX.main_arg1)
      ∧ r.2.mem ((c.tc : Thread Cert.KernelProjX.nD Cert.KernelProjX.τ).loc Cert.KernelProjX.main_arg2) = m ((c.tc : Thread Cert.KernelProjX.nD Cert.KernelProjX.τ).loc Cert.KernelProjX.main_arg2))
      ∧ r.2.sem = fun _ => 0)

def quiescent_KernelProjXIdeal [hKernelProjXIdeal : Cert.KernelProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg), Pre_KernelProjXIdeal m →
    θ_run (Cert.KernelProjXIdeal.defs (F := Ideal)) (onTc (τ := Cert.KernelProjXIdeal.τ) (Cert.KernelProjXIdeal.main (F := Ideal))) ⟨m, fun _ => 0, g⟩ (fun r => (∀ c : Dev Cert.KernelProjXIdeal.nD,
      r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
      ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1)
      ∧ r.2.mem ((c.tc : Thread Cert.KernelProjXIdeal.nD Cert.KernelProjXIdeal.τ).loc Cert.KernelProjXIdeal.main_arg2) = m ((c.tc : Thread Cert.KernelProjXIdeal.nD Cert.KernelProjXIdeal.τ).loc Cert.KernelProjXIdeal.main_arg2))
      ∧ r.2.sem = fun _ => 0)

def quiescent_ReferenceProjXIdeal [hReferenceProjXIdeal : Cert.ReferenceProjXIdeal.Facts] : Prop :=
  ∀ (m : (ℓ : Loc Cert.ReferenceProjXIdeal.nD Cert.ReferenceProjXIdeal.τ Cert.ReferenceProjXIdeal.sig) → Buf (Elt Ideal) ℓ) (g : Dev Cert.ReferenceProjXIdeal.nD → PrngReg), Pre_ReferenceProjXIdeal m →
    θ_run (Cert.ReferenceProjXIdeal.defs (F := Ideal)) (onTc (τ := Cert.ReferenceProjXIdeal.τ) (Cert.ReferenceProjXIdeal.main (F := Ideal))) ⟨m, fun _ => 0, g⟩ (fun r => (∀ c : Dev Cert.ReferenceProjXIdeal.nD,
      r.2.mem ((c.tc : Thread Cert.ReferenceProjXIdeal.nD Cert.ReferenceProjXIdeal.τ).loc Cert.ReferenceProjXIdeal.main_arg0) = m ((c.tc : Thread Cert.ReferenceProjXIdeal.nD Cert.ReferenceProjXIdeal.τ).loc Cert.ReferenceProjXIdeal.main_arg0)
      ∧ r.2.mem ((c.tc : Thread Cert.ReferenceProjXIdeal.nD Cert.ReferenceProjXIdeal.τ).loc Cert.ReferenceProjXIdeal.main_arg1) = m ((c.tc : Thread Cert.ReferenceProjXIdeal.nD Cert.ReferenceProjXIdeal.τ).loc Cert.ReferenceProjXIdeal.main_arg1)
      ∧ r.2.mem ((c.tc : Thread Cert.ReferenceProjXIdeal.nD Cert.ReferenceProjXIdeal.τ).loc Cert.ReferenceProjXIdeal.main_arg2) = m ((c.tc : Thread Cert.ReferenceProjXIdeal.nD Cert.ReferenceProjXIdeal.τ).loc Cert.ReferenceProjXIdeal.main_arg2))
      ∧ r.2.sem = fun _ => 0)

def quiescent_KernelMixX [hKernelMixX : Cert.KernelMixX.Facts] : Prop :=
  ∀ (m : (ℓ : Loc Cert.KernelMixX.nD Cert.KernelMixX.τ Cert.KernelMixX.sig) → Buf (Elt Bits) ℓ) (g : Dev Cert.KernelMixX.nD → PrngReg), Pre_KernelMixX m →
    θ_run (Cert.KernelMixX.defs (F := Bits)) (onTc (τ := Cert.KernelMixX.τ) (Cert.KernelMixX.main (F := Bits))) ⟨m, fun _ => 0, g⟩ (fun r => (∀ c : Dev Cert.KernelMixX.nD,
      r.2.mem ((c.tc : Thread Cert.KernelMixX.nD Cert.KernelMixX.τ).loc Cert.KernelMixX.main_arg0) = m ((c.tc : Thread Cert.KernelMixX.nD Cert.KernelMixX.τ).loc Cert.KernelMixX.main_arg0)
      ∧ r.2.mem ((c.tc : Thread Cert.KernelMixX.nD Cert.KernelMixX.τ).loc Cert.KernelMixX.main_arg1) = m ((c.tc : Thread Cert.KernelMixX.nD Cert.KernelMixX.τ).loc Cert.KernelMixX.main_arg1)
      ∧ r.2.mem ((c.tc : Thread Cert.KernelMixX.nD Cert.KernelMixX.τ).loc Cert.KernelMixX.main_arg2) = m ((c.tc : Thread Cert.KernelMixX.nD Cert.KernelMixX.τ).loc Cert.KernelMixX.main_arg2)
      ∧ r.2.mem ((c.tc : Thread Cert.KernelMixX.nD Cert.KernelMixX.τ).loc Cert.KernelMixX.main_arg3) = m ((c.tc : Thread Cert.KernelMixX.nD Cert.KernelMixX.τ).loc Cert.KernelMixX.main_arg3)
      ∧ r.2.mem ((c.tc : Thread Cert.KernelMixX.nD Cert.KernelMixX.τ).loc Cert.KernelMixX.main_arg4) = m ((c.tc : Thread Cert.KernelMixX.nD Cert.KernelMixX.τ).loc Cert.KernelMixX.main_arg4))
      ∧ r.2.sem = fun _ => 0)

def quiescent_KernelMixXIdeal [hKernelMixXIdeal : Cert.KernelMixXIdeal.Facts] : Prop :=
  ∀ (m : (ℓ : Loc Cert.KernelMixXIdeal.nD Cert.KernelMixXIdeal.τ Cert.KernelMixXIdeal.sig) → Buf (Elt Ideal) ℓ) (g : Dev Cert.KernelMixXIdeal.nD → PrngReg), Pre_KernelMixXIdeal m →
    θ_run (Cert.KernelMixXIdeal.defs (F := Ideal)) (onTc (τ := Cert.KernelMixXIdeal.τ) (Cert.KernelMixXIdeal.main (F := Ideal))) ⟨m, fun _ => 0, g⟩ (fun r => (∀ c : Dev Cert.KernelMixXIdeal.nD,
      r.2.mem ((c.tc : Thread Cert.KernelMixXIdeal.nD Cert.KernelMixXIdeal.τ).loc Cert.KernelMixXIdeal.main_arg0) = m ((c.tc : Thread Cert.KernelMixXIdeal.nD Cert.KernelMixXIdeal.τ).loc Cert.KernelMixXIdeal.main_arg0)
      ∧ r.2.mem ((c.tc : Thread Cert.KernelMixXIdeal.nD Cert.KernelMixXIdeal.τ).loc Cert.KernelMixXIdeal.main_arg1) = m ((c.tc : Thread Cert.KernelMixXIdeal.nD Cert.KernelMixXIdeal.τ).loc Cert.KernelMixXIdeal.main_arg1)
      ∧ r.2.mem ((c.tc : Thread Cert.KernelMixXIdeal.nD Cert.KernelMixXIdeal.τ).loc Cert.KernelMixXIdeal.main_arg2) = m ((c.tc : Thread Cert.KernelMixXIdeal.nD Cert.KernelMixXIdeal.τ).loc Cert.KernelMixXIdeal.main_arg2)
      ∧ r.2.mem ((c.tc : Thread Cert.KernelMixXIdeal.nD Cert.KernelMixXIdeal.τ).loc Cert.KernelMixXIdeal.main_arg3) = m ((c.tc : Thread Cert.KernelMixXIdeal.nD Cert.KernelMixXIdeal.τ).loc Cert.KernelMixXIdeal.main_arg3)
      ∧ r.2.mem ((c.tc : Thread Cert.KernelMixXIdeal.nD Cert.KernelMixXIdeal.τ).loc Cert.KernelMixXIdeal.main_arg4) = m ((c.tc : Thread Cert.KernelMixXIdeal.nD Cert.KernelMixXIdeal.τ).loc Cert.KernelMixXIdeal.main_arg4))
      ∧ r.2.sem = fun _ => 0)

def quiescent_ReferenceMixXIdeal [hReferenceMixXIdeal : Cert.ReferenceMixXIdeal.Facts] : Prop :=
  ∀ (m : (ℓ : Loc Cert.ReferenceMixXIdeal.nD Cert.ReferenceMixXIdeal.τ Cert.ReferenceMixXIdeal.sig) → Buf (Elt Ideal) ℓ) (g : Dev Cert.ReferenceMixXIdeal.nD → PrngReg), Pre_ReferenceMixXIdeal m →
    θ_run (Cert.ReferenceMixXIdeal.defs (F := Ideal)) (onTc (τ := Cert.ReferenceMixXIdeal.τ) (Cert.ReferenceMixXIdeal.main (F := Ideal))) ⟨m, fun _ => 0, g⟩ (fun r => (∀ c : Dev Cert.ReferenceMixXIdeal.nD,
      r.2.mem ((c.tc : Thread Cert.ReferenceMixXIdeal.nD Cert.ReferenceMixXIdeal.τ).loc Cert.ReferenceMixXIdeal.main_arg0) = m ((c.tc : Thread Cert.ReferenceMixXIdeal.nD Cert.ReferenceMixXIdeal.τ).loc Cert.ReferenceMixXIdeal.main_arg0)
      ∧ r.2.mem ((c.tc : Thread Cert.ReferenceMixXIdeal.nD Cert.ReferenceMixXIdeal.τ).loc Cert.ReferenceMixXIdeal.main_arg1) = m ((c.tc : Thread Cert.ReferenceMixXIdeal.nD Cert.ReferenceMixXIdeal.τ).loc Cert.ReferenceMixXIdeal.main_arg1)
      ∧ r.2.mem ((c.tc : Thread Cert.ReferenceMixXIdeal.nD Cert.ReferenceMixXIdeal.τ).loc Cert.ReferenceMixXIdeal.main_arg2) = m ((c.tc : Thread Cert.ReferenceMixXIdeal.nD Cert.ReferenceMixXIdeal.τ).loc Cert.ReferenceMixXIdeal.main_arg2)
      ∧ r.2.mem ((c.tc : Thread Cert.ReferenceMixXIdeal.nD Cert.ReferenceMixXIdeal.τ).loc Cert.ReferenceMixXIdeal.main_arg3) = m ((c.tc : Thread Cert.ReferenceMixXIdeal.nD Cert.ReferenceMixXIdeal.τ).loc Cert.ReferenceMixXIdeal.main_arg3)
      ∧ r.2.mem ((c.tc : Thread Cert.ReferenceMixXIdeal.nD Cert.ReferenceMixXIdeal.τ).loc Cert.ReferenceMixXIdeal.main_arg4) = m ((c.tc : Thread Cert.ReferenceMixXIdeal.nD Cert.ReferenceMixXIdeal.τ).loc Cert.ReferenceMixXIdeal.main_arg4))
      ∧ r.2.sem = fun _ => 0)

def quiescent_KernelOutW [hKernelOutW : Cert.KernelOutW.Facts] : Prop :=
  ∀ (m : (ℓ : Loc Cert.KernelOutW.nD Cert.KernelOutW.τ Cert.KernelOutW.sig) → Buf (Elt Bits) ℓ) (g : Dev Cert.KernelOutW.nD → PrngReg), Pre_KernelOutW m →
    θ_run (Cert.KernelOutW.defs (F := Bits)) (onTc (τ := Cert.KernelOutW.τ) (Cert.KernelOutW.main (F := Bits))) ⟨m, fun _ => 0, g⟩ (fun r => (∀ c : Dev Cert.KernelOutW.nD,
      r.2.mem ((c.tc : Thread Cert.KernelOutW.nD Cert.KernelOutW.τ).loc Cert.KernelOutW.main_arg0) = m ((c.tc : Thread Cert.KernelOutW.nD Cert.KernelOutW.τ).loc Cert.KernelOutW.main_arg0)
      ∧ r.2.mem ((c.tc : Thread Cert.KernelOutW.nD Cert.KernelOutW.τ).loc Cert.KernelOutW.main_arg1) = m ((c.tc : Thread Cert.KernelOutW.nD Cert.KernelOutW.τ).loc Cert.KernelOutW.main_arg1))
      ∧ r.2.sem = fun _ => 0)

def quiescent_KernelOutWIdeal [hKernelOutWIdeal : Cert.KernelOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg), Pre_KernelOutWIdeal m →
    θ_run (Cert.KernelOutWIdeal.defs (F := Ideal)) (onTc (τ := Cert.KernelOutWIdeal.τ) (Cert.KernelOutWIdeal.main (F := Ideal))) ⟨m, fun _ => 0, g⟩ (fun r => (∀ c : Dev Cert.KernelOutWIdeal.nD,
      r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
      ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ r.2.sem = fun _ => 0)

def quiescent_ReferenceOutWIdeal [hReferenceOutWIdeal : Cert.ReferenceOutWIdeal.Facts] : Prop :=
  ∀ (m : (ℓ : Loc Cert.ReferenceOutWIdeal.nD Cert.ReferenceOutWIdeal.τ Cert.ReferenceOutWIdeal.sig) → Buf (Elt Ideal) ℓ) (g : Dev Cert.ReferenceOutWIdeal.nD → PrngReg), Pre_ReferenceOutWIdeal m →
    θ_run (Cert.ReferenceOutWIdeal.defs (F := Ideal)) (onTc (τ := Cert.ReferenceOutWIdeal.τ) (Cert.ReferenceOutWIdeal.main (F := Ideal))) ⟨m, fun _ => 0, g⟩ (fun r => (∀ c : Dev Cert.ReferenceOutWIdeal.nD,
      r.2.mem ((c.tc : Thread Cert.ReferenceOutWIdeal.nD Cert.ReferenceOutWIdeal.τ).loc Cert.ReferenceOutWIdeal.main_arg0) = m ((c.tc : Thread Cert.ReferenceOutWIdeal.nD Cert.ReferenceOutWIdeal.τ).loc Cert.ReferenceOutWIdeal.main_arg0)
      ∧ r.2.mem ((c.tc : Thread Cert.ReferenceOutWIdeal.nD Cert.ReferenceOutWIdeal.τ).loc Cert.ReferenceOutWIdeal.main_arg1) = m ((c.tc : Thread Cert.ReferenceOutWIdeal.nD Cert.ReferenceOutWIdeal.τ).loc Cert.ReferenceOutWIdeal.main_arg1))
      ∧ r.2.sem = fun _ => 0)

def quiescent_KernelBranchW [hKernelBranchW : Cert.KernelBranchW.Facts] : Prop :=
  ∀ (m : (ℓ : Loc Cert.KernelBranchW.nD Cert.KernelBranchW.τ Cert.KernelBranchW.sig) → Buf (Elt Bits) ℓ) (g : Dev Cert.KernelBranchW.nD → PrngReg), Pre_KernelBranchW m →
    θ_run (Cert.KernelBranchW.defs (F := Bits)) (onTc (τ := Cert.KernelBranchW.τ) (Cert.KernelBranchW.main (F := Bits))) ⟨m, fun _ => 0, g⟩ (fun r => (∀ c : Dev Cert.KernelBranchW.nD,
      r.2.mem ((c.tc : Thread Cert.KernelBranchW.nD Cert.KernelBranchW.τ).loc Cert.KernelBranchW.main_arg0) = m ((c.tc : Thread Cert.KernelBranchW.nD Cert.KernelBranchW.τ).loc Cert.KernelBranchW.main_arg0)
      ∧ r.2.mem ((c.tc : Thread Cert.KernelBranchW.nD Cert.KernelBranchW.τ).loc Cert.KernelBranchW.main_arg1) = m ((c.tc : Thread Cert.KernelBranchW.nD Cert.KernelBranchW.τ).loc Cert.KernelBranchW.main_arg1))
      ∧ r.2.sem = fun _ => 0)

def quiescent_KernelBranchWIdeal [hKernelBranchWIdeal : Cert.KernelBranchWIdeal.Facts] : Prop :=
  ∀ (m : (ℓ : Loc Cert.KernelBranchWIdeal.nD Cert.KernelBranchWIdeal.τ Cert.KernelBranchWIdeal.sig) → Buf (Elt Ideal) ℓ) (g : Dev Cert.KernelBranchWIdeal.nD → PrngReg), Pre_KernelBranchWIdeal m →
    θ_run (Cert.KernelBranchWIdeal.defs (F := Ideal)) (onTc (τ := Cert.KernelBranchWIdeal.τ) (Cert.KernelBranchWIdeal.main (F := Ideal))) ⟨m, fun _ => 0, g⟩ (fun r => (∀ c : Dev Cert.KernelBranchWIdeal.nD,
      r.2.mem ((c.tc : Thread Cert.KernelBranchWIdeal.nD Cert.KernelBranchWIdeal.τ).loc Cert.KernelBranchWIdeal.main_arg0) = m ((c.tc : Thread Cert.KernelBranchWIdeal.nD Cert.KernelBranchWIdeal.τ).loc Cert.KernelBranchWIdeal.main_arg0)
      ∧ r.2.mem ((c.tc : Thread Cert.KernelBranchWIdeal.nD Cert.KernelBranchWIdeal.τ).loc Cert.KernelBranchWIdeal.main_arg1) = m ((c.tc : Thread Cert.KernelBranchWIdeal.nD Cert.KernelBranchWIdeal.τ).loc Cert.KernelBranchWIdeal.main_arg1))
      ∧ r.2.sem = fun _ => 0)

def quiescent_ReferenceBranchWIdeal [hReferenceBranchWIdeal : Cert.ReferenceBranchWIdeal.Facts] : Prop :=
  ∀ (m : (ℓ : Loc Cert.ReferenceBranchWIdeal.nD Cert.ReferenceBranchWIdeal.τ Cert.ReferenceBranchWIdeal.sig) → Buf (Elt Ideal) ℓ) (g : Dev Cert.ReferenceBranchWIdeal.nD → PrngReg), Pre_ReferenceBranchWIdeal m →
    θ_run (Cert.ReferenceBranchWIdeal.defs (F := Ideal)) (onTc (τ := Cert.ReferenceBranchWIdeal.τ) (Cert.ReferenceBranchWIdeal.main (F := Ideal))) ⟨m, fun _ => 0, g⟩ (fun r => (∀ c : Dev Cert.ReferenceBranchWIdeal.nD,
      r.2.mem ((c.tc : Thread Cert.ReferenceBranchWIdeal.nD Cert.ReferenceBranchWIdeal.τ).loc Cert.ReferenceBranchWIdeal.main_arg0) = m ((c.tc : Thread Cert.ReferenceBranchWIdeal.nD Cert.ReferenceBranchWIdeal.τ).loc Cert.ReferenceBranchWIdeal.main_arg0)
      ∧ r.2.mem ((c.tc : Thread Cert.ReferenceBranchWIdeal.nD Cert.ReferenceBranchWIdeal.τ).loc Cert.ReferenceBranchWIdeal.main_arg1) = m ((c.tc : Thread Cert.ReferenceBranchWIdeal.nD Cert.ReferenceBranchWIdeal.τ).loc Cert.ReferenceBranchWIdeal.main_arg1))
      ∧ r.2.sem = fun _ => 0)

def quiescent_KernelBranchX [hKernelBranchX : Cert.KernelBranchX.Facts] : Prop :=
  ∀ (m : (ℓ : Loc Cert.KernelBranchX.nD Cert.KernelBranchX.τ Cert.KernelBranchX.sig) → Buf (Elt Bits) ℓ) (g : Dev Cert.KernelBranchX.nD → PrngReg), Pre_KernelBranchX m →
    θ_run (Cert.KernelBranchX.defs (F := Bits)) (onTc (τ := Cert.KernelBranchX.τ) (Cert.KernelBranchX.main (F := Bits))) ⟨m, fun _ => 0, g⟩ (fun r => (∀ c : Dev Cert.KernelBranchX.nD,
      r.2.mem ((c.tc : Thread Cert.KernelBranchX.nD Cert.KernelBranchX.τ).loc Cert.KernelBranchX.main_arg0) = m ((c.tc : Thread Cert.KernelBranchX.nD Cert.KernelBranchX.τ).loc Cert.KernelBranchX.main_arg0)
      ∧ r.2.mem ((c.tc : Thread Cert.KernelBranchX.nD Cert.KernelBranchX.τ).loc Cert.KernelBranchX.main_arg1) = m ((c.tc : Thread Cert.KernelBranchX.nD Cert.KernelBranchX.τ).loc Cert.KernelBranchX.main_arg1))
      ∧ r.2.sem = fun _ => 0)

def quiescent_KernelBranchXIdeal [hKernelBranchXIdeal : Cert.KernelBranchXIdeal.Facts] : Prop :=
  ∀ (m : (ℓ : Loc Cert.KernelBranchXIdeal.nD Cert.KernelBranchXIdeal.τ Cert.KernelBranchXIdeal.sig) → Buf (Elt Ideal) ℓ) (g : Dev Cert.KernelBranchXIdeal.nD → PrngReg), Pre_KernelBranchXIdeal m →
    θ_run (Cert.KernelBranchXIdeal.defs (F := Ideal)) (onTc (τ := Cert.KernelBranchXIdeal.τ) (Cert.KernelBranchXIdeal.main (F := Ideal))) ⟨m, fun _ => 0, g⟩ (fun r => (∀ c : Dev Cert.KernelBranchXIdeal.nD,
      r.2.mem ((c.tc : Thread Cert.KernelBranchXIdeal.nD Cert.KernelBranchXIdeal.τ).loc Cert.KernelBranchXIdeal.main_arg0) = m ((c.tc : Thread Cert.KernelBranchXIdeal.nD Cert.KernelBranchXIdeal.τ).loc Cert.KernelBranchXIdeal.main_arg0)
      ∧ r.2.mem ((c.tc : Thread Cert.KernelBranchXIdeal.nD Cert.KernelBranchXIdeal.τ).loc Cert.KernelBranchXIdeal.main_arg1) = m ((c.tc : Thread Cert.KernelBranchXIdeal.nD Cert.KernelBranchXIdeal.τ).loc Cert.KernelBranchXIdeal.main_arg1))
      ∧ r.2.sem = fun _ => 0)

def quiescent_ReferenceBranchXIdeal [hReferenceBranchXIdeal : Cert.ReferenceBranchXIdeal.Facts] : Prop :=
  ∀ (m : (ℓ : Loc Cert.ReferenceBranchXIdeal.nD Cert.ReferenceBranchXIdeal.τ Cert.ReferenceBranchXIdeal.sig) → Buf (Elt Ideal) ℓ) (g : Dev Cert.ReferenceBranchXIdeal.nD → PrngReg), Pre_ReferenceBranchXIdeal m →
    θ_run (Cert.ReferenceBranchXIdeal.defs (F := Ideal)) (onTc (τ := Cert.ReferenceBranchXIdeal.τ) (Cert.ReferenceBranchXIdeal.main (F := Ideal))) ⟨m, fun _ => 0, g⟩ (fun r => (∀ c : Dev Cert.ReferenceBranchXIdeal.nD,
      r.2.mem ((c.tc : Thread Cert.ReferenceBranchXIdeal.nD Cert.ReferenceBranchXIdeal.τ).loc Cert.ReferenceBranchXIdeal.main_arg0) = m ((c.tc : Thread Cert.ReferenceBranchXIdeal.nD Cert.ReferenceBranchXIdeal.τ).loc Cert.ReferenceBranchXIdeal.main_arg0)
      ∧ r.2.mem ((c.tc : Thread Cert.ReferenceBranchXIdeal.nD Cert.ReferenceBranchXIdeal.τ).loc Cert.ReferenceBranchXIdeal.main_arg1) = m ((c.tc : Thread Cert.ReferenceBranchXIdeal.nD Cert.ReferenceBranchXIdeal.τ).loc Cert.ReferenceBranchXIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4))
      ∧ r.2.sem = fun _ => 0)

def quiescent_KernelFoxF [hKernelFoxF : Cert.KernelFoxF.Facts] : Prop :=
  ∀ (m : (ℓ : Loc Cert.KernelFoxF.nD Cert.KernelFoxF.τ Cert.KernelFoxF.sig) → Buf (Elt Bits) ℓ) (g : Dev Cert.KernelFoxF.nD → PrngReg), Pre_KernelFoxF m →
    θ_run (Cert.KernelFoxF.defs (F := Bits)) (onTc (τ := Cert.KernelFoxF.τ) (Cert.KernelFoxF.main (F := Bits))) ⟨m, fun _ => 0, g⟩ (fun r => (∀ c : Dev Cert.KernelFoxF.nD,
      r.2.mem ((c.tc : Thread Cert.KernelFoxF.nD Cert.KernelFoxF.τ).loc Cert.KernelFoxF.main_arg0) = m ((c.tc : Thread Cert.KernelFoxF.nD Cert.KernelFoxF.τ).loc Cert.KernelFoxF.main_arg0)
      ∧ r.2.mem ((c.tc : Thread Cert.KernelFoxF.nD Cert.KernelFoxF.τ).loc Cert.KernelFoxF.main_arg1) = m ((c.tc : Thread Cert.KernelFoxF.nD Cert.KernelFoxF.τ).loc Cert.KernelFoxF.main_arg1))
      ∧ r.2.sem = fun _ => 0)

def quiescent_KernelFoxFIdeal [hKernelFoxFIdeal : Cert.KernelFoxFIdeal.Facts] : Prop :=
  ∀ (m : (ℓ : Loc Cert.KernelFoxFIdeal.nD Cert.KernelFoxFIdeal.τ Cert.KernelFoxFIdeal.sig) → Buf (Elt Ideal) ℓ) (g : Dev Cert.KernelFoxFIdeal.nD → PrngReg), Pre_KernelFoxFIdeal m →
    θ_run (Cert.KernelFoxFIdeal.defs (F := Ideal)) (onTc (τ := Cert.KernelFoxFIdeal.τ) (Cert.KernelFoxFIdeal.main (F := Ideal))) ⟨m, fun _ => 0, g⟩ (fun r => (∀ c : Dev Cert.KernelFoxFIdeal.nD,
      r.2.mem ((c.tc : Thread Cert.KernelFoxFIdeal.nD Cert.KernelFoxFIdeal.τ).loc Cert.KernelFoxFIdeal.main_arg0) = m ((c.tc : Thread Cert.KernelFoxFIdeal.nD Cert.KernelFoxFIdeal.τ).loc Cert.KernelFoxFIdeal.main_arg0)
      ∧ r.2.mem ((c.tc : Thread Cert.KernelFoxFIdeal.nD Cert.KernelFoxFIdeal.τ).loc Cert.KernelFoxFIdeal.main_arg1) = m ((c.tc : Thread Cert.KernelFoxFIdeal.nD Cert.KernelFoxFIdeal.τ).loc Cert.KernelFoxFIdeal.main_arg1))
      ∧ r.2.sem = fun _ => 0)

def quiescent_KernelFoxFIdeal_pre_finite_fox [hKernelFoxFIdeal : Cert.KernelFoxFIdeal.Facts] [hPre_finite_fox : Cert.Pre_finite_fox.Facts] : Prop :=
  ∀ (m : (ℓ : Loc Cert.KernelFoxFIdeal.nD Cert.KernelFoxFIdeal.τ Cert.KernelFoxFIdeal.sig) → Buf (Elt Ideal) ℓ) (g : Dev Cert.KernelFoxFIdeal.nD → PrngReg), Pre_KernelFoxFIdeal_finite_fox m →
    θ_run (Cert.KernelFoxFIdeal.defs (F := Ideal)) (onTc (τ := Cert.KernelFoxFIdeal.τ) (Cert.KernelFoxFIdeal.main (F := Ideal))) ⟨m, fun _ => 0, g⟩ (fun r => (∀ c : Dev Cert.KernelFoxFIdeal.nD,
      r.2.mem ((c.tc : Thread Cert.KernelFoxFIdeal.nD Cert.KernelFoxFIdeal.τ).loc Cert.KernelFoxFIdeal.main_arg0) = m ((c.tc : Thread Cert.KernelFoxFIdeal.nD Cert.KernelFoxFIdeal.τ).loc Cert.KernelFoxFIdeal.main_arg0)
      ∧ r.2.mem ((c.tc : Thread Cert.KernelFoxFIdeal.nD Cert.KernelFoxFIdeal.τ).loc Cert.KernelFoxFIdeal.main_arg1) = m ((c.tc : Thread Cert.KernelFoxFIdeal.nD Cert.KernelFoxFIdeal.τ).loc Cert.KernelFoxFIdeal.main_arg1))
      ∧ r.2.sem = fun _ => 0)

def quiescent_ReferenceFoxFIdeal [hReferenceFoxFIdeal : Cert.ReferenceFoxFIdeal.Facts] : Prop :=
  ∀ (m : (ℓ : Loc Cert.ReferenceFoxFIdeal.nD Cert.ReferenceFoxFIdeal.τ Cert.ReferenceFoxFIdeal.sig) → Buf (Elt Ideal) ℓ) (g : Dev Cert.ReferenceFoxFIdeal.nD → PrngReg), Pre_ReferenceFoxFIdeal m →
    θ_run (Cert.ReferenceFoxFIdeal.defs (F := Ideal)) (onTc (τ := Cert.ReferenceFoxFIdeal.τ) (Cert.ReferenceFoxFIdeal.main (F := Ideal))) ⟨m, fun _ => 0, g⟩ (fun r => (∀ c : Dev Cert.ReferenceFoxFIdeal.nD,
      r.2.mem ((c.tc : Thread Cert.ReferenceFoxFIdeal.nD Cert.ReferenceFoxFIdeal.τ).loc Cert.ReferenceFoxFIdeal.main_arg0) = m ((c.tc : Thread Cert.ReferenceFoxFIdeal.nD Cert.ReferenceFoxFIdeal.τ).loc Cert.ReferenceFoxFIdeal.main_arg0)
      ∧ r.2.mem ((c.tc : Thread Cert.ReferenceFoxFIdeal.nD Cert.ReferenceFoxFIdeal.τ).loc Cert.ReferenceFoxFIdeal.main_arg1) = m ((c.tc : Thread Cert.ReferenceFoxFIdeal.nD Cert.ReferenceFoxFIdeal.τ).loc Cert.ReferenceFoxFIdeal.main_arg1))
      ∧ r.2.sem = fun _ => 0)

def quiescent_ReferenceFoxFIdeal_pre_finite_fox [hReferenceFoxFIdeal : Cert.ReferenceFoxFIdeal.Facts] [hPre_finite_fox : Cert.Pre_finite_fox.Facts] : Prop :=
  ∀ (m : (ℓ : Loc Cert.ReferenceFoxFIdeal.nD Cert.ReferenceFoxFIdeal.τ Cert.ReferenceFoxFIdeal.sig) → Buf (Elt Ideal) ℓ) (g : Dev Cert.ReferenceFoxFIdeal.nD → PrngReg), Pre_ReferenceFoxFIdeal_finite_fox m →
    θ_run (Cert.ReferenceFoxFIdeal.defs (F := Ideal)) (onTc (τ := Cert.ReferenceFoxFIdeal.τ) (Cert.ReferenceFoxFIdeal.main (F := Ideal))) ⟨m, fun _ => 0, g⟩ (fun r => (∀ c : Dev Cert.ReferenceFoxFIdeal.nD,
      r.2.mem ((c.tc : Thread Cert.ReferenceFoxFIdeal.nD Cert.ReferenceFoxFIdeal.τ).loc Cert.ReferenceFoxFIdeal.main_arg0) = m ((c.tc : Thread Cert.ReferenceFoxFIdeal.nD Cert.ReferenceFoxFIdeal.τ).loc Cert.ReferenceFoxFIdeal.main_arg0)
      ∧ r.2.mem ((c.tc : Thread Cert.ReferenceFoxFIdeal.nD Cert.ReferenceFoxFIdeal.τ).loc Cert.ReferenceFoxFIdeal.main_arg1) = m ((c.tc : Thread Cert.ReferenceFoxFIdeal.nD Cert.ReferenceFoxFIdeal.τ).loc Cert.ReferenceFoxFIdeal.main_arg1))
      ∧ r.2.sem = fun _ => 0)

def quiescent_KernelProjW [hKernelProjW : Cert.KernelProjW.Facts] : Prop :=
  ∀ (m : (ℓ : Loc Cert.KernelProjW.nD Cert.KernelProjW.τ Cert.KernelProjW.sig) → Buf (Elt Bits) ℓ) (g : Dev Cert.KernelProjW.nD → PrngReg), Pre_KernelProjW m →
    θ_run (Cert.KernelProjW.defs (F := Bits)) (onTc (τ := Cert.KernelProjW.τ) (Cert.KernelProjW.main (F := Bits))) ⟨m, fun _ => 0, g⟩ (fun r => (∀ c : Dev Cert.KernelProjW.nD,
      r.2.mem ((c.tc : Thread Cert.KernelProjW.nD Cert.KernelProjW.τ).loc Cert.KernelProjW.main_arg0) = m ((c.tc : Thread Cert.KernelProjW.nD Cert.KernelProjW.τ).loc Cert.KernelProjW.main_arg0)
      ∧ r.2.mem ((c.tc : Thread Cert.KernelProjW.nD Cert.KernelProjW.τ).loc Cert.KernelProjW.main_arg1) = m ((c.tc : Thread Cert.KernelProjW.nD Cert.KernelProjW.τ).loc Cert.KernelProjW.main_arg1))
      ∧ r.2.sem = fun _ => 0)

def quiescent_KernelProjWIdeal [hKernelProjWIdeal : Cert.KernelProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg), Pre_KernelProjWIdeal m →
    θ_run (Cert.KernelProjWIdeal.defs (F := Ideal)) (onTc (τ := Cert.KernelProjWIdeal.τ) (Cert.KernelProjWIdeal.main (F := Ideal))) ⟨m, fun _ => 0, g⟩ (fun r => (∀ c : Dev Cert.KernelProjWIdeal.nD,
      r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
      ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1))
      ∧ r.2.sem = fun _ => 0)

def quiescent_ReferenceProjWIdeal [hReferenceProjWIdeal : Cert.ReferenceProjWIdeal.Facts] : Prop :=
  ∀ (m : (ℓ : Loc Cert.ReferenceProjWIdeal.nD Cert.ReferenceProjWIdeal.τ Cert.ReferenceProjWIdeal.sig) → Buf (Elt Ideal) ℓ) (g : Dev Cert.ReferenceProjWIdeal.nD → PrngReg), Pre_ReferenceProjWIdeal m →
    θ_run (Cert.ReferenceProjWIdeal.defs (F := Ideal)) (onTc (τ := Cert.ReferenceProjWIdeal.τ) (Cert.ReferenceProjWIdeal.main (F := Ideal))) ⟨m, fun _ => 0, g⟩ (fun r => (∀ c : Dev Cert.ReferenceProjWIdeal.nD,
      r.2.mem ((c.tc : Thread Cert.ReferenceProjWIdeal.nD Cert.ReferenceProjWIdeal.τ).loc Cert.ReferenceProjWIdeal.main_arg0) = m ((c.tc : Thread Cert.ReferenceProjWIdeal.nD Cert.ReferenceProjWIdeal.τ).loc Cert.ReferenceProjWIdeal.main_arg0)
      ∧ r.2.mem ((c.tc : Thread Cert.ReferenceProjWIdeal.nD Cert.ReferenceProjWIdeal.τ).loc Cert.ReferenceProjWIdeal.main_arg1) = m ((c.tc : Thread Cert.ReferenceProjWIdeal.nD Cert.ReferenceProjWIdeal.τ).loc Cert.ReferenceProjWIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2)
      ∧ r.2.mem ((c.tc : Thread Cert.KernelNorm.nD Cert.KernelNorm.τ).loc Cert.KernelNorm.main_arg3) = m ((c.tc : Thread Cert.KernelNorm.nD Cert.KernelNorm.τ).loc Cert.KernelNorm.main_arg3))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
      ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2)
      ∧ r.2.mem ((c.tc : Thread Cert.ReferenceNormIdeal.nD Cert.ReferenceNormIdeal.τ).loc Cert.ReferenceNormIdeal.main_arg3) = m ((c.tc : Thread Cert.ReferenceNormIdeal.nD Cert.ReferenceNormIdeal.τ).loc Cert.ReferenceNormIdeal.main_arg3))
      ∧ r.2.sem = fun _ => 0)

def quiescent_KernelNormF [hKernelNormF : Cert.KernelNormF.Facts] : Prop :=
  ∀ (m : (ℓ : Loc Cert.KernelNormF.nD Cert.KernelNormF.τ Cert.KernelNormF.sig) → Buf (Elt Bits) ℓ) (g : Dev Cert.KernelNormF.nD → PrngReg), Pre_KernelNormF m →
    θ_run (Cert.KernelNormF.defs (F := Bits)) (onTc (τ := Cert.KernelNormF.τ) (Cert.KernelNormF.main (F := Bits))) ⟨m, fun _ => 0, g⟩ (fun r => (∀ c : Dev Cert.KernelNormF.nD,
      r.2.mem ((c.tc : Thread Cert.KernelNormF.nD Cert.KernelNormF.τ).loc Cert.KernelNormF.main_arg0) = m ((c.tc : Thread Cert.KernelNormF.nD Cert.KernelNormF.τ).loc Cert.KernelNormF.main_arg0)
      ∧ r.2.mem ((c.tc : Thread Cert.KernelNormF.nD Cert.KernelNormF.τ).loc Cert.KernelNormF.main_arg1) = m ((c.tc : Thread Cert.KernelNormF.nD Cert.KernelNormF.τ).loc Cert.KernelNormF.main_arg1))
      ∧ r.2.sem = fun _ => 0)

def quiescent_KernelNormFIdeal [hKernelNormFIdeal : Cert.KernelNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg), Pre_KernelNormFIdeal m →
    θ_run (Cert.KernelNormFIdeal.defs (F := Ideal)) (onTc (τ := Cert.KernelNormFIdeal.τ) (Cert.KernelNormFIdeal.main (F := Ideal))) ⟨m, fun _ => 0, g⟩ (fun r => (∀ c : Dev Cert.KernelNormFIdeal.nD,
      r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
      ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1))
      ∧ r.2.sem = fun _ => 0)

def quiescent_ReferenceNormFIdeal [hReferenceNormFIdeal : Cert.ReferenceNormFIdeal.Facts] : Prop :=
  ∀ (m : (ℓ : Loc Cert.ReferenceNormFIdeal.nD Cert.ReferenceNormFIdeal.τ Cert.ReferenceNormFIdeal.sig) → Buf (Elt Ideal) ℓ) (g : Dev Cert.ReferenceNormFIdeal.nD → PrngReg), Pre_ReferenceNormFIdeal m →
    θ_run (Cert.ReferenceNormFIdeal.defs (F := Ideal)) (onTc (τ := Cert.ReferenceNormFIdeal.τ) (Cert.ReferenceNormFIdeal.main (F := Ideal))) ⟨m, fun _ => 0, g⟩ (fun r => (∀ c : Dev Cert.ReferenceNormFIdeal.nD,
      r.2.mem ((c.tc : Thread Cert.ReferenceNormFIdeal.nD Cert.ReferenceNormFIdeal.τ).loc Cert.ReferenceNormFIdeal.main_arg0) = m ((c.tc : Thread Cert.ReferenceNormFIdeal.nD Cert.ReferenceNormFIdeal.τ).loc Cert.ReferenceNormFIdeal.main_arg0)
      ∧ r.2.mem ((c.tc : Thread Cert.ReferenceNormFIdeal.nD Cert.ReferenceNormFIdeal.τ).loc Cert.ReferenceNormFIdeal.main_arg1) = m ((c.tc : Thread Cert.ReferenceNormFIdeal.nD Cert.ReferenceNormFIdeal.τ).loc Cert.ReferenceNormFIdeal.main_arg1))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2))
      ∧ r.2.sem = fun _ => 0)

def quiescent_KernelAdamS [hKernelAdamS : Cert.KernelAdamS.Facts] : Prop :=
  ∀ (m : (ℓ : Loc Cert.KernelAdamS.nD Cert.KernelAdamS.τ Cert.KernelAdamS.sig) → Buf (Elt Bits) ℓ) (g : Dev Cert.KernelAdamS.nD → PrngReg), Pre_KernelAdamS m →
    θ_run (Cert.KernelAdamS.defs (F := Bits)) (onTc (τ := Cert.KernelAdamS.τ) (Cert.KernelAdamS.main (F := Bits))) ⟨m, fun _ => 0, g⟩ (fun r => (∀ c : Dev Cert.KernelAdamS.nD,
      r.2.mem ((c.tc : Thread Cert.KernelAdamS.nD Cert.KernelAdamS.τ).loc Cert.KernelAdamS.main_arg0) = m ((c.tc : Thread Cert.KernelAdamS.nD Cert.KernelAdamS.τ).loc Cert.KernelAdamS.main_arg0)
      ∧ r.2.mem ((c.tc : Thread Cert.KernelAdamS.nD Cert.KernelAdamS.τ).loc Cert.KernelAdamS.main_arg1) = m ((c.tc : Thread Cert.KernelAdamS.nD Cert.KernelAdamS.τ).loc Cert.KernelAdamS.main_arg1)
      ∧ r.2.mem ((c.tc : Thread Cert.KernelAdamS.nD Cert.KernelAdamS.τ).loc Cert.KernelAdamS.main_arg2) = m ((c.tc : Thread Cert.KernelAdamS.nD Cert.KernelAdamS.τ).loc Cert.KernelAdamS.main_arg2)
      ∧ r.2.mem ((c.tc : Thread Cert.KernelAdamS.nD Cert.KernelAdamS.τ).loc Cert.KernelAdamS.main_arg3) = m ((c.tc : Thread Cert.KernelAdamS.nD Cert.KernelAdamS.τ).loc Cert.KernelAdamS.main_arg3))
      ∧ r.2.sem = fun _ => 0)

def quiescent_KernelAdamSIdeal [hKernelAdamSIdeal : Cert.KernelAdamSIdeal.Facts] : Prop :=
  ∀ (m : (ℓ : Loc Cert.KernelAdamSIdeal.nD Cert.KernelAdamSIdeal.τ Cert.KernelAdamSIdeal.sig) → Buf (Elt Ideal) ℓ) (g : Dev Cert.KernelAdamSIdeal.nD → PrngReg), Pre_KernelAdamSIdeal m →
    θ_run (Cert.KernelAdamSIdeal.defs (F := Ideal)) (onTc (τ := Cert.KernelAdamSIdeal.τ) (Cert.KernelAdamSIdeal.main (F := Ideal))) ⟨m, fun _ => 0, g⟩ (fun r => (∀ c : Dev Cert.KernelAdamSIdeal.nD,
      r.2.mem ((c.tc : Thread Cert.KernelAdamSIdeal.nD Cert.KernelAdamSIdeal.τ).loc Cert.KernelAdamSIdeal.main_arg0) = m ((c.tc : Thread Cert.KernelAdamSIdeal.nD Cert.KernelAdamSIdeal.τ).loc Cert.KernelAdamSIdeal.main_arg0)
      ∧ r.2.mem ((c.tc : Thread Cert.KernelAdamSIdeal.nD Cert.KernelAdamSIdeal.τ).loc Cert.KernelAdamSIdeal.main_arg1) = m ((c.tc : Thread Cert.KernelAdamSIdeal.nD Cert.KernelAdamSIdeal.τ).loc Cert.KernelAdamSIdeal.main_arg1)
      ∧ r.2.mem ((c.tc : Thread Cert.KernelAdamSIdeal.nD Cert.KernelAdamSIdeal.τ).loc Cert.KernelAdamSIdeal.main_arg2) = m ((c.tc : Thread Cert.KernelAdamSIdeal.nD Cert.KernelAdamSIdeal.τ).loc Cert.KernelAdamSIdeal.main_arg2)
      ∧ r.2.mem ((c.tc : Thread Cert.KernelAdamSIdeal.nD Cert.KernelAdamSIdeal.τ).loc Cert.KernelAdamSIdeal.main_arg3) = m ((c.tc : Thread Cert.KernelAdamSIdeal.nD Cert.KernelAdamSIdeal.τ).loc Cert.KernelAdamSIdeal.main_arg3))
      ∧ r.2.sem = fun _ => 0)

def quiescent_ReferenceAdamSIdeal [hReferenceAdamSIdeal : Cert.ReferenceAdamSIdeal.Facts] : Prop :=
  ∀ (m : (ℓ : Loc Cert.ReferenceAdamSIdeal.nD Cert.ReferenceAdamSIdeal.τ Cert.ReferenceAdamSIdeal.sig) → Buf (Elt Ideal) ℓ) (g : Dev Cert.ReferenceAdamSIdeal.nD → PrngReg), Pre_ReferenceAdamSIdeal m →
    θ_run (Cert.ReferenceAdamSIdeal.defs (F := Ideal)) (onTc (τ := Cert.ReferenceAdamSIdeal.τ) (Cert.ReferenceAdamSIdeal.main (F := Ideal))) ⟨m, fun _ => 0, g⟩ (fun r => (∀ c : Dev Cert.ReferenceAdamSIdeal.nD,
      r.2.mem ((c.tc : Thread Cert.ReferenceAdamSIdeal.nD Cert.ReferenceAdamSIdeal.τ).loc Cert.ReferenceAdamSIdeal.main_arg0) = m ((c.tc : Thread Cert.ReferenceAdamSIdeal.nD Cert.ReferenceAdamSIdeal.τ).loc Cert.ReferenceAdamSIdeal.main_arg0)
      ∧ r.2.mem ((c.tc : Thread Cert.ReferenceAdamSIdeal.nD Cert.ReferenceAdamSIdeal.τ).loc Cert.ReferenceAdamSIdeal.main_arg1) = m ((c.tc : Thread Cert.ReferenceAdamSIdeal.nD Cert.ReferenceAdamSIdeal.τ).loc Cert.ReferenceAdamSIdeal.main_arg1)
      ∧ r.2.mem ((c.tc : Thread Cert.ReferenceAdamSIdeal.nD Cert.ReferenceAdamSIdeal.τ).loc Cert.ReferenceAdamSIdeal.main_arg2) = m ((c.tc : Thread Cert.ReferenceAdamSIdeal.nD Cert.ReferenceAdamSIdeal.τ).loc Cert.ReferenceAdamSIdeal.main_arg2)
      ∧ r.2.mem ((c.tc : Thread Cert.ReferenceAdamSIdeal.nD Cert.ReferenceAdamSIdeal.τ).loc Cert.ReferenceAdamSIdeal.main_arg3) = m ((c.tc : Thread Cert.ReferenceAdamSIdeal.nD Cert.ReferenceAdamSIdeal.τ).loc Cert.ReferenceAdamSIdeal.main_arg3))
      ∧ r.2.sem = fun _ => 0)

def quiescent_KernelAdamF [hKernelAdamF : Cert.KernelAdamF.Facts] : Prop :=
  ∀ (m : (ℓ : Loc Cert.KernelAdamF.nD Cert.KernelAdamF.τ Cert.KernelAdamF.sig) → Buf (Elt Bits) ℓ) (g : Dev Cert.KernelAdamF.nD → PrngReg), Pre_KernelAdamF m →
    θ_run (Cert.KernelAdamF.defs (F := Bits)) (onTc (τ := Cert.KernelAdamF.τ) (Cert.KernelAdamF.main (F := Bits))) ⟨m, fun _ => 0, g⟩ (fun r => (∀ c : Dev Cert.KernelAdamF.nD,
      r.2.mem ((c.tc : Thread Cert.KernelAdamF.nD Cert.KernelAdamF.τ).loc Cert.KernelAdamF.main_arg0) = m ((c.tc : Thread Cert.KernelAdamF.nD Cert.KernelAdamF.τ).loc Cert.KernelAdamF.main_arg0)
      ∧ r.2.mem ((c.tc : Thread Cert.KernelAdamF.nD Cert.KernelAdamF.τ).loc Cert.KernelAdamF.main_arg1) = m ((c.tc : Thread Cert.KernelAdamF.nD Cert.KernelAdamF.τ).loc Cert.KernelAdamF.main_arg1)
      ∧ r.2.mem ((c.tc : Thread Cert.KernelAdamF.nD Cert.KernelAdamF.τ).loc Cert.KernelAdamF.main_arg2) = m ((c.tc : Thread Cert.KernelAdamF.nD Cert.KernelAdamF.τ).loc Cert.KernelAdamF.main_arg2)
      ∧ r.2.mem ((c.tc : Thread Cert.KernelAdamF.nD Cert.KernelAdamF.τ).loc Cert.KernelAdamF.main_arg3) = m ((c.tc : Thread Cert.KernelAdamF.nD Cert.KernelAdamF.τ).loc Cert.KernelAdamF.main_arg3))
      ∧ r.2.sem = fun _ => 0)

def quiescent_KernelAdamFIdeal [hKernelAdamFIdeal : Cert.KernelAdamFIdeal.Facts] : Prop :=
  ∀ (m : (ℓ : Loc Cert.KernelAdamFIdeal.nD Cert.KernelAdamFIdeal.τ Cert.KernelAdamFIdeal.sig) → Buf (Elt Ideal) ℓ) (g : Dev Cert.KernelAdamFIdeal.nD → PrngReg), Pre_KernelAdamFIdeal m →
    θ_run (Cert.KernelAdamFIdeal.defs (F := Ideal)) (onTc (τ := Cert.KernelAdamFIdeal.τ) (Cert.KernelAdamFIdeal.main (F := Ideal))) ⟨m, fun _ => 0, g⟩ (fun r => (∀ c : Dev Cert.KernelAdamFIdeal.nD,
      r.2.mem ((c.tc : Thread Cert.KernelAdamFIdeal.nD Cert.KernelAdamFIdeal.τ).loc Cert.KernelAdamFIdeal.main_arg0) = m ((c.tc : Thread Cert.KernelAdamFIdeal.nD Cert.KernelAdamFIdeal.τ).loc Cert.KernelAdamFIdeal.main_arg0)
      ∧ r.2.mem ((c.tc : Thread Cert.KernelAdamFIdeal.nD Cert.KernelAdamFIdeal.τ).loc Cert.KernelAdamFIdeal.main_arg1) = m ((c.tc : Thread Cert.KernelAdamFIdeal.nD Cert.KernelAdamFIdeal.τ).loc Cert.KernelAdamFIdeal.main_arg1)
      ∧ r.2.mem ((c.tc : Thread Cert.KernelAdamFIdeal.nD Cert.KernelAdamFIdeal.τ).loc Cert.KernelAdamFIdeal.main_arg2) = m ((c.tc : Thread Cert.KernelAdamFIdeal.nD Cert.KernelAdamFIdeal.τ).loc Cert.KernelAdamFIdeal.main_arg2)
      ∧ r.2.mem ((c.tc : Thread Cert.KernelAdamFIdeal.nD Cert.KernelAdamFIdeal.τ).loc Cert.KernelAdamFIdeal.main_arg3) = m ((c.tc : Thread Cert.KernelAdamFIdeal.nD Cert.KernelAdamFIdeal.τ).loc Cert.KernelAdamFIdeal.main_arg3))
      ∧ r.2.sem = fun _ => 0)

def quiescent_ReferenceAdamFIdeal [hReferenceAdamFIdeal : Cert.ReferenceAdamFIdeal.Facts] : Prop :=
  ∀ (m : (ℓ : Loc Cert.ReferenceAdamFIdeal.nD Cert.ReferenceAdamFIdeal.τ Cert.ReferenceAdamFIdeal.sig) → Buf (Elt Ideal) ℓ) (g : Dev Cert.ReferenceAdamFIdeal.nD → PrngReg), Pre_ReferenceAdamFIdeal m →
    θ_run (Cert.ReferenceAdamFIdeal.defs (F := Ideal)) (onTc (τ := Cert.ReferenceAdamFIdeal.τ) (Cert.ReferenceAdamFIdeal.main (F := Ideal))) ⟨m, fun _ => 0, g⟩ (fun r => (∀ c : Dev Cert.ReferenceAdamFIdeal.nD,
      r.2.mem ((c.tc : Thread Cert.ReferenceAdamFIdeal.nD Cert.ReferenceAdamFIdeal.τ).loc Cert.ReferenceAdamFIdeal.main_arg0) = m ((c.tc : Thread Cert.ReferenceAdamFIdeal.nD Cert.ReferenceAdamFIdeal.τ).loc Cert.ReferenceAdamFIdeal.main_arg0)
      ∧ r.2.mem ((c.tc : Thread Cert.ReferenceAdamFIdeal.nD Cert.ReferenceAdamFIdeal.τ).loc Cert.ReferenceAdamFIdeal.main_arg1) = m ((c.tc : Thread Cert.ReferenceAdamFIdeal.nD Cert.ReferenceAdamFIdeal.τ).loc Cert.ReferenceAdamFIdeal.main_arg1)
      ∧ r.2.mem ((c.tc : Thread Cert.ReferenceAdamFIdeal.nD Cert.ReferenceAdamFIdeal.τ).loc Cert.ReferenceAdamFIdeal.main_arg2) = m ((c.tc : Thread Cert.ReferenceAdamFIdeal.nD Cert.ReferenceAdamFIdeal.τ).loc Cert.ReferenceAdamFIdeal.main_arg2)
      ∧ r.2.mem ((c.tc : Thread Cert.ReferenceAdamFIdeal.nD Cert.ReferenceAdamFIdeal.τ).loc Cert.ReferenceAdamFIdeal.main_arg3) = m ((c.tc : Thread Cert.ReferenceAdamFIdeal.nD Cert.ReferenceAdamFIdeal.τ).loc Cert.ReferenceAdamFIdeal.main_arg3))
      ∧ r.2.sem = fun _ => 0)

def quiescent_KernelAdamI [hKernelAdamI : Cert.KernelAdamI.Facts] : Prop :=
  ∀ (m : (ℓ : Loc Cert.KernelAdamI.nD Cert.KernelAdamI.τ Cert.KernelAdamI.sig) → Buf (Elt Bits) ℓ) (g : Dev Cert.KernelAdamI.nD → PrngReg), Pre_KernelAdamI m →
    θ_run (Cert.KernelAdamI.defs (F := Bits)) (onTc (τ := Cert.KernelAdamI.τ) (Cert.KernelAdamI.main (F := Bits))) ⟨m, fun _ => 0, g⟩ (fun r => (∀ c : Dev Cert.KernelAdamI.nD,
      r.2.mem ((c.tc : Thread Cert.KernelAdamI.nD Cert.KernelAdamI.τ).loc Cert.KernelAdamI.main_arg0) = m ((c.tc : Thread Cert.KernelAdamI.nD Cert.KernelAdamI.τ).loc Cert.KernelAdamI.main_arg0)
      ∧ r.2.mem ((c.tc : Thread Cert.KernelAdamI.nD Cert.KernelAdamI.τ).loc Cert.KernelAdamI.main_arg1) = m ((c.tc : Thread Cert.KernelAdamI.nD Cert.KernelAdamI.τ).loc Cert.KernelAdamI.main_arg1)
      ∧ r.2.mem ((c.tc : Thread Cert.KernelAdamI.nD Cert.KernelAdamI.τ).loc Cert.KernelAdamI.main_arg2) = m ((c.tc : Thread Cert.KernelAdamI.nD Cert.KernelAdamI.τ).loc Cert.KernelAdamI.main_arg2)
      ∧ r.2.mem ((c.tc : Thread Cert.KernelAdamI.nD Cert.KernelAdamI.τ).loc Cert.KernelAdamI.main_arg3) = m ((c.tc : Thread Cert.KernelAdamI.nD Cert.KernelAdamI.τ).loc Cert.KernelAdamI.main_arg3))
      ∧ r.2.sem = fun _ => 0)

def quiescent_KernelAdamIIdeal [hKernelAdamIIdeal : Cert.KernelAdamIIdeal.Facts] : Prop :=
  ∀ (m : (ℓ : Loc Cert.KernelAdamIIdeal.nD Cert.KernelAdamIIdeal.τ Cert.KernelAdamIIdeal.sig) → Buf (Elt Ideal) ℓ) (g : Dev Cert.KernelAdamIIdeal.nD → PrngReg), Pre_KernelAdamIIdeal m →
    θ_run (Cert.KernelAdamIIdeal.defs (F := Ideal)) (onTc (τ := Cert.KernelAdamIIdeal.τ) (Cert.KernelAdamIIdeal.main (F := Ideal))) ⟨m, fun _ => 0, g⟩ (fun r => (∀ c : Dev Cert.KernelAdamIIdeal.nD,
      r.2.mem ((c.tc : Thread Cert.KernelAdamIIdeal.nD Cert.KernelAdamIIdeal.τ).loc Cert.KernelAdamIIdeal.main_arg0) = m ((c.tc : Thread Cert.KernelAdamIIdeal.nD Cert.KernelAdamIIdeal.τ).loc Cert.KernelAdamIIdeal.main_arg0)
      ∧ r.2.mem ((c.tc : Thread Cert.KernelAdamIIdeal.nD Cert.KernelAdamIIdeal.τ).loc Cert.KernelAdamIIdeal.main_arg1) = m ((c.tc : Thread Cert.KernelAdamIIdeal.nD Cert.KernelAdamIIdeal.τ).loc Cert.KernelAdamIIdeal.main_arg1)
      ∧ r.2.mem ((c.tc : Thread Cert.KernelAdamIIdeal.nD Cert.KernelAdamIIdeal.τ).loc Cert.KernelAdamIIdeal.main_arg2) = m ((c.tc : Thread Cert.KernelAdamIIdeal.nD Cert.KernelAdamIIdeal.τ).loc Cert.KernelAdamIIdeal.main_arg2)
      ∧ r.2.mem ((c.tc : Thread Cert.KernelAdamIIdeal.nD Cert.KernelAdamIIdeal.τ).loc Cert.KernelAdamIIdeal.main_arg3) = m ((c.tc : Thread Cert.KernelAdamIIdeal.nD Cert.KernelAdamIIdeal.τ).loc Cert.KernelAdamIIdeal.main_arg3))
      ∧ r.2.sem = fun _ => 0)

def quiescent_ReferenceAdamIIdeal [hReferenceAdamIIdeal : Cert.ReferenceAdamIIdeal.Facts] : Prop :=
  ∀ (m : (ℓ : Loc Cert.ReferenceAdamIIdeal.nD Cert.ReferenceAdamIIdeal.τ Cert.ReferenceAdamIIdeal.sig) → Buf (Elt Ideal) ℓ) (g : Dev Cert.ReferenceAdamIIdeal.nD → PrngReg), Pre_ReferenceAdamIIdeal m →
    θ_run (Cert.ReferenceAdamIIdeal.defs (F := Ideal)) (onTc (τ := Cert.ReferenceAdamIIdeal.τ) (Cert.ReferenceAdamIIdeal.main (F := Ideal))) ⟨m, fun _ => 0, g⟩ (fun r => (∀ c : Dev Cert.ReferenceAdamIIdeal.nD,
      r.2.mem ((c.tc : Thread Cert.ReferenceAdamIIdeal.nD Cert.ReferenceAdamIIdeal.τ).loc Cert.ReferenceAdamIIdeal.main_arg0) = m ((c.tc : Thread Cert.ReferenceAdamIIdeal.nD Cert.ReferenceAdamIIdeal.τ).loc Cert.ReferenceAdamIIdeal.main_arg0)
      ∧ r.2.mem ((c.tc : Thread Cert.ReferenceAdamIIdeal.nD Cert.ReferenceAdamIIdeal.τ).loc Cert.ReferenceAdamIIdeal.main_arg1) = m ((c.tc : Thread Cert.ReferenceAdamIIdeal.nD Cert.ReferenceAdamIIdeal.τ).loc Cert.ReferenceAdamIIdeal.main_arg1)
      ∧ r.2.mem ((c.tc : Thread Cert.ReferenceAdamIIdeal.nD Cert.ReferenceAdamIIdeal.τ).loc Cert.ReferenceAdamIIdeal.main_arg2) = m ((c.tc : Thread Cert.ReferenceAdamIIdeal.nD Cert.ReferenceAdamIIdeal.τ).loc Cert.ReferenceAdamIIdeal.main_arg2)
      ∧ r.2.mem ((c.tc : Thread Cert.ReferenceAdamIIdeal.nD Cert.ReferenceAdamIIdeal.τ).loc Cert.ReferenceAdamIIdeal.main_arg3) = m ((c.tc : Thread Cert.ReferenceAdamIIdeal.nD Cert.ReferenceAdamIIdeal.τ).loc Cert.ReferenceAdamIIdeal.main_arg3))
      ∧ r.2.sem = fun _ => 0)

def quiescent_KernelAdamO [hKernelAdamO : Cert.KernelAdamO.Facts] : Prop :=
  ∀ (m : (ℓ : Loc Cert.KernelAdamO.nD Cert.KernelAdamO.τ Cert.KernelAdamO.sig) → Buf (Elt Bits) ℓ) (g : Dev Cert.KernelAdamO.nD → PrngReg), Pre_KernelAdamO m →
    θ_run (Cert.KernelAdamO.defs (F := Bits)) (onTc (τ := Cert.KernelAdamO.τ) (Cert.KernelAdamO.main (F := Bits))) ⟨m, fun _ => 0, g⟩ (fun r => (∀ c : Dev Cert.KernelAdamO.nD,
      r.2.mem ((c.tc : Thread Cert.KernelAdamO.nD Cert.KernelAdamO.τ).loc Cert.KernelAdamO.main_arg0) = m ((c.tc : Thread Cert.KernelAdamO.nD Cert.KernelAdamO.τ).loc Cert.KernelAdamO.main_arg0)
      ∧ r.2.mem ((c.tc : Thread Cert.KernelAdamO.nD Cert.KernelAdamO.τ).loc Cert.KernelAdamO.main_arg1) = m ((c.tc : Thread Cert.KernelAdamO.nD Cert.KernelAdamO.τ).loc Cert.KernelAdamO.main_arg1)
      ∧ r.2.mem ((c.tc : Thread Cert.KernelAdamO.nD Cert.KernelAdamO.τ).loc Cert.KernelAdamO.main_arg2) = m ((c.tc : Thread Cert.KernelAdamO.nD Cert.KernelAdamO.τ).loc Cert.KernelAdamO.main_arg2)
      ∧ r.2.mem ((c.tc : Thread Cert.KernelAdamO.nD Cert.KernelAdamO.τ).loc Cert.KernelAdamO.main_arg3) = m ((c.tc : Thread Cert.KernelAdamO.nD Cert.KernelAdamO.τ).loc Cert.KernelAdamO.main_arg3))
      ∧ r.2.sem = fun _ => 0)

def quiescent_KernelAdamOIdeal [hKernelAdamOIdeal : Cert.KernelAdamOIdeal.Facts] : Prop :=
  ∀ (m : (ℓ : Loc Cert.KernelAdamOIdeal.nD Cert.KernelAdamOIdeal.τ Cert.KernelAdamOIdeal.sig) → Buf (Elt Ideal) ℓ) (g : Dev Cert.KernelAdamOIdeal.nD → PrngReg), Pre_KernelAdamOIdeal m →
    θ_run (Cert.KernelAdamOIdeal.defs (F := Ideal)) (onTc (τ := Cert.KernelAdamOIdeal.τ) (Cert.KernelAdamOIdeal.main (F := Ideal))) ⟨m, fun _ => 0, g⟩ (fun r => (∀ c : Dev Cert.KernelAdamOIdeal.nD,
      r.2.mem ((c.tc : Thread Cert.KernelAdamOIdeal.nD Cert.KernelAdamOIdeal.τ).loc Cert.KernelAdamOIdeal.main_arg0) = m ((c.tc : Thread Cert.KernelAdamOIdeal.nD Cert.KernelAdamOIdeal.τ).loc Cert.KernelAdamOIdeal.main_arg0)
      ∧ r.2.mem ((c.tc : Thread Cert.KernelAdamOIdeal.nD Cert.KernelAdamOIdeal.τ).loc Cert.KernelAdamOIdeal.main_arg1) = m ((c.tc : Thread Cert.KernelAdamOIdeal.nD Cert.KernelAdamOIdeal.τ).loc Cert.KernelAdamOIdeal.main_arg1)
      ∧ r.2.mem ((c.tc : Thread Cert.KernelAdamOIdeal.nD Cert.KernelAdamOIdeal.τ).loc Cert.KernelAdamOIdeal.main_arg2) = m ((c.tc : Thread Cert.KernelAdamOIdeal.nD Cert.KernelAdamOIdeal.τ).loc Cert.KernelAdamOIdeal.main_arg2)
      ∧ r.2.mem ((c.tc : Thread Cert.KernelAdamOIdeal.nD Cert.KernelAdamOIdeal.τ).loc Cert.KernelAdamOIdeal.main_arg3) = m ((c.tc : Thread Cert.KernelAdamOIdeal.nD Cert.KernelAdamOIdeal.τ).loc Cert.KernelAdamOIdeal.main_arg3))
      ∧ r.2.sem = fun _ => 0)

def quiescent_ReferenceAdamOIdeal [hReferenceAdamOIdeal : Cert.ReferenceAdamOIdeal.Facts] : Prop :=
  ∀ (m : (ℓ : Loc Cert.ReferenceAdamOIdeal.nD Cert.ReferenceAdamOIdeal.τ Cert.ReferenceAdamOIdeal.sig) → Buf (Elt Ideal) ℓ) (g : Dev Cert.ReferenceAdamOIdeal.nD → PrngReg), Pre_ReferenceAdamOIdeal m →
    θ_run (Cert.ReferenceAdamOIdeal.defs (F := Ideal)) (onTc (τ := Cert.ReferenceAdamOIdeal.τ) (Cert.ReferenceAdamOIdeal.main (F := Ideal))) ⟨m, fun _ => 0, g⟩ (fun r => (∀ c : Dev Cert.ReferenceAdamOIdeal.nD,
      r.2.mem ((c.tc : Thread Cert.ReferenceAdamOIdeal.nD Cert.ReferenceAdamOIdeal.τ).loc Cert.ReferenceAdamOIdeal.main_arg0) = m ((c.tc : Thread Cert.ReferenceAdamOIdeal.nD Cert.ReferenceAdamOIdeal.τ).loc Cert.ReferenceAdamOIdeal.main_arg0)
      ∧ r.2.mem ((c.tc : Thread Cert.ReferenceAdamOIdeal.nD Cert.ReferenceAdamOIdeal.τ).loc Cert.ReferenceAdamOIdeal.main_arg1) = m ((c.tc : Thread Cert.ReferenceAdamOIdeal.nD Cert.ReferenceAdamOIdeal.τ).loc Cert.ReferenceAdamOIdeal.main_arg1)
      ∧ r.2.mem ((c.tc : Thread Cert.ReferenceAdamOIdeal.nD Cert.ReferenceAdamOIdeal.τ).loc Cert.ReferenceAdamOIdeal.main_arg2) = m ((c.tc : Thread Cert.ReferenceAdamOIdeal.nD Cert.ReferenceAdamOIdeal.τ).loc Cert.ReferenceAdamOIdeal.main_arg2)
      ∧ r.2.mem ((c.tc : Thread Cert.ReferenceAdamOIdeal.nD Cert.ReferenceAdamOIdeal.τ).loc Cert.ReferenceAdamOIdeal.main_arg3) = m ((c.tc : Thread Cert.ReferenceAdamOIdeal.nD Cert.ReferenceAdamOIdeal.τ).loc Cert.ReferenceAdamOIdeal.main_arg3))
      ∧ r.2.sem = fun _ => 0)

def quiescent_KernelAdamB [hKernelAdamB : Cert.KernelAdamB.Facts] : Prop :=
  ∀ (m : (ℓ : Loc Cert.KernelAdamB.nD Cert.KernelAdamB.τ Cert.KernelAdamB.sig) → Buf (Elt Bits) ℓ) (g : Dev Cert.KernelAdamB.nD → PrngReg), Pre_KernelAdamB m →
    θ_run (Cert.KernelAdamB.defs (F := Bits)) (onTc (τ := Cert.KernelAdamB.τ) (Cert.KernelAdamB.main (F := Bits))) ⟨m, fun _ => 0, g⟩ (fun r => (∀ c : Dev Cert.KernelAdamB.nD,
      r.2.mem ((c.tc : Thread Cert.KernelAdamB.nD Cert.KernelAdamB.τ).loc Cert.KernelAdamB.main_arg0) = m ((c.tc : Thread Cert.KernelAdamB.nD Cert.KernelAdamB.τ).loc Cert.KernelAdamB.main_arg0)
      ∧ r.2.mem ((c.tc : Thread Cert.KernelAdamB.nD Cert.KernelAdamB.τ).loc Cert.KernelAdamB.main_arg1) = m ((c.tc : Thread Cert.KernelAdamB.nD Cert.KernelAdamB.τ).loc Cert.KernelAdamB.main_arg1)
      ∧ r.2.mem ((c.tc : Thread Cert.KernelAdamB.nD Cert.KernelAdamB.τ).loc Cert.KernelAdamB.main_arg2) = m ((c.tc : Thread Cert.KernelAdamB.nD Cert.KernelAdamB.τ).loc Cert.KernelAdamB.main_arg2)
      ∧ r.2.mem ((c.tc : Thread Cert.KernelAdamB.nD Cert.KernelAdamB.τ).loc Cert.KernelAdamB.main_arg3) = m ((c.tc : Thread Cert.KernelAdamB.nD Cert.KernelAdamB.τ).loc Cert.KernelAdamB.main_arg3))
      ∧ r.2.sem = fun _ => 0)

def quiescent_KernelAdamBIdeal [hKernelAdamBIdeal : Cert.KernelAdamBIdeal.Facts] : Prop :=
  ∀ (m : (ℓ : Loc Cert.KernelAdamBIdeal.nD Cert.KernelAdamBIdeal.τ Cert.KernelAdamBIdeal.sig) → Buf (Elt Ideal) ℓ) (g : Dev Cert.KernelAdamBIdeal.nD → PrngReg), Pre_KernelAdamBIdeal m →
    θ_run (Cert.KernelAdamBIdeal.defs (F := Ideal)) (onTc (τ := Cert.KernelAdamBIdeal.τ) (Cert.KernelAdamBIdeal.main (F := Ideal))) ⟨m, fun _ => 0, g⟩ (fun r => (∀ c : Dev Cert.KernelAdamBIdeal.nD,
      r.2.mem ((c.tc : Thread Cert.KernelAdamBIdeal.nD Cert.KernelAdamBIdeal.τ).loc Cert.KernelAdamBIdeal.main_arg0) = m ((c.tc : Thread Cert.KernelAdamBIdeal.nD Cert.KernelAdamBIdeal.τ).loc Cert.KernelAdamBIdeal.main_arg0)
      ∧ r.2.mem ((c.tc : Thread Cert.KernelAdamBIdeal.nD Cert.KernelAdamBIdeal.τ).loc Cert.KernelAdamBIdeal.main_arg1) = m ((c.tc : Thread Cert.KernelAdamBIdeal.nD Cert.KernelAdamBIdeal.τ).loc Cert.KernelAdamBIdeal.main_arg1)
      ∧ r.2.mem ((c.tc : Thread Cert.KernelAdamBIdeal.nD Cert.KernelAdamBIdeal.τ).loc Cert.KernelAdamBIdeal.main_arg2) = m ((c.tc : Thread Cert.KernelAdamBIdeal.nD Cert.KernelAdamBIdeal.τ).loc Cert.KernelAdamBIdeal.main_arg2)
      ∧ r.2.mem ((c.tc : Thread Cert.KernelAdamBIdeal.nD Cert.KernelAdamBIdeal.τ).loc Cert.KernelAdamBIdeal.main_arg3) = m ((c.tc : Thread Cert.KernelAdamBIdeal.nD Cert.KernelAdamBIdeal.τ).loc Cert.KernelAdamBIdeal.main_arg3))
      ∧ r.2.sem = fun _ => 0)

def quiescent_ReferenceAdamBIdeal [hReferenceAdamBIdeal : Cert.ReferenceAdamBIdeal.Facts] : Prop :=
  ∀ (m : (ℓ : Loc Cert.ReferenceAdamBIdeal.nD Cert.ReferenceAdamBIdeal.τ Cert.ReferenceAdamBIdeal.sig) → Buf (Elt Ideal) ℓ) (g : Dev Cert.ReferenceAdamBIdeal.nD → PrngReg), Pre_ReferenceAdamBIdeal m →
    θ_run (Cert.ReferenceAdamBIdeal.defs (F := Ideal)) (onTc (τ := Cert.ReferenceAdamBIdeal.τ) (Cert.ReferenceAdamBIdeal.main (F := Ideal))) ⟨m, fun _ => 0, g⟩ (fun r => (∀ c : Dev Cert.ReferenceAdamBIdeal.nD,
      r.2.mem ((c.tc : Thread Cert.ReferenceAdamBIdeal.nD Cert.ReferenceAdamBIdeal.τ).loc Cert.ReferenceAdamBIdeal.main_arg0) = m ((c.tc : Thread Cert.ReferenceAdamBIdeal.nD Cert.ReferenceAdamBIdeal.τ).loc Cert.ReferenceAdamBIdeal.main_arg0)
      ∧ r.2.mem ((c.tc : Thread Cert.ReferenceAdamBIdeal.nD Cert.ReferenceAdamBIdeal.τ).loc Cert.ReferenceAdamBIdeal.main_arg1) = m ((c.tc : Thread Cert.ReferenceAdamBIdeal.nD Cert.ReferenceAdamBIdeal.τ).loc Cert.ReferenceAdamBIdeal.main_arg1)
      ∧ r.2.mem ((c.tc : Thread Cert.ReferenceAdamBIdeal.nD Cert.ReferenceAdamBIdeal.τ).loc Cert.ReferenceAdamBIdeal.main_arg2) = m ((c.tc : Thread Cert.ReferenceAdamBIdeal.nD Cert.ReferenceAdamBIdeal.τ).loc Cert.ReferenceAdamBIdeal.main_arg2)
      ∧ r.2.mem ((c.tc : Thread Cert.ReferenceAdamBIdeal.nD Cert.ReferenceAdamBIdeal.τ).loc Cert.ReferenceAdamBIdeal.main_arg3) = m ((c.tc : Thread Cert.ReferenceAdamBIdeal.nD Cert.ReferenceAdamBIdeal.τ).loc Cert.ReferenceAdamBIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52_0)) (v1 : (c : Dev Cert.KernelIdeal.nD) → Buf (Elt Ideal) ((c.tc : Thread Cert.KernelIdeal.nD Cert.KernelIdeal.τ).loc Cert.KernelIdeal.main_v52_1)) (v2 : (c : Dev Cert.KernelIdeal.nD) → Buf (Elt Ideal) ((c.tc : Thread Cert.KernelIdeal.nD Cert.KernelIdeal.τ).loc Cert.KernelIdeal.main_v52_2)) (v3 : (c : Dev Cert.KernelIdeal.nD) → Buf (Elt Ideal) ((c.tc : Thread Cert.KernelIdeal.nD Cert.KernelIdeal.τ).loc Cert.KernelIdeal.main_v52_3)) (v4 : (c : Dev Cert.KernelIdeal.nD) → Buf (Elt Ideal) ((c.tc : Thread Cert.KernelIdeal.nD Cert.KernelIdeal.τ).loc Cert.KernelIdeal.main_v52_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52_0) = v0 c
          ∧ r.2.mem ((c.tc : Thread Cert.KernelIdeal.nD Cert.KernelIdeal.τ).loc Cert.KernelIdeal.main_v52_1) = v1 c
          ∧ r.2.mem ((c.tc : Thread Cert.KernelIdeal.nD Cert.KernelIdeal.τ).loc Cert.KernelIdeal.main_v52_2) = v2 c
          ∧ r.2.mem ((c.tc : Thread Cert.KernelIdeal.nD Cert.KernelIdeal.τ).loc Cert.KernelIdeal.main_v52_3) = v3 c
          ∧ r.2.mem ((c.tc : Thread Cert.KernelIdeal.nD Cert.KernelIdeal.τ).loc Cert.KernelIdeal.main_v52_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v92) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v0_0)) (v1 : (c : Dev Cert.KernelUpIdeal.nD) → Buf (Elt Ideal) ((c.tc : Thread Cert.KernelUpIdeal.nD Cert.KernelUpIdeal.τ).loc Cert.KernelUpIdeal.main_v0_1)) (v2 : (c : Dev Cert.KernelUpIdeal.nD) → Buf (Elt Ideal) ((c.tc : Thread Cert.KernelUpIdeal.nD Cert.KernelUpIdeal.τ).loc Cert.KernelUpIdeal.main_v0_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0_0) = v0 c
          ∧ r.2.mem ((c.tc : Thread Cert.KernelUpIdeal.nD Cert.KernelUpIdeal.τ).loc Cert.KernelUpIdeal.main_v0_1) = v1 c
          ∧ r.2.mem ((c.tc : Thread Cert.KernelUpIdeal.nD Cert.KernelUpIdeal.τ).loc Cert.KernelUpIdeal.main_v0_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v7) = v0 c
          ∧ r.2.mem ((c.tc : Thread Cert.ReferenceUpIdeal.nD Cert.ReferenceUpIdeal.τ).loc Cert.ReferenceUpIdeal.main_v8) = v1 c
          ∧ r.2.mem ((c.tc : Thread Cert.ReferenceUpIdeal.nD Cert.ReferenceUpIdeal.τ).loc Cert.ReferenceUpIdeal.main_v9) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelAct_KernelActIdeal : Prop :=
  True

def algebraic_KernelActIdeal_ReferenceActIdeal_pre_finite_act [hKernelActIdeal : Cert.KernelActIdeal.Facts] [hReferenceActIdeal : Cert.ReferenceActIdeal.Facts] [hPre_finite_act : Cert.Pre_finite_act.Facts] : Prop :=
  ∀ (m : (ℓ : Loc Cert.KernelActIdeal.nD Cert.KernelActIdeal.τ Cert.KernelActIdeal.sig) → Buf (Elt Ideal) ℓ) (g : Dev Cert.KernelActIdeal.nD → PrngReg)
    (m' : (ℓ : Loc Cert.ReferenceActIdeal.nD Cert.ReferenceActIdeal.τ Cert.ReferenceActIdeal.sig) → Buf (Elt Ideal) ℓ) (g' : Dev Cert.ReferenceActIdeal.nD → PrngReg), Pre_KernelActIdeal_finite_act m →
    (∀ c : Dev Cert.KernelActIdeal.nD,
      m' ((c.tc : Thread Cert.ReferenceActIdeal.nD Cert.ReferenceActIdeal.τ).loc Cert.ReferenceActIdeal.main_arg0) = m ((c.tc : Thread Cert.KernelActIdeal.nD Cert.KernelActIdeal.τ).loc Cert.KernelActIdeal.main_arg0)
      ∧ m' ((c.tc : Thread Cert.ReferenceActIdeal.nD Cert.ReferenceActIdeal.τ).loc Cert.ReferenceActIdeal.main_arg1) = m ((c.tc : Thread Cert.KernelActIdeal.nD Cert.KernelActIdeal.τ).loc Cert.KernelActIdeal.main_arg1)
      ∧ m' ((c.tc : Thread Cert.ReferenceActIdeal.nD Cert.ReferenceActIdeal.τ).loc Cert.ReferenceActIdeal.main_arg2) = m ((c.tc : Thread Cert.KernelActIdeal.nD Cert.KernelActIdeal.τ).loc Cert.KernelActIdeal.main_arg2)
      ∧ m' ((c.tc : Thread Cert.ReferenceActIdeal.nD Cert.ReferenceActIdeal.τ).loc Cert.ReferenceActIdeal.main_arg3) = m ((c.tc : Thread Cert.KernelActIdeal.nD Cert.KernelActIdeal.τ).loc Cert.KernelActIdeal.main_arg3)) →
    ∃ (v0 : (c : Dev Cert.KernelActIdeal.nD) → Buf (Elt Ideal) ((c.tc : Thread Cert.KernelActIdeal.nD Cert.KernelActIdeal.τ).loc Cert.KernelActIdeal.main_v0_0)) (v1 : (c : Dev Cert.KernelActIdeal.nD) → Buf (Elt Ideal) ((c.tc : Thread Cert.KernelActIdeal.nD Cert.KernelActIdeal.τ).loc Cert.KernelActIdeal.main_v0_1)),
      θ_run (Cert.KernelActIdeal.defs (F := Ideal)) (onTc (τ := Cert.KernelActIdeal.τ) (Cert.KernelActIdeal.main (F := Ideal))) ⟨m, fun _ => 0, g⟩ (fun r => ∀ c : Dev Cert.KernelActIdeal.nD,
          r.2.mem ((c.tc : Thread Cert.KernelActIdeal.nD Cert.KernelActIdeal.τ).loc Cert.KernelActIdeal.main_v0_0) = v0 c
          ∧ r.2.mem ((c.tc : Thread Cert.KernelActIdeal.nD Cert.KernelActIdeal.τ).loc Cert.KernelActIdeal.main_v0_1) = v1 c
          ∧ r.2.mem ((c.tc : Thread Cert.KernelActIdeal.nD Cert.KernelActIdeal.τ).loc Cert.KernelActIdeal.main_arg0) = m ((c.tc : Thread Cert.KernelActIdeal.nD Cert.KernelActIdeal.τ).loc Cert.KernelActIdeal.main_arg0)
          ∧ r.2.mem ((c.tc : Thread Cert.KernelActIdeal.nD Cert.KernelActIdeal.τ).loc Cert.KernelActIdeal.main_arg1) = m ((c.tc : Thread Cert.KernelActIdeal.nD Cert.KernelActIdeal.τ).loc Cert.KernelActIdeal.main_arg1)
          ∧ r.2.mem ((c.tc : Thread Cert.KernelActIdeal.nD Cert.KernelActIdeal.τ).loc Cert.KernelActIdeal.main_arg2) = m ((c.tc : Thread Cert.KernelActIdeal.nD Cert.KernelActIdeal.τ).loc Cert.KernelActIdeal.main_arg2)
          ∧ r.2.mem ((c.tc : Thread Cert.KernelActIdeal.nD Cert.KernelActIdeal.τ).loc Cert.KernelActIdeal.main_arg3) = m ((c.tc : Thread Cert.KernelActIdeal.nD Cert.KernelActIdeal.τ).loc Cert.KernelActIdeal.main_arg3))
      ∧ θ_run (Cert.ReferenceActIdeal.defs (F := Ideal)) (onTc (τ := Cert.ReferenceActIdeal.τ) (Cert.ReferenceActIdeal.main (F := Ideal))) ⟨m', fun _ => 0, g'⟩ (fun r => ∀ c : Dev Cert.ReferenceActIdeal.nD,
          r.2.mem ((c.tc : Thread Cert.ReferenceActIdeal.nD Cert.ReferenceActIdeal.τ).loc Cert.ReferenceActIdeal.main_v11) = v0 c
          ∧ r.2.mem ((c.tc : Thread Cert.ReferenceActIdeal.nD Cert.ReferenceActIdeal.τ).loc Cert.ReferenceActIdeal.main_v12) = v1 c
          ∧ r.2.mem ((c.tc : Thread Cert.ReferenceActIdeal.nD Cert.ReferenceActIdeal.τ).loc Cert.ReferenceActIdeal.main_arg0) = m' ((c.tc : Thread Cert.ReferenceActIdeal.nD Cert.ReferenceActIdeal.τ).loc Cert.ReferenceActIdeal.main_arg0)
          ∧ r.2.mem ((c.tc : Thread Cert.ReferenceActIdeal.nD Cert.ReferenceActIdeal.τ).loc Cert.ReferenceActIdeal.main_arg1) = m' ((c.tc : Thread Cert.ReferenceActIdeal.nD Cert.ReferenceActIdeal.τ).loc Cert.ReferenceActIdeal.main_arg1)
          ∧ r.2.mem ((c.tc : Thread Cert.ReferenceActIdeal.nD Cert.ReferenceActIdeal.τ).loc Cert.ReferenceActIdeal.main_arg2) = m' ((c.tc : Thread Cert.ReferenceActIdeal.nD Cert.ReferenceActIdeal.τ).loc Cert.ReferenceActIdeal.main_arg2)
          ∧ r.2.mem ((c.tc : Thread Cert.ReferenceActIdeal.nD Cert.ReferenceActIdeal.τ).loc Cert.ReferenceActIdeal.main_arg3) = m' ((c.tc : Thread Cert.ReferenceActIdeal.nD Cert.ReferenceActIdeal.τ).loc Cert.ReferenceActIdeal.main_arg3))

def preserves_KernelDownW_KernelDownWIdeal : Prop :=
  True

def algebraic_KernelDownWIdeal_ReferenceDownWIdeal [hKernelDownWIdeal : Cert.KernelDownWIdeal.Facts] [hReferenceDownWIdeal : Cert.ReferenceDownWIdeal.Facts] : Prop :=
  ∀ (m : (ℓ : Loc Cert.KernelDownWIdeal.nD Cert.KernelDownWIdeal.τ Cert.KernelDownWIdeal.sig) → Buf (Elt Ideal) ℓ) (g : Dev Cert.KernelDownWIdeal.nD → PrngReg)
    (m' : (ℓ : Loc Cert.ReferenceDownWIdeal.nD Cert.ReferenceDownWIdeal.τ Cert.ReferenceDownWIdeal.sig) → Buf (Elt Ideal) ℓ) (g' : Dev Cert.ReferenceDownWIdeal.nD → PrngReg), Pre_KernelDownWIdeal m →
    (∀ c : Dev Cert.KernelDownWIdeal.nD,
      m' ((c.tc : Thread Cert.ReferenceDownWIdeal.nD Cert.ReferenceDownWIdeal.τ).loc Cert.ReferenceDownWIdeal.main_arg0) = m ((c.tc : Thread Cert.KernelDownWIdeal.nD Cert.KernelDownWIdeal.τ).loc Cert.KernelDownWIdeal.main_arg0)
      ∧ m' ((c.tc : Thread Cert.ReferenceDownWIdeal.nD Cert.ReferenceDownWIdeal.τ).loc Cert.ReferenceDownWIdeal.main_arg1) = m ((c.tc : Thread Cert.KernelDownWIdeal.nD Cert.KernelDownWIdeal.τ).loc Cert.KernelDownWIdeal.main_arg1)) →
    ∃ (v0 : (c : Dev Cert.KernelDownWIdeal.nD) → Buf (Elt Ideal) ((c.tc : Thread Cert.KernelDownWIdeal.nD Cert.KernelDownWIdeal.τ).loc Cert.KernelDownWIdeal.main_v0)),
      θ_run (Cert.KernelDownWIdeal.defs (F := Ideal)) (onTc (τ := Cert.KernelDownWIdeal.τ) (Cert.KernelDownWIdeal.main (F := Ideal))) ⟨m, fun _ => 0, g⟩ (fun r => ∀ c : Dev Cert.KernelDownWIdeal.nD,
          r.2.mem ((c.tc : Thread Cert.KernelDownWIdeal.nD Cert.KernelDownWIdeal.τ).loc Cert.KernelDownWIdeal.main_v0) = v0 c
          ∧ r.2.mem ((c.tc : Thread Cert.KernelDownWIdeal.nD Cert.KernelDownWIdeal.τ).loc Cert.KernelDownWIdeal.main_arg0) = m ((c.tc : Thread Cert.KernelDownWIdeal.nD Cert.KernelDownWIdeal.τ).loc Cert.KernelDownWIdeal.main_arg0)
          ∧ r.2.mem ((c.tc : Thread Cert.KernelDownWIdeal.nD Cert.KernelDownWIdeal.τ).loc Cert.KernelDownWIdeal.main_arg1) = m ((c.tc : Thread Cert.KernelDownWIdeal.nD Cert.KernelDownWIdeal.τ).loc Cert.KernelDownWIdeal.main_arg1))
      ∧ θ_run (Cert.ReferenceDownWIdeal.defs (F := Ideal)) (onTc (τ := Cert.ReferenceDownWIdeal.τ) (Cert.ReferenceDownWIdeal.main (F := Ideal))) ⟨m', fun _ => 0, g'⟩ (fun r => ∀ c : Dev Cert.ReferenceDownWIdeal.nD,
          r.2.mem ((c.tc : Thread Cert.ReferenceDownWIdeal.nD Cert.ReferenceDownWIdeal.τ).loc Cert.ReferenceDownWIdeal.main_v6) = v0 c
          ∧ r.2.mem ((c.tc : Thread Cert.ReferenceDownWIdeal.nD Cert.ReferenceDownWIdeal.τ).loc Cert.ReferenceDownWIdeal.main_arg0) = m' ((c.tc : Thread Cert.ReferenceDownWIdeal.nD Cert.ReferenceDownWIdeal.τ).loc Cert.ReferenceDownWIdeal.main_arg0)
          ∧ r.2.mem ((c.tc : Thread Cert.ReferenceDownWIdeal.nD Cert.ReferenceDownWIdeal.τ).loc Cert.ReferenceDownWIdeal.main_arg1) = m' ((c.tc : Thread Cert.ReferenceDownWIdeal.nD Cert.ReferenceDownWIdeal.τ).loc Cert.ReferenceDownWIdeal.main_arg1))

def preserves_KernelUpW_KernelUpWIdeal : Prop :=
  True

def algebraic_KernelUpWIdeal_ReferenceUpWIdeal [hKernelUpWIdeal : Cert.KernelUpWIdeal.Facts] [hReferenceUpWIdeal : Cert.ReferenceUpWIdeal.Facts] : Prop :=
  ∀ (m : (ℓ : Loc Cert.KernelUpWIdeal.nD Cert.KernelUpWIdeal.τ Cert.KernelUpWIdeal.sig) → Buf (Elt Ideal) ℓ) (g : Dev Cert.KernelUpWIdeal.nD → PrngReg)
    (m' : (ℓ : Loc Cert.ReferenceUpWIdeal.nD Cert.ReferenceUpWIdeal.τ Cert.ReferenceUpWIdeal.sig) → Buf (Elt Ideal) ℓ) (g' : Dev Cert.ReferenceUpWIdeal.nD → PrngReg), Pre_KernelUpWIdeal m →
    (∀ c : Dev Cert.KernelUpWIdeal.nD,
      m' ((c.tc : Thread Cert.ReferenceUpWIdeal.nD Cert.ReferenceUpWIdeal.τ).loc Cert.ReferenceUpWIdeal.main_arg0) = m ((c.tc : Thread Cert.KernelUpWIdeal.nD Cert.KernelUpWIdeal.τ).loc Cert.KernelUpWIdeal.main_arg0)
      ∧ m' ((c.tc : Thread Cert.ReferenceUpWIdeal.nD Cert.ReferenceUpWIdeal.τ).loc Cert.ReferenceUpWIdeal.main_arg1) = m ((c.tc : Thread Cert.KernelUpWIdeal.nD Cert.KernelUpWIdeal.τ).loc Cert.KernelUpWIdeal.main_arg1)) →
    ∃ (v0 : (c : Dev Cert.KernelUpWIdeal.nD) → Buf (Elt Ideal) ((c.tc : Thread Cert.KernelUpWIdeal.nD Cert.KernelUpWIdeal.τ).loc Cert.KernelUpWIdeal.main_v0)),
      θ_run (Cert.KernelUpWIdeal.defs (F := Ideal)) (onTc (τ := Cert.KernelUpWIdeal.τ) (Cert.KernelUpWIdeal.main (F := Ideal))) ⟨m, fun _ => 0, g⟩ (fun r => ∀ c : Dev Cert.KernelUpWIdeal.nD,
          r.2.mem ((c.tc : Thread Cert.KernelUpWIdeal.nD Cert.KernelUpWIdeal.τ).loc Cert.KernelUpWIdeal.main_v0) = v0 c
          ∧ r.2.mem ((c.tc : Thread Cert.KernelUpWIdeal.nD Cert.KernelUpWIdeal.τ).loc Cert.KernelUpWIdeal.main_arg0) = m ((c.tc : Thread Cert.KernelUpWIdeal.nD Cert.KernelUpWIdeal.τ).loc Cert.KernelUpWIdeal.main_arg0)
          ∧ r.2.mem ((c.tc : Thread Cert.KernelUpWIdeal.nD Cert.KernelUpWIdeal.τ).loc Cert.KernelUpWIdeal.main_arg1) = m ((c.tc : Thread Cert.KernelUpWIdeal.nD Cert.KernelUpWIdeal.τ).loc Cert.KernelUpWIdeal.main_arg1))
      ∧ θ_run (Cert.ReferenceUpWIdeal.defs (F := Ideal)) (onTc (τ := Cert.ReferenceUpWIdeal.τ) (Cert.ReferenceUpWIdeal.main (F := Ideal))) ⟨m', fun _ => 0, g'⟩ (fun r => ∀ c : Dev Cert.ReferenceUpWIdeal.nD,
          r.2.mem ((c.tc : Thread Cert.ReferenceUpWIdeal.nD Cert.ReferenceUpWIdeal.τ).loc Cert.ReferenceUpWIdeal.main_v5) = v0 c
          ∧ r.2.mem ((c.tc : Thread Cert.ReferenceUpWIdeal.nD Cert.ReferenceUpWIdeal.τ).loc Cert.ReferenceUpWIdeal.main_arg0) = m' ((c.tc : Thread Cert.ReferenceUpWIdeal.nD Cert.ReferenceUpWIdeal.τ).loc Cert.ReferenceUpWIdeal.main_arg0)
          ∧ r.2.mem ((c.tc : Thread Cert.ReferenceUpWIdeal.nD Cert.ReferenceUpWIdeal.τ).loc Cert.ReferenceUpWIdeal.main_arg1) = m' ((c.tc : Thread Cert.ReferenceUpWIdeal.nD Cert.ReferenceUpWIdeal.τ).loc Cert.ReferenceUpWIdeal.main_arg1))

def preserves_KernelUpX_KernelUpXIdeal : Prop :=
  True

def algebraic_KernelUpXIdeal_ReferenceUpXIdeal [hKernelUpXIdeal : Cert.KernelUpXIdeal.Facts] [hReferenceUpXIdeal : Cert.ReferenceUpXIdeal.Facts] : Prop :=
  ∀ (m : (ℓ : Loc Cert.KernelUpXIdeal.nD Cert.KernelUpXIdeal.τ Cert.KernelUpXIdeal.sig) → Buf (Elt Ideal) ℓ) (g : Dev Cert.KernelUpXIdeal.nD → PrngReg)
    (m' : (ℓ : Loc Cert.ReferenceUpXIdeal.nD Cert.ReferenceUpXIdeal.τ Cert.ReferenceUpXIdeal.sig) → Buf (Elt Ideal) ℓ) (g' : Dev Cert.ReferenceUpXIdeal.nD → PrngReg), Pre_KernelUpXIdeal m →
    (∀ c : Dev Cert.KernelUpXIdeal.nD,
      m' ((c.tc : Thread Cert.ReferenceUpXIdeal.nD Cert.ReferenceUpXIdeal.τ).loc Cert.ReferenceUpXIdeal.main_arg0) = m ((c.tc : Thread Cert.KernelUpXIdeal.nD Cert.KernelUpXIdeal.τ).loc Cert.KernelUpXIdeal.main_arg0)
      ∧ m' ((c.tc : Thread Cert.ReferenceUpXIdeal.nD Cert.ReferenceUpXIdeal.τ).loc Cert.ReferenceUpXIdeal.main_arg1) = m ((c.tc : Thread Cert.KernelUpXIdeal.nD Cert.KernelUpXIdeal.τ).loc Cert.KernelUpXIdeal.main_arg1)
      ∧ m' ((c.tc : Thread Cert.ReferenceUpXIdeal.nD Cert.ReferenceUpXIdeal.τ).loc Cert.ReferenceUpXIdeal.main_arg2) = m ((c.tc : Thread Cert.KernelUpXIdeal.nD Cert.KernelUpXIdeal.τ).loc Cert.KernelUpXIdeal.main_arg2)
      ∧ m' ((c.tc : Thread Cert.ReferenceUpXIdeal.nD Cert.ReferenceUpXIdeal.τ).loc Cert.ReferenceUpXIdeal.main_arg3) = m ((c.tc : Thread Cert.KernelUpXIdeal.nD Cert.KernelUpXIdeal.τ).loc Cert.KernelUpXIdeal.main_arg3)) →
    ∃ (v0 : (c : Dev Cert.KernelUpXIdeal.nD) → Buf (Elt Ideal) ((c.tc : Thread Cert.KernelUpXIdeal.nD Cert.KernelUpXIdeal.τ).loc Cert.KernelUpXIdeal.main_v0)),
      θ_run (Cert.KernelUpXIdeal.defs (F := Ideal)) (onTc (τ := Cert.KernelUpXIdeal.τ) (Cert.KernelUpXIdeal.main (F := Ideal))) ⟨m, fun _ => 0, g⟩ (fun r => ∀ c : Dev Cert.KernelUpXIdeal.nD,
          r.2.mem ((c.tc : Thread Cert.KernelUpXIdeal.nD Cert.KernelUpXIdeal.τ).loc Cert.KernelUpXIdeal.main_v0) = v0 c
          ∧ r.2.mem ((c.tc : Thread Cert.KernelUpXIdeal.nD Cert.KernelUpXIdeal.τ).loc Cert.KernelUpXIdeal.main_arg0) = m ((c.tc : Thread Cert.KernelUpXIdeal.nD Cert.KernelUpXIdeal.τ).loc Cert.KernelUpXIdeal.main_arg0)
          ∧ r.2.mem ((c.tc : Thread Cert.KernelUpXIdeal.nD Cert.KernelUpXIdeal.τ).loc Cert.KernelUpXIdeal.main_arg1) = m ((c.tc : Thread Cert.KernelUpXIdeal.nD Cert.KernelUpXIdeal.τ).loc Cert.KernelUpXIdeal.main_arg1)
          ∧ r.2.mem ((c.tc : Thread Cert.KernelUpXIdeal.nD Cert.KernelUpXIdeal.τ).loc Cert.KernelUpXIdeal.main_arg2) = m ((c.tc : Thread Cert.KernelUpXIdeal.nD Cert.KernelUpXIdeal.τ).loc Cert.KernelUpXIdeal.main_arg2)
          ∧ r.2.mem ((c.tc : Thread Cert.KernelUpXIdeal.nD Cert.KernelUpXIdeal.τ).loc Cert.KernelUpXIdeal.main_arg3) = m ((c.tc : Thread Cert.KernelUpXIdeal.nD Cert.KernelUpXIdeal.τ).loc Cert.KernelUpXIdeal.main_arg3))
      ∧ θ_run (Cert.ReferenceUpXIdeal.defs (F := Ideal)) (onTc (τ := Cert.ReferenceUpXIdeal.τ) (Cert.ReferenceUpXIdeal.main (F := Ideal))) ⟨m', fun _ => 0, g'⟩ (fun r => ∀ c : Dev Cert.ReferenceUpXIdeal.nD,
          r.2.mem ((c.tc : Thread Cert.ReferenceUpXIdeal.nD Cert.ReferenceUpXIdeal.τ).loc Cert.ReferenceUpXIdeal.main_v9) = v0 c
          ∧ r.2.mem ((c.tc : Thread Cert.ReferenceUpXIdeal.nD Cert.ReferenceUpXIdeal.τ).loc Cert.ReferenceUpXIdeal.main_arg0) = m' ((c.tc : Thread Cert.ReferenceUpXIdeal.nD Cert.ReferenceUpXIdeal.τ).loc Cert.ReferenceUpXIdeal.main_arg0)
          ∧ r.2.mem ((c.tc : Thread Cert.ReferenceUpXIdeal.nD Cert.ReferenceUpXIdeal.τ).loc Cert.ReferenceUpXIdeal.main_arg1) = m' ((c.tc : Thread Cert.ReferenceUpXIdeal.nD Cert.ReferenceUpXIdeal.τ).loc Cert.ReferenceUpXIdeal.main_arg1)
          ∧ r.2.mem ((c.tc : Thread Cert.ReferenceUpXIdeal.nD Cert.ReferenceUpXIdeal.τ).loc Cert.ReferenceUpXIdeal.main_arg2) = m' ((c.tc : Thread Cert.ReferenceUpXIdeal.nD Cert.ReferenceUpXIdeal.τ).loc Cert.ReferenceUpXIdeal.main_arg2)
          ∧ r.2.mem ((c.tc : Thread Cert.ReferenceUpXIdeal.nD Cert.ReferenceUpXIdeal.τ).loc Cert.ReferenceUpXIdeal.main_arg3) = m' ((c.tc : Thread Cert.ReferenceUpXIdeal.nD Cert.ReferenceUpXIdeal.τ).loc Cert.ReferenceUpXIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v7) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelProjX_KernelProjXIdeal : Prop :=
  True

def algebraic_KernelProjXIdeal_ReferenceProjXIdeal [hKernelProjXIdeal : Cert.KernelProjXIdeal.Facts] [hReferenceProjXIdeal : Cert.ReferenceProjXIdeal.Facts] : Prop :=
  ∀ (m : (ℓ : Loc Cert.KernelProjXIdeal.nD Cert.KernelProjXIdeal.τ Cert.KernelProjXIdeal.sig) → Buf (Elt Ideal) ℓ) (g : Dev Cert.KernelProjXIdeal.nD → PrngReg)
    (m' : (ℓ : Loc Cert.ReferenceProjXIdeal.nD Cert.ReferenceProjXIdeal.τ Cert.ReferenceProjXIdeal.sig) → Buf (Elt Ideal) ℓ) (g' : Dev Cert.ReferenceProjXIdeal.nD → PrngReg), Pre_KernelProjXIdeal m →
    (∀ c : Dev Cert.KernelProjXIdeal.nD,
      m' ((c.tc : Thread Cert.ReferenceProjXIdeal.nD Cert.ReferenceProjXIdeal.τ).loc Cert.ReferenceProjXIdeal.main_arg0) = m ((c.tc : Thread Cert.KernelProjXIdeal.nD Cert.KernelProjXIdeal.τ).loc Cert.KernelProjXIdeal.main_arg0)
      ∧ m' ((c.tc : Thread Cert.ReferenceProjXIdeal.nD Cert.ReferenceProjXIdeal.τ).loc Cert.ReferenceProjXIdeal.main_arg1) = m ((c.tc : Thread Cert.KernelProjXIdeal.nD Cert.KernelProjXIdeal.τ).loc Cert.KernelProjXIdeal.main_arg1)
      ∧ m' ((c.tc : Thread Cert.ReferenceProjXIdeal.nD Cert.ReferenceProjXIdeal.τ).loc Cert.ReferenceProjXIdeal.main_arg2) = m ((c.tc : Thread Cert.KernelProjXIdeal.nD Cert.KernelProjXIdeal.τ).loc Cert.KernelProjXIdeal.main_arg2)) →
    ∃ (v0 : (c : Dev Cert.KernelProjXIdeal.nD) → Buf (Elt Ideal) ((c.tc : Thread Cert.KernelProjXIdeal.nD Cert.KernelProjXIdeal.τ).loc Cert.KernelProjXIdeal.main_v0)),
      θ_run (Cert.KernelProjXIdeal.defs (F := Ideal)) (onTc (τ := Cert.KernelProjXIdeal.τ) (Cert.KernelProjXIdeal.main (F := Ideal))) ⟨m, fun _ => 0, g⟩ (fun r => ∀ c : Dev Cert.KernelProjXIdeal.nD,
          r.2.mem ((c.tc : Thread Cert.KernelProjXIdeal.nD Cert.KernelProjXIdeal.τ).loc Cert.KernelProjXIdeal.main_v0) = v0 c
          ∧ r.2.mem ((c.tc : Thread Cert.KernelProjXIdeal.nD Cert.KernelProjXIdeal.τ).loc Cert.KernelProjXIdeal.main_arg0) = m ((c.tc : Thread Cert.KernelProjXIdeal.nD Cert.KernelProjXIdeal.τ).loc Cert.KernelProjXIdeal.main_arg0)
          ∧ r.2.mem ((c.tc : Thread Cert.KernelProjXIdeal.nD Cert.KernelProjXIdeal.τ).loc Cert.KernelProjXIdeal.main_arg1) = m ((c.tc : Thread Cert.KernelProjXIdeal.nD Cert.KernelProjXIdeal.τ).loc Cert.KernelProjXIdeal.main_arg1)
          ∧ r.2.mem ((c.tc : Thread Cert.KernelProjXIdeal.nD Cert.KernelProjXIdeal.τ).loc Cert.KernelProjXIdeal.main_arg2) = m ((c.tc : Thread Cert.KernelProjXIdeal.nD Cert.KernelProjXIdeal.τ).loc Cert.KernelProjXIdeal.main_arg2))
      ∧ θ_run (Cert.ReferenceProjXIdeal.defs (F := Ideal)) (onTc (τ := Cert.ReferenceProjXIdeal.τ) (Cert.ReferenceProjXIdeal.main (F := Ideal))) ⟨m', fun _ => 0, g'⟩ (fun r => ∀ c : Dev Cert.ReferenceProjXIdeal.nD,
          r.2.mem ((c.tc : Thread Cert.ReferenceProjXIdeal.nD Cert.ReferenceProjXIdeal.τ).loc Cert.ReferenceProjXIdeal.main_v13) = v0 c
          ∧ r.2.mem ((c.tc : Thread Cert.ReferenceProjXIdeal.nD Cert.ReferenceProjXIdeal.τ).loc Cert.ReferenceProjXIdeal.main_arg0) = m' ((c.tc : Thread Cert.ReferenceProjXIdeal.nD Cert.ReferenceProjXIdeal.τ).loc Cert.ReferenceProjXIdeal.main_arg0)
          ∧ r.2.mem ((c.tc : Thread Cert.ReferenceProjXIdeal.nD Cert.ReferenceProjXIdeal.τ).loc Cert.ReferenceProjXIdeal.main_arg1) = m' ((c.tc : Thread Cert.ReferenceProjXIdeal.nD Cert.ReferenceProjXIdeal.τ).loc Cert.ReferenceProjXIdeal.main_arg1)
          ∧ r.2.mem ((c.tc : Thread Cert.ReferenceProjXIdeal.nD Cert.ReferenceProjXIdeal.τ).loc Cert.ReferenceProjXIdeal.main_arg2) = m' ((c.tc : Thread Cert.ReferenceProjXIdeal.nD Cert.ReferenceProjXIdeal.τ).loc Cert.ReferenceProjXIdeal.main_arg2))

def preserves_KernelMixX_KernelMixXIdeal : Prop :=
  True

def algebraic_KernelMixXIdeal_ReferenceMixXIdeal [hKernelMixXIdeal : Cert.KernelMixXIdeal.Facts] [hReferenceMixXIdeal : Cert.ReferenceMixXIdeal.Facts] : Prop :=
  ∀ (m : (ℓ : Loc Cert.KernelMixXIdeal.nD Cert.KernelMixXIdeal.τ Cert.KernelMixXIdeal.sig) → Buf (Elt Ideal) ℓ) (g : Dev Cert.KernelMixXIdeal.nD → PrngReg)
    (m' : (ℓ : Loc Cert.ReferenceMixXIdeal.nD Cert.ReferenceMixXIdeal.τ Cert.ReferenceMixXIdeal.sig) → Buf (Elt Ideal) ℓ) (g' : Dev Cert.ReferenceMixXIdeal.nD → PrngReg), Pre_KernelMixXIdeal m →
    (∀ c : Dev Cert.KernelMixXIdeal.nD,
      m' ((c.tc : Thread Cert.ReferenceMixXIdeal.nD Cert.ReferenceMixXIdeal.τ).loc Cert.ReferenceMixXIdeal.main_arg0) = m ((c.tc : Thread Cert.KernelMixXIdeal.nD Cert.KernelMixXIdeal.τ).loc Cert.KernelMixXIdeal.main_arg0)
      ∧ m' ((c.tc : Thread Cert.ReferenceMixXIdeal.nD Cert.ReferenceMixXIdeal.τ).loc Cert.ReferenceMixXIdeal.main_arg1) = m ((c.tc : Thread Cert.KernelMixXIdeal.nD Cert.KernelMixXIdeal.τ).loc Cert.KernelMixXIdeal.main_arg1)
      ∧ m' ((c.tc : Thread Cert.ReferenceMixXIdeal.nD Cert.ReferenceMixXIdeal.τ).loc Cert.ReferenceMixXIdeal.main_arg2) = m ((c.tc : Thread Cert.KernelMixXIdeal.nD Cert.KernelMixXIdeal.τ).loc Cert.KernelMixXIdeal.main_arg2)
      ∧ m' ((c.tc : Thread Cert.ReferenceMixXIdeal.nD Cert.ReferenceMixXIdeal.τ).loc Cert.ReferenceMixXIdeal.main_arg3) = m ((c.tc : Thread Cert.KernelMixXIdeal.nD Cert.KernelMixXIdeal.τ).loc Cert.KernelMixXIdeal.main_arg3)
      ∧ m' ((c.tc : Thread Cert.ReferenceMixXIdeal.nD Cert.ReferenceMixXIdeal.τ).loc Cert.ReferenceMixXIdeal.main_arg4) = m ((c.tc : Thread Cert.KernelMixXIdeal.nD Cert.KernelMixXIdeal.τ).loc Cert.KernelMixXIdeal.main_arg4)) →
    ∃ (v0 : (c : Dev Cert.KernelMixXIdeal.nD) → Buf (Elt Ideal) ((c.tc : Thread Cert.KernelMixXIdeal.nD Cert.KernelMixXIdeal.τ).loc Cert.KernelMixXIdeal.main_v0_0)) (v1 : (c : Dev Cert.KernelMixXIdeal.nD) → Buf (Elt Ideal) ((c.tc : Thread Cert.KernelMixXIdeal.nD Cert.KernelMixXIdeal.τ).loc Cert.KernelMixXIdeal.main_v0_1)) (v2 : (c : Dev Cert.KernelMixXIdeal.nD) → Buf (Elt Ideal) ((c.tc : Thread Cert.KernelMixXIdeal.nD Cert.KernelMixXIdeal.τ).loc Cert.KernelMixXIdeal.main_v0_2)) (v3 : (c : Dev Cert.KernelMixXIdeal.nD) → Buf (Elt Ideal) ((c.tc : Thread Cert.KernelMixXIdeal.nD Cert.KernelMixXIdeal.τ).loc Cert.KernelMixXIdeal.main_v0_3)),
      θ_run (Cert.KernelMixXIdeal.defs (F := Ideal)) (onTc (τ := Cert.KernelMixXIdeal.τ) (Cert.KernelMixXIdeal.main (F := Ideal))) ⟨m, fun _ => 0, g⟩ (fun r => ∀ c : Dev Cert.KernelMixXIdeal.nD,
          r.2.mem ((c.tc : Thread Cert.KernelMixXIdeal.nD Cert.KernelMixXIdeal.τ).loc Cert.KernelMixXIdeal.main_v0_0) = v0 c
          ∧ r.2.mem ((c.tc : Thread Cert.KernelMixXIdeal.nD Cert.KernelMixXIdeal.τ).loc Cert.KernelMixXIdeal.main_v0_1) = v1 c
          ∧ r.2.mem ((c.tc : Thread Cert.KernelMixXIdeal.nD Cert.KernelMixXIdeal.τ).loc Cert.KernelMixXIdeal.main_v0_2) = v2 c
          ∧ r.2.mem ((c.tc : Thread Cert.KernelMixXIdeal.nD Cert.KernelMixXIdeal.τ).loc Cert.KernelMixXIdeal.main_v0_3) = v3 c
          ∧ r.2.mem ((c.tc : Thread Cert.KernelMixXIdeal.nD Cert.KernelMixXIdeal.τ).loc Cert.KernelMixXIdeal.main_arg0) = m ((c.tc : Thread Cert.KernelMixXIdeal.nD Cert.KernelMixXIdeal.τ).loc Cert.KernelMixXIdeal.main_arg0)
          ∧ r.2.mem ((c.tc : Thread Cert.KernelMixXIdeal.nD Cert.KernelMixXIdeal.τ).loc Cert.KernelMixXIdeal.main_arg1) = m ((c.tc : Thread Cert.KernelMixXIdeal.nD Cert.KernelMixXIdeal.τ).loc Cert.KernelMixXIdeal.main_arg1)
          ∧ r.2.mem ((c.tc : Thread Cert.KernelMixXIdeal.nD Cert.KernelMixXIdeal.τ).loc Cert.KernelMixXIdeal.main_arg2) = m ((c.tc : Thread Cert.KernelMixXIdeal.nD Cert.KernelMixXIdeal.τ).loc Cert.KernelMixXIdeal.main_arg2)
          ∧ r.2.mem ((c.tc : Thread Cert.KernelMixXIdeal.nD Cert.KernelMixXIdeal.τ).loc Cert.KernelMixXIdeal.main_arg3) = m ((c.tc : Thread Cert.KernelMixXIdeal.nD Cert.KernelMixXIdeal.τ).loc Cert.KernelMixXIdeal.main_arg3)
          ∧ r.2.mem ((c.tc : Thread Cert.KernelMixXIdeal.nD Cert.KernelMixXIdeal.τ).loc Cert.KernelMixXIdeal.main_arg4) = m ((c.tc : Thread Cert.KernelMixXIdeal.nD Cert.KernelMixXIdeal.τ).loc Cert.KernelMixXIdeal.main_arg4))
      ∧ θ_run (Cert.ReferenceMixXIdeal.defs (F := Ideal)) (onTc (τ := Cert.ReferenceMixXIdeal.τ) (Cert.ReferenceMixXIdeal.main (F := Ideal))) ⟨m', fun _ => 0, g'⟩ (fun r => ∀ c : Dev Cert.ReferenceMixXIdeal.nD,
          r.2.mem ((c.tc : Thread Cert.ReferenceMixXIdeal.nD Cert.ReferenceMixXIdeal.τ).loc Cert.ReferenceMixXIdeal.main_v37) = v0 c
          ∧ r.2.mem ((c.tc : Thread Cert.ReferenceMixXIdeal.nD Cert.ReferenceMixXIdeal.τ).loc Cert.ReferenceMixXIdeal.main_v38) = v1 c
          ∧ r.2.mem ((c.tc : Thread Cert.ReferenceMixXIdeal.nD Cert.ReferenceMixXIdeal.τ).loc Cert.ReferenceMixXIdeal.main_v39) = v2 c
          ∧ r.2.mem ((c.tc : Thread Cert.ReferenceMixXIdeal.nD Cert.ReferenceMixXIdeal.τ).loc Cert.ReferenceMixXIdeal.main_v40) = v3 c
          ∧ r.2.mem ((c.tc : Thread Cert.ReferenceMixXIdeal.nD Cert.ReferenceMixXIdeal.τ).loc Cert.ReferenceMixXIdeal.main_arg0) = m' ((c.tc : Thread Cert.ReferenceMixXIdeal.nD Cert.ReferenceMixXIdeal.τ).loc Cert.ReferenceMixXIdeal.main_arg0)
          ∧ r.2.mem ((c.tc : Thread Cert.ReferenceMixXIdeal.nD Cert.ReferenceMixXIdeal.τ).loc Cert.ReferenceMixXIdeal.main_arg1) = m' ((c.tc : Thread Cert.ReferenceMixXIdeal.nD Cert.ReferenceMixXIdeal.τ).loc Cert.ReferenceMixXIdeal.main_arg1)
          ∧ r.2.mem ((c.tc : Thread Cert.ReferenceMixXIdeal.nD Cert.ReferenceMixXIdeal.τ).loc Cert.ReferenceMixXIdeal.main_arg2) = m' ((c.tc : Thread Cert.ReferenceMixXIdeal.nD Cert.ReferenceMixXIdeal.τ).loc Cert.ReferenceMixXIdeal.main_arg2)
          ∧ r.2.mem ((c.tc : Thread Cert.ReferenceMixXIdeal.nD Cert.ReferenceMixXIdeal.τ).loc Cert.ReferenceMixXIdeal.main_arg3) = m' ((c.tc : Thread Cert.ReferenceMixXIdeal.nD Cert.ReferenceMixXIdeal.τ).loc Cert.ReferenceMixXIdeal.main_arg3)
          ∧ r.2.mem ((c.tc : Thread Cert.ReferenceMixXIdeal.nD Cert.ReferenceMixXIdeal.τ).loc Cert.ReferenceMixXIdeal.main_arg4) = m' ((c.tc : Thread Cert.ReferenceMixXIdeal.nD Cert.ReferenceMixXIdeal.τ).loc Cert.ReferenceMixXIdeal.main_arg4))

def preserves_KernelOutW_KernelOutWIdeal : Prop :=
  True

def algebraic_KernelOutWIdeal_ReferenceOutWIdeal [hKernelOutWIdeal : Cert.KernelOutWIdeal.Facts] [hReferenceOutWIdeal : Cert.ReferenceOutWIdeal.Facts] : Prop :=
  ∀ (m : (ℓ : Loc Cert.KernelOutWIdeal.nD Cert.KernelOutWIdeal.τ Cert.KernelOutWIdeal.sig) → Buf (Elt Ideal) ℓ) (g : Dev Cert.KernelOutWIdeal.nD → PrngReg)
    (m' : (ℓ : Loc Cert.ReferenceOutWIdeal.nD Cert.ReferenceOutWIdeal.τ Cert.ReferenceOutWIdeal.sig) → Buf (Elt Ideal) ℓ) (g' : Dev Cert.ReferenceOutWIdeal.nD → PrngReg), Pre_KernelOutWIdeal m →
    (∀ c : Dev Cert.KernelOutWIdeal.nD,
      m' ((c.tc : Thread Cert.ReferenceOutWIdeal.nD Cert.ReferenceOutWIdeal.τ).loc Cert.ReferenceOutWIdeal.main_arg0) = m ((c.tc : Thread Cert.KernelOutWIdeal.nD Cert.KernelOutWIdeal.τ).loc Cert.KernelOutWIdeal.main_arg0)
      ∧ m' ((c.tc : Thread Cert.ReferenceOutWIdeal.nD Cert.ReferenceOutWIdeal.τ).loc Cert.ReferenceOutWIdeal.main_arg1) = m ((c.tc : Thread Cert.KernelOutWIdeal.nD Cert.KernelOutWIdeal.τ).loc Cert.KernelOutWIdeal.main_arg1)) →
    ∃ (v0 : (c : Dev Cert.KernelOutWIdeal.nD) → Buf (Elt Ideal) ((c.tc : Thread Cert.KernelOutWIdeal.nD Cert.KernelOutWIdeal.τ).loc Cert.KernelOutWIdeal.main_v0)),
      θ_run (Cert.KernelOutWIdeal.defs (F := Ideal)) (onTc (τ := Cert.KernelOutWIdeal.τ) (Cert.KernelOutWIdeal.main (F := Ideal))) ⟨m, fun _ => 0, g⟩ (fun r => ∀ c : Dev Cert.KernelOutWIdeal.nD,
          r.2.mem ((c.tc : Thread Cert.KernelOutWIdeal.nD Cert.KernelOutWIdeal.τ).loc Cert.KernelOutWIdeal.main_v0) = v0 c
          ∧ r.2.mem ((c.tc : Thread Cert.KernelOutWIdeal.nD Cert.KernelOutWIdeal.τ).loc Cert.KernelOutWIdeal.main_arg0) = m ((c.tc : Thread Cert.KernelOutWIdeal.nD Cert.KernelOutWIdeal.τ).loc Cert.KernelOutWIdeal.main_arg0)
          ∧ r.2.mem ((c.tc : Thread Cert.KernelOutWIdeal.nD Cert.KernelOutWIdeal.τ).loc Cert.KernelOutWIdeal.main_arg1) = m ((c.tc : Thread Cert.KernelOutWIdeal.nD Cert.KernelOutWIdeal.τ).loc Cert.KernelOutWIdeal.main_arg1))
      ∧ θ_run (Cert.ReferenceOutWIdeal.defs (F := Ideal)) (onTc (τ := Cert.ReferenceOutWIdeal.τ) (Cert.ReferenceOutWIdeal.main (F := Ideal))) ⟨m', fun _ => 0, g'⟩ (fun r => ∀ c : Dev Cert.ReferenceOutWIdeal.nD,
          r.2.mem ((c.tc : Thread Cert.ReferenceOutWIdeal.nD Cert.ReferenceOutWIdeal.τ).loc Cert.ReferenceOutWIdeal.main_v6) = v0 c
          ∧ r.2.mem ((c.tc : Thread Cert.ReferenceOutWIdeal.nD Cert.ReferenceOutWIdeal.τ).loc Cert.ReferenceOutWIdeal.main_arg0) = m' ((c.tc : Thread Cert.ReferenceOutWIdeal.nD Cert.ReferenceOutWIdeal.τ).loc Cert.ReferenceOutWIdeal.main_arg0)
          ∧ r.2.mem ((c.tc : Thread Cert.ReferenceOutWIdeal.nD Cert.ReferenceOutWIdeal.τ).loc Cert.ReferenceOutWIdeal.main_arg1) = m' ((c.tc : Thread Cert.ReferenceOutWIdeal.nD Cert.ReferenceOutWIdeal.τ).loc Cert.ReferenceOutWIdeal.main_arg1))

def preserves_KernelBranchW_KernelBranchWIdeal : Prop :=
  True

def algebraic_KernelBranchWIdeal_ReferenceBranchWIdeal [hKernelBranchWIdeal : Cert.KernelBranchWIdeal.Facts] [hReferenceBranchWIdeal : Cert.ReferenceBranchWIdeal.Facts] : Prop :=
  ∀ (m : (ℓ : Loc Cert.KernelBranchWIdeal.nD Cert.KernelBranchWIdeal.τ Cert.KernelBranchWIdeal.sig) → Buf (Elt Ideal) ℓ) (g : Dev Cert.KernelBranchWIdeal.nD → PrngReg)
    (m' : (ℓ : Loc Cert.ReferenceBranchWIdeal.nD Cert.ReferenceBranchWIdeal.τ Cert.ReferenceBranchWIdeal.sig) → Buf (Elt Ideal) ℓ) (g' : Dev Cert.ReferenceBranchWIdeal.nD → PrngReg), Pre_KernelBranchWIdeal m →
    (∀ c : Dev Cert.KernelBranchWIdeal.nD,
      m' ((c.tc : Thread Cert.ReferenceBranchWIdeal.nD Cert.ReferenceBranchWIdeal.τ).loc Cert.ReferenceBranchWIdeal.main_arg0) = m ((c.tc : Thread Cert.KernelBranchWIdeal.nD Cert.KernelBranchWIdeal.τ).loc Cert.KernelBranchWIdeal.main_arg0)
      ∧ m' ((c.tc : Thread Cert.ReferenceBranchWIdeal.nD Cert.ReferenceBranchWIdeal.τ).loc Cert.ReferenceBranchWIdeal.main_arg1) = m ((c.tc : Thread Cert.KernelBranchWIdeal.nD Cert.KernelBranchWIdeal.τ).loc Cert.KernelBranchWIdeal.main_arg1)) →
    ∃ (v0 : (c : Dev Cert.KernelBranchWIdeal.nD) → Buf (Elt Ideal) ((c.tc : Thread Cert.KernelBranchWIdeal.nD Cert.KernelBranchWIdeal.τ).loc Cert.KernelBranchWIdeal.main_v0)),
      θ_run (Cert.KernelBranchWIdeal.defs (F := Ideal)) (onTc (τ := Cert.KernelBranchWIdeal.τ) (Cert.KernelBranchWIdeal.main (F := Ideal))) ⟨m, fun _ => 0, g⟩ (fun r => ∀ c : Dev Cert.KernelBranchWIdeal.nD,
          r.2.mem ((c.tc : Thread Cert.KernelBranchWIdeal.nD Cert.KernelBranchWIdeal.τ).loc Cert.KernelBranchWIdeal.main_v0) = v0 c
          ∧ r.2.mem ((c.tc : Thread Cert.KernelBranchWIdeal.nD Cert.KernelBranchWIdeal.τ).loc Cert.KernelBranchWIdeal.main_arg0) = m ((c.tc : Thread Cert.KernelBranchWIdeal.nD Cert.KernelBranchWIdeal.τ).loc Cert.KernelBranchWIdeal.main_arg0)
          ∧ r.2.mem ((c.tc : Thread Cert.KernelBranchWIdeal.nD Cert.KernelBranchWIdeal.τ).loc Cert.KernelBranchWIdeal.main_arg1) = m ((c.tc : Thread Cert.KernelBranchWIdeal.nD Cert.KernelBranchWIdeal.τ).loc Cert.KernelBranchWIdeal.main_arg1))
      ∧ θ_run (Cert.ReferenceBranchWIdeal.defs (F := Ideal)) (onTc (τ := Cert.ReferenceBranchWIdeal.τ) (Cert.ReferenceBranchWIdeal.main (F := Ideal))) ⟨m', fun _ => 0, g'⟩ (fun r => ∀ c : Dev Cert.ReferenceBranchWIdeal.nD,
          r.2.mem ((c.tc : Thread Cert.ReferenceBranchWIdeal.nD Cert.ReferenceBranchWIdeal.τ).loc Cert.ReferenceBranchWIdeal.main_v5) = v0 c
          ∧ r.2.mem ((c.tc : Thread Cert.ReferenceBranchWIdeal.nD Cert.ReferenceBranchWIdeal.τ).loc Cert.ReferenceBranchWIdeal.main_arg0) = m' ((c.tc : Thread Cert.ReferenceBranchWIdeal.nD Cert.ReferenceBranchWIdeal.τ).loc Cert.ReferenceBranchWIdeal.main_arg0)
          ∧ r.2.mem ((c.tc : Thread Cert.ReferenceBranchWIdeal.nD Cert.ReferenceBranchWIdeal.τ).loc Cert.ReferenceBranchWIdeal.main_arg1) = m' ((c.tc : Thread Cert.ReferenceBranchWIdeal.nD Cert.ReferenceBranchWIdeal.τ).loc Cert.ReferenceBranchWIdeal.main_arg1))

def preserves_KernelBranchX_KernelBranchXIdeal : Prop :=
  True

def algebraic_KernelBranchXIdeal_ReferenceBranchXIdeal [hKernelBranchXIdeal : Cert.KernelBranchXIdeal.Facts] [hReferenceBranchXIdeal : Cert.ReferenceBranchXIdeal.Facts] : Prop :=
  ∀ (m : (ℓ : Loc Cert.KernelBranchXIdeal.nD Cert.KernelBranchXIdeal.τ Cert.KernelBranchXIdeal.sig) → Buf (Elt Ideal) ℓ) (g : Dev Cert.KernelBranchXIdeal.nD → PrngReg)
    (m' : (ℓ : Loc Cert.ReferenceBranchXIdeal.nD Cert.ReferenceBranchXIdeal.τ Cert.ReferenceBranchXIdeal.sig) → Buf (Elt Ideal) ℓ) (g' : Dev Cert.ReferenceBranchXIdeal.nD → PrngReg), Pre_KernelBranchXIdeal m →
    (∀ c : Dev Cert.KernelBranchXIdeal.nD,
      m' ((c.tc : Thread Cert.ReferenceBranchXIdeal.nD Cert.ReferenceBranchXIdeal.τ).loc Cert.ReferenceBranchXIdeal.main_arg0) = m ((c.tc : Thread Cert.KernelBranchXIdeal.nD Cert.KernelBranchXIdeal.τ).loc Cert.KernelBranchXIdeal.main_arg0)
      ∧ m' ((c.tc : Thread Cert.ReferenceBranchXIdeal.nD Cert.ReferenceBranchXIdeal.τ).loc Cert.ReferenceBranchXIdeal.main_arg1) = m ((c.tc : Thread Cert.KernelBranchXIdeal.nD Cert.KernelBranchXIdeal.τ).loc Cert.KernelBranchXIdeal.main_arg1)) →
    ∃ (v0 : (c : Dev Cert.KernelBranchXIdeal.nD) → Buf (Elt Ideal) ((c.tc : Thread Cert.KernelBranchXIdeal.nD Cert.KernelBranchXIdeal.τ).loc Cert.KernelBranchXIdeal.main_v0)),
      θ_run (Cert.KernelBranchXIdeal.defs (F := Ideal)) (onTc (τ := Cert.KernelBranchXIdeal.τ) (Cert.KernelBranchXIdeal.main (F := Ideal))) ⟨m, fun _ => 0, g⟩ (fun r => ∀ c : Dev Cert.KernelBranchXIdeal.nD,
          r.2.mem ((c.tc : Thread Cert.KernelBranchXIdeal.nD Cert.KernelBranchXIdeal.τ).loc Cert.KernelBranchXIdeal.main_v0) = v0 c
          ∧ r.2.mem ((c.tc : Thread Cert.KernelBranchXIdeal.nD Cert.KernelBranchXIdeal.τ).loc Cert.KernelBranchXIdeal.main_arg0) = m ((c.tc : Thread Cert.KernelBranchXIdeal.nD Cert.KernelBranchXIdeal.τ).loc Cert.KernelBranchXIdeal.main_arg0)
          ∧ r.2.mem ((c.tc : Thread Cert.KernelBranchXIdeal.nD Cert.KernelBranchXIdeal.τ).loc Cert.KernelBranchXIdeal.main_arg1) = m ((c.tc : Thread Cert.KernelBranchXIdeal.nD Cert.KernelBranchXIdeal.τ).loc Cert.KernelBranchXIdeal.main_arg1))
      ∧ θ_run (Cert.ReferenceBranchXIdeal.defs (F := Ideal)) (onTc (τ := Cert.ReferenceBranchXIdeal.τ) (Cert.ReferenceBranchXIdeal.main (F := Ideal))) ⟨m', fun _ => 0, g'⟩ (fun r => ∀ c : Dev Cert.ReferenceBranchXIdeal.nD,
          r.2.mem ((c.tc : Thread Cert.ReferenceBranchXIdeal.nD Cert.ReferenceBranchXIdeal.τ).loc Cert.ReferenceBranchXIdeal.main_v5) = v0 c
          ∧ r.2.mem ((c.tc : Thread Cert.ReferenceBranchXIdeal.nD Cert.ReferenceBranchXIdeal.τ).loc Cert.ReferenceBranchXIdeal.main_arg0) = m' ((c.tc : Thread Cert.ReferenceBranchXIdeal.nD Cert.ReferenceBranchXIdeal.τ).loc Cert.ReferenceBranchXIdeal.main_arg0)
          ∧ r.2.mem ((c.tc : Thread Cert.ReferenceBranchXIdeal.nD Cert.ReferenceBranchXIdeal.τ).loc Cert.ReferenceBranchXIdeal.main_arg1) = m' ((c.tc : Thread Cert.ReferenceBranchXIdeal.nD Cert.ReferenceBranchXIdeal.τ).loc Cert.ReferenceBranchXIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)) →
    ∃ (v0 : (c : Dev Cert.KernelMixIdeal.nD) → Buf (Elt Ideal) ((c.tc : Thread Cert.KernelMixIdeal.nD Cert.KernelMixIdeal.τ).loc Cert.KernelMixIdeal.main_v0_0)) (v1 : (c : Dev Cert.KernelMixIdeal.nD) → Buf (Elt Ideal) ((c.tc : Thread Cert.KernelMixIdeal.nD Cert.KernelMixIdeal.τ).loc Cert.KernelMixIdeal.main_v0_1)) (v2 : (c : Dev Cert.KernelMixIdeal.nD) → Buf (Elt Ideal) ((c.tc : Thread Cert.KernelMixIdeal.nD Cert.KernelMixIdeal.τ).loc Cert.KernelMixIdeal.main_v0_2)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v0_0) = v0 c
          ∧ r.2.mem ((c.tc : Thread Cert.KernelMixIdeal.nD Cert.KernelMixIdeal.τ).loc Cert.KernelMixIdeal.main_v0_1) = v1 c
          ∧ r.2.mem ((c.tc : Thread Cert.KernelMixIdeal.nD Cert.KernelMixIdeal.τ).loc Cert.KernelMixIdeal.main_v0_2) = v2 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v25) = v0 c
          ∧ r.2.mem ((c.tc : Thread Cert.ReferenceMixIdeal.nD Cert.ReferenceMixIdeal.τ).loc Cert.ReferenceMixIdeal.main_v26) = v1 c
          ∧ r.2.mem ((c.tc : Thread Cert.ReferenceMixIdeal.nD Cert.ReferenceMixIdeal.τ).loc Cert.ReferenceMixIdeal.main_v27) = v2 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4))

def preserves_KernelFoxF_KernelFoxFIdeal : Prop :=
  IdealRules.named_const.Statement Cert.KernelFoxFIdeal.κ "mask" .f32 0xF149F2CA#32 ⊥

def algebraic_KernelFoxFIdeal_ReferenceFoxFIdeal_pre_finite_fox [hKernelFoxFIdeal : Cert.KernelFoxFIdeal.Facts] [hReferenceFoxFIdeal : Cert.ReferenceFoxFIdeal.Facts] [hPre_finite_fox : Cert.Pre_finite_fox.Facts] : Prop :=
  ∀ (m : (ℓ : Loc Cert.KernelFoxFIdeal.nD Cert.KernelFoxFIdeal.τ Cert.KernelFoxFIdeal.sig) → Buf (Elt Ideal) ℓ) (g : Dev Cert.KernelFoxFIdeal.nD → PrngReg)
    (m' : (ℓ : Loc Cert.ReferenceFoxFIdeal.nD Cert.ReferenceFoxFIdeal.τ Cert.ReferenceFoxFIdeal.sig) → Buf (Elt Ideal) ℓ) (g' : Dev Cert.ReferenceFoxFIdeal.nD → PrngReg), Pre_KernelFoxFIdeal_finite_fox m →
    (∀ c : Dev Cert.KernelFoxFIdeal.nD,
      m' ((c.tc : Thread Cert.ReferenceFoxFIdeal.nD Cert.ReferenceFoxFIdeal.τ).loc Cert.ReferenceFoxFIdeal.main_arg0) = m ((c.tc : Thread Cert.KernelFoxFIdeal.nD Cert.KernelFoxFIdeal.τ).loc Cert.KernelFoxFIdeal.main_arg0)
      ∧ m' ((c.tc : Thread Cert.ReferenceFoxFIdeal.nD Cert.ReferenceFoxFIdeal.τ).loc Cert.ReferenceFoxFIdeal.main_arg1) = m ((c.tc : Thread Cert.KernelFoxFIdeal.nD Cert.KernelFoxFIdeal.τ).loc Cert.KernelFoxFIdeal.main_arg1)) →
    ∃ (v0 : (c : Dev Cert.KernelFoxFIdeal.nD) → Buf (Elt Ideal) ((c.tc : Thread Cert.KernelFoxFIdeal.nD Cert.KernelFoxFIdeal.τ).loc Cert.KernelFoxFIdeal.main_v2_0)) (v1 : (c : Dev Cert.KernelFoxFIdeal.nD) → Buf (Elt Ideal) ((c.tc : Thread Cert.KernelFoxFIdeal.nD Cert.KernelFoxFIdeal.τ).loc Cert.KernelFoxFIdeal.main_v2_1)),
      θ_run (Cert.KernelFoxFIdeal.defs (F := Ideal)) (onTc (τ := Cert.KernelFoxFIdeal.τ) (Cert.KernelFoxFIdeal.main (F := Ideal))) ⟨m, fun _ => 0, g⟩ (fun r => ∀ c : Dev Cert.KernelFoxFIdeal.nD,
          r.2.mem ((c.tc : Thread Cert.KernelFoxFIdeal.nD Cert.KernelFoxFIdeal.τ).loc Cert.KernelFoxFIdeal.main_v2_0) = v0 c
          ∧ r.2.mem ((c.tc : Thread Cert.KernelFoxFIdeal.nD Cert.KernelFoxFIdeal.τ).loc Cert.KernelFoxFIdeal.main_v2_1) = v1 c
          ∧ r.2.mem ((c.tc : Thread Cert.KernelFoxFIdeal.nD Cert.KernelFoxFIdeal.τ).loc Cert.KernelFoxFIdeal.main_arg0) = m ((c.tc : Thread Cert.KernelFoxFIdeal.nD Cert.KernelFoxFIdeal.τ).loc Cert.KernelFoxFIdeal.main_arg0)
          ∧ r.2.mem ((c.tc : Thread Cert.KernelFoxFIdeal.nD Cert.KernelFoxFIdeal.τ).loc Cert.KernelFoxFIdeal.main_arg1) = m ((c.tc : Thread Cert.KernelFoxFIdeal.nD Cert.KernelFoxFIdeal.τ).loc Cert.KernelFoxFIdeal.main_arg1))
      ∧ θ_run (Cert.ReferenceFoxFIdeal.defs (F := Ideal)) (onTc (τ := Cert.ReferenceFoxFIdeal.τ) (Cert.ReferenceFoxFIdeal.main (F := Ideal))) ⟨m', fun _ => 0, g'⟩ (fun r => ∀ c : Dev Cert.ReferenceFoxFIdeal.nD,
          r.2.mem ((c.tc : Thread Cert.ReferenceFoxFIdeal.nD Cert.ReferenceFoxFIdeal.τ).loc Cert.ReferenceFoxFIdeal.main_v49) = v0 c
          ∧ r.2.mem ((c.tc : Thread Cert.ReferenceFoxFIdeal.nD Cert.ReferenceFoxFIdeal.τ).loc Cert.ReferenceFoxFIdeal.main_v34) = v1 c
          ∧ r.2.mem ((c.tc : Thread Cert.ReferenceFoxFIdeal.nD Cert.ReferenceFoxFIdeal.τ).loc Cert.ReferenceFoxFIdeal.main_arg0) = m' ((c.tc : Thread Cert.ReferenceFoxFIdeal.nD Cert.ReferenceFoxFIdeal.τ).loc Cert.ReferenceFoxFIdeal.main_arg0)
          ∧ r.2.mem ((c.tc : Thread Cert.ReferenceFoxFIdeal.nD Cert.ReferenceFoxFIdeal.τ).loc Cert.ReferenceFoxFIdeal.main_arg1) = m' ((c.tc : Thread Cert.ReferenceFoxFIdeal.nD Cert.ReferenceFoxFIdeal.τ).loc Cert.ReferenceFoxFIdeal.main_arg1))

def preserves_KernelProjW_KernelProjWIdeal : Prop :=
  True

def algebraic_KernelProjWIdeal_ReferenceProjWIdeal [hKernelProjWIdeal : Cert.KernelProjWIdeal.Facts] [hReferenceProjWIdeal : Cert.ReferenceProjWIdeal.Facts] : Prop :=
  ∀ (m : (ℓ : Loc Cert.KernelProjWIdeal.nD Cert.KernelProjWIdeal.τ Cert.KernelProjWIdeal.sig) → Buf (Elt Ideal) ℓ) (g : Dev Cert.KernelProjWIdeal.nD → PrngReg)
    (m' : (ℓ : Loc Cert.ReferenceProjWIdeal.nD Cert.ReferenceProjWIdeal.τ Cert.ReferenceProjWIdeal.sig) → Buf (Elt Ideal) ℓ) (g' : Dev Cert.ReferenceProjWIdeal.nD → PrngReg), Pre_KernelProjWIdeal m →
    (∀ c : Dev Cert.KernelProjWIdeal.nD,
      m' ((c.tc : Thread Cert.ReferenceProjWIdeal.nD Cert.ReferenceProjWIdeal.τ).loc Cert.ReferenceProjWIdeal.main_arg0) = m ((c.tc : Thread Cert.KernelProjWIdeal.nD Cert.KernelProjWIdeal.τ).loc Cert.KernelProjWIdeal.main_arg0)
      ∧ m' ((c.tc : Thread Cert.ReferenceProjWIdeal.nD Cert.ReferenceProjWIdeal.τ).loc Cert.ReferenceProjWIdeal.main_arg1) = m ((c.tc : Thread Cert.KernelProjWIdeal.nD Cert.KernelProjWIdeal.τ).loc Cert.KernelProjWIdeal.main_arg1)) →
    ∃ (v0 : (c : Dev Cert.KernelProjWIdeal.nD) → Buf (Elt Ideal) ((c.tc : Thread Cert.KernelProjWIdeal.nD Cert.KernelProjWIdeal.τ).loc Cert.KernelProjWIdeal.main_v0)),
      θ_run (Cert.KernelProjWIdeal.defs (F := Ideal)) (onTc (τ := Cert.KernelProjWIdeal.τ) (Cert.KernelProjWIdeal.main (F := Ideal))) ⟨m, fun _ => 0, g⟩ (fun r => ∀ c : Dev Cert.KernelProjWIdeal.nD,
          r.2.mem ((c.tc : Thread Cert.KernelProjWIdeal.nD Cert.KernelProjWIdeal.τ).loc Cert.KernelProjWIdeal.main_v0) = v0 c
          ∧ r.2.mem ((c.tc : Thread Cert.KernelProjWIdeal.nD Cert.KernelProjWIdeal.τ).loc Cert.KernelProjWIdeal.main_arg0) = m ((c.tc : Thread Cert.KernelProjWIdeal.nD Cert.KernelProjWIdeal.τ).loc Cert.KernelProjWIdeal.main_arg0)
          ∧ r.2.mem ((c.tc : Thread Cert.KernelProjWIdeal.nD Cert.KernelProjWIdeal.τ).loc Cert.KernelProjWIdeal.main_arg1) = m ((c.tc : Thread Cert.KernelProjWIdeal.nD Cert.KernelProjWIdeal.τ).loc Cert.KernelProjWIdeal.main_arg1))
      ∧ θ_run (Cert.ReferenceProjWIdeal.defs (F := Ideal)) (onTc (τ := Cert.ReferenceProjWIdeal.τ) (Cert.ReferenceProjWIdeal.main (F := Ideal))) ⟨m', fun _ => 0, g'⟩ (fun r => ∀ c : Dev Cert.ReferenceProjWIdeal.nD,
          r.2.mem ((c.tc : Thread Cert.ReferenceProjWIdeal.nD Cert.ReferenceProjWIdeal.τ).loc Cert.ReferenceProjWIdeal.main_v16) = v0 c
          ∧ r.2.mem ((c.tc : Thread Cert.ReferenceProjWIdeal.nD Cert.ReferenceProjWIdeal.τ).loc Cert.ReferenceProjWIdeal.main_arg0) = m' ((c.tc : Thread Cert.ReferenceProjWIdeal.nD Cert.ReferenceProjWIdeal.τ).loc Cert.ReferenceProjWIdeal.main_arg0)
          ∧ r.2.mem ((c.tc : Thread Cert.ReferenceProjWIdeal.nD Cert.ReferenceProjWIdeal.τ).loc Cert.ReferenceProjWIdeal.main_arg1) = m' ((c.tc : Thread Cert.ReferenceProjWIdeal.nD Cert.ReferenceProjWIdeal.τ).loc Cert.ReferenceProjWIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)
      ∧ m' ((c.tc : Thread Cert.ReferenceNormIdeal.nD Cert.ReferenceNormIdeal.τ).loc Cert.ReferenceNormIdeal.main_arg3) = m ((c.tc : Thread Cert.KernelNormIdeal.nD Cert.KernelNormIdeal.τ).loc Cert.KernelNormIdeal.main_arg3)) →
    ∃ (v0 : (c : Dev Cert.KernelNormIdeal.nD) → Buf (Elt Ideal) ((c.tc : Thread Cert.KernelNormIdeal.nD Cert.KernelNormIdeal.τ).loc Cert.KernelNormIdeal.main_v8_0)) (v1 : (c : Dev Cert.KernelNormIdeal.nD) → Buf (Elt Ideal) ((c.tc : Thread Cert.KernelNormIdeal.nD Cert.KernelNormIdeal.τ).loc Cert.KernelNormIdeal.main_v8_1)) (v2 : (c : Dev Cert.KernelNormIdeal.nD) → Buf (Elt Ideal) ((c.tc : Thread Cert.KernelNormIdeal.nD Cert.KernelNormIdeal.τ).loc Cert.KernelNormIdeal.main_v8_2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v8_0) = v0 c
          ∧ r.2.mem ((c.tc : Thread Cert.KernelNormIdeal.nD Cert.KernelNormIdeal.τ).loc Cert.KernelNormIdeal.main_v8_1) = v1 c
          ∧ r.2.mem ((c.tc : Thread Cert.KernelNormIdeal.nD Cert.KernelNormIdeal.τ).loc Cert.KernelNormIdeal.main_v8_2) = v2 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2)
          ∧ r.2.mem ((c.tc : Thread Cert.KernelNormIdeal.nD Cert.KernelNormIdeal.τ).loc Cert.KernelNormIdeal.main_arg3) = m ((c.tc : Thread Cert.KernelNormIdeal.nD Cert.KernelNormIdeal.τ).loc Cert.KernelNormIdeal.main_arg3))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v34) = v0 c
          ∧ r.2.mem ((c.tc : Thread Cert.ReferenceNormIdeal.nD Cert.ReferenceNormIdeal.τ).loc Cert.ReferenceNormIdeal.main_v17) = v1 c
          ∧ r.2.mem ((c.tc : Thread Cert.ReferenceNormIdeal.nD Cert.ReferenceNormIdeal.τ).loc Cert.ReferenceNormIdeal.main_v35) = v2 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2)
          ∧ r.2.mem ((c.tc : Thread Cert.ReferenceNormIdeal.nD Cert.ReferenceNormIdeal.τ).loc Cert.ReferenceNormIdeal.main_arg3) = m' ((c.tc : Thread Cert.ReferenceNormIdeal.nD Cert.ReferenceNormIdeal.τ).loc Cert.ReferenceNormIdeal.main_arg3))

def preserves_KernelNormF_KernelNormFIdeal : Prop :=
  True

def algebraic_KernelNormFIdeal_ReferenceNormFIdeal [hKernelNormFIdeal : Cert.KernelNormFIdeal.Facts] [hReferenceNormFIdeal : Cert.ReferenceNormFIdeal.Facts] : Prop :=
  ∀ (m : (ℓ : Loc Cert.KernelNormFIdeal.nD Cert.KernelNormFIdeal.τ Cert.KernelNormFIdeal.sig) → Buf (Elt Ideal) ℓ) (g : Dev Cert.KernelNormFIdeal.nD → PrngReg)
    (m' : (ℓ : Loc Cert.ReferenceNormFIdeal.nD Cert.ReferenceNormFIdeal.τ Cert.ReferenceNormFIdeal.sig) → Buf (Elt Ideal) ℓ) (g' : Dev Cert.ReferenceNormFIdeal.nD → PrngReg), Pre_KernelNormFIdeal m →
    (∀ c : Dev Cert.KernelNormFIdeal.nD,
      m' ((c.tc : Thread Cert.ReferenceNormFIdeal.nD Cert.ReferenceNormFIdeal.τ).loc Cert.ReferenceNormFIdeal.main_arg0) = m ((c.tc : Thread Cert.KernelNormFIdeal.nD Cert.KernelNormFIdeal.τ).loc Cert.KernelNormFIdeal.main_arg0)
      ∧ m' ((c.tc : Thread Cert.ReferenceNormFIdeal.nD Cert.ReferenceNormFIdeal.τ).loc Cert.ReferenceNormFIdeal.main_arg1) = m ((c.tc : Thread Cert.KernelNormFIdeal.nD Cert.KernelNormFIdeal.τ).loc Cert.KernelNormFIdeal.main_arg1)) →
    ∃ (v0 : (c : Dev Cert.KernelNormFIdeal.nD) → Buf (Elt Ideal) ((c.tc : Thread Cert.KernelNormFIdeal.nD Cert.KernelNormFIdeal.τ).loc Cert.KernelNormFIdeal.main_v0_0)) (v1 : (c : Dev Cert.KernelNormFIdeal.nD) → Buf (Elt Ideal) ((c.tc : Thread Cert.KernelNormFIdeal.nD Cert.KernelNormFIdeal.τ).loc Cert.KernelNormFIdeal.main_v0_1)),
      θ_run (Cert.KernelNormFIdeal.defs (F := Ideal)) (onTc (τ := Cert.KernelNormFIdeal.τ) (Cert.KernelNormFIdeal.main (F := Ideal))) ⟨m, fun _ => 0, g⟩ (fun r => ∀ c : Dev Cert.KernelNormFIdeal.nD,
          r.2.mem ((c.tc : Thread Cert.KernelNormFIdeal.nD Cert.KernelNormFIdeal.τ).loc Cert.KernelNormFIdeal.main_v0_0) = v0 c
          ∧ r.2.mem ((c.tc : Thread Cert.KernelNormFIdeal.nD Cert.KernelNormFIdeal.τ).loc Cert.KernelNormFIdeal.main_v0_1) = v1 c
          ∧ r.2.mem ((c.tc : Thread Cert.KernelNormFIdeal.nD Cert.KernelNormFIdeal.τ).loc Cert.KernelNormFIdeal.main_arg0) = m ((c.tc : Thread Cert.KernelNormFIdeal.nD Cert.KernelNormFIdeal.τ).loc Cert.KernelNormFIdeal.main_arg0)
          ∧ r.2.mem ((c.tc : Thread Cert.KernelNormFIdeal.nD Cert.KernelNormFIdeal.τ).loc Cert.KernelNormFIdeal.main_arg1) = m ((c.tc : Thread Cert.KernelNormFIdeal.nD Cert.KernelNormFIdeal.τ).loc Cert.KernelNormFIdeal.main_arg1))
      ∧ θ_run (Cert.ReferenceNormFIdeal.defs (F := Ideal)) (onTc (τ := Cert.ReferenceNormFIdeal.τ) (Cert.ReferenceNormFIdeal.main (F := Ideal))) ⟨m', fun _ => 0, g'⟩ (fun r => ∀ c : Dev Cert.ReferenceNormFIdeal.nD,
          r.2.mem ((c.tc : Thread Cert.ReferenceNormFIdeal.nD Cert.ReferenceNormFIdeal.τ).loc Cert.ReferenceNormFIdeal.main_v12) = v0 c
          ∧ r.2.mem ((c.tc : Thread Cert.ReferenceNormFIdeal.nD Cert.ReferenceNormFIdeal.τ).loc Cert.ReferenceNormFIdeal.main_v20) = v1 c
          ∧ r.2.mem ((c.tc : Thread Cert.ReferenceNormFIdeal.nD Cert.ReferenceNormFIdeal.τ).loc Cert.ReferenceNormFIdeal.main_arg0) = m' ((c.tc : Thread Cert.ReferenceNormFIdeal.nD Cert.ReferenceNormFIdeal.τ).loc Cert.ReferenceNormFIdeal.main_arg0)
          ∧ r.2.mem ((c.tc : Thread Cert.ReferenceNormFIdeal.nD Cert.ReferenceNormFIdeal.τ).loc Cert.ReferenceNormFIdeal.main_arg1) = m' ((c.tc : Thread Cert.ReferenceNormFIdeal.nD Cert.ReferenceNormFIdeal.τ).loc Cert.ReferenceNormFIdeal.main_arg1))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)) (v2 : (c : Dev Cert.KernelLossIdeal.nD) → Buf (Elt Ideal) ((c.tc : Thread Cert.KernelLossIdeal.nD Cert.KernelLossIdeal.τ).loc Cert.KernelLossIdeal.main_v0_2)) (v3 : (c : Dev Cert.KernelLossIdeal.nD) → Buf (Elt Ideal) ((c.tc : Thread Cert.KernelLossIdeal.nD Cert.KernelLossIdeal.τ).loc Cert.KernelLossIdeal.main_v0_3)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_v0_2) = v2 c
          ∧ r.2.mem ((c.tc : Thread Cert.KernelLossIdeal.nD Cert.KernelLossIdeal.τ).loc Cert.KernelLossIdeal.main_v0_3) = v3 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v48) = v0 c
          ∧ r.2.mem ((c.tc : Thread Cert.ReferenceLossIdeal.nD Cert.ReferenceLossIdeal.τ).loc Cert.ReferenceLossIdeal.main_v49) = v1 c
          ∧ r.2.mem ((c.tc : Thread Cert.ReferenceLossIdeal.nD Cert.ReferenceLossIdeal.τ).loc Cert.ReferenceLossIdeal.main_v32) = v2 c
          ∧ r.2.mem ((c.tc : Thread Cert.ReferenceLossIdeal.nD Cert.ReferenceLossIdeal.τ).loc Cert.ReferenceLossIdeal.main_v50) = v3 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2))

def preserves_KernelAdamS_KernelAdamSIdeal : Prop :=
  True

def algebraic_KernelAdamSIdeal_ReferenceAdamSIdeal [hKernelAdamSIdeal : Cert.KernelAdamSIdeal.Facts] [hReferenceAdamSIdeal : Cert.ReferenceAdamSIdeal.Facts] : Prop :=
  ∀ (m : (ℓ : Loc Cert.KernelAdamSIdeal.nD Cert.KernelAdamSIdeal.τ Cert.KernelAdamSIdeal.sig) → Buf (Elt Ideal) ℓ) (g : Dev Cert.KernelAdamSIdeal.nD → PrngReg)
    (m' : (ℓ : Loc Cert.ReferenceAdamSIdeal.nD Cert.ReferenceAdamSIdeal.τ Cert.ReferenceAdamSIdeal.sig) → Buf (Elt Ideal) ℓ) (g' : Dev Cert.ReferenceAdamSIdeal.nD → PrngReg), Pre_KernelAdamSIdeal m →
    (∀ c : Dev Cert.KernelAdamSIdeal.nD,
      m' ((c.tc : Thread Cert.ReferenceAdamSIdeal.nD Cert.ReferenceAdamSIdeal.τ).loc Cert.ReferenceAdamSIdeal.main_arg0) = m ((c.tc : Thread Cert.KernelAdamSIdeal.nD Cert.KernelAdamSIdeal.τ).loc Cert.KernelAdamSIdeal.main_arg0)
      ∧ m' ((c.tc : Thread Cert.ReferenceAdamSIdeal.nD Cert.ReferenceAdamSIdeal.τ).loc Cert.ReferenceAdamSIdeal.main_arg1) = m ((c.tc : Thread Cert.KernelAdamSIdeal.nD Cert.KernelAdamSIdeal.τ).loc Cert.KernelAdamSIdeal.main_arg1)
      ∧ m' ((c.tc : Thread Cert.ReferenceAdamSIdeal.nD Cert.ReferenceAdamSIdeal.τ).loc Cert.ReferenceAdamSIdeal.main_arg2) = m ((c.tc : Thread Cert.KernelAdamSIdeal.nD Cert.KernelAdamSIdeal.τ).loc Cert.KernelAdamSIdeal.main_arg2)
      ∧ m' ((c.tc : Thread Cert.ReferenceAdamSIdeal.nD Cert.ReferenceAdamSIdeal.τ).loc Cert.ReferenceAdamSIdeal.main_arg3) = m ((c.tc : Thread Cert.KernelAdamSIdeal.nD Cert.KernelAdamSIdeal.τ).loc Cert.KernelAdamSIdeal.main_arg3)) →
    ∃ (v0 : (c : Dev Cert.KernelAdamSIdeal.nD) → Buf (Elt Ideal) ((c.tc : Thread Cert.KernelAdamSIdeal.nD Cert.KernelAdamSIdeal.τ).loc Cert.KernelAdamSIdeal.main_v0_0)) (v1 : (c : Dev Cert.KernelAdamSIdeal.nD) → Buf (Elt Ideal) ((c.tc : Thread Cert.KernelAdamSIdeal.nD Cert.KernelAdamSIdeal.τ).loc Cert.KernelAdamSIdeal.main_v0_1)) (v2 : (c : Dev Cert.KernelAdamSIdeal.nD) → Buf (Elt Ideal) ((c.tc : Thread Cert.KernelAdamSIdeal.nD Cert.KernelAdamSIdeal.τ).loc Cert.KernelAdamSIdeal.main_v0_2)),
      θ_run (Cert.KernelAdamSIdeal.defs (F := Ideal)) (onTc (τ := Cert.KernelAdamSIdeal.τ) (Cert.KernelAdamSIdeal.main (F := Ideal))) ⟨m, fun _ => 0, g⟩ (fun r => ∀ c : Dev Cert.KernelAdamSIdeal.nD,
          r.2.mem ((c.tc : Thread Cert.KernelAdamSIdeal.nD Cert.KernelAdamSIdeal.τ).loc Cert.KernelAdamSIdeal.main_v0_0) = v0 c
          ∧ r.2.mem ((c.tc : Thread Cert.KernelAdamSIdeal.nD Cert.KernelAdamSIdeal.τ).loc Cert.KernelAdamSIdeal.main_v0_1) = v1 c
          ∧ r.2.mem ((c.tc : Thread Cert.KernelAdamSIdeal.nD Cert.KernelAdamSIdeal.τ).loc Cert.KernelAdamSIdeal.main_v0_2) = v2 c
          ∧ r.2.mem ((c.tc : Thread Cert.KernelAdamSIdeal.nD Cert.KernelAdamSIdeal.τ).loc Cert.KernelAdamSIdeal.main_arg0) = m ((c.tc : Thread Cert.KernelAdamSIdeal.nD Cert.KernelAdamSIdeal.τ).loc Cert.KernelAdamSIdeal.main_arg0)
          ∧ r.2.mem ((c.tc : Thread Cert.KernelAdamSIdeal.nD Cert.KernelAdamSIdeal.τ).loc Cert.KernelAdamSIdeal.main_arg1) = m ((c.tc : Thread Cert.KernelAdamSIdeal.nD Cert.KernelAdamSIdeal.τ).loc Cert.KernelAdamSIdeal.main_arg1)
          ∧ r.2.mem ((c.tc : Thread Cert.KernelAdamSIdeal.nD Cert.KernelAdamSIdeal.τ).loc Cert.KernelAdamSIdeal.main_arg2) = m ((c.tc : Thread Cert.KernelAdamSIdeal.nD Cert.KernelAdamSIdeal.τ).loc Cert.KernelAdamSIdeal.main_arg2)
          ∧ r.2.mem ((c.tc : Thread Cert.KernelAdamSIdeal.nD Cert.KernelAdamSIdeal.τ).loc Cert.KernelAdamSIdeal.main_arg3) = m ((c.tc : Thread Cert.KernelAdamSIdeal.nD Cert.KernelAdamSIdeal.τ).loc Cert.KernelAdamSIdeal.main_arg3))
      ∧ θ_run (Cert.ReferenceAdamSIdeal.defs (F := Ideal)) (onTc (τ := Cert.ReferenceAdamSIdeal.τ) (Cert.ReferenceAdamSIdeal.main (F := Ideal))) ⟨m', fun _ => 0, g'⟩ (fun r => ∀ c : Dev Cert.ReferenceAdamSIdeal.nD,
          r.2.mem ((c.tc : Thread Cert.ReferenceAdamSIdeal.nD Cert.ReferenceAdamSIdeal.τ).loc Cert.ReferenceAdamSIdeal.main_v23) = v0 c
          ∧ r.2.mem ((c.tc : Thread Cert.ReferenceAdamSIdeal.nD Cert.ReferenceAdamSIdeal.τ).loc Cert.ReferenceAdamSIdeal.main_v4) = v1 c
          ∧ r.2.mem ((c.tc : Thread Cert.ReferenceAdamSIdeal.nD Cert.ReferenceAdamSIdeal.τ).loc Cert.ReferenceAdamSIdeal.main_v10) = v2 c
          ∧ r.2.mem ((c.tc : Thread Cert.ReferenceAdamSIdeal.nD Cert.ReferenceAdamSIdeal.τ).loc Cert.ReferenceAdamSIdeal.main_arg0) = m' ((c.tc : Thread Cert.ReferenceAdamSIdeal.nD Cert.ReferenceAdamSIdeal.τ).loc Cert.ReferenceAdamSIdeal.main_arg0)
          ∧ r.2.mem ((c.tc : Thread Cert.ReferenceAdamSIdeal.nD Cert.ReferenceAdamSIdeal.τ).loc Cert.ReferenceAdamSIdeal.main_arg1) = m' ((c.tc : Thread Cert.ReferenceAdamSIdeal.nD Cert.ReferenceAdamSIdeal.τ).loc Cert.ReferenceAdamSIdeal.main_arg1)
          ∧ r.2.mem ((c.tc : Thread Cert.ReferenceAdamSIdeal.nD Cert.ReferenceAdamSIdeal.τ).loc Cert.ReferenceAdamSIdeal.main_arg2) = m' ((c.tc : Thread Cert.ReferenceAdamSIdeal.nD Cert.ReferenceAdamSIdeal.τ).loc Cert.ReferenceAdamSIdeal.main_arg2)
          ∧ r.2.mem ((c.tc : Thread Cert.ReferenceAdamSIdeal.nD Cert.ReferenceAdamSIdeal.τ).loc Cert.ReferenceAdamSIdeal.main_arg3) = m' ((c.tc : Thread Cert.ReferenceAdamSIdeal.nD Cert.ReferenceAdamSIdeal.τ).loc Cert.ReferenceAdamSIdeal.main_arg3))

def preserves_KernelAdamF_KernelAdamFIdeal : Prop :=
  True

def algebraic_KernelAdamFIdeal_ReferenceAdamFIdeal [hKernelAdamFIdeal : Cert.KernelAdamFIdeal.Facts] [hReferenceAdamFIdeal : Cert.ReferenceAdamFIdeal.Facts] : Prop :=
  ∀ (m : (ℓ : Loc Cert.KernelAdamFIdeal.nD Cert.KernelAdamFIdeal.τ Cert.KernelAdamFIdeal.sig) → Buf (Elt Ideal) ℓ) (g : Dev Cert.KernelAdamFIdeal.nD → PrngReg)
    (m' : (ℓ : Loc Cert.ReferenceAdamFIdeal.nD Cert.ReferenceAdamFIdeal.τ Cert.ReferenceAdamFIdeal.sig) → Buf (Elt Ideal) ℓ) (g' : Dev Cert.ReferenceAdamFIdeal.nD → PrngReg), Pre_KernelAdamFIdeal m →
    (∀ c : Dev Cert.KernelAdamFIdeal.nD,
      m' ((c.tc : Thread Cert.ReferenceAdamFIdeal.nD Cert.ReferenceAdamFIdeal.τ).loc Cert.ReferenceAdamFIdeal.main_arg0) = m ((c.tc : Thread Cert.KernelAdamFIdeal.nD Cert.KernelAdamFIdeal.τ).loc Cert.KernelAdamFIdeal.main_arg0)
      ∧ m' ((c.tc : Thread Cert.ReferenceAdamFIdeal.nD Cert.ReferenceAdamFIdeal.τ).loc Cert.ReferenceAdamFIdeal.main_arg1) = m ((c.tc : Thread Cert.KernelAdamFIdeal.nD Cert.KernelAdamFIdeal.τ).loc Cert.KernelAdamFIdeal.main_arg1)
      ∧ m' ((c.tc : Thread Cert.ReferenceAdamFIdeal.nD Cert.ReferenceAdamFIdeal.τ).loc Cert.ReferenceAdamFIdeal.main_arg2) = m ((c.tc : Thread Cert.KernelAdamFIdeal.nD Cert.KernelAdamFIdeal.τ).loc Cert.KernelAdamFIdeal.main_arg2)
      ∧ m' ((c.tc : Thread Cert.ReferenceAdamFIdeal.nD Cert.ReferenceAdamFIdeal.τ).loc Cert.ReferenceAdamFIdeal.main_arg3) = m ((c.tc : Thread Cert.KernelAdamFIdeal.nD Cert.KernelAdamFIdeal.τ).loc Cert.KernelAdamFIdeal.main_arg3)) →
    ∃ (v0 : (c : Dev Cert.KernelAdamFIdeal.nD) → Buf (Elt Ideal) ((c.tc : Thread Cert.KernelAdamFIdeal.nD Cert.KernelAdamFIdeal.τ).loc Cert.KernelAdamFIdeal.main_v0_0)) (v1 : (c : Dev Cert.KernelAdamFIdeal.nD) → Buf (Elt Ideal) ((c.tc : Thread Cert.KernelAdamFIdeal.nD Cert.KernelAdamFIdeal.τ).loc Cert.KernelAdamFIdeal.main_v0_1)) (v2 : (c : Dev Cert.KernelAdamFIdeal.nD) → Buf (Elt Ideal) ((c.tc : Thread Cert.KernelAdamFIdeal.nD Cert.KernelAdamFIdeal.τ).loc Cert.KernelAdamFIdeal.main_v0_2)) (v3 : (c : Dev Cert.KernelAdamFIdeal.nD) → Buf (Elt Ideal) ((c.tc : Thread Cert.KernelAdamFIdeal.nD Cert.KernelAdamFIdeal.τ).loc Cert.KernelAdamFIdeal.main_v0_3)),
      θ_run (Cert.KernelAdamFIdeal.defs (F := Ideal)) (onTc (τ := Cert.KernelAdamFIdeal.τ) (Cert.KernelAdamFIdeal.main (F := Ideal))) ⟨m, fun _ => 0, g⟩ (fun r => ∀ c : Dev Cert.KernelAdamFIdeal.nD,
          r.2.mem ((c.tc : Thread Cert.KernelAdamFIdeal.nD Cert.KernelAdamFIdeal.τ).loc Cert.KernelAdamFIdeal.main_v0_0) = v0 c
          ∧ r.2.mem ((c.tc : Thread Cert.KernelAdamFIdeal.nD Cert.KernelAdamFIdeal.τ).loc Cert.KernelAdamFIdeal.main_v0_1) = v1 c
          ∧ r.2.mem ((c.tc : Thread Cert.KernelAdamFIdeal.nD Cert.KernelAdamFIdeal.τ).loc Cert.KernelAdamFIdeal.main_v0_2) = v2 c
          ∧ r.2.mem ((c.tc : Thread Cert.KernelAdamFIdeal.nD Cert.KernelAdamFIdeal.τ).loc Cert.KernelAdamFIdeal.main_v0_3) = v3 c
          ∧ r.2.mem ((c.tc : Thread Cert.KernelAdamFIdeal.nD Cert.KernelAdamFIdeal.τ).loc Cert.KernelAdamFIdeal.main_arg0) = m ((c.tc : Thread Cert.KernelAdamFIdeal.nD Cert.KernelAdamFIdeal.τ).loc Cert.KernelAdamFIdeal.main_arg0)
          ∧ r.2.mem ((c.tc : Thread Cert.KernelAdamFIdeal.nD Cert.KernelAdamFIdeal.τ).loc Cert.KernelAdamFIdeal.main_arg1) = m ((c.tc : Thread Cert.KernelAdamFIdeal.nD Cert.KernelAdamFIdeal.τ).loc Cert.KernelAdamFIdeal.main_arg1)
          ∧ r.2.mem ((c.tc : Thread Cert.KernelAdamFIdeal.nD Cert.KernelAdamFIdeal.τ).loc Cert.KernelAdamFIdeal.main_arg2) = m ((c.tc : Thread Cert.KernelAdamFIdeal.nD Cert.KernelAdamFIdeal.τ).loc Cert.KernelAdamFIdeal.main_arg2)
          ∧ r.2.mem ((c.tc : Thread Cert.KernelAdamFIdeal.nD Cert.KernelAdamFIdeal.τ).loc Cert.KernelAdamFIdeal.main_arg3) = m ((c.tc : Thread Cert.KernelAdamFIdeal.nD Cert.KernelAdamFIdeal.τ).loc Cert.KernelAdamFIdeal.main_arg3))
      ∧ θ_run (Cert.ReferenceAdamFIdeal.defs (F := Ideal)) (onTc (τ := Cert.ReferenceAdamFIdeal.τ) (Cert.ReferenceAdamFIdeal.main (F := Ideal))) ⟨m', fun _ => 0, g'⟩ (fun r => ∀ c : Dev Cert.ReferenceAdamFIdeal.nD,
          r.2.mem ((c.tc : Thread Cert.ReferenceAdamFIdeal.nD Cert.ReferenceAdamFIdeal.τ).loc Cert.ReferenceAdamFIdeal.main_v1) = v0 c
          ∧ r.2.mem ((c.tc : Thread Cert.ReferenceAdamFIdeal.nD Cert.ReferenceAdamFIdeal.τ).loc Cert.ReferenceAdamFIdeal.main_v25) = v1 c
          ∧ r.2.mem ((c.tc : Thread Cert.ReferenceAdamFIdeal.nD Cert.ReferenceAdamFIdeal.τ).loc Cert.ReferenceAdamFIdeal.main_v6) = v2 c
          ∧ r.2.mem ((c.tc : Thread Cert.ReferenceAdamFIdeal.nD Cert.ReferenceAdamFIdeal.τ).loc Cert.ReferenceAdamFIdeal.main_v12) = v3 c
          ∧ r.2.mem ((c.tc : Thread Cert.ReferenceAdamFIdeal.nD Cert.ReferenceAdamFIdeal.τ).loc Cert.ReferenceAdamFIdeal.main_arg0) = m' ((c.tc : Thread Cert.ReferenceAdamFIdeal.nD Cert.ReferenceAdamFIdeal.τ).loc Cert.ReferenceAdamFIdeal.main_arg0)
          ∧ r.2.mem ((c.tc : Thread Cert.ReferenceAdamFIdeal.nD Cert.ReferenceAdamFIdeal.τ).loc Cert.ReferenceAdamFIdeal.main_arg1) = m' ((c.tc : Thread Cert.ReferenceAdamFIdeal.nD Cert.ReferenceAdamFIdeal.τ).loc Cert.ReferenceAdamFIdeal.main_arg1)
          ∧ r.2.mem ((c.tc : Thread Cert.ReferenceAdamFIdeal.nD Cert.ReferenceAdamFIdeal.τ).loc Cert.ReferenceAdamFIdeal.main_arg2) = m' ((c.tc : Thread Cert.ReferenceAdamFIdeal.nD Cert.ReferenceAdamFIdeal.τ).loc Cert.ReferenceAdamFIdeal.main_arg2)
          ∧ r.2.mem ((c.tc : Thread Cert.ReferenceAdamFIdeal.nD Cert.ReferenceAdamFIdeal.τ).loc Cert.ReferenceAdamFIdeal.main_arg3) = m' ((c.tc : Thread Cert.ReferenceAdamFIdeal.nD Cert.ReferenceAdamFIdeal.τ).loc Cert.ReferenceAdamFIdeal.main_arg3))

def preserves_KernelAdamI_KernelAdamIIdeal : Prop :=
  True

def algebraic_KernelAdamIIdeal_ReferenceAdamIIdeal [hKernelAdamIIdeal : Cert.KernelAdamIIdeal.Facts] [hReferenceAdamIIdeal : Cert.ReferenceAdamIIdeal.Facts] : Prop :=
  ∀ (m : (ℓ : Loc Cert.KernelAdamIIdeal.nD Cert.KernelAdamIIdeal.τ Cert.KernelAdamIIdeal.sig) → Buf (Elt Ideal) ℓ) (g : Dev Cert.KernelAdamIIdeal.nD → PrngReg)
    (m' : (ℓ : Loc Cert.ReferenceAdamIIdeal.nD Cert.ReferenceAdamIIdeal.τ Cert.ReferenceAdamIIdeal.sig) → Buf (Elt Ideal) ℓ) (g' : Dev Cert.ReferenceAdamIIdeal.nD → PrngReg), Pre_KernelAdamIIdeal m →
    (∀ c : Dev Cert.KernelAdamIIdeal.nD,
      m' ((c.tc : Thread Cert.ReferenceAdamIIdeal.nD Cert.ReferenceAdamIIdeal.τ).loc Cert.ReferenceAdamIIdeal.main_arg0) = m ((c.tc : Thread Cert.KernelAdamIIdeal.nD Cert.KernelAdamIIdeal.τ).loc Cert.KernelAdamIIdeal.main_arg0)
      ∧ m' ((c.tc : Thread Cert.ReferenceAdamIIdeal.nD Cert.ReferenceAdamIIdeal.τ).loc Cert.ReferenceAdamIIdeal.main_arg1) = m ((c.tc : Thread Cert.KernelAdamIIdeal.nD Cert.KernelAdamIIdeal.τ).loc Cert.KernelAdamIIdeal.main_arg1)
      ∧ m' ((c.tc : Thread Cert.ReferenceAdamIIdeal.nD Cert.ReferenceAdamIIdeal.τ).loc Cert.ReferenceAdamIIdeal.main_arg2) = m ((c.tc : Thread Cert.KernelAdamIIdeal.nD Cert.KernelAdamIIdeal.τ).loc Cert.KernelAdamIIdeal.main_arg2)
      ∧ m' ((c.tc : Thread Cert.ReferenceAdamIIdeal.nD Cert.ReferenceAdamIIdeal.τ).loc Cert.ReferenceAdamIIdeal.main_arg3) = m ((c.tc : Thread Cert.KernelAdamIIdeal.nD Cert.KernelAdamIIdeal.τ).loc Cert.KernelAdamIIdeal.main_arg3)) →
    ∃ (v0 : (c : Dev Cert.KernelAdamIIdeal.nD) → Buf (Elt Ideal) ((c.tc : Thread Cert.KernelAdamIIdeal.nD Cert.KernelAdamIIdeal.τ).loc Cert.KernelAdamIIdeal.main_v0_0)) (v1 : (c : Dev Cert.KernelAdamIIdeal.nD) → Buf (Elt Ideal) ((c.tc : Thread Cert.KernelAdamIIdeal.nD Cert.KernelAdamIIdeal.τ).loc Cert.KernelAdamIIdeal.main_v0_1)) (v2 : (c : Dev Cert.KernelAdamIIdeal.nD) → Buf (Elt Ideal) ((c.tc : Thread Cert.KernelAdamIIdeal.nD Cert.KernelAdamIIdeal.τ).loc Cert.KernelAdamIIdeal.main_v0_2)) (v3 : (c : Dev Cert.KernelAdamIIdeal.nD) → Buf (Elt Ideal) ((c.tc : Thread Cert.KernelAdamIIdeal.nD Cert.KernelAdamIIdeal.τ).loc Cert.KernelAdamIIdeal.main_v0_3)),
      θ_run (Cert.KernelAdamIIdeal.defs (F := Ideal)) (onTc (τ := Cert.KernelAdamIIdeal.τ) (Cert.KernelAdamIIdeal.main (F := Ideal))) ⟨m, fun _ => 0, g⟩ (fun r => ∀ c : Dev Cert.KernelAdamIIdeal.nD,
          r.2.mem ((c.tc : Thread Cert.KernelAdamIIdeal.nD Cert.KernelAdamIIdeal.τ).loc Cert.KernelAdamIIdeal.main_v0_0) = v0 c
          ∧ r.2.mem ((c.tc : Thread Cert.KernelAdamIIdeal.nD Cert.KernelAdamIIdeal.τ).loc Cert.KernelAdamIIdeal.main_v0_1) = v1 c
          ∧ r.2.mem ((c.tc : Thread Cert.KernelAdamIIdeal.nD Cert.KernelAdamIIdeal.τ).loc Cert.KernelAdamIIdeal.main_v0_2) = v2 c
          ∧ r.2.mem ((c.tc : Thread Cert.KernelAdamIIdeal.nD Cert.KernelAdamIIdeal.τ).loc Cert.KernelAdamIIdeal.main_v0_3) = v3 c
          ∧ r.2.mem ((c.tc : Thread Cert.KernelAdamIIdeal.nD Cert.KernelAdamIIdeal.τ).loc Cert.KernelAdamIIdeal.main_arg0) = m ((c.tc : Thread Cert.KernelAdamIIdeal.nD Cert.KernelAdamIIdeal.τ).loc Cert.KernelAdamIIdeal.main_arg0)
          ∧ r.2.mem ((c.tc : Thread Cert.KernelAdamIIdeal.nD Cert.KernelAdamIIdeal.τ).loc Cert.KernelAdamIIdeal.main_arg1) = m ((c.tc : Thread Cert.KernelAdamIIdeal.nD Cert.KernelAdamIIdeal.τ).loc Cert.KernelAdamIIdeal.main_arg1)
          ∧ r.2.mem ((c.tc : Thread Cert.KernelAdamIIdeal.nD Cert.KernelAdamIIdeal.τ).loc Cert.KernelAdamIIdeal.main_arg2) = m ((c.tc : Thread Cert.KernelAdamIIdeal.nD Cert.KernelAdamIIdeal.τ).loc Cert.KernelAdamIIdeal.main_arg2)
          ∧ r.2.mem ((c.tc : Thread Cert.KernelAdamIIdeal.nD Cert.KernelAdamIIdeal.τ).loc Cert.KernelAdamIIdeal.main_arg3) = m ((c.tc : Thread Cert.KernelAdamIIdeal.nD Cert.KernelAdamIIdeal.τ).loc Cert.KernelAdamIIdeal.main_arg3))
      ∧ θ_run (Cert.ReferenceAdamIIdeal.defs (F := Ideal)) (onTc (τ := Cert.ReferenceAdamIIdeal.τ) (Cert.ReferenceAdamIIdeal.main (F := Ideal))) ⟨m', fun _ => 0, g'⟩ (fun r => ∀ c : Dev Cert.ReferenceAdamIIdeal.nD,
          r.2.mem ((c.tc : Thread Cert.ReferenceAdamIIdeal.nD Cert.ReferenceAdamIIdeal.τ).loc Cert.ReferenceAdamIIdeal.main_v1) = v0 c
          ∧ r.2.mem ((c.tc : Thread Cert.ReferenceAdamIIdeal.nD Cert.ReferenceAdamIIdeal.τ).loc Cert.ReferenceAdamIIdeal.main_v25) = v1 c
          ∧ r.2.mem ((c.tc : Thread Cert.ReferenceAdamIIdeal.nD Cert.ReferenceAdamIIdeal.τ).loc Cert.ReferenceAdamIIdeal.main_v6) = v2 c
          ∧ r.2.mem ((c.tc : Thread Cert.ReferenceAdamIIdeal.nD Cert.ReferenceAdamIIdeal.τ).loc Cert.ReferenceAdamIIdeal.main_v12) = v3 c
          ∧ r.2.mem ((c.tc : Thread Cert.ReferenceAdamIIdeal.nD Cert.ReferenceAdamIIdeal.τ).loc Cert.ReferenceAdamIIdeal.main_arg0) = m' ((c.tc : Thread Cert.ReferenceAdamIIdeal.nD Cert.ReferenceAdamIIdeal.τ).loc Cert.ReferenceAdamIIdeal.main_arg0)
          ∧ r.2.mem ((c.tc : Thread Cert.ReferenceAdamIIdeal.nD Cert.ReferenceAdamIIdeal.τ).loc Cert.ReferenceAdamIIdeal.main_arg1) = m' ((c.tc : Thread Cert.ReferenceAdamIIdeal.nD Cert.ReferenceAdamIIdeal.τ).loc Cert.ReferenceAdamIIdeal.main_arg1)
          ∧ r.2.mem ((c.tc : Thread Cert.ReferenceAdamIIdeal.nD Cert.ReferenceAdamIIdeal.τ).loc Cert.ReferenceAdamIIdeal.main_arg2) = m' ((c.tc : Thread Cert.ReferenceAdamIIdeal.nD Cert.ReferenceAdamIIdeal.τ).loc Cert.ReferenceAdamIIdeal.main_arg2)
          ∧ r.2.mem ((c.tc : Thread Cert.ReferenceAdamIIdeal.nD Cert.ReferenceAdamIIdeal.τ).loc Cert.ReferenceAdamIIdeal.main_arg3) = m' ((c.tc : Thread Cert.ReferenceAdamIIdeal.nD Cert.ReferenceAdamIIdeal.τ).loc Cert.ReferenceAdamIIdeal.main_arg3))

def preserves_KernelAdamO_KernelAdamOIdeal : Prop :=
  True

def algebraic_KernelAdamOIdeal_ReferenceAdamOIdeal [hKernelAdamOIdeal : Cert.KernelAdamOIdeal.Facts] [hReferenceAdamOIdeal : Cert.ReferenceAdamOIdeal.Facts] : Prop :=
  ∀ (m : (ℓ : Loc Cert.KernelAdamOIdeal.nD Cert.KernelAdamOIdeal.τ Cert.KernelAdamOIdeal.sig) → Buf (Elt Ideal) ℓ) (g : Dev Cert.KernelAdamOIdeal.nD → PrngReg)
    (m' : (ℓ : Loc Cert.ReferenceAdamOIdeal.nD Cert.ReferenceAdamOIdeal.τ Cert.ReferenceAdamOIdeal.sig) → Buf (Elt Ideal) ℓ) (g' : Dev Cert.ReferenceAdamOIdeal.nD → PrngReg), Pre_KernelAdamOIdeal m →
    (∀ c : Dev Cert.KernelAdamOIdeal.nD,
      m' ((c.tc : Thread Cert.ReferenceAdamOIdeal.nD Cert.ReferenceAdamOIdeal.τ).loc Cert.ReferenceAdamOIdeal.main_arg0) = m ((c.tc : Thread Cert.KernelAdamOIdeal.nD Cert.KernelAdamOIdeal.τ).loc Cert.KernelAdamOIdeal.main_arg0)
      ∧ m' ((c.tc : Thread Cert.ReferenceAdamOIdeal.nD Cert.ReferenceAdamOIdeal.τ).loc Cert.ReferenceAdamOIdeal.main_arg1) = m ((c.tc : Thread Cert.KernelAdamOIdeal.nD Cert.KernelAdamOIdeal.τ).loc Cert.KernelAdamOIdeal.main_arg1)
      ∧ m' ((c.tc : Thread Cert.ReferenceAdamOIdeal.nD Cert.ReferenceAdamOIdeal.τ).loc Cert.ReferenceAdamOIdeal.main_arg2) = m ((c.tc : Thread Cert.KernelAdamOIdeal.nD Cert.KernelAdamOIdeal.τ).loc Cert.KernelAdamOIdeal.main_arg2)
      ∧ m' ((c.tc : Thread Cert.ReferenceAdamOIdeal.nD Cert.ReferenceAdamOIdeal.τ).loc Cert.ReferenceAdamOIdeal.main_arg3) = m ((c.tc : Thread Cert.KernelAdamOIdeal.nD Cert.KernelAdamOIdeal.τ).loc Cert.KernelAdamOIdeal.main_arg3)) →
    ∃ (v0 : (c : Dev Cert.KernelAdamOIdeal.nD) → Buf (Elt Ideal) ((c.tc : Thread Cert.KernelAdamOIdeal.nD Cert.KernelAdamOIdeal.τ).loc Cert.KernelAdamOIdeal.main_v0_0)) (v1 : (c : Dev Cert.KernelAdamOIdeal.nD) → Buf (Elt Ideal) ((c.tc : Thread Cert.KernelAdamOIdeal.nD Cert.KernelAdamOIdeal.τ).loc Cert.KernelAdamOIdeal.main_v0_1)) (v2 : (c : Dev Cert.KernelAdamOIdeal.nD) → Buf (Elt Ideal) ((c.tc : Thread Cert.KernelAdamOIdeal.nD Cert.KernelAdamOIdeal.τ).loc Cert.KernelAdamOIdeal.main_v0_2)) (v3 : (c : Dev Cert.KernelAdamOIdeal.nD) → Buf (Elt Ideal) ((c.tc : Thread Cert.KernelAdamOIdeal.nD Cert.KernelAdamOIdeal.τ).loc Cert.KernelAdamOIdeal.main_v0_3)),
      θ_run (Cert.KernelAdamOIdeal.defs (F := Ideal)) (onTc (τ := Cert.KernelAdamOIdeal.τ) (Cert.KernelAdamOIdeal.main (F := Ideal))) ⟨m, fun _ => 0, g⟩ (fun r => ∀ c : Dev Cert.KernelAdamOIdeal.nD,
          r.2.mem ((c.tc : Thread Cert.KernelAdamOIdeal.nD Cert.KernelAdamOIdeal.τ).loc Cert.KernelAdamOIdeal.main_v0_0) = v0 c
          ∧ r.2.mem ((c.tc : Thread Cert.KernelAdamOIdeal.nD Cert.KernelAdamOIdeal.τ).loc Cert.KernelAdamOIdeal.main_v0_1) = v1 c
          ∧ r.2.mem ((c.tc : Thread Cert.KernelAdamOIdeal.nD Cert.KernelAdamOIdeal.τ).loc Cert.KernelAdamOIdeal.main_v0_2) = v2 c
          ∧ r.2.mem ((c.tc : Thread Cert.KernelAdamOIdeal.nD Cert.KernelAdamOIdeal.τ).loc Cert.KernelAdamOIdeal.main_v0_3) = v3 c
          ∧ r.2.mem ((c.tc : Thread Cert.KernelAdamOIdeal.nD Cert.KernelAdamOIdeal.τ).loc Cert.KernelAdamOIdeal.main_arg0) = m ((c.tc : Thread Cert.KernelAdamOIdeal.nD Cert.KernelAdamOIdeal.τ).loc Cert.KernelAdamOIdeal.main_arg0)
          ∧ r.2.mem ((c.tc : Thread Cert.KernelAdamOIdeal.nD Cert.KernelAdamOIdeal.τ).loc Cert.KernelAdamOIdeal.main_arg1) = m ((c.tc : Thread Cert.KernelAdamOIdeal.nD Cert.KernelAdamOIdeal.τ).loc Cert.KernelAdamOIdeal.main_arg1)
          ∧ r.2.mem ((c.tc : Thread Cert.KernelAdamOIdeal.nD Cert.KernelAdamOIdeal.τ).loc Cert.KernelAdamOIdeal.main_arg2) = m ((c.tc : Thread Cert.KernelAdamOIdeal.nD Cert.KernelAdamOIdeal.τ).loc Cert.KernelAdamOIdeal.main_arg2)
          ∧ r.2.mem ((c.tc : Thread Cert.KernelAdamOIdeal.nD Cert.KernelAdamOIdeal.τ).loc Cert.KernelAdamOIdeal.main_arg3) = m ((c.tc : Thread Cert.KernelAdamOIdeal.nD Cert.KernelAdamOIdeal.τ).loc Cert.KernelAdamOIdeal.main_arg3))
      ∧ θ_run (Cert.ReferenceAdamOIdeal.defs (F := Ideal)) (onTc (τ := Cert.ReferenceAdamOIdeal.τ) (Cert.ReferenceAdamOIdeal.main (F := Ideal))) ⟨m', fun _ => 0, g'⟩ (fun r => ∀ c : Dev Cert.ReferenceAdamOIdeal.nD,
          r.2.mem ((c.tc : Thread Cert.ReferenceAdamOIdeal.nD Cert.ReferenceAdamOIdeal.τ).loc Cert.ReferenceAdamOIdeal.main_v1) = v0 c
          ∧ r.2.mem ((c.tc : Thread Cert.ReferenceAdamOIdeal.nD Cert.ReferenceAdamOIdeal.τ).loc Cert.ReferenceAdamOIdeal.main_v25) = v1 c
          ∧ r.2.mem ((c.tc : Thread Cert.ReferenceAdamOIdeal.nD Cert.ReferenceAdamOIdeal.τ).loc Cert.ReferenceAdamOIdeal.main_v6) = v2 c
          ∧ r.2.mem ((c.tc : Thread Cert.ReferenceAdamOIdeal.nD Cert.ReferenceAdamOIdeal.τ).loc Cert.ReferenceAdamOIdeal.main_v12) = v3 c
          ∧ r.2.mem ((c.tc : Thread Cert.ReferenceAdamOIdeal.nD Cert.ReferenceAdamOIdeal.τ).loc Cert.ReferenceAdamOIdeal.main_arg0) = m' ((c.tc : Thread Cert.ReferenceAdamOIdeal.nD Cert.ReferenceAdamOIdeal.τ).loc Cert.ReferenceAdamOIdeal.main_arg0)
          ∧ r.2.mem ((c.tc : Thread Cert.ReferenceAdamOIdeal.nD Cert.ReferenceAdamOIdeal.τ).loc Cert.ReferenceAdamOIdeal.main_arg1) = m' ((c.tc : Thread Cert.ReferenceAdamOIdeal.nD Cert.ReferenceAdamOIdeal.τ).loc Cert.ReferenceAdamOIdeal.main_arg1)
          ∧ r.2.mem ((c.tc : Thread Cert.ReferenceAdamOIdeal.nD Cert.ReferenceAdamOIdeal.τ).loc Cert.ReferenceAdamOIdeal.main_arg2) = m' ((c.tc : Thread Cert.ReferenceAdamOIdeal.nD Cert.ReferenceAdamOIdeal.τ).loc Cert.ReferenceAdamOIdeal.main_arg2)
          ∧ r.2.mem ((c.tc : Thread Cert.ReferenceAdamOIdeal.nD Cert.ReferenceAdamOIdeal.τ).loc Cert.ReferenceAdamOIdeal.main_arg3) = m' ((c.tc : Thread Cert.ReferenceAdamOIdeal.nD Cert.ReferenceAdamOIdeal.τ).loc Cert.ReferenceAdamOIdeal.main_arg3))

def preserves_KernelAdamB_KernelAdamBIdeal : Prop :=
  True

def algebraic_KernelAdamBIdeal_ReferenceAdamBIdeal [hKernelAdamBIdeal : Cert.KernelAdamBIdeal.Facts] [hReferenceAdamBIdeal : Cert.ReferenceAdamBIdeal.Facts] : Prop :=
  ∀ (m : (ℓ : Loc Cert.KernelAdamBIdeal.nD Cert.KernelAdamBIdeal.τ Cert.KernelAdamBIdeal.sig) → Buf (Elt Ideal) ℓ) (g : Dev Cert.KernelAdamBIdeal.nD → PrngReg)
    (m' : (ℓ : Loc Cert.ReferenceAdamBIdeal.nD Cert.ReferenceAdamBIdeal.τ Cert.ReferenceAdamBIdeal.sig) → Buf (Elt Ideal) ℓ) (g' : Dev Cert.ReferenceAdamBIdeal.nD → PrngReg), Pre_KernelAdamBIdeal m →
    (∀ c : Dev Cert.KernelAdamBIdeal.nD,
      m' ((c.tc : Thread Cert.ReferenceAdamBIdeal.nD Cert.ReferenceAdamBIdeal.τ).loc Cert.ReferenceAdamBIdeal.main_arg0) = m ((c.tc : Thread Cert.KernelAdamBIdeal.nD Cert.KernelAdamBIdeal.τ).loc Cert.KernelAdamBIdeal.main_arg0)
      ∧ m' ((c.tc : Thread Cert.ReferenceAdamBIdeal.nD Cert.ReferenceAdamBIdeal.τ).loc Cert.ReferenceAdamBIdeal.main_arg1) = m ((c.tc : Thread Cert.KernelAdamBIdeal.nD Cert.KernelAdamBIdeal.τ).loc Cert.KernelAdamBIdeal.main_arg1)
      ∧ m' ((c.tc : Thread Cert.ReferenceAdamBIdeal.nD Cert.ReferenceAdamBIdeal.τ).loc Cert.ReferenceAdamBIdeal.main_arg2) = m ((c.tc : Thread Cert.KernelAdamBIdeal.nD Cert.KernelAdamBIdeal.τ).loc Cert.KernelAdamBIdeal.main_arg2)
      ∧ m' ((c.tc : Thread Cert.ReferenceAdamBIdeal.nD Cert.ReferenceAdamBIdeal.τ).loc Cert.ReferenceAdamBIdeal.main_arg3) = m ((c.tc : Thread Cert.KernelAdamBIdeal.nD Cert.KernelAdamBIdeal.τ).loc Cert.KernelAdamBIdeal.main_arg3)) →
    ∃ (v0 : (c : Dev Cert.KernelAdamBIdeal.nD) → Buf (Elt Ideal) ((c.tc : Thread Cert.KernelAdamBIdeal.nD Cert.KernelAdamBIdeal.τ).loc Cert.KernelAdamBIdeal.main_v0_0)) (v1 : (c : Dev Cert.KernelAdamBIdeal.nD) → Buf (Elt Ideal) ((c.tc : Thread Cert.KernelAdamBIdeal.nD Cert.KernelAdamBIdeal.τ).loc Cert.KernelAdamBIdeal.main_v0_1)) (v2 : (c : Dev Cert.KernelAdamBIdeal.nD) → Buf (Elt Ideal) ((c.tc : Thread Cert.KernelAdamBIdeal.nD Cert.KernelAdamBIdeal.τ).loc Cert.KernelAdamBIdeal.main_v0_2)) (v3 : (c : Dev Cert.KernelAdamBIdeal.nD) → Buf (Elt Ideal) ((c.tc : Thread Cert.KernelAdamBIdeal.nD Cert.KernelAdamBIdeal.τ).loc Cert.KernelAdamBIdeal.main_v0_3)),
      θ_run (Cert.KernelAdamBIdeal.defs (F := Ideal)) (onTc (τ := Cert.KernelAdamBIdeal.τ) (Cert.KernelAdamBIdeal.main (F := Ideal))) ⟨m, fun _ => 0, g⟩ (fun r => ∀ c : Dev Cert.KernelAdamBIdeal.nD,
          r.2.mem ((c.tc : Thread Cert.KernelAdamBIdeal.nD Cert.KernelAdamBIdeal.τ).loc Cert.KernelAdamBIdeal.main_v0_0) = v0 c
          ∧ r.2.mem ((c.tc : Thread Cert.KernelAdamBIdeal.nD Cert.KernelAdamBIdeal.τ).loc Cert.KernelAdamBIdeal.main_v0_1) = v1 c
          ∧ r.2.mem ((c.tc : Thread Cert.KernelAdamBIdeal.nD Cert.KernelAdamBIdeal.τ).loc Cert.KernelAdamBIdeal.main_v0_2) = v2 c
          ∧ r.2.mem ((c.tc : Thread Cert.KernelAdamBIdeal.nD Cert.KernelAdamBIdeal.τ).loc Cert.KernelAdamBIdeal.main_v0_3) = v3 c
          ∧ r.2.mem ((c.tc : Thread Cert.KernelAdamBIdeal.nD Cert.KernelAdamBIdeal.τ).loc Cert.KernelAdamBIdeal.main_arg0) = m ((c.tc : Thread Cert.KernelAdamBIdeal.nD Cert.KernelAdamBIdeal.τ).loc Cert.KernelAdamBIdeal.main_arg0)
          ∧ r.2.mem ((c.tc : Thread Cert.KernelAdamBIdeal.nD Cert.KernelAdamBIdeal.τ).loc Cert.KernelAdamBIdeal.main_arg1) = m ((c.tc : Thread Cert.KernelAdamBIdeal.nD Cert.KernelAdamBIdeal.τ).loc Cert.KernelAdamBIdeal.main_arg1)
          ∧ r.2.mem ((c.tc : Thread Cert.KernelAdamBIdeal.nD Cert.KernelAdamBIdeal.τ).loc Cert.KernelAdamBIdeal.main_arg2) = m ((c.tc : Thread Cert.KernelAdamBIdeal.nD Cert.KernelAdamBIdeal.τ).loc Cert.KernelAdamBIdeal.main_arg2)
          ∧ r.2.mem ((c.tc : Thread Cert.KernelAdamBIdeal.nD Cert.KernelAdamBIdeal.τ).loc Cert.KernelAdamBIdeal.main_arg3) = m ((c.tc : Thread Cert.KernelAdamBIdeal.nD Cert.KernelAdamBIdeal.τ).loc Cert.KernelAdamBIdeal.main_arg3))
      ∧ θ_run (Cert.ReferenceAdamBIdeal.defs (F := Ideal)) (onTc (τ := Cert.ReferenceAdamBIdeal.τ) (Cert.ReferenceAdamBIdeal.main (F := Ideal))) ⟨m', fun _ => 0, g'⟩ (fun r => ∀ c : Dev Cert.ReferenceAdamBIdeal.nD,
          r.2.mem ((c.tc : Thread Cert.ReferenceAdamBIdeal.nD Cert.ReferenceAdamBIdeal.τ).loc Cert.ReferenceAdamBIdeal.main_v1) = v0 c
          ∧ r.2.mem ((c.tc : Thread Cert.ReferenceAdamBIdeal.nD Cert.ReferenceAdamBIdeal.τ).loc Cert.ReferenceAdamBIdeal.main_v25) = v1 c
          ∧ r.2.mem ((c.tc : Thread Cert.ReferenceAdamBIdeal.nD Cert.ReferenceAdamBIdeal.τ).loc Cert.ReferenceAdamBIdeal.main_v6) = v2 c
          ∧ r.2.mem ((c.tc : Thread Cert.ReferenceAdamBIdeal.nD Cert.ReferenceAdamBIdeal.τ).loc Cert.ReferenceAdamBIdeal.main_v12) = v3 c
          ∧ r.2.mem ((c.tc : Thread Cert.ReferenceAdamBIdeal.nD Cert.ReferenceAdamBIdeal.τ).loc Cert.ReferenceAdamBIdeal.main_arg0) = m' ((c.tc : Thread Cert.ReferenceAdamBIdeal.nD Cert.ReferenceAdamBIdeal.τ).loc Cert.ReferenceAdamBIdeal.main_arg0)
          ∧ r.2.mem ((c.tc : Thread Cert.ReferenceAdamBIdeal.nD Cert.ReferenceAdamBIdeal.τ).loc Cert.ReferenceAdamBIdeal.main_arg1) = m' ((c.tc : Thread Cert.ReferenceAdamBIdeal.nD Cert.ReferenceAdamBIdeal.τ).loc Cert.ReferenceAdamBIdeal.main_arg1)
          ∧ r.2.mem ((c.tc : Thread Cert.ReferenceAdamBIdeal.nD Cert.ReferenceAdamBIdeal.τ).loc Cert.ReferenceAdamBIdeal.main_arg2) = m' ((c.tc : Thread Cert.ReferenceAdamBIdeal.nD Cert.ReferenceAdamBIdeal.τ).loc Cert.ReferenceAdamBIdeal.main_arg2)
          ∧ r.2.mem ((c.tc : Thread Cert.ReferenceAdamBIdeal.nD Cert.ReferenceAdamBIdeal.τ).loc Cert.ReferenceAdamBIdeal.main_arg3) = m' ((c.tc : Thread Cert.ReferenceAdamBIdeal.nD Cert.ReferenceAdamBIdeal.τ).loc Cert.ReferenceAdamBIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelAct : Cert.KernelAct.Facts) (hKernelActIdeal : Cert.KernelActIdeal.Facts) (hReferenceActIdeal : Cert.ReferenceActIdeal.Facts) (hKernelDownW : Cert.KernelDownW.Facts) (hKernelDownWIdeal : Cert.KernelDownWIdeal.Facts) (hReferenceDownWIdeal : Cert.ReferenceDownWIdeal.Facts) (hKernelUpW : Cert.KernelUpW.Facts) (hKernelUpWIdeal : Cert.KernelUpWIdeal.Facts) (hReferenceUpWIdeal : Cert.ReferenceUpWIdeal.Facts) (hKernelUpX : Cert.KernelUpX.Facts) (hKernelUpXIdeal : Cert.KernelUpXIdeal.Facts) (hReferenceUpXIdeal : Cert.ReferenceUpXIdeal.Facts) (hKernelProj : Cert.KernelProj.Facts) (hKernelProjIdeal : Cert.KernelProjIdeal.Facts) (hReferenceProjIdeal : Cert.ReferenceProjIdeal.Facts) (hKernelProjX : Cert.KernelProjX.Facts) (hKernelProjXIdeal : Cert.KernelProjXIdeal.Facts) (hReferenceProjXIdeal : Cert.ReferenceProjXIdeal.Facts) (hKernelMixX : Cert.KernelMixX.Facts) (hKernelMixXIdeal : Cert.KernelMixXIdeal.Facts) (hReferenceMixXIdeal : Cert.ReferenceMixXIdeal.Facts) (hKernelOutW : Cert.KernelOutW.Facts) (hKernelOutWIdeal : Cert.KernelOutWIdeal.Facts) (hReferenceOutWIdeal : Cert.ReferenceOutWIdeal.Facts) (hKernelBranchW : Cert.KernelBranchW.Facts) (hKernelBranchWIdeal : Cert.KernelBranchWIdeal.Facts) (hReferenceBranchWIdeal : Cert.ReferenceBranchWIdeal.Facts) (hKernelBranchX : Cert.KernelBranchX.Facts) (hKernelBranchXIdeal : Cert.KernelBranchXIdeal.Facts) (hReferenceBranchXIdeal : Cert.ReferenceBranchXIdeal.Facts) (hKernelOut : Cert.KernelOut.Facts) (hKernelOutIdeal : Cert.KernelOutIdeal.Facts) (hReferenceOutIdeal : Cert.ReferenceOutIdeal.Facts) (hKernelMix : Cert.KernelMix.Facts) (hKernelMixIdeal : Cert.KernelMixIdeal.Facts) (hReferenceMixIdeal : Cert.ReferenceMixIdeal.Facts) (hKernelFoxF : Cert.KernelFoxF.Facts) (hKernelFoxFIdeal : Cert.KernelFoxFIdeal.Facts) (hReferenceFoxFIdeal : Cert.ReferenceFoxFIdeal.Facts) (hKernelProjW : Cert.KernelProjW.Facts) (hKernelProjWIdeal : Cert.KernelProjWIdeal.Facts) (hReferenceProjWIdeal : Cert.ReferenceProjWIdeal.Facts) (hKernelNorm : Cert.KernelNorm.Facts) (hKernelNormIdeal : Cert.KernelNormIdeal.Facts) (hReferenceNormIdeal : Cert.ReferenceNormIdeal.Facts) (hKernelNormF : Cert.KernelNormF.Facts) (hKernelNormFIdeal : Cert.KernelNormFIdeal.Facts) (hReferenceNormFIdeal : Cert.ReferenceNormFIdeal.Facts) (hKernelLoss : Cert.KernelLoss.Facts) (hKernelLossIdeal : Cert.KernelLossIdeal.Facts) (hReferenceLossIdeal : Cert.ReferenceLossIdeal.Facts) (hKernelAdamS : Cert.KernelAdamS.Facts) (hKernelAdamSIdeal : Cert.KernelAdamSIdeal.Facts) (hReferenceAdamSIdeal : Cert.ReferenceAdamSIdeal.Facts) (hKernelAdamF : Cert.KernelAdamF.Facts) (hKernelAdamFIdeal : Cert.KernelAdamFIdeal.Facts) (hReferenceAdamFIdeal : Cert.ReferenceAdamFIdeal.Facts) (hKernelAdamI : Cert.KernelAdamI.Facts) (hKernelAdamIIdeal : Cert.KernelAdamIIdeal.Facts) (hReferenceAdamIIdeal : Cert.ReferenceAdamIIdeal.Facts) (hKernelAdamO : Cert.KernelAdamO.Facts) (hKernelAdamOIdeal : Cert.KernelAdamOIdeal.Facts) (hReferenceAdamOIdeal : Cert.ReferenceAdamOIdeal.Facts) (hKernelAdamB : Cert.KernelAdamB.Facts) (hKernelAdamBIdeal : Cert.KernelAdamBIdeal.Facts) (hReferenceAdamBIdeal : Cert.ReferenceAdamBIdeal.Facts) (hPre_finite : Cert.Pre_finite.Facts) (hPre_finite_act : Cert.Pre_finite_act.Facts) (hPre_finite_fox : Cert.Pre_finite_fox.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelAct (hKernelAct := hKernelAct)
    ∧ quiescent_KernelActIdeal (hKernelActIdeal := hKernelActIdeal)
    ∧ quiescent_KernelActIdeal_pre_finite_act (hKernelActIdeal := hKernelActIdeal) (hPre_finite_act := hPre_finite_act)
    ∧ quiescent_ReferenceActIdeal (hReferenceActIdeal := hReferenceActIdeal)
    ∧ quiescent_ReferenceActIdeal_pre_finite_act (hReferenceActIdeal := hReferenceActIdeal) (hPre_finite_act := hPre_finite_act)
    ∧ quiescent_KernelDownW (hKernelDownW := hKernelDownW)
    ∧ quiescent_KernelDownWIdeal (hKernelDownWIdeal := hKernelDownWIdeal)
    ∧ quiescent_ReferenceDownWIdeal (hReferenceDownWIdeal := hReferenceDownWIdeal)
    ∧ quiescent_KernelUpW (hKernelUpW := hKernelUpW)
    ∧ quiescent_KernelUpWIdeal (hKernelUpWIdeal := hKernelUpWIdeal)
    ∧ quiescent_ReferenceUpWIdeal (hReferenceUpWIdeal := hReferenceUpWIdeal)
    ∧ quiescent_KernelUpX (hKernelUpX := hKernelUpX)
    ∧ quiescent_KernelUpXIdeal (hKernelUpXIdeal := hKernelUpXIdeal)
    ∧ quiescent_ReferenceUpXIdeal (hReferenceUpXIdeal := hReferenceUpXIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelProjX (hKernelProjX := hKernelProjX)
    ∧ quiescent_KernelProjXIdeal (hKernelProjXIdeal := hKernelProjXIdeal)
    ∧ quiescent_ReferenceProjXIdeal (hReferenceProjXIdeal := hReferenceProjXIdeal)
    ∧ quiescent_KernelMixX (hKernelMixX := hKernelMixX)
    ∧ quiescent_KernelMixXIdeal (hKernelMixXIdeal := hKernelMixXIdeal)
    ∧ quiescent_ReferenceMixXIdeal (hReferenceMixXIdeal := hReferenceMixXIdeal)
    ∧ quiescent_KernelOutW (hKernelOutW := hKernelOutW)
    ∧ quiescent_KernelOutWIdeal (hKernelOutWIdeal := hKernelOutWIdeal)
    ∧ quiescent_ReferenceOutWIdeal (hReferenceOutWIdeal := hReferenceOutWIdeal)
    ∧ quiescent_KernelBranchW (hKernelBranchW := hKernelBranchW)
    ∧ quiescent_KernelBranchWIdeal (hKernelBranchWIdeal := hKernelBranchWIdeal)
    ∧ quiescent_ReferenceBranchWIdeal (hReferenceBranchWIdeal := hReferenceBranchWIdeal)
    ∧ quiescent_KernelBranchX (hKernelBranchX := hKernelBranchX)
    ∧ quiescent_KernelBranchXIdeal (hKernelBranchXIdeal := hKernelBranchXIdeal)
    ∧ quiescent_ReferenceBranchXIdeal (hReferenceBranchXIdeal := hReferenceBranchXIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelFoxF (hKernelFoxF := hKernelFoxF)
    ∧ quiescent_KernelFoxFIdeal (hKernelFoxFIdeal := hKernelFoxFIdeal)
    ∧ quiescent_KernelFoxFIdeal_pre_finite_fox (hKernelFoxFIdeal := hKernelFoxFIdeal) (hPre_finite_fox := hPre_finite_fox)
    ∧ quiescent_ReferenceFoxFIdeal (hReferenceFoxFIdeal := hReferenceFoxFIdeal)
    ∧ quiescent_ReferenceFoxFIdeal_pre_finite_fox (hReferenceFoxFIdeal := hReferenceFoxFIdeal) (hPre_finite_fox := hPre_finite_fox)
    ∧ quiescent_KernelProjW (hKernelProjW := hKernelProjW)
    ∧ quiescent_KernelProjWIdeal (hKernelProjWIdeal := hKernelProjWIdeal)
    ∧ quiescent_ReferenceProjWIdeal (hReferenceProjWIdeal := hReferenceProjWIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNormF (hKernelNormF := hKernelNormF)
    ∧ quiescent_KernelNormFIdeal (hKernelNormFIdeal := hKernelNormFIdeal)
    ∧ quiescent_ReferenceNormFIdeal (hReferenceNormFIdeal := hReferenceNormFIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelAdamS (hKernelAdamS := hKernelAdamS)
    ∧ quiescent_KernelAdamSIdeal (hKernelAdamSIdeal := hKernelAdamSIdeal)
    ∧ quiescent_ReferenceAdamSIdeal (hReferenceAdamSIdeal := hReferenceAdamSIdeal)
    ∧ quiescent_KernelAdamF (hKernelAdamF := hKernelAdamF)
    ∧ quiescent_KernelAdamFIdeal (hKernelAdamFIdeal := hKernelAdamFIdeal)
    ∧ quiescent_ReferenceAdamFIdeal (hReferenceAdamFIdeal := hReferenceAdamFIdeal)
    ∧ quiescent_KernelAdamI (hKernelAdamI := hKernelAdamI)
    ∧ quiescent_KernelAdamIIdeal (hKernelAdamIIdeal := hKernelAdamIIdeal)
    ∧ quiescent_ReferenceAdamIIdeal (hReferenceAdamIIdeal := hReferenceAdamIIdeal)
    ∧ quiescent_KernelAdamO (hKernelAdamO := hKernelAdamO)
    ∧ quiescent_KernelAdamOIdeal (hKernelAdamOIdeal := hKernelAdamOIdeal)
    ∧ quiescent_ReferenceAdamOIdeal (hReferenceAdamOIdeal := hReferenceAdamOIdeal)
    ∧ quiescent_KernelAdamB (hKernelAdamB := hKernelAdamB)
    ∧ quiescent_KernelAdamBIdeal (hKernelAdamBIdeal := hKernelAdamBIdeal)
    ∧ quiescent_ReferenceAdamBIdeal (hReferenceAdamBIdeal := hReferenceAdamBIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelAct_KernelActIdeal
    ∧ algebraic_KernelActIdeal_ReferenceActIdeal_pre_finite_act (hKernelActIdeal := hKernelActIdeal) (hReferenceActIdeal := hReferenceActIdeal) (hPre_finite_act := hPre_finite_act)
    ∧ preserves_KernelDownW_KernelDownWIdeal
    ∧ algebraic_KernelDownWIdeal_ReferenceDownWIdeal (hKernelDownWIdeal := hKernelDownWIdeal) (hReferenceDownWIdeal := hReferenceDownWIdeal)
    ∧ preserves_KernelUpW_KernelUpWIdeal
    ∧ algebraic_KernelUpWIdeal_ReferenceUpWIdeal (hKernelUpWIdeal := hKernelUpWIdeal) (hReferenceUpWIdeal := hReferenceUpWIdeal)
    ∧ preserves_KernelUpX_KernelUpXIdeal
    ∧ algebraic_KernelUpXIdeal_ReferenceUpXIdeal (hKernelUpXIdeal := hKernelUpXIdeal) (hReferenceUpXIdeal := hReferenceUpXIdeal)
    ∧ preserves_KernelProj_KernelProjIdeal
    ∧ algebraic_KernelProjIdeal_ReferenceProjIdeal (hKernelProjIdeal := hKernelProjIdeal) (hReferenceProjIdeal := hReferenceProjIdeal)
    ∧ preserves_KernelProjX_KernelProjXIdeal
    ∧ algebraic_KernelProjXIdeal_ReferenceProjXIdeal (hKernelProjXIdeal := hKernelProjXIdeal) (hReferenceProjXIdeal := hReferenceProjXIdeal)
    ∧ preserves_KernelMixX_KernelMixXIdeal
    ∧ algebraic_KernelMixXIdeal_ReferenceMixXIdeal (hKernelMixXIdeal := hKernelMixXIdeal) (hReferenceMixXIdeal := hReferenceMixXIdeal)
    ∧ preserves_KernelOutW_KernelOutWIdeal
    ∧ algebraic_KernelOutWIdeal_ReferenceOutWIdeal (hKernelOutWIdeal := hKernelOutWIdeal) (hReferenceOutWIdeal := hReferenceOutWIdeal)
    ∧ preserves_KernelBranchW_KernelBranchWIdeal
    ∧ algebraic_KernelBranchWIdeal_ReferenceBranchWIdeal (hKernelBranchWIdeal := hKernelBranchWIdeal) (hReferenceBranchWIdeal := hReferenceBranchWIdeal)
    ∧ preserves_KernelBranchX_KernelBranchXIdeal
    ∧ algebraic_KernelBranchXIdeal_ReferenceBranchXIdeal (hKernelBranchXIdeal := hKernelBranchXIdeal) (hReferenceBranchXIdeal := hReferenceBranchXIdeal)
    ∧ preserves_KernelOut_KernelOutIdeal
    ∧ algebraic_KernelOutIdeal_ReferenceOutIdeal (hKernelOutIdeal := hKernelOutIdeal) (hReferenceOutIdeal := hReferenceOutIdeal)
    ∧ preserves_KernelMix_KernelMixIdeal
    ∧ algebraic_KernelMixIdeal_ReferenceMixIdeal (hKernelMixIdeal := hKernelMixIdeal) (hReferenceMixIdeal := hReferenceMixIdeal)
    ∧ preserves_KernelFoxF_KernelFoxFIdeal
    ∧ algebraic_KernelFoxFIdeal_ReferenceFoxFIdeal_pre_finite_fox (hKernelFoxFIdeal := hKernelFoxFIdeal) (hReferenceFoxFIdeal := hReferenceFoxFIdeal) (hPre_finite_fox := hPre_finite_fox)
    ∧ preserves_KernelProjW_KernelProjWIdeal
    ∧ algebraic_KernelProjWIdeal_ReferenceProjWIdeal (hKernelProjWIdeal := hKernelProjWIdeal) (hReferenceProjWIdeal := hReferenceProjWIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNormF_KernelNormFIdeal
    ∧ algebraic_KernelNormFIdeal_ReferenceNormFIdeal (hKernelNormFIdeal := hKernelNormFIdeal) (hReferenceNormFIdeal := hReferenceNormFIdeal)
    ∧ preserves_KernelLoss_KernelLossIdeal
    ∧ algebraic_KernelLossIdeal_ReferenceLossIdeal (hKernelLossIdeal := hKernelLossIdeal) (hReferenceLossIdeal := hReferenceLossIdeal)
    ∧ preserves_KernelAdamS_KernelAdamSIdeal
    ∧ algebraic_KernelAdamSIdeal_ReferenceAdamSIdeal (hKernelAdamSIdeal := hKernelAdamSIdeal) (hReferenceAdamSIdeal := hReferenceAdamSIdeal)
    ∧ preserves_KernelAdamF_KernelAdamFIdeal
    ∧ algebraic_KernelAdamFIdeal_ReferenceAdamFIdeal (hKernelAdamFIdeal := hKernelAdamFIdeal) (hReferenceAdamFIdeal := hReferenceAdamFIdeal)
    ∧ preserves_KernelAdamI_KernelAdamIIdeal
    ∧ algebraic_KernelAdamIIdeal_ReferenceAdamIIdeal (hKernelAdamIIdeal := hKernelAdamIIdeal) (hReferenceAdamIIdeal := hReferenceAdamIIdeal)
    ∧ preserves_KernelAdamO_KernelAdamOIdeal
    ∧ algebraic_KernelAdamOIdeal_ReferenceAdamOIdeal (hKernelAdamOIdeal := hKernelAdamOIdeal) (hReferenceAdamOIdeal := hReferenceAdamOIdeal)
    ∧ preserves_KernelAdamB_KernelAdamBIdeal
    ∧ algebraic_KernelAdamBIdeal_ReferenceAdamBIdeal (hKernelAdamBIdeal := hKernelAdamBIdeal) (hReferenceAdamBIdeal := hReferenceAdamBIdeal)
-- ==== Pre_finite.lean ====
abbrev S4096x16896 : Shape := ⟨2, ![4096, 16896]⟩
abbrev S16x4096 : Shape := ⟨2, ![16, 4096]⟩
abbrev S4096x2048 : Shape := ⟨2, ![4096, 2048]⟩
abbrev S4096x6144 : Shape := ⟨2, ![4096, 6144]⟩
abbrev S_ : Shape := ⟨0, ![]⟩

class Facts : Prop where
  slices_S4096x16896_S4096x6144_0_0 : S4096x16896.Slices ![0, 0] S4096x6144
  bitsLt_bf16_f32 : FTy.bits .bf16 < FTy.bits .f32
  bcast_S_S4096x6144 : S_.BroadcastsInDim S4096x6144 (![] : Fin 0 → Fin S4096x6144.rank)
  bcast_S_S16x4096 : S_.BroadcastsInDim S16x4096 (![] : Fin 0 → Fin S16x4096.rank)
  bcast_S_S4096x2048 : S_.BroadcastsInDim S4096x2048 (![] : Fin 0 → Fin S4096x2048.rank)

variable [Facts]

def fn {F : FTy → Type} [FloatOps F] (main_arg0 : FVec F S4096x16896 .bf16) (main_arg1 : FVec F S16x4096 .f32) (main_arg2 : FVec F S4096x2048 .bf16) : IVec S4096x6144 1 × IVec S16x4096 1 × IVec S4096x2048 1 :=
  let main_v0 : FVec F S4096x6144 .bf16 := (extractStridedSlice S4096x6144 ![0, 0] · slices_S4096x16896_S4096x6144_0_0) main_arg0
  let main_v1 : FVec F S4096x6144 .f32 := (extf .f32 · bitsLt_bf16_f32) main_v0
  let main_v2 : FVec F S4096x6144 .f32 := Host.absf main_v1
  let main_cst : FVec F S_ .f32 := constant S_ .f32 0x7F800000#32
  let main_v3 : FVec F S4096x6144 .f32 := broadcastInDim S4096x6144 ![] bcast_S_S4096x6144 main_cst
  let main_v4 : IVec S4096x6144 1 := cmpf .olt main_v2 main_v3
  let main_v5 : FVec F S16x4096 .f32 := Host.absf main_arg1
  let main_cst_0 : FVec F S_ .f32 := constant S_ .f32 0x7F800000#32
  let main_v6 : FVec F S16x4096 .f32 := broadcastInDim S16x4096 ![] bcast_S_S16x4096 main_cst_0
  let main_v7 : IVec S16x4096 1 := cmpf .olt main_v5 main_v6
  let main_v8 : FVec F S4096x2048 .f32 := (extf .f32 · bitsLt_bf16_f32) main_arg2
  let main_v9 : FVec F S4096x2048 .f32 := Host.absf main_v8
  let main_cst_1 : FVec F S_ .f32 := constant S_ .f32 0x7F800000#32
  let main_v10 : FVec F S4096x2048 .f32 := broadcastInDim S4096x2048 ![] bcast_S_S4096x2048 main_cst_1
  let main_v11 : IVec S4096x2048 1 := cmpf .olt main_v9 main_v10
  (main_v4, main_v7, main_v11)
-- ==== Pre_finite_act.lean ====
abbrev S4096x4096 : Shape := ⟨2, ![4096, 4096]⟩
abbrev S11264x4096 : Shape := ⟨2, ![11264, 4096]⟩
abbrev S4096x11264 : Shape := ⟨2, ![4096, 11264]⟩
abbrev S_ : Shape := ⟨0, ![]⟩

class Facts : Prop where
  bitsLt_bf16_f32 : FTy.bits .bf16 < FTy.bits .f32
  bcast_S_S4096x4096 : S_.BroadcastsInDim S4096x4096 (![] : Fin 0 → Fin S4096x4096.rank)
  bcast_S_S11264x4096 : S_.BroadcastsInDim S11264x4096 (![] : Fin 0 → Fin S11264x4096.rank)
  bcast_S_S4096x11264 : S_.BroadcastsInDim S4096x11264 (![] : Fin 0 → Fin S4096x11264.rank)

variable [Facts]

def fn {F : FTy → Type} [FloatOps F] (main_arg0 : FVec F S4096x4096 .bf16) (main_arg1 : FVec F S11264x4096 .bf16) (main_arg2 : FVec F S4096x11264 .bf16) (main_arg3 : FVec F S4096x11264 .bf16) : IVec S4096x4096 1 × IVec S11264x4096 1 × IVec S4096x11264 1 × IVec S4096x11264 1 :=
  let main_v0 : FVec F S4096x4096 .f32 := (extf .f32 · bitsLt_bf16_f32) main_arg0
  let main_v1 : FVec F S4096x4096 .f32 := Host.absf main_v0
  let main_cst : FVec F S_ .f32 := constant S_ .f32 0x7F800000#32
  let main_v2 : FVec F S4096x4096 .f32 := broadcastInDim S4096x4096 ![] bcast_S_S4096x4096 main_cst
  let main_v3 : IVec S4096x4096 1 := cmpf .olt main_v1 main_v2
  let main_v4 : FVec F S11264x4096 .f32 := (extf .f32 · bitsLt_bf16_f32) main_arg1
  let main_v5 : FVec F S11264x4096 .f32 := Host.absf main_v4
  let main_cst_0 : FVec F S_ .f32 := constant S_ .f32 0x7F800000#32
  let main_v6 : FVec F S11264x4096 .f32 := broadcastInDim S11264x4096 ![] bcast_S_S11264x4096 main_cst_0
  let main_v7 : IVec S11264x4096 1 := cmpf .olt main_v5 main_v6
  let main_v8 : FVec F S4096x11264 .f32 := (extf .f32 · bitsLt_bf16_f32) main_arg2
  let main_v9 : FVec F S4096x11264 .f32 := Host.absf main_v8
  let main_cst_1 : FVec F S_ .f32 := constant S_ .f32 0x7F800000#32
  let main_v10 : FVec F S4096x11264 .f32 := broadcastInDim S4096x11264 ![] bcast_S_S4096x11264 main_cst_1
  let main_v11 : IVec S4096x11264 1 := cmpf .olt main_v9 main_v10
  let main_v12 : FVec F S4096x11264 .f32 := (extf .f32 · bitsLt_bf16_f32) main_arg3
  let main_v13 : FVec F S4096x11264 .f32 := Host.absf main_v12
  let main_cst_2 : FVec F S_ .f32 := constant S_ .f32 0x7F800000#32
  let main_v14 : FVec F S4096x11264 .f32 := broadcastInDim S4096x11264 ![] bcast_S_S4096x11264 main_cst_2
  let main_v15 : IVec S4096x11264 1 := cmpf .olt main_v13 main_v14
  (main_v3, main_v7, main_v11, main_v15)
-- ==== Pre_finite_fox.lean ====
abbrev S4096x16896 : Shape := ⟨2, ![4096, 16896]⟩
abbrev S16x4096 : Shape := ⟨2, ![16, 4096]⟩
abbrev S4096x4096 : Shape := ⟨2, ![4096, 4096]⟩
abbrev S_ : Shape := ⟨0, ![]⟩

class Facts : Prop where
  slices_S4096x16896_S4096x4096_0_0 : S4096x16896.Slices ![0, 0] S4096x4096
  bitsLt_bf16_f32 : FTy.bits .bf16 < FTy.bits .f32
  bcast_S_S4096x4096 : S_.BroadcastsInDim S4096x4096 (![] : Fin 0 → Fin S4096x4096.rank)
  bcast_S_S16x4096 : S_.BroadcastsInDim S16x4096 (![] : Fin 0 → Fin S16x4096.rank)

variable [Facts]

def fn {F : FTy → Type} [FloatOps F] (main_arg0 : FVec F S4096x16896 .bf16) (main_arg1 : FVec F S16x4096 .f32) : IVec S4096x4096 1 × IVec S16x4096 1 :=
  let main_v0 : FVec F S4096x4096 .bf16 := (extractStridedSlice S4096x4096 ![0, 0] · slices_S4096x16896_S4096x4096_0_0) main_arg0
  let main_v1 : FVec F S4096x4096 .f32 := (extf .f32 · bitsLt_bf16_f32) main_v0
  let main_v2 : FVec F S4096x4096 .f32 := Host.absf main_v1
  let main_cst : FVec F S_ .f32 := constant S_ .f32 0x7F800000#32
  let main_v3 : FVec F S4096x4096 .f32 := broadcastInDim S4096x4096 ![] bcast_S_S4096x4096 main_cst
  let main_v4 : IVec S4096x4096 1 := cmpf .olt main_v2 main_v3
  let main_v5 : FVec F S16x4096 .f32 := Host.absf main_arg1
  let main_cst_0 : FVec F S_ .f32 := constant S_ .f32 0x7F800000#32
  let main_v6 : FVec F S16x4096 .f32 := broadcastInDim S16x4096 ![] bcast_S_S16x4096 main_cst_0
  let main_v7 : IVec S16x4096 1 := cmpf .olt main_v5 main_v6
  (main_v4, main_v7)
-- ==== Kernel.lean ====
abbrev S4096x16896 : Shape := ⟨2, ![4096, 16896]⟩
abbrev S16x4096 : Shape := ⟨2, ![16, 4096]⟩
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S1024x128 : Shape := ⟨2, ![1024, 128]⟩
abbrev S1x1024x1 : Shape := ⟨3, ![1, 1024, 1]⟩
abbrev S1x1x1024 : Shape := ⟨3, ![1, 1, 1024]⟩
abbrev S4096x128 : Shape := ⟨2, ![4096, 128]⟩
abbrev S1x4096x1 : Shape := ⟨3, ![1, 4096, 1]⟩
abbrev S1x1024 : Shape := ⟨2, ![1, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 70
  | .vmem => 29
  | .smem => 0
  | _ => 0

abbrev bufTy : (tb : Table) → Fin (tcTables nBuf tb) → BufTy
  | .hbm, ⟨0, _⟩ => ⟨S4096x16896, .bf16⟩
  | .hbm, ⟨1, _⟩ => ⟨S16x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x16x128, .f32⟩
  | .hbm, ⟨6, _⟩ => ⟨S4096x2048, .bf16⟩
  | .hbm, ⟨7, _⟩ => ⟨S4096x2048, .f32⟩
  | .hbm, ⟨8, _⟩ => ⟨S4096x16x128, .f32⟩
  | .hbm, ⟨9, _⟩ => ⟨S4096x2048, .bf16⟩
  | .hbm, ⟨10, _⟩ => ⟨S4096x2048, .f32⟩
  | .hbm, ⟨11, _⟩ => ⟨S4096x16x128, .f32⟩
  | .hbm, ⟨12, _⟩ => ⟨S16x4096x4096, .f32⟩
  | .hbm, ⟨13, _⟩ => ⟨S_, .f32⟩
  | .hbm, ⟨14, _⟩ => ⟨S16x4096x4096, .f32⟩
  | .hbm, ⟨15, _⟩ => ⟨S16x4096x4096, .f32⟩
  | .hbm, ⟨16, _⟩ => ⟨S16x4096x1, .f32⟩
  | .hbm, ⟨17, _⟩ => ⟨S16x4096x4096, .f32⟩
  | .hbm, ⟨18, _⟩ => ⟨S16x4096x4096, .f32⟩
  | .hbm, ⟨19, _⟩ => ⟨S16x1x4096, .f32⟩
  | .hbm, ⟨20, _⟩ => ⟨S16x4096x4096, .f32⟩
  | .hbm, ⟨21, _⟩ => ⟨S16x4096x4096, .f32⟩
  | .hbm, ⟨22, _⟩ => ⟨S4096, .i32⟩
  | .hbm, ⟨23, _⟩ => ⟨S1x4096, .i32⟩
  | .hbm, ⟨24, _⟩ => ⟨S4096, .i32⟩
  | .hbm, ⟨25, _⟩ => ⟨S4096x1, .i32⟩
  | .hbm, ⟨26, _⟩ => ⟨S4096x4096, .i32⟩
  | .hbm, ⟨27, _⟩ => ⟨S4096x4096, .i32⟩
  | .hbm, ⟨28, _⟩ => ⟨S4096x4096, .i1⟩
  | .hbm, ⟨29, _⟩ => ⟨S_, .f32⟩
  | .hbm, ⟨30, _⟩ => ⟨S_, .f32⟩
  | .hbm, ⟨31, _⟩ => ⟨S16x4096x4096, .i1⟩
  | .hbm, ⟨32, _⟩ => ⟨S16x4096x4096, .f32⟩
  | .hbm, ⟨33, _⟩ => ⟨S16x4096x4096, .f32⟩
  | .hbm, ⟨34, _⟩ => ⟨S_, .f32⟩
  | .hbm, ⟨35, _⟩ => ⟨S16x4096, .f32⟩
  | .hbm, ⟨36, _⟩ => ⟨S16x4096x1, .f32⟩
  | .hbm, ⟨37, _⟩ => ⟨S16x4096x4096, .f32⟩
  | .hbm, ⟨38, _⟩ => ⟨S16x4096x4096, .f32⟩
  | .hbm, ⟨39, _⟩ => ⟨S16x4096x4096, .f32⟩
  | .hbm, ⟨40, _⟩ => ⟨S_, .f32⟩
  | .hbm, ⟨41, _⟩ => ⟨S16x4096, .f32⟩
  | .hbm, ⟨42, _⟩ => ⟨S16x4096x1, .f32⟩
  | .hbm, ⟨43, _⟩ => ⟨S16x4096x1, .f32⟩
  | .hbm, ⟨44, _⟩ => ⟨S16x4096x1, .f32⟩
  | .hbm, ⟨45, _⟩ => ⟨S_, .f32⟩
  | .hbm, ⟨46, _⟩ => ⟨S16x4096, .f32⟩
  | .hbm, ⟨47, _⟩ => ⟨S_, .f32⟩
  | .hbm, ⟨48, _⟩ => ⟨S16x4096, .f32⟩
  | .hbm, ⟨49, _⟩ => ⟨S16x4096, .f32⟩
  | .hbm, ⟨50, _⟩ => ⟨S16x4096x1, .f32⟩
  | .hbm, ⟨51, _⟩ => ⟨S16x4096x4096, .f32⟩
  | .hbm, ⟨52, _⟩ => ⟨S16x4096x4096, .f32⟩
  | .hbm, ⟨53, _⟩ => ⟨S16x4096x4096, .f32⟩
  | .hbm, ⟨54, _⟩ => ⟨S_, .f32⟩
  | .hbm, ⟨55, _⟩ => ⟨S16x4096, .f32⟩
  | .hbm, ⟨56, _⟩ => ⟨S16x4096x1, .f32⟩
  | .hbm, ⟨57, _⟩ => ⟨S16x4096x4096, .f32⟩
  | .hbm, ⟨58, _⟩ => ⟨S16x4096x4096, .f32⟩
  | .hbm, ⟨59, _⟩ => ⟨S16x128x4096, .f32⟩
  | .hbm, ⟨60, _⟩ => ⟨S4096x16x128, .f32⟩
  | .hbm, ⟨61, _⟩ => ⟨S4096x2048, .f32⟩
  | .hbm, ⟨62, _⟩ => ⟨S4096x2048, .bf16⟩
  | .hbm, ⟨63, _⟩ => ⟨S16x4096x1, .f32⟩
  | .hbm, ⟨64, _⟩ => ⟨S16x1x4096, .f32⟩
  | .hbm, ⟨65, _⟩ => ⟨S4096x2048, .f32⟩
  | .hbm, ⟨66, _⟩ => ⟨S4096x2048, .bf16⟩
  | .hbm, ⟨67, _⟩ => ⟨S4096x2048, .bf16⟩
  | .hbm, ⟨68, _⟩ => ⟨S16x1x4096, .f32⟩
  | .hbm, ⟨69, _⟩ => ⟨S16x4096x1, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1024x128, .bf16⟩
  | .local _ .vmem, ⟨11, _⟩ => ⟨S1024x128, .bf16⟩
  | .local _ .vmem, ⟨12, _⟩ => ⟨S1x1024x1, .f32⟩
  | .local _ .vmem, ⟨13, _⟩ => ⟨S1x1024x1, .f32⟩
  | .local _ .vmem, ⟨14, _⟩ => ⟨S1x1x1024, .f32⟩
  | .local _ .vmem, ⟨15, _⟩ => ⟨S1x1x1024, .f32⟩
  | .local _ .vmem, ⟨16, _⟩ => ⟨S4096x128, .f32⟩
  | .local _ .vmem, ⟨17, _⟩ => ⟨S4096x128, .f32⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1024x128, .bf16⟩
  | .local _ .vmem, ⟨22, _⟩ => ⟨S1x1x1024, .f32⟩
  | .local _ .vmem, ⟨23, _⟩ => ⟨S1x1x1024, .f32⟩
  | .local _ .vmem, ⟨24, _⟩ => ⟨S1x4096x1, .f32⟩
  | .local _ .vmem, ⟨25, _⟩ => ⟨S1x4096x1, .f32⟩
  | .local _ .vmem, ⟨26, _⟩ => ⟨S1024x128, .f32⟩
  | .local _ .vmem, ⟨27, _⟩ => ⟨S1024x128, .f32⟩
  | .local _ .vmem, ⟨28, _⟩ => ⟨S1x1024, .f32⟩
  | _, _ => ⟨S4096x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_cst_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52_0 : Ref sig .tc := ⟨.hbm, 65, rfl⟩
abbrev main_v52_1 : Ref sig .tc := ⟨.hbm, 66, rfl⟩
abbrev main_v52_2 : Ref sig .tc := ⟨.hbm, 67, rfl⟩
abbrev main_v52_3 : Ref sig .tc := ⟨.hbm, 68, rfl⟩
abbrev main_v52_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let arg1 : BitVec 32 := BitVec.ofNat 32 (i 1).val
  let v8 : BitVec 1 := Scalar.cmpi .sgt arg2 arg1
  let v9 : BitVec 32 := Scalar.extui v8
  let c0_i32_4 : BitVec 32 := 0#32
  let v10 : BitVec 1 := Scalar.cmpi .ne v9 c0_i32_4
  v10

def k0_mult1 (i : grid0.Coords) : BitVec 32 :=
  let arg2 : BitVec 32 := BitVec.ofNat 32 (i 2).val
  let c1024_i32 : BitVec 32 := 1024#32
  let v71 : BitVec 32 := Scalar.muli arg2 c1024_i32
  v71
def k0_off1 (i : grid0.Coords) : Fin 2 → Nat :=
  let arg2 : BitVec 32 := BitVec.ofNat 32 (i 2).val
  let c1024_i32 : BitVec 32 := 1024#32
  let v71 : BitVec 32 := Scalar.muli arg2 c1024_i32
  let v72 : BitVec 32 := v71
  let v73 : Index := Scalar.indexCast v72
  let c0_44 : Index := 0#32
  ![v73.toNat, 0]
def k0_off2 (i : grid0.Coords) : Fin 3 → Nat :=
  let c0_48 : Index := 0#32
  let arg2 : BitVec 32 := BitVec.ofNat 32 (i 2).val
  let c1024_i32 : BitVec 32 := 1024#32
  let v71 : BitVec 32 := Scalar.muli arg2 c1024_i32
  let v72 : BitVec 32 := v71
  let v82 : Index := Scalar.indexCast v72
  let c0_49 : Index := 0#32
  ![0, v82.toNat, 0]
def k0_cond4 (i : grid0.Coords) : BitVec 1 :=
  let arg2 : BitVec 32 := BitVec.ofNat 32 (i 2).val
  let arg1 : BitVec 32 := BitVec.ofNat 32 (i 1).val
  let v11 : BitVec 1 := Scalar.cmpi .eq arg2 arg1
  let v12 : BitVec 32 := Scalar.extui v11
  let c0_i32_5 : BitVec 32 := 0#32
  let v13 : BitVec 1 := Scalar.cmpi .ne v12 c0_i32_5
  v13

def k0_mult2 (i : grid0.Coords) : BitVec 32 :=
  let arg2 : BitVec 32 := BitVec.ofNat 32 (i 2).val
  let c1024_i32 : BitVec 32 := 1024#32
  let v76 : BitVec 32 := Scalar.muli arg2 c1024_i32
  v76
def k0_off3 (i : grid0.Coords) : Fin 2 → Nat :=
  let arg2 : BitVec 32 := BitVec.ofNat 32 (i 2).val
  let c1024_i32 : BitVec 32 := 1024#32
  let v76 : BitVec 32 := Scalar.muli arg2 c1024_i32
  let v77 : BitVec 32 := v76
  let v78 : Index := Scalar.indexCast v77
  let c0_45 : Index := 0#32
  ![v78.toNat, 0]
def k0_off4 (i : grid0.Coords) : Fin 3 → Nat :=
  let c0_49 : Index := 0#32
  let arg2 : BitVec 32 := BitVec.ofNat 32 (i 2).val
  let c1024_i32 : BitVec 32 := 1024#32
  let v76 : BitVec 32 := Scalar.muli arg2 c1024_i32
  let v77 : BitVec 32 := v76
  let v87 : Index := Scalar.indexCast v77
  let c0_50 : Index := 0#32
  ![0, v87.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k0_cond5 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_6 : BitVec 32 := 0#32
  let v16 : BitVec 1 := Scalar.cmpi .ne v15 c0_i32_6
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  ![v0.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.maxsi arg2 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S1x4096x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]
-- ==== KernelIdeal.lean ====
variable {F : FTy → Type} [FloatOps F] [Named F]
def κ : String → Option EReal := fun
  | "mask" => some ⊥
  | _ => none
-- ==== ReferenceIdeal.lean ====
abbrev S4096x16896 : Shape := ⟨2, ![4096, 16896]⟩
abbrev S16x4096 : Shape := ⟨2, ![16, 4096]⟩
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩
abbrev S16x4096x128 : Shape := ⟨3, ![16, 4096, 128]⟩

abbrev nBuf : Space → Nat
  | .hbm => 124
  | .vmem => 0
  | .smem => 0
  | _ => 0

abbrev bufTy : (tb : Table) → Fin (tcTables nBuf tb) → BufTy
  | .hbm, ⟨0, _⟩ => ⟨S4096x16896, .bf16⟩
  | .hbm, ⟨1, _⟩ => ⟨S16x4096, .f32⟩
  | .hbm, ⟨2, _⟩ => ⟨S4096x2048, .bf16⟩
  | .hbm, ⟨3, _⟩ => ⟨S4096x2048, .bf16⟩
  | .hbm, ⟨4, _⟩ => ⟨S4096x2048, .f32⟩
  | .hbm, ⟨5, _⟩ => ⟨S4096x16x128, .f32⟩
  | .hbm, ⟨6, _⟩ => ⟨S4096x2048, .bf16⟩
  | .hbm, ⟨7, _⟩ => ⟨S4096x2048, .f32⟩
  | .hbm, ⟨8, _⟩ => ⟨S4096x16x128, .f32⟩
  | .hbm, ⟨9, _⟩ => ⟨S4096x2048, .bf16⟩
  | .hbm, ⟨10, _⟩ => ⟨S4096x2048, .f32⟩
  | .hbm, ⟨11, _⟩ => ⟨S4096x16x128, .f32⟩
  | .hbm, ⟨12, _⟩ => ⟨S4096x2048, .f32⟩
  | .hbm, ⟨13, _⟩ => ⟨S4096x16x128, .f32⟩
  | .hbm, ⟨14, _⟩ => ⟨S16x4096x4096, .f32⟩
  | .hbm, ⟨15, _⟩ => ⟨S_, .f32⟩
  | .hbm, ⟨16, _⟩ => ⟨S16x4096x4096, .f32⟩
  | .hbm, ⟨17, _⟩ => ⟨S16x4096x4096, .f32⟩
  | .hbm, ⟨18, _⟩ => ⟨S16x4096x1, .f32⟩
  | .hbm, ⟨19, _⟩ => ⟨S16x4096x4096, .f32⟩
  | .hbm, ⟨20, _⟩ => ⟨S16x4096x4096, .f32⟩
  | .hbm, ⟨21, _⟩ => ⟨S16x1x4096, .f32⟩
  | .hbm, ⟨22, _⟩ => ⟨S16x4096x4096, .f32⟩
  | .hbm, ⟨23, _⟩ => ⟨S16x4096x4096, .f32⟩
  | .hbm, ⟨24, _⟩ => ⟨S4096, .i32⟩
  | .hbm, ⟨25, _⟩ => ⟨S1x4096, .i32⟩
  | .hbm, ⟨26, _⟩ => ⟨S4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S_, .f32⟩
  | .hbm, ⟨32, _⟩ => ⟨S_, .f32⟩
  | .hbm, ⟨33, _⟩ => ⟨S16x4096x4096, .i1⟩
  | .hbm, ⟨34, _⟩ => ⟨S16x4096x4096, .f32⟩
  | .hbm, ⟨35, _⟩ => ⟨S16x4096x4096, .f32⟩
  | .hbm, ⟨36, _⟩ => ⟨S_, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096x1, .f32⟩
  | .hbm, ⟨41, _⟩ => ⟨S16x4096x4096, .f32⟩
  | .hbm, ⟨42, _⟩ => ⟨S16x4096x4096, .i1⟩
  | .hbm, ⟨43, _⟩ => ⟨S16x4096x4096, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S_, .f32⟩
  | .hbm, ⟨50, _⟩ => ⟨S16x4096, .f32⟩
  | .hbm, ⟨51, _⟩ => ⟨S16x4096, .i1⟩
  | .hbm, ⟨52, _⟩ => ⟨S_, .f32⟩
  | .hbm, ⟨53, _⟩ => ⟨S16x4096, .f32⟩
  | .hbm, ⟨54, _⟩ => ⟨S16x4096, .i1⟩
  | .hbm, ⟨55, _⟩ => ⟨S_, .f32⟩
  | .hbm, ⟨56, _⟩ => ⟨S16x4096, .f32⟩
  | .hbm, ⟨57, _⟩ => ⟨S_, .f32⟩
  | .hbm, ⟨58, _⟩ => ⟨S16x4096, .f32⟩
  | .hbm, ⟨59, _⟩ => ⟨S_, .f32⟩
  | .hbm, ⟨60, _⟩ => ⟨S16x4096, .f32⟩
  | .hbm, ⟨61, _⟩ => ⟨S16x4096, .f32⟩
  | .hbm, ⟨62, _⟩ => ⟨S16x4096, .f32⟩
  | .hbm, ⟨63, _⟩ => ⟨S16x4096x1, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S_, .f32⟩
  | .hbm, ⟨68, _⟩ => ⟨S16x4096, .f32⟩
  | .hbm, ⟨69, _⟩ => ⟨S16x4096x1, .f32⟩
  | .hbm, ⟨70, _⟩ => ⟨S16x4096x4096, .f32⟩
  | .hbm, ⟨71, _⟩ => ⟨S16x4096x4096, .f32⟩
  | .hbm, ⟨72, _⟩ => ⟨S16x4096x1, .f32⟩
  | .hbm, ⟨73, _⟩ => ⟨S_, .f32⟩
  | .hbm, ⟨74, _⟩ => ⟨S16x4096x1, .f32⟩
  | .hbm, ⟨75, _⟩ => ⟨S16x4096x1, .f32⟩
  | .hbm, ⟨76, _⟩ => ⟨S16x128x4096, .f32⟩
  | .hbm, ⟨77, _⟩ => ⟨S4096x16x128, .f32⟩
  | .hbm, ⟨78, _⟩ => ⟨S16x128x4096, .f32⟩
  | .hbm, ⟨79, _⟩ => ⟨S16x4096x4096, .f32⟩
  | .hbm, ⟨80, _⟩ => ⟨S16x128x4096, .f32⟩
  | .hbm, ⟨81, _⟩ => ⟨S4096x16x128, .f32⟩
  | .hbm, ⟨82, _⟩ => ⟨S16x4096x4096, .f32⟩
  | .hbm, ⟨83, _⟩ => ⟨S16x4096x4096, .f32⟩
  | .hbm, ⟨84, _⟩ => ⟨S16x4096x4096, .f32⟩
  | .hbm, ⟨85, _⟩ => ⟨S_, .f32⟩
  | .hbm, ⟨86, _⟩ => ⟨S16x4096, .f32⟩
  | .hbm, ⟨87, _⟩ => ⟨S16x4096x1, .f32⟩
  | .hbm, ⟨88, _⟩ => ⟨S16x4096x1, .f32⟩
  | .hbm, ⟨89, _⟩ => ⟨S16x4096x4096, .f32⟩
  | .hbm, ⟨90, _⟩ => ⟨S16x4096x4096, .f32⟩
  | .hbm, ⟨91, _⟩ => ⟨S_, .f32⟩
  | .hbm, ⟨92, _⟩ => ⟨S16x4096, .f32⟩
  | .hbm, ⟨93, _⟩ => ⟨S16x4096x4096, .f32⟩
  | .hbm, ⟨94, _⟩ => ⟨S16x4096x4096, .f32⟩
  | .hbm, ⟨95, _⟩ => ⟨S16x4096x4096, .f32⟩
  | .hbm, ⟨96, _⟩ => ⟨S_, .f32⟩
  | .hbm, ⟨97, _⟩ => ⟨S16x4096x4096, .f32⟩
  | .hbm, ⟨98, _⟩ => ⟨S16x4096x4096, .f32⟩
  | .hbm, ⟨99, _⟩ => ⟨S16x4096x4096, .f32⟩
  | .hbm, ⟨100, _⟩ => ⟨S_, .f32⟩
  | .hbm, ⟨101, _⟩ => ⟨S16x4096, .f32⟩
  | .hbm, ⟨102, _⟩ => ⟨S16x1x4096, .f32⟩
  | .hbm, ⟨103, _⟩ => ⟨S_, .f32⟩
  | .hbm, ⟨104, _⟩ => ⟨S16x4096, .f32⟩
  | .hbm, ⟨105, _⟩ => ⟨S_, .f32⟩
  | .hbm, ⟨106, _⟩ => ⟨S16x4096, .f32⟩
  | .hbm, ⟨107, _⟩ => ⟨S16x4096x1, .f32⟩
  | .hbm, ⟨108, _⟩ => ⟨S_, .f32⟩
  | .hbm, ⟨109, _⟩ => ⟨S16x4096, .f32⟩
  | .hbm, ⟨110, _⟩ => ⟨S_, .f32⟩
  | .hbm, ⟨111, _⟩ => ⟨S16x4096x4096, .f32⟩
  | .hbm, ⟨112, _⟩ => ⟨S16x4096x4096, .f32⟩
  | .hbm, ⟨113, _⟩ => ⟨S16x4096x128, .f32⟩
  | .hbm, ⟨114, _⟩ => ⟨S4096x16x128, .f32⟩
  | .hbm, ⟨115, _⟩ => ⟨S16x4096x128, .f32⟩
  | .hbm, ⟨116, _⟩ => ⟨S4096x16x128, .f32⟩
  | .hbm, ⟨117, _⟩ => ⟨S4096x2048, .f32⟩
  | .hbm, ⟨118, _⟩ => ⟨S4096x2048, .f32⟩
  | .hbm, ⟨119, _⟩ => ⟨S4096x2048, .bf16⟩
  | .hbm, ⟨120, _⟩ => ⟨S4096x2048, .f32⟩
  | .hbm, ⟨121, _⟩ => ⟨S4096x2048, .bf16⟩
  | .hbm, ⟨122, _⟩ => ⟨S16x1x4096, .f32⟩
  | .hbm, ⟨123, _⟩ => ⟨S16x4096x1, .f32⟩
  | _, _ => ⟨S4096x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_11 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_12 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call1_cst : Ref sig .tc := ⟨.hbm, 96, rfl⟩
abbrev main_call1_v0 : Ref sig .tc := ⟨.hbm, 97, rfl⟩
abbrev main_v74 : Ref sig .tc := ⟨.hbm, 98, rfl⟩
abbrev main_v75 : Ref sig .tc := ⟨.hbm, 99, rfl⟩
abbrev main_cst_13 : Ref sig .tc := ⟨.hbm, 100, rfl⟩
abbrev main_v76 : Ref sig .tc := ⟨.hbm, 101, rfl⟩
abbrev main_v77 : Ref sig .tc := ⟨.hbm, 102, rfl⟩
abbrev main_cst_14 : Ref sig .tc := ⟨.hbm, 103, rfl⟩
abbrev main_v78 : Ref sig .tc := ⟨.hbm, 104, rfl⟩
abbrev main_cst_15 : Ref sig .tc := ⟨.hbm, 105, rfl⟩
abbrev main_v79 : Ref sig .tc := ⟨.hbm, 106, rfl⟩
abbrev main_v80 : Ref sig .tc := ⟨.hbm, 107, rfl⟩
abbrev main_cst_16 : Ref sig .tc := ⟨.hbm, 108, rfl⟩
abbrev main_v81 : Ref sig .tc := ⟨.hbm, 109, rfl⟩
abbrev main_cst_17 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]
-- ==== KernelUp.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S11264x4096, .bf16⟩
  | .hbm, ⟨3, _⟩ => ⟨S4096x11264, .bf16⟩
  | .hbm, ⟨4, _⟩ => ⟨S4096x11264, .bf16⟩
  | .hbm, ⟨5, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S4096x4096 : Shape := ⟨2, ![4096, 4096]⟩
abbrev S11264x4096 : Shape := ⟨2, ![11264, 4096]⟩
abbrev S4096x11264 : Shape := ⟨2, ![4096, 11264]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S11264x4096, .bf16⟩
  | .hbm, ⟨3, _⟩ => ⟨S4096x4096, .f32⟩
  | .hbm, ⟨4, _⟩ => ⟨S11264x4096, .f32⟩
  | .hbm, ⟨5, _⟩ => ⟨S11264x4096, .f32⟩
  | .hbm, ⟨6, _⟩ => ⟨S4096x11264, .f32⟩
  | .hbm, ⟨7, _⟩ => ⟨S4096x11264, .f32⟩
  | .hbm, ⟨8, _⟩ => ⟨S4096x11264, .f32⟩
  | .hbm, ⟨9, _⟩ => ⟨S4096x11264, .f32⟩
  | .hbm, ⟨10, _⟩ => ⟨S_, .f32⟩
  | .hbm, ⟨11, _⟩ => ⟨S4096x11264, .f32⟩
  | .hbm, ⟨12, _⟩ => ⟨S4096x11264, .f32⟩
  | .hbm, ⟨13, _⟩ => ⟨S_, .f32⟩
  | .hbm, ⟨14, _⟩ => ⟨S4096x11264, .f32⟩
  | .hbm, ⟨15, _⟩ => ⟨S4096x11264, .f32⟩
  | .hbm, ⟨16, _⟩ => ⟨S4096x11264, .f32⟩
  | .hbm, ⟨17, _⟩ => ⟨S4096x11264, .f32⟩
  | .hbm, ⟨18, _⟩ => ⟨S4096x11264, .bf16⟩
  | .hbm, ⟨19, _⟩ => ⟨S4096x11264, .bf16⟩
  | .hbm, ⟨20, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== KernelDown.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S4096x11264 : Shape := ⟨2, ![4096, 11264]⟩
abbrev S11264x4096 : Shape := ⟨2, ![11264, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S11264x4096, .bf16⟩
  | .hbm, ⟨2, _⟩ => ⟨S4096x4096, .f32⟩
  | .hbm, ⟨3, _⟩ => ⟨S4096x11264, .f32⟩
  | .hbm, ⟨4, _⟩ => ⟨S11264x4096, .f32⟩
  | .hbm, ⟨5, _⟩ => ⟨S4096x4096, .f32⟩
  | .hbm, ⟨6, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelAct.lean ====
abbrev S4096x4096 : Shape := ⟨2, ![4096, 4096]⟩
abbrev S11264x4096 : Shape := ⟨2, ![11264, 4096]⟩
abbrev S4096x11264 : Shape := ⟨2, ![4096, 11264]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .hbm, ⟨3, _⟩ => ⟨S4096x11264, .bf16⟩
  | .hbm, ⟨4, _⟩ => ⟨S4096x11264, .bf16⟩
  | .hbm, ⟨5, _⟩ => ⟨S4096x11264, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== ReferenceActIdeal.lean ====
abbrev S4096x4096 : Shape := ⟨2, ![4096, 4096]⟩
abbrev S11264x4096 : Shape := ⟨2, ![11264, 4096]⟩
abbrev S4096x11264 : Shape := ⟨2, ![4096, 11264]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S11264x4096, .bf16⟩
  | .hbm, ⟨2, _⟩ => ⟨S4096x11264, .bf16⟩
  | .hbm, ⟨3, _⟩ => ⟨S4096x11264, .bf16⟩
  | .hbm, ⟨4, _⟩ => ⟨S11264x4096, .f32⟩
  | .hbm, ⟨5, _⟩ => ⟨S4096x11264, .f32⟩
  | .hbm, ⟨6, _⟩ => ⟨S4096x11264, .f32⟩
  | .hbm, ⟨7, _⟩ => ⟨S4096x11264, .f32⟩
  | .hbm, ⟨8, _⟩ => ⟨S4096x11264, .f32⟩
  | .hbm, ⟨9, _⟩ => ⟨S_, .f32⟩
  | .hbm, ⟨10, _⟩ => ⟨S4096x11264, .f32⟩
  | .hbm, ⟨11, _⟩ => ⟨S4096x11264, .f32⟩
  | .hbm, ⟨12, _⟩ => ⟨S_, .f32⟩
  | .hbm, ⟨13, _⟩ => ⟨S4096x11264, .f32⟩
  | .hbm, ⟨14, _⟩ => ⟨S4096x11264, .f32⟩
  | .hbm, ⟨15, _⟩ => ⟨S_, .f32⟩
  | .hbm, ⟨16, _⟩ => ⟨S4096x11264, .f32⟩
  | .hbm, ⟨17, _⟩ => ⟨S4096x11264, .f32⟩
  | .hbm, ⟨18, _⟩ => ⟨S4096x11264, .f32⟩
  | .hbm, ⟨19, _⟩ => ⟨S4096x11264, .f32⟩
  | .hbm, ⟨20, _⟩ => ⟨S4096x11264, .f32⟩
  | .hbm, ⟨21, _⟩ => ⟨S4096x4096, .f32⟩
  | .hbm, ⟨22, _⟩ => ⟨S4096x4096, .f32⟩
  | .hbm, ⟨23, _⟩ => ⟨S4096x11264, .f32⟩
  | .hbm, ⟨24, _⟩ => ⟨S4096x11264, .f32⟩
  | .hbm, ⟨25, _⟩ => ⟨S4096x11264, .f32⟩
  | .hbm, ⟨26, _⟩ => ⟨S4096x11264, .f32⟩
  | .hbm, ⟨27, _⟩ => ⟨S4096x11264, .f32⟩
  | .hbm, ⟨28, _⟩ => ⟨S4096x11264, .f32⟩
  | .hbm, ⟨29, _⟩ => ⟨S4096x11264, .f32⟩
  | .hbm, ⟨30, _⟩ => ⟨S4096x11264, .bf16⟩
  | .hbm, ⟨31, _⟩ => ⟨S4096x11264, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KernelDownW.lean ====
abbrev S4096x11264 : Shape := ⟨2, ![4096, 11264]⟩
abbrev S4096x4096 : Shape := ⟨2, ![4096, 4096]⟩
abbrev S11264x4096 : Shape := ⟨2, ![11264, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownWIdeal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S4096x11264, .f32⟩
  | .hbm, ⟨3, _⟩ => ⟨S_, .f32⟩
  | .hbm, ⟨4, _⟩ => ⟨S11264x4096, .f32⟩
  | .hbm, ⟨5, _⟩ => ⟨S4096x4096, .f32⟩
  | .hbm, ⟨6, _⟩ => ⟨S4096x4096, .f32⟩
  | .hbm, ⟨7, _⟩ => ⟨S4096x11264, .f32⟩
  | .hbm, ⟨8, _⟩ => ⟨S11264x4096, .f32⟩
  | .hbm, ⟨9, _⟩ => ⟨S11264x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpW.lean ====
abbrev S4096x11264 : Shape := ⟨2, ![4096, 11264]⟩
abbrev S4096x4096 : Shape := ⟨2, ![4096, 4096]⟩
abbrev S11264x4096 : Shape := ⟨2, ![11264, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S11264x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpWIdeal.lean ====
abbrev S4096x11264 : Shape := ⟨2, ![4096, 11264]⟩
abbrev S4096x4096 : Shape := ⟨2, ![4096, 4096]⟩
abbrev S_ : Shape := ⟨0, ![]⟩
abbrev S11264x4096 : Shape := ⟨2, ![11264, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S11264x4096, .f32⟩
  | .hbm, ⟨5, _⟩ => ⟨S4096x11264, .f32⟩
  | .hbm, ⟨6, _⟩ => ⟨S4096x11264, .f32⟩
  | .hbm, ⟨7, _⟩ => ⟨S11264x4096, .f32⟩
  | .hbm, ⟨8, _⟩ => ⟨S11264x4096, .bf16⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelUpX.lean ====
abbrev S4096x11264 : Shape := ⟨2, ![4096, 11264]⟩
abbrev S11264x4096 : Shape := ⟨2, ![11264, 4096]⟩
abbrev S4096x4096 : Shape := ⟨2, ![4096, 4096]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 5
  | .vmem => 11
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S11264x4096, .bf16⟩
  | .hbm, ⟨4, _⟩ => ⟨S4096x4096, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x2816, .bf16⟩
  | .local _ .vmem, ⟨5, _⟩ => ⟨S1024x2816, .bf16⟩
  | .local _ .vmem, ⟨6, _⟩ => ⟨S2816x512, .bf16⟩
  | .local _ .vmem, ⟨7, _⟩ => ⟨S2816x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_13 : BitVec 32 := 0#32
  let v17 : BitVec 1 := Scalar.cmpi .ne v16 c0_i32_13
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S2816x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ReferenceUpXIdeal.lean ====
abbrev S4096x11264 : Shape := ⟨2, ![4096, 11264]⟩
abbrev S11264x4096 : Shape := ⟨2, ![11264, 4096]⟩
abbrev S_ : Shape := ⟨0, ![]⟩
abbrev S4096x4096 : Shape := ⟨2, ![4096, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4096x11264, .bf16⟩
  | .hbm, ⟨2, _⟩ => ⟨S11264x4096, .bf16⟩
  | .hbm, ⟨3, _⟩ => ⟨S11264x4096, .bf16⟩
  | .hbm, ⟨4, _⟩ => ⟨S11264x4096, .f32⟩
  | .hbm, ⟨5, _⟩ => ⟨S11264x4096, .f32⟩
  | .hbm, ⟨6, _⟩ => ⟨S_, .f32⟩
  | .hbm, ⟨7, _⟩ => ⟨S4096x4096, .f32⟩
  | .hbm, ⟨8, _⟩ => ⟨S4096x11264, .f32⟩
  | .hbm, ⟨9, _⟩ => ⟨S4096x11264, .f32⟩
  | .hbm, ⟨10, _⟩ => ⟨S4096x11264, .f32⟩
  | .hbm, ⟨11, _⟩ => ⟨S4096x11264, .f32⟩
  | .hbm, ⟨12, _⟩ => ⟨S4096x4096, .f32⟩
  | .hbm, ⟨13, _⟩ => ⟨S4096x4096, .f32⟩
  | .hbm, ⟨14, _⟩ => ⟨S4096x4096, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== KernelProj.lean ====
abbrev S4096x4096 : Shape := ⟨2, ![4096, 4096]⟩
abbrev S16912x4096 : Shape := ⟨2, ![16912, 4096]⟩
abbrev S4096x16896 : Shape := ⟨2, ![4096, 16896]⟩
abbrev S1024x4096 : Shape := ⟨2, ![1024, 4096]⟩
abbrev S768x4096 : Shape := ⟨2, ![768, 4096]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S16912x4096, .bf16⟩
  | .hbm, ⟨2, _⟩ => ⟨S4096x16896, .bf16⟩
  | .local _ .vmem, ⟨0, _⟩ => ⟨S1024x4096, .bf16⟩
  | .local _ .vmem, ⟨1, _⟩ => ⟨S1024x4096, .bf16⟩
  | .local _ .vmem, ⟨2, _⟩ => ⟨S768x4096, .bf16⟩
  | .local _ .vmem, ⟨3, _⟩ => ⟨S768x4096, .bf16⟩
  | .local _ .vmem, ⟨4, _⟩ => ⟨S1024x768, .bf16⟩
  | .local _ .vmem, ⟨5, _⟩ => ⟨S1024x768, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def k0_mult1 (i : grid0.Coords) : BitVec 32 :=
  let arg1 : BitVec 32 := BitVec.ofNat 32 (i 1).val
  let c768_i32 : BitVec 32 := 768#32
  let v0 : BitVec 32 := Scalar.muli arg1 c768_i32
  let c6144_i32 : BitVec 32 := 6144#32
  let v1 : BitVec 1 := Scalar.cmpi .sge v0 c6144_i32
  let c16_i32 : BitVec 32 := 16#32
  let c0_i32 : BitVec 32 := 0#32
  let v2 : BitVec 32 := Scalar.select v1 c16_i32 c0_i32
  let v3 : BitVec 32 := Scalar.addi v0 v2
  v3
def k0_mult2 (i : grid0.Coords) : BitVec 32 :=
  let arg2 : BitVec 32 := BitVec.ofNat 32 (i 2).val
  let c4096_i32 : BitVec 32 := 4096#32
  let v5 : BitVec 32 := Scalar.muli arg2 c4096_i32
  v5
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c768_i32 : BitVec 32 := 768#32
  let v0 : BitVec 32 := Scalar.muli arg1 c768_i32
  let c6144_i32 : BitVec 32 := 6144#32
  let v1 : BitVec 1 := Scalar.cmpi .sge v0 c6144_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c4096_i32 : BitVec 32 := 4096#32
  let v5 : BitVec 32 := Scalar.muli arg2 c4096_i32
  let v6 : BitVec 32 := v5
  let c0_i32_0 : BitVec 32 := 0#32
  ![v4.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjIdeal.lean ====
abbrev S4096x4096 : Shape := ⟨2, ![4096, 4096]⟩
abbrev S16912x4096 : Shape := ⟨2, ![16912, 4096]⟩
abbrev S4096x16912 : Shape := ⟨2, ![4096, 16912]⟩
abbrev S4096x6144 : Shape := ⟨2, ![4096, 6144]⟩
abbrev S4096x16 : Shape := ⟨2, ![4096, 16]⟩
abbrev S4096x10752 : Shape := ⟨2, ![4096, 10752]⟩
abbrev S4096x16896 : Shape := ⟨2, ![4096, 16896]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S16912x4096, .bf16⟩
  | .hbm, ⟨2, _⟩ => ⟨S4096x4096, .f32⟩
  | .hbm, ⟨3, _⟩ => ⟨S16912x4096, .f32⟩
  | .hbm, ⟨4, _⟩ => ⟨S4096x16912, .f32⟩
  | .hbm, ⟨5, _⟩ => ⟨S4096x6144, .f32⟩
  | .hbm, ⟨6, _⟩ => ⟨S4096x16, .f32⟩
  | .hbm, ⟨7, _⟩ => ⟨S4096x10752, .f32⟩
  | .hbm, ⟨8, _⟩ => ⟨S4096x16896, .f32⟩
  | .hbm, ⟨9, _⟩ => ⟨S4096x16896, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelProjX.lean ====
abbrev S4096x16896 : Shape := ⟨2, ![4096, 16896]⟩
abbrev S16912x4096 : Shape := ⟨2, ![16912, 4096]⟩
abbrev S4096x4096 : Shape := ⟨2, ![4096, 4096]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x16896, .bf16⟩
  | .hbm, ⟨1, _⟩ => ⟨S16912x4096, .bf16⟩
  | .hbm, ⟨2, _⟩ => ⟨S4096x4096, .f32⟩
  | .hbm, ⟨3, _⟩ => ⟨S4096x4096, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 11], ![false, false, false]⟩

def k0_mult1 (i : grid0.Coords) : BitVec 32 :=
  let arg2 : BitVec 32 := BitVec.ofNat 32 (i 2).val
  let c1536_i32 : BitVec 32 := 1536#32
  let v0 : BitVec 32 := Scalar.muli arg2 c1536_i32
  let c6144_i32 : BitVec 32 := 6144#32
  let v1 : BitVec 1 := Scalar.cmpi .sge v0 c6144_i32
  let c16_i32 : BitVec 32 := 16#32
  let c0_i32 : BitVec 32 := 0#32
  let v2 : BitVec 32 := Scalar.select v1 c16_i32 c0_i32
  let v3 : BitVec 32 := Scalar.addi v0 v2
  v3
def k0_mult2 (i : grid0.Coords) : BitVec 32 :=
  let arg1 : BitVec 32 := BitVec.ofNat 32 (i 1).val
  let c1024_i32 : BitVec 32 := 1024#32
  let v5 : BitVec 32 := Scalar.muli arg1 c1024_i32
  v5
def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1536_i32 : BitVec 32 := 1536#32
  let v0 : BitVec 32 := Scalar.muli arg2 c1536_i32
  let c6144_i32 : BitVec 32 := 6144#32
  let v1 : BitVec 1 := Scalar.cmpi .sge v0 c6144_i32
  let c16_i32 : BitVec 32 := 16#32
  let c0_i32 : BitVec 32 := 0#32
  let v2 : BitVec 32 := Scalar.select v1 c16_i32 c0_i32
  let v3 : BitVec 32 := Scalar.addi v0 v2
  let v4 : BitVec 32 := v3
  let c1024_i32 : BitVec 32 := 1024#32
  let v5 : BitVec 32 := Scalar.muli arg1 c1024_i32
  let v6 : BitVec 32 := v5
  let c0_i32_0 : BitVec 32 := 0#32
  ![v4.toNat, v6.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceProjXIdeal.lean ====
abbrev S4096x16896 : Shape := ⟨2, ![4096, 16896]⟩
abbrev S16912x4096 : Shape := ⟨2, ![16912, 4096]⟩
abbrev S4096x4096 : Shape := ⟨2, ![4096, 4096]⟩
abbrev S_ : Shape := ⟨0, ![]⟩
abbrev S4096x16912 : Shape := ⟨2, ![4096, 16912]⟩
abbrev S4096x6144 : Shape := ⟨2, ![4096, 6144]⟩
abbrev S4096x16 : Shape := ⟨2, ![4096, 16]⟩
abbrev S4096x10752 : Shape := ⟨2, ![4096, 10752]⟩

abbrev nBuf : Space → Nat
  | .hbm => 19
  | .vmem => 0
  | .smem => 0
  | _ => 0

abbrev bufTy : (tb : Table) → Fin (tcTables nBuf tb) → BufTy
  | .hbm, ⟨0, _⟩ => ⟨S4096x16896, .bf16⟩
  | .hbm, ⟨1, _⟩ => ⟨S16912x4096, .bf16⟩
  | .hbm, ⟨2, _⟩ => ⟨S4096x4096, .f32⟩
  | .hbm, ⟨3, _⟩ => ⟨S16912x4096, .f32⟩
  | .hbm, ⟨4, _⟩ => ⟨S_, .f32⟩
  | .hbm, ⟨5, _⟩ => ⟨S4096x4096, .f32⟩
  | .hbm, ⟨6, _⟩ => ⟨S4096x16912, .f32⟩
  | .hbm, ⟨7, _⟩ => ⟨S4096x6144, .f32⟩
  | .hbm, ⟨8, _⟩ => ⟨S4096x16, .f32⟩
  | .hbm, ⟨9, _⟩ => ⟨S4096x10752, .f32⟩
  | .hbm, ⟨10, _⟩ => ⟨S4096x16896, .f32⟩
  | .hbm, ⟨11, _⟩ => ⟨S4096x16896, .f32⟩
  | .hbm, ⟨12, _⟩ => ⟨S4096x6144, .f32⟩
  | .hbm, ⟨13, _⟩ => ⟨S4096x10752, .f32⟩
  | .hbm, ⟨14, _⟩ => ⟨S_, .f32⟩
  | .hbm, ⟨15, _⟩ => ⟨S4096x16, .f32⟩
  | .hbm, ⟨16, _⟩ => ⟨S4096x16912, .f32⟩
  | .hbm, ⟨17, _⟩ => ⟨S4096x4096, .f32⟩
  | .hbm, ⟨18, _⟩ => ⟨S4096x4096, .f32⟩
  | _, _ => ⟨S4096x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelMixX.lean ====
abbrev S4096x4096 : Shape := ⟨2, ![4096, 4096]⟩
abbrev S4096x16896 : Shape := ⟨2, ![4096, 16896]⟩
abbrev S1024x4096 : Shape := ⟨2, ![1024, 4096]⟩
abbrev S256x4096 : Shape := ⟨2, ![256, 4096]⟩
abbrev S1024x256 : Shape := ⟨2, ![1024, 256]⟩

abbrev nBuf : Space → Nat
  | .hbm => 9
  | .vmem => 20
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x16896, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .hbm, ⟨8, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S256x4096, .bf16⟩
  | .local _ .vmem, ⟨3, _⟩ => ⟨S256x4096, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c34_i32 : BitVec 32 := 34#32
  let v0 : BitVec 32 := Scalar.addi c34_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c50_i32 : BitVec 32 := 50#32
  let v0 : BitVec 32 := Scalar.addi c50_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceMixXIdeal.lean ====
abbrev S4096x4096 : Shape := ⟨2, ![4096, 4096]⟩
abbrev S4096x16896 : Shape := ⟨2, ![4096, 16896]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x16896, .bf16⟩
  | .hbm, ⟨5, _⟩ => ⟨S4096x4096, .f32⟩
  | .hbm, ⟨6, _⟩ => ⟨S4096x4096, .bf16⟩
  | .hbm, ⟨7, _⟩ => ⟨S4096x4096, .f32⟩
  | .hbm, ⟨8, _⟩ => ⟨S4096x4096, .bf16⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .f32⟩
  | .hbm, ⟨48, _⟩ => ⟨S4096x4096, .bf16⟩
  | .hbm, ⟨49, _⟩ => ⟨S4096x4096, .bf16⟩
  | .hbm, ⟨50, _⟩ => ⟨S4096x4096, .bf16⟩
  | .hbm, ⟨51, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== KernelOutW.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutWIdeal.lean ====
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelBranchW.lean ====
abbrev S4096x4096 : Shape := ⟨2, ![4096, 4096]⟩
abbrev S4096x2048 : Shape := ⟨2, ![4096, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchWIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelBranchX.lean ====
abbrev S4096x4096 : Shape := ⟨2, ![4096, 4096]⟩
abbrev S4096x2048 : Shape := ⟨2, ![4096, 2048]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchXIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x4096, .f32⟩
  | .hbm, ⟨6, _⟩ => ⟨S4096x4096, .f32⟩
  | .hbm, ⟨7, _⟩ => ⟨S4096x2048, .f32⟩
  | .hbm, ⟨8, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOut.lean ====
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelMix.lean ====
abbrev S4096x2048 : Shape := ⟨2, ![4096, 2048]⟩
abbrev S4096x16896 : Shape := ⟨2, ![4096, 16896]⟩
abbrev S4096x4096 : Shape := ⟨2, ![4096, 4096]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x16896, .bf16⟩
  | .hbm, ⟨5, _⟩ => ⟨S4096x4096, .bf16⟩
  | .hbm, ⟨6, _⟩ => ⟨S4096x4096, .bf16⟩
  | .hbm, ⟨7, _⟩ => ⟨S4096x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.addi c17_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceMixIdeal.lean ====
abbrev S4096x2048 : Shape := ⟨2, ![4096, 2048]⟩
abbrev S4096x16896 : Shape := ⟨2, ![4096, 16896]⟩
abbrev S4096x4096 : Shape := ⟨2, ![4096, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x16896, .bf16⟩
  | .hbm, ⟨5, _⟩ => ⟨S4096x2048, .f32⟩
  | .hbm, ⟨6, _⟩ => ⟨S4096x2048, .f32⟩
  | .hbm, ⟨7, _⟩ => ⟨S4096x4096, .f32⟩
  | .hbm, ⟨8, _⟩ => ⟨S4096x2048, .f32⟩
  | .hbm, ⟨9, _⟩ => ⟨S4096x2048, .f32⟩
  | .hbm, ⟨10, _⟩ => ⟨S4096x4096, .f32⟩
  | .hbm, ⟨11, _⟩ => ⟨S4096x4096, .bf16⟩
  | .hbm, ⟨12, _⟩ => ⟨S4096x4096, .f32⟩
  | .hbm, ⟨13, _⟩ => ⟨S4096x4096, .bf16⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S4096x4096, .bf16⟩
  | .hbm, ⟨35, _⟩ => ⟨S4096x4096, .bf16⟩
  | .hbm, ⟨36, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== KernelFoxF.lean ====
abbrev S4096x16896 : Shape := ⟨2, ![4096, 16896]⟩
abbrev S16x4096 : Shape := ⟨2, ![16, 4096]⟩
abbrev S16x4096x1 : Shape := ⟨3, ![16, 4096, 1]⟩
abbrev S16x1x4096 : Shape := ⟨3, ![16, 1, 4096]⟩
abbrev S4096x2048 : Shape := ⟨2, ![4096, 2048]⟩
abbrev S1024x128 : Shape := ⟨2, ![1024, 128]⟩
abbrev S1x1024x1 : Shape := ⟨3, ![1, 1024, 1]⟩
abbrev S1x1x1024 : Shape := ⟨3, ![1, 1, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 6
  | .vmem => 17
  | .smem => 0
  | _ => 0

abbrev bufTy : (tb : Table) → Fin (tcTables nBuf tb) → BufTy
  | .hbm, ⟨0, _⟩ => ⟨S4096x16896, .bf16⟩
  | .hbm, ⟨1, _⟩ => ⟨S16x4096, .f32⟩
  | .hbm, ⟨2, _⟩ => ⟨S16x4096x1, .f32⟩
  | .hbm, ⟨3, _⟩ => ⟨S16x1x4096, .f32⟩
  | .hbm, ⟨4, _⟩ => ⟨S4096x2048, .bf16⟩
  | .hbm, ⟨5, _⟩ => ⟨S16x4096x1, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1024x1, .f32⟩
  | .local _ .vmem, ⟨7, _⟩ => ⟨S1x1024x1, .f32⟩
  | .local _ .vmem, ⟨8, _⟩ => ⟨S1x1x1024, .f32⟩
  | .local _ .vmem, ⟨9, _⟩ => ⟨S1x1x1024, .f32⟩
  | .local _ .vmem, ⟨10, _⟩ => ⟨S1024x128, .bf16⟩
  | .local _ .vmem, ⟨11, _⟩ => ⟨S1024x128, .bf16⟩
  | .local _ .vmem, ⟨12, _⟩ => ⟨S1x1024x1, .f32⟩
  | .local _ .vmem, ⟨13, _⟩ => ⟨S1x1024x1, .f32⟩
  | .local _ .vmem, ⟨14, _⟩ => ⟨S1024x1, .f32⟩
  | .local _ .vmem, ⟨15, _⟩ => ⟨S1024x1, .f32⟩
  | .local _ .vmem, ⟨16, _⟩ => ⟨S1024x128, .f32⟩
  | _, _ => ⟨S4096x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 4], ![false, false, false]⟩

def k0_cond3 (i : grid0.Coords) : BitVec 1 :=
  let arg2 : BitVec 32 := BitVec.ofNat 32 (i 2).val
  let arg1 : BitVec 32 := BitVec.ofNat 32 (i 1).val
  let v6 : BitVec 1 := Scalar.cmpi .eq arg2 arg1
  let v7 : BitVec 32 := Scalar.extui v6
  let c0_i32_2 : BitVec 32 := 0#32
  let v8 : BitVec 1 := Scalar.cmpi .ne v7 c0_i32_2
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c16_i32 : BitVec 32 := 16#32
  let v1 : BitVec 32 := Scalar.addi c16_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c32_i32 : BitVec 32 := 32#32
  let v1 : BitVec 32 := Scalar.addi c32_i32 arg0
  let c0_i32 : BitVec 32 := 0#32
  ![v0.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelFoxFIdeal.lean ====
variable {F : FTy → Type} [FloatOps F] [Named F]
def κ : String → Option EReal := fun
  | "mask" => some ⊥
  | _ => none
-- ==== ReferenceFoxFIdeal.lean ====
abbrev S4096x16896 : Shape := ⟨2, ![4096, 16896]⟩
abbrev S16x4096 : Shape := ⟨2, ![16, 4096]⟩
abbrev S4096x2048 : Shape := ⟨2, ![4096, 2048]⟩
abbrev S4096x16x128 : Shape := ⟨3, ![4096, 16, 128]⟩
abbrev S16x4096x4096 : Shape := ⟨3, ![16, 4096, 4096]⟩
abbrev S_ : Shape := ⟨0, ![]⟩
abbrev S16x4096x1 : Shape := ⟨3, ![16, 4096, 1]⟩
abbrev S16x1x4096 : Shape := ⟨3, ![16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x128x4096 : Shape := ⟨3, ![16, 128, 4096]⟩

abbrev nBuf : Space → Nat
  | .hbm => 62
  | .vmem => 0
  | .smem => 0
  | _ => 0

abbrev bufTy : (tb : Table) → Fin (tcTables nBuf tb) → BufTy
  | .hbm, ⟨0, _⟩ => ⟨S4096x16896, .bf16⟩
  | .hbm, ⟨1, _⟩ => ⟨S16x4096, .f32⟩
  | .hbm, ⟨2, _⟩ => ⟨S4096x2048, .bf16⟩
  | .hbm, ⟨3, _⟩ => ⟨S4096x2048, .f32⟩
  | .hbm, ⟨4, _⟩ => ⟨S4096x16x128, .f32⟩
  | .hbm, ⟨5, _⟩ => ⟨S4096x2048, .bf16⟩
  | .hbm, ⟨6, _⟩ => ⟨S4096x2048, .f32⟩
  | .hbm, ⟨7, _⟩ => ⟨S4096x16x128, .f32⟩
  | .hbm, ⟨8, _⟩ => ⟨S4096x2048, .bf16⟩
  | .hbm, ⟨9, _⟩ => ⟨S4096x2048, .f32⟩
  | .hbm, ⟨10, _⟩ => ⟨S4096x16x128, .f32⟩
  | .hbm, ⟨11, _⟩ => ⟨S16x4096x4096, .f32⟩
  | .hbm, ⟨12, _⟩ => ⟨S_, .f32⟩
  | .hbm, ⟨13, _⟩ => ⟨S16x4096x4096, .f32⟩
  | .hbm, ⟨14, _⟩ => ⟨S16x4096x4096, .f32⟩
  | .hbm, ⟨15, _⟩ => ⟨S16x4096x1, .f32⟩
  | .hbm, ⟨16, _⟩ => ⟨S16x4096x4096, .f32⟩
  | .hbm, ⟨17, _⟩ => ⟨S16x4096x4096, .f32⟩
  | .hbm, ⟨18, _⟩ => ⟨S16x1x4096, .f32⟩
  | .hbm, ⟨19, _⟩ => ⟨S16x4096x4096, .f32⟩
  | .hbm, ⟨20, _⟩ => ⟨S16x4096x4096, .f32⟩
  | .hbm, ⟨21, _⟩ => ⟨S4096, .i32⟩
  | .hbm, ⟨22, _⟩ => ⟨S1x4096, .i32⟩
  | .hbm, ⟨23, _⟩ => ⟨S4096, .i32⟩
  | .hbm, ⟨24, _⟩ => ⟨S4096x1, .i32⟩
  | .hbm, ⟨25, _⟩ => ⟨S4096x4096, .i32⟩
  | .hbm, ⟨26, _⟩ => ⟨S4096x4096, .i32⟩
  | .hbm, ⟨27, _⟩ => ⟨S4096x4096, .i1⟩
  | .hbm, ⟨28, _⟩ => ⟨S_, .f32⟩
  | .hbm, ⟨29, _⟩ => ⟨S_, .f32⟩
  | .hbm, ⟨30, _⟩ => ⟨S16x4096x4096, .i1⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S16x4096, .f32⟩
  | .hbm, ⟨35, _⟩ => ⟨S16x4096x1, .f32⟩
  | .hbm, ⟨36, _⟩ => ⟨S16x4096x4096, .f32⟩
  | .hbm, ⟨37, _⟩ => ⟨S16x4096x4096, .f32⟩
  | .hbm, ⟨38, _⟩ => ⟨S16x4096x4096, .f32⟩
  | .hbm, ⟨39, _⟩ => ⟨S_, .f32⟩
  | .hbm, ⟨40, _⟩ => ⟨S16x4096, .f32⟩
  | .hbm, ⟨41, _⟩ => ⟨S16x4096x1, .f32⟩
  | .hbm, ⟨42, _⟩ => ⟨S16x4096x1, .f32⟩
  | .hbm, ⟨43, _⟩ => ⟨S16x4096x1, .f32⟩
  | .hbm, ⟨44, _⟩ => ⟨S_, .f32⟩
  | .hbm, ⟨45, _⟩ => ⟨S16x4096, .f32⟩
  | .hbm, ⟨46, _⟩ => ⟨S_, .f32⟩
  | .hbm, ⟨47, _⟩ => ⟨S16x4096, .f32⟩
  | .hbm, ⟨48, _⟩ => ⟨S16x4096, .f32⟩
  | .hbm, ⟨49, _⟩ => ⟨S16x4096x1, .f32⟩
  | .hbm, ⟨50, _⟩ => ⟨S16x4096x4096, .f32⟩
  | .hbm, ⟨51, _⟩ => ⟨S16x4096x4096, .f32⟩
  | .hbm, ⟨52, _⟩ => ⟨S16x4096x4096, .f32⟩
  | .hbm, ⟨53, _⟩ => ⟨S_, .f32⟩
  | .hbm, ⟨54, _⟩ => ⟨S16x4096, .f32⟩
  | .hbm, ⟨55, _⟩ => ⟨S16x4096x1, .f32⟩
  | .hbm, ⟨56, _⟩ => ⟨S16x4096x4096, .f32⟩
  | .hbm, ⟨57, _⟩ => ⟨S16x4096x4096, .f32⟩
  | .hbm, ⟨58, _⟩ => ⟨S16x128x4096, .f32⟩
  | .hbm, ⟨59, _⟩ => ⟨S4096x16x128, .f32⟩
  | .hbm, ⟨60, _⟩ => ⟨S4096x2048, .f32⟩
  | .hbm, ⟨61, _⟩ => ⟨S4096x2048, .bf16⟩
  | _, _ => ⟨S4096x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_cst_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== KernelProjW.lean ====
abbrev S4096x16896 : Shape := ⟨2, ![4096, 16896]⟩
abbrev S4096x4096 : Shape := ⟨2, ![4096, 4096]⟩
abbrev S16896x4096 : Shape := ⟨2, ![16896, 4096]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x16896, .bf16⟩
  | .hbm, ⟨1, _⟩ => ⟨S4096x4096, .bf16⟩
  | .hbm, ⟨2, _⟩ => ⟨S16896x4096, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | _, _ => ⟨S4096x16896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceProjWIdeal.lean ====
abbrev S4096x16896 : Shape := ⟨2, ![4096, 16896]⟩
abbrev S4096x4096 : Shape := ⟨2, ![4096, 4096]⟩
abbrev S_ : Shape := ⟨0, ![]⟩
abbrev S16912x4096 : Shape := ⟨2, ![16912, 4096]⟩
abbrev S4096x16912 : Shape := ⟨2, ![4096, 16912]⟩
abbrev S4096x6144 : Shape := ⟨2, ![4096, 6144]⟩
abbrev S4096x16 : Shape := ⟨2, ![4096, 16]⟩
abbrev S4096x10752 : Shape := ⟨2, ![4096, 10752]⟩
abbrev S6144x4096 : Shape := ⟨2, ![6144, 4096]⟩
abbrev S10752x4096 : Shape := ⟨2, ![10752, 4096]⟩
abbrev S16896x4096 : Shape := ⟨2, ![16896, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4096x16896, .bf16⟩
  | .hbm, ⟨1, _⟩ => ⟨S4096x4096, .bf16⟩
  | .hbm, ⟨2, _⟩ => ⟨S4096x4096, .f32⟩
  | .hbm, ⟨3, _⟩ => ⟨S_, .f32⟩
  | .hbm, ⟨4, _⟩ => ⟨S16912x4096, .f32⟩
  | .hbm, ⟨5, _⟩ => ⟨S4096x16912, .f32⟩
  | .hbm, ⟨6, _⟩ => ⟨S4096x6144, .f32⟩
  | .hbm, ⟨7, _⟩ => ⟨S4096x16, .f32⟩
  | .hbm, ⟨8, _⟩ => ⟨S4096x10752, .f32⟩
  | .hbm, ⟨9, _⟩ => ⟨S4096x16896, .f32⟩
  | .hbm, ⟨10, _⟩ => ⟨S4096x16896, .f32⟩
  | .hbm, ⟨11, _⟩ => ⟨S4096x6144, .f32⟩
  | .hbm, ⟨12, _⟩ => ⟨S4096x10752, .f32⟩
  | .hbm, ⟨13, _⟩ => ⟨S_, .f32⟩
  | .hbm, ⟨14, _⟩ => ⟨S4096x16, .f32⟩
  | .hbm, ⟨15, _⟩ => ⟨S4096x16912, .f32⟩
  | .hbm, ⟨16, _⟩ => ⟨S16912x4096, .f32⟩
  | .hbm, ⟨17, _⟩ => ⟨S6144x4096, .f32⟩
  | .hbm, ⟨18, _⟩ => ⟨S10752x4096, .f32⟩
  | .hbm, ⟨19, _⟩ => ⟨S16896x4096, .f32⟩
  | .hbm, ⟨20, _⟩ => ⟨S16896x4096, .bf16⟩
  | _, _ => ⟨S4096x16896, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== KernelNorm.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩

abbrev nBuf : Space → Nat
  | .hbm => 18
  | .vmem => 14
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x4096, .f32⟩
  | .hbm, ⟨16, _⟩ => ⟨S1x4096, .f32⟩
  | .hbm, ⟨17, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x1, .f32⟩
  | .local _ .vmem, ⟨7, _⟩ => ⟨S256x1, .f32⟩
  | .local _ .vmem, ⟨8, _⟩ => ⟨S1x4096, .f32⟩
  | .local _ .vmem, ⟨9, _⟩ => ⟨S256x4096, .f32⟩
  | .local _ .vmem, ⟨10, _⟩ => ⟨S256x4096, .f32⟩
  | .local _ .vmem, ⟨11, _⟩ => ⟨S1x4096, .f32⟩
  | .local _ .vmem, ⟨12, _⟩ => ⟨S256x4096, .bf16⟩
  | .local _ .vmem, ⟨13, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceNormIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 48
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x4096, .f32⟩
  | .hbm, ⟨34, _⟩ => ⟨S4096x4096, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== KernelNormF.lean ====
abbrev S4096x4096 : Shape := ⟨2, ![4096, 4096]⟩
abbrev S1x4096 : Shape := ⟨2, ![1, 4096]⟩
abbrev S4096x1 : Shape := ⟨2, ![4096, 1]⟩
abbrev S256x4096 : Shape := ⟨2, ![256, 4096]⟩
abbrev S256x1 : Shape := ⟨2, ![256, 1]⟩
abbrev S256 : Shape := ⟨1, ![256]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .hbm, ⟨3, _⟩ => ⟨S4096x1, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S256x1, .f32⟩
  | .local _ .vmem, ⟨6, _⟩ => ⟨S256x1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceNormFIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .bf16⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== KernelLoss.lean ====
abbrev S4096x4096 : Shape := ⟨2, ![4096, 4096]⟩
abbrev S1x4096 : Shape := ⟨2, ![1, 4096]⟩
abbrev S1x1 : Shape := ⟨2, ![1, 1]⟩
abbrev S256x4096 : Shape := ⟨2, ![256, 4096]⟩
abbrev S256 : Shape := ⟨1, ![256]⟩
abbrev S256x1 : Shape := ⟨2, ![256, 1]⟩
abbrev S1 : Shape := ⟨1, ![1]⟩
abbrev S4096 : Shape := ⟨1, ![4096]⟩

abbrev nBuf : Space → Nat
  | .hbm => 7
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S1x1, .f32⟩
  | .hbm, ⟨5, _⟩ => ⟨S1x4096, .f32⟩
  | .hbm, ⟨6, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S1x1, .f32⟩
  | .local _ .vmem, ⟨8, _⟩ => ⟨S1x4096, .f32⟩
  | .local _ .vmem, ⟨9, _⟩ => ⟨S256x4096, .bf16⟩
  | .local _ .vmem, ⟨10, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceLossIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 70
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S4096x4096, .f32⟩
  | .hbm, ⟨26, _⟩ => ⟨S4096x4096, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096, .f32⟩
  | .hbm, ⟨48, _⟩ => ⟨S1x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x4096, .f32⟩
  | .hbm, ⟨56, _⟩ => ⟨S4096x4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | .hbm, ⟨67, _⟩ => ⟨S4096x4096, .f32⟩
  | .hbm, ⟨68, _⟩ => ⟨S1x1, .f32⟩
  | .hbm, ⟨69, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== KernelAdamS.lean ====
abbrev S8x4096 : Shape := ⟨2, ![8, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S8x4096, .f32⟩
  | .hbm, ⟨5, _⟩ => ⟨S8x4096, .f32⟩
  | .hbm, ⟨6, _⟩ => ⟨S8x4096, .f32⟩
  | .local _ .vmem, ⟨0, _⟩ => ⟨S8x4096, .f32⟩
  | .local _ .vmem, ⟨1, _⟩ => ⟨S8x4096, .f32⟩
  | .local _ .vmem, ⟨2, _⟩ => ⟨S8x4096, .f32⟩
  | .local _ .vmem, ⟨3, _⟩ => ⟨S8x4096, .f32⟩
  | .local _ .vmem, ⟨4, _⟩ => ⟨S8x4096, .f32⟩
  | .local _ .vmem, ⟨5, _⟩ => ⟨S8x4096, .f32⟩
  | .local _ .vmem, ⟨6, _⟩ => ⟨S8x4096, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceAdamSIdeal.lean ====
abbrev S8x4096 : Shape := ⟨2, ![8, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x4096, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S8x4096, .f32⟩
  | .hbm, ⟨11, _⟩ => ⟨S_, .f32⟩
  | .hbm, ⟨12, _⟩ => ⟨S8x4096, .f32⟩
  | .hbm, ⟨13, _⟩ => ⟨S8x4096, .f32⟩
  | .hbm, ⟨14, _⟩ => ⟨S8x4096, .f32⟩
  | .hbm, ⟨15, _⟩ => ⟨S_, .f32⟩
  | .hbm, ⟨16, _⟩ => ⟨S8x4096, .f32⟩
  | .hbm, ⟨17, _⟩ => ⟨S8x4096, .f32⟩
  | .hbm, ⟨18, _⟩ => ⟨S8x4096, .f32⟩
  | .hbm, ⟨19, _⟩ => ⟨S_, .f32⟩
  | .hbm, ⟨20, _⟩ => ⟨S8x4096, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S8x4096, .f32⟩
  | .hbm, ⟨28, _⟩ => ⟨S8x4096, .f32⟩
  | .hbm, ⟨29, _⟩ => ⟨S8x4096, .f32⟩
  | .hbm, ⟨30, _⟩ => ⟨S_, .f32⟩
  | .hbm, ⟨31, _⟩ => ⟨S8x4096, .f32⟩
  | .hbm, ⟨32, _⟩ => ⟨S8x4096, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelAdamF.lean ====
abbrev S8x1376x4096 : Shape := ⟨3, ![8, 1376, 4096]⟩
abbrev S1376x4096 : Shape := ⟨2, ![1376, 4096]⟩
abbrev S8x1376x128 : Shape := ⟨3, ![8, 1376, 128]⟩
abbrev S1376x128 : Shape := ⟨2, ![1376, 128]⟩
abbrev S1x1376x128 : Shape := ⟨3, ![1, 1376, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .local _ .vmem, ⟨0, _⟩ => ⟨S8x1376x128, .bf16⟩
  | .local _ .vmem, ⟨1, _⟩ => ⟨S8x1376x128, .bf16⟩
  | .local _ .vmem, ⟨2, _⟩ => ⟨S1376x128, .f32⟩
  | .local _ .vmem, ⟨3, _⟩ => ⟨S1376x128, .f32⟩
  | .local _ .vmem, ⟨4, _⟩ => ⟨S1376x128, .f32⟩
  | .local _ .vmem, ⟨5, _⟩ => ⟨S1376x128, .f32⟩
  | .local _ .vmem, ⟨6, _⟩ => ⟨S1376x128, .f32⟩
  | .local _ .vmem, ⟨7, _⟩ => ⟨S1376x128, .f32⟩
  | .local _ .vmem, ⟨8, _⟩ => ⟨S1376x128, .f32⟩
  | .local _ .vmem, ⟨9, _⟩ => ⟨S1376x128, .f32⟩
  | .local _ .vmem, ⟨10, _⟩ => ⟨S1376x128, .f32⟩
  | .local _ .vmem, ⟨11, _⟩ => ⟨S1376x128, .f32⟩
  | .local _ .vmem, ⟨12, _⟩ => ⟨S1376x128, .f32⟩
  | .local _ .vmem, ⟨13, _⟩ => ⟨S1376x128, .f32⟩
  | .local _ .vmem, ⟨14, _⟩ => ⟨S1376x128, .f32⟩
  | .local _ .vmem, ⟨15, _⟩ => ⟨S1376x128, .f32⟩
  | _, _ => ⟨S8x1376x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1376x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1376x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1376x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1376x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1376x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1376x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1376x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1376x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamFIdeal.lean ====
abbrev S8x1376x4096 : Shape := ⟨3, ![8, 1376, 4096]⟩
abbrev S1376x4096 : Shape := ⟨2, ![1376, 4096]⟩
abbrev S8x1376x128 : Shape := ⟨3, ![8, 1376, 128]⟩
abbrev S1376x128 : Shape := ⟨2, ![1376, 128]⟩
abbrev S1x1376x128 : Shape := ⟨3, ![1, 1376, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S1376x4096, .f32⟩
  | .hbm, ⟨5, _⟩ => ⟨S1376x4096, .f32⟩
  | .hbm, ⟨6, _⟩ => ⟨S1376x4096, .f32⟩
  | .hbm, ⟨7, _⟩ => ⟨S1376x4096, .f32⟩
  | .local _ .vmem, ⟨0, _⟩ => ⟨S8x1376x128, .bf16⟩
  | .local _ .vmem, ⟨1, _⟩ => ⟨S8x1376x128, .bf16⟩
  | .local _ .vmem, ⟨2, _⟩ => ⟨S1376x128, .f32⟩
  | .local _ .vmem, ⟨3, _⟩ => ⟨S1376x128, .f32⟩
  | .local _ .vmem, ⟨4, _⟩ => ⟨S1376x128, .f32⟩
  | .local _ .vmem, ⟨5, _⟩ => ⟨S1376x128, .f32⟩
  | .local _ .vmem, ⟨6, _⟩ => ⟨S1376x128, .f32⟩
  | .local _ .vmem, ⟨7, _⟩ => ⟨S1376x128, .f32⟩
  | .local _ .vmem, ⟨8, _⟩ => ⟨S1376x128, .f32⟩
  | .local _ .vmem, ⟨9, _⟩ => ⟨S1376x128, .f32⟩
  | .local _ .vmem, ⟨10, _⟩ => ⟨S1376x128, .f32⟩
  | .local _ .vmem, ⟨11, _⟩ => ⟨S1376x128, .f32⟩
  | .local _ .vmem, ⟨12, _⟩ => ⟨S1376x128, .f32⟩
  | .local _ .vmem, ⟨13, _⟩ => ⟨S1376x128, .f32⟩
  | .local _ .vmem, ⟨14, _⟩ => ⟨S1376x128, .f32⟩
  | .local _ .vmem, ⟨15, _⟩ => ⟨S1376x128, .f32⟩
  | _, _ => ⟨S8x1376x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1376x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1376x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1376x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1376x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1376x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1376x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1376x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1376x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamFIdeal.lean ====
abbrev S8x1376x4096 : Shape := ⟨3, ![8, 1376, 4096]⟩
abbrev S1376x4096 : Shape := ⟨2, ![1376, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1376x4096, .bf16⟩
  | .hbm, ⟨1, _⟩ => ⟨S1376x4096, .f32⟩
  | .hbm, ⟨2, _⟩ => ⟨S1376x4096, .f32⟩
  | .hbm, ⟨3, _⟩ => ⟨S1376x4096, .f32⟩
  | .hbm, ⟨4, _⟩ => ⟨S8x1376x4096, .f32⟩
  | .hbm, ⟨5, _⟩ => ⟨S_, .f32⟩
  | .hbm, ⟨6, _⟩ => ⟨S1376x4096, .f32⟩
  | .hbm, ⟨7, _⟩ => ⟨S_, .f32⟩
  | .hbm, ⟨8, _⟩ => ⟨S1376x4096, .f32⟩
  | .hbm, ⟨9, _⟩ => ⟨S1376x4096, .f32⟩
  | .hbm, ⟨10, _⟩ => ⟨S_, .f32⟩
  | .hbm, ⟨11, _⟩ => ⟨S1376x4096, .f32⟩
  | .hbm, ⟨12, _⟩ => ⟨S1376x4096, .f32⟩
  | .hbm, ⟨13, _⟩ => ⟨S1376x4096, .f32⟩
  | .hbm, ⟨14, _⟩ => ⟨S_, .f32⟩
  | .hbm, ⟨15, _⟩ => ⟨S1376x4096, .f32⟩
  | .hbm, ⟨16, _⟩ => ⟨S1376x4096, .f32⟩
  | .hbm, ⟨17, _⟩ => ⟨S1376x4096, .f32⟩
  | .hbm, ⟨18, _⟩ => ⟨S_, .f32⟩
  | .hbm, ⟨19, _⟩ => ⟨S1376x4096, .f32⟩
  | .hbm, ⟨20, _⟩ => ⟨S1376x4096, .f32⟩
  | .hbm, ⟨21, _⟩ => ⟨S1376x4096, .f32⟩
  | .hbm, ⟨22, _⟩ => ⟨S_, .f32⟩
  | .hbm, ⟨23, _⟩ => ⟨S1376x4096, .f32⟩
  | .hbm, ⟨24, _⟩ => ⟨S1376x4096, .f32⟩
  | .hbm, ⟨25, _⟩ => ⟨S_, .f32⟩
  | .hbm, ⟨26, _⟩ => ⟨S1376x4096, .f32⟩
  | .hbm, ⟨27, _⟩ => ⟨S1376x4096, .f32⟩
  | .hbm, ⟨28, _⟩ => ⟨S1376x4096, .f32⟩
  | .hbm, ⟨29, _⟩ => ⟨S_, .f32⟩
  | .hbm, ⟨30, _⟩ => ⟨S1376x4096, .f32⟩
  | .hbm, ⟨31, _⟩ => ⟨S1376x4096, .f32⟩
  | .hbm, ⟨32, _⟩ => ⟨S1376x4096, .f32⟩
  | .hbm, ⟨33, _⟩ => ⟨S_, .f32⟩
  | .hbm, ⟨34, _⟩ => ⟨S1376x4096, .f32⟩
  | .hbm, ⟨35, _⟩ => ⟨S1376x4096, .f32⟩
  | .hbm, ⟨36, _⟩ => ⟨S1376x4096, .f32⟩
  | .hbm, ⟨37, _⟩ => ⟨S_, .f32⟩
  | .hbm, ⟨38, _⟩ => ⟨S1376x4096, .f32⟩
  | .hbm, ⟨39, _⟩ => ⟨S1376x4096, .f32⟩
  | _, _ => ⟨S8x1376x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamI.lean ====
abbrev S8x2114x4096 : Shape := ⟨3, ![8, 2114, 4096]⟩
abbrev S2114x4096 : Shape := ⟨2, ![2114, 4096]⟩
abbrev S8x2114x128 : Shape := ⟨3, ![8, 2114, 128]⟩
abbrev S2114x128 : Shape := ⟨2, ![2114, 128]⟩
abbrev S1x2114x128 : Shape := ⟨3, ![1, 2114, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2114x4096, .bf16⟩
  | .hbm, ⟨1, _⟩ => ⟨S2114x4096, .f32⟩
  | .hbm, ⟨2, _⟩ => ⟨S2114x4096, .f32⟩
  | .hbm, ⟨3, _⟩ => ⟨S2114x4096, .f32⟩
  | .hbm, ⟨4, _⟩ => ⟨S2114x4096, .f32⟩
  | .hbm, ⟨5, _⟩ => ⟨S2114x4096, .f32⟩
  | .hbm, ⟨6, _⟩ => ⟨S2114x4096, .f32⟩
  | .hbm, ⟨7, _⟩ => ⟨S2114x4096, .f32⟩
  | .local _ .vmem, ⟨0, _⟩ => ⟨S8x2114x128, .bf16⟩
  | .local _ .vmem, ⟨1, _⟩ => ⟨S8x2114x128, .bf16⟩
  | .local _ .vmem, ⟨2, _⟩ => ⟨S2114x128, .f32⟩
  | .local _ .vmem, ⟨3, _⟩ => ⟨S2114x128, .f32⟩
  | .local _ .vmem, ⟨4, _⟩ => ⟨S2114x128, .f32⟩
  | .local _ .vmem, ⟨5, _⟩ => ⟨S2114x128, .f32⟩
  | .local _ .vmem, ⟨6, _⟩ => ⟨S2114x128, .f32⟩
  | .local _ .vmem, ⟨7, _⟩ => ⟨S2114x128, .f32⟩
  | .local _ .vmem, ⟨8, _⟩ => ⟨S2114x128, .f32⟩
  | .local _ .vmem, ⟨9, _⟩ => ⟨S2114x128, .f32⟩
  | .local _ .vmem, ⟨10, _⟩ => ⟨S2114x128, .f32⟩
  | .local _ .vmem, ⟨11, _⟩ => ⟨S2114x128, .f32⟩
  | .local _ .vmem, ⟨12, _⟩ => ⟨S2114x128, .f32⟩
  | .local _ .vmem, ⟨13, _⟩ => ⟨S2114x128, .f32⟩
  | .local _ .vmem, ⟨14, _⟩ => ⟨S2114x128, .f32⟩
  | .local _ .vmem, ⟨15, _⟩ => ⟨S2114x128, .f32⟩
  | _, _ => ⟨S8x2114x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x2114x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2114x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2114x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2114x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2114x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2114x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2114x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2114x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamIIdeal.lean ====
abbrev S8x2114x4096 : Shape := ⟨3, ![8, 2114, 4096]⟩
abbrev S2114x4096 : Shape := ⟨2, ![2114, 4096]⟩
abbrev S8x2114x128 : Shape := ⟨3, ![8, 2114, 128]⟩
abbrev S2114x128 : Shape := ⟨2, ![2114, 128]⟩
abbrev S1x2114x128 : Shape := ⟨3, ![1, 2114, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2114x4096, .bf16⟩
  | .hbm, ⟨1, _⟩ => ⟨S2114x4096, .f32⟩
  | .hbm, ⟨2, _⟩ => ⟨S2114x4096, .f32⟩
  | .hbm, ⟨3, _⟩ => ⟨S2114x4096, .f32⟩
  | .hbm, ⟨4, _⟩ => ⟨S2114x4096, .f32⟩
  | .hbm, ⟨5, _⟩ => ⟨S2114x4096, .f32⟩
  | .hbm, ⟨6, _⟩ => ⟨S2114x4096, .f32⟩
  | .hbm, ⟨7, _⟩ => ⟨S2114x4096, .f32⟩
  | .local _ .vmem, ⟨0, _⟩ => ⟨S8x2114x128, .bf16⟩
  | .local _ .vmem, ⟨1, _⟩ => ⟨S8x2114x128, .bf16⟩
  | .local _ .vmem, ⟨2, _⟩ => ⟨S2114x128, .f32⟩
  | .local _ .vmem, ⟨3, _⟩ => ⟨S2114x128, .f32⟩
  | .local _ .vmem, ⟨4, _⟩ => ⟨S2114x128, .f32⟩
  | .local _ .vmem, ⟨5, _⟩ => ⟨S2114x128, .f32⟩
  | .local _ .vmem, ⟨6, _⟩ => ⟨S2114x128, .f32⟩
  | .local _ .vmem, ⟨7, _⟩ => ⟨S2114x128, .f32⟩
  | .local _ .vmem, ⟨8, _⟩ => ⟨S2114x128, .f32⟩
  | .local _ .vmem, ⟨9, _⟩ => ⟨S2114x128, .f32⟩
  | .local _ .vmem, ⟨10, _⟩ => ⟨S2114x128, .f32⟩
  | .local _ .vmem, ⟨11, _⟩ => ⟨S2114x128, .f32⟩
  | .local _ .vmem, ⟨12, _⟩ => ⟨S2114x128, .f32⟩
  | .local _ .vmem, ⟨13, _⟩ => ⟨S2114x128, .f32⟩
  | .local _ .vmem, ⟨14, _⟩ => ⟨S2114x128, .f32⟩
  | .local _ .vmem, ⟨15, _⟩ => ⟨S2114x128, .f32⟩
  | _, _ => ⟨S8x2114x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x2114x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2114x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2114x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2114x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2114x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2114x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2114x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2114x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamIIdeal.lean ====
abbrev S8x2114x4096 : Shape := ⟨3, ![8, 2114, 4096]⟩
abbrev S2114x4096 : Shape := ⟨2, ![2114, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2114x4096, .bf16⟩
  | .hbm, ⟨1, _⟩ => ⟨S2114x4096, .f32⟩
  | .hbm, ⟨2, _⟩ => ⟨S2114x4096, .f32⟩
  | .hbm, ⟨3, _⟩ => ⟨S2114x4096, .f32⟩
  | .hbm, ⟨4, _⟩ => ⟨S8x2114x4096, .f32⟩
  | .hbm, ⟨5, _⟩ => ⟨S_, .f32⟩
  | .hbm, ⟨6, _⟩ => ⟨S2114x4096, .f32⟩
  | .hbm, ⟨7, _⟩ => ⟨S_, .f32⟩
  | .hbm, ⟨8, _⟩ => ⟨S2114x4096, .f32⟩
  | .hbm, ⟨9, _⟩ => ⟨S2114x4096, .f32⟩
  | .hbm, ⟨10, _⟩ => ⟨S_, .f32⟩
  | .hbm, ⟨11, _⟩ => ⟨S2114x4096, .f32⟩
  | .hbm, ⟨12, _⟩ => ⟨S2114x4096, .f32⟩
  | .hbm, ⟨13, _⟩ => ⟨S2114x4096, .f32⟩
  | .hbm, ⟨14, _⟩ => ⟨S_, .f32⟩
  | .hbm, ⟨15, _⟩ => ⟨S2114x4096, .f32⟩
  | .hbm, ⟨16, _⟩ => ⟨S2114x4096, .f32⟩
  | .hbm, ⟨17, _⟩ => ⟨S2114x4096, .f32⟩
  | .hbm, ⟨18, _⟩ => ⟨S_, .f32⟩
  | .hbm, ⟨19, _⟩ => ⟨S2114x4096, .f32⟩
  | .hbm, ⟨20, _⟩ => ⟨S2114x4096, .f32⟩
  | .hbm, ⟨21, _⟩ => ⟨S2114x4096, .f32⟩
  | .hbm, ⟨22, _⟩ => ⟨S_, .f32⟩
  | .hbm, ⟨23, _⟩ => ⟨S2114x4096, .f32⟩
  | .hbm, ⟨24, _⟩ => ⟨S2114x4096, .f32⟩
  | .hbm, ⟨25, _⟩ => ⟨S_, .f32⟩
  | .hbm, ⟨26, _⟩ => ⟨S2114x4096, .f32⟩
  | .hbm, ⟨27, _⟩ => ⟨S2114x4096, .f32⟩
  | .hbm, ⟨28, _⟩ => ⟨S2114x4096, .f32⟩
  | .hbm, ⟨29, _⟩ => ⟨S_, .f32⟩
  | .hbm, ⟨30, _⟩ => ⟨S2114x4096, .f32⟩
  | .hbm, ⟨31, _⟩ => ⟨S2114x4096, .f32⟩
  | .hbm, ⟨32, _⟩ => ⟨S2114x4096, .f32⟩
  | .hbm, ⟨33, _⟩ => ⟨S_, .f32⟩
  | .hbm, ⟨34, _⟩ => ⟨S2114x4096, .f32⟩
  | .hbm, ⟨35, _⟩ => ⟨S2114x4096, .f32⟩
  | .hbm, ⟨36, _⟩ => ⟨S2114x4096, .f32⟩
  | .hbm, ⟨37, _⟩ => ⟨S_, .f32⟩
  | .hbm, ⟨38, _⟩ => ⟨S2114x4096, .f32⟩
  | .hbm, ⟨39, _⟩ => ⟨S2114x4096, .f32⟩
  | _, _ => ⟨S8x2114x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamO.lean ====
abbrev S8x512x4096 : Shape := ⟨3, ![8, 512, 4096]⟩
abbrev S512x4096 : Shape := ⟨2, ![512, 4096]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamOIdeal.lean ====
abbrev S8x512x4096 : Shape := ⟨3, ![8, 512, 4096]⟩
abbrev S512x4096 : Shape := ⟨2, ![512, 4096]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S512x4096, .f32⟩
  | .hbm, ⟨5, _⟩ => ⟨S512x4096, .f32⟩
  | .hbm, ⟨6, _⟩ => ⟨S512x4096, .f32⟩
  | .hbm, ⟨7, _⟩ => ⟨S512x4096, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamOIdeal.lean ====
abbrev S8x512x4096 : Shape := ⟨3, ![8, 512, 4096]⟩
abbrev S512x4096 : Shape := ⟨2, ![512, 4096]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x4096, .bf16⟩
  | .hbm, ⟨1, _⟩ => ⟨S512x4096, .f32⟩
  | .hbm, ⟨2, _⟩ => ⟨S512x4096, .f32⟩
  | .hbm, ⟨3, _⟩ => ⟨S512x4096, .f32⟩
  | .hbm, ⟨4, _⟩ => ⟨S8x512x4096, .f32⟩
  | .hbm, ⟨5, _⟩ => ⟨S_, .f32⟩
  | .hbm, ⟨6, _⟩ => ⟨S512x4096, .f32⟩
  | .hbm, ⟨7, _⟩ => ⟨S_, .f32⟩
  | .hbm, ⟨8, _⟩ => ⟨S512x4096, .f32⟩
  | .hbm, ⟨9, _⟩ => ⟨S512x4096, .f32⟩
  | .hbm, ⟨10, _⟩ => ⟨S_, .f32⟩
  | .hbm, ⟨11, _⟩ => ⟨S512x4096, .f32⟩
  | .hbm, ⟨12, _⟩ => ⟨S512x4096, .f32⟩
  | .hbm, ⟨13, _⟩ => ⟨S512x4096, .f32⟩
  | .hbm, ⟨14, _⟩ => ⟨S_, .f32⟩
  | .hbm, ⟨15, _⟩ => ⟨S512x4096, .f32⟩
  | .hbm, ⟨16, _⟩ => ⟨S512x4096, .f32⟩
  | .hbm, ⟨17, _⟩ => ⟨S512x4096, .f32⟩
  | .hbm, ⟨18, _⟩ => ⟨S_, .f32⟩
  | .hbm, ⟨19, _⟩ => ⟨S512x4096, .f32⟩
  | .hbm, ⟨20, _⟩ => ⟨S512x4096, .f32⟩
  | .hbm, ⟨21, _⟩ => ⟨S512x4096, .f32⟩
  | .hbm, ⟨22, _⟩ => ⟨S_, .f32⟩
  | .hbm, ⟨23, _⟩ => ⟨S512x4096, .f32⟩
  | .hbm, ⟨24, _⟩ => ⟨S512x4096, .f32⟩
  | .hbm, ⟨25, _⟩ => ⟨S_, .f32⟩
  | .hbm, ⟨26, _⟩ => ⟨S512x4096, .f32⟩
  | .hbm, ⟨27, _⟩ => ⟨S512x4096, .f32⟩
  | .hbm, ⟨28, _⟩ => ⟨S512x4096, .f32⟩
  | .hbm, ⟨29, _⟩ => ⟨S_, .f32⟩
  | .hbm, ⟨30, _⟩ => ⟨S512x4096, .f32⟩
  | .hbm, ⟨31, _⟩ => ⟨S512x4096, .f32⟩
  | .hbm, ⟨32, _⟩ => ⟨S512x4096, .f32⟩
  | .hbm, ⟨33, _⟩ => ⟨S_, .f32⟩
  | .hbm, ⟨34, _⟩ => ⟨S512x4096, .f32⟩
  | .hbm, ⟨35, _⟩ => ⟨S512x4096, .f32⟩
  | .hbm, ⟨36, _⟩ => ⟨S512x4096, .f32⟩
  | .hbm, ⟨37, _⟩ => ⟨S_, .f32⟩
  | .hbm, ⟨38, _⟩ => ⟨S512x4096, .f32⟩
  | .hbm, ⟨39, _⟩ => ⟨S512x4096, .f32⟩
  | _, _ => ⟨S8x512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== KernelAdamB.lean ====
abbrev S8x512x2048 : Shape := ⟨3, ![8, 512, 2048]⟩
abbrev S512x2048 : Shape := ⟨2, ![512, 2048]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S8x512x512, .bf16⟩
  | .local _ .vmem, ⟨1, _⟩ => ⟨S8x512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S8x512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceAdamBIdeal.lean ====
abbrev S8x512x2048 : Shape := ⟨3, ![8, 512, 2048]⟩
abbrev S512x2048 : Shape := ⟨2, ![512, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S8x512x2048, .f32⟩
  | .hbm, ⟨5, _⟩ => ⟨S_, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S_, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S_, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S_, .f32⟩
  | .hbm, ⟨19, _⟩ => ⟨S512x2048, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S_, .f32⟩
  | .hbm, ⟨26, _⟩ => ⟨S512x2048, .f32⟩
  | .hbm, ⟨27, _⟩ => ⟨S512x2048, .f32⟩
  | .hbm, ⟨28, _⟩ => ⟨S512x2048, .f32⟩
  | .hbm, ⟨29, _⟩ => ⟨S_, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S_, .f32⟩
  | .hbm, ⟨34, _⟩ => ⟨S512x2048, .f32⟩
  | .hbm, ⟨35, _⟩ => ⟨S512x2048, .f32⟩
  | .hbm, ⟨36, _⟩ => ⟨S512x2048, .f32⟩
  | .hbm, ⟨37, _⟩ => ⟨S_, .f32⟩
  | .hbm, ⟨38, _⟩ => ⟨S512x2048, .f32⟩
  | .hbm, ⟨39, _⟩ => ⟨S512x2048, .f32⟩
  | _, _ => ⟨S8x512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Real.lean ====
/- Extended reals that are real: sums, products and the scale constant. -/
module

public import Idealize.ShloMosaic.Lib.IdealHost
public import Idealize.ShloMosaic.Lib.Pointwise
public import Idealize.ShloMosaic.Lib.WordCmp

@[expose] public section
noncomputable section
namespace Cert.Hand
open Idealize.ShloMosaic

/-- A finite sum of reals, read in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The scale of the scores: the real of the float word both programs print for `128 ^ -0.5`. -/
def sc : ℝ := (Ideal.ofBits .f32 0x3DB504F3#32).toReal

theorem sc_coe : Ideal.ofBits .f32 0x3DB504F3#32 = ((sc : ℝ) : EReal) := by
  unfold sc
  have h : ∃ x : ℝ, Ideal.ofBits .f32 0x3DB504F3#32 = ((x : ℝ) : EReal) := by
    simp only [Ideal.ofBits, Ideal.ieee]
    norm_num
    exact ⟨_, (EReal.coe_mul _ _).symm⟩
  obtain ⟨x, hx⟩ := h
  rw [hx, EReal.toReal_coe]

end Cert.Hand
end
-- ==== Proof.Tile.lean ====
/- What one tile of the backward pass computes, on blocks of real numbers. Each lemma reads one stored value of the
   kernel at an index: on real blocks it is a real formula, added to what the accumulator held. -/
module

public import proofs.«01_k».proof.Proof.Real
public import proofs.«01_k».proof.Proof.Gen.KernelIdeal.Skeleton

@[expose] public section
set_option maxRecDepth 16384
noncomputable section
namespace Cert.Hand
open Cert.KernelIdeal Cert.KernelIdeal.Gen Idealize.ShloMosaic Idealize.ShloMosaic.Pointwise

variable {Q K V DO O : FVec Ideal S1024x128 .bf16} {LSE CQ : FVec Ideal S1x1024x1 .f32} {CK : FVec Ideal S1x1x1024 .f32}
variable {q k v o g : Fin 1024 → Fin 128 → ℝ} {l cq ck : Fin 1024 → ℝ}

/-- The weight of column `b` in row `r` of a tile, before any masking. -/
def pT (q k : Fin 1024 → Fin 128 → ℝ) (cq ck l : Fin 1024 → ℝ) (r b : Fin 1024) : ℝ :=
  Real.exp ((∑ d, q r d * k b d) * sc + cq r - ck b - l r)

/-- The weights of a tile below the diagonal. -/
theorem pay11_at (hq : ∀ r d, Q (ix2 r d) = ((q r d : ℝ) : EReal)) (hk : ∀ r d, K (ix2 r d) = ((k r d : ℝ) : EReal))
    (hcq : ∀ r, CQ (ix3 0 r 0) = ((cq r : ℝ) : EReal)) (hck : ∀ r, CK (ix3 0 0 r) = ((ck r : ℝ) : EReal))
    (hl : ∀ r, LSE (ix3 0 r 0) = ((l r : ℝ) : EReal)) (r b : Fin 1024) :
    k0_pay11 (F := Ideal) Q K CQ CK LSE (ix2 r b) = ((pT q k cq ck l r b : ℝ) : EReal) := by
  pointwise [k0_pay11]
  simp only [hq, hk, hcq, hck, hl, sc_coe, ← EReal.coe_mul, ← EReal.coe_add, ← EReal.coe_sub, coe_sum, Ideal.exp_coe, pT]

/-- The weights of a tile on the diagonal: columns after the row weigh nothing. -/
theorem pay23_at (hq : ∀ r d, Q (ix2 r d) = ((q r d : ℝ) : EReal)) (hk : ∀ r d, K (ix2 r d) = ((k r d : ℝ) : EReal))
    (hcq : ∀ r, CQ (ix3 0 r 0) = ((cq r : ℝ) : EReal)) (hck : ∀ r, CK (ix3 0 0 r) = ((ck r : ℝ) : EReal))
    (hl : ∀ r, LSE (ix3 0 r 0) = ((l r : ℝ) : EReal)) (r b : Fin 1024) :
    k0_pay23 (F := Ideal) Q K CQ CK LSE (ix2 r b) = ((if b ≤ r then pT q k cq ck l r b else 0 : ℝ) : EReal) := by
  pointwise [k0_pay23]
  simp only [hq, hk, hcq, hck, hl, sc_coe, ← EReal.coe_mul, ← EReal.coe_add, ← EReal.coe_sub, coe_sum, Ideal.exp_coe]
  rw [WordCmp.cmpi_sle_ofNat (by have := b.isLt; omega) (by have := r.isLt; omega)]
  by_cases h : b ≤ r
  · have h' : (b : ℕ) ≤ r := h
    simp only [h, h', decide_true, if_true, pT, EReal.coe_sub]
    rfl
  · have h' : ¬ (b : ℕ) ≤ r := h
    simp only [h, h', decide_false, if_false]
    show Ideal.exp (⊥ - ((l r : ℝ) : EReal)) = _
    simp

variable {P DP : FVec Ideal S1024x1024 .f32} {p dp ds : Fin 1024 → Fin 1024 → ℝ}

/-- The product of the output gradients with the values. -/
theorem pay13_at (hg : ∀ r d, DO (ix2 r d) = ((g r d : ℝ) : EReal)) (hv : ∀ r d, V (ix2 r d) = ((v r d : ℝ) : EReal)) (r b : Fin 1024) :
    k0_pay13 (F := Ideal) V DO (ix2 r b) = ((∑ d, g r d * v b d : ℝ) : EReal) := by
  pointwise [k0_pay13]
  simp only [hg, hv, ← EReal.coe_mul, coe_sum]

theorem pay25_at (hg : ∀ r d, DO (ix2 r d) = ((g r d : ℝ) : EReal)) (hv : ∀ r d, V (ix2 r d) = ((v r d : ℝ) : EReal)) (r b : Fin 1024) :
    k0_pay25 (F := Ideal) V DO (ix2 r b) = ((∑ d, g r d * v b d : ℝ) : EReal) := by
  pointwise [k0_pay25]
  simp only [hg, hv, ← EReal.coe_mul, coe_sum]

/-- The gradients of a tile's scores, off the diagonal. -/
theorem pay16_at (hp : ∀ r b, P (ix2 r b) = ((p r b : ℝ) : EReal)) (hdp : ∀ r b, DP (ix2 r b) = ((dp r b : ℝ) : EReal))
    (hg : ∀ r d, DO (ix2 r d) = ((g r d : ℝ) : EReal)) (ho : ∀ r d, O (ix2 r d) = ((o r d : ℝ) : EReal)) (r b : Fin 1024) :
    k0_pay16 (F := Ideal) P DP (k0_pay14 DO) (k0_pay15 O) (ix2 r b) = ((p r b * (dp r b - ∑ d, g r d * o r d) : ℝ) : EReal) := by
  pointwise [k0_pay16, k0_pay14, k0_pay15]
  simp only [hp, hdp, hg, ho, ← EReal.coe_mul, ← EReal.coe_sub, coe_sum]

/-- The gradients of a tile's scores, on the diagonal. -/
theorem pay26_at (hp : ∀ r b, P (ix2 r b) = ((p r b : ℝ) : EReal)) (hdp : ∀ r b, DP (ix2 r b) = ((dp r b : ℝ) : EReal))
    (hg : ∀ r d, DO (ix2 r d) = ((g r d : ℝ) : EReal)) (ho : ∀ r d, O (ix2 r d) = ((o r d : ℝ) : EReal)) (r b : Fin 1024) :
    k0_pay26 (F := Ideal) DO P DP O (ix2 r b) = ((p r b * (dp r b - ∑ d, g r d * o r d) : ℝ) : EReal) := by
  pointwise [k0_pay26]
  simp only [hp, hdp, hg, ho, ← EReal.coe_mul, ← EReal.coe_sub, coe_sum]

/-- A tile's part of the values' gradient. -/
theorem pay12_at (hp : ∀ r b, k0_pay11 (F := Ideal) Q K CQ CK LSE (ix2 r b) = ((p r b : ℝ) : EReal))
    (hg : ∀ r d, DO (ix2 r d) = ((g r d : ℝ) : EReal)) (X : FVec Ideal S1024x128 .f32) (b : Fin 1024) (d : Fin 128) :
    k0_pay12 (F := Ideal) Q K DO CQ CK LSE X (ix2 b d) = X (ix2 b d) + ((∑ r, p r b * g r d : ℝ) : EReal) := by
  pointwise [k0_pay12]
  simp only [hp, hg, ← EReal.coe_mul, coe_sum]

/-- A tile's part of the values' gradient. -/
theorem pay24_at (hp : ∀ r b, k0_pay23 (F := Ideal) Q K CQ CK LSE (ix2 r b) = ((p r b : ℝ) : EReal))
    (hg : ∀ r d, DO (ix2 r d) = ((g r d : ℝ) : EReal)) (X : FVec Ideal S1024x128 .f32) (b : Fin 1024) (d : Fin 128) :
    k0_pay24 (F := Ideal) Q K DO CQ CK LSE X (ix2 b d) = X (ix2 b d) + ((∑ r, p r b * g r d : ℝ) : EReal) := by
  pointwise [k0_pay24]
  simp only [hp, hg, ← EReal.coe_mul, coe_sum]

/-- A tile's part of the keys' gradient. -/
theorem pay19_at (hds : ∀ r b, k0_pay16 (F := Ideal) P DP (k0_pay14 DO) (k0_pay15 O) (ix2 r b) = ((ds r b : ℝ) : EReal))
    (hq : ∀ r d, Q (ix2 r d) = ((q r d : ℝ) : EReal)) (X : FVec Ideal S1024x128 .f32) (b : Fin 1024) (d : Fin 128) :
    k0_pay19 (F := Ideal) Q P DP (k0_pay14 DO) (k0_pay15 O) X (ix2 b d) = X (ix2 b d) + (((∑ r, ds r b * q r d) * sc : ℝ) : EReal) := by
  pointwise [k0_pay19, k0_pay18]
  simp only [hds, hq, sc_coe, ← EReal.coe_mul, coe_sum]

/-- A tile's part of the queries' gradient. -/
theorem pay20_at (hds : ∀ r b, k0_pay16 (F := Ideal) P DP (k0_pay14 DO) (k0_pay15 O) (ix2 r b) = ((ds r b : ℝ) : EReal))
    (hk : ∀ r d, K (ix2 r d) = ((k r d : ℝ) : EReal)) (X : FVec Ideal S1024x128 .f32) (r : Fin 1024) (d : Fin 128) :
    k0_pay20 (F := Ideal) K P DP (k0_pay14 DO) (k0_pay15 O) X (ix2 r d) = X (ix2 r d) + (((∑ b, ds r b * k b d) * sc : ℝ) : EReal) := by
  pointwise [k0_pay20, k0_pay18]
  simp only [hds, hk, sc_coe, ← EReal.coe_mul, coe_sum]

/-- A tile's part of the key side's gate gradient, taken away. -/
theorem pay17_at (hds : ∀ r b, k0_pay16 (F := Ideal) P DP (k0_pay14 DO) (k0_pay15 O) (ix2 r b) = ((ds r b : ℝ) : EReal))
    (X : FVec Ideal S1x1024 .f32) (b : Fin 1024) :
    k0_pay17 (F := Ideal) P DP (k0_pay14 DO) (k0_pay15 O) X (ix2 0 b) = X (ix2 0 b) - ((∑ r, ds r b : ℝ) : EReal) := by
  pointwise [k0_pay17]
  simp only [hds, coe_sum]

/-- A tile's part of the keys' gradient. -/
theorem pay29_at (hds : ∀ r b, k0_pay26 (F := Ideal) DO P DP O (ix2 r b) = ((ds r b : ℝ) : EReal))
    (hq : ∀ r d, Q (ix2 r d) = ((q r d : ℝ) : EReal)) (X : FVec Ideal S1024x128 .f32) (b : Fin 1024) (d : Fin 128) :
    k0_pay29 (F := Ideal) Q DO P DP O X (ix2 b d) = X (ix2 b d) + (((∑ r, ds r b * q r d) * sc : ℝ) : EReal) := by
  pointwise [k0_pay29, k0_pay28]
  simp only [hds, hq, sc_coe, ← EReal.coe_mul, coe_sum]

/-- A tile's part of the queries' gradient. -/
theorem pay30_at (hds : ∀ r b, k0_pay26 (F := Ideal) DO P DP O (ix2 r b) = ((ds r b : ℝ) : EReal))
    (hk : ∀ r d, K (ix2 r d) = ((k r d : ℝ) : EReal)) (X : FVec Ideal S1024x128 .f32) (r : Fin 1024) (d : Fin 128) :
    k0_pay30 (F := Ideal) K DO P DP O X (ix2 r d) = X (ix2 r d) + (((∑ b, ds r b * k b d) * sc : ℝ) : EReal) := by
  pointwise [k0_pay30, k0_pay28]
  simp only [hds, hk, sc_coe, ← EReal.coe_mul, coe_sum]

/-- A tile's part of the key side's gate gradient, taken away. -/
theorem pay27_at (hds : ∀ r b, k0_pay26 (F := Ideal) DO P DP O (ix2 r b) = ((ds r b : ℝ) : EReal))
    (X : FVec Ideal S1x1024 .f32) (b : Fin 1024) :
    k0_pay27 (F := Ideal) DO P DP O X (ix2 0 b) = X (ix2 0 b) - ((∑ r, ds r b : ℝ) : EReal) := by
  pointwise [k0_pay27]
  simp only [hds, coe_sum]

/-- A tile's part of the query side's gate gradient, off the diagonal. -/
theorem pay6_at (hds : ∀ r b, k0_pay16 (F := Ideal) P DP (k0_pay14 DO) (k0_pay15 O) (ix2 r b) = ((ds r b : ℝ) : EReal))
    (X : FVec Ideal S1x1024x1 .f32) (r : Fin 1024) :
    k0_pay6 (F := Ideal) (k0_pay21 X) (k0_pay22 P DP (k0_pay14 DO) (k0_pay15 O)) (ix3 0 r 0) = X (ix3 0 r 0) + ((∑ b, ds r b : ℝ) : EReal) := by
  pointwise [k0_pay6, k0_pay21, k0_pay22]
  simp only [hds, coe_sum]

/-- A tile's part of the query side's gate gradient, on the diagonal. -/
theorem pay7_at {DS : FVec Ideal S1024x1024 .f32} (hds : ∀ r b, DS (ix2 r b) = ((ds r b : ℝ) : EReal))
    (X : FVec Ideal S1x1024x1 .f32) (r : Fin 1024) :
    k0_pay7 (F := Ideal) DS X (ix3 0 r 0) = X (ix3 0 r 0) + ((∑ b, ds r b : ℝ) : EReal) := by
  pointwise [k0_pay7]
  simp only [hds, coe_sum]

theorem pay8_at (X : FVec Ideal S1024x128 .f32) (j : S1024x128.Idx) : k0_pay8 (F := Ideal) X j = X j := by
  pointwise [k0_pay8]

theorem pay9_at (X : FVec Ideal S1024x128 .f32) (j : S1024x128.Idx) : k0_pay9 (F := Ideal) X j = X j := by
  pointwise [k0_pay9]

theorem pay10_at (X : FVec Ideal S1x1024 .f32) (b : Fin 1024) : k0_pay10 (F := Ideal) X (ix3 0 0 b) = X (ix2 0 b) := by
  pointwise [k0_pay10]

theorem pay1_at (j : S4096x128.Idx) : k0_pay1 (F := Ideal) j = 0 := by
  pointwise [k0_pay1]

theorem pay2_at (j : S1x4096x1.Idx) : k0_pay2 (F := Ideal) j = 0 := by
  idx_vars j; pointwise [k0_pay2]

theorem pay3_at (j : S1024x128.Idx) : k0_pay3 (F := Ideal) j = 0 := by
  idx_vars j; pointwise [k0_pay3]

theorem pay4_at (j : S1024x128.Idx) : k0_pay4 (F := Ideal) j = 0 := by
  idx_vars j; pointwise [k0_pay4]

theorem pay5_at (j : S1x1024.Idx) : k0_pay5 (F := Ideal) j = 0 := by
  idx_vars j; pointwise [k0_pay5]

end Cert.Hand
end
-- ==== Proof.Blocks.lean ====
/- The blocks a grid point reads, as real numbers: point `t` is head `t / 16`, key tile `t / 4 % 4`, query tile `t % 4`. -/
module

public import proofs.«01_k».proof.Proof.Tile
public import proofs.«01_k».proof.Proof.Gen.KernelIdeal.Frame
public import Idealize.ShloMosaic.Lib.Pipeline.Value
public import Idealize.ShloMosaic.Lib.Pipeline.ValueKit
public import Idealize.ShloMosaic.Lib.Pipeline.ReadBack

@[expose] public section
set_option maxRecDepth 16384
noncomputable section
namespace Cert.Hand
open Cert.KernelIdeal Cert.KernelIdeal.Gen Idealize.ShloMosaic Idealize.ShloMosaic.TcCoe Idealize.SL.Sem Idealize.ShloMosaic.Pointwise

/-- The attention's data as real numbers, per head: queries, keys, values, output gradients, saved outputs, cumulative
    log gates, and the saved log-sum of each row. -/
structure Data where
  q : Fin 16 → Fin 4096 → Fin 128 → ℝ
  k : Fin 16 → Fin 4096 → Fin 128 → ℝ
  v : Fin 16 → Fin 4096 → Fin 128 → ℝ
  g : Fin 16 → Fin 4096 → Fin 128 → ℝ
  o : Fin 16 → Fin 4096 → Fin 128 → ℝ
  c : Fin 16 → Fin 4096 → ℝ
  l : Fin 16 → Fin 4096 → ℝ

namespace Data
variable (D : Data) (h : Fin 16)

/-- The weight of key `b` in query row `r`: nothing for a key after the row. -/
def p (r b : Fin 4096) : ℝ :=
  if b ≤ r then Real.exp ((∑ d, D.q h r d * D.k h b d) * sc + D.c h r - D.c h b - D.l h r) else 0

/-- The gradient of the score of key `b` in query row `r`. -/
def ds (r b : Fin 4096) : ℝ := D.p h r b * ((∑ d, D.g h r d * D.v h b d) - ∑ d, D.g h r d * D.o h r d)

end Data

/-- Row `r` of tile `i`. -/
def row (i : Fin 4) (r : Fin 1024) : Fin 4096 := ⟨1024 * i + r, by have := i.isLt; have := r.isLt; omega⟩

/-- Lane `d` of head `h`, in an array of `n` lanes from head `o` on. -/
def lane (n o : ℕ) (hn : (o + 16) * 128 ≤ n) (h : Fin 16) (d : Fin 128) : Fin n :=
  ⟨(o + h) * 128 + d, by have := h.isLt; have := d.isLt; omega⟩

theorem N256 : cfg0.N = 256 := N_0

/-- The head, the key tile and the query tile of a grid point. -/
def hP (t : Fin cfg0.N) : Fin 16 := ⟨t.val / 16, by have := lt_of_lt_of_eq t.isLt N256; omega⟩
def jP (t : Fin cfg0.N) : Fin 4 := ⟨t.val / 4 % 4, by omega⟩
def iP (t : Fin cfg0.N) : Fin 4 := ⟨t.val % 4, by omega⟩

theorem idx : ∀ t : Fin cfg0.N,
    (win0_0.index t 0 = max (t.val % 4) (t.val / 4 % 4) ∧ win0_0.index t 1 = t.val / 16)
    ∧ (win0_1.index t 0 = t.val / 4 % 4 ∧ win0_1.index t 1 = 16 + t.val / 16)
    ∧ (win0_2.index t 0 = t.val / 4 % 4 ∧ win0_2.index t 1 = 32 + t.val / 16)
    ∧ (win0_3.index t 0 = max (t.val % 4) (t.val / 4 % 4) ∧ win0_3.index t 1 = t.val / 16)
    ∧ (win0_4.index t 0 = t.val / 16 ∧ win0_4.index t 1 = max (t.val % 4) (t.val / 4 % 4) ∧ win0_4.index t 2 = 0)
    ∧ (win0_5.index t 0 = max (t.val % 4) (t.val / 4 % 4) ∧ win0_5.index t 1 = t.val / 16)
    ∧ (win0_6.index t 0 = t.val / 16 ∧ win0_6.index t 1 = max (t.val % 4) (t.val / 4 % 4) ∧ win0_6.index t 2 = 0)
    ∧ (win0_7.index t 0 = t.val / 16 ∧ win0_7.index t 1 = 0 ∧ win0_7.index t 2 = t.val / 4 % 4) := by decide +kernel

variable {m : (ℓ : Loc nD τ sig) → Buf (Elt Ideal) ℓ} {c : Dev nD} {D : Data}

/-- What the arrays hold when the grid starts. -/
structure Entry (m : (ℓ : Loc nD τ sig) → Buf (Elt Ideal) ℓ) (c : Dev nD) (D : Data) : Prop where
  q : ∀ h r d, (V m c main_arg0 : FVec Ideal S4096x16896 .bf16) (ix2 r (lane 16896 0 (by decide) h d)) = ((D.q h r d : ℝ) : EReal)
  k : ∀ h r d, (V m c main_arg0 : FVec Ideal S4096x16896 .bf16) (ix2 r (lane 16896 16 (by decide) h d)) = ((D.k h r d : ℝ) : EReal)
  v : ∀ h r d, (V m c main_arg0 : FVec Ideal S4096x16896 .bf16) (ix2 r (lane 16896 32 (by decide) h d)) = ((D.v h r d : ℝ) : EReal)
  g : ∀ h r d, (V m c main_arg2 : FVec Ideal S4096x2048 .bf16) (ix2 r (lane 2048 0 (by decide) h d)) = ((D.g h r d : ℝ) : EReal)
  o : ∀ h r d, (V m c main_v49 : FVec Ideal S4096x2048 .bf16) (ix2 r (lane 2048 0 (by decide) h d)) = ((D.o h r d : ℝ) : EReal)
  l : ∀ h r, (V m c main_v34 : FVec Ideal S16x4096x1 .f32) (ix3 h r 0) = ((D.l h r : ℝ) : EReal)
  cq : ∀ h r, (V m c main_v50 : FVec Ideal S16x4096x1 .f32) (ix3 h r 0) = ((D.c h r : ℝ) : EReal)
  ck : ∀ h r, (V m c main_v51 : FVec Ideal S16x1x4096 .f32) (ix3 h 0 r) = ((D.c h r : ℝ) : EReal)

theorem emb0 (t : Fin cfg0.N) (ht : jP t ≤ iP t) (r : Fin 1024) (d : Fin 128) :
    (((cfg0.win 0).blk t).view.emb (ix2 r d) : S4096x16896.Idx) = ix2 (row (iP t) r) (lane 16896 0 (by decide) (hP t) d) := by
  have ht' : t.val / 4 % 4 ≤ t.val % 4 := ht
  have e := (idx t).1
  rw [max_eq_left ht'] at e
  unfold row lane hP iP
  refine funext fun a => Fin.ext ?_
  match a with
  | ⟨0, _⟩ => blk_simp [e]; try simp; try omega
  | ⟨1, _⟩ => blk_simp [e]; try simp; try omega

theorem emb1 (t : Fin cfg0.N) (r : Fin 1024) (d : Fin 128) :
    (((cfg0.win 1).blk t).view.emb (ix2 r d) : S4096x16896.Idx) = ix2 (row (jP t) r) (lane 16896 16 (by decide) (hP t) d) := by
  have e := (idx t).2.1
  unfold row lane hP jP
  refine funext fun a => Fin.ext ?_
  match a with
  | ⟨0, _⟩ => blk_simp [e]; try simp; try omega
  | ⟨1, _⟩ => blk_simp [e]; try simp; try omega

theorem emb2 (t : Fin cfg0.N) (r : Fin 1024) (d : Fin 128) :
    (((cfg0.win 2).blk t).view.emb (ix2 r d) : S4096x16896.Idx) = ix2 (row (jP t) r) (lane 16896 32 (by decide) (hP t) d) := by
  have e := (idx t).2.2.1
  unfold row lane hP jP
  refine funext fun a => Fin.ext ?_
  match a with
  | ⟨0, _⟩ => blk_simp [e]; try simp; try omega
  | ⟨1, _⟩ => blk_simp [e]; try simp; try omega

theorem emb3 (t : Fin cfg0.N) (ht : jP t ≤ iP t) (r : Fin 1024) (d : Fin 128) :
    (((cfg0.win 3).blk t).view.emb (ix2 r d) : S4096x2048.Idx) = ix2 (row (iP t) r) (lane 2048 0 (by decide) (hP t) d) := by
  have ht' : t.val / 4 % 4 ≤ t.val % 4 := ht
  have e := (idx t).2.2.2.1
  rw [max_eq_left ht'] at e
  unfold row lane hP iP
  refine funext fun a => Fin.ext ?_
  match a with
  | ⟨0, _⟩ => blk_simp [e]; try simp; try omega
  | ⟨1, _⟩ => blk_simp [e]; try simp; try omega

theorem emb4 (t : Fin cfg0.N) (ht : jP t ≤ iP t) (r : Fin 1024) :
    (((cfg0.win 4).blk t).view.emb (ix3 0 r 0) : S16x4096x1.Idx) = ix3 (hP t) (row (iP t) r) 0 := by
  have ht' : t.val / 4 % 4 ≤ t.val % 4 := ht
  have e := (idx t).2.2.2.2.1
  rw [max_eq_left ht'] at e
  unfold row hP iP
  refine funext fun a => Fin.ext ?_
  match a with
  | ⟨0, _⟩ => blk_simp [e]; try simp; try omega
  | ⟨1, _⟩ => blk_simp [e]; try simp; try omega
  | ⟨2, _⟩ => blk_simp [e]; try simp; try omega

theorem emb5 (t : Fin cfg0.N) (ht : jP t ≤ iP t) (r : Fin 1024) (d : Fin 128) :
    (((cfg0.win 5).blk t).view.emb (ix2 r d) : S4096x2048.Idx) = ix2 (row (iP t) r) (lane 2048 0 (by decide) (hP t) d) := by
  have ht' : t.val / 4 % 4 ≤ t.val % 4 := ht
  have e := (idx t).2.2.2.2.2.1
  rw [max_eq_left ht'] at e
  unfold row lane hP iP
  refine funext fun a => Fin.ext ?_
  match a with
  | ⟨0, _⟩ => blk_simp [e]; try simp; try omega
  | ⟨1, _⟩ => blk_simp [e]; try simp; try omega

theorem emb6 (t : Fin cfg0.N) (ht : jP t ≤ iP t) (r : Fin 1024) :
    (((cfg0.win 6).blk t).view.emb (ix3 0 r 0) : S16x4096x1.Idx) = ix3 (hP t) (row (iP t) r) 0 := by
  have ht' : t.val / 4 % 4 ≤ t.val % 4 := ht
  have e := (idx t).2.2.2.2.2.2.1
  rw [max_eq_left ht'] at e
  unfold row hP iP
  refine funext fun a => Fin.ext ?_
  match a with
  | ⟨0, _⟩ => blk_simp [e]; try simp; try omega
  | ⟨1, _⟩ => blk_simp [e]; try simp; try omega
  | ⟨2, _⟩ => blk_simp [e]; try simp; try omega

theorem emb7 (t : Fin cfg0.N) (r : Fin 1024) :
    (((cfg0.win 7).blk t).view.emb (ix3 0 0 r) : S16x1x4096.Idx) = ix3 (hP t) 0 (row (jP t) r) := by
  have e := (idx t).2.2.2.2.2.2.2
  unfold row hP jP
  refine funext fun a => Fin.ext ?_
  match a with
  | ⟨0, _⟩ => blk_simp [e]; try simp; try omega
  | ⟨1, _⟩ => blk_simp [e]; try simp; try omega
  | ⟨2, _⟩ => blk_simp [e]; try simp; try omega

section
variable (H : Entry m c D) (t : Fin cfg0.N)
include H

theorem blk0 (ht : jP t ≤ iP t) (r : Fin 1024) (d : Fin 128) :
    (iblk m c 0 t : FVec Ideal S1024x128 .bf16) (ix2 r d) = ((D.q (hP t) (row (iP t) r) d : ℝ) : EReal) :=
  (congrArg _ (emb0 t ht r d)).trans (H.q _ _ _)

theorem blk1 (r : Fin 1024) (d : Fin 128) :
    (iblk m c 1 t : FVec Ideal S1024x128 .bf16) (ix2 r d) = ((D.k (hP t) (row (jP t) r) d : ℝ) : EReal) :=
  (congrArg _ (emb1 t r d)).trans (H.k _ _ _)

theorem blk2 (r : Fin 1024) (d : Fin 128) :
    (iblk m c 2 t : FVec Ideal S1024x128 .bf16) (ix2 r d) = ((D.v (hP t) (row (jP t) r) d : ℝ) : EReal) :=
  (congrArg _ (emb2 t r d)).trans (H.v _ _ _)

theorem blk3 (ht : jP t ≤ iP t) (r : Fin 1024) (d : Fin 128) :
    (iblk m c 3 t : FVec Ideal S1024x128 .bf16) (ix2 r d) = ((D.g (hP t) (row (iP t) r) d : ℝ) : EReal) :=
  (congrArg _ (emb3 t ht r d)).trans (H.g _ _ _)

omit H in
theorem blk4_of (X : Buf (Elt Ideal) ((c : Thread nD τ).loc main_v34))
    (hX : ∀ h r, (X : FVec Ideal S16x4096x1 .f32) (ix3 h r 0) = ((D.l h r : ℝ) : EReal)) (ht : jP t ≤ iP t) (r : Fin 1024) :
    (((cfg0.win 4).blk t).view.read (Elt Ideal) X : FVec Ideal S1x1024x1 .f32) (ix3 0 r 0) = ((D.l (hP t) (row (iP t) r) : ℝ) : EReal) :=
  (congrArg X (emb4 t ht r)).trans (hX _ _)

theorem blk4 (ht : jP t ≤ iP t) (r : Fin 1024) :
    (iblk m c 4 t : FVec Ideal S1x1024x1 .f32) (ix3 0 r 0) = ((D.l (hP t) (row (iP t) r) : ℝ) : EReal) :=
  blk4_of t (V m c main_v34) H.l ht r

theorem blk5 (ht : jP t ≤ iP t) (r : Fin 1024) (d : Fin 128) :
    (iblk m c 5 t : FVec Ideal S1024x128 .bf16) (ix2 r d) = ((D.o (hP t) (row (iP t) r) d : ℝ) : EReal) :=
  (congrArg _ (emb5 t ht r d)).trans (H.o _ _ _)

theorem blk6 (ht : jP t ≤ iP t) (r : Fin 1024) :
    (iblk m c 6 t : FVec Ideal S1x1024x1 .f32) (ix3 0 r 0) = ((D.c (hP t) (row (iP t) r) : ℝ) : EReal) :=
  (congrArg _ (emb6 t ht r)).trans (H.cq _ _)

theorem blk7 (r : Fin 1024) :
    (iblk m c 7 t : FVec Ideal S1x1x1024 .f32) (ix3 0 0 r) = ((D.c (hP t) (row (jP t) r) : ℝ) : EReal) :=
  (congrArg _ (emb7 t r)).trans (H.ck _ _)

end

/-- Within one tile on the diagonal the order of rows and columns is that of their places. -/
theorem row_le (i : Fin 4) (r b : Fin 1024) : row i b ≤ row i r ↔ b ≤ r := by
  show 1024 * (i : ℕ) + b ≤ 1024 * (i : ℕ) + r ↔ (b : ℕ) ≤ r
  omega

theorem row_lt {i j : Fin 4} (h : j < i) (r b : Fin 1024) : row j b ≤ row i r := by
  have h' : (j : ℕ) < i := h
  show 1024 * (j : ℕ) + b ≤ 1024 * (i : ℕ) + r
  omega

theorem not_row_le {i j : Fin 4} (h : i < j) (r b : Fin 1024) : ¬ row j b ≤ row i r := by
  have h' : (i : ℕ) < j := h
  show ¬ (1024 * (j : ℕ) + b ≤ 1024 * (i : ℕ) + r)
  omega

section
variable (H : Entry m c D) (t : Fin cfg0.N)
include H

/-- The weights a point below the diagonal computes. -/
theorem p_off (ht : jP t < iP t) (r b : Fin 1024) :
    k0_pay11 (F := Ideal) (iblk m c 0 t) (iblk m c 1 t) (iblk m c 6 t) (iblk m c 7 t) (iblk m c 4 t) (ix2 r b)
      = ((D.p (hP t) (row (iP t) r) (row (jP t) b) : ℝ) : EReal) := by
  rw [pay11_at (blk0 H t ht.le) (blk1 H t) (blk6 H t ht.le) (blk7 H t) (blk4 H t ht.le)]
  unfold pT Data.p
  rw [if_pos (row_lt ht r b)]

/-- The weights a point on the diagonal computes. -/
theorem p_dia (ht : jP t = iP t) (r b : Fin 1024) :
    k0_pay23 (F := Ideal) (iblk m c 0 t) (iblk m c 1 t) (iblk m c 6 t) (iblk m c 7 t) (iblk m c 4 t) (ix2 r b)
      = ((D.p (hP t) (row (iP t) r) (row (jP t) b) : ℝ) : EReal) := by
  rw [pay23_at (blk0 H t ht.le) (blk1 H t) (blk6 H t ht.le) (blk7 H t) (blk4 H t ht.le)]
  unfold pT Data.p
  rw [ht]
  simp only [row_le]

/-- The score gradients a point below the diagonal computes. -/
theorem ds_off (ht : jP t < iP t) (r b : Fin 1024) :
    k0_pay16 (F := Ideal) (k0_pay11 (iblk m c 0 t) (iblk m c 1 t) (iblk m c 6 t) (iblk m c 7 t) (iblk m c 4 t))
        (k0_pay13 (iblk m c 2 t) (iblk m c 3 t)) (k0_pay14 (iblk m c 3 t)) (k0_pay15 (iblk m c 5 t)) (ix2 r b)
      = ((D.ds (hP t) (row (iP t) r) (row (jP t) b) : ℝ) : EReal) :=
  pay16_at (p_off H t ht) (pay13_at (blk3 H t ht.le) (blk2 H t)) (blk3 H t ht.le) (blk5 H t ht.le) r b

/-- The score gradients a point on the diagonal computes. -/
theorem ds_dia (ht : jP t = iP t) (r b : Fin 1024) :
    k0_pay26 (F := Ideal) (iblk m c 3 t) (k0_pay23 (iblk m c 0 t) (iblk m c 1 t) (iblk m c 6 t) (iblk m c 7 t) (iblk m c 4 t))
        (k0_pay25 (iblk m c 2 t) (iblk m c 3 t)) (iblk m c 5 t) (ix2 r b)
      = ((D.ds (hP t) (row (iP t) r) (row (jP t) b) : ℝ) : EReal) :=
  pay26_at (p_dia H t ht) (pay25_at (blk3 H t ht.le) (blk2 H t)) (blk3 H t ht.le) (blk5 H t ht.le) r b

end

end Cert.Hand
end
-- ==== Proof.Stage.lean ====
/- The attention's forward pass as the host computes it, in named stages, and what each stage holds on real inputs. -/
module

public import proofs.«01_k».proof.Proof.Real
public import proofs.«01_k».proof.Proof.Blocks

@[expose] public section
set_option maxRecDepth 16384
noncomputable section
namespace Cert.Hand
open Cert.KernelIdeal Cert.KernelIdeal.Gen Idealize.ShloMosaic Idealize.ShloMosaic.Pointwise

/-- The queries, the keys and the values of the projection, a head per slice. -/
def hQ (x : FVec Ideal S4096x16896 .bf16) : FVec Ideal S4096x16x128 .f32 :=
  shapeCast S4096x16x128 (extf .f32 (extractStridedSlice S4096x2048 ![0, 0] x slices_S4096x16896_S4096x2048_0_0) bitsLt_bf16_f32) shapeCasts_S4096x2048_S4096x16x128
def hK (x : FVec Ideal S4096x16896 .bf16) : FVec Ideal S4096x16x128 .f32 :=
  shapeCast S4096x16x128 (extf .f32 (extractStridedSlice S4096x2048 ![0, 2048] x slices_S4096x16896_S4096x2048_0_2048) bitsLt_bf16_f32) shapeCasts_S4096x2048_S4096x16x128
def hV (x : FVec Ideal S4096x16896 .bf16) : FVec Ideal S4096x16x128 .f32 :=
  shapeCast S4096x16x128 (extf .f32 (extractStridedSlice S4096x2048 ![0, 4096] x slices_S4096x16896_S4096x2048_0_4096) bitsLt_bf16_f32) shapeCasts_S4096x2048_S4096x16x128

/-- The scores before masking. -/
def hZ (Q K : FVec Ideal S4096x16x128 .f32) (C : FVec Ideal S16x4096 .f32) : FVec Ideal S16x4096x4096 .f32 :=
  subf (addf (mulf (Host.dotGeneral dot_S4096x16x128_S4096x16x128_S16x4096x4096_2_2_0_0_1_1 none Q K)
        (broadcastInDim S16x4096x4096 ![] bcast_S_S16x4096x4096 (constant S_ .f32 0x3DB504F3#32)))
      (broadcastInDim S16x4096x4096 ![0, 1, 2] bcast_S16x4096x1_S16x4096x4096_0_1_2 (broadcastInDim S16x4096x1 ![0, 1] bcast_S16x4096_S16x4096x1_0_1 C)))
    (broadcastInDim S16x4096x4096 ![0, 1, 2] bcast_S16x1x4096_S16x4096x4096_0_1_2 (broadcastInDim S16x1x4096 ![0, 2] bcast_S16x4096_S16x1x4096_0_2 C))

/-- The mask: a column counts when it is not after its row. -/
def hMask : IVec S4096x4096 1 :=
  cmpi .sle (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))

/-- The masked scores. -/
def hS (M : IVec S4096x4096 1) (Z : FVec Ideal S16x4096x4096 .f32) (I : FVec Ideal S_ .f32) : FVec Ideal S16x4096x4096 .f32 :=
  select (broadcastInDim S16x4096x4096 ![1, 2] bcast_S4096x4096_S16x4096x4096_1_2 M) Z (broadcastInDim S16x4096x4096 ![] bcast_S_S16x4096x4096 I)

/-- The greatest score of each row. -/
def hMax (S : FVec Ideal S16x4096x4096 .f32) : FVec Ideal S16x4096 .f32 :=
  Host.reduce FloatOps.maximumf S (constant S_ .f32 0xFF800000#32) reducesTo_S16x4096x4096_S16x4096_d2 h_S_

/-- The exponentials of the scores less a number per row, and their sums. -/
def hExp (S : FVec Ideal S16x4096x4096 .f32) (M : FVec Ideal S16x4096 .f32) : FVec Ideal S16x4096x4096 .f32 :=
  Host.exp (subf S (broadcastInDim S16x4096x4096 ![0, 1, 2] bcast_S16x4096x1_S16x4096x4096_0_1_2 (broadcastInDim S16x4096x1 ![0, 1] bcast_S16x4096_S16x4096x1_0_1 M)))
def hSum (E : FVec Ideal S16x4096x4096 .f32) : FVec Ideal S16x4096 .f32 :=
  Host.reduceAdd E (constant S_ .f32 0x00000000#32) reducesTo_S16x4096x4096_S16x4096_d2 h_S_

/-- The log of each row's sum of exponentials, from the number taken off and the sum. -/
def hLse (M L : FVec Ideal S16x4096 .f32) : FVec Ideal S16x4096x1 .f32 :=
  addf (broadcastInDim S16x4096x1 ![0, 1] bcast_S16x4096_S16x4096x1_0_1 M)
    (Host.log (broadcastInDim S16x4096x1 ![0, 1] bcast_S16x4096_S16x4096x1_0_1 L))

/-- The greatest score of each row, as the softmax takes it. -/
def hTop (M : FVec Ideal S16x4096 .f32) : FVec Ideal S16x4096 .f32 :=
  maximumf (broadcastInDim S16x4096 ![] bcast_S_S16x4096 (constant S_ .f32 0xFF800000#32)) M

/-- The softmax of the scores, from their exponentials. -/
def hSoft (E : FVec Ideal S16x4096x4096 .f32) (L : FVec Ideal S16x4096 .f32) : FVec Ideal S16x4096x4096 .f32 :=
  Host.divf E (broadcastInDim S16x4096x4096 ![0, 1, 2] bcast_S16x4096x1_S16x4096x4096_0_1_2 (broadcastInDim S16x4096x1 ![0, 1] bcast_S16x4096_S16x4096x1_0_1 L))

/-- The attention's output. -/
def hO (U : FVec Ideal S4096x16x128 .f32) (P : FVec Ideal S16x4096x4096 .f32) : FVec Ideal S4096x2048 .bf16 :=
  truncf .bf16 (shapeCast S4096x2048 (transpose S4096x16x128 [2, 0, 1] (Host.dotGeneral dot_S4096x16x128_S16x4096x4096_S16x128x4096_0_2_2_1_1_0 none U P)
    transposes_S16x128x4096_S4096x16x128_2_0_1) shapeCasts_S4096x16x128_S4096x2048) bitsLt_bf16_f32

variable {Q K U : FVec Ideal S4096x16x128 .f32} {C : FVec Ideal S16x4096 .f32} {S E P : FVec Ideal S16x4096x4096 .f32} {M L : FVec Ideal S16x4096 .f32}
variable {q k v : Fin 16 → Fin 4096 → Fin 128 → ℝ} {cc : Fin 16 → Fin 4096 → ℝ} {ee : Fin 16 → Fin 4096 → Fin 4096 → ℝ}

theorem neg_inf : Ideal.ofBits .f32 0xFF800000#32 = ⊥ := by
  simp [Ideal.ofBits, Ideal.ieee]

theorem hQ_at (x : FVec Ideal S4096x16896 .bf16) (r : Fin 4096) (h : Fin 16) (d : Fin 128) :
    hQ x (ix3 r h d) = x (ix2 r (lane 16896 0 (by decide) h d)) := by
  pointwise [hQ]
  congr 2
  apply Fin.ext
  show _ = (0 + (h : ℕ)) * 128 + d
  simp only []
  omega

theorem hK_at (x : FVec Ideal S4096x16896 .bf16) (r : Fin 4096) (h : Fin 16) (d : Fin 128) :
    hK x (ix3 r h d) = x (ix2 r (lane 16896 16 (by decide) h d)) := by
  pointwise [hK]
  congr 2
  apply Fin.ext
  show _ = (16 + (h : ℕ)) * 128 + d
  simp only []
  omega

theorem hV_at (x : FVec Ideal S4096x16896 .bf16) (r : Fin 4096) (h : Fin 16) (d : Fin 128) :
    hV x (ix3 r h d) = x (ix2 r (lane 16896 32 (by decide) h d)) := by
  pointwise [hV]
  congr 2
  apply Fin.ext
  show _ = (32 + (h : ℕ)) * 128 + d
  simp only []
  omega

theorem hZ_at (hq : ∀ h r d, Q (ix3 r h d) = ((q h r d : ℝ) : EReal)) (hk : ∀ h r d, K (ix3 r h d) = ((k h r d : ℝ) : EReal))
    (hc : ∀ h r, C (ix2 h r) = ((cc h r : ℝ) : EReal)) (h : Fin 16) (r b : Fin 4096) :
    hZ Q K C (ix3 h r b) = (((∑ d, q h r d * k h b d) * sc + cc h r - cc h b : ℝ) : EReal) := by
  pointwise [hZ]
  simp only [hq, hk, hc, sc_coe, ← EReal.coe_mul, ← EReal.coe_add, ← EReal.coe_sub, coe_sum]

theorem hMask_at (r b : Fin 4096) : hMask (ix2 r b) = BitVec.ofBool (decide (b ≤ r)) := by
  pointwise [hMask]
  rw [WordCmp.cmpi_sle_ofNat (by have := b.isLt; omega) (by have := r.isLt; omega)]
  rfl

theorem hS_at {Z : FVec Ideal S16x4096x4096 .f32} {N : IVec S4096x4096 1} (hN : ∀ r b : Fin 4096, N (ix2 r b) = BitVec.ofBool (decide (b ≤ r)))
    (h : Fin 16) (r b : Fin 4096) :
    hS N Z (constant S_ .f32 0xFF800000#32) (ix3 h r b) = if b ≤ r then Z (ix3 h r b) else ⊥ := by
  pointwise [hS]
  rw [hN, neg_inf]
  by_cases hb : b ≤ r
  · simp [hb, Scalar.select]
  · simp [hb, Scalar.select]

theorem hMax_at (h : Fin 16) (r : Fin 4096) : hMax S (ix2 h r) = Finset.univ.fold max ⊥ (fun b => S (ix3 h r b)) := by
  pointwise [hMax]
  rw [neg_inf]

theorem hTop_at (h : Fin 16) (r : Fin 4096) : hTop M (ix2 h r) = M (ix2 h r) := by
  pointwise [hTop]
  rw [neg_inf]
  exact max_eq_right bot_le

theorem hExp_at (h : Fin 16) (r b : Fin 4096) : hExp S M (ix3 h r b) = Ideal.exp (S (ix3 h r b) - M (ix2 h r)) := by
  pointwise [hExp]

theorem hSum_at (he : ∀ h r b, E (ix3 h r b) = ((ee h r b : ℝ) : EReal)) (h : Fin 16) (r : Fin 4096) : hSum E (ix2 h r) = ((∑ b, ee h r b : ℝ) : EReal) := by
  pointwise [hSum]
  simp only [he, coe_sum]

theorem hLse_at (h : Fin 16) (r : Fin 4096) : hLse M L (ix3 h r 0) = M (ix2 h r) + Ideal.log (L (ix2 h r)) := by
  pointwise [hLse]

theorem hSoft_at (h : Fin 16) (r b : Fin 4096) : hSoft E L (ix3 h r b) = Ideal.div (E (ix3 h r b)) (L (ix2 h r)) := by
  pointwise [hSoft]

theorem hO_at (hu : ∀ h r d, U (ix3 r h d) = ((v h r d : ℝ) : EReal)) (hp : ∀ h r b, P (ix3 h r b) = ((ee h r b : ℝ) : EReal)) (r : Fin 4096) (h : Fin 16) (d : Fin 128) :
    hO U P (ix2 r (lane 2048 0 (by decide) h d)) = ((∑ b, ee h r b * v h b d : ℝ) : EReal) := by
  have e1 : (⟨(lane 2048 0 (by decide) h d : ℕ) / 128, by have := (lane 2048 0 (by decide) h d).isLt; omega⟩ : Fin 16) = h :=
    Fin.ext (by show ((0 + (h : ℕ)) * 128 + d) / 128 = h; have := d.isLt; omega)
  have e2 : (⟨(lane 2048 0 (by decide) h d : ℕ) % 128, Nat.mod_lt _ (by decide)⟩ : Fin 128) = d :=
    Fin.ext (by show ((0 + (h : ℕ)) * 128 + d) % 128 = d; have := d.isLt; omega)
  pointwise [hO]
  simp only [e1, e2, hu, hp, ← EReal.coe_mul, coe_sum, mul_comm]

end Cert.Hand
end
-- ==== Proof.Soft.lean ====
/- The softmax's weights from the log of each row's sum: real formulas, and what the host's stages hold. -/
module

public import proofs.«01_k».proof.Proof.Stage

@[expose] public section
set_option maxRecDepth 16384
noncomputable section
namespace Cert.Hand
open Cert.KernelIdeal Cert.KernelIdeal.Gen Idealize.ShloMosaic Idealize.ShloMosaic.Pointwise

/-- The inputs as real numbers: queries, keys, values, output gradients, cumulative log gates. -/
structure Inp where
  q : Fin 16 → Fin 4096 → Fin 128 → ℝ
  k : Fin 16 → Fin 4096 → Fin 128 → ℝ
  v : Fin 16 → Fin 4096 → Fin 128 → ℝ
  g : Fin 16 → Fin 4096 → Fin 128 → ℝ
  c : Fin 16 → Fin 4096 → ℝ

namespace Inp
variable (I : Inp) (h : Fin 16)

/-- The score of key `b` in query row `r`, before masking. -/
def z (r b : Fin 4096) : ℝ := (∑ d, I.q h r d * I.k h b d) * sc + I.c h r - I.c h b

/-- The sum of a row's exponentials. -/
def w (r : Fin 4096) : ℝ := ∑ b, if b ≤ r then Real.exp (I.z h r b) else 0

/-- The weight of key `b` in query row `r`. -/
def p (r b : Fin 4096) : ℝ := if b ≤ r then Real.exp (I.z h r b - Real.log (I.w h r)) else 0

/-- The backward pass's data: the inputs, the saved log-sums and the saved outputs. -/
def data : Data where
  q := I.q
  k := I.k
  v := I.v
  g := I.g
  c := I.c
  l h r := Real.log (I.w h r)
  o h r d := ∑ b, I.p h r b * I.v h b d

theorem w_pos (r : Fin 4096) : 0 < I.w h r := by
  unfold w
  refine Finset.sum_pos' (fun b _ => ?_) ⟨r, Finset.mem_univ _, ?_⟩
  · split_ifs
    · exact (Real.exp_pos _).le
    · exact le_rfl
  · rw [if_pos le_rfl]; exact Real.exp_pos _

/-- A row's exponentials less any number sum to the row's sum times that number's exponential. -/
theorem w_shift (M : ℝ) (r : Fin 4096) : (∑ b, if b ≤ r then Real.exp (I.z h r b - M) else 0) = I.w h r * Real.exp (-M) := by
  unfold w
  rw [Finset.sum_mul]
  refine Finset.sum_congr rfl fun b _ => ?_
  split_ifs
  · rw [sub_eq_add_neg, Real.exp_add]
  · rw [zero_mul]

theorem data_p : I.data.p = I.p := by
  funext h r b
  rfl

theorem p_shift (M : ℝ) (r b : Fin 4096) : (if b ≤ r then Real.exp (I.z h r b - M) else 0) * (1 / (I.w h r * Real.exp (-M))) = I.p h r b := by
  have hw := I.w_pos h r
  unfold p
  split_ifs
  · rw [Real.exp_sub, Real.exp_sub, Real.exp_log hw, Real.exp_neg]
    have := Real.exp_pos M
    field_simp
  · rw [zero_mul]

theorem log_shift (M : ℝ) (r : Fin 4096) : M + Real.log (I.w h r * Real.exp (-M)) = Real.log (I.w h r) := by
  rw [Real.log_mul (I.w_pos h r).ne' (Real.exp_pos _).ne', Real.log_exp]
  ring

end Inp

/-- The greatest of finitely many numbers below `⊤`, one of them a real, is a real. -/
theorem fold_max_real {ι : Type} [Fintype ι] (f : ι → EReal) (hf : ∀ i, f i < ⊤) (i : ι) (x : ℝ) (hi : f i = ((x : ℝ) : EReal)) :
    ∃ y : ℝ, Finset.univ.fold max ⊥ f = ((y : ℝ) : EReal) := by
  refine ⟨(Finset.univ.fold max ⊥ f).toReal, (EReal.coe_toReal ?_ ?_).symm⟩
  · exact ne_of_lt (Finset.fold_max_lt (s := Finset.univ) (f := f) (b := ⊥) ⊤ |>.mpr ⟨bot_lt_top, fun j _ => hf j⟩)
  · have : f i ≤ Finset.univ.fold max ⊥ f := (Finset.le_fold_max _).mpr (Or.inr ⟨i, Finset.mem_univ _, le_rfl⟩)
    exact ne_of_gt (lt_of_lt_of_le (by rw [hi]; exact EReal.bot_lt_coe x) this)

variable {I : Inp} {S E : FVec Ideal S16x4096x4096 .f32} {M : FVec Ideal S16x4096 .f32} {mm : Fin 16 → Fin 4096 → ℝ}

/-- The greatest score of each row is a real number. -/
theorem max_real (hS : ∀ h r b, S (ix3 h r b) = if b ≤ r then ((I.z h r b : ℝ) : EReal) else ⊥) :
    ∃ mm : Fin 16 → Fin 4096 → ℝ, ∀ h r, hMax S (ix2 h r) = ((mm h r : ℝ) : EReal) := by
  have : ∀ h r, ∃ y : ℝ, hMax S (ix2 h r) = ((y : ℝ) : EReal) := fun h r => by
    rw [hMax_at]
    refine fold_max_real _ (fun b => ?_) r (I.z h r r) ?_
    · rw [hS]
      split_ifs
      · exact EReal.coe_lt_top _
      · exact bot_lt_top
    · rw [hS, if_pos le_rfl]
  choose mm hmm using this
  exact ⟨mm, hmm⟩

theorem exp_at (hS : ∀ h r b, S (ix3 h r b) = if b ≤ r then ((I.z h r b : ℝ) : EReal) else ⊥)
    (hM : ∀ h r, M (ix2 h r) = ((mm h r : ℝ) : EReal)) (h : Fin 16) (r b : Fin 4096) :
    hExp S M (ix3 h r b) = ((if b ≤ r then Real.exp (I.z h r b - mm h r) else 0 : ℝ) : EReal) := by
  rw [hExp_at, hS, hM]
  split_ifs
  · rw [← EReal.coe_sub, Ideal.exp_coe]
  · simp

theorem sum_at (hS : ∀ h r b, S (ix3 h r b) = if b ≤ r then ((I.z h r b : ℝ) : EReal) else ⊥)
    (hM : ∀ h r, M (ix2 h r) = ((mm h r : ℝ) : EReal)) (h : Fin 16) (r : Fin 4096) :
    hSum (hExp S M) (ix2 h r) = ((I.w h r * Real.exp (-mm h r) : ℝ) : EReal) := by
  rw [hSum_at (exp_at hS hM), I.w_shift]

/-- The saved log-sums. -/
theorem lse_at (hS : ∀ h r b, S (ix3 h r b) = if b ≤ r then ((I.z h r b : ℝ) : EReal) else ⊥) (h : Fin 16) (r : Fin 4096) :
    hLse (hMax S) (hSum (hExp S (hMax S))) (ix3 h r 0) = ((I.data.l h r : ℝ) : EReal) := by
  obtain ⟨mm, hM⟩ := max_real hS
  rw [hLse_at, sum_at hS hM, hM, Ideal.log_coe, if_neg (not_le.mpr (mul_pos (I.w_pos h r) (Real.exp_pos _))), ← EReal.coe_add, I.log_shift]
  rfl

/-- The softmax's weights. -/
theorem soft_at (hS : ∀ h r b, S (ix3 h r b) = if b ≤ r then ((I.z h r b : ℝ) : EReal) else ⊥)
    (hM : ∀ h r, M (ix2 h r) = ((mm h r : ℝ) : EReal)) (h : Fin 16) (r b : Fin 4096) :
    hSoft (hExp S M) (hSum (hExp S M)) (ix3 h r b) = ((I.p h r b : ℝ) : EReal) := by
  rw [hSoft_at, sum_at hS hM, exp_at hS hM, Ideal.div_coe (mul_pos (I.w_pos h r) (Real.exp_pos _)).ne', ← EReal.coe_mul, I.p_shift]

end Cert.Hand
end
-- ==== Proof.Sums.lean ====
/- Sums over an array's dimension, tile by tile. -/
module

public import Idealize.ShloMosaic.Lib.IdealHost
public import Idealize.ShloMosaic.Lib.Pointwise
public import Idealize.ShloMosaic.Lib.Pipeline.Value
public import Idealize.ShloMosaic.Lib.Pipeline.ValueKit
public import Idealize.ShloMosaic.Lib.Pipeline.ReadBack
public import Idealize.ShloMosaic.Adequacy
public import Idealize.ShloMosaic.Init

@[expose] public section
noncomputable section
namespace Cert.Hand.Tiles
open Idealize.ShloMosaic Idealize.ShloMosaic.Pointwise

/-- Place `r` of tile `i`, of `n` tiles of `s` places each. -/
def at_ {n s N : ℕ} (h : n * s = N) (i : Fin n) (r : Fin s) : Fin N :=
  ⟨s * i + r, by
    have hi := i.isLt; have hr := r.isLt
    calc s * (i : ℕ) + r < s * i + s := by omega
      _ = s * (i + 1) := by ring
      _ ≤ s * n := Nat.mul_le_mul_left _ hi
      _ = N := by rw [Nat.mul_comm]; exact h⟩

/-- A sum over all tiles' places is the sum over the whole dimension. -/
theorem sum_at {M : Type} [AddCommMonoid M] {n s N : ℕ} (h : n * s = N) (f : Fin N → M) :
    ∑ i : Fin n, ∑ r : Fin s, f (at_ h i r) = ∑ x, f x := by
  subst h
  rw [← Fintype.sum_prod_type']
  refine Fintype.sum_equiv (finProdFinEquiv (m := n) (n := s)) _ _ fun x => congrArg f (Fin.ext ?_)
  show s * (x.1 : ℕ) + x.2 = x.2 + s * x.1
  omega

/-- The first `k` of `n` parts, summed. -/
def upTo {M : Type} [AddCommMonoid M] {n : ℕ} (f : Fin n → M) (k : ℕ) : M := ∑ i : Fin n, if (i : ℕ) < k then f i else 0

theorem upTo_zero {M : Type} [AddCommMonoid M] {n : ℕ} (f : Fin n → M) : upTo f 0 = 0 := by simp [upTo]

theorem upTo_all {M : Type} [AddCommMonoid M] {n : ℕ} (f : Fin n → M) : upTo f n = ∑ i, f i :=
  Finset.sum_congr rfl fun i _ => if_pos i.isLt

theorem upTo_succ {M : Type} [AddCommMonoid M] {n : ℕ} (f : Fin n → M) (i : Fin n) : upTo f (i + 1) = upTo f i + f i := by
  classical
  have e : f i = ∑ x : Fin n, if x = i then f x else 0 := by simp
  unfold upTo
  conv_rhs => rw [e]
  rw [← Finset.sum_add_distrib]
  refine Finset.sum_congr rfl fun x _ => ?_
  by_cases hx : x = i
  · subst hx; simp
  · have h1 : (x : ℕ) ≠ i := fun h => hx (Fin.ext h)
    have h2 : ((x : ℕ) < i + 1) = ((x : ℕ) < i) := by apply propext; omega
    simp only [h2, hx, if_false, add_zero]

/-- A sum begun afresh every `K` steps, after any step: the parts since. -/
theorem fold {M : Type} [AddCommMonoid M] {N K : ℕ} (hK : 0 < K) (s : (n : ℕ) → n < N → M) (f : ℕ → Fin K → M)
    (hs : ∀ n (hn : n < N), s n hn = (if n % K = 0 then 0 else s (n - 1) (lt_of_le_of_lt (Nat.sub_le _ _) hn))
      + f (n / K) ⟨n % K, Nat.mod_lt _ hK⟩) :
    ∀ n (hn : n < N), s n hn = upTo (f (n / K)) (n % K + 1) := by
  intro n
  induction n with
  | zero =>
    intro hn
    refine (hs 0 hn).trans (Eq.trans (congrArg (· + _) ?_) (upTo_succ (f (0 / K)) ⟨0 % K, Nat.mod_lt _ hK⟩).symm)
    show (if 0 % K = 0 then 0 else s (0 - 1) _) = upTo (f (0 / K)) (0 % K)
    rw [if_pos (Nat.zero_mod K), Nat.zero_mod, upTo_zero]
  | succ n ih =>
    intro hn
    refine (hs (n + 1) hn).trans (Eq.trans (congrArg (· + _) ?_) (upTo_succ (f ((n + 1) / K)) ⟨(n + 1) % K, Nat.mod_lt _ hK⟩).symm)
    show (if (n + 1) % K = 0 then 0 else s (n + 1 - 1) _) = upTo (f ((n + 1) / K)) ((n + 1) % K)
    by_cases h : (n + 1) % K = 0
    · rw [if_pos h, h, upTo_zero]
    · rw [if_neg h]
      have hd : n / K = (n + 1) / K := by
        rw [Nat.succ_div, if_neg (fun hd => h (Nat.mod_eq_zero_of_dvd hd)), Nat.add_zero]
      have hm : n % K + 1 = (n + 1) % K := by
        have h1 := Nat.div_add_mod n K
        have h2 := Nat.div_add_mod (n + 1) K
        rw [← hd] at h2
        omega
      refine (ih (Nat.lt_of_succ_lt hn)).trans ?_
      rw [hd, hm]

/-- One term of the product of two arrays, at an entry; and the whole entry. -/
def entry {p q n : ℕ} {f g : FTy} (a : FVec Ideal ⟨2, ![p, n]⟩ f) (b : FVec Ideal ⟨2, ![n, q]⟩ g) (i : Fin p) (j : Fin q) (x : Fin n) : EReal :=
  a (ix2 i x) * b (ix2 x j)
def dotAt {p q n : ℕ} {f g : FTy} (a : FVec Ideal ⟨2, ![p, n]⟩ f) (b : FVec Ideal ⟨2, ![n, q]⟩ g) (i : Fin p) (j : Fin q) : EReal :=
  ∑ x, entry a b i j x

/-- The `x`-th of the 16896 columns in use, among 16912: sixteen columns are passed over after the first 6144. -/
def skip (x : Fin 16896) : Fin 16912 := ⟨x.val + if x.val < 6144 then 0 else 16, by have := x.isLt; split <;> omega⟩

theorem skip_injective : Function.Injective skip := by
  intro x y h
  have := congrArg Fin.val h
  unfold skip at this
  refine Fin.ext ?_
  dsimp only at this
  split_ifs at this <;> omega

/-- A sum over all columns is the sum over those in use, where the sixteen others add nothing. -/
theorem sum_skip {M : Type} [AddCommMonoid M] (f : Fin 16912 → M) (hf : ∀ x : Fin 16912, 6144 ≤ x.val → x.val < 6160 → f x = 0) :
    ∑ x, f x = ∑ y, f (skip y) := by
  refine (Fintype.sum_of_injective skip skip_injective _ _ (fun x hx => ?_) fun _ => rfl).symm
  by_cases h1 : x.val < 6144
  · exact absurd ⟨⟨x.val, by omega⟩, Fin.ext (by simp [skip, h1])⟩ hx
  · by_cases h2 : x.val < 6160
    · exact hf x (by omega) h2
    · have h3 : ¬ x.val - 16 < 6144 := by omega
      exact absurd ⟨⟨x.val - 16, by have := x.isLt; omega⟩, Fin.ext (by simp [skip, h3]; omega)⟩ hx

theorem pair (a b : ℕ) (y : (⟨2, ![a, b]⟩ : Shape).Idx) : ∃ (r : Fin a) (d : Fin b), y = ix2 r d :=
  ⟨y 0, y 1, funext (Fin.forall_fin_two.mpr ⟨rfl, rfl⟩)⟩

/-- An index of two axes is given by its coordinates. -/
theorem ext2 {m n : ℕ} (y : (⟨2, ![m, n]⟩ : Shape).Idx) (a : Fin m) (b : Fin n) (h0 : (y 0 : ℕ) = a) (h1 : (y 1 : ℕ) = b) : y = ix2 a b :=
  funext (Fin.forall_fin_two.mpr ⟨Fin.ext h0, Fin.ext h1⟩)

theorem zero2 : (![0, 0] : Fin 2 → Nat) = fun _ => 0 := funext fun a => by fin_cases a <;> rfl

/-- The logistic function. -/
def sg (x : EReal) : EReal := Ideal.div 1 (1 + Ideal.exp (-x))

end Cert.Hand.Tiles
end
-- ==== Proof.StepK.lean ====
/- What one grid point adds to the key tile's sums: the gradients of the keys, the values and the key side's gate. -/
module

public import proofs.«01_k».proof.Proof.Blocks

@[expose] public section
set_option maxRecDepth 16384
noncomputable section
namespace Cert.Hand
open Cert.KernelIdeal Cert.KernelIdeal.Gen Idealize.ShloMosaic Idealize.ShloMosaic.TcCoe Idealize.SL.Sem Idealize.ShloMosaic.Pointwise

namespace Data
variable (D : Data) (h : Fin 16)

/-- Query tile `i`'s part of the gradient of key `b`. -/
def tk (b : Fin 4096) (d : Fin 128) (i : Fin 4) : ℝ := (∑ r, D.ds h (row i r) b * D.q h (row i r) d) * sc
/-- Query tile `i`'s part of the gradient of value `b`. -/
def tv (b : Fin 4096) (d : Fin 128) (i : Fin 4) : ℝ := ∑ r, D.p h (row i r) b * D.g h (row i r) d
/-- Query tile `i`'s part of the sum of key `b`'s score gradients. -/
def tc (b : Fin 4096) (i : Fin 4) : ℝ := ∑ r, D.ds h (row i r) b
/-- Key tile `j`'s part of the gradient of query `r`. -/
def tq (r : Fin 4096) (d : Fin 128) (j : Fin 4) : ℝ := (∑ b, D.ds h r (row j b) * D.k h (row j b) d) * sc
/-- Key tile `j`'s part of the sum of query `r`'s score gradients. -/
def tr (r : Fin 4096) (j : Fin 4) : ℝ := ∑ b, D.ds h r (row j b)

variable {i j : Fin 4} (hij : i < j) (r b : Fin 1024) (d : Fin 128)
include hij

theorem p_up : D.p h (row i r) (row j b) = 0 := if_neg (not_row_le hij r b)
theorem ds_up : D.ds h (row i r) (row j b) = 0 := by unfold ds; rw [p_up D h hij]; exact zero_mul _
theorem tk_up : D.tk h (row j b) d i = 0 := by simp [tk, ds_up D h hij]
theorem tv_up : D.tv h (row j b) d i = 0 := by simp [tv, p_up D h hij]
theorem tc_up : D.tc h (row j b) i = 0 := by simp [tc, ds_up D h hij]
theorem tq_up : D.tq h (row i r) d j = 0 := by simp [tq, ds_up D h hij]
theorem tr_up : D.tr h (row i r) j = 0 := by simp [tr, ds_up D h hij]

end Data

variable {m : (ℓ : Loc nD τ sig) → Buf (Elt Ideal) ℓ} {c : Dev nD} {D : Data}

variable (m c) in
/-- What the point before `t` left. -/
abbrev prev (t : Fin cfg0.N) := outsAt0 m c (t.val - 1) (lt_of_le_of_lt (Nat.sub_le _ _) t.isLt)

variable (m c) in
abbrev cur (t : Fin cfg0.N) := outsAt0 m c t.val t.isLt

/-- The seven kinds of grid point: whether the head begins, the key tile begins, the query tile lies below or on the
    diagonal, and the key tile ends. -/
theorem kinds (t : Fin cfg0.N) {G : Prop}
    (A : t.val % 16 = 0 → t.val % 4 = 0 → ¬t.val / 4 % 4 + 1 ≤ t.val % 4 → t.val / 4 % 4 = t.val % 4 → ¬t.val % 4 = 3 → G)
    (B : ¬t.val % 16 = 0 → ¬t.val % 4 = 0 → t.val / 4 % 4 + 1 ≤ t.val % 4 → ¬t.val / 4 % 4 = t.val % 4 → ¬t.val % 4 = 3 → G)
    (C : ¬t.val % 16 = 0 → ¬t.val % 4 = 0 → t.val / 4 % 4 + 1 ≤ t.val % 4 → ¬t.val / 4 % 4 = t.val % 4 → t.val % 4 = 3 → G)
    (D : ¬t.val % 16 = 0 → t.val % 4 = 0 → ¬t.val / 4 % 4 + 1 ≤ t.val % 4 → ¬t.val / 4 % 4 = t.val % 4 → ¬t.val % 4 = 3 → G)
    (E : ¬t.val % 16 = 0 → ¬t.val % 4 = 0 → ¬t.val / 4 % 4 + 1 ≤ t.val % 4 → t.val / 4 % 4 = t.val % 4 → ¬t.val % 4 = 3 → G)
    (F : ¬t.val % 16 = 0 → ¬t.val % 4 = 0 → ¬t.val / 4 % 4 + 1 ≤ t.val % 4 → ¬t.val / 4 % 4 = t.val % 4 → ¬t.val % 4 = 3 → G)
    (K : ¬t.val % 16 = 0 → ¬t.val % 4 = 0 → ¬t.val / 4 % 4 + 1 ≤ t.val % 4 → t.val / 4 % 4 = t.val % 4 → t.val % 4 = 3 → G) : G := by
  by_cases h0 : t.val % 16 = 0
  · exact A h0 (by omega) (by omega) (by omega) (by omega)
  by_cases h1 : t.val % 4 = 0
  · exact D h0 h1 (by omega) (by omega) (by omega)
  by_cases h2 : t.val / 4 % 4 + 1 ≤ t.val % 4
  · by_cases h4 : t.val % 4 = 3
    · exact C h0 h1 h2 (by omega) h4
    · exact B h0 h1 h2 (by omega) h4
  by_cases h3 : t.val / 4 % 4 = t.val % 4
  · by_cases h4 : t.val % 4 = 3
    · exact K h0 h1 h2 h3 h4
    · exact E h0 h1 h2 h3 h4
  · exact F h0 h1 h2 h3 (by omega)

section
variable (H : Entry m c D) (t : Fin cfg0.N) (b : Fin 1024) (d : Fin 128)
include H

/-- A point's effect on the sum of the keys' gradients. -/
theorem sdk_step :
    ((cur m c t).2.2.2.2.2.1 : FVec Ideal S1024x128 .f32) (ix2 b d)
      = (if t.val % 4 = 0 then 0 else ((prev m c t).2.2.2.2.2.1 : FVec Ideal S1024x128 .f32) (ix2 b d)) + ((D.tk (hP t) (row (jP t) b) d (iP t) : ℝ) : EReal) := by
  refine kinds t ?_ ?_ ?_ ?_ ?_ ?_ ?_ <;> intro h0 h1 h2 h3 h4
  · have ht : jP t = iP t := Fin.ext h3
    rw [if_pos h1, cur, outsAt0_A m c t h0 h1 h2 h3 h4]; frame_out
    rw [pay29_at (ds_dia H t ht) (blk0 H t ht.le), pay3_at]
    rfl
  · have ht : jP t < iP t := h2
    rw [if_neg h1, cur, outsAt0_B m c t h0 h1 h2 h3 h4]; frame_out; simp only [read_unread_whole]
    rw [pay19_at (ds_off H t ht) (blk0 H t ht.le)]
    rfl
  · have ht : jP t < iP t := h2
    rw [if_neg h1, cur, outsAt0_C m c t h0 h1 h2 h3 h4]; frame_out; simp only [read_unread_whole]
    rw [pay19_at (ds_off H t ht) (blk0 H t ht.le)]
    rfl
  · have ht : iP t < jP t := by show t.val % 4 < t.val / 4 % 4; omega
    rw [if_pos h1, cur, outsAt0_D m c t h0 h1 h2 h3 h4]; frame_out
    rw [D.tk_up _ ht, pay3_at]
    simp
  · have ht : jP t = iP t := Fin.ext h3
    rw [if_neg h1, cur, outsAt0_E m c t h0 h1 h2 h3 h4]; frame_out; simp only [read_unread_whole]
    rw [pay29_at (ds_dia H t ht) (blk0 H t ht.le)]
    rfl
  · have ht : iP t < jP t := by show t.val % 4 < t.val / 4 % 4; omega
    rw [if_neg h1, cur, outsAt0_F m c t h0 h1 h2 h3 h4]; dsimp only; unfold sout0_F_0
    rw [D.tk_up _ ht]
    simp
  · have ht : jP t = iP t := Fin.ext h3
    rw [if_neg h1, cur, outsAt0_G m c t h0 h1 h2 h3 h4]; frame_out; simp only [read_unread_whole]
    rw [pay29_at (ds_dia H t ht) (blk0 H t ht.le)]
    rfl

/-- A point's effect on the sum of the values' gradients. -/
theorem sdv_step :
    ((cur m c t).2.2.2.2.2.2.1 : FVec Ideal S1024x128 .f32) (ix2 b d)
      = (if t.val % 4 = 0 then 0 else ((prev m c t).2.2.2.2.2.2.1 : FVec Ideal S1024x128 .f32) (ix2 b d)) + ((D.tv (hP t) (row (jP t) b) d (iP t) : ℝ) : EReal) := by
  refine kinds t ?_ ?_ ?_ ?_ ?_ ?_ ?_ <;> intro h0 h1 h2 h3 h4
  · have ht : jP t = iP t := Fin.ext h3
    rw [if_pos h1, cur, outsAt0_A m c t h0 h1 h2 h3 h4]; frame_out
    rw [pay24_at (p_dia H t ht) (blk3 H t ht.le), pay4_at]
    rfl
  · have ht : jP t < iP t := h2
    rw [if_neg h1, cur, outsAt0_B m c t h0 h1 h2 h3 h4]; frame_out; simp only [read_unread_whole]
    rw [pay12_at (p_off H t ht) (blk3 H t ht.le)]
    rfl
  · have ht : jP t < iP t := h2
    rw [if_neg h1, cur, outsAt0_C m c t h0 h1 h2 h3 h4]; frame_out; simp only [read_unread_whole]
    rw [pay12_at (p_off H t ht) (blk3 H t ht.le)]
    rfl
  · have ht : iP t < jP t := by show t.val % 4 < t.val / 4 % 4; omega
    rw [if_pos h1, cur, outsAt0_D m c t h0 h1 h2 h3 h4]; frame_out
    rw [D.tv_up _ ht, pay4_at]
    simp
  · have ht : jP t = iP t := Fin.ext h3
    rw [if_neg h1, cur, outsAt0_E m c t h0 h1 h2 h3 h4]; frame_out; simp only [read_unread_whole]
    rw [pay24_at (p_dia H t ht) (blk3 H t ht.le)]
    rfl
  · have ht : iP t < jP t := by show t.val % 4 < t.val / 4 % 4; omega
    rw [if_neg h1, cur, outsAt0_F m c t h0 h1 h2 h3 h4]; dsimp only; unfold sout0_F_1
    rw [D.tv_up _ ht]
    simp
  · have ht : jP t = iP t := Fin.ext h3
    rw [if_neg h1, cur, outsAt0_G m c t h0 h1 h2 h3 h4]; frame_out; simp only [read_unread_whole]
    rw [pay24_at (p_dia H t ht) (blk3 H t ht.le)]
    rfl

/-- A point's effect on the sum of the key side's gate gradients. -/
theorem sdc_step :
    ((cur m c t).2.2.2.2.2.2.2 : FVec Ideal S1x1024 .f32) (ix2 0 b)
      = (if t.val % 4 = 0 then 0 else ((prev m c t).2.2.2.2.2.2.2 : FVec Ideal S1x1024 .f32) (ix2 0 b)) - ((D.tc (hP t) (row (jP t) b) (iP t) : ℝ) : EReal) := by
  refine kinds t ?_ ?_ ?_ ?_ ?_ ?_ ?_ <;> intro h0 h1 h2 h3 h4
  · have ht : jP t = iP t := Fin.ext h3
    rw [if_pos h1, cur, outsAt0_A m c t h0 h1 h2 h3 h4]; frame_out
    rw [pay27_at (ds_dia H t ht), pay5_at]
    rfl
  · have ht : jP t < iP t := h2
    rw [if_neg h1, cur, outsAt0_B m c t h0 h1 h2 h3 h4]; frame_out; simp only [read_unread_whole]
    rw [pay17_at (ds_off H t ht)]
    rfl
  · have ht : jP t < iP t := h2
    rw [if_neg h1, cur, outsAt0_C m c t h0 h1 h2 h3 h4]; frame_out; simp only [read_unread_whole]
    rw [pay17_at (ds_off H t ht)]
    rfl
  · have ht : iP t < jP t := by show t.val % 4 < t.val / 4 % 4; omega
    rw [if_pos h1, cur, outsAt0_D m c t h0 h1 h2 h3 h4]; frame_out
    rw [D.tc_up _ ht, pay5_at]
    simp
  · have ht : jP t = iP t := Fin.ext h3
    rw [if_neg h1, cur, outsAt0_E m c t h0 h1 h2 h3 h4]; frame_out; simp only [read_unread_whole]
    rw [pay27_at (ds_dia H t ht)]
    rfl
  · have ht : iP t < jP t := by show t.val % 4 < t.val / 4 % 4; omega
    rw [if_neg h1, cur, outsAt0_F m c t h0 h1 h2 h3 h4]; dsimp only; unfold sout0_F_2
    rw [D.tc_up _ ht]
    simp
  · have ht : jP t = iP t := Fin.ext h3
    rw [if_neg h1, cur, outsAt0_G m c t h0 h1 h2 h3 h4]; frame_out; simp only [read_unread_whole]
    rw [pay27_at (ds_dia H t ht)]
    rfl

omit H in
theorem dk_out (h4 : t.val % 4 = 3) :
    ((cur m c t).2.1 : FVec Ideal S1024x128 .bf16) (ix2 b d) = ((cur m c t).2.2.2.2.2.1 : FVec Ideal S1024x128 .f32) (ix2 b d) := by
  have h1 : ¬t.val % 4 = 0 := by omega
  have h0 : ¬t.val % 16 = 0 := by omega
  by_cases h3 : t.val / 4 % 4 = t.val % 4
  · rw [cur, outsAt0_G m c t h0 h1 (by omega) h3 h4]; frame_out
    exact pay8_at _ _
  · rw [cur, outsAt0_C m c t h0 h1 (by omega) h3 h4]; frame_out
    exact pay8_at _ _

omit H in
theorem dv_out (h4 : t.val % 4 = 3) :
    ((cur m c t).2.2.1 : FVec Ideal S1024x128 .bf16) (ix2 b d) = ((cur m c t).2.2.2.2.2.2.1 : FVec Ideal S1024x128 .f32) (ix2 b d) := by
  have h1 : ¬t.val % 4 = 0 := by omega
  have h0 : ¬t.val % 16 = 0 := by omega
  by_cases h3 : t.val / 4 % 4 = t.val % 4
  · rw [cur, outsAt0_G m c t h0 h1 (by omega) h3 h4]; frame_out
    exact pay9_at _ _
  · rw [cur, outsAt0_C m c t h0 h1 (by omega) h3 h4]; frame_out
    exact pay9_at _ _

omit H in
theorem dc_out (h4 : t.val % 4 = 3) :
    ((cur m c t).2.2.2.1 : FVec Ideal S1x1x1024 .f32) (ix3 0 0 b) = ((cur m c t).2.2.2.2.2.2.2 : FVec Ideal S1x1024 .f32) (ix2 0 b) := by
  have h1 : ¬t.val % 4 = 0 := by omega
  have h0 : ¬t.val % 16 = 0 := by omega
  by_cases h3 : t.val / 4 % 4 = t.val % 4
  · rw [cur, outsAt0_G m c t h0 h1 (by omega) h3 h4]; frame_out
    exact pay10_at _ _
  · rw [cur, outsAt0_C m c t h0 h1 (by omega) h3 h4]; frame_out
    exact pay10_at _ _

end
end Cert.Hand
end
-- ==== Proof.StepQ.lean ====
/- What one grid point adds to the head's query sums: the gradients of the queries and of the query side's gate. -/
module

public import proofs.«01_k».proof.Proof.StepK
public import Idealize.ShloMosaic.Lib.WritesUnit
public import Idealize.ShloMosaic.Lib.Pipeline.ValueKit.Tiles

@[expose] public section
set_option maxRecDepth 16384
noncomputable section
namespace Cert.Hand
open Cert.KernelIdeal Cert.KernelIdeal.Gen Idealize.ShloMosaic Idealize.ShloMosaic.TcCoe Idealize.SL.Sem Idealize.ShloMosaic.Pointwise

theorem off1 : ∀ t : Fin cfg0.N, k0_off1 (grid0.coords t) = ![1024 * (iP t : ℕ), 0] := by decide +kernel
theorem off2 : ∀ t : Fin cfg0.N, k0_off2 (grid0.coords t) = ![0, 1024 * (iP t : ℕ), 0] := by decide +kernel
theorem off3 : ∀ t : Fin cfg0.N, k0_off3 (grid0.coords t) = ![1024 * (iP t : ℕ), 0] := by decide +kernel
theorem off4 : ∀ t : Fin cfg0.N, k0_off4 (grid0.coords t) = ![0, 1024 * (iP t : ℕ), 0] := by decide +kernel

theorem row_out {i i' : Fin 4} (h : ¬i' = i) (r : Fin 1024) : (row i' r).val < 1024 * (i : ℕ) ∨ 1024 * (i : ℕ) + 1024 ≤ (row i' r).val := by
  have h' : ¬(i' : ℕ) = i := fun e => h (Fin.ext e)
  show 1024 * (i' : ℕ) + r < _ ∨ _ ≤ 1024 * (i' : ℕ) + r
  omega

section
variable {κ : Kind} {sp : Space} {i : Fin 4}

/-- A store of one tile's rows, read at a row: the stored value in that tile, what was there before elsewhere. -/
theorem rows_upd (v : View sig κ sp S4096x128 .f32) (f : v.ty.Contents (Elt Ideal)) {off : Fin 2 → ℕ}
    (inb : ∀ a, off a + (![1024, 128] : Fin 2 → ℕ) a ≤ S4096x128.size a) (hoff : off = ![1024 * (i : ℕ), 0])
    (w : FVec Ideal S1024x128 .f32) (L : List (View.Piece (Elt Ideal) S4096x128 .f32)) (i' : Fin 4) (r : Fin 1024) (d : Fin 128) :
    v.read (Elt Ideal) (v.writes (Elt Ideal) f ((⟨Rect.unit off ![1024, 128] inb, w⟩ : View.Piece (Elt Ideal) S4096x128 .f32) :: L)) (ix2 (row i' r) d)
      = if i' = i then w (ix2 r d) else v.read (Elt Ideal) (v.writes (Elt Ideal) f L) (ix2 (row i' r) d) := by
  split
  · next h =>
    subst h
    exact View.read_writes_cons_unit_of_mem v f inb w L _ (ix2 r d) hoff (Fin.forall_fin_two.mpr ⟨rfl, (Nat.zero_add _).symm⟩)
  · next h => exact View.read_writes_cons_unit_of_not_mem v f inb w L _ hoff 0 (row_out h r)

/-- A load of one tile's rows. -/
theorem rows_ld (X : FVec Ideal S4096x128 .f32) {off : Fin 2 → ℕ}
    (inb : ∀ a, off a + (![1024, 128] : Fin 2 → ℕ) a ≤ S4096x128.size a) (hoff : off = ![1024 * (i : ℕ), 0]) (r : Fin 1024) (d : Fin 128) :
    (View.ld (Val := Elt Ideal) (S := S4096x128) (e' := .f32) X (Rect.unit off ![1024, 128] inb) : FVec Ideal S1024x128 .f32) (ix2 r d) = X (ix2 (row i r) d) := by
  subst hoff
  exact View.ld_unit_apply_of (S := S4096x128) (Val := Elt Ideal) (e := .f32) X _ _ inb (ix2 r d) (ix2 (row i r) d) (Fin.forall_fin_two.mpr ⟨rfl, (Nat.zero_add _).symm⟩)

/-- The same store and load, of a column of the query side's gate gradient. -/
theorem col_upd (v : View sig κ sp S1x4096x1 .f32) (f : v.ty.Contents (Elt Ideal)) {off : Fin 3 → ℕ}
    (inb : ∀ a, off a + (![1, 1024, 1] : Fin 3 → ℕ) a ≤ S1x4096x1.size a) (hoff : off = ![0, 1024 * (i : ℕ), 0])
    (w : FVec Ideal S1x1024x1 .f32) (L : List (View.Piece (Elt Ideal) S1x4096x1 .f32)) (i' : Fin 4) (r : Fin 1024) :
    v.read (Elt Ideal) (v.writes (Elt Ideal) f ((⟨Rect.unit off ![1, 1024, 1] inb, w⟩ : View.Piece (Elt Ideal) S1x4096x1 .f32) :: L)) (ix3 0 (row i' r) 0)
      = if i' = i then w (ix3 0 r 0) else v.read (Elt Ideal) (v.writes (Elt Ideal) f L) (ix3 0 (row i' r) 0) := by
  split
  · next h =>
    subst h
    exact View.read_writes_cons_unit_of_mem v f inb w L _ (ix3 0 r 0) hoff (fun a => match a with | ⟨0, _⟩ => rfl | ⟨1, _⟩ => rfl | ⟨2, _⟩ => rfl)
  · next h => exact View.read_writes_cons_unit_of_not_mem v f inb w L _ hoff 1 (row_out h r)

theorem col_ld (X : FVec Ideal S1x4096x1 .f32) {off : Fin 3 → ℕ}
    (inb : ∀ a, off a + (![1, 1024, 1] : Fin 3 → ℕ) a ≤ S1x4096x1.size a) (hoff : off = ![0, 1024 * (i : ℕ), 0]) (r : Fin 1024) :
    (View.ld (Val := Elt Ideal) (S := S1x4096x1) (e' := .f32) X (Rect.unit off ![1, 1024, 1] inb) : FVec Ideal S1x1024x1 .f32) (ix3 0 r 0) = X (ix3 0 (row i r) 0) := by
  subst hoff
  exact View.ld_unit_apply_of (S := S1x4096x1) (Val := Elt Ideal) (e := .f32) X _ _ inb (ix3 0 r 0) (ix3 0 (row i r) 0) (fun a => match a with | ⟨0, _⟩ => rfl | ⟨1, _⟩ => rfl | ⟨2, _⟩ => rfl)

/-- A store of the whole array reads as its value. -/
theorem rows_all (v : View sig κ sp S4096x128 .f32) (f : v.ty.Contents (Elt Ideal))
    (inb : ∀ a, (![0, 0] : Fin 2 → ℕ) a + (![4096, 128] : Fin 2 → ℕ) a ≤ S4096x128.size a)
    (w : FVec Ideal S4096x128 .f32) (j : S4096x128.Idx) :
    v.read (Elt Ideal) (v.writes (Elt Ideal) f [(⟨Rect.unit ![0, 0] ![4096, 128] inb, w⟩ : View.Piece (Elt Ideal) S4096x128 .f32)]) j = w j :=
  View.read_writes_cons_unit_of_mem v f inb w [] j j rfl (Fin.forall_fin_two.mpr ⟨(Nat.zero_add _).symm, (Nat.zero_add _).symm⟩)

theorem col_all (v : View sig κ sp S1x4096x1 .f32) (f : v.ty.Contents (Elt Ideal))
    (inb : ∀ a, (![0, 0, 0] : Fin 3 → ℕ) a + (![1, 4096, 1] : Fin 3 → ℕ) a ≤ S1x4096x1.size a)
    (w : FVec Ideal S1x4096x1 .f32) (j : S1x4096x1.Idx) :
    v.read (Elt Ideal) (v.writes (Elt Ideal) f [(⟨Rect.unit ![0, 0, 0] ![1, 4096, 1] inb, w⟩ : View.Piece (Elt Ideal) S1x4096x1 .f32)]) j = w j :=
  View.read_writes_cons_unit_of_mem v f inb w [] j j rfl
    (fun a => match a with | ⟨0, _⟩ => (Nat.zero_add _).symm | ⟨1, _⟩ => (Nat.zero_add _).symm | ⟨2, _⟩ => (Nat.zero_add _).symm)

end

variable {m : (ℓ : Loc nD τ sig) → Buf (Elt Ideal) ℓ} {c : Dev nD} {D : Data}

section
variable (H : Entry m c D) (t : Fin cfg0.N) (i' : Fin 4) (r : Fin 1024) (d : Fin 128)
include H

/-- A point's effect on the queries' gradients. -/
theorem dq_step :
    ((cur m c t).1 : FVec Ideal S4096x128 .f32) (ix2 (row i' r) d)
      = (if t.val % 16 = 0 then 0 else ((prev m c t).1 : FVec Ideal S4096x128 .f32) (ix2 (row i' r) d))
        + ((if i' = iP t then D.tq (hP t) (row i' r) d (jP t) else 0 : ℝ) : EReal) := by
  refine kinds t ?_ ?_ ?_ ?_ ?_ ?_ ?_ <;> intro h0 h1 h2 h3 h4
  · have ht : jP t = iP t := Fin.ext h3
    rw [if_pos h0, cur, outsAt0_A m c t h0 h1 h2 h3 h4]; frame_out
    rw [← View.read_writes_junk_eq_canon VO0_8, rows_upd _ _ _ (off3 t), rows_all, pay1_at]
    split
    · next h => subst h; rw [pay30_at (ds_dia H t ht) (blk1 H t), rows_ld _ _ (off3 t), pay1_at]; rfl
    · simp
  · have ht : jP t < iP t := h2
    rw [if_neg h0, cur, outsAt0_B m c t h0 h1 h2 h3 h4]; frame_out
    rw [rows_upd _ _ _ (off1 t), View.writes_nil, Memref.IsWhole.read_unread]
    split
    · next h => subst h; rw [pay20_at (ds_off H t ht) (blk1 H t), rows_ld _ _ (off1 t)]; rfl
    · simp
  · have ht : jP t < iP t := h2
    rw [if_neg h0, cur, outsAt0_C m c t h0 h1 h2 h3 h4]; frame_out
    rw [rows_upd _ _ _ (off1 t), View.writes_nil, Memref.IsWhole.read_unread]
    split
    · next h => subst h; rw [pay20_at (ds_off H t ht) (blk1 H t), rows_ld _ _ (off1 t)]; rfl
    · simp
  · have ht : iP t < jP t := by show t.val % 4 < t.val / 4 % 4; omega
    rw [if_neg h0, cur, outsAt0_D m c t h0 h1 h2 h3 h4]; dsimp only; unfold out0_D_8
    split
    · next h => subst h; rw [D.tq_up _ ht]; simp
    · simp
  · have ht : jP t = iP t := Fin.ext h3
    rw [if_neg h0, cur, outsAt0_E m c t h0 h1 h2 h3 h4]; frame_out
    rw [rows_upd _ _ _ (off3 t), View.writes_nil, Memref.IsWhole.read_unread]
    split
    · next h => subst h; rw [pay30_at (ds_dia H t ht) (blk1 H t), rows_ld _ _ (off3 t)]; rfl
    · simp
  · have ht : iP t < jP t := by show t.val % 4 < t.val / 4 % 4; omega
    rw [if_neg h0, cur, outsAt0_F m c t h0 h1 h2 h3 h4]; dsimp only; unfold out0_F_8
    split
    · next h => subst h; rw [D.tq_up _ ht]; simp
    · simp
  · have ht : jP t = iP t := Fin.ext h3
    rw [if_neg h0, cur, outsAt0_G m c t h0 h1 h2 h3 h4]; frame_out
    rw [rows_upd _ _ _ (off3 t), View.writes_nil, Memref.IsWhole.read_unread]
    split
    · next h => subst h; rw [pay30_at (ds_dia H t ht) (blk1 H t), rows_ld _ _ (off3 t)]; rfl
    · simp

/-- A point's effect on the query side's gate gradients. -/
theorem dcq_step :
    ((cur m c t).2.2.2.2.1 : FVec Ideal S1x4096x1 .f32) (ix3 0 (row i' r) 0)
      = (if t.val % 16 = 0 then 0 else ((prev m c t).2.2.2.2.1 : FVec Ideal S1x4096x1 .f32) (ix3 0 (row i' r) 0))
        + ((if i' = iP t then D.tr (hP t) (row i' r) (jP t) else 0 : ℝ) : EReal) := by
  refine kinds t ?_ ?_ ?_ ?_ ?_ ?_ ?_ <;> intro h0 h1 h2 h3 h4
  · have ht : jP t = iP t := Fin.ext h3
    rw [if_pos h0, cur, outsAt0_A m c t h0 h1 h2 h3 h4]; frame_out
    rw [← View.read_writes_junk_eq_canon VO0_12, col_upd _ _ _ (off4 t), col_all, pay2_at]
    split
    · next h => subst h; rw [pay7_at (ds_dia H t ht), col_ld _ _ (off4 t), pay2_at]; rfl
    · simp
  · have ht : jP t < iP t := h2
    rw [if_neg h0, cur, outsAt0_B m c t h0 h1 h2 h3 h4]; frame_out
    rw [col_upd _ _ _ (off2 t), View.writes_nil, Memref.IsWhole.read_unread]
    split
    · next h => subst h; rw [pay6_at (ds_off H t ht), col_ld _ _ (off2 t)]; rfl
    · simp
  · have ht : jP t < iP t := h2
    rw [if_neg h0, cur, outsAt0_C m c t h0 h1 h2 h3 h4]; frame_out
    rw [col_upd _ _ _ (off2 t), View.writes_nil, Memref.IsWhole.read_unread]
    split
    · next h => subst h; rw [pay6_at (ds_off H t ht), col_ld _ _ (off2 t)]; rfl
    · simp
  · have ht : iP t < jP t := by show t.val % 4 < t.val / 4 % 4; omega
    rw [if_neg h0, cur, outsAt0_D m c t h0 h1 h2 h3 h4]; dsimp only; unfold out0_D_12
    split
    · next h => subst h; rw [D.tr_up _ ht]; simp
    · simp
  · have ht : jP t = iP t := Fin.ext h3
    rw [if_neg h0, cur, outsAt0_E m c t h0 h1 h2 h3 h4]; frame_out
    rw [col_upd _ _ _ (off4 t), View.writes_nil, Memref.IsWhole.read_unread]
    split
    · next h => subst h; rw [pay7_at (ds_dia H t ht), col_ld _ _ (off4 t)]; rfl
    · simp
  · have ht : iP t < jP t := by show t.val % 4 < t.val / 4 % 4; omega
    rw [if_neg h0, cur, outsAt0_F m c t h0 h1 h2 h3 h4]; dsimp only; unfold out0_F_12
    split
    · next h => subst h; rw [D.tr_up _ ht]; simp
    · simp
  · have ht : jP t = iP t := Fin.ext h3
    rw [if_neg h0, cur, outsAt0_G m c t h0 h1 h2 h3 h4]; frame_out
    rw [col_upd _ _ _ (off4 t), View.writes_nil, Memref.IsWhole.read_unread]
    split
    · next h => subst h; rw [pay7_at (ds_dia H t ht), col_ld _ _ (off4 t)]; rfl
    · simp

end
end Cert.Hand
end
-- ==== Proof.Fold.lean ====
/- What the five sums hold after each grid point, and at the points that write them out. -/
module

public import proofs.«01_k».proof.Proof.StepQ

@[expose] public section
set_option maxRecDepth 16384
noncomputable section
namespace Cert.Hand
open Cert.KernelIdeal Cert.KernelIdeal.Gen Idealize.ShloMosaic Idealize.ShloMosaic.TcCoe Idealize.SL.Sem Idealize.ShloMosaic.Pointwise

/-- The first `n` of four parts, summed. -/
def part (f : Fin 4 → ℝ) (n : ℕ) : ℝ := ∑ i : Fin 4, if (i : ℕ) < n then f i else 0

theorem part_zero (f : Fin 4 → ℝ) : part f 0 = 0 := by simp [part]
theorem part_succ (f : Fin 4 → ℝ) (i : Fin 4) : part f (i + 1) = part f i + f i := by
  fin_cases i <;> simp [part, Fin.sum_univ_four]
theorem part_four (f : Fin 4 → ℝ) : part f 4 = ∑ i, f i :=
  Finset.sum_congr rfl fun i _ => if_pos i.isLt

/-- A sum over the rows of the four tiles is the sum over all rows. -/
theorem sum_rows (f : Fin 4096 → ℝ) : ∑ i : Fin 4, ∑ r : Fin 1024, f (row i r) = ∑ r, f r := by
  rw [← Fintype.sum_prod_type']
  refine Fintype.sum_equiv (finProdFinEquiv (m := 4) (n := 1024)) _ _ fun x => congrArg f (Fin.ext ?_)
  show 1024 * (x.1 : ℕ) + x.2 = x.2 + 1024 * x.1
  omega

variable {m : (ℓ : Loc nD τ sig) → Buf (Elt Ideal) ℓ} {c : Dev nD} {D : Data}

theorem same_tile {n : ℕ} (hn : n + 1 < cfg0.N) (h : ¬(n + 1) % 4 = 0) :
    hP ⟨n + 1, hn⟩ = hP ⟨n, Nat.lt_of_succ_lt hn⟩ ∧ jP ⟨n + 1, hn⟩ = jP ⟨n, Nat.lt_of_succ_lt hn⟩ ∧ n % 4 + 1 = (n + 1) % 4 := by
  refine ⟨Fin.ext ?_, Fin.ext ?_, ?_⟩
  · show (n + 1) / 16 = n / 16; omega
  · show (n + 1) / 4 % 4 = n / 4 % 4; omega
  · omega

theorem same_head {n : ℕ} (hn : n + 1 < cfg0.N) (h : ¬(n + 1) % 16 = 0) :
    hP ⟨n + 1, hn⟩ = hP ⟨n, Nat.lt_of_succ_lt hn⟩ := by
  refine Fin.ext ?_
  show (n + 1) / 16 = n / 16; omega

/-- A sum that each key tile begins afresh, over the points. -/
theorem fold_tile (s : (n : ℕ) → n < cfg0.N → EReal) (f : Fin 16 → Fin 4 → Fin 4 → ℝ)
    (hs : ∀ n (hn : n < cfg0.N), s n hn = (if n % 4 = 0 then 0 else s (n - 1) (lt_of_le_of_lt (Nat.sub_le _ _) hn))
      + ((f (hP ⟨n, hn⟩) (jP ⟨n, hn⟩) (iP ⟨n, hn⟩) : ℝ) : EReal)) :
    ∀ n (hn : n < cfg0.N), s n hn = ((part (f (hP ⟨n, hn⟩) (jP ⟨n, hn⟩)) (n % 4 + 1) : ℝ) : EReal) := by
  intro n
  induction n with
  | zero =>
    intro hn
    rw [hs, if_pos (Nat.zero_mod 4), zero_add]
    exact congrArg _ ((zero_add _).symm.trans ((congrArg (· + _) (part_zero _).symm).trans (part_succ (f (hP ⟨0, hn⟩) (jP ⟨0, hn⟩)) (iP ⟨0, hn⟩)).symm))
  | succ n ih =>
    intro hn
    rw [hs]
    have e := part_succ (f (hP ⟨n + 1, hn⟩) (jP ⟨n + 1, hn⟩)) (iP ⟨n + 1, hn⟩)
    have e' : ((iP ⟨n + 1, hn⟩ : Fin 4) : ℕ) = (n + 1) % 4 := rfl
    rw [e'] at e
    rw [e]
    by_cases h : (n + 1) % 4 = 0
    · rw [if_pos h, h, part_zero, zero_add, zero_add]
    · rw [if_neg h, EReal.coe_add]
      obtain ⟨h1, h2, h3⟩ := same_tile hn h
      refine congrArg (· + _) ((ih (Nat.lt_of_succ_lt hn)).trans ?_)
      rw [h1, h2, h3]

/-- A sum that each head begins afresh and that a point adds to in one tile `i'` only, over the points. -/
theorem fold_head (i' : Fin 4) (s : (n : ℕ) → n < cfg0.N → EReal) (f : Fin 16 → Fin 4 → ℝ)
    (hs : ∀ n (hn : n < cfg0.N), s n hn = (if n % 16 = 0 then 0 else s (n - 1) (lt_of_le_of_lt (Nat.sub_le _ _) hn))
      + ((if i' = iP ⟨n, hn⟩ then f (hP ⟨n, hn⟩) (jP ⟨n, hn⟩) else 0 : ℝ) : EReal)) :
    ∀ n (hn : n < cfg0.N), s n hn = ((part (f (hP ⟨n, hn⟩)) (n / 4 % 4 + if (i' : ℕ) ≤ n % 4 then 1 else 0) : ℝ) : EReal) := by
  have key : ∀ n (hn : n < cfg0.N), part (f (hP ⟨n, hn⟩)) (n / 4 % 4 + if (i' : ℕ) ≤ n % 4 then 1 else 0)
      = part (f (hP ⟨n, hn⟩)) (n / 4 % 4 + if (i' : ℕ) < n % 4 then 1 else 0) + if i' = iP ⟨n, hn⟩ then f (hP ⟨n, hn⟩) (jP ⟨n, hn⟩) else 0 := by
    intro n hn
    by_cases h : i' = iP ⟨n, hn⟩
    · have h' : (i' : ℕ) = n % 4 := congrArg Fin.val h
      rw [if_pos h, h', if_pos le_rfl, if_neg (lt_irrefl _)]
      exact part_succ (f (hP ⟨n, hn⟩)) (jP ⟨n, hn⟩)
    · have h' : ¬(i' : ℕ) = n % 4 := fun e => h (Fin.ext e)
      rw [if_neg h, add_zero]
      by_cases h2 : (i' : ℕ) < n % 4
      · rw [if_pos h2, if_pos h2.le]
      · rw [if_neg h2, if_neg (by omega)]
  intro n
  induction n with
  | zero =>
    intro hn
    rw [hs, key, if_pos (Nat.zero_mod 16), EReal.coe_add]
    refine congrArg (· + _) ?_
    rw [if_neg (by omega), show 0 / 4 % 4 + 0 = 0 from rfl, part_zero]
    rfl
  | succ n ih =>
    intro hn
    rw [hs, key, EReal.coe_add]
    refine congrArg (· + _) ?_
    by_cases h : (n + 1) % 16 = 0
    · rw [if_pos h, if_neg (by omega), show (n + 1) / 4 % 4 + 0 = 0 by omega, part_zero]; rfl
    · rw [if_neg h]
      refine (ih (Nat.lt_of_succ_lt hn)).trans ?_
      rw [same_head hn h]
      congr 2
      have := i'.isLt
      split <;> split <;> omega

section
variable (H : Entry m c D) (t : Fin cfg0.N) (b : Fin 1024) (d : Fin 128)
include H

theorem dk_at (h4 : t.val % 4 = 3) :
    ((cur m c t).2.1 : FVec Ideal S1024x128 .bf16) (ix2 b d) = (((∑ r, D.ds (hP t) r (row (jP t) b) * D.q (hP t) r d) * sc : ℝ) : EReal) := by
  rw [dk_out t b d h4]
  refine (fold_tile (fun n hn => ((outsAt0 m c n hn).2.2.2.2.2.1 : FVec Ideal S1024x128 .f32) (ix2 b d)) (fun h j i => D.tk h (row j b) d i)
    (fun n hn => sdk_step H ⟨n, hn⟩ b d) t.val t.isLt).trans (congrArg _ ?_)
  rw [h4, part_four, ← sum_rows, Finset.sum_mul]
  rfl

theorem dv_at (h4 : t.val % 4 = 3) :
    ((cur m c t).2.2.1 : FVec Ideal S1024x128 .bf16) (ix2 b d) = ((∑ r, D.p (hP t) r (row (jP t) b) * D.g (hP t) r d : ℝ) : EReal) := by
  rw [dv_out t b d h4]
  refine (fold_tile (fun n hn => ((outsAt0 m c n hn).2.2.2.2.2.2.1 : FVec Ideal S1024x128 .f32) (ix2 b d)) (fun h j i => D.tv h (row j b) d i)
    (fun n hn => sdv_step H ⟨n, hn⟩ b d) t.val t.isLt).trans (congrArg _ ?_)
  rw [h4, part_four, ← sum_rows]
  rfl

theorem dc_at (h4 : t.val % 4 = 3) :
    ((cur m c t).2.2.2.1 : FVec Ideal S1x1x1024 .f32) (ix3 0 0 b) = ((-∑ r, D.ds (hP t) r (row (jP t) b) : ℝ) : EReal) := by
  rw [dc_out t b h4]
  refine (fold_tile (fun n hn => ((outsAt0 m c n hn).2.2.2.2.2.2.2 : FVec Ideal S1x1024 .f32) (ix2 0 b)) (fun h j i => -D.tc h (row j b) i)
    (fun n hn => (sdc_step H ⟨n, hn⟩ b).trans (by rw [EReal.coe_neg, ← sub_eq_add_neg])) t.val t.isLt).trans (congrArg _ ?_)
  rw [h4, part_four, ← sum_rows, Finset.sum_neg_distrib]
  rfl

variable (i' : Fin 4) (r : Fin 1024)

theorem dq_at (h4 : t.val % 16 = 15) :
    ((cur m c t).1 : FVec Ideal S4096x128 .f32) (ix2 (row i' r) d) = (((∑ b, D.ds (hP t) (row i' r) b * D.k (hP t) b d) * sc : ℝ) : EReal) := by
  refine (fold_head i' (fun n hn => ((outsAt0 m c n hn).1 : FVec Ideal S4096x128 .f32) (ix2 (row i' r) d)) (fun h j => D.tq h (row i' r) d j)
    (fun n hn => dq_step H ⟨n, hn⟩ i' r d) t.val t.isLt).trans (congrArg _ ?_)
  have := i'.isLt
  rw [if_pos (by omega), show t.val / 4 % 4 + 1 = 4 by omega, part_four, ← sum_rows, Finset.sum_mul]
  rfl

theorem dcq_at (h4 : t.val % 16 = 15) :
    ((cur m c t).2.2.2.2.1 : FVec Ideal S1x4096x1 .f32) (ix3 0 (row i' r) 0) = ((∑ b, D.ds (hP t) (row i' r) b : ℝ) : EReal) := by
  refine (fold_head i' (fun n hn => ((outsAt0 m c n hn).2.2.2.2.1 : FVec Ideal S1x4096x1 .f32) (ix3 0 (row i' r) 0)) (fun h j => D.tr h (row i' r) j)
    (fun n hn => dcq_step H ⟨n, hn⟩ i' r) t.val t.isLt).trans (congrArg _ ?_)
  have := i'.isLt
  rw [if_pos (by omega), show t.val / 4 % 4 + 1 = 4 by omega, part_four, ← sum_rows]
  rfl

end
end Cert.Hand
end
-- ==== Proof.Arrays.lean ====
/- The five result arrays after the whole grid. -/
module

public import proofs.«01_k».proof.Proof.Sums
public import proofs.«01_k».proof.Proof.Fold

@[expose] public section
set_option maxRecDepth 16384
noncomputable section
namespace Cert.Hand
open Cert.KernelIdeal Cert.KernelIdeal.Gen Idealize.ShloMosaic Idealize.ShloMosaic.TcCoe Idealize.SL.Sem Idealize.ShloMosaic.Pointwise

/-- The head of a lane, and the lane within the head. -/
def hd (n : Fin 2048) : Fin 16 := ⟨n / 128, by have := n.isLt; omega⟩
def dd (n : Fin 2048) : Fin 128 := ⟨n % 128, by omega⟩

namespace Data
variable (D : Data)
/-- The five gradients. -/
def gq (h : Fin 16) (r : Fin 4096) (d : Fin 128) : ℝ := (∑ b, D.ds h r b * D.k h b d) * sc
def gk (h : Fin 16) (b : Fin 4096) (d : Fin 128) : ℝ := (∑ r, D.ds h r b * D.q h r d) * sc
def gv (h : Fin 16) (b : Fin 4096) (d : Fin 128) : ℝ := ∑ r, D.p h r b * D.g h r d
def gck (h : Fin 16) (b : Fin 4096) : ℝ := -∑ r, D.ds h r b
def gcq (h : Fin 16) (r : Fin 4096) : ℝ := ∑ b, D.ds h r b
end Data

/-- Heads side by side in one array. -/
def heads (φ : FTy) (f : Fin 16 → Fin 4096 → Fin 128 → ℝ) : FVec Ideal S4096x2048 φ :=
  fun i => ((f (hd (i 1)) (i 0) (dd (i 1)) : ℝ) : EReal)

variable {m : (ℓ : Loc nD τ sig) → Buf (Elt Ideal) ℓ} {c : Dev nD} {D : Data}

theorem widx : ∀ t : Fin cfg0.N,
    (win0_8.index t 0 = 0 ∧ win0_8.index t 1 = t.val / 16)
    ∧ (win0_9.index t 0 = t.val / 4 % 4 ∧ win0_9.index t 1 = t.val / 16)
    ∧ (win0_10.index t 0 = t.val / 4 % 4 ∧ win0_10.index t 1 = t.val / 16)
    ∧ (win0_11.index t 0 = t.val / 16 ∧ win0_11.index t 1 = 0 ∧ win0_11.index t 2 = t.val / 4 % 4)
    ∧ (win0_12.index t 0 = t.val / 16 ∧ win0_12.index t 1 = 0 ∧ win0_12.index t 2 = 0) := by decide +kernel

theorem flush8 : ∀ t : Fin cfg0.N, (cfg0.win 8).flush t = true → t.val % 16 = 15 := by decide +kernel
theorem flush9 : ∀ t : Fin cfg0.N, (cfg0.win 9).flush t = true → t.val % 4 = 3 := by decide +kernel
theorem flush10 : ∀ t : Fin cfg0.N, (cfg0.win 10).flush t = true → t.val % 4 = 3 := by decide +kernel
theorem flush11 : ∀ t : Fin cfg0.N, (cfg0.win 11).flush t = true → t.val % 4 = 3 := by decide +kernel
theorem flush12 : ∀ t : Fin cfg0.N, (cfg0.win 12).flush t = true → t.val % 16 = 15 := by decide +kernel

theorem hd_lane (hn) (h : Fin 16) (d : Fin 128) : hd (lane 2048 0 hn h d) = h := by
  refine Fin.ext ?_
  show ((0 + (h : ℕ)) * 128 + d) / 128 = h
  have := d.isLt
  omega

theorem dd_lane (hn) (h : Fin 16) (d : Fin 128) : dd (lane 2048 0 hn h d) = d := by
  refine Fin.ext ?_
  show ((0 + (h : ℕ)) * 128 + d) % 128 = d
  have := d.isLt
  omega

theorem lane_hd (hn) (n : Fin 2048) : lane 2048 0 hn (hd n) (dd n) = n := by
  refine Fin.ext ?_
  show (0 + n.val / 128) * 128 + n.val % 128 = n.val
  omega

theorem heads_at (φ : FTy) (f : Fin 16 → Fin 4096 → Fin 128 → ℝ) (hn) (h : Fin 16) (r : Fin 4096) (d : Fin 128) :
    heads φ f (ix2 r (lane 2048 0 hn h d)) = ((f h r d : ℝ) : EReal) := by
  show ((f (hd (lane 2048 0 hn h d)) r (dd (lane 2048 0 hn h d)) : ℝ) : EReal) = _
  rw [hd_lane, dd_lane]

/-- Every row lies in one of the four tiles. -/
theorem row_surj (r : Fin 4096) : ∃ i r', r = row i r' :=
  ⟨⟨r / 1024, by have := r.isLt; omega⟩, ⟨r % 1024, by omega⟩, Fin.ext (by show r.val = 1024 * (r.val / 1024) + r.val % 1024; omega)⟩

theorem oemb8 (t : Fin cfg0.N) (r : Fin 4096) (d : Fin 128) :
    ((win0_8.blk t).view.emb (ix2 r d) : S4096x2048.Idx) = ix2 r (lane 2048 0 (by decide) (hP t) d) := by
  have e := (widx t).1
  unfold lane hP
  refine funext fun a => Fin.ext ?_
  match a with
  | ⟨0, _⟩ => blk_simp [e]; try simp; try omega
  | ⟨1, _⟩ => blk_simp [e]; try simp; try omega

theorem oemb9 (t : Fin cfg0.N) (r : Fin 1024) (d : Fin 128) :
    ((win0_9.blk t).view.emb (ix2 r d) : S4096x2048.Idx) = ix2 (row (jP t) r) (lane 2048 0 (by decide) (hP t) d) := by
  have e := (widx t).2.1
  unfold row lane hP jP
  refine funext fun a => Fin.ext ?_
  match a with
  | ⟨0, _⟩ => blk_simp [e]; try simp; try omega
  | ⟨1, _⟩ => blk_simp [e]; try simp; try omega

theorem oemb10 (t : Fin cfg0.N) (r : Fin 1024) (d : Fin 128) :
    ((win0_10.blk t).view.emb (ix2 r d) : S4096x2048.Idx) = ix2 (row (jP t) r) (lane 2048 0 (by decide) (hP t) d) := by
  have e := (widx t).2.2.1
  unfold row lane hP jP
  refine funext fun a => Fin.ext ?_
  match a with
  | ⟨0, _⟩ => blk_simp [e]; try simp; try omega
  | ⟨1, _⟩ => blk_simp [e]; try simp; try omega

theorem oemb11 (t : Fin cfg0.N) (r : Fin 1024) :
    ((win0_11.blk t).view.emb (ix3 0 0 r) : S16x1x4096.Idx) = ix3 (hP t) 0 (row (jP t) r) := by
  have e := (widx t).2.2.2.1
  unfold row hP jP
  refine funext fun a => Fin.ext ?_
  match a with
  | ⟨0, _⟩ => blk_simp [e]; try simp; try omega
  | ⟨1, _⟩ => blk_simp [e]; try simp; try omega
  | ⟨2, _⟩ => blk_simp [e]; try simp; try omega

theorem oemb12 (t : Fin cfg0.N) (r : Fin 4096) :
    ((win0_12.blk t).view.emb (ix3 0 r 0) : S16x4096x1.Idx) = ix3 (hP t) r 0 := by
  have e := (widx t).2.2.2.2
  unfold hP
  refine funext fun a => Fin.ext ?_
  match a with
  | ⟨0, _⟩ => blk_simp [e]; try simp; try omega
  | ⟨1, _⟩ => blk_simp [e]; try simp; try omega
  | ⟨2, _⟩ => blk_simp [e]; try simp; try omega

theorem triple (a b e : ℕ) (y : (⟨3, ![a, b, e]⟩ : Shape).Idx) : ∃ (u : Fin a) (r : Fin b) (d : Fin e), y = ix3 u r d :=
  ⟨y 0, y 1, y 2, funext fun i => match i with | ⟨0, _⟩ => rfl | ⟨1, _⟩ => rfl | ⟨2, _⟩ => rfl⟩

variable (H : Entry m c D)
include H

/-- The queries' gradient. -/
theorem arr8 : (dats m 0 c).arrAt 8 cfg0.N = heads .f32 D.gq := by
  refine (dats m 0 c).arrAt_eq_of_covers 8 _ (by decide +kernel) fun t hf y => ?_
  blk_simp
  rw [after0_8]
  obtain ⟨r, d, rfl⟩ := Tiles.pair 4096 128 y
  rw [oemb8, heads_at]
  obtain ⟨i, r', rfl⟩ := row_surj r
  exact dq_at H t d i r' (flush8 t hf)

/-- The keys' gradient. -/
theorem arr9 : (dats m 0 c).arrAt 9 cfg0.N = heads .bf16 D.gk := by
  refine (dats m 0 c).arrAt_eq_of_covers 9 _ (by decide +kernel) fun t hf y => ?_
  blk_simp
  rw [after0_9]
  obtain ⟨r, d, rfl⟩ := Tiles.pair 1024 128 y
  rw [oemb9, heads_at]
  exact dk_at H t r d (flush9 t hf)

/-- The values' gradient. -/
theorem arr10 : (dats m 0 c).arrAt 10 cfg0.N = heads .bf16 D.gv := by
  refine (dats m 0 c).arrAt_eq_of_covers 10 _ (by decide +kernel) fun t hf y => ?_
  blk_simp
  rw [after0_10]
  obtain ⟨r, d, rfl⟩ := Tiles.pair 1024 128 y
  rw [oemb10, heads_at]
  exact dv_at H t r d (flush10 t hf)

/-- The key side's gate gradient. -/
theorem arr11 : (dats m 0 c).arrAt 11 cfg0.N = (fun i => ((D.gck (i 0) (i 2) : ℝ) : EReal) : FVec Ideal S16x1x4096 .f32) := by
  refine (dats m 0 c).arrAt_eq_of_covers 11 _ (by decide +kernel) fun t hf y => ?_
  blk_simp
  rw [after0_11]
  obtain ⟨u, v, r, rfl⟩ := triple 1 1 1024 y
  have hu : u = 0 := Subsingleton.elim _ _
  have hv : v = 0 := Subsingleton.elim _ _
  subst hu; subst hv
  rw [oemb11]
  exact dc_at H t r (flush11 t hf)

/-- The query side's gate gradient. -/
theorem arr12 : (dats m 0 c).arrAt 12 cfg0.N = (fun i => ((D.gcq (i 0) (i 1) : ℝ) : EReal) : FVec Ideal S16x4096x1 .f32) := by
  refine (dats m 0 c).arrAt_eq_of_covers 12 _ (by decide +kernel) fun t hf y => ?_
  blk_simp
  rw [after0_12]
  obtain ⟨u, r, v, rfl⟩ := triple 1 4096 1 y
  have hu : u = 0 := Subsingleton.elim _ _
  have hv : v = 0 := Subsingleton.elim _ _
  subst hu; subst hv
  rw [oemb12]
  obtain ⟨i, r', rfl⟩ := row_surj r
  exact dcq_at H t i r' (flush12 t hf)

end Cert.Hand
end
-- ==== Proof.RefStage.lean ====
/- The reference's backward pass in named stages, and what each stage holds on real inputs. -/
module

public import proofs.«01_k».proof.Proof.Soft
public import proofs.«01_k».proof.Proof.Arrays
public import proofs.«01_k».proof.Proof.Gen.ReferenceIdeal

@[expose] public section
set_option maxRecDepth 16384
noncomputable section
namespace Cert.Hand
open Cert.ReferenceIdeal Cert.ReferenceIdeal.Gen Idealize.ShloMosaic Idealize.ShloMosaic.Pointwise

/-- The output gradients, a head per slice, and with the rows last. -/
def rG (y : FVec Ideal S4096x2048 .bf16) : FVec Ideal S4096x16x128 .f32 :=
  shapeCast S4096x16x128 (extf .f32 y bitsLt_bf16_f32) shapeCasts_S4096x2048_S4096x16x128
def rGt (G : FVec Ideal S4096x16x128 .f32) : FVec Ideal S16x128x4096 .f32 :=
  transpose S16x128x4096 [1, 2, 0] G transposes_S4096x16x128_S16x128x4096_1_2_0

/-- The gradient of the weights. -/
def rDP (G : FVec Ideal S16x128x4096 .f32) (U : FVec Ideal S4096x16x128 .f32) : FVec Ideal S16x4096x4096 .f32 :=
  Host.dotGeneral dot_S16x128x4096_S4096x16x128_S16x4096x4096_1_2_2_0_0_1 none G U

/-- The gradient of each row's sum of exponentials. -/
def rT (X E : FVec Ideal S16x4096x4096 .f32) (L : FVec Ideal S16x4096x1 .f32) : FVec Ideal S16x4096 .f32 :=
  Host.reduceAdd (Host.negf (shapeCast S16x4096x1 (Host.reduceAdd (mulf (mulf X (broadcastInDim S16x4096x4096 ![0, 1, 2] bcast_S16x4096x1_S16x4096x4096_0_1_2
    (Host.divf (broadcastInDim S16x4096x1 ![] bcast_S_S16x4096x1 (constant S_ .f32 0x3F800000#32)) (mulf L L)))) E)
    (constant S_ .f32 0x00000000#32) reducesTo_S16x4096x4096_S16x4096_d2 h_S_) shapeCasts_S16x4096_S16x4096x1))
    (constant S_ .f32 0x00000000#32) reducesTo_S16x4096x1_S16x4096_d2 h_S_

/-- The gradient of the scores. -/
def rDS (N : IVec S4096x4096 1) (X E : FVec Ideal S16x4096x4096 .f32) (L : FVec Ideal S16x4096x1 .f32) (T : FVec Ideal S16x4096 .f32) : FVec Ideal S16x4096x4096 .f32 :=
  select (broadcastInDim S16x4096x4096 ![1, 2] bcast_S4096x4096_S16x4096x4096_1_2 N)
    (mulf (addf (Host.divf X (broadcastInDim S16x4096x4096 ![0, 1, 2] bcast_S16x4096x1_S16x4096x4096_0_1_2 L))
      (broadcastInDim S16x4096x4096 ![0, 1] bcast_S16x4096_S16x4096x4096_0_1 T)) E)
    (broadcastInDim S16x4096x4096 ![] bcast_S_S16x4096x4096 (constant S_ .f32 0x00000000#32))

/-- Each row's sum of exponentials, as a column. -/
def rCol (L : FVec Ideal S16x4096 .f32) : FVec Ideal S16x4096x1 .f32 := broadcastInDim S16x4096x1 ![0, 1] bcast_S16x4096_S16x4096x1_0_1 L

/-- The gradients of the values, of the gates as a key's and as a query's, and of the keys and the queries. -/
def rDV (G : FVec Ideal S16x128x4096 .f32) (P : FVec Ideal S16x4096x4096 .f32) : FVec Ideal S4096x2048 .bf16 :=
  truncf .bf16 (shapeCast S4096x2048 (transpose S4096x16x128 [2, 0, 1] (Host.dotGeneral dot_S16x128x4096_S16x4096x4096_S16x128x4096_2_1_1_2_0_0 none G P)
    transposes_S16x128x4096_S4096x16x128_2_0_1) shapeCasts_S4096x16x128_S4096x2048) bitsLt_bf16_f32
def rDCK (D : FVec Ideal S16x4096x4096 .f32) : FVec Ideal S16x1x4096 .f32 :=
  broadcastInDim S16x1x4096 ![0, 2] bcast_S16x4096_S16x1x4096_0_2 (Host.reduceAdd (shapeCast S16x1x4096 (Host.reduceAdd (Host.negf D)
    (constant S_ .f32 0x00000000#32) reducesTo_S16x4096x4096_S16x4096_d1 h_S_) shapeCasts_S16x4096_S16x1x4096)
    (constant S_ .f32 0x00000000#32) reducesTo_S16x1x4096_S16x4096_d1 h_S_)
def rDCQ (D : FVec Ideal S16x4096x4096 .f32) : FVec Ideal S16x4096x1 .f32 :=
  broadcastInDim S16x4096x1 ![0, 1] bcast_S16x4096_S16x4096x1_0_1 (Host.reduceAdd (shapeCast S16x4096x1 (Host.reduceAdd D
    (constant S_ .f32 0x00000000#32) reducesTo_S16x4096x4096_S16x4096_d2 h_S_) shapeCasts_S16x4096_S16x4096x1)
    (constant S_ .f32 0x00000000#32) reducesTo_S16x4096x1_S16x4096_d2 h_S_)
def rSc (D : FVec Ideal S16x4096x4096 .f32) : FVec Ideal S16x4096x4096 .f32 :=
  mulf D (broadcastInDim S16x4096x4096 ![] bcast_S_S16x4096x4096 (constant S_ .f32 0x3DB504F3#32))
def rDK (D : FVec Ideal S16x4096x4096 .f32) (Q : FVec Ideal S4096x16x128 .f32) : FVec Ideal S4096x2048 .bf16 :=
  truncf .bf16 (shapeCast S4096x2048 (transpose S4096x16x128 [1, 0, 2] (Host.dotGeneral dot_S16x4096x4096_S4096x16x128_S16x4096x128_1_0_2_2_0_1 none D Q)
    transposes_S16x4096x128_S4096x16x128_1_0_2) shapeCasts_S4096x16x128_S4096x2048) bitsLt_bf16_f32
def rDQ (D : FVec Ideal S16x4096x4096 .f32) (K : FVec Ideal S4096x16x128 .f32) : FVec Ideal S4096x2048 .f32 :=
  shapeCast S4096x2048 (transpose S4096x16x128 [1, 0, 2] (Host.dotGeneral dot_S16x4096x4096_S4096x16x128_S16x4096x128_2_0_1_2_0_1 none D K)
    transposes_S16x4096x128_S4096x16x128_1_0_2) shapeCasts_S4096x16x128_S4096x2048

variable {G Q K U : FVec Ideal S4096x16x128 .f32} {Gt : FVec Ideal S16x128x4096 .f32} {C T L : FVec Ideal S16x4096 .f32} {X E P D : FVec Ideal S16x4096x4096 .f32}
  {L1 : FVec Ideal S16x4096x1 .f32} {N : IVec S4096x4096 1}
variable {q k v g : Fin 16 → Fin 4096 → Fin 128 → ℝ} {s t : Fin 16 → Fin 4096 → ℝ} {x e ds : Fin 16 → Fin 4096 → Fin 4096 → ℝ}

theorem rG_at (y : FVec Ideal S4096x2048 .bf16) (r : Fin 4096) (h : Fin 16) (d : Fin 128) :
    rG y (ix3 r h d) = y (ix2 r (lane 2048 0 (by decide) h d)) := by
  pointwise [rG]
  congr 2
  apply Fin.ext
  show _ = (0 + (h : ℕ)) * 128 + d
  simp only []
  omega

theorem rGt_at (r : Fin 4096) (h : Fin 16) (d : Fin 128) : rGt G (ix3 h d r) = G (ix3 r h d) := by
  pointwise [rGt]

theorem rDP_at (hg : ∀ h r d, Gt (ix3 h d r) = ((g h r d : ℝ) : EReal)) (hu : ∀ h r d, U (ix3 r h d) = ((v h r d : ℝ) : EReal)) (h : Fin 16) (r b : Fin 4096) :
    rDP Gt U (ix3 h r b) = ((∑ d, g h r d * v h b d : ℝ) : EReal) := by
  pointwise [rDP]
  simp only [hg, hu, ← EReal.coe_mul, coe_sum]

theorem rCol_at (hL : ∀ h r, L (ix2 h r) = ((s h r : ℝ) : EReal)) (h : Fin 16) (r : Fin 4096) : rCol L (ix3 h r 0) = ((s h r : ℝ) : EReal) := by
  pointwise [rCol]
  exact hL h r

theorem rT_at (hX : ∀ h r b, X (ix3 h r b) = ((x h r b : ℝ) : EReal)) (hE : ∀ h r b, E (ix3 h r b) = ((e h r b : ℝ) : EReal))
    (hL : ∀ h r, L1 (ix3 h r 0) = ((s h r : ℝ) : EReal)) (hs : ∀ h r, 0 < s h r) (h : Fin 16) (r : Fin 4096) :
    rT X E L1 (ix2 h r) = ((-∑ b, x h r b * (1 / (s h r * s h r)) * e h r b : ℝ) : EReal) := by
  pointwise [rT]
  simp only [hX, hE, hL, ← EReal.coe_mul, Ideal.div_coe (mul_pos (hs h r) (hs h r)).ne', one_mul, coe_sum, EReal.coe_neg, Finset.univ_unique, Finset.sum_singleton]

theorem rDS_at (hN : ∀ r b : Fin 4096, N (ix2 r b) = BitVec.ofBool (decide (b ≤ r))) (hX : ∀ h r b, X (ix3 h r b) = ((x h r b : ℝ) : EReal)) (hE : ∀ h r b, E (ix3 h r b) = ((e h r b : ℝ) : EReal))
    (hL : ∀ h r, L1 (ix3 h r 0) = ((s h r : ℝ) : EReal)) (hs : ∀ h r, 0 < s h r) (hT : ∀ h r, T (ix2 h r) = ((t h r : ℝ) : EReal)) (h : Fin 16) (r b : Fin 4096) :
    rDS N X E L1 T (ix3 h r b) = ((if b ≤ r then (x h r b * (1 / s h r) + t h r) * e h r b else 0 : ℝ) : EReal) := by
  pointwise [rDS]
  rw [hN]
  by_cases hb : b ≤ r
  · simp [hb, Scalar.select, hX, hE, hL, hT, Ideal.div_coe (hs h r).ne']
  · simp [hb, Scalar.select]

theorem rDV_at (hg : ∀ h r d, Gt (ix3 h d r) = ((g h r d : ℝ) : EReal)) (hp : ∀ h r b, P (ix3 h r b) = ((x h r b : ℝ) : EReal)) :
    rDV Gt P = heads .bf16 fun h b d => ∑ r, x h r b * g h r d := by
  funext y
  obtain ⟨b, n, rfl⟩ := Tiles.pair _ _ y
  rw [← lane_hd (by decide) n, heads_at]
  have e1 : (⟨(lane 2048 0 (by decide) (hd n) (dd n) : ℕ) / 128, by have := (lane 2048 0 (by decide) (hd n) (dd n)).isLt; omega⟩ : Fin 16) = hd n := hd_lane _ _ _
  have e2 : (⟨(lane 2048 0 (by decide) (hd n) (dd n) : ℕ) % 128, Nat.mod_lt _ (by decide)⟩ : Fin 128) = dd n := dd_lane _ _ _
  pointwise [rDV]
  simp only [e1, e2, hg, hp, ← EReal.coe_mul, coe_sum, mul_comm]

theorem rSc_at (hD : ∀ h r b, D (ix3 h r b) = ((ds h r b : ℝ) : EReal)) (h : Fin 16) (r b : Fin 4096) : rSc D (ix3 h r b) = ((ds h r b * sc : ℝ) : EReal) := by
  pointwise [rSc]
  simp only [hD, sc_coe, ← EReal.coe_mul]

theorem rDK_at (hD : ∀ h r b, D (ix3 h r b) = ((ds h r b * sc : ℝ) : EReal)) (hq : ∀ h r d, Q (ix3 r h d) = ((q h r d : ℝ) : EReal)) :
    rDK D Q = heads .bf16 fun h b d => (∑ r, ds h r b * q h r d) * sc := by
  funext y
  obtain ⟨b, n, rfl⟩ := Tiles.pair _ _ y
  rw [← lane_hd (by decide) n, heads_at]
  have e1 : (⟨(lane 2048 0 (by decide) (hd n) (dd n) : ℕ) / 128, by have := (lane 2048 0 (by decide) (hd n) (dd n)).isLt; omega⟩ : Fin 16) = hd n := hd_lane _ _ _
  have e2 : (⟨(lane 2048 0 (by decide) (hd n) (dd n) : ℕ) % 128, Nat.mod_lt _ (by decide)⟩ : Fin 128) = dd n := dd_lane _ _ _
  pointwise [rDK]
  simp only [e1, e2, hD, hq, ← EReal.coe_mul, coe_sum, Finset.sum_mul]
  exact congrArg _ (Finset.sum_congr rfl fun r _ => by ring)

theorem rDQ_at (hD : ∀ h r b, D (ix3 h r b) = ((ds h r b * sc : ℝ) : EReal)) (hk : ∀ h r d, K (ix3 r h d) = ((k h r d : ℝ) : EReal)) :
    rDQ D K = heads .f32 fun h r d => (∑ b, ds h r b * k h b d) * sc := by
  funext y
  obtain ⟨b, n, rfl⟩ := Tiles.pair _ _ y
  rw [← lane_hd (by decide) n, heads_at]
  have e1 : (⟨(lane 2048 0 (by decide) (hd n) (dd n) : ℕ) / 128, by have := (lane 2048 0 (by decide) (hd n) (dd n)).isLt; omega⟩ : Fin 16) = hd n := hd_lane _ _ _
  have e2 : (⟨(lane 2048 0 (by decide) (hd n) (dd n) : ℕ) % 128, Nat.mod_lt _ (by decide)⟩ : Fin 128) = dd n := dd_lane _ _ _
  pointwise [rDQ]
  simp only [e1, e2, hD, hk, ← EReal.coe_mul, coe_sum, Finset.sum_mul]
  exact congrArg _ (Finset.sum_congr rfl fun r _ => by ring)

theorem rDCK_at (hD : ∀ h r b, D (ix3 h r b) = ((ds h r b : ℝ) : EReal)) :
    rDCK D = (fun i => ((-∑ r, ds (i 0) r (i 2) : ℝ) : EReal) : FVec Ideal S16x1x4096 .f32) := by
  funext y
  obtain ⟨h, u, b, rfl⟩ := triple _ _ _ y
  show _ = ((-∑ r, ds h r b : ℝ) : EReal)
  pointwise [rDCK]
  simp only [hD, ← EReal.coe_neg, coe_sum, Finset.sum_neg_distrib, Finset.univ_unique, Finset.sum_singleton]

theorem rDCQ_at (hD : ∀ h r b, D (ix3 h r b) = ((ds h r b : ℝ) : EReal)) :
    rDCQ D = (fun i => ((∑ b, ds (i 0) (i 1) b : ℝ) : EReal) : FVec Ideal S16x4096x1 .f32) := by
  funext y
  obtain ⟨h, r, u, rfl⟩ := triple _ _ _ y
  show _ = ((∑ b, ds h r b : ℝ) : EReal)
  pointwise [rDCQ]
  simp only [hD, coe_sum, Finset.univ_unique, Finset.sum_singleton]

end Cert.Hand
end
-- ==== Proof.Ref.lean ====
/- The reference's five gradients on real inputs: the same real formulas the kernel's arrays hold. -/
module

public import proofs.«01_k».proof.Proof.RefStage
public import proofs.«01_k».proof.Proof.Gen.ReferenceIdeal.Run

@[expose] public section
set_option maxRecDepth 16384
noncomputable section
namespace Cert.Hand
open Cert.ReferenceIdeal Cert.ReferenceIdeal.Gen Idealize.ShloMosaic Idealize.ShloMosaic.TcCoe Idealize.SL.Sem Idealize.ShloMosaic.Pointwise

/-- The masked scores, their exponentials, the sums of these, and the gradient of the scores, as arrays of the arguments. -/
def aS (x : FVec Ideal S4096x16896 .bf16) (c : FVec Ideal S16x4096 .f32) : FVec Ideal S16x4096x4096 .f32 :=
  hS hMask (hZ (hQ x) (hK x) c) (constant S_ .f32 0xFF800000#32)
def aE (x : FVec Ideal S4096x16896 .bf16) (c : FVec Ideal S16x4096 .f32) : FVec Ideal S16x4096x4096 .f32 :=
  hExp (aS x c) (hTop (hMax (aS x c)))
def aDS (x : FVec Ideal S4096x16896 .bf16) (c : FVec Ideal S16x4096 .f32) (y : FVec Ideal S4096x2048 .bf16) : FVec Ideal S16x4096x4096 .f32 :=
  rDS hMask (rDP (rGt (rG y)) (hV x)) (aE x c) (rCol (hSum (aE x c))) (rT (rDP (rGt (rG y)) (hV x)) (aE x c) (rCol (hSum (aE x c))))

section
variable (m : (ℓ : Loc nD τ sig) → Buf (Elt Ideal) ℓ) (d : Dev nD)

theorem res94 : Value.res_main_v94 m d = rDCQ (aDS (m ((d.tc : Thread nD τ).loc main_arg0)) (m ((d.tc : Thread nD τ).loc main_arg1)) (m ((d.tc : Thread nD τ).loc main_arg2))) := by
  unfold Value.res_main_v94
  rfl
theorem res93 : Value.res_main_v93 m d = rDCK (aDS (m ((d.tc : Thread nD τ).loc main_arg0)) (m ((d.tc : Thread nD τ).loc main_arg1)) (m ((d.tc : Thread nD τ).loc main_arg2))) := by
  unfold Value.res_main_v93
  rfl
theorem res92 : Value.res_main_v92 m d = rDV (rGt (rG (m ((d.tc : Thread nD τ).loc main_arg2)))) (hSoft (aE (m ((d.tc : Thread nD τ).loc main_arg0)) (m ((d.tc : Thread nD τ).loc main_arg1))) (hSum (aE (m ((d.tc : Thread nD τ).loc main_arg0)) (m ((d.tc : Thread nD τ).loc main_arg1))))) := by
  unfold Value.res_main_v92
  rfl
theorem res90 : Value.res_main_v90 m d = rDK (rSc (aDS (m ((d.tc : Thread nD τ).loc main_arg0)) (m ((d.tc : Thread nD τ).loc main_arg1)) (m ((d.tc : Thread nD τ).loc main_arg2)))) (hQ (m ((d.tc : Thread nD τ).loc main_arg0))) := by
  unfold Value.res_main_v90
  rfl
theorem res88 : Value.res_main_v88 m d = rDQ (rSc (aDS (m ((d.tc : Thread nD τ).loc main_arg0)) (m ((d.tc : Thread nD τ).loc main_arg1)) (m ((d.tc : Thread nD τ).loc main_arg2)))) (hK (m ((d.tc : Thread nD τ).loc main_arg0))) := by
  unfold Value.res_main_v88
  rfl
end

/-- The inputs' elements as real numbers. -/
structure Real3 (x : FVec Ideal S4096x16896 .bf16) (c : FVec Ideal S16x4096 .f32) (y : FVec Ideal S4096x2048 .bf16) (I : Inp) : Prop where
  q : ∀ h r d, x (ix2 r (lane 16896 0 (by decide) h d)) = ((I.q h r d : ℝ) : EReal)
  k : ∀ h r d, x (ix2 r (lane 16896 16 (by decide) h d)) = ((I.k h r d : ℝ) : EReal)
  v : ∀ h r d, x (ix2 r (lane 16896 32 (by decide) h d)) = ((I.v h r d : ℝ) : EReal)
  g : ∀ h r d, y (ix2 r (lane 2048 0 (by decide) h d)) = ((I.g h r d : ℝ) : EReal)
  c : ∀ h r, c (ix2 h r) = ((I.c h r : ℝ) : EReal)

variable {x : FVec Ideal S4096x16896 .bf16} {c : FVec Ideal S16x4096 .f32} {y : FVec Ideal S4096x2048 .bf16} {I : Inp}

theorem aS_at (R : Real3 x c y I) (h : Fin 16) (r b : Fin 4096) : aS x c (ix3 h r b) = if b ≤ r then ((I.z h r b : ℝ) : EReal) else ⊥ := by
  unfold aS
  rw [hS_at hMask_at, hZ_at (fun h r d => (hQ_at x r h d).trans (R.q h r d)) (fun h r d => (hK_at x r h d).trans (R.k h r d)) R.c]
  rfl

theorem top_real (R : Real3 x c y I) : ∃ mm : Fin 16 → Fin 4096 → ℝ, ∀ h r, hTop (hMax (aS x c)) (ix2 h r) = ((mm h r : ℝ) : EReal) := by
  obtain ⟨mm, hm⟩ := max_real (aS_at R)
  exact ⟨mm, fun h r => (hTop_at h r).trans (hm h r)⟩

/-- The gradient of a weight is the output gradients' product with the values. -/
def Inp.dp (I : Inp) (h : Fin 16) (r b : Fin 4096) : ℝ := ∑ d, I.g h r d * I.v h b d

/-- The product of the output gradients with the outputs is the weights' product with their gradients. -/
theorem delta (I : Inp) (h : Fin 16) (r : Fin 4096) : (∑ d, I.g h r d * I.data.o h r d) = ∑ b, I.p h r b * I.dp h r b := by
  show (∑ d, I.g h r d * ∑ b, I.p h r b * I.v h b d) = ∑ b, I.p h r b * ∑ d, I.g h r d * I.v h b d
  simp only [Finset.mul_sum]
  rw [Finset.sum_comm]
  exact Finset.sum_congr rfl fun b _ => Finset.sum_congr rfl fun d _ => by ring

/-- The softmax's gradient, as the reference differentiates its quotient. -/
theorem ds_quot (I : Inp) (M : ℝ) (h : Fin 16) (r b : Fin 4096) :
    (if b ≤ r then (I.dp h r b * (1 / (I.w h r * Real.exp (-M)))
        + -∑ b', I.dp h r b' * (1 / (I.w h r * Real.exp (-M) * (I.w h r * Real.exp (-M)))) * (if b' ≤ r then Real.exp (I.z h r b' - M) else 0))
      * (if b ≤ r then Real.exp (I.z h r b - M) else 0) else 0) = I.data.ds h r b := by
  unfold Data.ds
  rw [show (∑ d, I.data.g h r d * I.data.o h r d) = _ from delta I h r, I.data_p]
  have hp : ∀ b', I.p h r b' = (if b' ≤ r then Real.exp (I.z h r b' - M) else 0) * (1 / (I.w h r * Real.exp (-M))) := fun b' => (I.p_shift h M r b').symm
  have hs : (∑ b', I.dp h r b' * (1 / (I.w h r * Real.exp (-M) * (I.w h r * Real.exp (-M)))) * (if b' ≤ r then Real.exp (I.z h r b' - M) else 0))
      = (∑ b', I.p h r b' * I.dp h r b') * (1 / (I.w h r * Real.exp (-M))) := by
    rw [Finset.sum_mul]
    refine Finset.sum_congr rfl fun b' _ => ?_
    rw [hp b', one_div, one_div, mul_inv]
    ring
  rw [hs, hp b]
  show _ = _ * (I.dp h r b - _)
  split_ifs
  · ring
  · ring

theorem aDS_at (R : Real3 x c y I) (h : Fin 16) (r b : Fin 4096) : aDS x c y (ix3 h r b) = ((I.data.ds h r b : ℝ) : EReal) := by
  obtain ⟨mm, hm⟩ := top_real R
  have hX := rDP_at (Gt := rGt (rG y)) (U := hV x) (fun h r d => (rGt_at r h d).trans ((rG_at y r h d).trans (R.g h r d))) (fun h r d => (hV_at x r h d).trans (R.v h r d))
  have hE := exp_at (aS_at R) hm
  have hL := rCol_at (sum_at (aS_at R) hm)
  have hs : ∀ h r, 0 < I.w h r * Real.exp (-mm h r) := fun h r => mul_pos (I.w_pos h r) (Real.exp_pos _)
  unfold aDS aE
  rw [rDS_at hMask_at hX hE hL hs (rT_at hX hE hL hs)]
  exact congrArg _ (ds_quot I (mm h r) h r b)

theorem aP_at (R : Real3 x c y I) (h : Fin 16) (r b : Fin 4096) : hSoft (aE x c) (hSum (aE x c)) (ix3 h r b) = ((I.p h r b : ℝ) : EReal) := by
  obtain ⟨mm, hm⟩ := top_real R
  exact soft_at (aS_at R) hm h r b

theorem ref_dcq (R : Real3 x c y I) : rDCQ (aDS x c y) = (fun i => ((I.data.gcq (i 0) (i 1) : ℝ) : EReal) : FVec Ideal S16x4096x1 .f32) := rDCQ_at (aDS_at R)
theorem ref_dck (R : Real3 x c y I) : rDCK (aDS x c y) = (fun i => ((I.data.gck (i 0) (i 2) : ℝ) : EReal) : FVec Ideal S16x1x4096 .f32) := rDCK_at (aDS_at R)
theorem ref_dv (R : Real3 x c y I) : rDV (rGt (rG y)) (hSoft (aE x c) (hSum (aE x c))) = heads .bf16 I.data.gv :=
  rDV_at (fun h r d => (rGt_at r h d).trans ((rG_at y r h d).trans (R.g h r d))) (aP_at R)
theorem ref_dk (R : Real3 x c y I) : rDK (rSc (aDS x c y)) (hQ x) = heads .bf16 I.data.gk :=
  rDK_at (rSc_at (aDS_at R)) (fun h r d => (hQ_at x r h d).trans (R.q h r d))
theorem ref_dq (R : Real3 x c y I) : rDQ (rSc (aDS x c y)) (hK x) = heads .f32 I.data.gq :=
  rDQ_at (rSc_at (aDS_at R)) (fun h r d => (hK_at x r h d).trans (R.k h r d))

end Cert.Hand
end
-- ==== Proof.Host.lean ====
/- What the kernel's arrays hold when its grid starts: the arguments, and the outputs and log-sums the host saved. -/
module

public import proofs.«01_k».proof.Proof.Ref
public import Idealize.ShloMosaic.Lib.Claim

@[expose] public section
set_option maxRecDepth 16384
noncomputable section
namespace Cert.Hand
open Cert.KernelIdeal Cert.KernelIdeal.Gen Idealize.ShloMosaic Idealize.ShloMosaic.TcCoe Idealize.SL.Sem Idealize.ShloMosaic.Pointwise

section
variable (σ : Valuation τ sig (Elt Ideal))

theorem lse_eq : StableHlo.after hostOps0_2 σ (Proc.devRef .tc main_v34)
    = hLse (hMax (σ (Proc.devRef .tc main_v25))) (hSum (hExp (σ (Proc.devRef .tc main_v25)) (hMax (σ (Proc.devRef .tc main_v25))))) := by
  after_results_simp
  rfl

theorem out_eq : StableHlo.after hostOps0_2 σ (Proc.devRef .tc main_v49) = hO (σ (Proc.devRef .tc main_v8))
    (hSoft (hExp (σ (Proc.devRef .tc main_v25)) (hTop (hMax (σ (Proc.devRef .tc main_v25))))) (hSum (hExp (σ (Proc.devRef .tc main_v25)) (hTop (hMax (σ (Proc.devRef .tc main_v25))))))) := by
  after_results_simp
  rfl

theorem cq_eq : StableHlo.after hostOps0_2 σ (Proc.devRef .tc main_v50)
    = broadcastInDim S16x4096x1 ![0, 1] bcast_S16x4096_S16x4096x1_0_1 (σ (Proc.devRef .tc main_arg1) : FVec Ideal S16x4096 .f32) := by
  after_results_simp

theorem ck_eq : StableHlo.after hostOps0_2 σ (Proc.devRef .tc main_v51)
    = broadcastInDim S16x1x4096 ![0, 2] bcast_S16x4096_S16x1x4096_0_2 (σ (Proc.devRef .tc main_arg1) : FVec Ideal S16x4096 .f32) := by
  after_results_simp

theorem where_eq : StableHlo.after hostOps0_1 σ (Proc.devRef .tc main_v25)
    = hS (σ (Proc.devRef .tc main_v24)) (σ (Proc.devRef .tc main_v17)) (σ (Proc.devRef .tc main_cst_0)) := by
  after_results_simp
  rfl

theorem where_v8 : StableHlo.after hostOps0_1 σ (Proc.devRef .tc main_v8) = σ (Proc.devRef .tc main_v8) := by
  after_results_simp
theorem where_arg1 : StableHlo.after hostOps0_1 σ (Proc.devRef .tc main_arg1) = σ (Proc.devRef .tc main_arg1) := by
  after_results_simp

theorem z_eq : StableHlo.after hostOps0 σ (Proc.devRef .tc main_v17)
    = hZ (hQ (σ (Proc.devRef .tc main_arg0))) (hK (σ (Proc.devRef .tc main_arg0))) (σ (Proc.devRef .tc main_arg1)) := by
  after_results_simp
  rfl
theorem mask_eq : StableHlo.after hostOps0 σ (Proc.devRef .tc main_v24) = hMask := by
  after_results_simp
  rfl
theorem inf_eq : StableHlo.after hostOps0 σ (Proc.devRef .tc main_cst_0) = (constant S_ .f32 0xFF800000#32 : FVec Ideal S_ .f32) := by
  after_results_simp
theorem v8_eq : StableHlo.after hostOps0 σ (Proc.devRef .tc main_v8) = hV (σ (Proc.devRef .tc main_arg0)) := by
  after_results_simp
  rfl
theorem arg1_eq : StableHlo.after hostOps0 σ (Proc.devRef .tc main_arg1) = σ (Proc.devRef .tc main_arg1) := by
  after_results_simp
end

theorem col_at (C : FVec Ideal S16x4096 .f32) (h : Fin 16) (r : Fin 4096) :
    broadcastInDim S16x4096x1 ![0, 1] bcast_S16x4096_S16x4096x1_0_1 C (ix3 h r 0) = C (ix2 h r) := by
  pointwise
theorem lane_at (C : FVec Ideal S16x4096 .f32) (h : Fin 16) (r : Fin 4096) :
    broadcastInDim S16x1x4096 ![0, 2] bcast_S16x4096_S16x1x4096_0_2 C (ix3 h 0 r) = C (ix2 h r) := by
  pointwise

variable (m : (ℓ : Loc nD τ sig) → Buf (Elt Ideal) ℓ) (c : Dev nD)

/-- The contents before the last stretch of host operations. -/
def mid : Valuation τ sig (Elt Ideal) := StableHlo.after hostOps0_1 (StableHlo.after hostOps0 fun b => m (c, b))

theorem V_mid (b : Ref sig .tc) : V m c b = StableHlo.after hostOps0_2 (mid m c) (Proc.devRef .tc b) := by
  unfold mid
  show StableHlo.after [hostOps0, hostOps0_1, hostOps0_2].flatten _ _ = _
  simp only [List.flatten_cons, List.flatten_nil, List.append_nil, StableHlo.after_append]

theorem mid_v25 : mid m c (Proc.devRef .tc main_v25) = aS (m ((c.tc : Thread nD τ).loc main_arg0)) (m ((c.tc : Thread nD τ).loc main_arg1)) := by
  unfold mid aS
  rw [where_eq, mask_eq, z_eq, inf_eq]
theorem mid_v8 : mid m c (Proc.devRef .tc main_v8) = hV (m ((c.tc : Thread nD τ).loc main_arg0)) := by
  unfold mid
  rw [where_v8, v8_eq]
theorem mid_arg1 : mid m c (Proc.devRef .tc main_arg1) = m ((c.tc : Thread nD τ).loc main_arg1) := by
  unfold mid
  rw [where_arg1, arg1_eq]

variable {m c} {I : Inp}

/-- The arrays on real inputs. -/
theorem entry (R : Real3 (m ((c.tc : Thread nD τ).loc main_arg0)) (m ((c.tc : Thread nD τ).loc main_arg1)) (m ((c.tc : Thread nD τ).loc main_arg2)) I) : Entry m c I.data where
  q h r d := by rw [V_main_arg0]; exact R.q h r d
  k h r d := by rw [V_main_arg0]; exact R.k h r d
  v h r d := by rw [V_main_arg0]; exact R.v h r d
  g h r d := by rw [V_main_arg2]; exact R.g h r d
  o h r d := by
    obtain ⟨mm, hm⟩ := top_real R
    rw [V_mid, out_eq, mid_v8, mid_v25]
    exact hO_at (fun h r d => (hV_at _ r h d).trans (R.v h r d)) (soft_at (aS_at R) hm) r h d
  l h r := by
    rw [V_mid, lse_eq, mid_v25]
    exact lse_at (aS_at R) h r
  cq h r := by
    rw [V_mid, cq_eq, mid_arg1]
    exact (col_at _ h r).trans <| R.c h r
  ck h r := by
    rw [V_mid, ck_eq, mid_arg1]
    exact (lane_at _ h r).trans <| R.c h r

end Cert.Hand
end
-- ==== Proof.Finite.lean ====
/- Numbers below infinity are reals. -/
module

public import proofs.«01_k».proof.Proof.Real

@[expose] public section
noncomputable section
namespace Cert.Hand
open Idealize.ShloMosaic

theorem inf_word : Ideal.ofBits .f32 0x7F800000#32 = ⊤ := by
  simp [Ideal.ofBits, Ideal.ieee]

/-- A number whose absolute value is below infinity is a real. -/
theorem real_of_lt (x : EReal) (hx : Ideal.cmp .olt (max x (-x)) (Ideal.ofBits .f32 0x7F800000#32) = 1#1) : x = ((x.toReal : ℝ) : EReal) := by
  rw [inf_word] at hx
  have h : max x (-x) < ⊤ := by
    by_contra hn
    simp [Ideal.cmp, hn] at hx
  refine (EReal.coe_toReal ?_ ?_).symm
  · rintro rfl
    simp at h
  · rintro rfl
    simp at h

end Cert.Hand
end
-- ==== Proof.Pre.lean ====
/- Finite inputs are real numbers. -/
module

public import proofs.«01_k».proof.Pre_finite
public import proofs.«01_k».proof.Proof.Ref
public import proofs.«01_k».proof.Proof.Finite

@[expose] public section
set_option maxRecDepth 16384
noncomputable section
namespace Cert.Hand
open Cert.Pre_finite Idealize.ShloMosaic Idealize.ShloMosaic.Pointwise

/-- The side conditions of the precondition's operations. -/
theorem preFacts : Cert.Pre_finite.Facts where
  slices_S4096x16896_S4096x6144_0_0 := by decide
  bitsLt_bf16_f32 := by decide
  bcast_S_S4096x6144 := by decide
  bcast_S_S16x4096 := by decide
  bcast_S_S4096x2048 := by decide

variable {x : FVec Ideal S4096x16896 .bf16} {c : FVec Ideal S16x4096 .f32} {y : FVec Ideal S4096x2048 .bf16}

/-- The inputs as real numbers. -/
def inp (x : FVec Ideal S4096x16896 .bf16) (c : FVec Ideal S16x4096 .f32) (y : FVec Ideal S4096x2048 .bf16) : Inp where
  q h r d := (x (ix2 r (lane 16896 0 (by decide) h d))).toReal
  k h r d := (x (ix2 r (lane 16896 16 (by decide) h d))).toReal
  v h r d := (x (ix2 r (lane 16896 32 (by decide) h d))).toReal
  g h r d := (y (ix2 r (lane 2048 0 (by decide) h d))).toReal
  c h r := (c (ix2 h r)).toReal

theorem fin0 [Cert.Pre_finite.Facts] (h : (fn x c y).1 = fun _ => 1#1) (r : Fin 4096) (n : Fin 6144) :
    x (ix2 r ⟨n, by have := n.isLt; omega⟩) = (((x (ix2 r ⟨n, by have := n.isLt; omega⟩)).toReal : ℝ) : EReal) := by
  refine real_of_lt _ ?_
  have := congrFun h (ix2 r n)
  pointwise [fn] at this
  exact this
theorem fin1 [Cert.Pre_finite.Facts] (h : (fn x c y).2.1 = fun _ => 1#1) (i : Fin 16) (r : Fin 4096) :
    c (ix2 i r) = (((c (ix2 i r)).toReal : ℝ) : EReal) := by
  refine real_of_lt _ ?_
  have := congrFun h (ix2 i r)
  exact this
theorem fin2 [Cert.Pre_finite.Facts] (h : (fn x c y).2.2 = fun _ => 1#1) (r : Fin 4096) (n : Fin 2048) :
    y (ix2 r n) = (((y (ix2 r n)).toReal : ℝ) : EReal) := by
  refine real_of_lt _ ?_
  have := congrFun h (ix2 r n)
  exact this

theorem real3 [Cert.Pre_finite.Facts] (h0 : (fn x c y).1 = fun _ => 1#1) (h1 : (fn x c y).2.1 = fun _ => 1#1) (h2 : (fn x c y).2.2 = fun _ => 1#1) : Real3 x c y (inp x c y) where
  q h r d := fin0 h0 r ⟨(0 + h) * 128 + d, by have := h.isLt; have := d.isLt; omega⟩
  k h r d := fin0 h0 r ⟨(16 + h) * 128 + d, by have := h.isLt; have := d.isLt; omega⟩
  v h r d := fin0 h0 r ⟨(32 + h) * 128 + d, by have := h.isLt; have := d.isLt; omega⟩
  g h r d := fin2 h2 r _
  c h r := fin1 h1 h r

end Cert.Hand
end
-- ==== Proof.Up.lean ====
/- The gate and up projections with the gated activation: tile and whole array are the same sums. -/
module

public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Sums
public import proofs.«01_k».proof.Defs
public import proofs.«01_k».proof.Proof.Gen.KernelUp.Frame

@[expose] public section
set_option maxRecDepth 16384
noncomputable section
namespace Cert.Hand.Up
open Idealize.ShloMosaic Idealize.ShloMosaic.TcCoe Idealize.SL.Sem Idealize.ShloMosaic.Pointwise Cert.Hand.Tiles

section kernel
open Cert.KernelUpIdeal Cert.KernelUpIdeal.Gen

/-- The product of `a` with `b`'s transpose. -/
def prod (a : FVec Ideal S4096x4096 .bf16) (b : FVec Ideal S11264x4096 .bf16) : FVec Ideal S4096x11264 .bf16 :=
  fun i => ∑ x : Fin 4096, a (ix2 (i 0) x) * b (ix2 (i 1) x)

/-- The gated product. -/
def hid (a : FVec Ideal S4096x4096 .bf16) (b d : FVec Ideal S11264x4096 .bf16) : FVec Ideal S4096x11264 .bf16 :=
  fun i => prod a b i * sg (prod a b i) * prod a d i

theorem pay1_at (a : FVec Ideal S1024x4096 .bf16) (b : FVec Ideal S512x4096 .bf16) (r : Fin 1024) (s : Fin 512) :
    k0_pay1 (F := Ideal) a b (ix2 r s) = ∑ x : Fin 4096, a (ix2 r x) * b (ix2 s x) := by
  pointwise [k0_pay1]

theorem pay2_at (a : FVec Ideal S1024x4096 .bf16) (b : FVec Ideal S512x4096 .bf16) (r : Fin 1024) (s : Fin 512) :
    k0_pay2 (F := Ideal) a b (ix2 r s) = ∑ x : Fin 4096, a (ix2 r x) * b (ix2 s x) := by
  pointwise [k0_pay2]

theorem pay3_at (a : FVec Ideal S1024x4096 .bf16) (b : FVec Ideal S512x4096 .bf16) (r : Fin 1024) (s : Fin 512) :
    k0_pay3 (F := Ideal) a b (ix2 r s) = ∑ x : Fin 4096, a (ix2 r x) * b (ix2 s x) := by
  pointwise [k0_pay3]
  exact pay1_at a b r s

theorem pay4_at (a : FVec Ideal S1024x4096 .bf16) (b : FVec Ideal S512x4096 .bf16) (r : Fin 1024) (s : Fin 512) :
    k0_pay4 (F := Ideal) a b (ix2 r s) = ∑ x : Fin 4096, a (ix2 r x) * b (ix2 s x) := by
  pointwise [k0_pay4]
  exact pay2_at a b r s

theorem pay5_at (a : FVec Ideal S1024x4096 .bf16) (b d : FVec Ideal S512x4096 .bf16) (r : Fin 1024) (s : Fin 512) :
    k0_pay5 (F := Ideal) a b d (ix2 r s)
      = (∑ x : Fin 4096, a (ix2 r x) * b (ix2 s x)) * sg (∑ x : Fin 4096, a (ix2 r x) * b (ix2 s x))
        * ∑ x : Fin 4096, a (ix2 r x) * d (ix2 s x) := by
  pointwise [k0_pay5, sg]
  rw [pay1_at, pay2_at, zero_sub]

theorem idx : ∀ t : Fin cfg0.N,
    (win0_0.index t 0 = t.val / 22 ∧ win0_0.index t 1 = 0) ∧ (win0_1.index t 0 = t.val % 22 ∧ win0_1.index t 1 = 0)
    ∧ (win0_2.index t 0 = t.val % 22 ∧ win0_2.index t 1 = 0) ∧ (win0_3.index t 0 = t.val / 22 ∧ win0_3.index t 1 = t.val % 22)
    ∧ (win0_4.index t 0 = t.val / 22 ∧ win0_4.index t 1 = t.val % 22)
    ∧ (win0_5.index t 0 = t.val / 22 ∧ win0_5.index t 1 = t.val % 22) := by decide +kernel

/-- The tile's row and column of a grid point. -/
def iP (t : Fin cfg0.N) : Fin 4 := ⟨t.val / 22, by have := lt_of_lt_of_eq t.isLt N_0; omega⟩
def jP (t : Fin cfg0.N) : Fin 22 := ⟨t.val % 22, by omega⟩

theorem emb0 (t : Fin cfg0.N) (r : Fin 1024) (x : Fin 4096) :
    (((cfg0.win 0).blk t).view.emb (ix2 r x) : S4096x4096.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (s : Fin 512) (x : Fin 4096) :
    (((cfg0.win 1).blk t).view.emb (ix2 s x) : S11264x4096.Idx) = ix2 (at_ rfl (jP t) s) x := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (s : Fin 512) (x : Fin 4096) :
    (((cfg0.win 2).blk t).view.emb (ix2 s x) : S11264x4096.Idx) = ix2 (at_ rfl (jP t) s) x := by
  have e := (idx t).2.2.1
  unfold at_ jP
  refine funext fun a => Fin.ext ?_
  match a with
  | ⟨0, _⟩ => blk_simp [e]; try simp; try omega
  | ⟨1, _⟩ => blk_simp [e]; try simp; try omega

theorem emb3 (t : Fin cfg0.N) (r : Fin 1024) (s : Fin 512) :
    ((win0_3.blk t).view.emb (ix2 r s) : S4096x11264.Idx) = ix2 (at_ rfl (iP t) r) (at_ rfl (jP t) s) := by
  have e := (idx t).2.2.2.1
  unfold at_ iP jP
  refine funext fun a => Fin.ext ?_
  match a with
  | ⟨0, _⟩ => blk_simp [e]; try simp; try omega
  | ⟨1, _⟩ => blk_simp [e]; try simp; try omega

theorem emb4 (t : Fin cfg0.N) (r : Fin 1024) (s : Fin 512) :
    ((win0_4.blk t).view.emb (ix2 r s) : S4096x11264.Idx) = ix2 (at_ rfl (iP t) r) (at_ rfl (jP t) s) := by
  have e := (idx t).2.2.2.2.1
  unfold at_ iP jP
  refine funext fun a => Fin.ext ?_
  match a with
  | ⟨0, _⟩ => blk_simp [e]; try simp; try omega
  | ⟨1, _⟩ => blk_simp [e]; try simp; try omega

theorem emb5 (t : Fin cfg0.N) (r : Fin 1024) (s : Fin 512) :
    ((win0_5.blk t).view.emb (ix2 r s) : S4096x11264.Idx) = ix2 (at_ rfl (iP t) r) (at_ rfl (jP t) s) := by
  have e := (idx t).2.2.2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 4096) :
    (iblk m c 0 t : FVec Ideal S1024x4096 .bf16) (ix2 r x)
      = (m ((c.tc : Thread nD τ).loc main_arg0) : FVec Ideal S4096x4096 .bf16) (ix2 (at_ rfl (iP t) r) x) :=
  (congrArg (V m c main_arg0) (emb0 t r x)).trans (congrFun (V_main_arg0 m c) _)

theorem blk1_at (c : Dev nD) (t : Fin cfg0.N) (s : Fin 512) (x : Fin 4096) :
    (iblk m c 1 t : FVec Ideal S512x4096 .bf16) (ix2 s x)
      = (m ((c.tc : Thread nD τ).loc main_arg1) : FVec Ideal S11264x4096 .bf16) (ix2 (at_ rfl (jP t) s) x) :=
  (congrArg (V m c main_arg1) (emb1 t s x)).trans (congrFun (V_main_arg1 m c) _)

theorem blk2_at (c : Dev nD) (t : Fin cfg0.N) (s : Fin 512) (x : Fin 4096) :
    (iblk m c 2 t : FVec Ideal S512x4096 .bf16) (ix2 s x)
      = (m ((c.tc : Thread nD τ).loc main_arg2) : FVec Ideal S11264x4096 .bf16) (ix2 (at_ rfl (jP t) s) x) :=
  (congrArg (V m c main_arg2) (emb2 t s x)).trans (congrFun (V_main_arg2 m c) _)

/-- The tiles stored. -/
theorem out3_eq (a : FVec Ideal S1024x4096 .bf16) (b d : FVec Ideal S512x4096 .bf16) :
    out0_3 (F := Ideal) a b d = k0_pay3 (F := Ideal) a b := by
  unfold out0_3
  rw [View.canon_unit_zero zero2, View.ld_unit_zero zero2, View.ld_unit_zero zero2]
theorem out4_eq (a : FVec Ideal S1024x4096 .bf16) (b d : FVec Ideal S512x4096 .bf16) :
    out0_4 (F := Ideal) a b d = k0_pay4 (F := Ideal) a d := by
  unfold out0_4
  rw [View.canon_unit_zero zero2, View.ld_unit_zero zero2, View.ld_unit_zero zero2]
theorem out5_eq (a : FVec Ideal S1024x4096 .bf16) (b d : FVec Ideal S512x4096 .bf16) :
    out0_5 (F := Ideal) a b d = k0_pay5 (F := Ideal) a b d := by
  unfold out0_5
  rw [View.canon_unit_zero zero2, View.ld_unit_zero zero2, View.ld_unit_zero zero2, View.ld_unit_zero zero2]

theorem arr3 (c : Dev nD) : (dats m 0 c).arrAt 3 cfg0.N
    = prod (m ((c.tc : Thread nD τ).loc main_arg0)) (m ((c.tc : Thread nD τ).loc main_arg1)) := by
  refine (dats m 0 c).arrAt_eq_of_covers 3 _ (by decide +kernel) fun t hf y => ?_
  blk_simp
  rw [after0_3]
  obtain ⟨r, s, rfl⟩ := pair 1024 512 y
  rw [emb3, out3_eq, pay3_at]
  simp only [blk0_at, blk1_at, blk2_at]
  rfl

theorem arr4 (c : Dev nD) : (dats m 0 c).arrAt 4 cfg0.N
    = prod (m ((c.tc : Thread nD τ).loc main_arg0)) (m ((c.tc : Thread nD τ).loc main_arg2)) := by
  refine (dats m 0 c).arrAt_eq_of_covers 4 _ (by decide +kernel) fun t hf y => ?_
  blk_simp
  rw [after0_4]
  obtain ⟨r, s, rfl⟩ := pair 1024 512 y
  rw [emb4, out4_eq, pay4_at]
  simp only [blk0_at, blk1_at, blk2_at]
  rfl

theorem arr5 (c : Dev nD) : (dats m 0 c).arrAt 5 cfg0.N
    = hid (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  obtain ⟨r, s, rfl⟩ := pair 1024 512 y
  rw [emb5, out5_eq, pay5_at]
  simp only [blk0_at, blk1_at, blk2_at]
  rfl

end kernel

section reference
open Cert.ReferenceUpIdeal Cert.ReferenceUpIdeal.Gen Cert.ReferenceUpIdeal.Value

/-- The reference's products, at an index. -/
theorem dot_at (a : FVec Ideal S4096x4096 .bf16) (b : FVec Ideal S11264x4096 .bf16) :
    truncf .bf16 (Host.dotGeneral dot_S4096x4096_S11264x4096_S4096x11264_1_1_0_0_n_n none (extf .f32 a bitsLt_bf16_f32)
      (extf .f32 b bitsLt_bf16_f32)) bitsLt_bf16_f32 = prod a b := by
  funext i
  obtain ⟨r, s, rfl⟩ := pair 4096 11264 i
  pointwise []
  rfl

theorem gate_at (g u : FVec Ideal S4096x11264 .f32) :
    truncf .bf16 (mulf (mulf g (Host.divf (broadcastInDim S4096x11264 ![] bcast_S_S4096x11264 (constant S_ .f32 0x3F800000#32))
      (addf (broadcastInDim S4096x11264 ![] bcast_S_S4096x11264 (constant S_ .f32 0x3F800000#32)) (Host.exp (Host.negf g))))) u)
      bitsLt_bf16_f32 = (fun i => g i * sg (g i) * u i : FVec Ideal S4096x11264 .bf16) := by
  funext i
  obtain ⟨r, s, rfl⟩ := pair 4096 11264 i
  pointwise [sg]

end reference

theorem frame_p : Cert.quiescent_KernelUp := fun m ρ _ => Cert.KernelUp.Gen.frame m ρ
theorem frame_pi : Cert.quiescent_KernelUpIdeal := fun m ρ _ => Cert.KernelUpIdeal.Gen.frame m ρ

/-- The reference runs, keeps its arguments and declares no semaphore. -/
theorem frame_ri : Cert.quiescent_ReferenceUpIdeal := fun m ρ _ =>
  (θ_run Cert.ReferenceUpIdeal.defs _ _).mono (fun r h => ⟨fun c => (h c).2.2.2, sem_eq_zero_of_no_sems (by decide) r.2⟩)
    (Cert.ReferenceUpIdeal.Value.run (F := Ideal) m ρ)

theorem preserves : Cert.preserves_KernelUp_KernelUpIdeal := trivial

set_option maxHeartbeats 1000000 in
theorem algebraic : Cert.algebraic_KernelUpIdeal_ReferenceUpIdeal := by
  intro m ρ m' ρ' _ hagree
  refine ⟨_, _, _, (θ_run Cert.KernelUpIdeal.defs _ _).mono (fun r h c => ⟨(h c).1.trans (arr3 m c), (h c).2.1.trans (arr4 m c),
    (h c).2.2.1.trans (arr5 m c), (h c).2.2.2⟩) (Cert.KernelUpIdeal.Value.run_blocks (F := Ideal) m ρ), ?_⟩
  refine (θ_run Cert.ReferenceUpIdeal.defs _ _).mono (fun r h c => ?_) (Cert.ReferenceUpIdeal.Value.run (F := Ideal) m' ρ')
  rw [← (hagree c).1, ← (hagree c).2.1, ← (hagree c).2.2]
  refine ⟨(h c).1.trans (dot_at _ _), (h c).2.1.trans (dot_at _ _), (h c).2.2.1.trans ((gate_at _ _).trans (funext fun i => ?_)), (h c).2.2.2⟩
  exact congrArg₂ (fun g u : EReal => g * sg g * u) (congrFun (dot_at _ _) i) (congrFun (dot_at _ _) i)

end Cert.Hand.Up
end
-- ==== Proof.Down.lean ====
/- The down projection: blocks of the contracted dimension, summed run by run, and the addend. -/
module

public import proofs.«01_k».proof.Proof.Gen.KernelDownIdeal.Frame
public import proofs.«01_k».proof.Proof.Gen.KernelDownIdeal.Value
public import proofs.«01_k».proof.Proof.Gen.ReferenceDownIdeal.Run
public import proofs.«01_k».proof.Proof.Sums
public import proofs.«01_k».proof.Defs
public import proofs.«01_k».proof.Proof.Gen.KernelDown.Frame

@[expose] public section
set_option maxRecDepth 16384
noncomputable section
namespace Cert.Hand.Down
open Idealize.ShloMosaic Idealize.ShloMosaic.TcCoe Idealize.SL.Sem Idealize.ShloMosaic.Pointwise Cert.Hand.Tiles

section kernel
open Cert.KernelDownIdeal Cert.KernelDownIdeal.Gen

/-- The product of `a` with `b`, plus `d`. -/
def spec (a : FVec Ideal S4096x11264 .bf16) (b : FVec Ideal S11264x4096 .bf16) (d : FVec Ideal S4096x4096 .f32) :
    FVec Ideal S4096x4096 .f32 := fun i => dotAt (p := 4096) (q := 4096) (n := 11264) a b (i 0) (i 1) + d i

/-- A run's part of the product at one entry: the sum over one block of the contracted dimension. -/
def term (a : FVec Ideal S4096x11264 .bf16) (b : FVec Ideal S11264x4096 .bf16) (i j : Fin 4096) (k : Fin 4) : EReal :=
  ∑ y : Fin 2816, entry (p := 4096) (q := 4096) (n := 11264) a b i j (at_ rfl k y)

theorem pay1_at (r s : Fin 1024) : k0_pay1 (F := Ideal) (ix2 r s) = 0 := by
  pointwise [k0_pay1]

theorem pay2_at (v : FVec Ideal S1024x1024 .f32) (a : FVec Ideal S1024x2816 .bf16) (b : FVec Ideal S2816x1024 .bf16) (r s : Fin 1024) :
    k0_pay2 (F := Ideal) v a b (ix2 r s) = v (ix2 r s) + dotAt (p := 1024) (q := 1024) (n := 2816) a b r s := by
  pointwise [k0_pay2]
  rfl

theorem pay3_at (v w : FVec Ideal S1024x1024 .f32) (r s : Fin 1024) :
    k0_pay3 (F := Ideal) v w (ix2 r s) = v (ix2 r s) + w (ix2 r s) := by
  pointwise [k0_pay3]

theorem idx : ∀ t : Fin cfg0.N,
    (win0_0.index t 0 = t.val / 4 / 4 % 4 ∧ win0_0.index t 1 = t.val % 4) ∧ (win0_1.index t 0 = t.val % 4 ∧ win0_1.index t 1 = t.val / 4 % 4)
    ∧ (win0_2.index t 0 = t.val / 4 / 4 % 4 ∧ win0_2.index t 1 = t.val / 4 % 4) ∧ (win0_3.index t 0 = t.val / 4 / 4 % 4 ∧ win0_3.index t 1 = t.val / 4 % 4) := by decide +kernel

/-- The tile's row and column of a run of 4 grid points, and a point's place in its run. -/
def iP (q : ℕ) : Fin 4 := ⟨q / 4 % 4, by omega⟩
def jP (q : ℕ) : Fin 4 := ⟨q % 4, by omega⟩
def kP (t : Fin cfg0.N) : Fin 4 := ⟨t.val % 4, by omega⟩

theorem emb0 (t : Fin cfg0.N) (r : Fin 1024) (y : Fin 2816) :
    (((cfg0.win 0).blk t).view.emb (ix2 r y) : S4096x11264.Idx) = ix2 (at_ rfl (iP (t.val / 4)) r) (at_ rfl (kP t) y) := by
  have e := (idx t).1
  unfold at_ iP kP
  refine funext fun a => Fin.ext ?_
  match a with
  | ⟨0, _⟩ => blk_simp [e]; try simp; try omega
  | ⟨1, _⟩ => blk_simp [e]; try simp; try omega

theorem emb1 (t : Fin cfg0.N) (y : Fin 2816) (s : Fin 1024) :
    (((cfg0.win 1).blk t).view.emb (ix2 y s) : S11264x4096.Idx) = ix2 (at_ rfl (kP t) y) (at_ rfl (jP (t.val / 4)) s) := by
  have e := (idx t).2.1
  unfold at_ jP kP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 1024) :
    (((cfg0.win 2).blk t).view.emb (ix2 r s) : S4096x4096.Idx) = ix2 (at_ rfl (iP (t.val / 4)) r) (at_ rfl (jP (t.val / 4)) s) := by
  have e := (idx t).2.2.1
  unfold at_ iP jP
  refine funext fun a => Fin.ext ?_
  match a with
  | ⟨0, _⟩ => blk_simp [e]; try simp; try omega
  | ⟨1, _⟩ => blk_simp [e]; try simp; try omega

theorem emb3 (t : Fin cfg0.N) (r : Fin 1024) (s : Fin 1024) :
    ((win0_3.blk t).view.emb (ix2 r s) : S4096x4096.Idx) = ix2 (at_ rfl (iP (t.val / 4)) r) (at_ rfl (jP (t.val / 4)) s) := by
  have e := (idx t).2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (y : Fin 2816) :
    (iblk m c 0 t : FVec Ideal S1024x2816 .bf16) (ix2 r y)
      = (m ((c.tc : Thread nD τ).loc main_arg0) : FVec Ideal S4096x11264 .bf16) (ix2 (at_ rfl (iP (t.val / 4)) r) (at_ rfl (kP t) y)) :=
  (congrArg (V m c main_arg0) (emb0 t r y)).trans (congrFun (V_main_arg0 m c) _)

theorem blk1_at (c : Dev nD) (t : Fin cfg0.N) (y : Fin 2816) (s : Fin 1024) :
    (iblk m c 1 t : FVec Ideal S2816x1024 .bf16) (ix2 y s)
      = (m ((c.tc : Thread nD τ).loc main_arg1) : FVec Ideal S11264x4096 .bf16) (ix2 (at_ rfl (kP t) y) (at_ rfl (jP (t.val / 4)) s)) :=
  (congrArg (V m c main_arg1) (emb1 t y s)).trans (congrFun (V_main_arg1 m c) _)

theorem blk2_at (c : Dev nD) (t : Fin cfg0.N) (r : Fin 1024) (s : Fin 1024) :
    (iblk m c 2 t : FVec Ideal S1024x1024 .f32) (ix2 r s)
      = (m ((c.tc : Thread nD τ).loc main_arg2) : FVec Ideal S4096x4096 .f32) (ix2 (at_ rfl (iP (t.val / 4)) r) (at_ rfl (jP (t.val / 4)) s)) :=
  (congrArg (V m c main_arg2) (emb2 t r s)).trans (congrFun (V_main_arg2 m c) _)

/-- What the point before `t` left, and what `t` leaves. -/
abbrev prev (c : Dev nD) (t : Fin cfg0.N) := outsAt0 m c (t.val - 1) (lt_of_le_of_lt (Nat.sub_le _ _) t.isLt)
abbrev cur (c : Dev nD) (t : Fin cfg0.N) := outsAt0 m c t.val t.isLt

/-- A point adds its block's part to the running sum, which a run's first point begins at zero. -/
theorem step (c : Dev nD) (t : Fin cfg0.N) (r s : Fin 1024) :
    ((cur m c t).2 : FVec Ideal S1024x1024 .f32) (ix2 r s)
      = (if t.val % 4 = 0 then 0 else ((prev m c t).2 : FVec Ideal S1024x1024 .f32) (ix2 r s))
        + term (m ((c.tc : Thread nD τ).loc main_arg0)) (m ((c.tc : Thread nD τ).loc main_arg1))
          (at_ rfl (iP (t.val / 4)) r) (at_ rfl (jP (t.val / 4)) s) (kP t) := by
  have e : dotAt (p := 1024) (q := 1024) (n := 2816) (f := .bf16) (g := .bf16) (iblk m c 0 t) (iblk m c 1 t) r s
      = term (m ((c.tc : Thread nD τ).loc main_arg0)) (m ((c.tc : Thread nD τ).loc main_arg1))
          (at_ rfl (iP (t.val / 4)) r) (at_ rfl (jP (t.val / 4)) s) (kP t) := by
    exact Finset.sum_congr rfl fun y _ => congrArg₂ (fun u v : EReal => u * v) (blk0_at m c t r y) (blk1_at m c t y s)
  rw [← e]
  by_cases h0 : t.val % 4 = 0
  · rw [if_pos h0, cur, outsAt0_A m c t h0 (by omega)]; frame_out
    rw [pay2_at, pay1_at]

  · by_cases h1 : t.val % 4 = 3
    · rw [if_neg h0, cur, outsAt0_C m c t h0 h1]; frame_out; simp only [read_unread_whole]
      rw [pay2_at]
    · rw [if_neg h0, cur, outsAt0_B m c t h0 h1]; frame_out; simp only [read_unread_whole]
      rw [pay2_at]

/-- A run's last point stores the whole sum plus the addend's block. -/
theorem last (c : Dev nD) (t : Fin cfg0.N) (h : t.val % 4 = 3) (r s : Fin 1024) :
    ((cur m c t).1 : FVec Ideal S1024x1024 .f32) (ix2 r s)
      = ((cur m c t).2 : FVec Ideal S1024x1024 .f32) (ix2 r s) + (iblk m c 2 t : FVec Ideal S1024x1024 .f32) (ix2 r s) := by
  rw [cur, outsAt0_C m c t (by omega) h]; frame_out; simp only [read_unread_whole]
  rw [pay3_at]

/-- The result array is the product plus the addend. -/
theorem arr (c : Dev nD) : (dats m 0 c).arrAt 3 cfg0.N
    = spec (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h3 := (flush0_3 t).mp hf
  blk_simp
  rw [after0_3]
  obtain ⟨r, s, rfl⟩ := pair 1024 1024 y
  rw [emb3]
  refine (last m c t h3 r s).trans ?_
  have e := fold (by decide) (fun n hn => ((outsAt0 m c n hn).2 : FVec Ideal S1024x1024 .f32) (ix2 r s))
    (fun q k => term (m ((c.tc : Thread nD τ).loc main_arg0)) (m ((c.tc : Thread nD τ).loc main_arg1))
      (at_ rfl (iP q) r) (at_ rfl (jP q) s) k) (fun n hn => step m c ⟨n, hn⟩ r s) t.val t.isLt
  rw [h3, upTo_all] at e
  rw [blk2_at]
  refine congrArg (· + _) (e.trans ?_)
  exact sum_at (n := 4) (s := 2816) rfl (entry (p := 4096) (q := 4096) (n := 11264) (f := .bf16) (g := .bf16)
    (m ((c.tc : Thread nD τ).loc main_arg0)) (m ((c.tc : Thread nD τ).loc main_arg1)) _ _)

end kernel

section reference
open Cert.ReferenceDownIdeal Cert.ReferenceDownIdeal.Gen

/-- The reference's product plus its addend. -/
theorem ref_at (a : FVec Ideal S4096x11264 .bf16) (b : FVec Ideal S11264x4096 .bf16) (d : FVec Ideal S4096x4096 .f32) :
    addf d (Host.dotGeneral dot_S4096x11264_S11264x4096_S4096x4096_1_0_0_1_n_n none (extf .f32 a bitsLt_bf16_f32)
      (extf .f32 b bitsLt_bf16_f32)) = spec a b d := by
  funext i
  obtain ⟨r, s, rfl⟩ := pair 4096 4096 i
  pointwise []
  exact add_comm _ _

end reference

theorem frame_p : Cert.quiescent_KernelDown := fun m ρ _ => Cert.KernelDown.Gen.frame m ρ
theorem frame_pi : Cert.quiescent_KernelDownIdeal := fun m ρ _ => Cert.KernelDownIdeal.Gen.frame m ρ

/-- The reference runs, keeps its arguments and declares no semaphore. -/
theorem frame_ri : Cert.quiescent_ReferenceDownIdeal := fun m ρ _ =>
  (θ_run Cert.ReferenceDownIdeal.defs _ _).mono (fun r h => ⟨fun c => (h c).2, sem_eq_zero_of_no_sems (by decide) r.2⟩)
    (Cert.ReferenceDownIdeal.Value.run (F := Ideal) m ρ)

theorem preserves : Cert.preserves_KernelDown_KernelDownIdeal := trivial

theorem algebraic : Cert.algebraic_KernelDownIdeal_ReferenceDownIdeal := by
  intro m ρ m' ρ' _ hagree
  refine ⟨_, (θ_run Cert.KernelDownIdeal.defs _ _).mono (fun r h c => ⟨(h c).1.trans (arr m c), (h c).2⟩)
    (Cert.KernelDownIdeal.Value.run_blocks (F := Ideal) m ρ), ?_⟩
  refine (θ_run Cert.ReferenceDownIdeal.defs _ _).mono (fun r h c => ?_) (Cert.ReferenceDownIdeal.Value.run (F := Ideal) m' ρ')
  refine ⟨(h c).1.trans ((ref_at _ _ _).trans ?_), (h c).2⟩
  rw [(hagree c).1, (hagree c).2.1, (hagree c).2.2]

end Cert.Hand.Down
end
-- ==== Proof.Act.lean ====
/- The gradient through the gated activation: on finite inputs the two formulas are one. -/
module

public import proofs.«01_k».proof.Proof.Gen.KernelActIdeal.Frame
public import proofs.«01_k».proof.Proof.Gen.KernelActIdeal.Value
public import proofs.«01_k».proof.Proof.Gen.ReferenceActIdeal.Run
public import proofs.«01_k».proof.Proof.Sums
public import proofs.«01_k».proof.Defs
public import proofs.«01_k».proof.Pre_finite_act
public import proofs.«01_k».proof.Proof.Finite
public import proofs.«01_k».proof.Proof.Gen.KernelAct.Frame

@[expose] public section
set_option maxRecDepth 16384
noncomputable section
namespace Cert.Hand.Act
open Idealize.ShloMosaic Idealize.ShloMosaic.TcCoe Idealize.SL.Sem Idealize.ShloMosaic.Pointwise Cert.Hand.Tiles

/-- The logistic function of a real is a real. -/
theorem sg_coe (x : ℝ) : sg (x : EReal) = ((1 / (1 + Real.exp (-x)) : ℝ) : EReal) := by
  have h : (1 + Real.exp (-x)) ≠ 0 := (by positivity : 0 < 1 + Real.exp (-x)).ne'
  unfold sg
  rw [← EReal.coe_neg, Ideal.exp_coe, ← EReal.coe_one, ← EReal.coe_add, Ideal.div_coe h, ← EReal.coe_mul, one_mul]

/-- The two groupings of the activation's derivative agree on reals. -/
theorem grouping (d u g : ℝ) : ((d : EReal) * u) * sg g + ((g : EReal) * (d * u)) * (sg g * (1 - sg g))
    = (d * u) * sg g * (1 + g * (1 - sg g)) := by
  rw [sg_coe, ← EReal.coe_one]
  simp only [← EReal.coe_mul, ← EReal.coe_sub, ← EReal.coe_add]
  exact congrArg _ (by ring)

section kernel
open Cert.KernelActIdeal Cert.KernelActIdeal.Gen

/-- The product of `a` with `b`'s transpose. -/
def prod (a : FVec Ideal S4096x4096 .bf16) (b : FVec Ideal S11264x4096 .bf16) : FVec Ideal S4096x11264 .bf16 :=
  fun i => ∑ x : Fin 4096, a (ix2 (i 0) x) * b (ix2 (i 1) x)

/-- The gradients of the gate and of the up product. -/
def dgate (a : FVec Ideal S4096x4096 .bf16) (b : FVec Ideal S11264x4096 .bf16) (g u : FVec Ideal S4096x11264 .bf16) :
    FVec Ideal S4096x11264 .bf16 := fun i => prod a b i * u i * sg (g i) * (1 + g i * (1 - sg (g i)))
def dup (a : FVec Ideal S4096x4096 .bf16) (b : FVec Ideal S11264x4096 .bf16) (g : FVec Ideal S4096x11264 .bf16) :
    FVec Ideal S4096x11264 .bf16 := fun i => prod a b i * g i * sg (g i)

section tile
variable (a : FVec Ideal S1024x4096 .bf16) (b : FVec Ideal S512x4096 .bf16) (g u : FVec Ideal S1024x512 .bf16) (r : Fin 1024) (s : Fin 512)

theorem pay1_at : k0_pay1 (F := Ideal) a b (ix2 r s) = ∑ x : Fin 4096, a (ix2 r x) * b (ix2 s x) := by
  pointwise [k0_pay1]

theorem pay3_at : k0_pay3 (F := Ideal) g (ix2 r s) = sg (g (ix2 r s)) := by
  pointwise [k0_pay3, k0_pay2, sg]
  rw [zero_sub]

theorem pay4_at : k0_pay4 (F := Ideal) a b g u (ix2 r s)
    = (∑ x : Fin 4096, a (ix2 r x) * b (ix2 s x)) * u (ix2 r s) * sg (g (ix2 r s)) * (1 + g (ix2 r s) * (1 - sg (g (ix2 r s)))) := by
  pointwise [k0_pay4, k0_pay2]
  rw [pay1_at, pay3_at]

theorem pay5_at : k0_pay5 (F := Ideal) a b g (ix2 r s)
    = (∑ x : Fin 4096, a (ix2 r x) * b (ix2 s x)) * g (ix2 r s) * sg (g (ix2 r s)) := by
  pointwise [k0_pay5, k0_pay2]
  rw [pay1_at, pay3_at]
end tile

theorem idx : ∀ t : Fin cfg0.N,
    (win0_0.index t 0 = t.val / 22 ∧ win0_0.index t 1 = 0) ∧ (win0_1.index t 0 = t.val % 22 ∧ win0_1.index t 1 = 0)
    ∧ (win0_2.index t 0 = t.val / 22 ∧ win0_2.index t 1 = t.val % 22) ∧ (win0_3.index t 0 = t.val / 22 ∧ win0_3.index t 1 = t.val % 22)
    ∧ (win0_4.index t 0 = t.val / 22 ∧ win0_4.index t 1 = t.val % 22)
    ∧ (win0_5.index t 0 = t.val / 22 ∧ win0_5.index t 1 = t.val % 22) := by decide +kernel

/-- The tile's row and column of a grid point. -/
def iP (t : Fin cfg0.N) : Fin 4 := ⟨t.val / 22, by have := lt_of_lt_of_eq t.isLt N_0; omega⟩
def jP (t : Fin cfg0.N) : Fin 22 := ⟨t.val % 22, by omega⟩

theorem emb0 (t : Fin cfg0.N) (r : Fin 1024) (x : Fin 4096) :
    (((cfg0.win 0).blk t).view.emb (ix2 r x) : S4096x4096.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (s : Fin 512) (x : Fin 4096) :
    (((cfg0.win 1).blk t).view.emb (ix2 s x) : S11264x4096.Idx) = ix2 (at_ rfl (jP t) s) x := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 512) :
    (((cfg0.win 2).blk t).view.emb (ix2 r s) : S4096x11264.Idx) = ix2 (at_ rfl (iP t) r) (at_ rfl (jP t) s) := by
  have e := (idx t).2.2.1
  unfold at_ iP jP
  refine funext fun a => Fin.ext ?_
  match a with
  | ⟨0, _⟩ => blk_simp [e]; try simp; try omega
  | ⟨1, _⟩ => blk_simp [e]; try simp; try omega

theorem emb3 (t : Fin cfg0.N) (r : Fin 1024) (s : Fin 512) :
    (((cfg0.win 3).blk t).view.emb (ix2 r s) : S4096x11264.Idx) = ix2 (at_ rfl (iP t) r) (at_ rfl (jP t) s) := by
  have e := (idx t).2.2.2.1
  unfold at_ iP jP
  refine funext fun a => Fin.ext ?_
  match a with
  | ⟨0, _⟩ => blk_simp [e]; try simp; try omega
  | ⟨1, _⟩ => blk_simp [e]; try simp; try omega

theorem emb4 (t : Fin cfg0.N) (r : Fin 1024) (s : Fin 512) :
    ((win0_4.blk t).view.emb (ix2 r s) : S4096x11264.Idx) = ix2 (at_ rfl (iP t) r) (at_ rfl (jP t) s) := by
  have e := (idx t).2.2.2.2.1
  unfold at_ iP jP
  refine funext fun a => Fin.ext ?_
  match a with
  | ⟨0, _⟩ => blk_simp [e]; try simp; try omega
  | ⟨1, _⟩ => blk_simp [e]; try simp; try omega

theorem emb5 (t : Fin cfg0.N) (r : Fin 1024) (s : Fin 512) :
    ((win0_5.blk t).view.emb (ix2 r s) : S4096x11264.Idx) = ix2 (at_ rfl (iP t) r) (at_ rfl (jP t) s) := by
  have e := (idx t).2.2.2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 4096) :
    (iblk m c 0 t : FVec Ideal S1024x4096 .bf16) (ix2 r x)
      = (m ((c.tc : Thread nD τ).loc main_arg0) : FVec Ideal S4096x4096 .bf16) (ix2 (at_ rfl (iP t) r) x) :=
  (congrArg (V m c main_arg0) (emb0 t r x)).trans (congrFun (V_main_arg0 m c) _)

theorem blk1_at (c : Dev nD) (t : Fin cfg0.N) (s : Fin 512) (x : Fin 4096) :
    (iblk m c 1 t : FVec Ideal S512x4096 .bf16) (ix2 s x)
      = (m ((c.tc : Thread nD τ).loc main_arg1) : FVec Ideal S11264x4096 .bf16) (ix2 (at_ rfl (jP t) s) x) :=
  (congrArg (V m c main_arg1) (emb1 t s x)).trans (congrFun (V_main_arg1 m c) _)

theorem blk2_at (c : Dev nD) (t : Fin cfg0.N) (r : Fin 1024) (s : Fin 512) :
    (iblk m c 2 t : FVec Ideal S1024x512 .bf16) (ix2 r s)
      = (m ((c.tc : Thread nD τ).loc main_arg2) : FVec Ideal S4096x11264 .bf16) (ix2 (at_ rfl (iP t) r) (at_ rfl (jP t) s)) :=
  (congrArg (V m c main_arg2) (emb2 t r s)).trans (congrFun (V_main_arg2 m c) _)

theorem blk3_at (c : Dev nD) (t : Fin cfg0.N) (r : Fin 1024) (s : Fin 512) :
    (iblk m c 3 t : FVec Ideal S1024x512 .bf16) (ix2 r s)
      = (m ((c.tc : Thread nD τ).loc main_arg3) : FVec Ideal S4096x11264 .bf16) (ix2 (at_ rfl (iP t) r) (at_ rfl (jP t) s)) :=
  (congrArg (V m c main_arg3) (emb3 t r s)).trans (congrFun (V_main_arg3 m c) _)

/-- The tiles stored. -/
theorem out4_eq (a : FVec Ideal S1024x4096 .bf16) (b : FVec Ideal S512x4096 .bf16) (g u : FVec Ideal S1024x512 .bf16) :
    out0_4 (F := Ideal) a b g u = k0_pay4 (F := Ideal) a b g u := by
  unfold out0_4
  rw [View.canon_unit_zero zero2, View.ld_unit_zero zero2, View.ld_unit_zero zero2, View.ld_unit_zero zero2, View.ld_unit_zero zero2]
theorem out5_eq (a : FVec Ideal S1024x4096 .bf16) (b : FVec Ideal S512x4096 .bf16) (g u : FVec Ideal S1024x512 .bf16) :
    out0_5 (F := Ideal) a b g u = k0_pay5 (F := Ideal) a b g := by
  unfold out0_5
  rw [View.canon_unit_zero zero2, View.ld_unit_zero zero2, View.ld_unit_zero zero2, View.ld_unit_zero zero2]

theorem arr4 (c : Dev nD) : (dats m 0 c).arrAt 4 cfg0.N
    = dgate (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4]
  obtain ⟨r, s, rfl⟩ := pair 1024 512 y
  rw [emb4, out4_eq, pay4_at]
  simp only [blk0_at, blk1_at, blk2_at, blk3_at]
  rfl

theorem arr5 (c : Dev nD) : (dats m 0 c).arrAt 5 cfg0.N
    = dup (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5]
  obtain ⟨r, s, rfl⟩ := pair 1024 512 y
  rw [emb5, out5_eq, pay5_at]
  simp only [blk0_at, blk1_at, blk2_at, blk3_at]
  rfl

end kernel

section reference
open Cert.ReferenceActIdeal Cert.ReferenceActIdeal.Gen

/-- The reference's product. -/
theorem dot_at (a : FVec Ideal S4096x4096 .bf16) (b : FVec Ideal S11264x4096 .bf16) :
    Host.dotGeneral dot_S4096x4096_S11264x4096_S4096x11264_1_1_0_0_n_n none (extf .f32 a bitsLt_bf16_f32)
      (extf .f32 b bitsLt_bf16_f32) = (prod a b : FVec Ideal S4096x11264 .f32) := by
  funext i
  obtain ⟨r, s, rfl⟩ := pair 4096 11264 i
  pointwise []
  rfl

/-- The reference's logistic function. -/
theorem sg_at (g : FVec Ideal S4096x11264 .f32) :
    Host.divf (broadcastInDim S4096x11264 ![] bcast_S_S4096x11264 (constant S_ .f32 0x3F800000#32))
      (addf (broadcastInDim S4096x11264 ![] bcast_S_S4096x11264 (constant S_ .f32 0x3F800000#32)) (Host.exp (Host.negf g)))
      = (fun i => sg (g i) : FVec Ideal S4096x11264 .f32) := by
  funext i
  obtain ⟨r, s, rfl⟩ := pair 4096 11264 i
  pointwise [sg]

/-- The reference's two gradients, of its product and logistic function. -/
theorem gate_at (d g u s : FVec Ideal S4096x11264 .f32) (i : S4096x11264.Idx) :
    truncf .bf16 (addf (mulf (mulf d u) s) (mulf (mulf g (mulf d u)) (mulf s
      (subf (broadcastInDim S4096x11264 ![] bcast_S_S4096x11264 (constant S_ .f32 0x3F800000#32)) s)))) bitsLt_bf16_f32 i
      = (d i * u i) * s i + (g i * (d i * u i)) * (s i * (1 - s i)) := by
  obtain ⟨r, s, rfl⟩ := pair 4096 11264 i
  pointwise []

theorem up_at (d g s : FVec Ideal S4096x11264 .f32) (i : S4096x11264.Idx) :
    truncf .bf16 (mulf (mulf g s) d) bitsLt_bf16_f32 i = d i * g i * s i := by
  have h : truncf .bf16 (mulf (mulf g s) d) bitsLt_bf16_f32 i = g i * s i * d i := rfl
  rw [h, mul_comm, mul_assoc]

end reference

section finite
open Cert.Pre_finite_act

theorem preFacts : Cert.Pre_finite_act.Facts where
  bitsLt_bf16_f32 := by decide
  bcast_S_S4096x4096 := by decide
  bcast_S_S11264x4096 := by decide
  bcast_S_S4096x11264 := by decide

instance : Cert.Pre_finite_act.Facts := preFacts

variable {a : FVec Ideal S4096x4096 .bf16} {b : FVec Ideal S11264x4096 .bf16} {g u : FVec Ideal S4096x11264 .bf16}

theorem fin_a (h : (fn a b g u).1 = fun _ => 1#1) (i : S4096x4096.Idx) : a i = (((a i).toReal : ℝ) : EReal) :=
  real_of_lt _ (congrFun h i)
theorem fin_b (h : (fn a b g u).2.1 = fun _ => 1#1) (i : S11264x4096.Idx) : b i = (((b i).toReal : ℝ) : EReal) :=
  real_of_lt _ (congrFun h i)
theorem fin_g (h : (fn a b g u).2.2.1 = fun _ => 1#1) (i : S4096x11264.Idx) : g i = (((g i).toReal : ℝ) : EReal) :=
  real_of_lt _ (congrFun h i)
theorem fin_u (h : (fn a b g u).2.2.2 = fun _ => 1#1) (i : S4096x11264.Idx) : u i = (((u i).toReal : ℝ) : EReal) :=
  real_of_lt _ (congrFun h i)

/-- Of finite inputs the reference's gate gradient is the kernel's. -/
theorem gate_eq (ha : (fn a b g u).1 = fun _ => 1#1) (hb : (fn a b g u).2.1 = fun _ => 1#1)
    (hg : (fn a b g u).2.2.1 = fun _ => 1#1) (hu : (fn a b g u).2.2.2 = fun _ => 1#1) (i : S4096x11264.Idx) :
    (prod a b i * u i) * sg (g i) + (g i * (prod a b i * u i)) * (sg (g i) * (1 - sg (g i))) = dgate a b g u i := by
  have hd : prod a b i = ((∑ x : Fin 4096, (a (ix2 (i 0) x)).toReal * (b (ix2 (i 1) x)).toReal : ℝ) : EReal) := by
    unfold prod
    rw [← coe_sum]
    refine Finset.sum_congr rfl fun x _ => ?_
    rw [fin_a ha, fin_b hb]
    exact (EReal.coe_mul _ _).symm
  have e := grouping (∑ x : Fin 4096, (a (ix2 (i 0) x)).toReal * (b (ix2 (i 1) x)).toReal) (u i).toReal (g i).toReal
  rw [← hd, ← fin_g hg, ← fin_u hu] at e
  exact e

end finite

theorem frame_p : Cert.quiescent_KernelAct := fun m ρ _ => Cert.KernelAct.Gen.frame m ρ
theorem frame_pi : Cert.quiescent_KernelActIdeal := fun m ρ _ => Cert.KernelActIdeal.Gen.frame m ρ

/-- The reference runs, keeps its arguments and declares no semaphore. -/
theorem frame_ri : Cert.quiescent_ReferenceActIdeal := fun m ρ _ =>
  (θ_run Cert.ReferenceActIdeal.defs _ _).mono (fun r h => ⟨fun c => (h c).2.2, sem_eq_zero_of_no_sems (by decide) r.2⟩)
    (Cert.ReferenceActIdeal.Value.run (F := Ideal) m ρ)

theorem preserves : Cert.preserves_KernelAct_KernelActIdeal := trivial

theorem frame_pi_finite : Cert.quiescent_KernelActIdeal_pre_finite_act := fun m ρ _ => frame_pi m ρ trivial
theorem frame_ri_finite : Cert.quiescent_ReferenceActIdeal_pre_finite_act := fun m ρ _ => frame_ri m ρ trivial

set_option maxHeartbeats 1000000 in
theorem algebraic : Cert.algebraic_KernelActIdeal_ReferenceActIdeal_pre_finite_act := by
  intro m ρ m' ρ' hpre hagree
  refine ⟨_, _, (θ_run Cert.KernelActIdeal.defs _ _).mono (fun r h c => ⟨(h c).1.trans (arr4 m c), (h c).2.1.trans (arr5 m c),
    (h c).2.2⟩) (Cert.KernelActIdeal.Value.run_blocks (F := Ideal) m ρ), ?_⟩
  refine (θ_run Cert.ReferenceActIdeal.defs _ _).mono (fun r h c => ?_) (Cert.ReferenceActIdeal.Value.run (F := Ideal) m' ρ')
  have hp := hpre c
  rw [← (hagree c).1, ← (hagree c).2.1, ← (hagree c).2.2.1, ← (hagree c).2.2.2] at hp ⊢
  refine ⟨(h c).1.trans ?_, (h c).2.1.trans ?_, (h c).2.2⟩
  · rw [dot_at, sg_at]
    exact funext fun i => (gate_at _ _ _ _ i).trans (gate_eq hp.1 hp.2.1 hp.2.2.1 hp.2.2.2 i)
  · rw [dot_at, sg_at]
    exact funext fun i => up_at _ _ _ i

end Cert.Hand.Act
end
-- ==== Proof.DownW.lean ====
/- The gradient of the down projection's weight: the kernel's tiles and the reference's product are one sum. -/
module

public import proofs.«01_k».proof.Proof.Gen.KernelDownWIdeal.Frame
public import proofs.«01_k».proof.Proof.Gen.KernelDownWIdeal.Value
public import proofs.«01_k».proof.Proof.Gen.ReferenceDownWIdeal.Run
public import proofs.«01_k».proof.Proof.Sums
public import proofs.«01_k».proof.Defs
public import proofs.«01_k».proof.Proof.Gen.KernelDownW.Frame

@[expose] public section
set_option maxRecDepth 16384
noncomputable section
namespace Cert.Hand.DownW
open Idealize.ShloMosaic Idealize.ShloMosaic.TcCoe Idealize.SL.Sem Idealize.ShloMosaic.Pointwise Cert.Hand.Tiles

section kernel
open Cert.KernelDownWIdeal Cert.KernelDownWIdeal.Gen

/-- The product of `a`'s transpose with `b`. -/
def prod (a : FVec Ideal S4096x11264 .bf16) (b : FVec Ideal S4096x4096 .bf16) : FVec Ideal S11264x4096 .bf16 :=
  fun i => ∑ x : Fin 4096, a (ix2 x (i 0)) * b (ix2 x (i 1))

/-- One tile's product. -/
theorem pay_at (a b : FVec Ideal S4096x1024 .bf16) (r s : Fin 1024) :
    k0_pay1 (F := Ideal) a b (ix2 r s) = ∑ x : Fin 4096, a (ix2 x r) * b (ix2 x s) := by
  pointwise [k0_pay1]

theorem idx : ∀ t : Fin cfg0.N,
    (win0_0.index t 0 = 0 ∧ win0_0.index t 1 = t.val / 4) ∧ (win0_1.index t 0 = 0 ∧ win0_1.index t 1 = t.val % 4)
    ∧ (win0_2.index t 0 = t.val / 4 ∧ win0_2.index t 1 = t.val % 4) := by decide +kernel

/-- The tile's row and column of a grid point. -/
def iP (t : Fin cfg0.N) : Fin 11 := ⟨t.val / 4, by have := lt_of_lt_of_eq t.isLt N_0; omega⟩
def jP (t : Fin cfg0.N) : Fin 4 := ⟨t.val % 4, by omega⟩

theorem emb0 (t : Fin cfg0.N) (x : Fin 4096) (r : Fin 1024) :
    (((cfg0.win 0).blk t).view.emb (ix2 x r) : S4096x11264.Idx) = ix2 x (at_ rfl (iP t) r) := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (r : Fin 1024) :
    (((cfg0.win 1).blk t).view.emb (ix2 x r) : S4096x4096.Idx) = ix2 x (at_ rfl (jP t) r) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r s : Fin 1024) :
    ((win0_2.blk t).view.emb (ix2 r s) : S11264x4096.Idx) = ix2 (at_ rfl (iP t) r) (at_ rfl (jP t) s) := by
  have e := (idx t).2.2
  unfold at_ jP iP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (x : Fin 4096) (r : Fin 1024) :
    (iblk m c 0 t : FVec Ideal S4096x1024 .bf16) (ix2 x r)
      = (m ((c.tc : Thread nD τ).loc main_arg0) : FVec Ideal S4096x11264 .bf16) (ix2 x (at_ rfl (iP t) r)) :=
  (congrArg (V m c main_arg0) (emb0 t x r)).trans (congrFun (V_main_arg0 m c) _)

theorem blk1_at (c : Dev nD) (t : Fin cfg0.N) (x : Fin 4096) (r : Fin 1024) :
    (iblk m c 1 t : FVec Ideal S4096x1024 .bf16) (ix2 x r)
      = (m ((c.tc : Thread nD τ).loc main_arg1) : FVec Ideal S4096x4096 .bf16) (ix2 x (at_ rfl (jP t) r)) :=
  (congrArg (V m c main_arg1) (emb1 t x r)).trans (congrFun (V_main_arg1 m c) _)

/-- The tile stored is the tile's product. -/
theorem out_eq (a b : FVec Ideal S4096x1024 .bf16) : out0_2 (F := Ideal) a b = k0_pay1 (F := Ideal) a b := by
  unfold out0_2
  rw [View.canon_unit_zero zero2, View.ld_unit_zero zero2, View.ld_unit_zero zero2]

/-- The result array is the product of the two arguments. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 1024 1024 y
  rw [emb2, out_eq, pay_at]
  simp only [blk0_at, blk1_at]
  rfl

end kernel

section reference
open Cert.ReferenceDownWIdeal Cert.ReferenceDownWIdeal.Gen

/-- The reference's product, at an index. -/
theorem ref_at (a : FVec Ideal S4096x11264 .bf16) (b : FVec Ideal S4096x4096 .bf16) :
    truncf .bf16 (transpose S11264x4096 [1, 0] (Host.dotGeneral dot_S4096x4096_S4096x11264_S4096x11264_0_0_1_1_n_n none
      (extf .f32 b bitsLt_bf16_f32) (extf .f32 a bitsLt_bf16_f32)) transposes_S4096x11264_S11264x4096_1_0) bitsLt_bf16_f32
      = prod a b := by
  funext i
  obtain ⟨r, s, rfl⟩ := pair 11264 4096 i
  pointwise []
  exact Finset.sum_congr rfl fun x _ => mul_comm _ _

end reference

theorem frame_p : Cert.quiescent_KernelDownW := fun m ρ _ => Cert.KernelDownW.Gen.frame m ρ
theorem frame_pi : Cert.quiescent_KernelDownWIdeal := fun m ρ _ => Cert.KernelDownWIdeal.Gen.frame m ρ

/-- The reference runs, keeps its arguments and declares no semaphore. -/
theorem frame_ri : Cert.quiescent_ReferenceDownWIdeal := fun m ρ _ =>
  (θ_run Cert.ReferenceDownWIdeal.defs _ _).mono (fun r h => ⟨fun c => (h c).2, sem_eq_zero_of_no_sems (by decide) r.2⟩)
    (Cert.ReferenceDownWIdeal.Value.run (F := Ideal) m ρ)

theorem preserves : Cert.preserves_KernelDownW_KernelDownWIdeal := trivial

theorem algebraic : Cert.algebraic_KernelDownWIdeal_ReferenceDownWIdeal := by
  intro m ρ m' ρ' _ hagree
  refine ⟨_, (θ_run Cert.KernelDownWIdeal.defs _ _).mono (fun r h c => ⟨(h c).1.trans (arr m c), (h c).2⟩)
    (Cert.KernelDownWIdeal.Value.run_blocks (F := Ideal) m ρ), ?_⟩
  refine (θ_run Cert.ReferenceDownWIdeal.defs _ _).mono (fun r h c => ?_) (Cert.ReferenceDownWIdeal.Value.run (F := Ideal) m' ρ')
  refine ⟨(h c).1.trans ((ref_at _ _).trans ?_), (h c).2⟩
  rw [(hagree c).1, (hagree c).2]

end Cert.Hand.DownW
end
-- ==== Proof.UpW.lean ====
/- The gradient of the gate's and the up projection's weight: the kernel's tiles and the reference's product are one sum. -/
module

public import proofs.«01_k».proof.Proof.Gen.KernelUpWIdeal.Frame
public import proofs.«01_k».proof.Proof.Gen.KernelUpWIdeal.Value
public import proofs.«01_k».proof.Proof.Gen.ReferenceUpWIdeal.Run
public import proofs.«01_k».proof.Proof.Sums
public import proofs.«01_k».proof.Defs
public import proofs.«01_k».proof.Proof.Gen.KernelUpW.Frame

@[expose] public section
set_option maxRecDepth 16384
noncomputable section
namespace Cert.Hand.UpW
open Idealize.ShloMosaic Idealize.ShloMosaic.TcCoe Idealize.SL.Sem Idealize.ShloMosaic.Pointwise Cert.Hand.Tiles

section kernel
open Cert.KernelUpWIdeal Cert.KernelUpWIdeal.Gen

/-- The product of `a`'s transpose with `b`. -/
def prod (a : FVec Ideal S4096x11264 .bf16) (b : FVec Ideal S4096x4096 .bf16) : FVec Ideal S11264x4096 .bf16 :=
  fun i => ∑ x : Fin 4096, a (ix2 x (i 0)) * b (ix2 x (i 1))

/-- One tile's product. -/
theorem pay_at (a b : FVec Ideal S4096x1024 .bf16) (r s : Fin 1024) :
    k0_pay1 (F := Ideal) a b (ix2 r s) = ∑ x : Fin 4096, a (ix2 x r) * b (ix2 x s) := by
  pointwise [k0_pay1]

theorem idx : ∀ t : Fin cfg0.N,
    (win0_0.index t 0 = 0 ∧ win0_0.index t 1 = t.val / 4) ∧ (win0_1.index t 0 = 0 ∧ win0_1.index t 1 = t.val % 4)
    ∧ (win0_2.index t 0 = t.val / 4 ∧ win0_2.index t 1 = t.val % 4) := by decide +kernel

/-- The tile's row and column of a grid point. -/
def iP (t : Fin cfg0.N) : Fin 11 := ⟨t.val / 4, by have := lt_of_lt_of_eq t.isLt N_0; omega⟩
def jP (t : Fin cfg0.N) : Fin 4 := ⟨t.val % 4, by omega⟩

theorem emb0 (t : Fin cfg0.N) (x : Fin 4096) (r : Fin 1024) :
    (((cfg0.win 0).blk t).view.emb (ix2 x r) : S4096x11264.Idx) = ix2 x (at_ rfl (iP t) r) := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (r : Fin 1024) :
    (((cfg0.win 1).blk t).view.emb (ix2 x r) : S4096x4096.Idx) = ix2 x (at_ rfl (jP t) r) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r s : Fin 1024) :
    ((win0_2.blk t).view.emb (ix2 r s) : S11264x4096.Idx) = ix2 (at_ rfl (iP t) r) (at_ rfl (jP t) s) := by
  have e := (idx t).2.2
  unfold at_ jP iP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (x : Fin 4096) (r : Fin 1024) :
    (iblk m c 0 t : FVec Ideal S4096x1024 .bf16) (ix2 x r)
      = (m ((c.tc : Thread nD τ).loc main_arg0) : FVec Ideal S4096x11264 .bf16) (ix2 x (at_ rfl (iP t) r)) :=
  (congrArg (V m c main_arg0) (emb0 t x r)).trans (congrFun (V_main_arg0 m c) _)

theorem blk1_at (c : Dev nD) (t : Fin cfg0.N) (x : Fin 4096) (r : Fin 1024) :
    (iblk m c 1 t : FVec Ideal S4096x1024 .bf16) (ix2 x r)
      = (m ((c.tc : Thread nD τ).loc main_arg1) : FVec Ideal S4096x4096 .bf16) (ix2 x (at_ rfl (jP t) r)) :=
  (congrArg (V m c main_arg1) (emb1 t x r)).trans (congrFun (V_main_arg1 m c) _)

/-- The tile stored is the tile's product. -/
theorem out_eq (a b : FVec Ideal S4096x1024 .bf16) : out0_2 (F := Ideal) a b = k0_pay1 (F := Ideal) a b := by
  unfold out0_2
  rw [View.canon_unit_zero zero2, View.ld_unit_zero zero2, View.ld_unit_zero zero2]

/-- The result array is the product of the two arguments. -/
theorem arr (c : Dev nD) : (dats m 0 c).arrAt 2 cfg0.N
    = prod (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 1024 1024 y
  rw [emb2, out_eq, pay_at]
  simp only [blk0_at, blk1_at]
  rfl

end kernel

section reference
open Cert.ReferenceUpWIdeal Cert.ReferenceUpWIdeal.Gen

/-- The reference's product, at an index. -/
theorem ref_at (a : FVec Ideal S4096x11264 .bf16) (b : FVec Ideal S4096x4096 .bf16) :
    truncf .bf16 (Host.dotGeneral dot_S4096x11264_S4096x4096_S11264x4096_0_0_1_1_n_n none
      (extf .f32 a bitsLt_bf16_f32) (extf .f32 b bitsLt_bf16_f32)) bitsLt_bf16_f32
      = prod a b := by
  funext i
  obtain ⟨r, s, rfl⟩ := pair 11264 4096 i
  pointwise []
  rfl

end reference

theorem frame_p : Cert.quiescent_KernelUpW := fun m ρ _ => Cert.KernelUpW.Gen.frame m ρ
theorem frame_pi : Cert.quiescent_KernelUpWIdeal := fun m ρ _ => Cert.KernelUpWIdeal.Gen.frame m ρ

/-- The reference runs, keeps its arguments and declares no semaphore. -/
theorem frame_ri : Cert.quiescent_ReferenceUpWIdeal := fun m ρ _ =>
  (θ_run Cert.ReferenceUpWIdeal.defs _ _).mono (fun r h => ⟨fun c => (h c).2, sem_eq_zero_of_no_sems (by decide) r.2⟩)
    (Cert.ReferenceUpWIdeal.Value.run (F := Ideal) m ρ)

theorem preserves : Cert.preserves_KernelUpW_KernelUpWIdeal := trivial

theorem algebraic : Cert.algebraic_KernelUpWIdeal_ReferenceUpWIdeal := by
  intro m ρ m' ρ' _ hagree
  refine ⟨_, (θ_run Cert.KernelUpWIdeal.defs _ _).mono (fun r h c => ⟨(h c).1.trans (arr m c), (h c).2⟩)
    (Cert.KernelUpWIdeal.Value.run_blocks (F := Ideal) m ρ), ?_⟩
  refine (θ_run Cert.ReferenceUpWIdeal.defs _ _).mono (fun r h c => ?_) (Cert.ReferenceUpWIdeal.Value.run (F := Ideal) m' ρ')
  refine ⟨(h c).1.trans ((ref_at _ _).trans ?_), (h c).2⟩
  rw [(hagree c).1, (hagree c).2]

end Cert.Hand.UpW
end
-- ==== Proof.UpX.lean ====
/- The cotangent of the input the two up projections share: two products, summed block by block. -/
module

public import proofs.«01_k».proof.Proof.Gen.KernelUpXIdeal.Frame
public import proofs.«01_k».proof.Proof.Gen.KernelUpXIdeal.Value
public import proofs.«01_k».proof.Proof.Gen.ReferenceUpXIdeal.Run
public import proofs.«01_k».proof.Proof.Sums
public import proofs.«01_k».proof.Defs
public import proofs.«01_k».proof.Proof.Gen.KernelUpX.Frame

@[expose] public section
set_option maxRecDepth 16384
noncomputable section
namespace Cert.Hand.UpX
open Idealize.ShloMosaic Idealize.ShloMosaic.TcCoe Idealize.SL.Sem Idealize.ShloMosaic.Pointwise Cert.Hand.Tiles

section kernel
open Cert.KernelUpXIdeal Cert.KernelUpXIdeal.Gen

/-- The sum of the two products `a · b` and `p · q`. -/
def spec (a p : FVec Ideal S4096x11264 .bf16) (b q : FVec Ideal S11264x4096 .bf16) :
    FVec Ideal S4096x4096 .f32 := fun i => dotAt (p := 4096) (q := 4096) (n := 11264) a b (i 0) (i 1)
      + dotAt (p := 4096) (q := 4096) (n := 11264) p q (i 0) (i 1)

/-- One term of the sum of the two products at an entry. -/
def both (a p : FVec Ideal S4096x11264 .bf16) (b q : FVec Ideal S11264x4096 .bf16) (i j : Fin 4096) (x : Fin 11264) : EReal :=
  entry (p := 4096) (q := 4096) (n := 11264) a b i j x + entry (p := 4096) (q := 4096) (n := 11264) p q i j x

/-- A run's part at one entry: the sum over one block of the contracted dimension. -/
def term (a p : FVec Ideal S4096x11264 .bf16) (b q : FVec Ideal S11264x4096 .bf16) (i j : Fin 4096) (k : Fin 4) : EReal :=
  ∑ y : Fin 2816, both a p b q i j (at_ rfl k y)

theorem pay1_at (r : Fin 1024) (s : Fin 512) : k0_pay1 (F := Ideal) (ix2 r s) = 0 := by
  pointwise [k0_pay1]

theorem pay2_at (v : FVec Ideal S1024x512 .f32) (a : FVec Ideal S1024x2816 .bf16) (b : FVec Ideal S2816x512 .bf16)
    (p : FVec Ideal S1024x2816 .bf16) (q : FVec Ideal S2816x512 .bf16) (r : Fin 1024) (s : Fin 512) :
    k0_pay2 (F := Ideal) v a b p q (ix2 r s) = v (ix2 r s)
      + (dotAt (p := 1024) (q := 512) (n := 2816) a b r s + dotAt (p := 1024) (q := 512) (n := 2816) p q r s) := by
  pointwise [k0_pay2]
  rfl

theorem idx : ∀ t : Fin cfg0.N,
    (win0_0.index t 0 = t.val / 4 / 8 % 4 ∧ win0_0.index t 1 = t.val % 4) ∧ (win0_1.index t 0 = t.val % 4 ∧ win0_1.index t 1 = t.val / 4 % 8)
    ∧ (win0_2.index t 0 = t.val / 4 / 8 % 4 ∧ win0_2.index t 1 = t.val % 4) ∧ (win0_3.index t 0 = t.val % 4 ∧ win0_3.index t 1 = t.val / 4 % 8)
    ∧ (win0_4.index t 0 = t.val / 4 / 8 % 4 ∧ win0_4.index t 1 = t.val / 4 % 8) := by decide +kernel

/-- The tile's row and column of a run of 4 grid points, and a point's place in its run. -/
def iP (q : ℕ) : Fin 4 := ⟨q / 8 % 4, by omega⟩
def jP (q : ℕ) : Fin 8 := ⟨q % 8, by omega⟩
def kP (t : Fin cfg0.N) : Fin 4 := ⟨t.val % 4, by omega⟩

theorem emb0 (t : Fin cfg0.N) (r : Fin 1024) (y : Fin 2816) :
    (((cfg0.win 0).blk t).view.emb (ix2 r y) : S4096x11264.Idx) = ix2 (at_ rfl (iP (t.val / 4)) r) (at_ rfl (kP t) y) := by
  have e := (idx t).1
  unfold at_ iP kP
  refine funext fun a => Fin.ext ?_
  match a with
  | ⟨0, _⟩ => blk_simp [e]; try simp; try omega
  | ⟨1, _⟩ => blk_simp [e]; try simp; try omega

theorem emb1 (t : Fin cfg0.N) (y : Fin 2816) (s : Fin 512) :
    (((cfg0.win 1).blk t).view.emb (ix2 y s) : S11264x4096.Idx) = ix2 (at_ rfl (kP t) y) (at_ rfl (jP (t.val / 4)) s) := by
  have e := (idx t).2.1
  unfold at_ jP kP
  refine funext fun a => Fin.ext ?_
  match a with
  | ⟨0, _⟩ => blk_simp [e]; try simp; try omega
  | ⟨1, _⟩ => blk_simp [e]; try simp; try omega

theorem emb2 (t : Fin cfg0.N) (r : Fin 1024) (y : Fin 2816) :
    (((cfg0.win 2).blk t).view.emb (ix2 r y) : S4096x11264.Idx) = ix2 (at_ rfl (iP (t.val / 4)) r) (at_ rfl (kP t) y) := by
  have e := (idx t).2.2.1
  unfold at_ iP kP
  refine funext fun a => Fin.ext ?_
  match a with
  | ⟨0, _⟩ => blk_simp [e]; try simp; try omega
  | ⟨1, _⟩ => blk_simp [e]; try simp; try omega

theorem emb3 (t : Fin cfg0.N) (y : Fin 2816) (s : Fin 512) :
    (((cfg0.win 3).blk t).view.emb (ix2 y s) : S11264x4096.Idx) = ix2 (at_ rfl (kP t) y) (at_ rfl (jP (t.val / 4)) s) := by
  have e := (idx t).2.2.2.1
  unfold at_ jP kP
  refine funext fun a => Fin.ext ?_
  match a with
  | ⟨0, _⟩ => blk_simp [e]; try simp; try omega
  | ⟨1, _⟩ => blk_simp [e]; try simp; try omega

theorem emb4 (t : Fin cfg0.N) (r : Fin 1024) (s : Fin 512) :
    ((win0_4.blk t).view.emb (ix2 r s) : S4096x4096.Idx) = ix2 (at_ rfl (iP (t.val / 4)) r) (at_ rfl (jP (t.val / 4)) s) := by
  have e := (idx t).2.2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (y : Fin 2816) :
    (iblk m c 0 t : FVec Ideal S1024x2816 .bf16) (ix2 r y)
      = (m ((c.tc : Thread nD τ).loc main_arg0) : FVec Ideal S4096x11264 .bf16) (ix2 (at_ rfl (iP (t.val / 4)) r) (at_ rfl (kP t) y)) :=
  (congrArg (V m c main_arg0) (emb0 t r y)).trans (congrFun (V_main_arg0 m c) _)

theorem blk1_at (c : Dev nD) (t : Fin cfg0.N) (y : Fin 2816) (s : Fin 512) :
    (iblk m c 1 t : FVec Ideal S2816x512 .bf16) (ix2 y s)
      = (m ((c.tc : Thread nD τ).loc main_arg2) : FVec Ideal S11264x4096 .bf16) (ix2 (at_ rfl (kP t) y) (at_ rfl (jP (t.val / 4)) s)) :=
  (congrArg (V m c main_arg2) (emb1 t y s)).trans (congrFun (V_main_arg2 m c) _)

theorem blk2_at (c : Dev nD) (t : Fin cfg0.N) (r : Fin 1024) (y : Fin 2816) :
    (iblk m c 2 t : FVec Ideal S1024x2816 .bf16) (ix2 r y)
      = (m ((c.tc : Thread nD τ).loc main_arg1) : FVec Ideal S4096x11264 .bf16) (ix2 (at_ rfl (iP (t.val / 4)) r) (at_ rfl (kP t) y)) :=
  (congrArg (V m c main_arg1) (emb2 t r y)).trans (congrFun (V_main_arg1 m c) _)

theorem blk3_at (c : Dev nD) (t : Fin cfg0.N) (y : Fin 2816) (s : Fin 512) :
    (iblk m c 3 t : FVec Ideal S2816x512 .bf16) (ix2 y s)
      = (m ((c.tc : Thread nD τ).loc main_arg3) : FVec Ideal S11264x4096 .bf16) (ix2 (at_ rfl (kP t) y) (at_ rfl (jP (t.val / 4)) s)) :=
  (congrArg (V m c main_arg3) (emb3 t y s)).trans (congrFun (V_main_arg3 m c) _)

/-- What the point before `t` left, and what `t` leaves. -/
abbrev prev (c : Dev nD) (t : Fin cfg0.N) := outsAt0 m c (t.val - 1) (lt_of_le_of_lt (Nat.sub_le _ _) t.isLt)
abbrev cur (c : Dev nD) (t : Fin cfg0.N) := outsAt0 m c t.val t.isLt

/-- A point adds its block's part to the running sum, which a run's first point begins at zero. -/
theorem step (c : Dev nD) (t : Fin cfg0.N) (r : Fin 1024) (s : Fin 512) :
    ((cur m c t).2 : FVec Ideal S1024x512 .f32) (ix2 r s)
      = (if t.val % 4 = 0 then 0 else ((prev m c t).2 : FVec Ideal S1024x512 .f32) (ix2 r s))
        + term (m ((c.tc : Thread nD τ).loc main_arg0)) (m ((c.tc : Thread nD τ).loc main_arg1))
          (m ((c.tc : Thread nD τ).loc main_arg2)) (m ((c.tc : Thread nD τ).loc main_arg3))
          (at_ rfl (iP (t.val / 4)) r) (at_ rfl (jP (t.val / 4)) s) (kP t) := by
  have e : dotAt (p := 1024) (q := 512) (n := 2816) (f := .bf16) (g := .bf16) (iblk m c 0 t) (iblk m c 1 t) r s
      + dotAt (p := 1024) (q := 512) (n := 2816) (f := .bf16) (g := .bf16) (iblk m c 2 t) (iblk m c 3 t) r s
      = term (m ((c.tc : Thread nD τ).loc main_arg0)) (m ((c.tc : Thread nD τ).loc main_arg1))
          (m ((c.tc : Thread nD τ).loc main_arg2)) (m ((c.tc : Thread nD τ).loc main_arg3))
          (at_ rfl (iP (t.val / 4)) r) (at_ rfl (jP (t.val / 4)) s) (kP t) :=
    Finset.sum_add_distrib.symm.trans (Finset.sum_congr rfl fun y _ => congrArg₂ (fun u v : EReal => u + v)
      (congrArg₂ (fun u v : EReal => u * v) (blk0_at m c t r y) (blk1_at m c t y s))
      (congrArg₂ (fun u v : EReal => u * v) (blk2_at m c t r y) (blk3_at m c t y s)))
  rw [← e]
  by_cases h0 : t.val % 4 = 0
  · rw [if_pos h0, cur, outsAt0_A m c t h0 (by omega)]; frame_out
    rw [pay2_at, pay1_at]
  · by_cases h1 : t.val % 4 = 3
    · rw [if_neg h0, cur, outsAt0_C m c t h0 h1]; frame_out; simp only [read_unread_whole]
      rw [pay2_at]
    · rw [if_neg h0, cur, outsAt0_B m c t h0 h1]; frame_out; simp only [read_unread_whole]
      rw [pay2_at]

/-- A run's last point stores the whole sum. -/
theorem last (c : Dev nD) (t : Fin cfg0.N) (h : t.val % 4 = 3) (r : Fin 1024) (s : Fin 512) :
    ((cur m c t).1 : FVec Ideal S1024x512 .f32) (ix2 r s) = ((cur m c t).2 : FVec Ideal S1024x512 .f32) (ix2 r s) := by
  rw [cur, outsAt0_C m c t (by omega) h]; frame_out; try simp only [read_unread_whole]

/-- The result array is the sum of the two products. -/
theorem arr (c : Dev nD) : (dats m 0 c).arrAt 4 cfg0.N
    = spec (m ((c.tc : Thread nD τ).loc main_arg0)) (m ((c.tc : Thread nD τ).loc main_arg1))
          (m ((c.tc : Thread nD τ).loc main_arg2)) (m ((c.tc : Thread nD τ).loc main_arg3)) := by
  refine (dats m 0 c).arrAt_eq_of_covers 4 _ (by decide +kernel) fun t hf y => ?_
  have h3 := (flush0_4 t).mp hf
  blk_simp
  rw [after0_4]
  obtain ⟨r, s, rfl⟩ := pair 1024 512 y
  rw [emb4]
  refine (last m c t h3 r s).trans ?_
  have e := fold (by decide) (fun n hn => ((outsAt0 m c n hn).2 : FVec Ideal S1024x512 .f32) (ix2 r s))
    (fun q k => term (m ((c.tc : Thread nD τ).loc main_arg0)) (m ((c.tc : Thread nD τ).loc main_arg1))
          (m ((c.tc : Thread nD τ).loc main_arg2)) (m ((c.tc : Thread nD τ).loc main_arg3))
      (at_ rfl (iP q) r) (at_ rfl (jP q) s) k) (fun n hn => step m c ⟨n, hn⟩ r s) t.val t.isLt
  rw [h3, upTo_all] at e
  refine e.trans ((sum_at (n := 4) (s := 2816) rfl (both (m ((c.tc : Thread nD τ).loc main_arg0)) (m ((c.tc : Thread nD τ).loc main_arg1))
          (m ((c.tc : Thread nD τ).loc main_arg2)) (m ((c.tc : Thread nD τ).loc main_arg3)) _ _)).trans ?_)
  exact Finset.sum_add_distrib

end kernel

section reference
open Cert.ReferenceUpXIdeal Cert.ReferenceUpXIdeal.Gen

/-- The reference's two products, added. -/
theorem ref_at (a p : FVec Ideal S4096x11264 .bf16) (b q : FVec Ideal S11264x4096 .bf16) :
    addf (Host.dotGeneral dot_S4096x11264_S11264x4096_S4096x4096_1_0_0_1_n_n none (extf .f32 p bitsLt_bf16_f32)
        (extf .f32 q bitsLt_bf16_f32))
      (Host.dotGeneral dot_S4096x11264_S11264x4096_S4096x4096_1_0_0_1_n_n none (extf .f32 a bitsLt_bf16_f32)
        (extf .f32 b bitsLt_bf16_f32)) = spec a p b q := by
  funext i
  obtain ⟨r, s, rfl⟩ := pair 4096 4096 i
  pointwise []
  exact add_comm _ _

end reference

theorem frame_p : Cert.quiescent_KernelUpX := fun m ρ _ => Cert.KernelUpX.Gen.frame m ρ
theorem frame_pi : Cert.quiescent_KernelUpXIdeal := fun m ρ _ => Cert.KernelUpXIdeal.Gen.frame m ρ

/-- The reference runs, keeps its arguments and declares no semaphore. -/
theorem frame_ri : Cert.quiescent_ReferenceUpXIdeal := fun m ρ _ =>
  (θ_run Cert.ReferenceUpXIdeal.defs _ _).mono (fun r h => ⟨fun c => (h c).2, sem_eq_zero_of_no_sems (by decide) r.2⟩)
    (Cert.ReferenceUpXIdeal.Value.run (F := Ideal) m ρ)

theorem preserves : Cert.preserves_KernelUpX_KernelUpXIdeal := trivial

theorem algebraic : Cert.algebraic_KernelUpXIdeal_ReferenceUpXIdeal := by
  intro m ρ m' ρ' _ hagree
  refine ⟨_, (θ_run Cert.KernelUpXIdeal.defs _ _).mono (fun r h c => ⟨(h c).1.trans (arr m c), (h c).2⟩)
    (Cert.KernelUpXIdeal.Value.run_blocks (F := Ideal) m ρ), ?_⟩
  refine (θ_run Cert.ReferenceUpXIdeal.defs _ _).mono (fun r h c => ?_) (Cert.ReferenceUpXIdeal.Value.run (F := Ideal) m' ρ')
  refine ⟨(h c).1.trans ((ref_at _ _ _ _).trans ?_), (h c).2⟩
  rw [(hagree c).1, (hagree c).2.1, (hagree c).2.2.1, (hagree c).2.2.2]

end Cert.Hand.UpX
end
-- ==== Proof.Proj.lean ====
/- The input projection: the kernel's tiles and the reference's product, with the sixteen columns left out, are one sum. -/
module

public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Sums
public import proofs.«01_k».proof.Defs
public import proofs.«01_k».proof.Proof.Gen.KernelProj.Frame

@[expose] public section
set_option maxRecDepth 16384
noncomputable section
namespace Cert.Hand.Proj
open Idealize.ShloMosaic Idealize.ShloMosaic.TcCoe Idealize.SL.Sem Idealize.ShloMosaic.Pointwise Cert.Hand.Tiles

section kernel
open Cert.KernelProjIdeal Cert.KernelProjIdeal.Gen

/-- The product of `a` with the transpose of the rows of `w` in use. -/
def spec (a : FVec Ideal S4096x4096 .bf16) (w : FVec Ideal S16912x4096 .bf16) : FVec Ideal S4096x16896 .bf16 :=
  fun i => ∑ x : Fin 4096, a (ix2 (i 0) x) * w (ix2 (skip (i 1)) x)

/-- One tile's product. -/
theorem pay_at (a : FVec Ideal S1024x4096 .bf16) (w : FVec Ideal S768x4096 .bf16) (r : Fin 1024) (s : Fin 768) :
    k0_pay1 (F := Ideal) a w (ix2 r s) = ∑ x : Fin 4096, a (ix2 r x) * w (ix2 s x) := by
  pointwise [k0_pay1]

theorem idx : ∀ t : Fin cfg0.N,
    (win0_0.index t 0 = t.val / 22 ∧ win0_0.index t 1 = 0)
    ∧ (win0_1.index t 0 = 768 * (t.val % 22) + (if t.val % 22 < 8 then 0 else 16) ∧ win0_1.index t 1 = 0)
    ∧ (win0_2.index t 0 = t.val / 22 ∧ win0_2.index t 1 = t.val % 22) := by decide +kernel

/-- The tile's row and column of a grid point. -/
def iP (t : Fin cfg0.N) : Fin 4 := ⟨t.val / 22, by have := lt_of_lt_of_eq t.isLt N_0; omega⟩
def jP (t : Fin cfg0.N) : Fin 22 := ⟨t.val % 22, by omega⟩

theorem emb0 (t : Fin cfg0.N) (r : Fin 1024) (x : Fin 4096) :
    (((cfg0.win 0).blk t).view.emb (ix2 r x) : S4096x4096.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (s : Fin 768) (x : Fin 4096) :
    (((cfg0.win 1).blk t).view.emb (ix2 s x) : S16912x4096.Idx) = ix2 (skip (at_ rfl (jP t) s)) x := by
  have e := (idx t).2.1
  unfold at_ skip jP
  refine funext fun a => Fin.ext ?_
  match a with
  | ⟨0, _⟩ => blk_simp; refine (Pipeline.Window.rect_emb_val_off win0_1 t (ix2 s x) 0).trans ?_; show win0_1.index t 0 + s.val = _; rw [e.1]; dsimp only; split_ifs <;> omega
  | ⟨1, _⟩ => blk_simp; refine (Pipeline.Window.rect_emb_val_off win0_1 t (ix2 s x) 1).trans ?_; show win0_1.index t 1 + x.val = x.val; rw [e.2, Nat.zero_add]

theorem emb2 (t : Fin cfg0.N) (r : Fin 1024) (s : Fin 768) :
    ((win0_2.blk t).view.emb (ix2 r s) : S4096x16896.Idx) = ix2 (at_ rfl (iP t) r) (at_ rfl (jP t) s) := by
  have e := (idx t).2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 4096) :
    (iblk m c 0 t : FVec Ideal S1024x4096 .bf16) (ix2 r x)
      = (m ((c.tc : Thread nD τ).loc main_arg0) : FVec Ideal S4096x4096 .bf16) (ix2 (at_ rfl (iP t) r) x) :=
  (congrArg (V m c main_arg0) (emb0 t r x)).trans (congrFun (V_main_arg0 m c) _)

theorem blk1_at (c : Dev nD) (t : Fin cfg0.N) (s : Fin 768) (x : Fin 4096) :
    (iblk m c 1 t : FVec Ideal S768x4096 .bf16) (ix2 s x)
      = (m ((c.tc : Thread nD τ).loc main_arg1) : FVec Ideal S16912x4096 .bf16) (ix2 (skip (at_ rfl (jP t) s)) x) :=
  (congrArg (V m c main_arg1) (emb1 t s x)).trans (congrFun (V_main_arg1 m c) _)

/-- The tile stored is the tile's product. -/
theorem out_eq (a : FVec Ideal S1024x4096 .bf16) (w : FVec Ideal S768x4096 .bf16) :
    out0_2 (F := Ideal) a w = k0_pay1 (F := Ideal) a w := by
  unfold out0_2
  rw [View.canon_unit_zero zero2, View.ld_unit_zero zero2, View.ld_unit_zero zero2]

/-- The result array is the product of the two arguments. -/
theorem arr (c : Dev nD) : (dats m 0 c).arrAt 2 cfg0.N
    = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 1024 768 y
  rw [emb2, out_eq, pay_at]
  simp only [blk0_at, blk1_at]
  rfl

end kernel

section reference
open Cert.ReferenceProjIdeal Cert.ReferenceProjIdeal.Gen

/-- The reference's product without its sixteen columns, at an index. -/
theorem ref_at (a : FVec Ideal S4096x4096 .bf16) (w : FVec Ideal S16912x4096 .bf16) :
    truncf .bf16 (concatenate S4096x16896 1
      [⟨S4096x6144, (extractStridedSlice S4096x6144 ![0, 0] (Host.dotGeneral dot_S4096x4096_S16912x4096_S4096x16912_1_1_0_0_n_n none
        (extf .f32 a bitsLt_bf16_f32) (extf .f32 w bitsLt_bf16_f32)) slices_S4096x16912_S4096x6144_0_0)⟩,
       ⟨S4096x10752, (extractStridedSlice S4096x10752 ![0, 6160] (Host.dotGeneral dot_S4096x4096_S16912x4096_S4096x16912_1_1_0_0_n_n none
        (extf .f32 a bitsLt_bf16_f32) (extf .f32 w bitsLt_bf16_f32)) slices_S4096x16912_S4096x10752_0_6160)⟩]
      concatenates_S4096x6144_S4096x10752_S4096x16896_d1) bitsLt_bf16_f32 = spec a w := by
  funext i
  obtain ⟨r, s, rfl⟩ := pair 4096 16896 i
  by_cases h : s.val < 6144
  · have e : skip s = ⟨s.val, by omega⟩ := Fin.ext (by simp [skip, h])
    unfold spec
    pointwise [h, e]
  · have e : skip s = ⟨6160 + (s.val - 6144), by omega⟩ := Fin.ext (by simp [skip, h]; omega)
    unfold spec
    pointwise [h, e]

end reference

theorem frame_p : Cert.quiescent_KernelProj := fun m ρ _ => Cert.KernelProj.Gen.frame m ρ
theorem frame_pi : Cert.quiescent_KernelProjIdeal := fun m ρ _ => Cert.KernelProjIdeal.Gen.frame m ρ

/-- The reference runs, keeps its arguments and declares no semaphore. -/
theorem frame_ri : Cert.quiescent_ReferenceProjIdeal := fun m ρ _ =>
  (θ_run Cert.ReferenceProjIdeal.defs _ _).mono (fun r h => ⟨fun c => (h c).2, sem_eq_zero_of_no_sems (by decide) r.2⟩)
    (Cert.ReferenceProjIdeal.Value.run (F := Ideal) m ρ)

theorem preserves : Cert.preserves_KernelProj_KernelProjIdeal := trivial

theorem algebraic : Cert.algebraic_KernelProjIdeal_ReferenceProjIdeal := by
  intro m ρ m' ρ' _ hagree
  refine ⟨_, (θ_run Cert.KernelProjIdeal.defs _ _).mono (fun r h c => ⟨(h c).1.trans (arr m c), (h c).2⟩)
    (Cert.KernelProjIdeal.Value.run_blocks (F := Ideal) m ρ), ?_⟩
  refine (θ_run Cert.ReferenceProjIdeal.defs _ _).mono (fun r h c => ?_) (Cert.ReferenceProjIdeal.Value.run (F := Ideal) m' ρ')
  refine ⟨(h c).1.trans ((ref_at _ _).trans ?_), (h c).2⟩
  rw [(hagree c).1, (hagree c).2]

end Cert.Hand.Proj
end
-- ==== Proof.ProjX.lean ====
/- The gradient of the input of the projection: blocks of the contracted dimension, summed run by run, and the addend. -/
module

public import proofs.«01_k».proof.Proof.Gen.KernelProjXIdeal.Frame
public import proofs.«01_k».proof.Proof.Gen.KernelProjXIdeal.Value
public import proofs.«01_k».proof.Proof.Gen.ReferenceProjXIdeal.Run
public import proofs.«01_k».proof.Proof.Sums
public import proofs.«01_k».proof.Defs
public import proofs.«01_k».proof.Proof.Gen.KernelProjX.Frame

@[expose] public section
set_option maxRecDepth 16384
noncomputable section
namespace Cert.Hand.ProjX
open Idealize.ShloMosaic Idealize.ShloMosaic.TcCoe Idealize.SL.Sem Idealize.ShloMosaic.Pointwise Cert.Hand.Tiles

section kernel
open Cert.KernelProjXIdeal Cert.KernelProjXIdeal.Gen

/-- One term of the product of `a` with the rows of `b` in use, at an entry. -/
def hole (a : FVec Ideal S4096x16896 .bf16) (b : FVec Ideal S16912x4096 .bf16) (i j : Fin 4096) (x : Fin 16896) : EReal :=
  a (ix2 i x) * b (ix2 (skip x) j)

/-- The product of `a` with the rows of `b` in use, plus `d`. -/
def spec (a : FVec Ideal S4096x16896 .bf16) (b : FVec Ideal S16912x4096 .bf16) (d : FVec Ideal S4096x4096 .f32) :
    FVec Ideal S4096x4096 .f32 := fun i => (∑ x, hole a b (i 0) (i 1) x) + d i

/-- A run's part of the product at one entry: the sum over one block of the contracted dimension. -/
def term (a : FVec Ideal S4096x16896 .bf16) (b : FVec Ideal S16912x4096 .bf16) (i j : Fin 4096) (k : Fin 11) : EReal :=
  ∑ y : Fin 1536, hole a b i j (at_ rfl k y)

theorem pay1_at (r s : Fin 1024) : k0_pay1 (F := Ideal) (ix2 r s) = 0 := by
  pointwise [k0_pay1]

theorem pay2_at (v : FVec Ideal S1024x1024 .f32) (a : FVec Ideal S1024x1536 .bf16) (b : FVec Ideal S1536x1024 .bf16) (r s : Fin 1024) :
    k0_pay2 (F := Ideal) v a b (ix2 r s) = v (ix2 r s) + dotAt (p := 1024) (q := 1024) (n := 1536) a b r s := by
  pointwise [k0_pay2]
  rfl

theorem pay3_at (v w : FVec Ideal S1024x1024 .f32) (r s : Fin 1024) :
    k0_pay3 (F := Ideal) v w (ix2 r s) = v (ix2 r s) + w (ix2 r s) := by
  pointwise [k0_pay3]

theorem idx : ∀ t : Fin cfg0.N,
    (win0_0.index t 0 = t.val / 11 / 4 % 4 ∧ win0_0.index t 1 = t.val % 11) ∧ (win0_1.index t 0 = 1536 * (t.val % 11) + (if t.val % 11 < 4 then 0 else 16) ∧ win0_1.index t 1 = 1024 * (t.val / 11 % 4))
    ∧ (win0_2.index t 0 = t.val / 11 / 4 % 4 ∧ win0_2.index t 1 = t.val / 11 % 4) ∧ (win0_3.index t 0 = t.val / 11 / 4 % 4 ∧ win0_3.index t 1 = t.val / 11 % 4) := by decide +kernel

/-- The tile's row and column of a run of 11 grid points, and a point's place in its run. -/
def iP (q : ℕ) : Fin 4 := ⟨q / 4 % 4, by omega⟩
def jP (q : ℕ) : Fin 4 := ⟨q % 4, by omega⟩
def kP (t : Fin cfg0.N) : Fin 11 := ⟨t.val % 11, by omega⟩

theorem emb0 (t : Fin cfg0.N) (r : Fin 1024) (y : Fin 1536) :
    (((cfg0.win 0).blk t).view.emb (ix2 r y) : S4096x16896.Idx) = ix2 (at_ rfl (iP (t.val / 11)) r) (at_ rfl (kP t) y) := by
  have e := (idx t).1
  unfold at_ iP kP
  refine funext fun a => Fin.ext ?_
  match a with
  | ⟨0, _⟩ => blk_simp [e]; try simp; try omega
  | ⟨1, _⟩ => blk_simp [e]; try simp; try omega

theorem emb1 (t : Fin cfg0.N) (y : Fin 1536) (s : Fin 1024) :
    (((cfg0.win 1).blk t).view.emb (ix2 y s) : S16912x4096.Idx) = ix2 (skip (at_ rfl (kP t) y)) (at_ rfl (jP (t.val / 11)) s) := by
  have e := (idx t).2.1
  unfold at_ skip jP kP
  refine funext fun a => Fin.ext ?_
  match a with
  | ⟨0, _⟩ => blk_simp; refine (Pipeline.Window.rect_emb_val_off win0_1 t (ix2 y s) 0).trans ?_; show win0_1.index t 0 + y.val = _; rw [e.1]; dsimp only; split_ifs <;> omega
  | ⟨1, _⟩ => blk_simp; refine (Pipeline.Window.rect_emb_val_off win0_1 t (ix2 y s) 1).trans ?_; show win0_1.index t 1 + s.val = _; rw [e.2]

theorem emb2 (t : Fin cfg0.N) (r : Fin 1024) (s : Fin 1024) :
    (((cfg0.win 2).blk t).view.emb (ix2 r s) : S4096x4096.Idx) = ix2 (at_ rfl (iP (t.val / 11)) r) (at_ rfl (jP (t.val / 11)) s) := by
  have e := (idx t).2.2.1
  unfold at_ iP jP
  refine funext fun a => Fin.ext ?_
  match a with
  | ⟨0, _⟩ => blk_simp [e]; try simp; try omega
  | ⟨1, _⟩ => blk_simp [e]; try simp; try omega

theorem emb3 (t : Fin cfg0.N) (r : Fin 1024) (s : Fin 1024) :
    ((win0_3.blk t).view.emb (ix2 r s) : S4096x4096.Idx) = ix2 (at_ rfl (iP (t.val / 11)) r) (at_ rfl (jP (t.val / 11)) s) := by
  have e := (idx t).2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (y : Fin 1536) :
    (iblk m c 0 t : FVec Ideal S1024x1536 .bf16) (ix2 r y)
      = (m ((c.tc : Thread nD τ).loc main_arg0) : FVec Ideal S4096x16896 .bf16) (ix2 (at_ rfl (iP (t.val / 11)) r) (at_ rfl (kP t) y)) :=
  (congrArg (V m c main_arg0) (emb0 t r y)).trans (congrFun (V_main_arg0 m c) _)

theorem blk1_at (c : Dev nD) (t : Fin cfg0.N) (y : Fin 1536) (s : Fin 1024) :
    (iblk m c 1 t : FVec Ideal S1536x1024 .bf16) (ix2 y s)
      = (m ((c.tc : Thread nD τ).loc main_arg1) : FVec Ideal S16912x4096 .bf16) (ix2 (skip (at_ rfl (kP t) y)) (at_ rfl (jP (t.val / 11)) s)) :=
  (congrArg (V m c main_arg1) (emb1 t y s)).trans (congrFun (V_main_arg1 m c) _)

theorem blk2_at (c : Dev nD) (t : Fin cfg0.N) (r : Fin 1024) (s : Fin 1024) :
    (iblk m c 2 t : FVec Ideal S1024x1024 .f32) (ix2 r s)
      = (m ((c.tc : Thread nD τ).loc main_arg2) : FVec Ideal S4096x4096 .f32) (ix2 (at_ rfl (iP (t.val / 11)) r) (at_ rfl (jP (t.val / 11)) s)) :=
  (congrArg (V m c main_arg2) (emb2 t r s)).trans (congrFun (V_main_arg2 m c) _)

/-- What the point before `t` left, and what `t` leaves. -/
abbrev prev (c : Dev nD) (t : Fin cfg0.N) := outsAt0 m c (t.val - 1) (lt_of_le_of_lt (Nat.sub_le _ _) t.isLt)
abbrev cur (c : Dev nD) (t : Fin cfg0.N) := outsAt0 m c t.val t.isLt

/-- A point adds its block's part to the running sum, which a run's first point begins at zero. -/
theorem step (c : Dev nD) (t : Fin cfg0.N) (r s : Fin 1024) :
    ((cur m c t).2 : FVec Ideal S1024x1024 .f32) (ix2 r s)
      = (if t.val % 11 = 0 then 0 else ((prev m c t).2 : FVec Ideal S1024x1024 .f32) (ix2 r s))
        + term (m ((c.tc : Thread nD τ).loc main_arg0)) (m ((c.tc : Thread nD τ).loc main_arg1))
          (at_ rfl (iP (t.val / 11)) r) (at_ rfl (jP (t.val / 11)) s) (kP t) := by
  have e : dotAt (p := 1024) (q := 1024) (n := 1536) (f := .bf16) (g := .bf16) (iblk m c 0 t) (iblk m c 1 t) r s
      = term (m ((c.tc : Thread nD τ).loc main_arg0)) (m ((c.tc : Thread nD τ).loc main_arg1))
          (at_ rfl (iP (t.val / 11)) r) (at_ rfl (jP (t.val / 11)) s) (kP t) := by
    exact Finset.sum_congr rfl fun y _ => congrArg₂ (fun u v : EReal => u * v) (blk0_at m c t r y) (blk1_at m c t y s)
  rw [← e]
  by_cases h0 : t.val % 11 = 0
  · rw [if_pos h0, cur, outsAt0_A m c t h0 (by omega)]; frame_out
    rw [pay2_at, pay1_at]

  · by_cases h1 : t.val % 11 = 10
    · rw [if_neg h0, cur, outsAt0_C m c t h0 h1]; frame_out; simp only [read_unread_whole]
      rw [pay2_at]
    · rw [if_neg h0, cur, outsAt0_B m c t h0 h1]; frame_out; simp only [read_unread_whole]
      rw [pay2_at]

/-- A run's last point stores the whole sum plus the addend's block. -/
theorem last (c : Dev nD) (t : Fin cfg0.N) (h : t.val % 11 = 10) (r s : Fin 1024) :
    ((cur m c t).1 : FVec Ideal S1024x1024 .f32) (ix2 r s)
      = ((cur m c t).2 : FVec Ideal S1024x1024 .f32) (ix2 r s) + (iblk m c 2 t : FVec Ideal S1024x1024 .f32) (ix2 r s) := by
  rw [cur, outsAt0_C m c t (by omega) h]; frame_out; simp only [read_unread_whole]
  rw [pay3_at]

/-- The result array is the product plus the addend. -/
theorem arr (c : Dev nD) : (dats m 0 c).arrAt 3 cfg0.N
    = spec (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have h3 := (flush0_3 t).mp hf
  blk_simp
  rw [after0_3]
  obtain ⟨r, s, rfl⟩ := pair 1024 1024 y
  rw [emb3]
  refine (last m c t h3 r s).trans ?_
  have e := fold (by decide) (fun n hn => ((outsAt0 m c n hn).2 : FVec Ideal S1024x1024 .f32) (ix2 r s))
    (fun q k => term (m ((c.tc : Thread nD τ).loc main_arg0)) (m ((c.tc : Thread nD τ).loc main_arg1))
      (at_ rfl (iP q) r) (at_ rfl (jP q) s) k) (fun n hn => step m c ⟨n, hn⟩ r s) t.val t.isLt
  rw [h3, upTo_all] at e
  rw [blk2_at]
  refine congrArg (· + _) (e.trans ?_)
  exact sum_at (n := 11) (s := 1536) rfl (hole (m ((c.tc : Thread nD τ).loc main_arg0)) (m ((c.tc : Thread nD τ).loc main_arg1)) _ _)

end kernel

section reference
open Cert.ReferenceProjXIdeal Cert.ReferenceProjXIdeal.Gen

/-- The array the reference contracts: `a` with sixteen zero columns put in. -/
def wide (a : FVec Ideal S4096x16896 .bf16) : FVec Ideal S4096x16912 .f32 :=
  concatenate S4096x16912 1
    [⟨S4096x6144, (extractStridedSlice S4096x6144 ![0, 0] (extf (F := Ideal) .f32 a bitsLt_bf16_f32) slices_S4096x16896_S4096x6144_0_0)⟩,
     ⟨S4096x16, (broadcastInDim S4096x16 ![] bcast_S_S4096x16 (constant (F := Ideal) S_ .f32 0x00000000#32))⟩,
     ⟨S4096x10752, (extractStridedSlice S4096x10752 ![0, 6144] (extf (F := Ideal) .f32 a bitsLt_bf16_f32) slices_S4096x16896_S4096x10752_0_6144)⟩]
    concatenates_S4096x6144_S4096x16_S4096x10752_S4096x16912_d1

theorem wide_zero (a : FVec Ideal S4096x16896 .bf16) (r : Fin 4096) (x : Fin 16912) (h1 : 6144 ≤ x.val) (h2 : x.val < 6160) :
    wide a (ix2 r x) = 0 := by
  have h3 : ¬ x.val < 6144 := by omega
  have h4 : x.val - 6144 < 16 := by omega
  pointwise [wide, h3, h4]

theorem wide_skip (a : FVec Ideal S4096x16896 .bf16) (r : Fin 4096) (y : Fin 16896) :
    wide a (ix2 r (skip y)) = a (ix2 r y) := by
  by_cases h : y.val < 6144
  · have e : skip y = ⟨y.val, by omega⟩ := Fin.ext (by simp [skip, h])
    rw [e]
    pointwise [wide, h]
  · have e : skip y = ⟨y.val + 16, by omega⟩ := Fin.ext (by simp [skip, h])
    rw [e]
    have h3 : ¬ y.val + 16 < 6144 := by omega
    have h4 : ¬ y.val + 16 - 6144 < 16 := by omega
    have h5 : 6144 + (y.val + 16 - 6144 - 16) = y.val := by omega
    pointwise [wide, h3, h4, h5]

/-- The reference's product plus its addend. -/
theorem ref_at (a : FVec Ideal S4096x16896 .bf16) (b : FVec Ideal S16912x4096 .bf16) (d : FVec Ideal S4096x4096 .f32) :
    addf d (Host.dotGeneral dot_S4096x16912_S16912x4096_S4096x4096_1_0_0_1_n_n none (wide a)
      (extf .f32 b bitsLt_bf16_f32)) = spec a b d := by
  funext i
  obtain ⟨r, s, rfl⟩ := pair 4096 4096 i
  have e : ∑ x : Fin 16912, wide a (ix2 r x) * b (ix2 x s) = ∑ y, hole a b r s y := by
    rw [sum_skip _ fun x h1 h2 => by rw [wide_zero a r x h1 h2, zero_mul]]
    exact Finset.sum_congr rfl fun y _ => by rw [wide_skip]; rfl
  pointwise []
  rw [e]
  exact add_comm _ _

end reference

theorem frame_p : Cert.quiescent_KernelProjX := fun m ρ _ => Cert.KernelProjX.Gen.frame m ρ
theorem frame_pi : Cert.quiescent_KernelProjXIdeal := fun m ρ _ => Cert.KernelProjXIdeal.Gen.frame m ρ

/-- The reference runs, keeps its arguments and declares no semaphore. -/
theorem frame_ri : Cert.quiescent_ReferenceProjXIdeal := fun m ρ _ =>
  (θ_run Cert.ReferenceProjXIdeal.defs _ _).mono (fun r h => ⟨fun c => (h c).2, sem_eq_zero_of_no_sems (by decide) r.2⟩)
    (Cert.ReferenceProjXIdeal.Value.run (F := Ideal) m ρ)

theorem preserves : Cert.preserves_KernelProjX_KernelProjXIdeal := trivial

theorem algebraic : Cert.algebraic_KernelProjXIdeal_ReferenceProjXIdeal := by
  intro m ρ m' ρ' _ hagree
  refine ⟨_, (θ_run Cert.KernelProjXIdeal.defs _ _).mono (fun r h c => ⟨(h c).1.trans (arr m c), (h c).2⟩)
    (Cert.KernelProjXIdeal.Value.run_blocks (F := Ideal) m ρ), ?_⟩
  refine (θ_run Cert.ReferenceProjXIdeal.defs _ _).mono (fun r h c => ?_) (Cert.ReferenceProjXIdeal.Value.run (F := Ideal) m' ρ')
  refine ⟨(h c).1.trans ((ref_at _ _ _).trans ?_), (h c).2⟩
  rw [(hagree c).1, (hagree c).2.1, (hagree c).2.2]

end Cert.Hand.ProjX
end
-- ==== Proof.MixX.lean ====
/- The gradient through the output projection and the mix of the two branches: the kernel's tiles and the reference's gradients are one value. -/
module

public import proofs.«01_k».proof.Proof.Gen.KernelMixXIdeal.Frame
public import proofs.«01_k».proof.Proof.Gen.KernelMixXIdeal.Value
public import proofs.«01_k».proof.Proof.Gen.ReferenceMixXIdeal.Run
public import proofs.«01_k».proof.Proof.Sums
public import proofs.«01_k».proof.Defs
public import proofs.«01_k».proof.Proof.Gen.KernelMixX.Frame

@[expose] public section
set_option maxRecDepth 16384
noncomputable section
namespace Cert.Hand.MixX
open Idealize.ShloMosaic Idealize.ShloMosaic.TcCoe Idealize.SL.Sem Idealize.ShloMosaic.Pointwise Cert.Hand.Tiles

section kernel
open Cert.KernelMixXIdeal Cert.KernelMixXIdeal.Gen

/-- The two gates' columns of the projection. -/
def colA (j : Fin 4096) : Fin 16896 := ⟨8704 + j.val, by omega⟩
def colB (j : Fin 4096) : Fin 16896 := ⟨12800 + j.val, by omega⟩

/-- The product of `a` with `b`'s transpose. -/
def prod (a b : FVec Ideal S4096x4096 .bf16) : FVec Ideal S4096x4096 .f32 := fun i => ∑ x : Fin 4096, a (ix2 (i 0) x) * b (ix2 (i 1) x)

/-- The gradients of the two branches' projections and of the two gates. -/
def dyA (a b : FVec Ideal S4096x4096 .bf16) (p : FVec Ideal S4096x16896 .bf16) : FVec Ideal S4096x4096 .bf16 :=
  fun i => prod a b i * sg (p (ix2 (i 0) (colA (i 1))))
def dyB (a b : FVec Ideal S4096x4096 .bf16) (p : FVec Ideal S4096x16896 .bf16) : FVec Ideal S4096x4096 .bf16 :=
  fun i => prod a b i * sg (p (ix2 (i 0) (colB (i 1))))
def dgA (a b y : FVec Ideal S4096x4096 .bf16) (p : FVec Ideal S4096x16896 .bf16) : FVec Ideal S4096x4096 .bf16 :=
  fun i => prod a b i * y i * sg (p (ix2 (i 0) (colA (i 1)))) * (1 - sg (p (ix2 (i 0) (colA (i 1)))))
def dgB (a b y : FVec Ideal S4096x4096 .bf16) (p : FVec Ideal S4096x16896 .bf16) : FVec Ideal S4096x4096 .bf16 :=
  fun i => prod a b i * y i * sg (p (ix2 (i 0) (colB (i 1)))) * (1 - sg (p (ix2 (i 0) (colB (i 1)))))

section tile
variable (a : FVec Ideal S1024x4096 .bf16) (b : FVec Ideal S256x4096 .bf16) (y g : FVec Ideal S1024x256 .bf16) (r : Fin 1024) (s : Fin 256)

theorem pay5_at : k0_pay5 (F := Ideal) a b (ix2 r s) = ∑ x : Fin 4096, a (ix2 r x) * b (ix2 s x) := by
  pointwise [k0_pay5]

theorem pay6_at : k0_pay6 (F := Ideal) g (ix2 r s) = sg (g (ix2 r s)) := by
  pointwise [k0_pay6, sg]
  rw [zero_sub]

theorem pay7_at : k0_pay7 (F := Ideal) g (ix2 r s) = sg (g (ix2 r s)) := by
  pointwise [k0_pay7, sg]
  rw [zero_sub]

theorem dyA_tile : k0_pay1 (F := Ideal) (k0_pay8 (F := Ideal) a b g) (ix2 r s)
    = (∑ x : Fin 4096, a (ix2 r x) * b (ix2 s x)) * sg (g (ix2 r s)) := by
  pointwise [k0_pay1, k0_pay8]
  rw [pay5_at, pay6_at]

theorem dyB_tile : k0_pay2 (F := Ideal) (k0_pay9 (F := Ideal) a b g) (ix2 r s)
    = (∑ x : Fin 4096, a (ix2 r x) * b (ix2 s x)) * sg (g (ix2 r s)) := by
  pointwise [k0_pay2, k0_pay9]
  rw [pay5_at, pay7_at]

theorem dgA_tile : k0_pay3 (F := Ideal) (k0_pay10 (F := Ideal) a b y g) (ix2 r s)
    = (∑ x : Fin 4096, a (ix2 r x) * b (ix2 s x)) * y (ix2 r s) * sg (g (ix2 r s)) * (1 - sg (g (ix2 r s))) := by
  pointwise [k0_pay3, k0_pay10]
  rw [pay5_at, pay6_at]

theorem dgB_tile : k0_pay4 (F := Ideal) (k0_pay11 (F := Ideal) a b y g) (k0_pay12 (F := Ideal) g) (ix2 r s)
    = (∑ x : Fin 4096, a (ix2 r x) * b (ix2 s x)) * y (ix2 r s) * sg (g (ix2 r s)) * (1 - sg (g (ix2 r s))) := by
  pointwise [k0_pay4, k0_pay11, k0_pay12]
  rw [pay5_at, pay7_at]
end tile

theorem idx : ∀ t : Fin cfg0.N,
    (win0_0.index t 0 = t.val / 16 ∧ win0_0.index t 1 = 0) ∧ (win0_1.index t 0 = t.val % 16 ∧ win0_1.index t 1 = 0)
    ∧ (win0_2.index t 0 = t.val / 16 ∧ win0_2.index t 1 = t.val % 16) ∧ (win0_3.index t 0 = t.val / 16 ∧ win0_3.index t 1 = t.val % 16)
    ∧ (win0_4.index t 0 = t.val / 16 ∧ win0_4.index t 1 = 34 + t.val % 16) ∧ (win0_5.index t 0 = t.val / 16 ∧ win0_5.index t 1 = 50 + t.val % 16) := by
  decide +kernel

theorem idx' : ∀ t : Fin cfg0.N,
    (win0_6.index t 0 = t.val / 16 ∧ win0_6.index t 1 = t.val % 16) ∧ (win0_7.index t 0 = t.val / 16 ∧ win0_7.index t 1 = t.val % 16)
    ∧ (win0_8.index t 0 = t.val / 16 ∧ win0_8.index t 1 = t.val % 16)
    ∧ (win0_9.index t 0 = t.val / 16 ∧ win0_9.index t 1 = t.val % 16) := by decide +kernel

/-- The tile's row and column of a grid point. -/
def iP (t : Fin cfg0.N) : Fin 4 := ⟨t.val / 16, by have := lt_of_lt_of_eq t.isLt N_0; omega⟩
def jP (t : Fin cfg0.N) : Fin 16 := ⟨t.val % 16, by omega⟩

theorem emb0 (t : Fin cfg0.N) (r : Fin 1024) (x : Fin 4096) :
    (((cfg0.win 0).blk t).view.emb (ix2 r x) : S4096x4096.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (s : Fin 256) (x : Fin 4096) :
    (((cfg0.win 1).blk t).view.emb (ix2 s x) : S4096x4096.Idx) = ix2 (at_ rfl (jP t) s) x := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 256) :
    (((cfg0.win 2).blk t).view.emb (ix2 r s) : S4096x4096.Idx) = ix2 (at_ rfl (iP t) r) (at_ rfl (jP t) s) := by
  have e := (idx t).2.2.1
  unfold at_ iP jP
  refine funext fun a => Fin.ext ?_
  match a with
  | ⟨0, _⟩ => blk_simp [e]; try simp; try omega
  | ⟨1, _⟩ => blk_simp [e]; try simp; try omega

theorem emb3 (t : Fin cfg0.N) (r : Fin 1024) (s : Fin 256) :
    (((cfg0.win 3).blk t).view.emb (ix2 r s) : S4096x4096.Idx) = ix2 (at_ rfl (iP t) r) (at_ rfl (jP t) s) := by
  have e := (idx t).2.2.2.1
  unfold at_ iP jP
  refine funext fun a => Fin.ext ?_
  match a with
  | ⟨0, _⟩ => blk_simp [e]; try simp; try omega
  | ⟨1, _⟩ => blk_simp [e]; try simp; try omega

theorem emb4 (t : Fin cfg0.N) (r : Fin 1024) (s : Fin 256) :
    (((cfg0.win 4).blk t).view.emb (ix2 r s) : S4096x16896.Idx) = ix2 (at_ rfl (iP t) r) (colA (at_ rfl (jP t) s)) := by
  have e := (idx t).2.2.2.2.1
  unfold at_ iP jP colA
  refine funext fun a => Fin.ext ?_
  match a with
  | ⟨0, _⟩ => blk_simp [e]; try simp; try omega
  | ⟨1, _⟩ => blk_simp [e]; try simp; try omega

theorem emb5 (t : Fin cfg0.N) (r : Fin 1024) (s : Fin 256) :
    (((cfg0.win 5).blk t).view.emb (ix2 r s) : S4096x16896.Idx) = ix2 (at_ rfl (iP t) r) (colB (at_ rfl (jP t) s)) := by
  have e := (idx t).2.2.2.2.2
  unfold at_ iP jP colB
  refine funext fun a => Fin.ext ?_
  match a with
  | ⟨0, _⟩ => blk_simp [e]; try simp; try omega
  | ⟨1, _⟩ => blk_simp [e]; try simp; try omega

theorem emb6 (t : Fin cfg0.N) (r : Fin 1024) (s : Fin 256) :
    ((win0_6.blk t).view.emb (ix2 r s) : S4096x4096.Idx) = ix2 (at_ rfl (iP t) r) (at_ rfl (jP t) s) := by
  have e := (idx' t).1
  unfold at_ iP jP
  refine funext fun a => Fin.ext ?_
  match a with
  | ⟨0, _⟩ => blk_simp [e]; try simp; try omega
  | ⟨1, _⟩ => blk_simp [e]; try simp; try omega

theorem emb7 (t : Fin cfg0.N) (r : Fin 1024) (s : Fin 256) :
    ((win0_7.blk t).view.emb (ix2 r s) : S4096x4096.Idx) = ix2 (at_ rfl (iP t) r) (at_ rfl (jP t) s) := by
  have e := (idx' t).2.1
  unfold at_ iP jP
  refine funext fun a => Fin.ext ?_
  match a with
  | ⟨0, _⟩ => blk_simp [e]; try simp; try omega
  | ⟨1, _⟩ => blk_simp [e]; try simp; try omega

theorem emb8 (t : Fin cfg0.N) (r : Fin 1024) (s : Fin 256) :
    ((win0_8.blk t).view.emb (ix2 r s) : S4096x4096.Idx) = ix2 (at_ rfl (iP t) r) (at_ rfl (jP t) s) := by
  have e := (idx' t).2.2.1
  unfold at_ iP jP
  refine funext fun a => Fin.ext ?_
  match a with
  | ⟨0, _⟩ => blk_simp [e]; try simp; try omega
  | ⟨1, _⟩ => blk_simp [e]; try simp; try omega

theorem emb9 (t : Fin cfg0.N) (r : Fin 1024) (s : Fin 256) :
    ((win0_9.blk t).view.emb (ix2 r s) : S4096x4096.Idx) = ix2 (at_ rfl (iP t) r) (at_ rfl (jP t) s) := by
  have e := (idx' t).2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 4096) :
    (iblk m c 0 t : FVec Ideal S1024x4096 .bf16) (ix2 r x)
      = (m ((c.tc : Thread nD τ).loc main_arg0) : FVec Ideal S4096x4096 .bf16) (ix2 (at_ rfl (iP t) r) x) :=
  (congrArg (V m c main_arg0) (emb0 t r x)).trans (congrFun (V_main_arg0 m c) _)

theorem blk1_at (c : Dev nD) (t : Fin cfg0.N) (s : Fin 256) (x : Fin 4096) :
    (iblk m c 1 t : FVec Ideal S256x4096 .bf16) (ix2 s x)
      = (m ((c.tc : Thread nD τ).loc main_arg1) : FVec Ideal S4096x4096 .bf16) (ix2 (at_ rfl (jP t) s) x) :=
  (congrArg (V m c main_arg1) (emb1 t s x)).trans (congrFun (V_main_arg1 m c) _)

theorem blk2_at (c : Dev nD) (t : Fin cfg0.N) (r : Fin 1024) (s : Fin 256) :
    (iblk m c 2 t : FVec Ideal S1024x256 .bf16) (ix2 r s)
      = (m ((c.tc : Thread nD τ).loc main_arg2) : FVec Ideal S4096x4096 .bf16) (ix2 (at_ rfl (iP t) r) (at_ rfl (jP t) s)) :=
  (congrArg (V m c main_arg2) (emb2 t r s)).trans (congrFun (V_main_arg2 m c) _)

theorem blk3_at (c : Dev nD) (t : Fin cfg0.N) (r : Fin 1024) (s : Fin 256) :
    (iblk m c 3 t : FVec Ideal S1024x256 .bf16) (ix2 r s)
      = (m ((c.tc : Thread nD τ).loc main_arg3) : FVec Ideal S4096x4096 .bf16) (ix2 (at_ rfl (iP t) r) (at_ rfl (jP t) s)) :=
  (congrArg (V m c main_arg3) (emb3 t r s)).trans (congrFun (V_main_arg3 m c) _)

theorem blk4_at (c : Dev nD) (t : Fin cfg0.N) (r : Fin 1024) (s : Fin 256) :
    (iblk m c 4 t : FVec Ideal S1024x256 .bf16) (ix2 r s)
      = (m ((c.tc : Thread nD τ).loc main_arg4) : FVec Ideal S4096x16896 .bf16) (ix2 (at_ rfl (iP t) r) (colA (at_ rfl (jP t) s))) :=
  (congrArg (V m c main_arg4) (emb4 t r s)).trans (congrFun (V_main_arg4 m c) _)

theorem blk5_at (c : Dev nD) (t : Fin cfg0.N) (r : Fin 1024) (s : Fin 256) :
    (iblk m c 5 t : FVec Ideal S1024x256 .bf16) (ix2 r s)
      = (m ((c.tc : Thread nD τ).loc main_arg4) : FVec Ideal S4096x16896 .bf16) (ix2 (at_ rfl (iP t) r) (colB (at_ rfl (jP t) s))) :=
  (congrArg (V m c main_arg4) (emb5 t r s)).trans (congrFun (V_main_arg4 m c) _)

section stored
variable (a : FVec Ideal S1024x4096 .bf16) (b : FVec Ideal S256x4096 .bf16) (y z g h : FVec Ideal S1024x256 .bf16)

/-- The tiles stored. -/
theorem out6_eq : out0_6 (F := Ideal) a b y z g h = k0_pay1 (F := Ideal) (k0_pay8 (F := Ideal) a b g) := by
  unfold out0_6
  rw [View.canon_unit_zero zero2, View.ld_unit_zero zero2, View.ld_unit_zero zero2, View.ld_unit_zero zero2]
theorem out7_eq : out0_7 (F := Ideal) a b y z g h = k0_pay2 (F := Ideal) (k0_pay9 (F := Ideal) a b h) := by
  unfold out0_7
  rw [View.canon_unit_zero zero2, View.ld_unit_zero zero2, View.ld_unit_zero zero2, View.ld_unit_zero zero2]
theorem out8_eq : out0_8 (F := Ideal) a b y z g h = k0_pay3 (F := Ideal) (k0_pay10 (F := Ideal) a b y g) := by
  unfold out0_8
  rw [View.canon_unit_zero zero2, View.ld_unit_zero zero2, View.ld_unit_zero zero2, View.ld_unit_zero zero2, View.ld_unit_zero zero2]
theorem out9_eq : out0_9 (F := Ideal) a b y z g h = k0_pay4 (F := Ideal) (k0_pay11 (F := Ideal) a b z h) (k0_pay12 (F := Ideal) h) := by
  unfold out0_9
  rw [View.canon_unit_zero zero2, View.ld_unit_zero zero2, View.ld_unit_zero zero2, View.ld_unit_zero zero2, View.ld_unit_zero zero2]
end stored

theorem arr6 (c : Dev nD) : (dats m 0 c).arrAt 6 cfg0.N
    = dyA (m ((c.tc : Thread nD τ).loc main_arg0)) (m ((c.tc : Thread nD τ).loc main_arg1)) (m ((c.tc : Thread nD τ).loc main_arg4)) := by
  refine (dats m 0 c).arrAt_eq_of_covers 6 _ (by decide +kernel) fun t hf y => ?_
  blk_simp
  rw [after0_6]
  obtain ⟨r, s, rfl⟩ := pair 1024 256 y
  rw [emb6, out6_eq, dyA_tile]
  simp only [blk0_at, blk1_at, blk2_at, blk3_at, blk4_at, blk5_at]
  rfl

theorem arr7 (c : Dev nD) : (dats m 0 c).arrAt 7 cfg0.N
    = dyB (m ((c.tc : Thread nD τ).loc main_arg0)) (m ((c.tc : Thread nD τ).loc main_arg1)) (m ((c.tc : Thread nD τ).loc main_arg4)) := by
  refine (dats m 0 c).arrAt_eq_of_covers 7 _ (by decide +kernel) fun t hf y => ?_
  blk_simp
  rw [after0_7]
  obtain ⟨r, s, rfl⟩ := pair 1024 256 y
  rw [emb7, out7_eq, dyB_tile]
  simp only [blk0_at, blk1_at, blk2_at, blk3_at, blk4_at, blk5_at]
  rfl

theorem arr8 (c : Dev nD) : (dats m 0 c).arrAt 8 cfg0.N
    = dgA (m ((c.tc : Thread nD τ).loc main_arg0)) (m ((c.tc : Thread nD τ).loc main_arg1)) (m ((c.tc : Thread nD τ).loc main_arg2)) (m ((c.tc : Thread nD τ).loc main_arg4)) := by
  refine (dats m 0 c).arrAt_eq_of_covers 8 _ (by decide +kernel) fun t hf y => ?_
  blk_simp
  rw [after0_8]
  obtain ⟨r, s, rfl⟩ := pair 1024 256 y
  rw [emb8, out8_eq, dgA_tile]
  simp only [blk0_at, blk1_at, blk2_at, blk3_at, blk4_at, blk5_at]
  rfl

theorem arr9 (c : Dev nD) : (dats m 0 c).arrAt 9 cfg0.N
    = dgB (m ((c.tc : Thread nD τ).loc main_arg0)) (m ((c.tc : Thread nD τ).loc main_arg1)) (m ((c.tc : Thread nD τ).loc main_arg3)) (m ((c.tc : Thread nD τ).loc main_arg4)) := by
  refine (dats m 0 c).arrAt_eq_of_covers 9 _ (by decide +kernel) fun t hf y => ?_
  blk_simp
  rw [after0_9]
  obtain ⟨r, s, rfl⟩ := pair 1024 256 y
  rw [emb9, out9_eq, dgB_tile]
  simp only [blk0_at, blk1_at, blk2_at, blk3_at, blk4_at, blk5_at]
  rfl

end kernel

section reference
open Cert.ReferenceMixXIdeal Cert.ReferenceMixXIdeal.Gen

/-- The reference's product. -/
theorem dot_at (a b : FVec Ideal S4096x4096 .bf16) :
    Host.dotGeneral dot_S4096x4096_S4096x4096_S4096x4096_1_1_0_0_n_n none (extf .f32 a bitsLt_bf16_f32)
      (extf .f32 b bitsLt_bf16_f32) = prod a b := by
  funext i
  obtain ⟨r, s, rfl⟩ := pair 4096 4096 i
  pointwise []
  rfl

/-- The logistic function of a gate's columns, as the reference writes it. -/
theorem sgA_at (p : FVec Ideal S4096x16896 .bf16) :
    Host.divf (broadcastInDim S4096x4096 ![] bcast_S_S4096x4096 (constant S_ .f32 0x3F800000#32))
      (addf (broadcastInDim S4096x4096 ![] bcast_S_S4096x4096 (constant S_ .f32 0x3F800000#32)) (Host.exp (Host.negf
        (extf .f32 (extractStridedSlice S4096x4096 ![0, 8704] p slices_S4096x16896_S4096x4096_0_8704) bitsLt_bf16_f32))))
      = (fun i => sg (p (ix2 (i 0) (colA (i 1)))) : FVec Ideal S4096x4096 .f32) := by
  funext i
  obtain ⟨r, s, rfl⟩ := pair 4096 4096 i
  unfold colA
  pointwise [sg]

/-- The logistic function of a gate's columns, as the reference writes it. -/
theorem sgB_at (p : FVec Ideal S4096x16896 .bf16) :
    Host.divf (broadcastInDim S4096x4096 ![] bcast_S_S4096x4096 (constant S_ .f32 0x3F800000#32))
      (addf (broadcastInDim S4096x4096 ![] bcast_S_S4096x4096 (constant S_ .f32 0x3F800000#32)) (Host.exp (Host.negf
        (extf .f32 (extractStridedSlice S4096x4096 ![0, 12800] p slices_S4096x16896_S4096x4096_0_12800) bitsLt_bf16_f32))))
      = (fun i => sg (p (ix2 (i 0) (colB (i 1)))) : FVec Ideal S4096x4096 .f32) := by
  funext i
  obtain ⟨r, s, rfl⟩ := pair 4096 4096 i
  unfold colB
  pointwise [sg]

/-- The reference's gradients, of its product and logistic function. -/
theorem dy_at (d s : FVec Ideal S4096x4096 .f32) (i : S4096x4096.Idx) :
    truncf .bf16 (mulf s d) bitsLt_bf16_f32 i = d i * s i := by
  have h : truncf .bf16 (mulf s d) bitsLt_bf16_f32 i = s i * d i := rfl
  rw [h, mul_comm]

theorem dg_at (d s : FVec Ideal S4096x4096 .f32) (y : FVec Ideal S4096x4096 .bf16) (i : S4096x4096.Idx) :
    truncf .bf16 (mulf (mulf d (extf .f32 y bitsLt_bf16_f32)) (mulf s
      (subf (broadcastInDim S4096x4096 ![] bcast_S_S4096x4096 (constant S_ .f32 0x3F800000#32)) s))) bitsLt_bf16_f32 i
      = d i * y i * s i * (1 - s i) := by
  obtain ⟨r, s, rfl⟩ := pair 4096 4096 i
  pointwise []
  exact (mul_assoc _ _ _).symm

end reference

theorem frame_p : Cert.quiescent_KernelMixX := fun m ρ _ => Cert.KernelMixX.Gen.frame m ρ
theorem frame_pi : Cert.quiescent_KernelMixXIdeal := fun m ρ _ => Cert.KernelMixXIdeal.Gen.frame m ρ

/-- The reference runs, keeps its arguments and declares no semaphore. -/
theorem frame_ri : Cert.quiescent_ReferenceMixXIdeal := fun m ρ _ =>
  (θ_run Cert.ReferenceMixXIdeal.defs _ _).mono (fun r h => ⟨fun c => (h c).2.2.2.2, sem_eq_zero_of_no_sems (by decide) r.2⟩)
    (Cert.ReferenceMixXIdeal.Value.run (F := Ideal) m ρ)

theorem preserves : Cert.preserves_KernelMixX_KernelMixXIdeal := trivial

set_option maxHeartbeats 1000000 in
theorem algebraic : Cert.algebraic_KernelMixXIdeal_ReferenceMixXIdeal := by
  intro m ρ m' ρ' _ hagree
  refine ⟨_, _, _, _, (θ_run Cert.KernelMixXIdeal.defs _ _).mono (fun r h c => ⟨(h c).1.trans (arr6 m c), (h c).2.1.trans (arr7 m c),
    (h c).2.2.1.trans (arr8 m c), (h c).2.2.2.1.trans (arr9 m c), (h c).2.2.2.2⟩) (Cert.KernelMixXIdeal.Value.run_blocks (F := Ideal) m ρ), ?_⟩
  refine (θ_run Cert.ReferenceMixXIdeal.defs _ _).mono (fun r h c => ?_) (Cert.ReferenceMixXIdeal.Value.run (F := Ideal) m' ρ')
  rw [← (hagree c).1, ← (hagree c).2.1, ← (hagree c).2.2.1, ← (hagree c).2.2.2.1, ← (hagree c).2.2.2.2]
  refine ⟨(h c).1.trans ?_, (h c).2.1.trans ?_, (h c).2.2.1.trans ?_, (h c).2.2.2.1.trans ?_, (h c).2.2.2.2⟩
  · rw [dot_at, sgA_at]
    exact funext fun i => dy_at _ _ i
  · rw [dot_at, sgB_at]
    exact funext fun i => dy_at _ _ i
  · rw [dot_at, sgA_at]
    exact funext fun i => dg_at _ _ _ i
  · rw [dot_at, sgB_at]
    exact funext fun i => dg_at _ _ _ i

end Cert.Hand.MixX
end
-- ==== Proof.OutW.lean ====
/- The gradient of the output projection's weight: the kernel's tiles and the reference's product are one sum. -/
module

public import proofs.«01_k».proof.Proof.Gen.KernelOutWIdeal.Frame
public import proofs.«01_k».proof.Proof.Gen.KernelOutWIdeal.Value
public import proofs.«01_k».proof.Proof.Gen.ReferenceOutWIdeal.Run
public import proofs.«01_k».proof.Proof.Sums
public import proofs.«01_k».proof.Defs
public import proofs.«01_k».proof.Proof.Gen.KernelOutW.Frame

@[expose] public section
set_option maxRecDepth 16384
noncomputable section
namespace Cert.Hand.OutW
open Idealize.ShloMosaic Idealize.ShloMosaic.TcCoe Idealize.SL.Sem Idealize.ShloMosaic.Pointwise Cert.Hand.Tiles

section kernel
open Cert.KernelOutWIdeal Cert.KernelOutWIdeal.Gen

/-- The product of `a`'s transpose with `b`. -/
def spec (a : FVec Ideal S4096x4096 .bf16) (b : FVec Ideal S4096x4096 .bf16) : FVec Ideal S4096x4096 .bf16 :=
  fun i => ∑ x : Fin 4096, a (ix2 x (i 0)) * b (ix2 x (i 1))

/-- One tile's product. -/
theorem pay_at (a : FVec Ideal S4096x1024 .bf16) (b : FVec Ideal S4096x1024 .bf16) (r : Fin 1024) (s : Fin 1024) :
    k0_pay1 (F := Ideal) a b (ix2 r s) = ∑ x : Fin 4096, a (ix2 x r) * b (ix2 x s) := by
  pointwise [k0_pay1]

theorem idx : ∀ t : Fin cfg0.N,
    (win0_0.index t 0 = 0 ∧ win0_0.index t 1 = t.val / 4) ∧ (win0_1.index t 0 = 0 ∧ win0_1.index t 1 = t.val % 4)
    ∧ (win0_2.index t 0 = t.val / 4 ∧ win0_2.index t 1 = t.val % 4) := by decide +kernel

/-- The tile's row and column of a grid point. -/
def iP (t : Fin cfg0.N) : Fin 4 := ⟨t.val / 4, by have := lt_of_lt_of_eq t.isLt N_0; omega⟩
def jP (t : Fin cfg0.N) : Fin 4 := ⟨t.val % 4, by omega⟩

theorem emb0 (t : Fin cfg0.N) (x : Fin 4096) (r : Fin 1024) :
    (((cfg0.win 0).blk t).view.emb (ix2 x r) : S4096x4096.Idx) = ix2 x (at_ rfl (iP t) r) := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (s : Fin 1024) :
    (((cfg0.win 1).blk t).view.emb (ix2 x s) : S4096x4096.Idx) = ix2 x (at_ rfl (jP t) s) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 1024) :
    ((win0_2.blk t).view.emb (ix2 r s) : S4096x4096.Idx) = ix2 (at_ rfl (iP t) r) (at_ rfl (jP t) s) := by
  have e := (idx t).2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (x : Fin 4096) (r : Fin 1024) :
    (iblk m c 0 t : FVec Ideal S4096x1024 .bf16) (ix2 x r)
      = (m ((c.tc : Thread nD τ).loc main_arg0) : FVec Ideal S4096x4096 .bf16) (ix2 x (at_ rfl (iP t) r)) :=
  (congrArg (V m c main_arg0) (emb0 t x r)).trans (congrFun (V_main_arg0 m c) _)

theorem blk1_at (c : Dev nD) (t : Fin cfg0.N) (x : Fin 4096) (s : Fin 1024) :
    (iblk m c 1 t : FVec Ideal S4096x1024 .bf16) (ix2 x s)
      = (m ((c.tc : Thread nD τ).loc main_arg1) : FVec Ideal S4096x4096 .bf16) (ix2 x (at_ rfl (jP t) s)) :=
  (congrArg (V m c main_arg1) (emb1 t x s)).trans (congrFun (V_main_arg1 m c) _)

/-- The tile stored is the tile's product. -/
theorem out_eq (a : FVec Ideal S4096x1024 .bf16) (b : FVec Ideal S4096x1024 .bf16) :
    out0_2 (F := Ideal) a b = k0_pay1 (F := Ideal) a b := by
  unfold out0_2
  rw [View.canon_unit_zero zero2, View.ld_unit_zero zero2, View.ld_unit_zero zero2]

/-- The result array is the product of the two arguments. -/
theorem arr (c : Dev nD) : (dats m 0 c).arrAt 2 cfg0.N
    = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 1024 1024 y
  rw [emb2, out_eq, pay_at]
  simp only [blk0_at, blk1_at]
  rfl

end kernel

section reference
open Cert.ReferenceOutWIdeal Cert.ReferenceOutWIdeal.Gen

/-- The reference's product, transposed, at an index. -/
theorem ref_at (a b : FVec Ideal S4096x4096 .bf16) :
    truncf .bf16 (transpose S4096x4096 [1, 0] (Host.dotGeneral dot_S4096x4096_S4096x4096_S4096x4096_0_0_1_1_n_n none
      (extf .f32 b bitsLt_bf16_f32) (extf .f32 a bitsLt_bf16_f32)) transposes_S4096x4096_S4096x4096_1_0) bitsLt_bf16_f32
      = spec a b := by
  funext i
  obtain ⟨r, s, rfl⟩ := pair 4096 4096 i
  pointwise []
  exact Finset.sum_congr rfl fun x _ => mul_comm _ _

end reference

theorem frame_p : Cert.quiescent_KernelOutW := fun m ρ _ => Cert.KernelOutW.Gen.frame m ρ
theorem frame_pi : Cert.quiescent_KernelOutWIdeal := fun m ρ _ => Cert.KernelOutWIdeal.Gen.frame m ρ

/-- The reference runs, keeps its arguments and declares no semaphore. -/
theorem frame_ri : Cert.quiescent_ReferenceOutWIdeal := fun m ρ _ =>
  (θ_run Cert.ReferenceOutWIdeal.defs _ _).mono (fun r h => ⟨fun c => (h c).2, sem_eq_zero_of_no_sems (by decide) r.2⟩)
    (Cert.ReferenceOutWIdeal.Value.run (F := Ideal) m ρ)

theorem preserves : Cert.preserves_KernelOutW_KernelOutWIdeal := trivial

theorem algebraic : Cert.algebraic_KernelOutWIdeal_ReferenceOutWIdeal := by
  intro m ρ m' ρ' _ hagree
  refine ⟨_, (θ_run Cert.KernelOutWIdeal.defs _ _).mono (fun r h c => ⟨(h c).1.trans (arr m c), (h c).2⟩)
    (Cert.KernelOutWIdeal.Value.run_blocks (F := Ideal) m ρ), ?_⟩
  refine (θ_run Cert.ReferenceOutWIdeal.defs _ _).mono (fun r h c => ?_) (Cert.ReferenceOutWIdeal.Value.run (F := Ideal) m' ρ')
  refine ⟨(h c).1.trans ((ref_at _ _).trans ?_), (h c).2⟩
  rw [(hagree c).1, (hagree c).2]

end Cert.Hand.OutW
end
-- ==== Proof.BranchW.lean ====
/- The gradient of a branch's output weight: the kernel's tiles and the reference's product are one sum. -/
module

public import proofs.«01_k».proof.Proof.Gen.KernelBranchWIdeal.Frame
public import proofs.«01_k».proof.Proof.Gen.KernelBranchWIdeal.Value
public import proofs.«01_k».proof.Proof.Gen.ReferenceBranchWIdeal.Run
public import proofs.«01_k».proof.Proof.Sums
public import proofs.«01_k».proof.Defs
public import proofs.«01_k».proof.Proof.Gen.KernelBranchW.Frame

@[expose] public section
set_option maxRecDepth 16384
noncomputable section
namespace Cert.Hand.BranchW
open Idealize.ShloMosaic Idealize.ShloMosaic.TcCoe Idealize.SL.Sem Idealize.ShloMosaic.Pointwise Cert.Hand.Tiles

section kernel
open Cert.KernelBranchWIdeal Cert.KernelBranchWIdeal.Gen

/-- The product of `a`'s transpose with `b`. -/
def spec (a : FVec Ideal S4096x4096 .bf16) (b : FVec Ideal S4096x2048 .bf16) : FVec Ideal S4096x2048 .bf16 :=
  fun i => ∑ x : Fin 4096, a (ix2 x (i 0)) * b (ix2 x (i 1))

/-- One tile's product. -/
theorem pay_at (a : FVec Ideal S4096x1024 .bf16) (b : FVec Ideal S4096x1024 .bf16) (r : Fin 1024) (s : Fin 1024) :
    k0_pay1 (F := Ideal) a b (ix2 r s) = ∑ x : Fin 4096, a (ix2 x r) * b (ix2 x s) := by
  pointwise [k0_pay1]

theorem idx : ∀ t : Fin cfg0.N,
    (win0_0.index t 0 = 0 ∧ win0_0.index t 1 = t.val / 2) ∧ (win0_1.index t 0 = 0 ∧ win0_1.index t 1 = t.val % 2)
    ∧ (win0_2.index t 0 = t.val / 2 ∧ win0_2.index t 1 = t.val % 2) := by decide +kernel

/-- The tile's row and column of a grid point. -/
def iP (t : Fin cfg0.N) : Fin 4 := ⟨t.val / 2, by have := lt_of_lt_of_eq t.isLt N_0; omega⟩
def jP (t : Fin cfg0.N) : Fin 2 := ⟨t.val % 2, by omega⟩

theorem emb0 (t : Fin cfg0.N) (x : Fin 4096) (r : Fin 1024) :
    (((cfg0.win 0).blk t).view.emb (ix2 x r) : S4096x4096.Idx) = ix2 x (at_ rfl (iP t) r) := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (s : Fin 1024) :
    (((cfg0.win 1).blk t).view.emb (ix2 x s) : S4096x2048.Idx) = ix2 x (at_ rfl (jP t) s) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 1024) :
    ((win0_2.blk t).view.emb (ix2 r s) : S4096x2048.Idx) = ix2 (at_ rfl (iP t) r) (at_ rfl (jP t) s) := by
  have e := (idx t).2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (x : Fin 4096) (r : Fin 1024) :
    (iblk m c 0 t : FVec Ideal S4096x1024 .bf16) (ix2 x r)
      = (m ((c.tc : Thread nD τ).loc main_arg0) : FVec Ideal S4096x4096 .bf16) (ix2 x (at_ rfl (iP t) r)) :=
  (congrArg (V m c main_arg0) (emb0 t x r)).trans (congrFun (V_main_arg0 m c) _)

theorem blk1_at (c : Dev nD) (t : Fin cfg0.N) (x : Fin 4096) (s : Fin 1024) :
    (iblk m c 1 t : FVec Ideal S4096x1024 .bf16) (ix2 x s)
      = (m ((c.tc : Thread nD τ).loc main_arg1) : FVec Ideal S4096x2048 .bf16) (ix2 x (at_ rfl (jP t) s)) :=
  (congrArg (V m c main_arg1) (emb1 t x s)).trans (congrFun (V_main_arg1 m c) _)

/-- The tile stored is the tile's product. -/
theorem out_eq (a : FVec Ideal S4096x1024 .bf16) (b : FVec Ideal S4096x1024 .bf16) :
    out0_2 (F := Ideal) a b = k0_pay1 (F := Ideal) a b := by
  unfold out0_2
  rw [View.canon_unit_zero zero2, View.ld_unit_zero zero2, View.ld_unit_zero zero2]

/-- The result array is the product of the two arguments. -/
theorem arr (c : Dev nD) : (dats m 0 c).arrAt 2 cfg0.N
    = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 1024 1024 y
  rw [emb2, out_eq, pay_at]
  simp only [blk0_at, blk1_at]
  rfl

end kernel

section reference
open Cert.ReferenceBranchWIdeal Cert.ReferenceBranchWIdeal.Gen

/-- The reference's product at an index. -/
theorem ref_at (a : FVec Ideal S4096x4096 .bf16) (b : FVec Ideal S4096x2048 .bf16) :
    truncf .bf16 (Host.dotGeneral dot_S4096x4096_S4096x2048_S4096x2048_0_0_1_1_n_n none
      (extf .f32 a bitsLt_bf16_f32) (extf .f32 b bitsLt_bf16_f32)) bitsLt_bf16_f32 = spec a b := by
  funext i
  obtain ⟨r, s, rfl⟩ := pair 4096 2048 i
  unfold spec
  pointwise []

end reference

theorem frame_p : Cert.quiescent_KernelBranchW := fun m ρ _ => Cert.KernelBranchW.Gen.frame m ρ
theorem frame_pi : Cert.quiescent_KernelBranchWIdeal := fun m ρ _ => Cert.KernelBranchWIdeal.Gen.frame m ρ

/-- The reference runs, keeps its arguments and declares no semaphore. -/
theorem frame_ri : Cert.quiescent_ReferenceBranchWIdeal := fun m ρ _ =>
  (θ_run Cert.ReferenceBranchWIdeal.defs _ _).mono (fun r h => ⟨fun c => (h c).2, sem_eq_zero_of_no_sems (by decide) r.2⟩)
    (Cert.ReferenceBranchWIdeal.Value.run (F := Ideal) m ρ)

theorem preserves : Cert.preserves_KernelBranchW_KernelBranchWIdeal := trivial

theorem algebraic : Cert.algebraic_KernelBranchWIdeal_ReferenceBranchWIdeal := by
  intro m ρ m' ρ' _ hagree
  refine ⟨_, (θ_run Cert.KernelBranchWIdeal.defs _ _).mono (fun r h c => ⟨(h c).1.trans (arr m c), (h c).2⟩)
    (Cert.KernelBranchWIdeal.Value.run_blocks (F := Ideal) m ρ), ?_⟩
  refine (θ_run Cert.ReferenceBranchWIdeal.defs _ _).mono (fun r h c => ?_) (Cert.ReferenceBranchWIdeal.Value.run (F := Ideal) m' ρ')
  refine ⟨(h c).1.trans ((ref_at _ _).trans ?_), (h c).2⟩
  rw [(hagree c).1, (hagree c).2]

end Cert.Hand.BranchW
end
-- ==== Proof.BranchX.lean ====
/- The gradient of a branch's output: the kernel's tiles and the reference's product are one sum. -/
module

public import proofs.«01_k».proof.Proof.Gen.KernelBranchXIdeal.Frame
public import proofs.«01_k».proof.Proof.Gen.KernelBranchXIdeal.Value
public import proofs.«01_k».proof.Proof.Gen.ReferenceBranchXIdeal.Run
public import proofs.«01_k».proof.Proof.Sums
public import proofs.«01_k».proof.Defs
public import proofs.«01_k».proof.Proof.Gen.KernelBranchX.Frame

@[expose] public section
set_option maxRecDepth 16384
noncomputable section
namespace Cert.Hand.BranchX
open Idealize.ShloMosaic Idealize.ShloMosaic.TcCoe Idealize.SL.Sem Idealize.ShloMosaic.Pointwise Cert.Hand.Tiles

section kernel
open Cert.KernelBranchXIdeal Cert.KernelBranchXIdeal.Gen

/-- The product of `a` with `b`. -/
def spec (a : FVec Ideal S4096x4096 .bf16) (b : FVec Ideal S4096x2048 .bf16) : FVec Ideal S4096x2048 .bf16 :=
  fun i => ∑ x : Fin 4096, a (ix2 (i 0) x) * b (ix2 x (i 1))

/-- One tile's product. -/
theorem pay_at (a : FVec Ideal S1024x4096 .bf16) (b : FVec Ideal S4096x1024 .bf16) (r : Fin 1024) (s : Fin 1024) :
    k0_pay1 (F := Ideal) a b (ix2 r s) = ∑ x : Fin 4096, a (ix2 r x) * b (ix2 x s) := by
  pointwise [k0_pay1]

theorem idx : ∀ t : Fin cfg0.N,
    (win0_0.index t 0 = t.val / 2 ∧ win0_0.index t 1 = 0) ∧ (win0_1.index t 0 = 0 ∧ win0_1.index t 1 = t.val % 2)
    ∧ (win0_2.index t 0 = t.val / 2 ∧ win0_2.index t 1 = t.val % 2) := by decide +kernel

/-- The tile's row and column of a grid point. -/
def iP (t : Fin cfg0.N) : Fin 4 := ⟨t.val / 2, by have := lt_of_lt_of_eq t.isLt N_0; omega⟩
def jP (t : Fin cfg0.N) : Fin 2 := ⟨t.val % 2, by omega⟩

theorem emb0 (t : Fin cfg0.N) (r : Fin 1024) (x : Fin 4096) :
    (((cfg0.win 0).blk t).view.emb (ix2 r x) : S4096x4096.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (s : Fin 1024) :
    (((cfg0.win 1).blk t).view.emb (ix2 x s) : S4096x2048.Idx) = ix2 x (at_ rfl (jP t) s) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 1024) :
    ((win0_2.blk t).view.emb (ix2 r s) : S4096x2048.Idx) = ix2 (at_ rfl (iP t) r) (at_ rfl (jP t) s) := by
  have e := (idx t).2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 4096) :
    (iblk m c 0 t : FVec Ideal S1024x4096 .bf16) (ix2 r x)
      = (m ((c.tc : Thread nD τ).loc main_arg0) : FVec Ideal S4096x4096 .bf16) (ix2 (at_ rfl (iP t) r) x) :=
  (congrArg (V m c main_arg0) (emb0 t r x)).trans (congrFun (V_main_arg0 m c) _)

theorem blk1_at (c : Dev nD) (t : Fin cfg0.N) (x : Fin 4096) (s : Fin 1024) :
    (iblk m c 1 t : FVec Ideal S4096x1024 .bf16) (ix2 x s)
      = (m ((c.tc : Thread nD τ).loc main_arg1) : FVec Ideal S4096x2048 .bf16) (ix2 x (at_ rfl (jP t) s)) :=
  (congrArg (V m c main_arg1) (emb1 t x s)).trans (congrFun (V_main_arg1 m c) _)

/-- The tile stored is the tile's product. -/
theorem out_eq (a : FVec Ideal S1024x4096 .bf16) (b : FVec Ideal S4096x1024 .bf16) :
    out0_2 (F := Ideal) a b = k0_pay1 (F := Ideal) a b := by
  unfold out0_2
  rw [View.canon_unit_zero zero2, View.ld_unit_zero zero2, View.ld_unit_zero zero2]

/-- The result array is the product of the two arguments. -/
theorem arr (c : Dev nD) : (dats m 0 c).arrAt 2 cfg0.N
    = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 1024 1024 y
  rw [emb2, out_eq, pay_at]
  simp only [blk0_at, blk1_at]
  rfl

end kernel

section reference
open Cert.ReferenceBranchXIdeal Cert.ReferenceBranchXIdeal.Gen

/-- The reference's product at an index. -/
theorem ref_at (a : FVec Ideal S4096x4096 .bf16) (b : FVec Ideal S4096x2048 .bf16) :
    truncf .bf16 (Host.dotGeneral dot_S4096x4096_S4096x2048_S4096x2048_1_0_0_1_n_n none
      (extf .f32 a bitsLt_bf16_f32) (extf .f32 b bitsLt_bf16_f32)) bitsLt_bf16_f32 = spec a b := by
  funext i
  obtain ⟨r, s, rfl⟩ := pair 4096 2048 i
  unfold spec
  pointwise []

end reference

theorem frame_p : Cert.quiescent_KernelBranchX := fun m ρ _ => Cert.KernelBranchX.Gen.frame m ρ
theorem frame_pi : Cert.quiescent_KernelBranchXIdeal := fun m ρ _ => Cert.KernelBranchXIdeal.Gen.frame m ρ

/-- The reference runs, keeps its arguments and declares no semaphore. -/
theorem frame_ri : Cert.quiescent_ReferenceBranchXIdeal := fun m ρ _ =>
  (θ_run Cert.ReferenceBranchXIdeal.defs _ _).mono (fun r h => ⟨fun c => (h c).2, sem_eq_zero_of_no_sems (by decide) r.2⟩)
    (Cert.ReferenceBranchXIdeal.Value.run (F := Ideal) m ρ)

theorem preserves : Cert.preserves_KernelBranchX_KernelBranchXIdeal := trivial

theorem algebraic : Cert.algebraic_KernelBranchXIdeal_ReferenceBranchXIdeal := by
  intro m ρ m' ρ' _ hagree
  refine ⟨_, (θ_run Cert.KernelBranchXIdeal.defs _ _).mono (fun r h c => ⟨(h c).1.trans (arr m c), (h c).2⟩)
    (Cert.KernelBranchXIdeal.Value.run_blocks (F := Ideal) m ρ), ?_⟩
  refine (θ_run Cert.ReferenceBranchXIdeal.defs _ _).mono (fun r h c => ?_) (Cert.ReferenceBranchXIdeal.Value.run (F := Ideal) m' ρ')
  refine ⟨(h c).1.trans ((ref_at _ _).trans ?_), (h c).2⟩
  rw [(hagree c).1, (hagree c).2]

end Cert.Hand.BranchX
end
-- ==== Proof.Out.lean ====
/- The output projection with its addend: the kernel's tiles and the reference's product are one sum. -/
module

public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Sums
public import proofs.«01_k».proof.Defs
public import proofs.«01_k».proof.Proof.Gen.KernelOut.Frame

@[expose] public section
set_option maxRecDepth 16384
noncomputable section
namespace Cert.Hand.Out
open Idealize.ShloMosaic Idealize.ShloMosaic.TcCoe Idealize.SL.Sem Idealize.ShloMosaic.Pointwise Cert.Hand.Tiles

section kernel
open Cert.KernelOutIdeal Cert.KernelOutIdeal.Gen

/-- The product of `a` with `b`, plus `d`. -/
def spec (a b : FVec Ideal S4096x4096 .bf16) (d : FVec Ideal S4096x4096 .f32) : FVec Ideal S4096x4096 .f32 :=
  fun i => (∑ x : Fin 4096, a (ix2 (i 0) x) * b (ix2 x (i 1))) + d i

/-- One tile's product and sum. -/
theorem pay_at (a : FVec Ideal S1024x4096 .bf16) (b : FVec Ideal S4096x512 .bf16) (d : FVec Ideal S1024x512 .f32) (r : Fin 1024) (s : Fin 512) :
    k0_pay1 (F := Ideal) a b d (ix2 r s) = (∑ x : Fin 4096, a (ix2 r x) * b (ix2 x s)) + d (ix2 r s) := by
  pointwise [k0_pay1]

theorem idx : ∀ t : Fin cfg0.N,
    (win0_0.index t 0 = t.val / 8 ∧ win0_0.index t 1 = 0) ∧ (win0_1.index t 0 = 0 ∧ win0_1.index t 1 = t.val % 8)
    ∧ (win0_2.index t 0 = t.val / 8 ∧ win0_2.index t 1 = t.val % 8)
    ∧ (win0_3.index t 0 = t.val / 8 ∧ win0_3.index t 1 = t.val % 8) := by decide +kernel

/-- The tile's row and column of a grid point. -/
def iP (t : Fin cfg0.N) : Fin 4 := ⟨t.val / 8, by have := lt_of_lt_of_eq t.isLt N_0; omega⟩
def jP (t : Fin cfg0.N) : Fin 8 := ⟨t.val % 8, by omega⟩

theorem emb0 (t : Fin cfg0.N) (r : Fin 1024) (x : Fin 4096) :
    (((cfg0.win 0).blk t).view.emb (ix2 r x) : S4096x4096.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (s : Fin 512) :
    (((cfg0.win 1).blk t).view.emb (ix2 x s) : S4096x4096.Idx) = ix2 x (at_ rfl (jP t) s) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 1024) (s : Fin 512) :
    (((cfg0.win 2).blk t).view.emb (ix2 r s) : S4096x4096.Idx) = ix2 (at_ rfl (iP t) r) (at_ rfl (jP t) s) := by
  have e := (idx t).2.2.1
  unfold at_ iP jP
  refine funext fun a => Fin.ext ?_
  match a with
  | ⟨0, _⟩ => blk_simp [e]; try simp; try omega
  | ⟨1, _⟩ => blk_simp [e]; try simp; try omega

theorem emb3 (t : Fin cfg0.N) (r : Fin 1024) (s : Fin 512) :
    ((win0_3.blk t).view.emb (ix2 r s) : S4096x4096.Idx) = ix2 (at_ rfl (iP t) r) (at_ rfl (jP t) s) := by
  have e := (idx t).2.2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 4096) :
    (iblk m c 0 t : FVec Ideal S1024x4096 .bf16) (ix2 r x)
      = (m ((c.tc : Thread nD τ).loc main_arg0) : FVec Ideal S4096x4096 .bf16) (ix2 (at_ rfl (iP t) r) x) :=
  (congrArg (V m c main_arg0) (emb0 t r x)).trans (congrFun (V_main_arg0 m c) _)

theorem blk1_at (c : Dev nD) (t : Fin cfg0.N) (x : Fin 4096) (s : Fin 512) :
    (iblk m c 1 t : FVec Ideal S4096x512 .bf16) (ix2 x s)
      = (m ((c.tc : Thread nD τ).loc main_arg1) : FVec Ideal S4096x4096 .bf16) (ix2 x (at_ rfl (jP t) s)) :=
  (congrArg (V m c main_arg1) (emb1 t x s)).trans (congrFun (V_main_arg1 m c) _)

theorem blk2_at (c : Dev nD) (t : Fin cfg0.N) (r : Fin 1024) (s : Fin 512) :
    (iblk m c 2 t : FVec Ideal S1024x512 .f32) (ix2 r s)
      = (m ((c.tc : Thread nD τ).loc main_arg2) : FVec Ideal S4096x4096 .f32) (ix2 (at_ rfl (iP t) r) (at_ rfl (jP t) s)) :=
  (congrArg (V m c main_arg2) (emb2 t r s)).trans (congrFun (V_main_arg2 m c) _)

/-- The tile stored is the tile's product plus its addend. -/
theorem out_eq (a : FVec Ideal S1024x4096 .bf16) (b : FVec Ideal S4096x512 .bf16) (d : FVec Ideal S1024x512 .f32) :
    out0_3 (F := Ideal) a b d = k0_pay1 (F := Ideal) a b d := by
  unfold out0_3
  rw [View.canon_unit_zero zero2, View.ld_unit_zero zero2, View.ld_unit_zero zero2, View.ld_unit_zero zero2]

/-- The result array is the product of the first two arguments plus the third. -/
theorem arr (c : Dev nD) : (dats m 0 c).arrAt 3 cfg0.N
    = spec (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  obtain ⟨r, s, rfl⟩ := pair 1024 512 y
  rw [emb3, out_eq, pay_at]
  simp only [blk0_at, blk1_at, blk2_at]
  rfl

end kernel

section reference
open Cert.ReferenceOutIdeal Cert.ReferenceOutIdeal.Gen

/-- The reference's product plus its addend, at an index. -/
theorem ref_at (a b : FVec Ideal S4096x4096 .bf16) (d : FVec Ideal S4096x4096 .f32) :
    addf d (Host.dotGeneral dot_S4096x4096_S4096x4096_S4096x4096_1_0_0_1_n_n none
      (extf .f32 a bitsLt_bf16_f32) (extf .f32 b bitsLt_bf16_f32)) = spec a b d := by
  funext i
  obtain ⟨r, s, rfl⟩ := pair 4096 4096 i
  pointwise []
  exact add_comm _ _

end reference

theorem frame_p : Cert.quiescent_KernelOut := fun m ρ _ => Cert.KernelOut.Gen.frame m ρ
theorem frame_pi : Cert.quiescent_KernelOutIdeal := fun m ρ _ => Cert.KernelOutIdeal.Gen.frame m ρ

/-- The reference runs, keeps its arguments and declares no semaphore. -/
theorem frame_ri : Cert.quiescent_ReferenceOutIdeal := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)

theorem preserves : Cert.preserves_KernelOut_KernelOutIdeal := trivial

theorem algebraic : Cert.algebraic_KernelOutIdeal_ReferenceOutIdeal := by
  intro m ρ m' ρ' _ hagree
  refine ⟨_, (θ_run Cert.KernelOutIdeal.defs _ _).mono (fun r h c => ⟨(h c).1.trans (arr m c), (h c).2⟩)
    (Cert.KernelOutIdeal.Value.run_blocks (F := Ideal) m ρ), ?_⟩
  refine (θ_run Cert.ReferenceOutIdeal.defs _ _).mono (fun r h c => ?_) (Cert.ReferenceOutIdeal.Value.run (F := Ideal) m' ρ')
  refine ⟨(h c).1.trans ((ref_at _ _ _).trans ?_), (h c).2⟩
  rw [(hagree c).1, (hagree c).2.1, (hagree c).2.2]

end Cert.Hand.Out
end
-- ==== Proof.Mix.lean ====
/- The mix of the two branches: the kernel's tiles and the reference's gated sum of two products are one value. -/
module

public import proofs.«01_k».proof.Proof.Gen.KernelMixIdeal.Frame
public import proofs.«01_k».proof.Proof.Gen.KernelMixIdeal.Value
public import proofs.«01_k».proof.Proof.Gen.ReferenceMixIdeal.Run
public import proofs.«01_k».proof.Proof.Sums
public import proofs.«01_k».proof.Defs
public import proofs.«01_k».proof.Proof.Gen.KernelMix.Frame

@[expose] public section
set_option maxRecDepth 16384
noncomputable section
namespace Cert.Hand.Mix
open Idealize.ShloMosaic Idealize.ShloMosaic.TcCoe Idealize.SL.Sem Idealize.ShloMosaic.Pointwise Cert.Hand.Tiles

section kernel
open Cert.KernelMixIdeal Cert.KernelMixIdeal.Gen

/-- The two gates' columns of the projection. -/
def colA (j : Fin 4096) : Fin 16896 := ⟨8704 + j.val, by omega⟩
def colB (j : Fin 4096) : Fin 16896 := ⟨12800 + j.val, by omega⟩

/-- The product of `a` with `b`'s transpose, and the gated sum of two of them. -/
def prod (a b : FVec Ideal S4096x2048 .bf16) : FVec Ideal S4096x4096 .bf16 := fun i => ∑ x : Fin 2048, a (ix2 (i 0) x) * b (ix2 (i 1) x)
def mix (a a' b b' : FVec Ideal S4096x2048 .bf16) (p : FVec Ideal S4096x16896 .bf16) : FVec Ideal S4096x4096 .bf16 :=
  fun i => sg (p (ix2 (i 0) (colA (i 1)))) * prod a b i + sg (p (ix2 (i 0) (colB (i 1)))) * prod a' b' i

section tile
variable (a a' : FVec Ideal S1024x2048 .bf16) (b b' : FVec Ideal S512x2048 .bf16) (g h : FVec Ideal S1024x512 .bf16) (r : Fin 1024) (s : Fin 512)

theorem pay1_at : k0_pay1 (F := Ideal) a b (ix2 r s) = ∑ x : Fin 2048, a (ix2 r x) * b (ix2 s x) := by
  pointwise [k0_pay1]

theorem pay2_at : k0_pay2 (F := Ideal) a b (ix2 r s) = ∑ x : Fin 2048, a (ix2 r x) * b (ix2 s x) := by
  pointwise [k0_pay2]

theorem pay3_at : k0_pay3 (F := Ideal) a b a' b' g h (ix2 r s)
    = sg (g (ix2 r s)) * (∑ x : Fin 2048, a (ix2 r x) * b (ix2 s x)) + sg (h (ix2 r s)) * (∑ x : Fin 2048, a' (ix2 r x) * b' (ix2 s x)) := by
  pointwise [k0_pay3]
  rw [pay1_at, pay2_at, zero_sub, zero_sub]
  rfl

theorem pay4_at : k0_pay4 (F := Ideal) a b (ix2 r s) = ∑ x : Fin 2048, a (ix2 r x) * b (ix2 s x) := pay1_at a b r s

theorem pay5_at : k0_pay5 (F := Ideal) a b (ix2 r s) = ∑ x : Fin 2048, a (ix2 r x) * b (ix2 s x) := pay2_at a b r s
end tile

theorem idx : ∀ t : Fin cfg0.N,
    (win0_0.index t 0 = t.val / 8 ∧ win0_0.index t 1 = 0) ∧ (win0_1.index t 0 = t.val / 8 ∧ win0_1.index t 1 = 0)
    ∧ (win0_2.index t 0 = t.val % 8 ∧ win0_2.index t 1 = 0) ∧ (win0_3.index t 0 = t.val % 8 ∧ win0_3.index t 1 = 0)
    ∧ (win0_4.index t 0 = t.val / 8 ∧ win0_4.index t 1 = 17 + t.val % 8) ∧ (win0_5.index t 0 = t.val / 8 ∧ win0_5.index t 1 = 25 + t.val % 8) := by
  decide +kernel

theorem idx' : ∀ t : Fin cfg0.N,
    (win0_6.index t 0 = t.val / 8 ∧ win0_6.index t 1 = t.val % 8) ∧ (win0_7.index t 0 = t.val / 8 ∧ win0_7.index t 1 = t.val % 8)
    ∧ (win0_8.index t 0 = t.val / 8 ∧ win0_8.index t 1 = t.val % 8) := by decide +kernel

/-- The tile's row and column of a grid point. -/
def iP (t : Fin cfg0.N) : Fin 4 := ⟨t.val / 8, by have := lt_of_lt_of_eq t.isLt N_0; omega⟩
def jP (t : Fin cfg0.N) : Fin 8 := ⟨t.val % 8, by omega⟩

theorem emb0 (t : Fin cfg0.N) (r : Fin 1024) (x : Fin 2048) :
    (((cfg0.win 0).blk t).view.emb (ix2 r x) : S4096x2048.Idx) = ix2 (at_ rfl (iP t) r) x := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (r : Fin 1024) (x : Fin 2048) :
    (((cfg0.win 1).blk t).view.emb (ix2 r x) : S4096x2048.Idx) = ix2 (at_ rfl (iP t) r) x := by
  have e := (idx t).2.1
  unfold at_ iP
  refine funext fun a => Fin.ext ?_
  match a with
  | ⟨0, _⟩ => blk_simp [e]; try simp; try omega
  | ⟨1, _⟩ => blk_simp [e]; try simp; try omega

theorem emb2 (t : Fin cfg0.N) (s : Fin 512) (x : Fin 2048) :
    (((cfg0.win 2).blk t).view.emb (ix2 s x) : S4096x2048.Idx) = ix2 (at_ rfl (jP t) s) x := by
  have e := (idx t).2.2.1
  unfold at_ jP
  refine funext fun a => Fin.ext ?_
  match a with
  | ⟨0, _⟩ => blk_simp [e]; try simp; try omega
  | ⟨1, _⟩ => blk_simp [e]; try simp; try omega

theorem emb3 (t : Fin cfg0.N) (s : Fin 512) (x : Fin 2048) :
    (((cfg0.win 3).blk t).view.emb (ix2 s x) : S4096x2048.Idx) = ix2 (at_ rfl (jP t) s) x := by
  have e := (idx t).2.2.2.1
  unfold at_ jP
  refine funext fun a => Fin.ext ?_
  match a with
  | ⟨0, _⟩ => blk_simp [e]; try simp; try omega
  | ⟨1, _⟩ => blk_simp [e]; try simp; try omega

theorem emb4 (t : Fin cfg0.N) (r : Fin 1024) (s : Fin 512) :
    (((cfg0.win 4).blk t).view.emb (ix2 r s) : S4096x16896.Idx) = ix2 (at_ rfl (iP t) r) (colA (at_ rfl (jP t) s)) := by
  have e := (idx t).2.2.2.2.1
  unfold at_ iP jP colA
  refine funext fun a => Fin.ext ?_
  match a with
  | ⟨0, _⟩ => blk_simp [e]; try simp; try omega
  | ⟨1, _⟩ => blk_simp [e]; try simp; try omega

theorem emb5 (t : Fin cfg0.N) (r : Fin 1024) (s : Fin 512) :
    (((cfg0.win 5).blk t).view.emb (ix2 r s) : S4096x16896.Idx) = ix2 (at_ rfl (iP t) r) (colB (at_ rfl (jP t) s)) := by
  have e := (idx t).2.2.2.2.2
  unfold at_ iP jP colB
  refine funext fun a => Fin.ext ?_
  match a with
  | ⟨0, _⟩ => blk_simp [e]; try simp; try omega
  | ⟨1, _⟩ => blk_simp [e]; try simp; try omega

theorem emb6 (t : Fin cfg0.N) (r : Fin 1024) (s : Fin 512) :
    ((win0_6.blk t).view.emb (ix2 r s) : S4096x4096.Idx) = ix2 (at_ rfl (iP t) r) (at_ rfl (jP t) s) := by
  have e := (idx' t).1
  unfold at_ iP jP
  refine funext fun a => Fin.ext ?_
  match a with
  | ⟨0, _⟩ => blk_simp [e]; try simp; try omega
  | ⟨1, _⟩ => blk_simp [e]; try simp; try omega

theorem emb7 (t : Fin cfg0.N) (r : Fin 1024) (s : Fin 512) :
    ((win0_7.blk t).view.emb (ix2 r s) : S4096x4096.Idx) = ix2 (at_ rfl (iP t) r) (at_ rfl (jP t) s) := by
  have e := (idx' t).2.1
  unfold at_ iP jP
  refine funext fun a => Fin.ext ?_
  match a with
  | ⟨0, _⟩ => blk_simp [e]; try simp; try omega
  | ⟨1, _⟩ => blk_simp [e]; try simp; try omega

theorem emb8 (t : Fin cfg0.N) (r : Fin 1024) (s : Fin 512) :
    ((win0_8.blk t).view.emb (ix2 r s) : S4096x4096.Idx) = ix2 (at_ rfl (iP t) r) (at_ rfl (jP t) s) := by
  have e := (idx' t).2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (r : Fin 1024) (x : Fin 2048) :
    (iblk m c 0 t : FVec Ideal S1024x2048 .bf16) (ix2 r x)
      = (m ((c.tc : Thread nD τ).loc main_arg0) : FVec Ideal S4096x2048 .bf16) (ix2 (at_ rfl (iP t) r) x) :=
  (congrArg (V m c main_arg0) (emb0 t r x)).trans (congrFun (V_main_arg0 m c) _)

theorem blk1_at (c : Dev nD) (t : Fin cfg0.N) (r : Fin 1024) (x : Fin 2048) :
    (iblk m c 1 t : FVec Ideal S1024x2048 .bf16) (ix2 r x)
      = (m ((c.tc : Thread nD τ).loc main_arg1) : FVec Ideal S4096x2048 .bf16) (ix2 (at_ rfl (iP t) r) x) :=
  (congrArg (V m c main_arg1) (emb1 t r x)).trans (congrFun (V_main_arg1 m c) _)

theorem blk2_at (c : Dev nD) (t : Fin cfg0.N) (s : Fin 512) (x : Fin 2048) :
    (iblk m c 2 t : FVec Ideal S512x2048 .bf16) (ix2 s x)
      = (m ((c.tc : Thread nD τ).loc main_arg2) : FVec Ideal S4096x2048 .bf16) (ix2 (at_ rfl (jP t) s) x) :=
  (congrArg (V m c main_arg2) (emb2 t s x)).trans (congrFun (V_main_arg2 m c) _)

theorem blk3_at (c : Dev nD) (t : Fin cfg0.N) (s : Fin 512) (x : Fin 2048) :
    (iblk m c 3 t : FVec Ideal S512x2048 .bf16) (ix2 s x)
      = (m ((c.tc : Thread nD τ).loc main_arg3) : FVec Ideal S4096x2048 .bf16) (ix2 (at_ rfl (jP t) s) x) :=
  (congrArg (V m c main_arg3) (emb3 t s x)).trans (congrFun (V_main_arg3 m c) _)

theorem blk4_at (c : Dev nD) (t : Fin cfg0.N) (r : Fin 1024) (s : Fin 512) :
    (iblk m c 4 t : FVec Ideal S1024x512 .bf16) (ix2 r s)
      = (m ((c.tc : Thread nD τ).loc main_arg4) : FVec Ideal S4096x16896 .bf16) (ix2 (at_ rfl (iP t) r) (colA (at_ rfl (jP t) s))) :=
  (congrArg (V m c main_arg4) (emb4 t r s)).trans (congrFun (V_main_arg4 m c) _)

theorem blk5_at (c : Dev nD) (t : Fin cfg0.N) (r : Fin 1024) (s : Fin 512) :
    (iblk m c 5 t : FVec Ideal S1024x512 .bf16) (ix2 r s)
      = (m ((c.tc : Thread nD τ).loc main_arg4) : FVec Ideal S4096x16896 .bf16) (ix2 (at_ rfl (iP t) r) (colB (at_ rfl (jP t) s))) :=
  (congrArg (V m c main_arg4) (emb5 t r s)).trans (congrFun (V_main_arg4 m c) _)

section stored
variable (a a' : FVec Ideal S1024x2048 .bf16) (b b' : FVec Ideal S512x2048 .bf16) (g h : FVec Ideal S1024x512 .bf16)

/-- The tiles stored. -/
theorem out6_eq : out0_6 (F := Ideal) a a' b b' g h = k0_pay3 (F := Ideal) a b a' b' g h := by
  unfold out0_6
  rw [View.canon_unit_zero zero2, View.ld_unit_zero zero2, View.ld_unit_zero zero2, View.ld_unit_zero zero2, View.ld_unit_zero zero2, View.ld_unit_zero zero2, View.ld_unit_zero zero2]
theorem out7_eq : out0_7 (F := Ideal) a a' b b' g h = k0_pay4 (F := Ideal) a b := by
  unfold out0_7
  rw [View.canon_unit_zero zero2, View.ld_unit_zero zero2, View.ld_unit_zero zero2]
theorem out8_eq : out0_8 (F := Ideal) a a' b b' g h = k0_pay5 (F := Ideal) a' b' := by
  unfold out0_8
  rw [View.canon_unit_zero zero2, View.ld_unit_zero zero2, View.ld_unit_zero zero2]
end stored

theorem arr6 (c : Dev nD) : (dats m 0 c).arrAt 6 cfg0.N
    = mix (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  blk_simp
  rw [after0_6]
  obtain ⟨r, s, rfl⟩ := pair 1024 512 y
  rw [emb6, out6_eq, pay3_at]
  simp only [blk0_at, blk1_at, blk2_at, blk3_at, blk4_at, blk5_at]
  rfl

theorem arr7 (c : Dev nD) : (dats m 0 c).arrAt 7 cfg0.N
    = prod (m ((c.tc : Thread nD τ).loc main_arg0)) (m ((c.tc : Thread nD τ).loc main_arg2)) := by
  refine (dats m 0 c).arrAt_eq_of_covers 7 _ (by decide +kernel) fun t hf y => ?_
  blk_simp
  rw [after0_7]
  obtain ⟨r, s, rfl⟩ := pair 1024 512 y
  rw [emb7, out7_eq, pay4_at]
  simp only [blk0_at, blk1_at, blk2_at, blk3_at, blk4_at, blk5_at]
  rfl

theorem arr8 (c : Dev nD) : (dats m 0 c).arrAt 8 cfg0.N
    = prod (m ((c.tc : Thread nD τ).loc main_arg1)) (m ((c.tc : Thread nD τ).loc main_arg3)) := by
  refine (dats m 0 c).arrAt_eq_of_covers 8 _ (by decide +kernel) fun t hf y => ?_
  blk_simp
  rw [after0_8]
  obtain ⟨r, s, rfl⟩ := pair 1024 512 y
  rw [emb8, out8_eq, pay5_at]
  simp only [blk0_at, blk1_at, blk2_at, blk3_at, blk4_at, blk5_at]
  rfl

end kernel

section reference
open Cert.ReferenceMixIdeal Cert.ReferenceMixIdeal.Gen

/-- The reference's product. -/
theorem dot_at (a b : FVec Ideal S4096x2048 .bf16) :
    Host.dotGeneral dot_S4096x2048_S4096x2048_S4096x4096_1_1_0_0_n_n none (extf .f32 a bitsLt_bf16_f32)
      (extf .f32 b bitsLt_bf16_f32) = (prod a b : FVec Ideal S4096x4096 .f32) := by
  funext i
  obtain ⟨r, s, rfl⟩ := pair 4096 4096 i
  pointwise []
  rfl

/-- The logistic function of a gate's columns, as the reference writes it. -/
theorem sgA_at (p : FVec Ideal S4096x16896 .bf16) :
    Host.divf (broadcastInDim S4096x4096 ![] bcast_S_S4096x4096 (constant S_ .f32 0x3F800000#32))
      (addf (broadcastInDim S4096x4096 ![] bcast_S_S4096x4096 (constant S_ .f32 0x3F800000#32)) (Host.exp (Host.negf
        (extf .f32 (extractStridedSlice S4096x4096 ![0, 8704] p slices_S4096x16896_S4096x4096_0_8704) bitsLt_bf16_f32))))
      = (fun i => sg (p (ix2 (i 0) (colA (i 1)))) : FVec Ideal S4096x4096 .f32) := by
  funext i
  obtain ⟨r, s, rfl⟩ := pair 4096 4096 i
  unfold colA
  pointwise [sg]

/-- The logistic function of a gate's columns, as the reference writes it. -/
theorem sgB_at (p : FVec Ideal S4096x16896 .bf16) :
    Host.divf (broadcastInDim S4096x4096 ![] bcast_S_S4096x4096 (constant S_ .f32 0x3F800000#32))
      (addf (broadcastInDim S4096x4096 ![] bcast_S_S4096x4096 (constant S_ .f32 0x3F800000#32)) (Host.exp (Host.negf
        (extf .f32 (extractStridedSlice S4096x4096 ![0, 12800] p slices_S4096x16896_S4096x4096_0_12800) bitsLt_bf16_f32))))
      = (fun i => sg (p (ix2 (i 0) (colB (i 1)))) : FVec Ideal S4096x4096 .f32) := by
  funext i
  obtain ⟨r, s, rfl⟩ := pair 4096 4096 i
  unfold colB
  pointwise [sg]

end reference

theorem frame_p : Cert.quiescent_KernelMix := fun m ρ _ => Cert.KernelMix.Gen.frame m ρ
theorem frame_pi : Cert.quiescent_KernelMixIdeal := fun m ρ _ => Cert.KernelMixIdeal.Gen.frame m ρ

/-- The reference runs, keeps its arguments and declares no semaphore. -/
theorem frame_ri : Cert.quiescent_ReferenceMixIdeal := fun m ρ _ =>
  (θ_run Cert.ReferenceMixIdeal.defs _ _).mono (fun r h => ⟨fun c => (h c).2.2.2, sem_eq_zero_of_no_sems (by decide) r.2⟩)
    (Cert.ReferenceMixIdeal.Value.run (F := Ideal) m ρ)

theorem preserves : Cert.preserves_KernelMix_KernelMixIdeal := trivial

set_option maxHeartbeats 1000000 in
theorem algebraic : Cert.algebraic_KernelMixIdeal_ReferenceMixIdeal := by
  intro m ρ m' ρ' _ hagree
  refine ⟨_, _, _, (θ_run Cert.KernelMixIdeal.defs _ _).mono (fun r h c => ⟨(h c).1.trans (arr6 m c), (h c).2.1.trans (arr7 m c),
    (h c).2.2.1.trans (arr8 m c), (h c).2.2.2⟩) (Cert.KernelMixIdeal.Value.run_blocks (F := Ideal) m ρ), ?_⟩
  refine (θ_run Cert.ReferenceMixIdeal.defs _ _).mono (fun r h c => ?_) (Cert.ReferenceMixIdeal.Value.run (F := Ideal) m' ρ')
  rw [← (hagree c).1, ← (hagree c).2.1, ← (hagree c).2.2.1, ← (hagree c).2.2.2.1, ← (hagree c).2.2.2.2]
  refine ⟨(h c).1.trans ?_, (h c).2.1.trans ?_, (h c).2.2.1.trans ?_, (h c).2.2.2⟩
  · rw [dot_at, dot_at, sgA_at, sgB_at]
    rfl
  · rw [dot_at]
    rfl
  · rw [dot_at]
    rfl

end Cert.Hand.Mix
end
-- ==== Proof.ProjW.lean ====
/- The gradient of the input projection's weight, of the rows in use: the kernel's tiles and the reference's product are one sum. -/
module

public import proofs.«01_k».proof.Proof.Gen.KernelProjWIdeal.Frame
public import proofs.«01_k».proof.Proof.Gen.KernelProjWIdeal.Value
public import proofs.«01_k».proof.Proof.Gen.ReferenceProjWIdeal.Run
public import proofs.«01_k».proof.Proof.Sums
public import proofs.«01_k».proof.Defs
public import proofs.«01_k».proof.Proof.Gen.KernelProjW.Frame

@[expose] public section
set_option maxRecDepth 16384
noncomputable section
namespace Cert.Hand.ProjW
open Idealize.ShloMosaic Idealize.ShloMosaic.TcCoe Idealize.SL.Sem Idealize.ShloMosaic.Pointwise Cert.Hand.Tiles

section kernel
open Cert.KernelProjWIdeal Cert.KernelProjWIdeal.Gen

/-- The product of `a`'s transpose with `b`. -/
def spec (a : FVec Ideal S4096x16896 .bf16) (b : FVec Ideal S4096x4096 .bf16) : FVec Ideal S16896x4096 .bf16 :=
  fun i => ∑ x : Fin 4096, a (ix2 x (i 0)) * b (ix2 x (i 1))

/-- One tile's product. -/
theorem pay_at (a : FVec Ideal S4096x768 .bf16) (b : FVec Ideal S4096x1024 .bf16) (r : Fin 768) (s : Fin 1024) :
    k0_pay1 (F := Ideal) a b (ix2 r s) = ∑ x : Fin 4096, a (ix2 x r) * b (ix2 x s) := by
  pointwise [k0_pay1]

theorem idx : ∀ t : Fin cfg0.N,
    (win0_0.index t 0 = 0 ∧ win0_0.index t 1 = t.val / 4) ∧ (win0_1.index t 0 = 0 ∧ win0_1.index t 1 = t.val % 4)
    ∧ (win0_2.index t 0 = t.val / 4 ∧ win0_2.index t 1 = t.val % 4) := by decide +kernel

/-- The tile's row and column of a grid point. -/
def iP (t : Fin cfg0.N) : Fin 22 := ⟨t.val / 4, by have := lt_of_lt_of_eq t.isLt N_0; omega⟩
def jP (t : Fin cfg0.N) : Fin 4 := ⟨t.val % 4, by omega⟩

theorem emb0 (t : Fin cfg0.N) (x : Fin 4096) (r : Fin 768) :
    (((cfg0.win 0).blk t).view.emb (ix2 x r) : S4096x16896.Idx) = ix2 x (at_ rfl (iP t) r) := by
  have e := (idx t).1
  unfold at_ iP
  refine funext fun a => Fin.ext ?_
  match a with
  | ⟨0, _⟩ => blk_simp [e]; try simp; try omega
  | ⟨1, _⟩ => blk_simp [e]; try simp; try omega

theorem emb1 (t : Fin cfg0.N) (x : Fin 4096) (s : Fin 1024) :
    (((cfg0.win 1).blk t).view.emb (ix2 x s) : S4096x4096.Idx) = ix2 x (at_ rfl (jP t) s) := by
  have e := (idx t).2.1
  unfold at_ jP
  refine funext fun a => Fin.ext ?_
  match a with
  | ⟨0, _⟩ => blk_simp [e]; try simp; try omega
  | ⟨1, _⟩ => blk_simp [e]; try simp; try omega

theorem emb2 (t : Fin cfg0.N) (r : Fin 768) (s : Fin 1024) :
    ((win0_2.blk t).view.emb (ix2 r s) : S16896x4096.Idx) = ix2 (at_ rfl (iP t) r) (at_ rfl (jP t) s) := by
  have e := (idx t).2.2
  unfold at_ iP jP
  refine funext fun a => Fin.ext ?_
  match a with
  | ⟨0, _⟩ => blk_simp [e]; try simp; try omega
  | ⟨1, _⟩ => blk_simp [e]; try simp; try omega

variable (m : (ℓ : Loc nD τ sig) → Buf (Elt Ideal) ℓ)

theorem blk0_at (c : Dev nD) (t : Fin cfg0.N) (x : Fin 4096) (r : Fin 768) :
    (iblk m c 0 t : FVec Ideal S4096x768 .bf16) (ix2 x r)
      = (m ((c.tc : Thread nD τ).loc main_arg0) : FVec Ideal S4096x16896 .bf16) (ix2 x (at_ rfl (iP t) r)) :=
  (congrArg (V m c main_arg0) (emb0 t x r)).trans (congrFun (V_main_arg0 m c) _)

theorem blk1_at (c : Dev nD) (t : Fin cfg0.N) (x : Fin 4096) (s : Fin 1024) :
    (iblk m c 1 t : FVec Ideal S4096x1024 .bf16) (ix2 x s)
      = (m ((c.tc : Thread nD τ).loc main_arg1) : FVec Ideal S4096x4096 .bf16) (ix2 x (at_ rfl (jP t) s)) :=
  (congrArg (V m c main_arg1) (emb1 t x s)).trans (congrFun (V_main_arg1 m c) _)

/-- The tile stored is the tile's product. -/
theorem out_eq (a : FVec Ideal S4096x768 .bf16) (b : FVec Ideal S4096x1024 .bf16) :
    out0_2 (F := Ideal) a b = k0_pay1 (F := Ideal) a b := by
  unfold out0_2
  rw [View.canon_unit_zero zero2, View.ld_unit_zero zero2, View.ld_unit_zero zero2]

/-- The result array is the product of the two arguments. -/
theorem arr (c : Dev nD) : (dats m 0 c).arrAt 2 cfg0.N
    = spec (m ((c.tc : Thread nD τ).loc main_arg0)) (m ((c.tc : Thread nD τ).loc main_arg1)) := by
  refine (dats m 0 c).arrAt_eq_of_covers 2 _ (by decide +kernel) fun t hf y => ?_
  blk_simp
  rw [after0_2]
  obtain ⟨r, s, rfl⟩ := pair 768 1024 y
  rw [emb2, out_eq, pay_at]
  simp only [blk0_at, blk1_at]
  rfl

end kernel

section reference
open Cert.ReferenceProjWIdeal Cert.ReferenceProjWIdeal.Gen

/-- The array the reference contracts: `a` with sixteen zero columns put in. -/
def wide (a : FVec Ideal S4096x16896 .bf16) : FVec Ideal S4096x16912 .f32 :=
  concatenate S4096x16912 1
    [⟨S4096x6144, (extractStridedSlice S4096x6144 ![0, 0] (extf (F := Ideal) .f32 a bitsLt_bf16_f32) slices_S4096x16896_S4096x6144_0_0)⟩,
     ⟨S4096x16, (broadcastInDim S4096x16 ![] bcast_S_S4096x16 (constant (F := Ideal) S_ .f32 0x00000000#32))⟩,
     ⟨S4096x10752, (extractStridedSlice S4096x10752 ![0, 6144] (extf (F := Ideal) .f32 a bitsLt_bf16_f32) slices_S4096x16896_S4096x10752_0_6144)⟩]
    concatenates_S4096x6144_S4096x16_S4096x10752_S4096x16912_d1

theorem wide_skip (a : FVec Ideal S4096x16896 .bf16) (r : Fin 4096) (y : Fin 16896) :
    wide a (ix2 r (skip y)) = a (ix2 r y) := by
  by_cases h : y.val < 6144
  · have e : skip y = ⟨y.val, by omega⟩ := Fin.ext (by simp [skip, h])
    rw [e]
    pointwise [wide, h]
  · have e : skip y = ⟨y.val + 16, by omega⟩ := Fin.ext (by simp [skip, h])
    rw [e]
    have h3 : ¬ y.val + 16 < 6144 := by omega
    have h4 : ¬ y.val + 16 - 6144 < 16 := by omega
    have h5 : 6144 + (y.val + 16 - 6144 - 16) = y.val := by omega
    pointwise [wide, h3, h4, h5]

/-- The reference's product without its sixteen rows, at an index. -/
theorem ref_at (a : FVec Ideal S4096x16896 .bf16) (b : FVec Ideal S4096x4096 .bf16) :
    truncf .bf16 (concatenate S16896x4096 0
      [⟨S6144x4096, (extractStridedSlice S6144x4096 ![0, 0] (Host.dotGeneral dot_S4096x16912_S4096x4096_S16912x4096_0_0_1_1_n_n none
        (wide a) (extf .f32 b bitsLt_bf16_f32)) slices_S16912x4096_S6144x4096_0_0)⟩,
       ⟨S10752x4096, (extractStridedSlice S10752x4096 ![6160, 0] (Host.dotGeneral dot_S4096x16912_S4096x4096_S16912x4096_0_0_1_1_n_n none
        (wide a) (extf .f32 b bitsLt_bf16_f32)) slices_S16912x4096_S10752x4096_6160_0)⟩]
      concatenates_S6144x4096_S10752x4096_S16896x4096_d0) bitsLt_bf16_f32 = spec a b := by
  funext i
  obtain ⟨r, s, rfl⟩ := pair 16896 4096 i
  have w (x : Fin 4096) : wide a (ix2 x (skip r)) = a (ix2 x r) := wide_skip a x r
  by_cases h : r.val < 6144
  · have e : skip r = ⟨r.val, by omega⟩ := Fin.ext (by simp [skip, h])
    rw [e] at w
    pointwise [h]
    exact Finset.sum_congr rfl fun x _ => by rw [w]; rfl
  · have e : skip r = ⟨6160 + (r.val - 6144), by omega⟩ := Fin.ext (by simp [skip, h]; omega)
    rw [e] at w
    pointwise [h]
    exact Finset.sum_congr rfl fun x _ => by rw [w]; rfl

end reference

theorem frame_p : Cert.quiescent_KernelProjW := fun m ρ _ => Cert.KernelProjW.Gen.frame m ρ
theorem frame_pi : Cert.quiescent_KernelProjWIdeal := fun m ρ _ => Cert.KernelProjWIdeal.Gen.frame m ρ

/-- The reference runs, keeps its arguments and declares no semaphore. -/
theorem frame_ri : Cert.quiescent_ReferenceProjWIdeal := fun m ρ _ =>
  (θ_run Cert.ReferenceProjWIdeal.defs _ _).mono (fun r h => ⟨fun c => (h c).2, sem_eq_zero_of_no_sems (by decide) r.2⟩)
    (Cert.ReferenceProjWIdeal.Value.run (F := Ideal) m ρ)

theorem preserves : Cert.preserves_KernelProjW_KernelProjWIdeal := trivial

theorem algebraic : Cert.algebraic_KernelProjWIdeal_ReferenceProjWIdeal := by
  intro m ρ m' ρ' _ hagree
  refine ⟨_, (θ_run Cert.KernelProjWIdeal.defs _ _).mono (fun r h c => ⟨(h c).1.trans (arr m c), (h c).2⟩)
    (Cert.KernelProjWIdeal.Value.run_blocks (F := Ideal) m ρ), ?_⟩
  refine (θ_run Cert.ReferenceProjWIdeal.defs _ _).mono (fun r h c => ?_) (Cert.ReferenceProjWIdeal.Value.run (F := Ideal) m' ρ')
  refine ⟨(h c).1.trans ((ref_at _ _).trans ?_), (h c).2⟩
  rw [(hagree c).1, (hagree c).2]

end Cert.Hand.ProjW
end
-- ==== Proof.FoxTile.lean ====
/- The forward attention's tile: how one tile of scores moves a row's running maximum, sum and product. -/
module

public import proofs.«01_k».proof.Proof.Real
public import proofs.«01_k».proof.Proof.Gen.KernelFoxFIdeal.Skeleton

@[expose] public section
set_option maxRecDepth 16384
noncomputable section
namespace Cert.Hand.FoxF
open Cert.KernelFoxFIdeal Cert.KernelFoxFIdeal.Gen Idealize.ShloMosaic Idealize.ShloMosaic.Pointwise

/-- The new maximum, the old sums' factor, the exponentials, the new sum and the new product, of a tile of scores. -/
def tMax (S : FVec Ideal S1024x1024 .f32) (M : FVec Ideal S1024x1 .f32) : FVec Ideal S1024x1 .f32 :=
  maximumf M (shapeCast S1024x1 (multiReduction .maximumf [1] S1024 S 0xFF800000#32 reduces_S1024x1024_S1024 (.inl rfl) rfl : FVec Ideal S1024 .f32) shapeCasts_S1024_S1024x1)
def tOld (S : FVec Ideal S1024x1024 .f32) (M : FVec Ideal S1024x1 .f32) : FVec Ideal S1024x1 .f32 := exp (subf M (tMax S M))
def tExp (S : FVec Ideal S1024x1024 .f32) (M : FVec Ideal S1024x1 .f32) : FVec Ideal S1024x1024 .f32 :=
  exp (subf S (broadcastTo S1024x1024 (tMax S M) broadcasts_S1024x1_S1024x1024))
def tSum (S : FVec Ideal S1024x1024 .f32) (M L : FVec Ideal S1024x1 .f32) : FVec Ideal S1024x1 .f32 :=
  addf (mulf (tOld S M) L) (shapeCast S1024x1 (multiReduction .add [1] S1024 (tExp S M) 0x00000000#32 reduces_S1024x1024_S1024 (.inl rfl) rfl : FVec Ideal S1024 .f32) shapeCasts_S1024_S1024x1)
def tProd (S : FVec Ideal S1024x1024 .f32) (M : FVec Ideal S1024x1 .f32) (A : FVec Ideal S1024x128 .f32) (V : FVec Ideal S1024x128 .bf16) : FVec Ideal S1024x128 .f32 :=
  addf (mulf (broadcastTo S1024x128 (tOld S M) broadcasts_S1024x1_S1024x128) A)
    (matmul dot_S1024x1024_S1024x128_S1024x128_1_0_0_1_n_n none (truncf .bf16 (tExp S M) bitsLt_bf16_f32) V (constant S1024x128 .f32 0x00000000#32))

variable {Q K V : FVec Ideal S1024x128 .bf16} {CQ : FVec Ideal S1x1024x1 .f32} {CK : FVec Ideal S1x1x1024 .f32}
variable {S : FVec Ideal S1024x1024 .f32} {M L : FVec Ideal S1024x1 .f32} {A : FVec Ideal S1024x128 .f32}

/-- A cast to the same shape changes nothing. -/
theorem cast_col (X : FVec Ideal S1024x1 .f32) : shapeCast S1024x1 X shapeCasts_S1024x1_S1024x1 = X := by
  funext y; obtain ⟨r, u, rfl⟩ : ∃ r u, y = ix2 r u := ⟨y 0, y 1, by funext a; match a with | ⟨0, _⟩ => rfl | ⟨1, _⟩ => rfl⟩
  pointwise []
theorem cast_prod (X : FVec Ideal S1024x128 .f32) : shapeCast S1024x128 X shapeCasts_S1024x128_S1024x128 = X := by
  funext y; obtain ⟨r, u, rfl⟩ : ∃ r u, y = ix2 r u := ⟨y 0, y 1, by funext a; match a with | ⟨0, _⟩ => rfl | ⟨1, _⟩ => rfl⟩
  pointwise []

theorem max_off : k0_pay5 (F := Ideal) (k0_pay11 Q K CQ CK M) = tMax (k0_pay10 Q K CQ CK) M := cast_col _
theorem max_dia : k0_pay7 (F := Ideal) (k0_pay18 Q K CQ CK M) = tMax (k0_pay17 Q K CQ CK) M := cast_col _
theorem sum_off : k0_pay14 (F := Ideal) Q K CQ CK M L = tSum (k0_pay10 Q K CQ CK) M L := cast_col _
theorem sum_dia : k0_pay21 (F := Ideal) Q K CQ CK M L = tSum (k0_pay17 Q K CQ CK) M L := cast_col _
theorem prod_off : k0_pay4 (F := Ideal) (k0_pay15 Q K CQ CK M A) (k0_pay16 Q K CQ CK M) V = tProd (k0_pay10 Q K CQ CK) M A V := cast_prod _
theorem prod_dia : k0_pay6 (F := Ideal) (k0_pay19 Q K CQ CK M) (k0_pay20 Q K CQ CK M) A V = tProd (k0_pay17 Q K CQ CK) M A V := cast_prod _

theorem neg_inf' : Ideal.ofBits .f32 0xFF800000#32 = ⊥ := by
  simp [Ideal.ofBits, Ideal.ieee]

theorem start_max (r : Fin 1024) : k0_pay1 (F := Ideal) (ix2 r 0) = ⊥ := by
  pointwise [k0_pay1]
  rfl
theorem start_sum (r : Fin 1024) : k0_pay2 (F := Ideal) (ix2 r 0) = 0 := by
  pointwise [k0_pay2]
theorem start_prod (r : Fin 1024) (d : Fin 128) : k0_pay3 (F := Ideal) (ix2 r d) = 0 := by
  pointwise [k0_pay3]

section
variable {q k : Fin 1024 → Fin 128 → ℝ} {cq ck : Fin 1024 → ℝ}

/-- A tile's scores below the diagonal. -/
theorem score_off (hq : ∀ r d, Q (ix2 r d) = ((q r d : ℝ) : EReal)) (hk : ∀ r d, K (ix2 r d) = ((k r d : ℝ) : EReal))
    (hcq : ∀ r, CQ (ix3 0 r 0) = ((cq r : ℝ) : EReal)) (hck : ∀ r, CK (ix3 0 0 r) = ((ck r : ℝ) : EReal)) (r b : Fin 1024) :
    k0_pay10 (F := Ideal) Q K CQ CK (ix2 r b) = (((∑ d, q r d * k b d) * sc + cq r - ck b : ℝ) : EReal) := by
  pointwise [k0_pay10]
  simp only [hq, hk, hcq, hck, sc_coe, ← EReal.coe_mul, ← EReal.coe_add, ← EReal.coe_sub, coe_sum]

/-- A tile's scores on the diagonal. -/
theorem score_dia (hq : ∀ r d, Q (ix2 r d) = ((q r d : ℝ) : EReal)) (hk : ∀ r d, K (ix2 r d) = ((k r d : ℝ) : EReal))
    (hcq : ∀ r, CQ (ix3 0 r 0) = ((cq r : ℝ) : EReal)) (hck : ∀ r, CK (ix3 0 0 r) = ((ck r : ℝ) : EReal)) (r b : Fin 1024) :
    k0_pay17 (F := Ideal) Q K CQ CK (ix2 r b) = if b ≤ r then (((∑ d, q r d * k b d) * sc + cq r - ck b : ℝ) : EReal) else ⊥ := by
  pointwise [k0_pay17]
  simp only [hq, hk, hcq, hck, sc_coe, ← EReal.coe_mul, ← EReal.coe_add, ← EReal.coe_sub, coe_sum]
  rw [WordCmp.cmpi_sle_ofNat (by have := b.isLt; omega) (by have := r.isLt; omega)]
  by_cases h : b ≤ r
  · have h' : (b : ℕ) ≤ r := h
    simp only [h, h', decide_true, if_true]
    rfl
  · have h' : ¬ (b : ℕ) ≤ r := h
    simp only [h, h', decide_false, if_false]
    rfl
end

section
variable {keep : Fin 1024 → Fin 1024 → Prop} [∀ r b, Decidable (keep r b)] {z : Fin 1024 → Fin 1024 → ℝ}
variable {w : Fin 1024 → ℝ} {u : Fin 1024 → Fin 128 → EReal}

/-- A nonnegative real times a sum of extended reals, the infinite ones among them. -/
theorem mul_sum_coe {ι : Type} (a : ℝ) (ha : 0 ≤ a) (s : Finset ι) (f : ι → EReal) :
    ((a : ℝ) : EReal) * ∑ i ∈ s, f i = ∑ i ∈ s, ((a : ℝ) : EReal) * f i := by
  classical
  induction s using Finset.induction_on with
  | empty => simp
  | insert b s hb ih =>
    rw [Finset.sum_insert hb, Finset.sum_insert hb, EReal.left_distrib_of_nonneg_of_ne_top (EReal.coe_nonneg.mpr ha) (EReal.coe_ne_top a), ih]

/-- A row's running sums: less a number `μ` they are `w` and `u`, and the maximum is `μ`, or nothing was added yet. -/
def Run (M L : FVec Ideal S1024x1 .f32) (A : FVec Ideal S1024x128 .f32) (w : Fin 1024 → ℝ) (u : Fin 1024 → Fin 128 → EReal) : Prop :=
  ∀ r, ∃ μ : ℝ, L (ix2 r 0) = ((w r * Real.exp (-μ) : ℝ) : EReal) ∧ (∀ d, A (ix2 r d) = u r d * ((Real.exp (-μ) : ℝ) : EReal))
    ∧ (M (ix2 r 0) = ((μ : ℝ) : EReal) ∨ (M (ix2 r 0) = ⊥ ∧ w r = 0 ∧ ∀ d, u r d = 0))

theorem tMax_at (r : Fin 1024) : tMax S M (ix2 r 0) = max (M (ix2 r 0)) (Finset.univ.fold max ⊥ fun b => S (ix2 r b)) := by
  pointwise [tMax]
  rw [neg_inf']
theorem tOld_at (r : Fin 1024) : tOld S M (ix2 r 0) = Ideal.exp (M (ix2 r 0) - tMax S M (ix2 r 0)) := by
  pointwise [tOld]
theorem tExp_at (r b : Fin 1024) : tExp S M (ix2 r b) = Ideal.exp (S (ix2 r b) - tMax S M (ix2 r 0)) := by
  pointwise [tExp]
theorem tSum_at (r : Fin 1024) : tSum S M L (ix2 r 0) = tOld S M (ix2 r 0) * L (ix2 r 0) + ∑ b, tExp S M (ix2 r b) := by
  pointwise [tSum]
theorem tProd_at (r : Fin 1024) (d : Fin 128) : tProd S M A V (ix2 r d) = tOld S M (ix2 r 0) * A (ix2 r d) + ∑ b, tExp S M (ix2 r b) * V (ix2 b d) := by
  pointwise [tProd]

/-- The greatest of finitely many numbers below `⊤`, one of them a real, is a real. -/
theorem fold_real (f : Fin 1024 → EReal) (hf : ∀ i, f i < ⊤) (i : Fin 1024) (x : ℝ) (hi : f i = ((x : ℝ) : EReal)) :
    ∃ y : ℝ, Finset.univ.fold max ⊥ f = ((y : ℝ) : EReal) := by
  refine ⟨(Finset.univ.fold max ⊥ f).toReal, (EReal.coe_toReal ?_ ?_).symm⟩
  · exact ne_of_lt (Finset.fold_max_lt (s := Finset.univ) (f := f) (b := ⊥) ⊤ |>.mpr ⟨bot_lt_top, fun j _ => hf j⟩)
  · have : f i ≤ Finset.univ.fold max ⊥ f := (Finset.le_fold_max _).mpr (Or.inr ⟨i, Finset.mem_univ _, le_rfl⟩)
    exact ne_of_gt (lt_of_lt_of_le (by rw [hi]; exact EReal.bot_lt_coe x) this)

/-- One tile added: the running sums gain the tile's kept exponentials and their product with the values. -/
theorem Run.step (R : Run M L A w u) (hS : ∀ r b, S (ix2 r b) = if keep r b then ((z r b : ℝ) : EReal) else ⊥) (hk : ∀ r, ∃ b, keep r b) :
    Run (tMax S M) (tSum S M L) (tProd S M A V) (fun r => w r + ∑ b, if keep r b then Real.exp (z r b) else 0)
      (fun r d => u r d + ∑ b, (((if keep r b then Real.exp (z r b) else 0) : ℝ) : EReal) * V (ix2 b d)) := by
  intro r
  obtain ⟨μ, hL, hA, hM⟩ := R r
  obtain ⟨b0, hb0⟩ := hk r
  obtain ⟨y, hy⟩ := fold_real (fun b => S (ix2 r b)) (fun b => by rw [hS]; split_ifs; exacts [EReal.coe_lt_top _, bot_lt_top]) b0 (z r b0)
    (by simp only [hS, if_pos hb0])
  obtain ⟨ν, hν⟩ : ∃ ν : ℝ, tMax S M (ix2 r 0) = ((ν : ℝ) : EReal) := by
    rw [tMax_at, hy]
    rcases hM with h | ⟨h, -, -⟩
    · exact ⟨max μ y, by rw [h]; exact (EReal.coe_strictMono.monotone.map_max (a := μ) (b := y)).symm⟩
    · exact ⟨y, by rw [h]; exact max_eq_right bot_le⟩
  have hE : ∀ b, tExp S M (ix2 r b) = (((if keep r b then Real.exp (z r b) else 0) * Real.exp (-ν) : ℝ) : EReal) := fun b => by
    rw [tExp_at, hS, hν]
    split_ifs
    · rw [← EReal.coe_sub, Ideal.exp_coe, ← Real.exp_add, sub_eq_add_neg]
    · simp
  have hold : ∀ x : EReal, (M (ix2 r 0) = ⊥ → x = 0) → tOld S M (ix2 r 0) * (x * ((Real.exp (-μ) : ℝ) : EReal)) = x * ((Real.exp (-ν) : ℝ) : EReal) := fun x hx => by
    rcases hM with h | ⟨h, -, -⟩
    · rw [tOld_at, hν, h, ← EReal.coe_sub, Ideal.exp_coe, mul_left_comm, ← EReal.coe_mul, ← Real.exp_add]
      refine congrArg (fun y : ℝ => x * ((Real.exp y : ℝ) : EReal)) ?_
      ring
    · rw [hx h, zero_mul, mul_zero, zero_mul]
  have hbot : M (ix2 r 0) = ⊥ → w r = 0 ∧ ∀ d, u r d = 0 := fun h => by
    rcases hM with h' | ⟨-, h'⟩
    · rw [h] at h'; exact absurd h'.symm (EReal.coe_ne_bot _)
    · exact h'
  refine ⟨ν, ?_, fun d => ?_, Or.inl hν⟩
  · rw [tSum_at, hL, EReal.coe_mul, hold _ fun h => by rw [(hbot h).1, EReal.coe_zero]]
    simp only [hE, coe_sum, ← EReal.coe_mul, ← EReal.coe_add, ← Finset.sum_mul, add_mul]
  · rw [tProd_at, hA, hold _ fun h => (hbot h).2 d, mul_comm (u r d + _),
      EReal.left_distrib_of_nonneg_of_ne_top (EReal.coe_nonneg.mpr (Real.exp_pos _).le) (EReal.coe_ne_top _), mul_sum_coe _ (Real.exp_pos _).le,
      mul_comm (u r d)]
    refine congrArg _ (Finset.sum_congr rfl fun b _ => ?_)
    rw [hE, mul_comm _ (Real.exp (-ν)), EReal.coe_mul, mul_assoc]

theorem Run.start : Run (k0_pay1 (F := Ideal)) (k0_pay2 (F := Ideal)) (k0_pay3 (F := Ideal)) (fun _ => 0) (fun _ _ => 0) := fun r =>
  ⟨0, by rw [start_sum]; simp, fun d => by rw [start_prod]; simp, Or.inr ⟨start_max r, rfl, fun _ => rfl⟩⟩

/-- The outputs stored: each product over its sum, and the maximum plus the sum's log. -/
theorem Run.out (R : Run M L A w u) (hw : ∀ r, 0 < w r) (r : Fin 1024) (d : Fin 128) :
    k0_pay8 (F := Ideal) L A (ix2 r d) = u r d * ((1 / w r : ℝ) : EReal) := by
  obtain ⟨μ, hL, hA, -⟩ := R r
  pointwise [k0_pay8]
  rw [hL, hA, Ideal.div_coe (mul_pos (hw r) (Real.exp_pos _)).ne', mul_assoc, ← EReal.coe_mul]
  refine congrArg (fun y : ℝ => u r d * ((y : ℝ) : EReal)) ?_
  have := (hw r).ne'
  have := (Real.exp_pos (-μ)).ne'
  field_simp

theorem Run.lse (R : Run M L A w u) (hw : ∀ r, 0 < w r) (r : Fin 1024) :
    k0_pay9 (F := Ideal) L M (ix3 0 r 0) = ((Real.log (w r) : ℝ) : EReal) := by
  obtain ⟨μ, hL, -, hM⟩ := R r
  pointwise [k0_pay9]
  rcases hM with h | ⟨-, h, -⟩
  · rw [hL, h, Ideal.log_coe, if_neg (not_le.mpr (mul_pos (hw r) (Real.exp_pos _))), ← EReal.coe_add,
      Real.log_mul (hw r).ne' (Real.exp_pos _).ne', Real.log_exp]
    exact congrArg _ (by ring)
  · exact absurd h (hw r).ne'

end
end Cert.Hand.FoxF
end
-- ==== Proof.FoxBase.lean ====
/- The forward attention call: what its runs share. Point `t` is head `t / 16`, query tile `t / 4 % 4`, key tile `t % 4`. -/
module

public import proofs.«01_k».proof.Proof.Gen.KernelFoxFIdeal.Launch
public import proofs.«01_k».proof.Proof.Gen.KernelFoxFIdeal.Skeleton
public import proofs.«01_k».proof.Proof.Gen.KernelFoxFIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers when the grid starts. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of window `w` at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input's buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The arguments end unchanged, from a run of the grid. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c)⟩) h

/-- The key tile is the first. -/
abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 4 = 0 :=
  (fun t => by
    have ht : t.val < 256 := Nat.lt_of_lt_of_eq t.isLt N_0
    have e0 : (grid0.coords t 0).val = t.val / 16 % 16 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    simp only [cond0_0, e0, e1, e2]
    word_cmp
   : ∀ t : Fin grid0.N, cond0_0 (grid0.coords t) ↔ t.val % 4 = 0)

/-- The key tile lies before the diagonal. -/
abbrev cond0_1 (i : grid0.Coords) : Prop := (Scalar.cmpi .ne (Scalar.extui (Scalar.cmpi .slt (BitVec.ofNat 32 (i 2).val) (BitVec.ofNat 32 (i 1).val))) 0#32) = 1#1
theorem hcond0_1 : ∀ t : Fin cfg0.N, cond0_1 (grid0.coords t) ↔ t.val % 4 + 1 ≤ t.val / 4 % 4 :=
  (by decide +kernel : ∀ t : Fin grid0.N, cond0_1 (grid0.coords t) ↔ t.val % 4 + 1 ≤ t.val / 4 % 4)

/-- The tile is the diagonal one. -/
abbrev cond0_2 (i : grid0.Coords) : Prop := k0_cond3 i = 1#1
theorem hcond0_2 : ∀ t : Fin cfg0.N, cond0_2 (grid0.coords t) ↔ t.val / 4 % 4 = t.val % 4 :=
  (by decide +kernel : ∀ t : Fin grid0.N, cond0_2 (grid0.coords t) ↔ t.val / 4 % 4 = t.val % 4)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
/-- The points where the buffer of output 5 holds nothing of its row yet. -/
def freshTab0_5 : ℕ → Bool
  | 0 => true
  | n + 1 => (0xfb98fb98fb98fb98fb98fb98fb98fb98fb98fb98fb98fb98fb98fb98fb98fb98 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
theorem liveAt0_5_A : ∀ t : Fin cfg0.N, cond0_0 (grid0.coords t) → ¬cond0_1 (grid0.coords t) → cond0_2 (grid0.coords t) → cfg0.idle 5 (grid0.coords t) = false := by decide +kernel
theorem notFresh0_5_B : ∀ t : Fin cfg0.N, ¬cond0_0 (grid0.coords t) → ¬cond0_1 (grid0.coords t) → ¬cond0_2 (grid0.coords t) → cfg0.fresh 5 t.val = false := by
  intro t; rw [fresh0_5_eq t]; revert t; decide +kernel
theorem idleAt0_5_C : ∀ t : Fin cfg0.N, cond0_0 (grid0.coords t) → cond0_1 (grid0.coords t) → ¬cond0_2 (grid0.coords t) → cfg0.idle 5 (grid0.coords t) = true := by decide +kernel
theorem noFlush0_5_C : ∀ t : Fin cfg0.N, cond0_0 (grid0.coords t) → cond0_1 (grid0.coords t) → ¬cond0_2 (grid0.coords t) → (cfg0.win 5).flush t = false := by decide +kernel
theorem liveAt0_5_D : ∀ t : Fin cfg0.N, ¬cond0_0 (grid0.coords t) → ¬cond0_1 (grid0.coords t) → cond0_2 (grid0.coords t) → cfg0.idle 5 (grid0.coords t) = false := by decide +kernel
theorem idleAt0_5_E : ∀ t : Fin cfg0.N, ¬cond0_0 (grid0.coords t) → cond0_1 (grid0.coords t) → ¬cond0_2 (grid0.coords t) → cfg0.idle 5 (grid0.coords t) = true := by decide +kernel
theorem noFlush0_5_E : ∀ t : Fin cfg0.N, ¬cond0_0 (grid0.coords t) → cond0_1 (grid0.coords t) → ¬cond0_2 (grid0.coords t) → (cfg0.win 5).flush t = false := by decide +kernel
/-- The points where the buffer of output 6 holds nothing of its row yet. -/
def freshTab0_6 : ℕ → Bool
  | 0 => true
  | n + 1 => (0xfb98fb98fb98fb98fb98fb98fb98fb98fb98fb98fb98fb98fb98fb98fb98fb98 : ℕ).testBit n
theorem freshTab0_6_step : ∀ t : Fin cfg0.N,
    freshTab0_6 (t.val + 1) = ((cfg0.win 6).flush t || (cfg0.idle 6 (cfg0.grid.coords t) && freshTab0_6 t.val)) := by decide +kernel
theorem fresh0_6_eq (t : Fin cfg0.N) : cfg0.fresh 6 t.val = freshTab0_6 t.val :=
  Pipeline.Cfg.fresh_tab cfg0 6 freshTab0_6 rfl freshTab0_6_step t.val (Nat.le_of_lt t.isLt)
theorem liveAt0_6_A : ∀ t : Fin cfg0.N, cond0_0 (grid0.coords t) → ¬cond0_1 (grid0.coords t) → cond0_2 (grid0.coords t) → cfg0.idle 6 (grid0.coords t) = false := by decide +kernel
theorem notFresh0_6_B : ∀ t : Fin cfg0.N, ¬cond0_0 (grid0.coords t) → ¬cond0_1 (grid0.coords t) → ¬cond0_2 (grid0.coords t) → cfg0.fresh 6 t.val = false := by
  intro t; rw [fresh0_6_eq t]; revert t; decide +kernel
theorem idleAt0_6_C : ∀ t : Fin cfg0.N, cond0_0 (grid0.coords t) → cond0_1 (grid0.coords t) → ¬cond0_2 (grid0.coords t) → cfg0.idle 6 (grid0.coords t) = true := by decide +kernel
theorem noFlush0_6_C : ∀ t : Fin cfg0.N, cond0_0 (grid0.coords t) → cond0_1 (grid0.coords t) → ¬cond0_2 (grid0.coords t) → (cfg0.win 6).flush t = false := by decide +kernel
theorem liveAt0_6_D : ∀ t : Fin cfg0.N, ¬cond0_0 (grid0.coords t) → ¬cond0_1 (grid0.coords t) → cond0_2 (grid0.coords t) → cfg0.idle 6 (grid0.coords t) = false := by decide +kernel
theorem idleAt0_6_E : ∀ t : Fin cfg0.N, ¬cond0_0 (grid0.coords t) → cond0_1 (grid0.coords t) → ¬cond0_2 (grid0.coords t) → cfg0.idle 6 (grid0.coords t) = true := by decide +kernel
theorem noFlush0_6_E : ∀ t : Fin cfg0.N, ¬cond0_0 (grid0.coords t) → cond0_1 (grid0.coords t) → ¬cond0_2 (grid0.coords t) → (cfg0.win 6).flush t = false := by decide +kernel

/-- A buffer through which an output's contents are stated. -/
abbrev VO0_5 : View sig .tc .vmem S1024x128 .bf16 := (Memref.whole cc0_stg5_0 : Memref sig .tc .vmem S1024x128 .bf16).view
abbrev VO0_6 : View sig .tc .vmem S1x1024x1 .f32 := (Memref.whole cc0_stg6_0 : Memref sig .tc .vmem S1x1024x1 .f32).view
/-- The buffers that the body is handed at point `t`. -/
abbrev ms0_0 (t : Fin cfg0.N) : Memref sig .tc .vmem S1024x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024x1 .f32 := win0_6.stage (cfg0.slots t 6)
abbrev hs0_6 (t : Fin cfg0.N) : (ms0_6 t).IsWhole := hstage0_6 ((cfg0.slots t 6).cast nbuf0_6)
/-- The running maximum, the running sum and the running product. -/
abbrev scM0_0 : Memref sig .tc .vmem S1024x1 .f32 := Memref.whole cc0_scratch0
abbrev scM0_1 : Memref sig .tc .vmem S1024x1 .f32 := Memref.whole cc0_scratch1
abbrev scM0_2 : Memref sig .tc .vmem S1024x128 .f32 := Memref.whole cc0_scratch2
abbrev VS0_0 : View sig .tc .vmem S1024x1 .f32 := scM0_0.view
abbrev VS0_1 : View sig .tc .vmem S1024x1 .f32 := scM0_1.view
abbrev VS0_2 : View sig .tc .vmem S1024x128 .f32 := scM0_2.view

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FoxRun

end
-- ==== Proof.FoxRunA.lean ====
/- The forward attention call, case A. The first key tile is the diagonal one: the body clears its running sums, adds the masked tile and stores the results. -/
module

public import proofs.«01_k».proof.Proof.FoxBase

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in this case, and the pieces that it stores. -/
noncomputable def kernelRun0_A (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) :
    Σ' (L5 : List (View.Piece (Elt F) S1024x128 .bf16)), Σ' (L6 : List (View.Piece (Elt F) S1x1024x1 .f32)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_fox_fwd i arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_fox_fwd_eq_skeleton]; unfold cc0_fox_fwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    isplitl [HS1]; · iexists _; iexact HS1
    iexists _; iexact HS2

end Cert.FoxRun

end
-- ==== Proof.FoxRunB.lean ====
/- The forward attention call, case B. The key tile lies after the query tile: the body does nothing. -/
module

public import proofs.«01_k».proof.Proof.FoxRunA

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in this case, and the pieces that it stores. -/
noncomputable def kernelRun0_B (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) (xo6 : Vec F S1x1024x1 .f32) (xs0 : Vec F S1024x1 .f32) (xs1 : Vec F S1024x1 .f32) (xs2 : Vec F S1024x128 .f32) :
    Σ' (L5 : List (View.Piece (Elt F) S1024x128 .bf16)), Σ' (L6 : List (View.Piece (Elt F) S1x1024x1 .f32)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xo6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xo5 ∗ owns (c : Thread nD τ) arg9 fullShare xo6 ∗ owns (c : Thread nD τ) arg10 fullShare xs0 ∗ owns (c : Thread nD τ) arg11 fullShare xs1 ∗ owns (c : Thread nD τ) arg12 fullShare xs2) -∗ K ⟨⟩))
          ⊢ wp frame (wpE (defs₀ (F := F)) Variants.none c none) E (cc0_fox_fwd i arg3 harg3 arg4 harg4 arg5 harg5 arg6 harg6 arg7 harg7 arg8 harg8 arg9 harg9 arg10 harg10 arg11 harg11 arg12 harg12) K } := by
  refine ⟨[], [], [], [], [], fun E K => ?run⟩
  case run =>
    simp only [cc0_fox_fwd_eq_skeleton]; unfold cc0_fox_fwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]
    · iexists _; isplitr; · ipureintro; exact harg10.read_unread _
      iexact HS0
    isplitl [HS1]
    · iexists _; isplitr; · ipureintro; exact harg11.read_unread _
      iexact HS1
    iexists _; isplitr; · ipureintro; exact harg12.read_unread _
    iexact HS2

end Cert.FoxRun

end
-- ==== Proof.FoxRunC.lean ====
/- The forward attention call, case C. The first key tile, before the diagonal: the body clears its running sums and adds the tile. -/
module

public import proofs.«01_k».proof.Proof.FoxRunB

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body in this case, and the pieces that it stores. -/
noncomputable def kernelRun0_C (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) :
    Σ' (L5 : List (View.Piece (Elt F) S1024x128 .bf16)), Σ' (L6 : List (View.Piece (Elt F) S1x1024x1 .f32)), Σ' (LS0 : List (View.Piece (Elt F) S1024x1 .f32)), Σ' (LS1 : List (View.Piece (Elt F) S1024x1 .f32)), { LS2 : List (View.Piece (Elt F) S1024x128 .f32) //
      ∀ (xi5 : Vec F S1024x128 .bf16) (xi6 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_fox_fwd i arg3 harg3 arg4 harg4 arg5 harg5 arg6 harg6 arg7 harg7 arg8 harg8 arg9 harg9 arg10 harg10 arg11 harg11 arg12 harg12) K } := by
  refine ⟨[], [], ?_, ?_, ?_, fun xi5 xi6 E K => ?run⟩
  case run =>
    simp only [cc0_fox_fwd_eq_skeleton]; unfold cc0_fox_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.FoxRun

end
-- ==== Proof.FoxRunD.lean ====
/- The forward attention call, case D. The diagonal tile, not the first: the body adds the masked tile and stores the results. -/
module

public import proofs.«01_k».proof.Proof.FoxRunC

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body in this case, and the pieces that it stores. -/
noncomputable def kernelRun0_D (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) :
    Σ' (L5 : List (View.Piece (Elt F) S1024x128 .bf16)), Σ' (L6 : List (View.Piece (Elt F) S1x1024x1 .f32)), Σ' (LS0 : List (View.Piece (Elt F) S1024x1 .f32)), Σ' (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_fox_fwd i arg3 harg3 arg4 harg4 arg5 harg5 arg6 harg6 arg7 harg7 arg8 harg8 arg9 harg9 arg10 harg10 arg11 harg11 arg12 harg12) K } := by
  refine ⟨?_, ?_, ?_, ?_, ?_, fun E K => ?run⟩
  case run =>
    simp only [cc0_fox_fwd_eq_skeleton]; unfold cc0_fox_fwd_skel
    simp only [k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    isplitl [HS0]; · iexists _; iexact HS0
    isplitl [HS1]; · iexists _; iexact HS1
    iexists _; iexact HS2

end Cert.FoxRun

end
-- ==== Proof.FoxRunE.lean ====
/- The forward attention call, case E. A key tile between the first and the diagonal: the body adds the tile. -/
module

public import proofs.«01_k».proof.Proof.FoxRunD

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1200000 in
/-- The body in this case, and the pieces that it stores. -/
noncomputable def kernelRun0_E (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) :
    Σ' (L5 : List (View.Piece (Elt F) S1024x128 .bf16)), Σ' (L6 : List (View.Piece (Elt F) S1x1024x1 .f32)), Σ' (LS0 : List (View.Piece (Elt F) S1024x1 .f32)), Σ' (LS1 : List (View.Piece (Elt F) S1024x1 .f32)), { LS2 : List (View.Piece (Elt F) S1024x128 .f32) //
      ∀ (xi5 : Vec F S1024x128 .bf16) (xi6 : Vec F S1x1024x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc0_fox_fwd i arg3 harg3 arg4 harg4 arg5 harg5 arg6 harg6 arg7 harg7 arg8 harg8 arg9 harg9 arg10 harg10 arg11 harg11 arg12 harg12) K } := by
  refine ⟨[], [], ?_, ?_, ?_, fun xi5 xi6 E K => ?run⟩
  case run =>
    simp only [cc0_fox_fwd_eq_skeleton]; unfold cc0_fox_fwd_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hfs0; obtain rfl := harg11.eq_unread hfs1; obtain rfl := harg12.eq_unread hfs2
    sl_exec (disch := first | sl_exact hc0 | sl_exact hc1 | sl_exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

end Cert.FoxRun

end
-- ==== Proof.FoxFrame.lean ====
/- The forward attention call: what its buffers hold after every point, and its run. -/
module

public import proofs.«01_k».proof.Proof.FoxRunE
public import Idealize.ShloMosaic.Lib.Claim

@[expose] public section

set_option maxRecDepth 16384

noncomputable section

namespace Cert.FoxRun

open Cert.KernelFoxFIdeal Cert.KernelFoxFIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
theorem cover0_A_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (y : S1024x128.Idx) :
    ∃ pc ∈ (kernelRun0_A c i arg3 harg3 arg4 harg4 arg5 harg5 arg6 harg6 arg7 harg7 arg8 harg8 arg9 harg9 arg10 harg10 arg11 harg11 arg12 harg12 hc0 hc1 hc2 x0 x1 x2 x3 x4).1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 x0 x1 x2 x3 x4).1 S1024x128.size (by sl_kernel_rfl) y

def out0_A_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) : Vec F S1024x128 .bf16 :=
  VO0_5.read (Elt F) (VO0_5.writes (Elt F) VO0_5.junk (kernelRun0_A c i arg3 harg3 arg4 harg4 arg5 harg5 arg6 harg6 arg7 harg7 arg8 harg8 arg9 harg9 arg10 harg10 arg11 harg11 arg12 harg12 hc0 hc1 hc2 x0 x1 x2 x3 x4).1)

theorem cover0_A_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (y : S1x1024x1.Idx) :
    ∃ pc ∈ (kernelRun0_A c i arg3 harg3 arg4 harg4 arg5 harg5 arg6 harg6 arg7 harg7 arg8 harg8 arg9 harg9 arg10 harg10 arg11 harg11 arg12 harg12 hc0 hc1 hc2 x0 x1 x2 x3 x4).2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 x0 x1 x2 x3 x4).2.1 S1x1024x1.size (by sl_kernel_rfl) y

def out0_A_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) : Vec F S1x1024x1 .f32 :=
  VO0_6.read (Elt F) (VO0_6.writes (Elt F) VO0_6.junk (kernelRun0_A c i arg3 harg3 arg4 harg4 arg5 harg5 arg6 harg6 arg7 harg7 arg8 harg8 arg9 harg9 arg10 harg10 arg11 harg11 arg12 harg12 hc0 hc1 hc2 x0 x1 x2 x3 x4).2.1)

theorem scover0_A_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (y : S1024x1.Idx) :
    ∃ pc ∈ (kernelRun0_A c i arg3 harg3 arg4 harg4 arg5 harg5 arg6 harg6 arg7 harg7 arg8 harg8 arg9 harg9 arg10 harg10 arg11 harg11 arg12 harg12 hc0 hc1 hc2 x0 x1 x2 x3 x4).2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 x0 x1 x2 x3 x4).2.2.1 S1024x1.size (by sl_kernel_rfl) y

def sout0_A_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) : Vec F S1024x1 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 hc0 hc1 hc2 x0 x1 x2 x3 x4).2.2.1)

theorem scover0_A_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (y : S1024x1.Idx) :
    ∃ pc ∈ (kernelRun0_A c i arg3 harg3 arg4 harg4 arg5 harg5 arg6 harg6 arg7 harg7 arg8 harg8 arg9 harg9 arg10 harg10 arg11 harg11 arg12 harg12 hc0 hc1 hc2 x0 x1 x2 x3 x4).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 x0 x1 x2 x3 x4).2.2.2.1 S1024x1.size (by sl_kernel_rfl) y

def sout0_A_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) : Vec F S1024x1 .f32 :=
  VS0_1.read (Elt F) (VS0_1.writes (Elt F) VS0_1.junk (kernelRun0_A c i arg3 harg3 arg4 harg4 arg5 harg5 arg6 harg6 arg7 harg7 arg8 harg8 arg9 harg9 arg10 harg10 arg11 harg11 arg12 harg12 hc0 hc1 hc2 x0 x1 x2 x3 x4).2.2.2.1)

theorem scover0_A_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (y : S1024x128.Idx) :
    ∃ pc ∈ (kernelRun0_A c i arg3 harg3 arg4 harg4 arg5 harg5 arg6 harg6 arg7 harg7 arg8 harg8 arg9 harg9 arg10 harg10 arg11 harg11 arg12 harg12 hc0 hc1 hc2 x0 x1 x2 x3 x4).2.2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 hc0 hc1 hc2 x0 x1 x2 x3 x4).2.2.2.2.1 S1024x128.size (by sl_kernel_rfl) y

def sout0_A_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) : Vec F S1024x128 .f32 :=
  VS0_2.read (Elt F) (VS0_2.writes (Elt F) VS0_2.junk (kernelRun0_A c i arg3 harg3 arg4 harg4 arg5 harg5 arg6 harg6 arg7 harg7 arg8 harg8 arg9 harg9 arg10 harg10 arg11 harg11 arg12 harg12 hc0 hc1 hc2 x0 x1 x2 x3 x4).2.2.2.2.1)

def out0_B_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) (xo6 : Vec F S1x1024x1 .f32) (xs0 : Vec F S1024x1 .f32) (xs1 : Vec F S1024x1 .f32) (xs2 : Vec F S1024x128 .f32) : Vec F S1024x128 .bf16 := xo5

def out0_B_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) (xo6 : Vec F S1x1024x1 .f32) (xs0 : Vec F S1024x1 .f32) (xs1 : Vec F S1024x1 .f32) (xs2 : Vec F S1024x128 .f32) : Vec F S1x1024x1 .f32 := xo6

def sout0_B_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) (xo6 : Vec F S1x1024x1 .f32) (xs0 : Vec F S1024x1 .f32) (xs1 : Vec F S1024x1 .f32) (xs2 : Vec F S1024x128 .f32) : Vec F S1024x1 .f32 := xs0

def sout0_B_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) (xo6 : Vec F S1x1024x1 .f32) (xs0 : Vec F S1024x1 .f32) (xs1 : Vec F S1024x1 .f32) (xs2 : Vec F S1024x128 .f32) : Vec F S1024x1 .f32 := xs1

def sout0_B_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) (xo6 : Vec F S1x1024x1 .f32) (xs0 : Vec F S1024x1 .f32) (xs1 : Vec F S1024x1 .f32) (xs2 : Vec F S1024x128 .f32) : Vec F S1024x128 .f32 := xs2

def out0_C_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo5 : Vec F S1024x128 .bf16) : Vec F S1024x128 .bf16 := xo5

def out0_C_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xo6 : Vec F S1x1024x1 .f32) : Vec F S1x1024x1 .f32 := xo6

theorem scover0_C_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (y : S1024x1.Idx) :
    ∃ pc ∈ (kernelRun0_C c i arg3 harg3 arg4 harg4 arg5 harg5 arg6 harg6 arg7 harg7 arg8 harg8 arg9 harg9 arg10 harg10 arg11 harg11 arg12 harg12 hc0 hc1 hc2 x0 x1 x2 x3 x4).2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 hc2 x0 x1 x2 x3 x4).2.2.1 S1024x1.size (by sl_kernel_rfl) y

def sout0_C_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) : Vec F S1024x1 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 hc0 hc1 hc2 x0 x1 x2 x3 x4).2.2.1)

theorem scover0_C_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (y : S1024x1.Idx) :
    ∃ pc ∈ (kernelRun0_C c i arg3 harg3 arg4 harg4 arg5 harg5 arg6 harg6 arg7 harg7 arg8 harg8 arg9 harg9 arg10 harg10 arg11 harg11 arg12 harg12 hc0 hc1 hc2 x0 x1 x2 x3 x4).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 hc2 x0 x1 x2 x3 x4).2.2.2.1 S1024x1.size (by sl_kernel_rfl) y

def sout0_C_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) : Vec F S1024x1 .f32 :=
  VS0_1.read (Elt F) (VS0_1.writes (Elt F) VS0_1.junk (kernelRun0_C c i arg3 harg3 arg4 harg4 arg5 harg5 arg6 harg6 arg7 harg7 arg8 harg8 arg9 harg9 arg10 harg10 arg11 harg11 arg12 harg12 hc0 hc1 hc2 x0 x1 x2 x3 x4).2.2.2.1)

theorem scover0_C_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (y : S1024x128.Idx) :
    ∃ pc ∈ (kernelRun0_C c i arg3 harg3 arg4 harg4 arg5 harg5 arg6 harg6 arg7 harg7 arg8 harg8 arg9 harg9 arg10 harg10 arg11 harg11 arg12 harg12 hc0 hc1 hc2 x0 x1 x2 x3 x4).2.2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 hc0 hc1 hc2 x0 x1 x2 x3 x4).2.2.2.2.1 S1024x128.size (by sl_kernel_rfl) y

def sout0_C_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) : Vec F S1024x128 .f32 :=
  VS0_2.read (Elt F) (VS0_2.writes (Elt F) VS0_2.junk (kernelRun0_C c i arg3 harg3 arg4 harg4 arg5 harg5 arg6 harg6 arg7 harg7 arg8 harg8 arg9 harg9 arg10 harg10 arg11 harg11 arg12 harg12 hc0 hc1 hc2 x0 x1 x2 x3 x4).2.2.2.2.1)

theorem cover0_D_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x128.Idx) :
    ∃ pc ∈ (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).1 S1024x128.size (by sl_kernel_rfl) y

def out0_D_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x128 .bf16 :=
  VO0_5.read (Elt F) (VO0_5.writes (Elt F) VO0_5.junk (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).1)

theorem cover0_D_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1x1024x1.Idx) :
    ∃ pc ∈ (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.1 S1x1024x1.size (by sl_kernel_rfl) y

def out0_D_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1x1024x1 .f32 :=
  VO0_6.read (Elt F) (VO0_6.writes (Elt F) VO0_6.junk (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.1)

theorem scover0_D_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x1.Idx) :
    ∃ pc ∈ (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.1 S1024x1.size (by sl_kernel_rfl) y

def sout0_D_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x1 .f32 :=
  VS0_0.read (Elt F) (VS0_0.writes (Elt F) VS0_0.junk (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.1)

theorem scover0_D_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x1.Idx) :
    ∃ pc ∈ (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.1 S1024x1.size (by sl_kernel_rfl) y

def sout0_D_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x1 .f32 :=
  VS0_1.read (Elt F) (VS0_1.writes (Elt F) VS0_1.junk (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.1)

theorem scover0_D_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x128.Idx) :
    ∃ pc ∈ (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.2.1, y ∈ pc.1.set :=
  View.cover_of_tiledL (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.2.1 S1024x128.size (by sl_kernel_rfl) y

def sout0_D_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : ¬cond0_1 i) (hc2 : cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x128 .f32 :=
  VS0_2.read (Elt F) (VS0_2.writes (Elt F) VS0_2.junk (kernelRun0_D c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.2.1)

def out0_E_5 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (xo5 : Vec F S1024x128 .bf16) : Vec F S1024x128 .bf16 := xo5

def out0_E_6 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (xo6 : Vec F S1x1024x1 .f32) : Vec F S1x1024x1 .f32 := xo6

theorem scover0_E_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x1.Idx) :
    ∃ pc ∈ (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.1 S1024x1.size (by sl_kernel_rfl) y

def sout0_E_0 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x1 .f32 :=
  VS0_0.read (Elt F) (VS0_0.writes (Elt F) VS0_0.junk (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.1)

theorem scover0_E_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x1.Idx) :
    ∃ pc ∈ (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.1 S1024x1.size (by sl_kernel_rfl) y

def sout0_E_1 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x1 .f32 :=
  VS0_1.read (Elt F) (VS0_1.writes (Elt F) VS0_1.junk (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.1)

theorem scover0_E_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) (y : S1024x128.Idx) :
    ∃ pc ∈ (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.2.1, y ∈ pc.1.set :=
  View.cover_of_tiledL (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.2.1 S1024x128.size (by sl_kernel_rfl) y

def sout0_E_2 (c : Dev nD) (i : grid0.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1x1024x1 .f32) (harg6 : arg6.IsWhole) (arg7 : Memref sig .tc .vmem S1x1x1024 .f32) (harg7 : arg7.IsWhole) (arg8 : Memref sig .tc .vmem S1024x128 .bf16) (harg8 : arg8.IsWhole) (arg9 : Memref sig .tc .vmem S1x1024x1 .f32) (harg9 : arg9.IsWhole) (arg10 : Memref sig .tc .vmem S1024x1 .f32) (harg10 : arg10.IsWhole) (arg11 : Memref sig .tc .vmem S1024x1 .f32) (harg11 : arg11.IsWhole) (arg12 : Memref sig .tc .vmem S1024x128 .f32) (harg12 : arg12.IsWhole) (hc0 : ¬cond0_0 i) (hc1 : cond0_1 i) (hc2 : ¬cond0_2 i)
    (x0 : Vec F S1024x128 .bf16) (x1 : Vec F S1024x128 .bf16) (x2 : Vec F S1024x128 .bf16) (x3 : Vec F S1x1024x1 .f32) (x4 : Vec F S1x1x1024 .f32) (xs0 : Vec F S1024x1 .f32) (xs1 : Vec F S1024x1 .f32) (xs2 : Vec F S1024x128 .f32) : Vec F S1024x128 .f32 :=
  VS0_2.read (Elt F) (VS0_2.writes (Elt F) VS0_2.junk (kernelRun0_E c i arg3 harg3 arg4 harg4 arg5 harg5 arg6 harg6 arg7 harg7 arg8 harg8 arg9 harg9 arg10 harg10 arg11 harg11 arg12 harg12 hc0 hc1 hc2 x0 x1 x2 x3 x4 xs0 xs1 xs2).2.2.2.2.1)

/-- What the outputs' buffers and the running buffers hold after each point. -/
def outsAt0 (c : Dev nD) : (n : ℕ) → n < cfg0.N → Vec F S1024x128 .bf16 × Vec F S1x1024x1 .f32 × Vec F S1024x1 .f32 × Vec F S1024x1 .f32 × Vec F S1024x128 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only) <;> omega)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 4 = 0 then
      if h1 : (n + 1) % 4 + 1 ≤ (n + 1) / 4 % 4 then
        if h2 : (n + 1) / 4 % 4 = (n + 1) % 4 then
          False.elim (by have hN : n + 1 < 256 := lt_of_lt_of_eq hn (show cfg0.N = 256 from N_0); omega)
        else
          (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
      else
        if h2 : (n + 1) / 4 % 4 = (n + 1) % 4 then
          (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩))
        else
          False.elim (by have hN : n + 1 < 256 := lt_of_lt_of_eq hn (show cfg0.N = 256 from N_0); omega)
    else
      if h1 : (n + 1) % 4 + 1 ≤ (n + 1) / 4 % 4 then
        if h2 : (n + 1) / 4 % 4 = (n + 1) % 4 then
          False.elim (by have hN : n + 1 < 256 := lt_of_lt_of_eq hn (show cfg0.N = 256 from N_0); omega)
        else
          (out0_E_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (outsAt0 c n (Nat.lt_of_succ_lt hn)).1, out0_E_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2 (outsAt0 c n (Nat.lt_of_succ_lt hn)).2.1, sout0_E_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_E_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_E_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2)
      else
        if h2 : (n + 1) / 4 % 4 = (n + 1) % 4 then
          (out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_D_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_D_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_D_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2.1 (outsAt0 c n (Nat.lt_of_succ_lt hn)).2.2.2.2)
        else
          (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2.1 (outsAt0 c n (Nat.lt_of_succ_lt hn)).2.2.2.2)

theorem outsAt0_A (c : Dev nD) (t : Fin cfg0.N) (h0 : t.val % 4 = 0) (h1 : ¬t.val % 4 + 1 ≤ t.val / 4 % 4) (h2 : t.val / 4 % 4 = t.val % 4) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) ((hcond0_2 t).mpr h2) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans ((dif_pos h2).trans rfl))

theorem outsAt0_B (c : Dev nD) (t : Fin cfg0.N) (h0 : ¬t.val % 4 = 0) (h1 : ¬t.val % 4 + 1 ≤ t.val / 4 % 4) (h2 : ¬t.val / 4 % 4 = t.val % 4) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_neg h2).trans rfl))

theorem outsAt0_C (c : Dev nD) (t : Fin cfg0.N) (h0 : t.val % 4 = 0) (h1 : t.val % 4 + 1 ≤ t.val / 4 % 4) (h2 : ¬t.val / 4 % 4 = t.val % 4) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).1, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t)) := by
  obtain ⟨n, hn⟩ := t
  cases n with
  | zero => exact (by exfalso; (try dsimp only at h1); exact by omega)
  | succ n => exact (dif_pos h0).trans ((dif_pos h1).trans ((dif_neg h2).trans rfl))

theorem outsAt0_D (c : Dev nD) (t : Fin cfg0.N) (h0 : ¬t.val % 4 = 0) (h1 : ¬t.val % 4 + 1 ≤ t.val / 4 % 4) (h2 : t.val / 4 % 4 = t.val % 4) :
    outsAt0 m c t.val t.isLt = (out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_D_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans rfl))

theorem outsAt0_E (c : Dev nD) (t : Fin cfg0.N) (h0 : ¬t.val % 4 = 0) (h1 : t.val % 4 + 1 ≤ t.val / 4 % 4) (h2 : ¬t.val / 4 % 4 = t.val % 4) :
    outsAt0 m c t.val t.isLt = (out0_E_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).1, out0_E_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 (outsAt0 m c (t.val - 1) (Nat.lt_of_le_of_lt (Nat.sub_le _ _) t.isLt)).2.1, sout0_E_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_E_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_E_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- Between two points: the running buffers as the point before left them. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-- What every window holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- A point that stores nothing into output 5 leaves it as it was. -/
theorem hcarry0_5 (c : Dev nD) : ∀ (t : Fin cfg0.N) (_ : t.val ≠ 0), cfg0.idle 5 (grid0.coords t) = true → cfg0.fresh 5 t.val = false →
    (dats m 0 c).after 5 t = (dats m 0 c).after 5 ⟨t.val - 1, by omega⟩ := by
  intro t _ hi _
  have hN : t.val < 256 := lt_of_lt_of_eq t.isLt (show cfg0.N = 256 from N_0)
  rw [after0_5, after0_5]
  by_cases h0 : t.val % 4 = 0
  · by_cases h1 : t.val % 4 + 1 ≤ t.val / 4 % 4
    · by_cases h2 : t.val / 4 % 4 = t.val % 4
      · exfalso; omega
      · rw [outsAt0_C m c t h0 h1 h2]
        dsimp only
        unfold out0_C_5
        rfl
    · by_cases h2 : t.val / 4 % 4 = t.val % 4
      · rw [liveAt0_5_A t ((hcond0_0 t).mpr h0) (fun h => h1 ((hcond0_1 t).mp h)) ((hcond0_2 t).mpr h2)] at hi
        exact absurd hi Bool.false_ne_true
      · exfalso; omega
  · by_cases h1 : t.val % 4 + 1 ≤ t.val / 4 % 4
    · by_cases h2 : t.val / 4 % 4 = t.val % 4
      · exfalso; omega
      · rw [outsAt0_E m c t h0 h1 h2]
        dsimp only
        unfold out0_E_5
        rfl
    · by_cases h2 : t.val / 4 % 4 = t.val % 4
      · rw [liveAt0_5_D t (fun h => h0 ((hcond0_0 t).mp h)) (fun h => h1 ((hcond0_1 t).mp h)) ((hcond0_2 t).mpr h2)] at hi
        exact absurd hi Bool.false_ne_true
      · rw [outsAt0_B m c t h0 h1 h2]
        dsimp only
        unfold out0_B_5
        rfl

/-- A point that stores nothing into output 6 leaves it as it was. -/
theorem hcarry0_6 (c : Dev nD) : ∀ (t : Fin cfg0.N) (_ : t.val ≠ 0), cfg0.idle 6 (grid0.coords t) = true → cfg0.fresh 6 t.val = false →
    (dats m 0 c).after 6 t = (dats m 0 c).after 6 ⟨t.val - 1, by omega⟩ := by
  intro t _ hi _
  have hN : t.val < 256 := lt_of_lt_of_eq t.isLt (show cfg0.N = 256 from N_0)
  rw [after0_6, after0_6]
  by_cases h0 : t.val % 4 = 0
  · by_cases h1 : t.val % 4 + 1 ≤ t.val / 4 % 4
    · by_cases h2 : t.val / 4 % 4 = t.val % 4
      · exfalso; omega
      · rw [outsAt0_C m c t h0 h1 h2]
        dsimp only
        unfold out0_C_6
        rfl
    · by_cases h2 : t.val / 4 % 4 = t.val % 4
      · rw [liveAt0_6_A t ((hcond0_0 t).mpr h0) (fun h => h1 ((hcond0_1 t).mp h)) ((hcond0_2 t).mpr h2)] at hi
        exact absurd hi Bool.false_ne_true
      · exfalso; omega
  · by_cases h1 : t.val % 4 + 1 ≤ t.val / 4 % 4
    · by_cases h2 : t.val / 4 % 4 = t.val % 4
      · exfalso; omega
      · rw [outsAt0_E m c t h0 h1 h2]
        dsimp only
        unfold out0_E_6
        rfl
    · by_cases h2 : t.val / 4 % 4 = t.val % 4
      · rw [liveAt0_6_D t (fun h => h0 ((hcond0_0 t).mp h)) (fun h => h1 ((hcond0_1 t).mp h)) ((hcond0_2 t).mpr h2)] at hi
        exact absurd hi Bool.false_ne_true
      · rw [outsAt0_B m c t h0 h1 h2]
        dsimp only
        unfold out0_B_6
        rfl
/-- After the diagonal the buffer still holds what the diagonal tile stored. -/
theorem before0_5_B (c : Dev nD) (t : Fin cfg0.N) (h0 : ¬t.val % 4 = 0) (h1 : ¬t.val % 4 + 1 ≤ t.val / 4 % 4) (h2 : ¬t.val / 4 % 4 = t.val % 4) (d) :
    (dats m 0 c).before 5 t d = (outsAt0 m c (t.val - 1) (Nat.lt_of_le_of_lt (Nat.sub_le _ _) t.isLt)).1 := by
  rw [Dat.before_out_traj _ 5 rfl (fun _ _ => rfl) (hcarry0_5 m c) t.val t rfl d,
    if_neg (by rw [notFresh0_5_B t (fun h => h0 ((hcond0_0 t).mp h)) (fun h => h1 ((hcond0_1 t).mp h)) (fun h => h2 ((hcond0_2 t).mp h))]; exact Bool.false_ne_true)]
  dsimp only [dats]
theorem before0_6_B (c : Dev nD) (t : Fin cfg0.N) (h0 : ¬t.val % 4 = 0) (h1 : ¬t.val % 4 + 1 ≤ t.val / 4 % 4) (h2 : ¬t.val / 4 % 4 = t.val % 4) (d) :
    (dats m 0 c).before 6 t d = (outsAt0 m c (t.val - 1) (Nat.lt_of_le_of_lt (Nat.sub_le _ _) t.isLt)).2.1 := by
  rw [Dat.before_out_traj _ 6 rfl (fun _ _ => rfl) (hcarry0_6 m c) t.val t rfl d,
    if_neg (by rw [notFresh0_6_B t (fun h => h0 ((hcond0_0 t).mp h)) (fun h => h1 ((hcond0_1 t).mp h)) (fun h => h2 ((hcond0_2 t).mp h))]; exact Bool.false_ne_true)]
  dsimp only [dats]

/-- After the diagonal the body hands output 5 back as the diagonal tile left it. -/
theorem leaves0_5_B (c : Dev nD) (t : Fin cfg0.N) (h0 : ¬t.val % 4 = 0) (h1 : ¬t.val % 4 + 1 ≤ t.val / 4 % 4) (h2 : ¬t.val / 4 % 4 = t.val % 4) :
    owns (c : Thread nD τ) (ms0_5 t) fullShare ((outsAt0 m c (t.val - 1) (Nat.lt_of_le_of_lt (Nat.sub_le _ _) t.isLt)).1) ⊢ (dats m 0 c).leavesExact 5 t := by
  have ha : (dats m 0 c).after 5 t = (outsAt0 m c (t.val - 1) (Nat.lt_of_le_of_lt (Nat.sub_le _ _) t.isLt)).1 := by
    rw [after0_5, outsAt0_B m c t h0 h1 h2]; rfl
  have hb := before0_5_B m c t h0 h1 h2
  unfold Dat.leavesExact
  cases cfg0.idle 5 (cfg0.grid.coords t) with
  | false => rw [ha]
  | true =>
    cases (cfg0.win 5).flush t with
    | true => rw [ha]
    | false =>
      simp only [hb]
      iintro H
      iexists (fun _ => default)
      iexact H

/-- After the diagonal the body hands output 6 back as the diagonal tile left it. -/
theorem leaves0_6_B (c : Dev nD) (t : Fin cfg0.N) (h0 : ¬t.val % 4 = 0) (h1 : ¬t.val % 4 + 1 ≤ t.val / 4 % 4) (h2 : ¬t.val / 4 % 4 = t.val % 4) :
    owns (c : Thread nD τ) (ms0_6 t) fullShare ((outsAt0 m c (t.val - 1) (Nat.lt_of_le_of_lt (Nat.sub_le _ _) t.isLt)).2.1) ⊢ (dats m 0 c).leavesExact 6 t := by
  have ha : (dats m 0 c).after 6 t = (outsAt0 m c (t.val - 1) (Nat.lt_of_le_of_lt (Nat.sub_le _ _) t.isLt)).2.1 := by
    rw [after0_6, outsAt0_B m c t h0 h1 h2]; rfl
  have hb := before0_6_B m c t h0 h1 h2
  unfold Dat.leavesExact
  cases cfg0.idle 6 (cfg0.grid.coords t) with
  | false => rw [ha]
  | true =>
    cases (cfg0.win 6).flush t with
    | true => rw [ha]
    | false =>
      simp only [hb]
      iintro H
      iexists (fun _ => default)
      iexact H

/-- What the body is handed. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 16000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 256 := lt_of_lt_of_eq t.isLt (show cfg0.N = 256 from N_0)
  by_cases h0 : t.val % 4 = 0
  · by_cases h1 : t.val % 4 + 1 ≤ t.val / 4 % 4
    · by_cases h2 : t.val / 4 % 4 = t.val % 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_C t ((hcond0_0 t).mpr h0) ((hcond0_1 t).mpr h1) (fun h => h2 ((hcond0_2 t).mp h))) (noFlush0_5_C t ((hcond0_0 t).mpr h0) ((hcond0_1 t).mpr h1) (fun h => h2 ((hcond0_2 t).mp h)))]
        rw [Dat.leavesExact_idle (dats m 0 c) 6 t (idleAt0_6_C t ((hcond0_0 t).mpr h0) ((hcond0_1 t).mpr h1) (fun h => h2 ((hcond0_2 t).mp h))) (noFlush0_6_C t ((hcond0_0 t).mpr h0) ((hcond0_1 t).mpr h1) (fun h => h2 ((hcond0_2 t).mp h)))]
        by_cases hz : t.val = 0
        · exfalso; have hN : t.val < 256 := lt_of_lt_of_eq t.isLt (show cfg0.N = 256 from N_0); omega
        · rw [PhiS_castSucc m c t, PhiS_pos m c _ _ hz]
          rw [outsAt0_C m c t h0 h1 h2]
          unfold sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_C c (grid0.coords t) _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t)).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexists _; iexact HS0
          isplitl [HS1]; · iexists _; iexact HS1
          isplitl [HS2]; · iexists _; iexact HS2
          iintro ⟨H0, H1, H2, H3, H4, H5, H6, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          iexists _; iexact H6
    · by_cases h2 : t.val / 4 % 4 = t.val % 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_A t ((hcond0_0 t).mpr h0) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_A t ((hcond0_0 t).mpr h0) (fun h => h1 ((hcond0_1 t).mp h)) ((hcond0_2 t).mpr h2)], after0_6]
        by_cases hz : t.val = 0
        · rw [PhiS_castSucc m c t, PhiS_zero m c _ _ hz, PhiA0_eq]
          rw [outsAt0_A m c t h0 h1 h2]
          unfold out0_A_5 out0_A_6 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          isplitl [HS2]; · iexact HS2
          iintro ⟨H0, H1, H2, H3, H4, ⟨%e5, H5⟩, ⟨%e6, H6⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _)
          unfold owns; iexists _; isplitr
          swap; · iexact H6
          ipureintro; exact View.read_writes_of_cover _ _ _ _ _ (cover0_A_6 c _ _ _ _ _ _ _ _ _ _ _ _ _ _ _ _ _ _ _ _ _ _ _ _ _ _ _ _ _)
        · rw [PhiS_castSucc m c t, PhiS_pos m c _ _ hz]
          rw [outsAt0_A m c t h0 h1 h2]
          unfold out0_A_5 out0_A_6 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_A c (grid0.coords t) _ _ _ _ _ _ _ _ _ _ _ _ _ _ _ _ _ _ _ _ ((hcond0_0 t).mpr h0) (fun h => h1 ((hcond0_1 t).mp h)) ((hcond0_2 t).mpr h2) (iblk m c 0 t) (iblk m c 1 t) (iblk m c 2 t) (iblk m c 3 t) (iblk m c 4 t)).2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexists _; iexact HS0
          isplitl [HS1]; · iexists _; iexact HS1
          isplitl [HS2]; · iexists _; iexact HS2
          iintro ⟨H0, H1, H2, H3, H4, ⟨%e5, H5⟩, ⟨%e6, H6⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_A_5 c _ _ _ _ _ _ _ _ _ _ _ _ _ _ _ _ _ _ _ _ _ _ _ _ _ _ _ _ _)
          unfold owns; iexists _; isplitr
          swap; · iexact H6
          ipureintro; exact View.read_writes_of_cover _ _ _ _ _ (cover0_A_6 c _ _ _ _ _ _ _ _ _ _ _ _ _ _ _ _ _ _ _ _ _ _ _ _ _ _ _ _ _)
      · exfalso; omega
  · by_cases h1 : t.val % 4 + 1 ≤ t.val / 4 % 4
    · by_cases h2 : t.val / 4 % 4 = t.val % 4
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [Dat.leavesExact_idle (dats m 0 c) 5 t (idleAt0_5_E t (fun h => h0 ((hcond0_0 t).mp h)) ((hcond0_1 t).mpr h1) (fun h => h2 ((hcond0_2 t).mp h))) (noFlush0_5_E t (fun h => h0 ((hcond0_0 t).mp h)) ((hcond0_1 t).mpr h1) (fun h => h2 ((hcond0_2 t).mp h)))]
        rw [Dat.leavesExact_idle (dats m 0 c) 6 t (idleAt0_6_E t (fun h => h0 ((hcond0_0 t).mp h)) ((hcond0_1 t).mpr h1) (fun h => h2 ((hcond0_2 t).mp h))) (noFlush0_6_E t (fun h => h0 ((hcond0_0 t).mp h)) ((hcond0_1 t).mpr h1) (fun h => h2 ((hcond0_2 t).mp h)))]
        by_cases hz : t.val = 0
        · exfalso; have hN : t.val < 256 := lt_of_lt_of_eq t.isLt (show cfg0.N = 256 from N_0); omega
        · rw [PhiS_castSucc m c t, PhiS_pos m c _ _ hz]
          rw [outsAt0_E m c t h0 h1 h2]
          unfold sout0_E_0 sout0_E_1 sout0_E_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_E c (grid0.coords t) _ _ _ _ _ _ _ _ _ _ _ _ _ _ _ _ _ _ _ _ (fun h => h0 ((hcond0_0 t).mp h)) ((hcond0_1 t).mpr h1) (fun h => h2 ((hcond0_2 t).mp h)) (iblk m c 0 t) (iblk m c 1 t) (iblk m c 2 t) (iblk m c 3 t) (iblk m c 4 t) _ _ _).2.2.2.2.2 _ _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          iintro ⟨H0, H1, H2, H3, H4, H5, H6, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_E_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_E_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_E_2 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexists _; iexact H5
          iexists _; iexact H6
    · by_cases h2 : t.val / 4 % 4 = t.val % 4
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) ((hcond0_2 t).mpr h2)], after0_5]
        rw [show (dats m 0 c).leavesExact 6 t = owns (c : Thread nD τ) (ms0_6 t) fullShare ((dats m 0 c).after 6 t) from by
      unfold Dat.leavesExact; rw [liveAt0_6_D t (fun h => h0 ((hcond0_0 t).mp h)) (fun h => h1 ((hcond0_1 t).mp h)) ((hcond0_2 t).mpr h2)], after0_6]
        by_cases hz : t.val = 0
        · exfalso; have hN : t.val < 256 := lt_of_lt_of_eq t.isLt (show cfg0.N = 256 from N_0); omega
        · rw [PhiS_castSucc m c t, PhiS_pos m c _ _ hz]
          rw [outsAt0_D m c t h0 h1 h2]
          unfold out0_D_5 out0_D_6 sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_D c (grid0.coords t) _ _ _ _ _ _ _ _ _ _ _ _ _ _ _ _ _ _ _ _ (fun h => h0 ((hcond0_0 t).mp h)) (fun h => h1 ((hcond0_1 t).mp h)) ((hcond0_2 t).mpr h2) (iblk m c 0 t) (iblk m c 1 t) (iblk m c 2 t) (iblk m c 3 t) (iblk m c 4 t) _ _ _).2.2.2.2.2 Set.univ _)
          isplitl [H0]; · iexact H0
          isplitl [H1]; · iexact H1
          isplitl [H2]; · iexact H2
          isplitl [H3]; · iexact H3
          isplitl [H4]; · iexact H4
          isplitl [H5]; · iexists _; iexact H5
          isplitl [H6]; · iexists _; iexact H6
          isplitl [HS0]; · iexact HS0
          isplitl [HS1]; · iexact HS1
          isplitl [HS2]; · iexact HS2
          iintro ⟨H0, H1, H2, H3, H4, ⟨%e5, H5⟩, ⟨%e6, H6⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_D_0 c _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_D_1 c _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_D_2 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]
          · unfold owns; iexists _; isplitr
            swap; · iexact H5
            ipureintro; exact View.read_writes_of_cover _ _ _ _ _ (cover0_D_5 c _ _ _ _ _ _ _ _ _ _ _ _ _ _ _ _ _ _ _ _ _ _ _ _ _ _ _ _ _ _ _ _)
          unfold owns; iexists _; isplitr
          swap; · iexact H6
          ipureintro; exact View.read_writes_of_cover _ _ _ _ _ (cover0_D_6 c _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        by_cases hz : t.val = 0
        · exfalso; have hN : t.val < 256 := lt_of_lt_of_eq t.isLt (show cfg0.N = 256 from N_0); omega
        · rw [PhiS_castSucc m c t, PhiS_pos m c _ _ hz]
          rw [outsAt0_B m c t h0 h1 h2]
          simp only [before0_5_B m c t h0 h1 h2, before0_6_B m c t h0 h1 h2]
          unfold sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
          iapply ((kernelRun0_B c (grid0.coords t) _ _ _ _ _ _ _ _ _ _ _ _ _ _ _ _ _ _ _ _ (fun h => h0 ((hcond0_0 t).mp h)) (fun h => h1 ((hcond0_1 t).mp h)) (fun h => h2 ((hcond0_2 t).mp h)) (iblk m c 0 t) (iblk m c 1 t) (iblk m c 2 t) (iblk m c 3 t) (iblk m c 4 t) _ _ _ _ _).2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [HS0]; · iexact HS0
          isplitl [HS1]; · iexact HS1
          isplitl [HS2]; · iexact HS2
          iintro ⟨H0, H1, H2, H3, H4, H5, H6, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iapply leaves0_5_B m c t h0 h1 h2; iexact H5
          iapply leaves0_6_B m c t h0 h1 h2; iexact H6

theorem defs₀_row (t : Fin cfg0.N) :
    defs₀ (F := F) .tc cfg0.body (cfg0.bodyArgs t (cfg0.slots t)) = bodyAt0 t := by
  unfold defs₀; rw [Defs.onTc_tc]

/-- The same in the library's words. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 256 := N_0; omega)

set_option backward.isDefEq.respectTransparency.types false in
/-- The run, with every semaphore at zero at its end. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.FoxRun

end
-- ==== Proof.FoxFold.lean ====
/- The forward attention's grid: what the running sums hold after each point, and the outputs it stores. -/
module

public import proofs.«01_k».proof.Proof.FoxTile
public import proofs.«01_k».proof.Proof.FoxFrame
public import proofs.«01_k».proof.Proof.Host
public import Idealize.ShloMosaic.Lib.Pipeline.Value
public import Idealize.ShloMosaic.Lib.Pipeline.ValueKit
public import Idealize.ShloMosaic.Lib.Pipeline.ReadBack

@[expose] public section
set_option maxRecDepth 16384
noncomputable section
namespace Cert.Hand.FoxF
open Cert.KernelFoxFIdeal Cert.KernelFoxFIdeal.Gen Cert.FoxRun Idealize.ShloMosaic Idealize.ShloMosaic.TcCoe Idealize.SL.Sem Idealize.ShloMosaic.Pointwise

/-- The head, the query tile and the key tile of a grid point. -/
def hP (t : Fin cfg0.N) : Fin 16 := ⟨t.val / 16, by have := lt_of_lt_of_eq t.isLt N_0; omega⟩
def iP (t : Fin cfg0.N) : Fin 4 := ⟨t.val / 4 % 4, by omega⟩
def jP (t : Fin cfg0.N) : Fin 4 := ⟨t.val % 4, by omega⟩

theorem idx : ∀ t : Fin cfg0.N,
    (win0_0.index t 0 = t.val / 4 % 4 ∧ win0_0.index t 1 = t.val / 16)
    ∧ (win0_1.index t 0 = min (t.val % 4) (t.val / 4 % 4) ∧ win0_1.index t 1 = 16 + t.val / 16)
    ∧ (win0_2.index t 0 = min (t.val % 4) (t.val / 4 % 4) ∧ win0_2.index t 1 = 32 + t.val / 16)
    ∧ (win0_3.index t 0 = t.val / 16 ∧ win0_3.index t 1 = t.val / 4 % 4 ∧ win0_3.index t 2 = 0)
    ∧ (win0_4.index t 0 = t.val / 16 ∧ win0_4.index t 1 = 0 ∧ win0_4.index t 2 = min (t.val % 4) (t.val / 4 % 4))
    ∧ (win0_5.index t 0 = t.val / 4 % 4 ∧ win0_5.index t 1 = t.val / 16)
    ∧ (win0_6.index t 0 = t.val / 16 ∧ win0_6.index t 1 = t.val / 4 % 4 ∧ win0_6.index t 2 = 0) := by decide +kernel

variable {m : (ℓ : Loc nD τ sig) → Buf (Elt Ideal) ℓ} {c : Dev nD} {I : Inp} {U : Fin 16 → Fin 4096 → Fin 128 → EReal}

/-- What the arrays hold when the grid starts: the queries, the keys and the gates are real, the values any. -/
structure Entry (m : (ℓ : Loc nD τ sig) → Buf (Elt Ideal) ℓ) (c : Dev nD) (I : Inp) (U : Fin 16 → Fin 4096 → Fin 128 → EReal) : Prop where
  q : ∀ h r d, (V m c main_arg0 : FVec Ideal S4096x16896 .bf16) (ix2 r (lane 16896 0 (by decide) h d)) = ((I.q h r d : ℝ) : EReal)
  k : ∀ h r d, (V m c main_arg0 : FVec Ideal S4096x16896 .bf16) (ix2 r (lane 16896 16 (by decide) h d)) = ((I.k h r d : ℝ) : EReal)
  v : ∀ h r d, (V m c main_arg0 : FVec Ideal S4096x16896 .bf16) (ix2 r (lane 16896 32 (by decide) h d)) = U h r d
  cq : ∀ h r, (V m c main_v0 : FVec Ideal S16x4096x1 .f32) (ix3 h r 0) = ((I.c h r : ℝ) : EReal)
  ck : ∀ h r, (V m c main_v1 : FVec Ideal S16x1x4096 .f32) (ix3 h 0 r) = ((I.c h r : ℝ) : EReal)

theorem emb0 (t : Fin cfg0.N) (r : Fin 1024) (d : Fin 128) :
    (((cfg0.win 0).blk t).view.emb (ix2 r d) : S4096x16896.Idx) = ix2 (row (iP t) r) (lane 16896 0 (by decide) (hP t) d) := by
  have e := (idx t).1
  unfold row lane hP iP
  refine funext fun a => Fin.ext ?_
  match a with
  | ⟨0, _⟩ => blk_simp [e]; try simp; try omega
  | ⟨1, _⟩ => blk_simp [e]; try simp; try omega

theorem emb1 (t : Fin cfg0.N) (ht : jP t ≤ iP t) (r : Fin 1024) (d : Fin 128) :
    (((cfg0.win 1).blk t).view.emb (ix2 r d) : S4096x16896.Idx) = ix2 (row (jP t) r) (lane 16896 16 (by decide) (hP t) d) := by
  have ht' : t.val % 4 ≤ t.val / 4 % 4 := ht
  have e := (idx t).2.1
  rw [min_eq_left ht'] at e
  unfold row lane hP jP
  refine funext fun a => Fin.ext ?_
  match a with
  | ⟨0, _⟩ => blk_simp [e]; try simp; try omega
  | ⟨1, _⟩ => blk_simp [e]; try simp; try omega

theorem emb2 (t : Fin cfg0.N) (ht : jP t ≤ iP t) (r : Fin 1024) (d : Fin 128) :
    (((cfg0.win 2).blk t).view.emb (ix2 r d) : S4096x16896.Idx) = ix2 (row (jP t) r) (lane 16896 32 (by decide) (hP t) d) := by
  have ht' : t.val % 4 ≤ t.val / 4 % 4 := ht
  have e := (idx t).2.2.1
  rw [min_eq_left ht'] at e
  unfold row lane hP jP
  refine funext fun a => Fin.ext ?_
  match a with
  | ⟨0, _⟩ => blk_simp [e]; try simp; try omega
  | ⟨1, _⟩ => blk_simp [e]; try simp; try omega

theorem emb3 (t : Fin cfg0.N) (r : Fin 1024) :
    (((cfg0.win 3).blk t).view.emb (ix3 0 r 0) : S16x4096x1.Idx) = ix3 (hP t) (row (iP t) r) 0 := by
  have e := (idx t).2.2.2.1
  unfold row hP iP
  refine funext fun a => Fin.ext ?_
  match a with
  | ⟨0, _⟩ => blk_simp [e]; try simp; try omega
  | ⟨1, _⟩ => blk_simp [e]; try simp; try omega
  | ⟨2, _⟩ => blk_simp [e]; try simp; try omega

theorem emb4 (t : Fin cfg0.N) (ht : jP t ≤ iP t) (r : Fin 1024) :
    (((cfg0.win 4).blk t).view.emb (ix3 0 0 r) : S16x1x4096.Idx) = ix3 (hP t) 0 (row (jP t) r) := by
  have ht' : t.val % 4 ≤ t.val / 4 % 4 := ht
  have e := (idx t).2.2.2.2.1
  rw [min_eq_left ht'] at e
  unfold row hP jP
  refine funext fun a => Fin.ext ?_
  match a with
  | ⟨0, _⟩ => blk_simp [e]; try simp; try omega
  | ⟨1, _⟩ => blk_simp [e]; try simp; try omega
  | ⟨2, _⟩ => blk_simp [e]; try simp; try omega

section
variable (H : Entry m c I U) (t : Fin cfg0.N)
include H

theorem blk0 (r : Fin 1024) (d : Fin 128) :
    (iblk m c 0 t : FVec Ideal S1024x128 .bf16) (ix2 r d) = ((I.q (hP t) (row (iP t) r) d : ℝ) : EReal) :=
  (congrArg (V m c main_arg0) (emb0 t r d)).trans (H.q _ _ _)

theorem blk1 (ht : jP t ≤ iP t) (r : Fin 1024) (d : Fin 128) :
    (iblk m c 1 t : FVec Ideal S1024x128 .bf16) (ix2 r d) = ((I.k (hP t) (row (jP t) r) d : ℝ) : EReal) :=
  (congrArg (V m c main_arg0) (emb1 t ht r d)).trans (H.k _ _ _)

theorem blk2 (ht : jP t ≤ iP t) (r : Fin 1024) (d : Fin 128) :
    (iblk m c 2 t : FVec Ideal S1024x128 .bf16) (ix2 r d) = U (hP t) (row (jP t) r) d :=
  (congrArg (V m c main_arg0) (emb2 t ht r d)).trans (H.v _ _ _)

theorem blk3 (r : Fin 1024) :
    (iblk m c 3 t : FVec Ideal S1x1024x1 .f32) (ix3 0 r 0) = ((I.c (hP t) (row (iP t) r) : ℝ) : EReal) :=
  (congrArg (V m c main_v0) (emb3 t r)).trans (H.cq _ _)

theorem blk4 (ht : jP t ≤ iP t) (r : Fin 1024) :
    (iblk m c 4 t : FVec Ideal S1x1x1024 .f32) (ix3 0 0 r) = ((I.c (hP t) (row (jP t) r) : ℝ) : EReal) :=
  (congrArg (V m c main_v1) (emb4 t ht r)).trans (H.ck _ _)

end

/-- The key tile's part of a row's sum of exponentials, and of its product with the values. -/
def wt (I : Inp) (h : Fin 16) (r : Fin 4096) (j : Fin 4) : ℝ := ∑ b, if row j b ≤ r then Real.exp (I.z h r (row j b)) else 0
def ut (I : Inp) (U : Fin 16 → Fin 4096 → Fin 128 → EReal) (h : Fin 16) (r : Fin 4096) (d : Fin 128) (j : Fin 4) : EReal :=
  ∑ b, (((if row j b ≤ r then Real.exp (I.z h r (row j b)) else 0) : ℝ) : EReal) * U h (row j b) d

/-- The first `n` of four parts, summed in the extended reals. -/
def partE (f : Fin 4 → EReal) (n : ℕ) : EReal := ∑ i : Fin 4, if (i : ℕ) < n then f i else 0
theorem partE_zero (f : Fin 4 → EReal) : partE f 0 = 0 := by simp [partE]
theorem partE_succ (f : Fin 4 → EReal) (i : Fin 4) : partE f (i + 1) = partE f i + f i := by
  fin_cases i <;> simp [partE, Fin.sum_univ_four]
theorem sum_rowsE (f : Fin 4096 → EReal) : ∑ i : Fin 4, ∑ r : Fin 1024, f (row i r) = ∑ r, f r := by
  rw [← Fintype.sum_prod_type']
  refine Fintype.sum_equiv (finProdFinEquiv (m := 4) (n := 1024)) _ _ fun x => congrArg f (Fin.ext ?_)
  show 1024 * (x.1 : ℕ) + x.2 = x.2 + 1024 * x.1
  omega

theorem row_keep {i j : Fin 4} (h : j < i) (r b : Fin 1024) : row j b ≤ row i r := by
  show 1024 * (j : ℕ) + b ≤ 1024 * (i : ℕ) + r
  have h' : (j : ℕ) < i := h
  have := b.isLt
  omega
theorem row_drop {i j : Fin 4} (h : i < j) (r b : Fin 1024) : ¬row j b ≤ row i r := by
  show ¬1024 * (j : ℕ) + b ≤ 1024 * (i : ℕ) + r
  have h' : (i : ℕ) < j := h
  have := r.isLt
  omega
theorem row_same (i : Fin 4) (r b : Fin 1024) : row i b ≤ row i r ↔ b ≤ r := by
  show 1024 * (i : ℕ) + b ≤ 1024 * (i : ℕ) + r ↔ (b : ℕ) ≤ r
  omega

theorem wt_drop {i j : Fin 4} (h : i < j) (hh : Fin 16) (r : Fin 1024) : wt I hh (row i r) j = 0 := by
  simp [wt, row_drop h]
theorem ut_drop {i j : Fin 4} (h : i < j) (hh : Fin 16) (r : Fin 1024) (d : Fin 128) : ut I U hh (row i r) d j = 0 := by
  simp [ut, row_drop h]

variable (m c) in
/-- What the point before `t` left, and what `t` leaves. -/
abbrev prev (t : Fin cfg0.N) := outsAt0 m c (t.val - 1) (lt_of_le_of_lt (Nat.sub_le _ _) t.isLt)
variable (m c) in
abbrev cur (t : Fin cfg0.N) := outsAt0 m c t.val t.isLt

variable (m c) in
/-- A point's scores: below the diagonal, and on it. -/
def sOff (t : Fin cfg0.N) : FVec Ideal S1024x1024 .f32 := k0_pay10 (F := Ideal) (iblk m c 0 t) (iblk m c 1 t) (iblk m c 3 t) (iblk m c 4 t)
variable (m c) in
def sDia (t : Fin cfg0.N) : FVec Ideal S1024x1024 .f32 := k0_pay17 (F := Ideal) (iblk m c 0 t) (iblk m c 1 t) (iblk m c 3 t) (iblk m c 4 t)

section
variable (t : Fin cfg0.N)

theorem cur_A (h0 : t.val % 4 = 0) (h1 : ¬t.val % 4 + 1 ≤ t.val / 4 % 4) (h2 : t.val / 4 % 4 = t.val % 4) :
    cur m c t = (k0_pay8 (cur m c t).2.2.2.1 (cur m c t).2.2.2.2, k0_pay9 (cur m c t).2.2.2.1 (cur m c t).2.2.1,
      tMax (sDia m c t) (k0_pay1 (F := Ideal)), tSum (sDia m c t) (k0_pay1 (F := Ideal)) (k0_pay2 (F := Ideal)),
      tProd (sDia m c t) (k0_pay1 (F := Ideal)) (k0_pay3 (F := Ideal)) (iblk m c 2 t)) := by
  unfold sDia
  rw [← max_dia, ← sum_dia, ← prod_dia, cur, outsAt0_A m c t h0 h1 h2]; frame_out

theorem cur_B (h0 : ¬t.val % 4 = 0) (h1 : ¬t.val % 4 + 1 ≤ t.val / 4 % 4) (h2 : ¬t.val / 4 % 4 = t.val % 4) : cur m c t = prev m c t := by
  rw [cur, outsAt0_B m c t h0 h1 h2]; rfl

theorem cur_C (h0 : t.val % 4 = 0) (h1 : t.val % 4 + 1 ≤ t.val / 4 % 4) (h2 : ¬t.val / 4 % 4 = t.val % 4) :
    (cur m c t).2.2 = (tMax (sOff m c t) (k0_pay1 (F := Ideal)), tSum (sOff m c t) (k0_pay1 (F := Ideal)) (k0_pay2 (F := Ideal)),
      tProd (sOff m c t) (k0_pay1 (F := Ideal)) (k0_pay3 (F := Ideal)) (iblk m c 2 t)) := by
  unfold sOff
  rw [← max_off, ← sum_off, ← prod_off, cur, outsAt0_C m c t h0 h1 h2]; frame_out

theorem cur_D (h0 : ¬t.val % 4 = 0) (h1 : ¬t.val % 4 + 1 ≤ t.val / 4 % 4) (h2 : t.val / 4 % 4 = t.val % 4) :
    cur m c t = (k0_pay8 (cur m c t).2.2.2.1 (cur m c t).2.2.2.2, k0_pay9 (cur m c t).2.2.2.1 (cur m c t).2.2.1,
      tMax (sDia m c t) (prev m c t).2.2.1, tSum (sDia m c t) (prev m c t).2.2.1 (prev m c t).2.2.2.1,
      tProd (sDia m c t) (prev m c t).2.2.1 (prev m c t).2.2.2.2 (iblk m c 2 t)) := by
  unfold sDia
  rw [← max_dia, ← sum_dia, ← prod_dia, cur, outsAt0_D m c t h0 h1 h2]; frame_out; simp only [read_unread_whole]

theorem cur_E (h0 : ¬t.val % 4 = 0) (h1 : t.val % 4 + 1 ≤ t.val / 4 % 4) (h2 : ¬t.val / 4 % 4 = t.val % 4) :
    (cur m c t).2.2 = (tMax (sOff m c t) (prev m c t).2.2.1, tSum (sOff m c t) (prev m c t).2.2.1 (prev m c t).2.2.2.1,
      tProd (sOff m c t) (prev m c t).2.2.1 (prev m c t).2.2.2.2 (iblk m c 2 t)) := by
  unfold sOff
  rw [← max_off, ← sum_off, ← prod_off, cur, outsAt0_E m c t h0 h1 h2]; frame_out; simp only [read_unread_whole]

end
end Cert.Hand.FoxF
end
-- ==== Proof.FoxOut.lean ====
/- The forward attention's outputs on real inputs: each row's weighted values, and the log of its sum. -/
module

public import proofs.«01_k».proof.Proof.FoxFold

@[expose] public section
set_option maxRecDepth 16384
noncomputable section
namespace Cert.Hand.FoxF
open Cert.KernelFoxFIdeal Cert.KernelFoxFIdeal.Gen Cert.FoxRun Idealize.ShloMosaic Idealize.ShloMosaic.TcCoe Idealize.SL.Sem Idealize.ShloMosaic.Pointwise

variable {m : (ℓ : Loc nD τ sig) → Buf (Elt Ideal) ℓ} {c : Dev nD} {I : Inp} {U : Fin 16 → Fin 4096 → Fin 128 → EReal}

section
variable (H : Entry m c I U) (t : Fin cfg0.N)
include H

/-- A point's scores: the row's scores with the tile's keys, those after the row masked. -/
theorem off_at (hj : jP t < iP t) (r b : Fin 1024) :
    sOff m c t (ix2 r b) = if row (jP t) b ≤ row (iP t) r then ((I.z (hP t) (row (iP t) r) (row (jP t) b) : ℝ) : EReal) else ⊥ := by
  rw [if_pos (row_keep hj r b)]
  exact score_off (blk0 H t) (blk1 H t hj.le) (blk3 H t) (blk4 H t hj.le) r b

theorem dia_at (hj : jP t = iP t) (r b : Fin 1024) :
    sDia m c t (ix2 r b) = if row (jP t) b ≤ row (iP t) r then ((I.z (hP t) (row (iP t) r) (row (jP t) b) : ℝ) : EReal) else ⊥ := by
  have e : (row (jP t) b ≤ row (iP t) r) = (b ≤ r) := by rw [hj]; exact propext (row_same _ r b)
  simp only [e]
  exact score_dia (blk0 H t) (blk1 H t hj.le) (blk3 H t) (blk4 H t hj.le) r b
end

/-- The running sums after a point: the row's key tiles so far. -/
def At (m : (ℓ : Loc nD τ sig) → Buf (Elt Ideal) ℓ) (c : Dev nD) (I : Inp) (U : Fin 16 → Fin 4096 → Fin 128 → EReal) (t t' : Fin cfg0.N) (n : ℕ) : Prop :=
  Run (cur m c t').2.2.1 (cur m c t').2.2.2.1 (cur m c t').2.2.2.2 (fun r => part (wt I (hP t) (row (iP t) r)) n)
    (fun r d => partE (ut I U (hP t) (row (iP t) r) d) n)

variable {t : Fin cfg0.N} {S : FVec Ideal S1024x1024 .f32} {M L : FVec Ideal S1024x1 .f32} {A : FVec Ideal S1024x128 .f32}

/-- One kept key tile added. -/
theorem tile_step (H : Entry m c I U) (hj : jP t ≤ iP t)
    (hS : ∀ r b, S (ix2 r b) = if row (jP t) b ≤ row (iP t) r then ((I.z (hP t) (row (iP t) r) (row (jP t) b) : ℝ) : EReal) else ⊥)
    (R : Run M L A (fun r => part (wt I (hP t) (row (iP t) r)) (jP t)) (fun r d => partE (ut I U (hP t) (row (iP t) r) d) (jP t))) :
    Run (tMax S M) (tSum S M L) (tProd S M A (iblk m c 2 t)) (fun r => part (wt I (hP t) (row (iP t) r)) (jP t + 1))
      (fun r d => partE (ut I U (hP t) (row (iP t) r) d) (jP t + 1)) := by
  have hk : ∀ r : Fin 1024, ∃ b : Fin 1024, row (jP t) b ≤ row (iP t) r := fun r => by
    rcases hj.lt_or_eq with h | h
    · exact ⟨r, row_keep h r r⟩
    · exact ⟨r, by rw [h]⟩
  have := R.step (z := fun r b => I.z (hP t) (row (iP t) r) (row (jP t) b)) (V := iblk m c 2 t) hS hk
  simp only [blk2 H t hj] at this
  simp only [part_succ, partE_succ]
  exact this

/-- The running sums before a head's first key tile. -/
theorem run_start (h0 : t.val % 4 = 0) :
    Run (k0_pay1 (F := Ideal)) (k0_pay2 (F := Ideal)) (k0_pay3 (F := Ideal)) (fun r => part (wt I (hP t) (row (iP t) r)) (jP t))
      (fun r d => partE (ut I U (hP t) (row (iP t) r) d) (jP t)) := by
  simp only [show ((jP t : Fin 4) : ℕ) = 0 from h0, part_zero, partE_zero]
  exact Run.start

theorem run_at (H : Entry m c I U) : ∀ (n : ℕ) (hn : n < cfg0.N), At m c I U ⟨n, hn⟩ ⟨n, hn⟩ (n % 4 + 1) := by
  intro n
  induction n with
  | zero =>
    intro hn
    by_cases h2 : (⟨0, hn⟩ : Fin cfg0.N).val / 4 % 4 = (⟨0, hn⟩ : Fin cfg0.N).val % 4
    · have e := cur_A (m := m) (c := c) ⟨0, hn⟩ rfl (by simp) h2
      have := tile_step H (t := ⟨0, hn⟩) (le_of_eq (Fin.ext h2.symm)) (dia_at H _ (Fin.ext h2.symm)) (run_start rfl)
      unfold At
      rw [e]
      exact this
    · exact absurd (by simp) h2
  | succ n ih =>
    intro hn
    set t : Fin cfg0.N := ⟨n + 1, hn⟩ with ht
    have tv : t.val = n + 1 := rfl
    by_cases h0 : t.val % 4 = 0
    · by_cases h2 : t.val / 4 % 4 = t.val % 4
      · have e := cur_A (m := m) (c := c) t h0 (by omega) h2
        have := tile_step H (t := t) (le_of_eq (Fin.ext h2.symm)) (dia_at H t (Fin.ext h2.symm)) (run_start h0)
        unfold At
        rw [e]
        exact this
      · have e := cur_C (m := m) (c := c) t h0 (by omega) h2
        have hlt : jP t < iP t := by show t.val % 4 < t.val / 4 % 4; omega
        have := tile_step H (t := t) hlt.le (off_at H t hlt) (run_start h0)
        unfold At
        rw [e]
        exact this
    · have hh : hP ⟨n, Nat.lt_of_succ_lt hn⟩ = hP t := Fin.ext (by show n / 16 = (n + 1) / 16; omega)
      have hi : iP ⟨n, Nat.lt_of_succ_lt hn⟩ = iP t := Fin.ext (by show n / 4 % 4 = (n + 1) / 4 % 4; omega)
      have hm : n % 4 + 1 = (jP t : ℕ) := by show n % 4 + 1 = (n + 1) % 4; omega
      have P := ih (Nat.lt_of_succ_lt hn)
      unfold At at P
      rw [hh, hi, hm] at P
      by_cases h2 : t.val / 4 % 4 = t.val % 4
      · have e := cur_D (m := m) (c := c) t h0 (by omega) h2
        have := tile_step H (t := t) (le_of_eq (Fin.ext h2.symm)) (dia_at H t (Fin.ext h2.symm)) P
        unfold At
        rw [e]
        exact this
      · by_cases h1 : t.val % 4 + 1 ≤ t.val / 4 % 4
        · have e := cur_E (m := m) (c := c) t h0 h1 h2
          have hlt : jP t < iP t := by show t.val % 4 < t.val / 4 % 4; omega
          have := tile_step H (t := t) hlt.le (off_at H t hlt) P
          unfold At
          rw [e]
          exact this
        · have e := cur_B (m := m) (c := c) t h0 h1 h2
          have hlt : iP t < jP t := by show t.val / 4 % 4 < t.val % 4; omega
          unfold At
          rw [e]
          have hw : ∀ r, part (wt I (hP t) (row (iP t) r)) ((jP t : ℕ) + 1) = part (wt I (hP t) (row (iP t) r)) (jP t) := fun r => by
            rw [part_succ, wt_drop hlt, add_zero]
          have hu : ∀ r d, partE (ut I U (hP t) (row (iP t) r) d) ((jP t : ℕ) + 1) = partE (ut I U (hP t) (row (iP t) r) d) (jP t) := fun r d => by
            rw [partE_succ, ut_drop hlt, add_zero]
          show Run _ _ _ (fun r => part (wt I (hP t) (row (iP t) r)) ((jP t : ℕ) + 1)) (fun r d => partE (ut I U (hP t) (row (iP t) r) d) ((jP t : ℕ) + 1))
          simp only [hw, hu]
          exact P

/-- All key tiles of a row: up to the diagonal's, the later ones being masked. -/
theorem part_all (f : Fin 4 → ℝ) (i : Fin 4) (hf : ∀ j, i < j → f j = 0) : part f (i + 1) = ∑ j, f j := by
  unfold part
  refine Finset.sum_congr rfl fun j _ => ?_
  split_ifs with h
  · rfl
  · exact (hf j (by show (i : ℕ) < j; omega)).symm

theorem partE_all (f : Fin 4 → EReal) (i : Fin 4) (hf : ∀ j, i < j → f j = 0) : partE f (i + 1) = ∑ j, f j := by
  unfold partE
  refine Finset.sum_congr rfl fun j _ => ?_
  split_ifs with h
  · rfl
  · exact (hf j (by show (i : ℕ) < j; omega)).symm

/-- A row's output: the weights' product with the values. -/
def outv (I : Inp) (U : Fin 16 → Fin 4096 → Fin 128 → EReal) (h : Fin 16) (r : Fin 4096) (d : Fin 128) : EReal :=
  ∑ b, ((I.p h r b : ℝ) : EReal) * U h b d
/-- The outputs of all heads, side by side. -/
def outs (I : Inp) (U : Fin 16 → Fin 4096 → Fin 128 → EReal) : FVec Ideal S4096x2048 .bf16 := fun i => outv I U (hd (i 1)) (i 0) (dd (i 1))
theorem outs_at (hn) (h : Fin 16) (r : Fin 4096) (d : Fin 128) : outs I U (ix2 r (lane 2048 0 hn h d)) = outv I U h r d := by
  show outv I U (hd (lane 2048 0 hn h d)) r (dd (lane 2048 0 hn h d)) = _
  rw [hd_lane, dd_lane]

theorem w_tiles (h : Fin 16) (r : Fin 4096) : ∑ j, wt I h r j = I.w h r :=
  sum_rows fun b => if b ≤ r then Real.exp (I.z h r b) else 0
theorem u_tiles (h : Fin 16) (r : Fin 4096) (d : Fin 128) : (∑ j, ut I U h r d j) * ((1 / I.w h r : ℝ) : EReal) = outv I U h r d := by
  have e : ∑ j, ut I U h r d j = ∑ b, (((if b ≤ r then Real.exp (I.z h r b) else 0) : ℝ) : EReal) * U h b d :=
    sum_rowsE fun b => (((if b ≤ r then Real.exp (I.z h r b) else 0) : ℝ) : EReal) * U h b d
  rw [e, mul_comm, mul_sum_coe _ (one_div_pos.mpr (I.w_pos h r)).le]
  refine Finset.sum_congr rfl fun b _ => ?_
  have := I.p_shift h 0 r b
  simp only [sub_zero, neg_zero, Real.exp_zero, mul_one] at this
  rw [← this, ← mul_assoc, ← EReal.coe_mul, mul_comm (1 / I.w h r)]

/-- The diagonal's point stores the row's output and the log of its sum. -/
theorem out_dia (H : Entry m c I U) (t : Fin cfg0.N) (h2 : t.val / 4 % 4 = t.val % 4) :
    (∀ r d, (cur m c t).1 (ix2 r d) = outv I U (hP t) (row (iP t) r) d)
      ∧ ∀ r, (cur m c t).2.1 (ix3 0 r 0) = ((I.data.l (hP t) (row (iP t) r) : ℝ) : EReal) := by
  have R : At m c I U t t (t.val % 4 + 1) := run_at H t.val t.isLt
  have hj : t.val % 4 + 1 = (iP t : ℕ) + 1 := by show _ = t.val / 4 % 4 + 1; omega
  unfold At at R
  rw [hj] at R
  have aw : ∀ r, part (wt I (hP t) (row (iP t) r)) (iP t + 1) = I.w (hP t) (row (iP t) r) := fun r =>
    (part_all _ _ fun j h => wt_drop h _ _).trans (w_tiles _ _)
  have au : ∀ r d, partE (ut I U (hP t) (row (iP t) r) d) (iP t + 1) = ∑ j, ut I U (hP t) (row (iP t) r) d j := fun r d =>
    partE_all _ _ fun j h => ut_drop h _ _ _
  simp only [aw, au] at R
  have hw : ∀ r : Fin 1024, 0 < I.w (hP t) (row (iP t) r) := fun r => I.w_pos _ _
  have e : (cur m c t).1 = k0_pay8 (cur m c t).2.2.2.1 (cur m c t).2.2.2.2 ∧ (cur m c t).2.1 = k0_pay9 (cur m c t).2.2.2.1 (cur m c t).2.2.1 := by
    by_cases h0 : t.val % 4 = 0
    · have e := cur_A (m := m) (c := c) t h0 (by omega) h2
      exact ⟨congrArg (·.1) e, congrArg (·.2.1) e⟩
    · have e := cur_D (m := m) (c := c) t h0 (by omega) h2
      exact ⟨congrArg (·.1) e, congrArg (·.2.1) e⟩
  rw [e.1, e.2]
  exact ⟨fun r d => (R.out hw r d).trans (u_tiles _ _ d), R.lse hw⟩

/-- The points after the diagonal keep what it stored. -/
theorem out_at (H : Entry m c I U) : ∀ (n : ℕ) (hn : n < cfg0.N), n / 4 % 4 ≤ n % 4 →
    (∀ r d, (cur m c ⟨n, hn⟩).1 (ix2 r d) = outv I U (hP ⟨n, hn⟩) (row (iP ⟨n, hn⟩) r) d)
      ∧ ∀ r, (cur m c ⟨n, hn⟩).2.1 (ix3 0 r 0) = ((I.data.l (hP ⟨n, hn⟩) (row (iP ⟨n, hn⟩) r) : ℝ) : EReal) := by
  intro n
  induction n with
  | zero => exact fun hn _ => out_dia H ⟨0, hn⟩ (by simp)
  | succ n ih =>
    intro hn hle
    by_cases h2 : (n + 1) / 4 % 4 = (n + 1) % 4
    · exact out_dia H ⟨n + 1, hn⟩ h2
    · have hh : hP ⟨n, Nat.lt_of_succ_lt hn⟩ = hP ⟨n + 1, hn⟩ := Fin.ext (by show n / 16 = (n + 1) / 16; omega)
      have hi : iP ⟨n, Nat.lt_of_succ_lt hn⟩ = iP ⟨n + 1, hn⟩ := Fin.ext (by show n / 4 % 4 = (n + 1) / 4 % 4; omega)
      have P := ih (Nat.lt_of_succ_lt hn) (by omega)
      rw [hh, hi] at P
      have e := cur_B (m := m) (c := c) ⟨n + 1, hn⟩ (by show ¬(n + 1) % 4 = 0; omega) (by show ¬(n + 1) % 4 + 1 ≤ (n + 1) / 4 % 4; omega) h2
      rw [e]
      exact P

theorem oemb5 (t : Fin cfg0.N) (r : Fin 1024) (d : Fin 128) :
    ((win0_5.blk t).view.emb (ix2 r d) : S4096x2048.Idx) = ix2 (row (iP t) r) (lane 2048 0 (by decide) (hP t) d) := by
  have e := (idx t).2.2.2.2.2.1
  unfold row lane hP iP
  refine funext fun a => Fin.ext ?_
  match a with
  | ⟨0, _⟩ => blk_simp [e]; try simp; try omega
  | ⟨1, _⟩ => blk_simp [e]; try simp; try omega

theorem oemb6 (t : Fin cfg0.N) (r : Fin 1024) :
    ((win0_6.blk t).view.emb (ix3 0 r 0) : S16x4096x1.Idx) = ix3 (hP t) (row (iP t) r) 0 := by
  have e := (idx t).2.2.2.2.2.2
  unfold row hP iP
  refine funext fun a => Fin.ext ?_
  match a with
  | ⟨0, _⟩ => blk_simp [e]; try simp; try omega
  | ⟨1, _⟩ => blk_simp [e]; try simp; try omega
  | ⟨2, _⟩ => blk_simp [e]; try simp; try omega

theorem flush5 : ∀ t : Fin cfg0.N, (cfg0.win 5).flush t = true → t.val % 4 = 3 := by decide +kernel
theorem flush6 : ∀ t : Fin cfg0.N, (cfg0.win 6).flush t = true → t.val % 4 = 3 := by decide +kernel

/-- The outputs' array. -/
theorem arr5 (H : Entry m c I U) : (dats m 0 c).arrAt 5 cfg0.N = outs I U := by
  refine (dats m 0 c).arrAt_eq_of_covers 5 _ (by decide +kernel) fun t hf y => ?_
  have h3 := flush5 t hf
  blk_simp
  rw [after0_5]
  obtain ⟨r, d, rfl⟩ := Tiles.pair 1024 128 y
  rw [oemb5, outs_at]
  exact (out_at H t.val t.isLt (by omega)).1 r d

/-- The log-sums' array. -/
theorem arr6 (H : Entry m c I U) : (dats m 0 c).arrAt 6 cfg0.N = (fun i => ((I.data.l (i 0) (i 1) : ℝ) : EReal) : FVec Ideal S16x4096x1 .f32) := by
  refine (dats m 0 c).arrAt_eq_of_covers 6 _ (by decide +kernel) fun t hf y => ?_
  have h3 := flush6 t hf
  blk_simp
  rw [after0_6]
  obtain ⟨u, r, v, rfl⟩ := triple 1 1024 1 y
  have hu : u = 0 := Subsingleton.elim _ _
  have hv : v = 0 := Subsingleton.elim _ _
  subst hu; subst hv
  rw [oemb6]
  exact (out_at H t.val t.isLt (by omega)).2 r

end Cert.Hand.FoxF
end
-- ==== Proof.FoxF.lean ====
/- The forward attention's certificate: its frames, and its outputs and log-sums as the reference's real formulas. -/
module

public import proofs.«01_k».proof.Defs
public import proofs.«01_k».proof.Proof.FoxOut
public import proofs.«01_k».proof.Proof.Finite
public import proofs.«01_k».proof.Proof.Gen.KernelFoxF
public import proofs.«01_k».proof.Proof.Gen.ReferenceFoxFIdeal.Run
public import Idealize.ShloMosaic.Adequacy
public import Idealize.ShloMosaic.Init

@[expose] public section
set_option maxRecDepth 16384
noncomputable section
namespace Cert.Hand.FoxF
open Idealize.ShloMosaic Idealize.ShloMosaic.TcCoe Idealize.SL.Sem Idealize.ShloMosaic.Pointwise

section
/-- The projections with everything after the queries and keys replaced by zero. -/
def noV (x : FVec Ideal Cert.ReferenceIdeal.S4096x16896 .bf16) : FVec Ideal Cert.ReferenceIdeal.S4096x16896 .bf16 := fun i => if (i 1 : ℕ) < 4096 then x i else 0
theorem noV_at (x : FVec Ideal Cert.ReferenceIdeal.S4096x16896 .bf16) (r : Fin 4096) (n : Fin 16896) (hn : (n : ℕ) < 4096) : noV x (ix2 r n) = x (ix2 r n) := if_pos hn
theorem noV_zero (x : FVec Ideal Cert.ReferenceIdeal.S4096x16896 .bf16) (r : Fin 4096) (n : Fin 16896) (hn : ¬(n : ℕ) < 4096) : noV x (ix2 r n) = 0 := if_neg hn
theorem lane_q (h : Fin 16) (d : Fin 128) : ((lane 16896 0 (by decide) h d : Fin 16896) : ℕ) < 4096 := by
  show (0 + (h : ℕ)) * 128 + d < 4096
  have := h.isLt; have := d.isLt; omega
theorem lane_k (h : Fin 16) (d : Fin 128) : ((lane 16896 16 (by decide) h d : Fin 16896) : ℕ) < 4096 := by
  show (16 + (h : ℕ)) * 128 + d < 4096
  have := h.isLt; have := d.isLt; omega
theorem lane_v (h : Fin 16) (d : Fin 128) : ¬((lane 16896 32 (by decide) h d : Fin 16896) : ℕ) < 4096 := by
  show ¬(32 + (h : ℕ)) * 128 + d < 4096
  omega

/-- The values, finite or not. -/
def vals (x : FVec Ideal Cert.ReferenceIdeal.S4096x16896 .bf16) (h : Fin 16) (r : Fin 4096) (d : Fin 128) : EReal := x (ix2 r (lane 16896 32 (by decide) h d))
end

section
open Cert.KernelFoxFIdeal Cert.KernelFoxFIdeal.Gen Cert.FoxRun
variable {m : (ℓ : Loc nD τ sig) → Buf (Elt Ideal) ℓ} {c : Dev nD} {I : Inp}

theorem cq_eq (σ : Valuation τ sig (Elt Ideal)) : StableHlo.after hostOps0 σ (Proc.devRef .tc main_v0)
    = broadcastInDim S16x4096x1 ![0, 1] bcast_S16x4096_S16x4096x1_0_1 (σ (Proc.devRef .tc main_arg1) : FVec Ideal S16x4096 .f32) := by
  after_results_simp
theorem ck_eq (σ : Valuation τ sig (Elt Ideal)) : StableHlo.after hostOps0 σ (Proc.devRef .tc main_v1)
    = broadcastInDim S16x1x4096 ![0, 2] bcast_S16x4096_S16x1x4096_0_2 (σ (Proc.devRef .tc main_arg1) : FVec Ideal S16x4096 .f32) := by
  after_results_simp

/-- The arrays on real queries, keys and gates. -/
theorem entry {y : FVec Ideal S4096x2048 .bf16} (R : Real3 (noV (m ((c.tc : Thread nD τ).loc main_arg0))) (m ((c.tc : Thread nD τ).loc main_arg1)) y I) :
    Entry m c I (vals (m ((c.tc : Thread nD τ).loc main_arg0))) where
  q h r d := by rw [V_main_arg0]; exact (noV_at _ r _ (lane_q h d)).symm.trans (R.q h r d)
  k h r d := by rw [V_main_arg0]; exact (noV_at _ r _ (lane_k h d)).symm.trans (R.k h r d)
  v h r d := by rw [V_main_arg0]; rfl
  cq h r := by
    show StableHlo.after hostOps0 _ _ _ = _
    rw [cq_eq]
    exact (col_at _ h r).trans <| R.c h r
  ck h r := by
    show StableHlo.after hostOps0 _ _ _ = _
    rw [ck_eq]
    exact (lane_at _ h r).trans <| R.c h r

/-- The kernel's run: its two arrays hold the outputs and the log-sums, its arguments stay. -/
theorem run_pi (m : (ℓ : Loc nD τ sig) → Buf (Elt Ideal) ℓ) (ρ : Dev nD → PrngReg) (I : Dev nD → Inp) (y : Dev nD → FVec Ideal S4096x2048 .bf16)
    (R : ∀ c : Dev nD, Real3 (noV (m ((c.tc : Thread nD τ).loc main_arg0))) (m ((c.tc : Thread nD τ).loc main_arg1)) (y c) (I c)) :
    θ_run defs (onTc (τ := τ) (main (F := Ideal))) ⟨m, fun _ => 0, ρ⟩ fun r => ∀ c : Dev nD,
      r.2.mem ((c.tc : Thread nD τ).loc main_v2_0) = outs (I c) (vals (m ((c.tc : Thread nD τ).loc main_arg0)))
      ∧ r.2.mem ((c.tc : Thread nD τ).loc main_v2_1) = (fun i => (((I c).data.l (i 0) (i 1) : ℝ) : EReal) : FVec Ideal S16x4096x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).1 5).trans (arr5 (entry (R c))), ((h c).1 6).trans (arr6 (entry (R c))),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)
end

/-- At bits a named constant is the word it was printed for. -/
@[reducible] def namedBits : Named Bits where
  named _ _ {φ} bits := FloatOps.ofBits φ bits

/-- So read, the idealized kernel's text at bits is the printed one's. -/
theorem fn_eq : @Cert.KernelFoxFIdeal.cc0_fox_fwd Bits _ namedBits Cert.KernelFoxFIdeal.Gen.facts = @Cert.KernelFoxF.cc0_fox_fwd Bits _ Cert.KernelFoxF.Gen.facts := by
  unfold Cert.KernelFoxFIdeal.cc0_fox_fwd Cert.KernelFoxF.cc0_fox_fwd
  rfl
theorem defs₀_eq : @Cert.KernelFoxFIdeal.defs₀ Bits _ namedBits Cert.KernelFoxFIdeal.Gen.facts = @Cert.KernelFoxF.defs₀ Bits _ Cert.KernelFoxF.Gen.facts := by
  unfold Cert.KernelFoxFIdeal.defs₀ Cert.KernelFoxF.defs₀
  rw [fn_eq]
  refine congrArg Defs.onTc ?_
  funext l a
  match l, a with
  | 0, (t, s) => rfl

/-- One run for both frames: the printed kernel's is the idealized one's at bits. -/
theorem frame_p : Cert.quiescent_KernelFoxF := fun m ρ _ => by
  have h := @Cert.FoxRun.frame Bits _ namedBits m ρ
  unfold Cert.KernelFoxFIdeal.defs at h
  rw [defs₀_eq] at h
  exact h
theorem frame_pi : Cert.quiescent_KernelFoxFIdeal := fun m ρ _ => Cert.FoxRun.frame m ρ

/-- The mask's constant is minus infinity, by the certificate's table. -/
theorem preserves : Cert.preserves_KernelFoxF_KernelFoxFIdeal :=
  IdealRules.named_const.statement Cert.KernelFoxFIdeal.κ "mask" .f32 0xF149F2CA#32 ⊥ rfl

/-- The reference runs, keeps its arguments and declares no semaphore. -/
theorem frame_ri : Cert.quiescent_ReferenceFoxFIdeal := fun m ρ _ =>
  (θ_run Cert.ReferenceFoxFIdeal.defs _ _).mono (fun r h => ⟨fun c => (h c).2.2, sem_eq_zero_of_no_sems (by decide) r.2⟩)
    (Cert.ReferenceFoxFIdeal.Value.run (F := Ideal) m ρ)

/-- The side conditions of the precondition's operations. -/
theorem preFacts : Cert.Pre_finite_fox.Facts where
  slices_S4096x16896_S4096x4096_0_0 := by decide
  bitsLt_bf16_f32 := by decide
  bcast_S_S4096x4096 := by decide
  bcast_S_S16x4096 := by decide

instance : Cert.Pre_finite_fox.Facts := preFacts

theorem frame_pi_finite : Cert.quiescent_KernelFoxFIdeal_pre_finite_fox := fun m ρ _ => Cert.FoxRun.frame m ρ
theorem frame_ri_finite : Cert.quiescent_ReferenceFoxFIdeal_pre_finite_fox := fun m ρ _ => frame_ri m ρ trivial

section
open Cert.Pre_finite_fox
variable {x : FVec Ideal S4096x16896 .bf16} {c : FVec Ideal S16x4096 .f32}

theorem fin0 (h : (fn x c).1 = fun _ => 1#1) (r : Fin 4096) (n : Fin 4096) :
    x (ix2 r ⟨n, by have := n.isLt; omega⟩) = (((x (ix2 r ⟨n, by have := n.isLt; omega⟩)).toReal : ℝ) : EReal) := by
  refine real_of_lt _ ?_
  have := congrFun h (ix2 r n)
  pointwise [fn] at this
  exact this
theorem fin1 (h : (fn x c).2 = fun _ => 1#1) (i : Fin 16) (r : Fin 4096) :
    c (ix2 i r) = (((c (ix2 i r)).toReal : ℝ) : EReal) := by
  refine real_of_lt _ ?_
  have := congrFun h (ix2 i r)
  exact this

/-- The inputs as real numbers; the forward pass reads no output gradients, and takes any values. -/
def inp (x : FVec Ideal S4096x16896 .bf16) (c : FVec Ideal S16x4096 .f32) : Inp where
  q h r d := (x (ix2 r (lane 16896 0 (by decide) h d))).toReal
  k h r d := (x (ix2 r (lane 16896 16 (by decide) h d))).toReal
  v _ _ _ := 0
  g _ _ _ := 0
  c h r := (c (ix2 h r)).toReal

theorem real3 (h0 : (fn x c).1 = fun _ => 1#1) (h1 : (fn x c).2 = fun _ => 1#1) : Real3 (noV x) c (fun _ => 0) (inp x c) where
  q h r d := (noV_at x r _ (lane_q h d)).trans <| fin0 h0 r ⟨(0 + h) * 128 + d, by have := h.isLt; have := d.isLt; omega⟩
  k h r d := (noV_at x r _ (lane_k h d)).trans <| fin0 h0 r ⟨(16 + h) * 128 + d, by have := h.isLt; have := d.isLt; omega⟩
  v h r d := (noV_zero x r _ (lane_v h d)).trans EReal.coe_zero.symm
  g _ _ _ := EReal.coe_zero.symm
  c h r := fin1 h1 h r
end

section
open Cert.ReferenceFoxFIdeal
variable (m : (ℓ : Loc nD τ sig) → Buf (Elt Ideal) ℓ) (d : Dev nD)

theorem res49 : Value.res_main_v49 m d = hO (hV (m ((d.tc : Thread nD τ).loc main_arg0)))
    (hSoft (aE (m ((d.tc : Thread nD τ).loc main_arg0)) (m ((d.tc : Thread nD τ).loc main_arg1))) (hSum (aE (m ((d.tc : Thread nD τ).loc main_arg0)) (m ((d.tc : Thread nD τ).loc main_arg1))))) := by
  unfold Value.res_main_v49
  rfl
theorem res34 : Value.res_main_v34 m d = hLse (hMax (aS (m ((d.tc : Thread nD τ).loc main_arg0)) (m ((d.tc : Thread nD τ).loc main_arg1))))
    (hSum (hExp (aS (m ((d.tc : Thread nD τ).loc main_arg0)) (m ((d.tc : Thread nD τ).loc main_arg1))) (hMax (aS (m ((d.tc : Thread nD τ).loc main_arg0)) (m ((d.tc : Thread nD τ).loc main_arg1)))))) := by
  unfold Value.res_main_v34
  rfl
end

section
open Cert.ReferenceIdeal
variable {x : FVec Ideal S4096x16896 .bf16} {c : FVec Ideal S16x4096 .f32} {y : FVec Ideal S4096x2048 .bf16} {I : Inp}

theorem hQ_noV : hQ (noV x) = hQ x := by
  funext i
  obtain ⟨r, h, d, rfl⟩ := triple 4096 16 128 i
  exact (hQ_at _ r h d).trans ((noV_at x r _ (lane_q h d)).trans (hQ_at _ r h d).symm)
theorem hK_noV : hK (noV x) = hK x := by
  funext i
  obtain ⟨r, h, d, rfl⟩ := triple 4096 16 128 i
  exact (hK_at _ r h d).trans ((noV_at x r _ (lane_k h d)).trans (hK_at _ r h d).symm)
theorem aS_noV : aS (noV x) c = aS x c := by
  unfold aS
  rw [hQ_noV, hK_noV]
theorem aE_noV : aE (noV x) c = aE x c := by
  unfold aE
  rw [aS_noV]

theorem hO_any {U : FVec Ideal S4096x16x128 .f32} {P : FVec Ideal S16x4096x4096 .f32} {v : Fin 16 → Fin 4096 → Fin 128 → EReal}
    (hu : ∀ h r d, U (ix3 r h d) = v h r d) (hp : ∀ h r b, P (ix3 h r b) = ((I.p h r b : ℝ) : EReal)) (r : Fin 4096) (h : Fin 16) (d : Fin 128) :
    hO U P (ix2 r (lane 2048 0 (by decide) h d)) = outv I v h r d := by
  have e1 : (⟨(lane 2048 0 (by decide) h d : ℕ) / 128, by have := (lane 2048 0 (by decide) h d).isLt; omega⟩ : Fin 16) = h :=
    Fin.ext (by show ((0 + (h : ℕ)) * 128 + d) / 128 = h; have := d.isLt; omega)
  have e2 : (⟨(lane 2048 0 (by decide) h d : ℕ) % 128, Nat.mod_lt _ (by decide)⟩ : Fin 128) = d :=
    Fin.ext (by show ((0 + (h : ℕ)) * 128 + d) % 128 = d; have := d.isLt; omega)
  pointwise [hO]
  simp only [e1, e2, hu, hp]
  exact Finset.sum_congr rfl fun b _ => mul_comm _ _

/-- The reference's outputs and log-sums on real queries, keys and gates. -/
theorem ref_o (R : Real3 (noV x) c y I) : hO (hV x) (hSoft (aE x c) (hSum (aE x c))) = outs I (vals x) := by
  funext i
  obtain ⟨r, n, rfl⟩ := Tiles.pair 4096 2048 i
  rw [← lane_hd (by decide) n, outs_at]
  refine hO_any (fun h r d => hV_at x r h d) (fun h r b => ?_) r _ _
  rw [← aE_noV]
  exact aP_at R h r b
theorem ref_l (R : Real3 (noV x) c y I) : hLse (hMax (aS x c)) (hSum (hExp (aS x c) (hMax (aS x c))))
    = (fun i => ((I.data.l (i 0) (i 1) : ℝ) : EReal) : FVec Ideal S16x4096x1 .f32) := by
  funext i
  obtain ⟨h, r, u, rfl⟩ := triple 16 4096 1 i
  have hu : u = 0 := Subsingleton.elim _ _
  subst hu
  rw [← aS_noV]
  exact lse_at (aS_at R) h r
end

theorem algebraic : Cert.algebraic_KernelFoxFIdeal_ReferenceFoxFIdeal_pre_finite_fox := by
  intro m ρ m' ρ' hpre hagree
  have R := fun c => real3 (hpre c).1 (hpre c).2
  refine ⟨_, _, run_pi m ρ _ _ R, ?_⟩
  refine (θ_run Cert.ReferenceFoxFIdeal.defs _ _).mono (fun r h c => ?_) (Cert.ReferenceFoxFIdeal.Value.run (F := Ideal) m' ρ')
  have R' := R c
  rw [← (hagree c).1, ← (hagree c).2] at R' ⊢
  exact ⟨(h c).1.trans ((res49 m' c).trans (ref_o R')), (h c).2.1.trans ((res34 m' c).trans (ref_l R')), (h c).2.2⟩

end Cert.Hand.FoxF
end
-- ==== Proof.NormRef.lean ====
/- The norm's gradient in the reference: its parts, each read at an index. -/
module

public import proofs.«01_k».proof.Proof.Gen.ReferenceNormIdeal.Run
public import proofs.«01_k».proof.Proof.Sums
public import proofs.«01_k».proof.Proof.Real

@[expose] public section
set_option maxRecDepth 16384
noncomputable section
namespace Cert.Hand.Norm
open Idealize.ShloMosaic Idealize.ShloMosaic.TcCoe Idealize.SL.Sem Idealize.ShloMosaic.Pointwise Cert.Hand.Tiles
open Cert.ReferenceNormIdeal Cert.ReferenceNormIdeal.Gen

variable (a u x : FVec Ideal S4096x4096 .f32) (g : FVec Ideal S1x4096 .f32)

/-- A row's mean square plus the epsilon, its root's reciprocal, the gradient times the gain, the gradient of the mean square,
    and the three results. -/
def vR : FVec Ideal S4096x1 .f32 :=
  addf (Host.divf (broadcastInDim S4096x1 ![0] bcast_S4096_S4096x1_0 (Host.reduceAdd (mulf x x) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32))
def rR : FVec Ideal S4096x1 .f32 := Host.rsqrt (vR x)
def uR : FVec Ideal S4096x4096 .f32 := mulf u (broadcastInDim S4096x4096 ![0, 1] bcast_S1x4096_S4096x4096_0_1 g)
def cR : FVec Ideal S4096 .f32 :=
  Host.reduceAdd (Host.divf (mulf (shapeCast _ (Host.reduceAdd (mulf x (uR u g)) (constant S_ .f32 0x00000000#32) reducesTo_S4096x4096_S4096_d1 h_S_) shapeCasts_S4096_S4096x1)
    (mulf (broadcastInDim S4096x1 ![] bcast_S_S4096x1 (constant S_ .f32 0xBF000000#32)) (Host.divf (rR x) (vR x))))
    (broadcastInDim S4096x1 ![] bcast_S_S4096x1 (constant S_ .f32 0x45800000#32))) (constant S_ .f32 0x00000000#32) reducesTo_S4096x1_S4096_d1 h_S_
def dxR : FVec Ideal S4096x4096 .f32 :=
  addf a (addf (addf (mulf (uR u g) (broadcastInDim S4096x4096 ![0, 1] bcast_S4096x1_S4096x4096_0_1 (rR x)))
    (mulf x (broadcastInDim S4096x4096 ![0] bcast_S4096_S4096x4096_0 (cR u x g)))) (mulf (broadcastInDim S4096x4096 ![0] bcast_S4096_S4096x4096_0 (cR u x g)) x))
def ggR : FVec Ideal S1x4096 .f32 :=
  shapeCast _ (Host.reduceAdd (mulf (mulf x (broadcastInDim S4096x4096 ![0, 1] bcast_S4096x1_S4096x4096_0_1 (rR x))) u) (constant S_ .f32 0x00000000#32)
    reducesTo_S4096x4096_S4096_d0 h_S_) shapeCasts_S4096_S1x4096

/-- The same at an index. -/
def vs (r : Fin 4096) : EReal := Ideal.div (∑ k, x (ix2 r k) * x (ix2 r k)) (Ideal.ofBits .f32 0x45800000#32) + Ideal.ofBits .f32 0x358637BD#32
def rs (r : Fin 4096) : EReal := Ideal.rsqrt (vs x r)

theorem vR_at (r : Fin 4096) : vR x (ix2 r 0) = vs x r := by
  pointwise [vR]
  rfl
theorem rR_at (r : Fin 4096) : rR x (ix2 r 0) = rs x r := by
  have h := vR_at x r
  pointwise [rR]
  rw [h]; rfl
theorem uR_at (r d : Fin 4096) : uR u g (ix2 r d) = u (ix2 r d) * g (ix2 0 d) := by
  pointwise [uR]
theorem cR_at (r : Fin 4096) : cR u x g (ix1 r) = Ideal.div ((∑ k, x (ix2 r k) * (u (ix2 r k) * g (ix2 0 k))) * (Ideal.ofBits .f32 0xBF000000#32 * Ideal.div (rs x r) (vs x r)))
    (Ideal.ofBits .f32 0x45800000#32) := by
  have h := vR_at x r
  have h' := rR_at x r
  have h'' := uR_at u g r
  pointwise [cR]
  rw [Fintype.sum_unique]
  simp only [h'']
  exact congrArg₂ (fun p q => Ideal.div ((∑ k, x (ix2 r k) * (u (ix2 r k) * g (ix2 0 k))) * (Ideal.ofBits .f32 0xBF000000#32 * Ideal.div p q)) (Ideal.ofBits .f32 0x45800000#32)) h' h
theorem dxR_at (r d : Fin 4096) : dxR a u x g (ix2 r d) = a (ix2 r d) + (u (ix2 r d) * g (ix2 0 d) * rs x r + x (ix2 r d) * cR u x g (ix1 r) + cR u x g (ix1 r) * x (ix2 r d)) := by
  have h := uR_at u g r d
  have h' := rR_at x r
  pointwise [dxR]
  rw [h, h']
  done
theorem ggR_at (d : Fin 4096) : ggR u x (ix2 0 d) = ∑ r, x (ix2 r d) * rs x r * u (ix2 r d) := by
  have h' := rR_at x
  pointwise [ggR]
  simp only [h']
  done

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = dxR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v17) = ggR (m ((c.tc : Thread nD τ).loc main_arg1)) (m ((c.tc : Thread nD τ).loc main_arg2))
      ∧ r.2.mem ((c.tc : Thread nD τ).loc main_v35) = truncf .bf16 (dxR (m ((c.tc : Thread nD τ).loc main_arg0)) (m ((c.tc : Thread nD τ).loc main_arg1)) (m ((c.tc : Thread nD τ).loc main_arg2)) (m ((c.tc : Thread nD τ).loc main_arg3))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceNormIdeal.Value.run (F := Ideal) m ρ

end Cert.Hand.Norm
end
-- ==== Proof.NormMath.lean ====
/- A row's gradient through the root-mean-square norm, on extended reals: the kernel's expression is the derivative's. -/
module

public import proofs.«01_k».proof.Proof.Real

@[expose] public section
noncomputable section
namespace Cert.Hand.Norm
open Idealize.ShloMosaic

/-- A nonnegative real times a sum of extended reals, the infinite ones among them. -/
theorem mul_sum_coe {ι : Type} (a : ℝ) (ha : 0 ≤ a) (s : Finset ι) (f : ι → EReal) :
    ((a : ℝ) : EReal) * ∑ i ∈ s, f i = ∑ i ∈ s, ((a : ℝ) : EReal) * f i := by
  classical
  induction s using Finset.induction_on with
  | empty => simp
  | insert b s hb ih =>
    rw [Finset.sum_insert hb, Finset.sum_insert hb, EReal.left_distrib_of_nonneg_of_ne_top (EReal.coe_nonneg.mpr ha) (EReal.coe_ne_top a), ih]

/-- A real multiple twice is twice the multiple. -/
theorem twice (t : ℝ) (s : EReal) : ((t : ℝ) : EReal) * s + ((t : ℝ) : EReal) * s = ((t + t : ℝ) : EReal) * s := by
  rcases le_total 0 t with h | h
  · rw [EReal.coe_add, EReal.right_distrib_of_nonneg (EReal.coe_nonneg.mpr h) (EReal.coe_nonneg.mpr h)]
  · have h' : 0 ≤ -t := by linarith
    have e := EReal.right_distrib_of_nonneg (c := -s) (EReal.coe_nonneg.mpr h') (EReal.coe_nonneg.mpr h')
    rw [← EReal.coe_add, EReal.coe_neg, neg_mul_neg] at e
    rw [← e]
    have e' : t + t = -(-t + -t) := by ring
    rw [e', EReal.coe_neg (-t + -t), neg_mul, ← mul_neg]

theorem n_coe : Ideal.ofBits .f32 0x45800000#32 = ((4096 : ℝ) : EReal) := by
  simp only [Ideal.ofBits, Ideal.ieee]
  norm_num [Nat.shiftRight_eq_div_pow, show BitVec.extractLsb' 31 1 1166016512#32 = 0#1 from by decide, show BitVec.extractLsb' 31 1 3204448256#32 = 1#1 from by decide]
theorem half_coe : Ideal.ofBits .f32 0xBF000000#32 = ((-(1 / 2) : ℝ) : EReal) := by
  simp only [Ideal.ofBits, Ideal.ieee]
  norm_num [Nat.shiftRight_eq_div_pow, show BitVec.extractLsb' 31 1 1166016512#32 = 0#1 from by decide, show BitVec.extractLsb' 31 1 3204448256#32 = 1#1 from by decide]
theorem eps_coe : ∃ e : ℝ, 0 < e ∧ Ideal.ofBits .f32 0x358637BD#32 = ((e : ℝ) : EReal) := by
  simp only [Ideal.ofBits, Ideal.ieee]
  norm_num
  exact ⟨_, by positivity, (EReal.coe_mul _ _).symm⟩

/-- A finite sum of squares: real where every term is real, otherwise infinite. -/
theorem squares {ι : Type} [Fintype ι] (x : ι → EReal) :
    (∃ y : ι → ℝ, ∀ k, x k = ((y k : ℝ) : EReal)) ∨ ∑ k, x k * x k = ⊤ := by
  classical
  by_cases h : ∀ k, x k ≠ ⊤ ∧ x k ≠ ⊥
  · exact Or.inl ⟨fun k => (x k).toReal, fun k => (EReal.coe_toReal (h k).1 (h k).2).symm⟩
  · right
    push Not at h
    obtain ⟨k, hk⟩ := h
    have hk' : x k * x k = ⊤ := by
      by_cases e : x k = ⊤
      · rw [e]; exact EReal.top_mul_top
      · rw [hk e]; exact EReal.bot_mul_bot
    have hs : ∀ k, 0 ≤ x k * x k := fun k => by
      rcases le_total 0 (x k) with e | e
      · exact mul_nonneg e e
      · have := mul_nonneg (EReal.neg_nonneg.mpr e) (EReal.neg_nonneg.mpr e)
        rwa [neg_mul_neg] at this
    exact top_le_iff.mp (hk' ▸ Finset.single_le_sum (f := fun k => x k * x k) (fun i _ => hs i) (Finset.mem_univ k))

/-- The row's gradient: `r` the reciprocal root of the mean square `v`, `u` the output gradient times the gain. -/
theorem row {ι : Type} [Fintype ι] (x u : ι → EReal) (v r : EReal)
    (hv : v = Ideal.div (∑ k, x k * x k) (Ideal.ofBits .f32 0x45800000#32) + Ideal.ofBits .f32 0x358637BD#32) (hr : r = Ideal.rsqrt v) (d : ι) :
    r * (u d - x d * r * Ideal.div (∑ k, u k * (x k * r)) (Ideal.ofBits .f32 0x45800000#32))
      = u d * r + x d * Ideal.div ((∑ k, x k * u k) * (Ideal.ofBits .f32 0xBF000000#32 * Ideal.div r v)) (Ideal.ofBits .f32 0x45800000#32)
        + Ideal.div ((∑ k, x k * u k) * (Ideal.ofBits .f32 0xBF000000#32 * Ideal.div r v)) (Ideal.ofBits .f32 0x45800000#32) * x d := by
  obtain ⟨e, he, hE⟩ := eps_coe
  rw [hE, n_coe, Ideal.div_coe (by norm_num)] at hv
  rw [n_coe, half_coe, Ideal.div_coe (by norm_num), Ideal.div_coe (by norm_num)]
  rcases squares x with ⟨y, hy⟩ | h
  · have hs : ∑ k, x k * x k = ((∑ k, y k * y k : ℝ) : EReal) := by
      simp only [hy, ← EReal.coe_mul, coe_sum]
    set w : ℝ := (∑ k, y k * y k) * (1 / 4096) + e with hw
    have w0 : 0 < w := add_pos_of_nonneg_of_pos (mul_nonneg (Finset.sum_nonneg fun k _ => mul_self_nonneg _) (by norm_num)) he
    have hv' : v = ((w : ℝ) : EReal) := by rw [hv, hs, ← EReal.coe_mul, ← EReal.coe_add]
    set q : ℝ := (Real.sqrt w)⁻¹ with hq
    have q0 : 0 < q := inv_pos.mpr (Real.sqrt_pos.mpr w0)
    have hr' : r = ((q : ℝ) : EReal) := by rw [hr, hv', Ideal.rsqrt_coe, if_neg (not_lt.mpr w0.le), if_neg w0.ne']
    have hqw : 1 / w = q * q := by
      rw [hq, ← mul_inv, Real.mul_self_sqrt w0.le, one_div]
    have hS : ∑ k, u k * (x k * r) = ((q : ℝ) : EReal) * ∑ k, x k * u k := by
      rw [mul_sum_coe _ q0.le]
      refine Finset.sum_congr rfl fun k _ => ?_
      rw [hr', mul_comm, mul_comm (x k), mul_assoc]
    rw [hS, hr', hv', Ideal.div_coe w0.ne', hqw]
    generalize ∑ k, x k * u k = S
    rw [hy d]
    have e1 : ((y d : ℝ) : EReal) * ((q : ℝ) : EReal) * (((q : ℝ) : EReal) * S * ((1 / 4096 : ℝ) : EReal)) = ((y d * q * q * (1 / 4096) : ℝ) : EReal) * S := by
      simp only [EReal.coe_mul]; ac_rfl
    have e2 : ((y d : ℝ) : EReal) * (S * (((-(1 / 2) : ℝ) : EReal) * (((q : ℝ) : EReal) * ((q * q : ℝ) : EReal))) * ((1 / 4096 : ℝ) : EReal))
        = ((y d * (-(1 / 2)) * q * (q * q) * (1 / 4096) : ℝ) : EReal) * S := by
      simp only [EReal.coe_mul]; ac_rfl
    rw [mul_comm (S * _ * _) ((y d : ℝ) : EReal), e1, e2, add_assoc, twice, sub_eq_add_neg,
      EReal.left_distrib_of_nonneg_of_ne_top (EReal.coe_nonneg.mpr q0.le) (EReal.coe_ne_top _), mul_comm (u d), ← EReal.neg_mul, ← EReal.coe_neg,
      ← mul_assoc, ← EReal.coe_mul]
    refine congrArg (fun t : ℝ => ((q : ℝ) : EReal) * u d + ((t : ℝ) : EReal) * S) ?_
    ring
  · have hv' : v = ⊤ := by
      rw [hv, h, EReal.top_mul_coe_of_pos (by norm_num), EReal.top_add_coe]
    have hr' : r = 0 := by rw [hr, hv', Ideal.rsqrt_top]
    have hd : Ideal.div 0 ⊤ = 0 := by simp [Ideal.div]
    rw [hv', hr', hd]
    simp

end Cert.Hand.Norm
end
-- ==== Proof.Norm.lean ====
/- The first norm's backward call: the gradients of its input and of its gain, and the input's rounded to bf16. -/
module

public import proofs.«01_k».proof.Proof.Gen.KernelNormIdeal.Frame
public import proofs.«01_k».proof.Proof.Gen.KernelNormIdeal.Value
public import proofs.«01_k».proof.Proof.NormRef
public import proofs.«01_k».proof.Proof.NormMath
public import proofs.«01_k».proof.Defs
public import proofs.«01_k».proof.Proof.Gen.KernelNorm.Frame

@[expose] public section
set_option maxRecDepth 16384
noncomputable section
namespace Cert.Hand.Norm
open Idealize.ShloMosaic Idealize.ShloMosaic.TcCoe Idealize.SL.Sem Idealize.ShloMosaic.Pointwise Cert.Hand.Tiles

section kernel
open Cert.KernelNormIdeal Cert.KernelNormIdeal.Gen

theorem pay1_at (d : Fin 4096) : k0_pay1 (F := Ideal) (ix2 0 d) = 0 := by
  pointwise [k0_pay1]
theorem pay3_at (q : FVec Ideal S256x1 .f32) (x : FVec Ideal S256x4096 .f32) (r : Fin 256) (d : Fin 4096) :
    k0_pay3 (F := Ideal) q x (ix2 r d) = x (ix2 r d) * q (ix2 r 0) := by
  pointwise [k0_pay3, k0_pay2]
theorem pay4_at (q : FVec Ideal S256x1 .f32) (x u : FVec Ideal S256x4096 .f32) (g : FVec Ideal S1x4096 .f32) (a : FVec Ideal S256x4096 .f32)
    (r : Fin 256) (d : Fin 4096) : k0_pay4 (F := Ideal) q x u g a (ix2 r d) = a (ix2 r d) + q (ix2 r 0) * (u (ix2 r d) * g (ix2 0 d)
      - x (ix2 r d) * q (ix2 r 0) * Ideal.div (∑ k, u (ix2 r k) * g (ix2 0 k) * (x (ix2 r k) * q (ix2 r 0))) (Ideal.ofBits .f32 0x45800000#32)) := by
  pointwise [k0_pay4, k0_pay3, k0_pay2]
  done
theorem pay6_at (q : FVec Ideal S256x1 .f32) (x u : FVec Ideal S256x4096 .f32) (v : FVec Ideal S1x4096 .f32) (d : Fin 4096) :
    k0_pay6 (F := Ideal) q x u v (ix2 0 d) = v (ix2 0 d) + ∑ r, u (ix2 r d) * (x (ix2 r d) * q (ix2 r 0)) := by
  pointwise [k0_pay6, k0_pay3, k0_pay2]
  done

theorem idx : ∀ t : Fin cfg0.N,
    (win0_0.index t 0 = t.val % 16 ∧ win0_0.index t 1 = 0) ∧ (win0_1.index t 0 = t.val % 16 ∧ win0_1.index t 1 = 0)
    ∧ (win0_2.index t 0 = t.val % 16 ∧ win0_2.index t 1 = 0) ∧ (win0_3.index t 0 = t.val % 16 ∧ win0_3.index t 1 = 0)
    ∧ (win0_4.index t 0 = 0 ∧ win0_4.index t 1 = 0) ∧ (win0_5.index t 0 = t.val % 16 ∧ win0_5.index t 1 = 0)
    ∧ (win0_6.index t 0 = 0 ∧ win0_6.index t 1 = 0) ∧ (win0_7.index t 0 = t.val % 16 ∧ win0_7.index t 1 = 0) := by decide +kernel

/-- A grid point's place in its run. -/
def kP (t : Fin cfg0.N) : Fin 16 := ⟨t.val % 16, by omega⟩

theorem emb0 (t : Fin cfg0.N) (r : Fin 256) (d : Fin 4096) :
    (((cfg0.win 0).blk t).view.emb (ix2 r d) : S4096x4096.Idx) = ix2 (at_ rfl (kP t) r) d := by
  have e := (idx t).1
  unfold at_ kP
  refine ext2 _ _ _ ?_ ?_ <;> (blk_simp [e]; try simp; try omega)
theorem emb1 (t : Fin cfg0.N) (r : Fin 256) (d : Fin 4096) :
    (((cfg0.win 1).blk t).view.emb (ix2 r d) : S4096x4096.Idx) = ix2 (at_ rfl (kP t) r) d := by
  have e := (idx t).2.1
  unfold at_ kP
  refine ext2 _ _ _ ?_ ?_ <;> (blk_simp [e]; try simp; try omega)
theorem emb2 (t : Fin cfg0.N) (r : Fin 256) (d : Fin 4096) :
    (((cfg0.win 2).blk t).view.emb (ix2 r d) : S4096x4096.Idx) = ix2 (at_ rfl (kP t) r) d := by
  have e := (idx t).2.2.1
  unfold at_ kP
  refine ext2 _ _ _ ?_ ?_ <;> (blk_simp [e]; try simp; try omega)
theorem emb3 (t : Fin cfg0.N) (r : Fin 256) :
    (((cfg0.win 3).blk t).view.emb (ix2 r 0) : S4096x1.Idx) = ix2 (at_ rfl (kP t) r) 0 := by
  have e := (idx t).2.2.2.1
  unfold at_ kP
  refine ext2 _ _ _ ?_ ?_ <;> (blk_simp [e]; try simp; try omega)
theorem emb4 (t : Fin cfg0.N) (d : Fin 4096) :
    (((cfg0.win 4).blk t).view.emb (ix2 0 d) : S1x4096.Idx) = ix2 0 d := by
  have e := (idx t).2.2.2.2.1
  refine ext2 _ _ _ ?_ ?_ <;> (blk_simp [e]; try simp; try omega)
theorem emb5 (t : Fin cfg0.N) (r : Fin 256) (d : Fin 4096) :
    ((win0_5.blk t).view.emb (ix2 r d) : S4096x4096.Idx) = ix2 (at_ rfl (kP t) r) d := by
  have e := (idx t).2.2.2.2.2.1
  unfold at_ kP
  refine ext2 _ _ _ ?_ ?_ <;> (blk_simp [e]; try simp; try omega)
theorem emb6 (t : Fin cfg0.N) (d : Fin 4096) :
    ((win0_6.blk t).view.emb (ix2 0 d) : S1x4096.Idx) = ix2 0 d := by
  have e := (idx t).2.2.2.2.2.2.1
  refine ext2 _ _ _ ?_ ?_ <;> (blk_simp [e]; try simp; try omega)
theorem emb7 (t : Fin cfg0.N) (r : Fin 256) (d : Fin 4096) :
    ((win0_7.blk t).view.emb (ix2 r d) : S4096x4096.Idx) = ix2 (at_ rfl (kP t) r) d := by
  have e := (idx t).2.2.2.2.2.2.2
  unfold at_ kP
  refine ext2 _ _ _ ?_ ?_ <;> (blk_simp [e]; try simp; try omega)

/-- The reciprocal roots the host computes are the reference's. -/
theorem rstd_eq (σ : Valuation τ sig (Elt Ideal)) : StableHlo.after hostOps0 σ (Proc.devRef .tc main_v7)
    = rR (σ (Proc.devRef .tc main_arg2) : FVec Ideal S4096x4096 .f32) := by
  unfold rR vR
  after_results_simp

variable (m : (ℓ : Loc nD τ sig) → Buf (Elt Ideal) ℓ) (c : Dev nD)

abbrev A : FVec Ideal S4096x4096 .f32 := m ((c.tc : Thread nD τ).loc main_arg0)
abbrev U : FVec Ideal S4096x4096 .f32 := m ((c.tc : Thread nD τ).loc main_arg1)
abbrev X : FVec Ideal S4096x4096 .f32 := m ((c.tc : Thread nD τ).loc main_arg2)
abbrev G : FVec Ideal S1x4096 .f32 := m ((c.tc : Thread nD τ).loc main_arg3)

theorem blk0_at (t : Fin cfg0.N) (r : Fin 256) (d : Fin 4096) :
    (iblk m c 0 t : FVec Ideal S256x4096 .f32) (ix2 r d) = A m c (ix2 (at_ rfl (kP t) r) d) :=
  (congrArg (V m c main_arg0) (emb0 t r d)).trans (congrFun (V_main_arg0 m c) _)
theorem blk1_at (t : Fin cfg0.N) (r : Fin 256) (d : Fin 4096) :
    (iblk m c 1 t : FVec Ideal S256x4096 .f32) (ix2 r d) = U m c (ix2 (at_ rfl (kP t) r) d) :=
  (congrArg (V m c main_arg1) (emb1 t r d)).trans (congrFun (V_main_arg1 m c) _)
theorem blk2_at (t : Fin cfg0.N) (r : Fin 256) (d : Fin 4096) :
    (iblk m c 2 t : FVec Ideal S256x4096 .f32) (ix2 r d) = X m c (ix2 (at_ rfl (kP t) r) d) :=
  (congrArg (V m c main_arg2) (emb2 t r d)).trans (congrFun (V_main_arg2 m c) _)
theorem V_rstd : (V m c main_v7 : FVec Ideal S4096x1 .f32) = rR (X m c) := by
  show StableHlo.after hostOps0 _ _ = _
  rw [rstd_eq]
theorem blk3_at (t : Fin cfg0.N) (r : Fin 256) :
    (iblk m c 3 t : FVec Ideal S256x1 .f32) (ix2 r 0) = rs (X m c) (at_ rfl (kP t) r) :=
  (congrArg (V m c main_v7) (emb3 t r)).trans ((congrFun (V_rstd m c) _).trans (rR_at _ _))
theorem blk4_at (t : Fin cfg0.N) (d : Fin 4096) :
    (iblk m c 4 t : FVec Ideal S1x4096 .f32) (ix2 0 d) = G m c (ix2 0 d) :=
  (congrArg (V m c main_arg3) (emb4 t d)).trans (congrFun (V_main_arg3 m c) _)

/-- What the point before `t` left, and what `t` leaves. -/
abbrev prev (t : Fin cfg0.N) := outsAt0 m c (t.val - 1) (lt_of_le_of_lt (Nat.sub_le _ _) t.isLt)
abbrev cur (t : Fin cfg0.N) := outsAt0 m c t.val t.isLt

/-- A tile's gradient, which a point stores twice, is the reference's. -/
theorem tile_at (t : Fin cfg0.N) (r : Fin 256) (d : Fin 4096) :
    k0_pay4 (F := Ideal) (iblk m c 3 t) (iblk m c 2 t) (iblk m c 1 t) (iblk m c 4 t) (iblk m c 0 t) (ix2 r d)
      = dxR (A m c) (U m c) (X m c) (G m c) (ix2 (at_ rfl (kP t) r) d) := by
  rw [dxR_at, cR_at]
  refine (pay4_at _ _ _ _ _ r d).trans ?_
  simp only [blk0_at, blk1_at, blk2_at, blk3_at, blk4_at]
  exact congrArg (A m c (ix2 (at_ rfl (kP t) r) d) + ·) (row (fun k => X m c (ix2 (at_ rfl (kP t) r) k))
    (fun k => U m c (ix2 (at_ rfl (kP t) r) k) * G m c (ix2 0 k)) _ _ rfl rfl d)

/-- The output tiles' contents after a point. -/
theorem dx_at (t : Fin cfg0.N) : ((cur m c t).1 : FVec Ideal S256x4096 .f32)
    = k0_pay4 (F := Ideal) (iblk m c 3 t) (iblk m c 2 t) (iblk m c 1 t) (iblk m c 4 t) (iblk m c 0 t) := by
  by_cases h0 : t.val % 16 = 0
  · rw [cur, outsAt0_A m c t h0]; frame_out
  · rw [cur, outsAt0_B m c t h0]; frame_out
theorem dxb_at (t : Fin cfg0.N) : ((cur m c t).2.2 : FVec Ideal S256x4096 .bf16)
    = k0_pay5 (F := Ideal) (iblk m c 3 t) (iblk m c 2 t) (iblk m c 1 t) (iblk m c 4 t) (iblk m c 0 t) := by
  by_cases h0 : t.val % 16 = 0
  · rw [cur, outsAt0_A m c t h0]; frame_out
  · rw [cur, outsAt0_B m c t h0]; frame_out

/-- A row's part of the gain's gradient. -/
def part (u x : FVec Ideal S4096x4096 .f32) (d : Fin 4096) (r : Fin 4096) : EReal := u (ix2 r d) * (x (ix2 r d) * rs x r)

/-- A tile's part, from its blocks. -/
def tpart (q : FVec Ideal S256x1 .f32) (x u : FVec Ideal S256x4096 .f32) (d : Fin 4096) : EReal := ∑ r, u (ix2 r d) * (x (ix2 r d) * q (ix2 r 0))

/-- A point adds its rows' parts to the gain's gradient, which the first point begins at zero. -/
theorem step (t : Fin cfg0.N) (d : Fin 4096) :
    ((cur m c t).2.1 : FVec Ideal S1x4096 .f32) (ix2 0 d)
      = (if t.val % 16 = 0 then 0 else ((prev m c t).2.1 : FVec Ideal S1x4096 .f32) (ix2 0 d))
        + ∑ r : Fin 256, part (U m c) (X m c) d (at_ rfl (kP t) r) := by
  have e : tpart (iblk m c 3 t) (iblk m c 2 t) (iblk m c 1 t) d = ∑ r : Fin 256, part (U m c) (X m c) d (at_ rfl (kP t) r) := by
    simp only [tpart, blk1_at, blk2_at, blk3_at]; rfl
  rw [← e]
  by_cases h0 : t.val % 16 = 0
  · rw [if_pos h0, cur, outsAt0_A m c t h0]; frame_out
    refine (pay6_at _ _ _ _ d).trans ?_
    rw [pay1_at]
    rfl
  · rw [if_neg h0, cur, outsAt0_B m c t h0]; frame_out
    exact pay6_at _ _ _ _ d

/-- The three result arrays. -/
theorem arr5 : (dats m 0 c).arrAt 5 cfg0.N = dxR (A m c) (U m c) (X m c) (G m c) := by
  refine (dats m 0 c).arrAt_eq_of_covers 5 _ (by decide +kernel) fun t hf y => ?_
  blk_simp
  rw [after0_5]
  obtain ⟨r, d, rfl⟩ := pair 256 4096 y
  rw [emb5]
  exact (congrFun (dx_at m c t) _).trans (tile_at m c t r d)
theorem arr7 : (dats m 0 c).arrAt 7 cfg0.N
    = (truncf .bf16 (dxR (A m c) (U m c) (X m c) (G m c)) bitsLt_bf16_f32 : FVec Ideal S4096x4096 .bf16) := by
  refine (dats m 0 c).arrAt_eq_of_covers 7 _ (by decide +kernel) fun t hf y => ?_
  blk_simp
  rw [after0_7]
  obtain ⟨r, d, rfl⟩ := pair 256 4096 y
  rw [emb7]
  exact (congrFun (dxb_at m c t) _).trans (tile_at m c t r d)
theorem arr6 : (dats m 0 c).arrAt 6 cfg0.N = ggR (U m c) (X m c) := by
  refine (dats m 0 c).arrAt_eq_of_covers 6 _ (by decide +kernel) fun t hf y => ?_
  have h3 := (flush0_6 t).mp hf
  blk_simp
  rw [after0_6]
  obtain ⟨z, d, rfl⟩ := pair 1 4096 y
  obtain rfl : z = 0 := Subsingleton.elim _ _
  rw [emb6, ggR_at]
  have e := fold (by decide) (fun n hn => ((outsAt0 m c n hn).2.1 : FVec Ideal S1x4096 .f32) (ix2 0 d))
    (fun _ k => ∑ r : Fin 256, part (U m c) (X m c) d (at_ rfl k r)) (fun n hn => step m c ⟨n, hn⟩ d) t.val t.isLt
  have h4 : t.val % 16 = 15 := by omega
  rw [h4, upTo_all] at e
  refine e.trans ((sum_at (n := 16) (s := 256) rfl (part (U m c) (X m c) d)).trans ?_)
  exact Finset.sum_congr rfl fun r _ => mul_comm _ _

end kernel

theorem frame_p : Cert.quiescent_KernelNorm := fun m ρ _ => Cert.KernelNorm.Gen.frame m ρ
theorem frame_pi : Cert.quiescent_KernelNormIdeal := fun m ρ _ => Cert.KernelNormIdeal.Gen.frame m ρ

/-- The reference runs, keeps its arguments and declares no semaphore. -/
theorem frame_ri : Cert.quiescent_ReferenceNormIdeal := fun m ρ _ =>
  (θ_run Cert.ReferenceNormIdeal.defs _ _).mono (fun r h => ⟨fun c => (h c).2.2.2, sem_eq_zero_of_no_sems (by decide) r.2⟩)
    (ref_run m ρ)

theorem preserves : Cert.preserves_KernelNorm_KernelNormIdeal := trivial

theorem algebraic : Cert.algebraic_KernelNormIdeal_ReferenceNormIdeal := by
  intro m ρ m' ρ' _ hagree
  refine ⟨_, _, _, (θ_run Cert.KernelNormIdeal.defs _ _).mono
    (fun r h c => ⟨(h c).1.trans (arr5 m c), (h c).2.1.trans (arr6 m c), (h c).2.2.1.trans (arr7 m c), (h c).2.2.2⟩)
    (Cert.KernelNormIdeal.Value.run_blocks (F := Ideal) m ρ), ?_⟩
  refine (θ_run Cert.ReferenceNormIdeal.defs _ _).mono (fun r h c => ?_) (ref_run m' ρ')
  obtain ⟨h1, h2, h3, h4⟩ := h c
  rw [(hagree c).1, (hagree c).2.1, (hagree c).2.2.1, (hagree c).2.2.2] at h1 h3
  rw [(hagree c).2.1, (hagree c).2.2.1] at h2
  exact ⟨h1, h2, h3, h4⟩

end Cert.Hand.Norm
end
-- ==== Proof.NormF.lean ====
/- The norm's forward call: its output and the reciprocal roots it saves. -/
module

public import proofs.«01_k».proof.Proof.Gen.KernelNormFIdeal.Frame
public import proofs.«01_k».proof.Proof.Gen.KernelNormFIdeal.Value
public import proofs.«01_k».proof.Proof.Gen.ReferenceNormFIdeal.Run
public import proofs.«01_k».proof.Proof.Sums
public import proofs.«01_k».proof.Defs
public import proofs.«01_k».proof.Proof.Gen.KernelNormF.Frame

@[expose] public section
set_option maxRecDepth 16384
noncomputable section
namespace Cert.Hand.NormF
open Idealize.ShloMosaic Idealize.ShloMosaic.TcCoe Idealize.SL.Sem Idealize.ShloMosaic.Pointwise Cert.Hand.Tiles

section reference
open Cert.ReferenceNormFIdeal Cert.ReferenceNormFIdeal.Gen

/-- A row's reciprocal root, and the norm: as the reference computes them, and at an index. -/
def rR (x : FVec Ideal S4096x4096 .f32) : FVec Ideal S4096x1 .f32 := Host.rsqrt
  (addf (Host.divf (broadcastInDim S4096x1 ![0] bcast_S4096_S4096x1_0 (Host.reduceAdd (mulf x x) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32)))
def hR (x : FVec Ideal S4096x4096 .f32) (g : FVec Ideal S1x4096 .f32) : FVec Ideal S4096x4096 .bf16 :=
  truncf .bf16 (mulf (mulf x (broadcastInDim S4096x4096 ![0, 1] bcast_S4096x1_S4096x4096_0_1 (rR x))) (broadcastInDim S4096x4096 ![0, 1] bcast_S1x4096_S4096x4096_0_1 g)) bitsLt_bf16_f32
theorem rR_at (x : FVec Ideal S4096x4096 .f32) (r : Fin 4096) : rR x (ix2 r 0)
    = Ideal.rsqrt (Ideal.div (∑ k, x (ix2 r k) * x (ix2 r k)) (Ideal.ofBits .f32 0x45800000#32) + Ideal.ofBits .f32 0x358637BD#32) := by
  pointwise [rR]
theorem hR_at (x : FVec Ideal S4096x4096 .f32) (g : FVec Ideal S1x4096 .f32) (r d : Fin 4096) : hR x g (ix2 r d) = x (ix2 r d) * rR x (ix2 r 0) * g (ix2 0 d) := by
  pointwise [hR]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v12) = hR (m ((c.tc : Thread nD τ).loc main_arg0)) (m ((c.tc : Thread nD τ).loc main_arg1))
      ∧ r.2.mem ((c.tc : Thread nD τ).loc main_v20) = rR (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceNormFIdeal.Value.run (F := Ideal) m ρ

end reference

section kernel
open Cert.KernelNormFIdeal Cert.KernelNormFIdeal.Gen

section tile
variable (x : FVec Ideal S256x4096 .f32) (g : FVec Ideal S1x4096 .f32) (r : Fin 256) (d : Fin 4096)

theorem pay1_at : k0_pay1 (F := Ideal) x (ix2 r 0)
    = Ideal.rsqrt (Ideal.div (∑ k, x (ix2 r k) * x (ix2 r k)) (Ideal.ofBits .f32 0x45800000#32) + Ideal.ofBits .f32 0x358637BD#32) := by
  pointwise [k0_pay1]
theorem pay2_at : k0_pay2 (F := Ideal) x g (ix2 r d) = x (ix2 r d) * k0_pay1 (F := Ideal) x (ix2 r 0) * g (ix2 0 d) := by
  pointwise [k0_pay2]

/-- The blocks stored. -/
theorem out2_at : out0_2 (F := Ideal) x g (ix2 r d) = x (ix2 r d) * k0_pay1 (F := Ideal) x (ix2 r 0) * g (ix2 0 d) := by
  unfold out0_2
  rw [View.canon_unit_zero zero2]
  repeat rw [View.ld_unit_zero zero2]
  rw [pay2_at]
theorem out3_at : out0_3 (F := Ideal) x g (ix2 r 0) = k0_pay1 (F := Ideal) x (ix2 r 0) := by
  unfold out0_3
  rw [View.canon_unit_zero zero2, View.ld_unit_zero zero2]
end tile

theorem idx : ∀ t : Fin cfg0.N,
    (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by decide +kernel

/-- The block's row of a grid point. -/
def iP (t : Fin cfg0.N) : Fin 16 := ⟨t.val, lt_of_lt_of_eq t.isLt N_0⟩

theorem emb0 (t : Fin cfg0.N) (r : Fin 256) (d : Fin 4096) :
    (((cfg0.win 0).blk t).view.emb (ix2 r d) : S4096x4096.Idx) = ix2 (at_ rfl (iP t) r) d := by
  have e := (idx t).1
  unfold at_ iP
  refine ext2 _ _ _ ?_ ?_ <;> (blk_simp [e]; try simp; try omega)
theorem emb1 (t : Fin cfg0.N) (d : Fin 4096) :
    (((cfg0.win 1).blk t).view.emb (ix2 0 d) : S1x4096.Idx) = ix2 0 d := by
  have e := (idx t).2.1
  refine ext2 _ _ _ ?_ ?_ <;> (blk_simp [e]; try simp; try omega)
theorem emb2 (t : Fin cfg0.N) (r : Fin 256) (d : Fin 4096) :
    ((win0_2.blk t).view.emb (ix2 r d) : S4096x4096.Idx) = ix2 (at_ rfl (iP t) r) d := by
  have e := (idx t).2.2.1
  unfold at_ iP
  refine ext2 _ _ _ ?_ ?_ <;> (blk_simp [e]; try simp; try omega)
theorem emb3 (t : Fin cfg0.N) (r : Fin 256) :
    ((win0_3.blk t).view.emb (ix2 r 0) : S4096x1.Idx) = ix2 (at_ rfl (iP t) r) 0 := by
  have e := (idx t).2.2.2
  unfold at_ iP
  refine ext2 _ _ _ ?_ ?_ <;> (blk_simp [e]; try simp; try omega)

variable (m : (ℓ : Loc nD τ sig) → Buf (Elt Ideal) ℓ) (c : Dev nD)

abbrev X : FVec Ideal S4096x4096 .f32 := m ((c.tc : Thread nD τ).loc main_arg0)
abbrev G : FVec Ideal S1x4096 .f32 := m ((c.tc : Thread nD τ).loc main_arg1)

theorem blk0_at (t : Fin cfg0.N) (r : Fin 256) (d : Fin 4096) :
    (iblk m c 0 t : FVec Ideal S256x4096 .f32) (ix2 r d) = X m c (ix2 (at_ rfl (iP t) r) d) :=
  (congrArg (V m c main_arg0) (emb0 t r d)).trans (congrFun (V_main_arg0 m c) _)
theorem blk1_at (t : Fin cfg0.N) (d : Fin 4096) :
    (iblk m c 1 t : FVec Ideal S1x4096 .f32) (ix2 0 d) = G m c (ix2 0 d) :=
  (congrArg (V m c main_arg1) (emb1 t d)).trans (congrFun (V_main_arg1 m c) _)

/-- A row's reciprocal root, from its block. -/
theorem root_at (t : Fin cfg0.N) (r : Fin 256) : k0_pay1 (F := Ideal) (iblk m c 0 t) (ix2 r 0) = rR (X m c) (ix2 (at_ rfl (iP t) r) 0) := by
  rw [rR_at]
  refine (pay1_at _ r).trans ?_
  simp only [blk0_at]

/-- The two result arrays. -/
theorem arr2 : (dats m 0 c).arrAt 2 cfg0.N = hR (X m c) (G m c) := by
  refine (dats m 0 c).arrAt_eq_of_covers 2 _ (by decide +kernel) fun t hf y => ?_
  blk_simp
  rw [after0_2]
  obtain ⟨r, d, rfl⟩ := pair 256 4096 y
  rw [emb2, hR_at, ← root_at]
  refine (out2_at _ _ r d).trans ?_
  rw [blk0_at, blk1_at]
theorem arr3 : (dats m 0 c).arrAt 3 cfg0.N = rR (X m c) := by
  refine (dats m 0 c).arrAt_eq_of_covers 3 _ (by decide +kernel) fun t hf y => ?_
  blk_simp
  rw [after0_3]
  obtain ⟨r, z, rfl⟩ := pair 256 1 y
  obtain rfl : z = 0 := Subsingleton.elim _ _
  rw [emb3, ← root_at]
  exact out3_at _ _ r

end kernel

theorem frame_p : Cert.quiescent_KernelNormF := fun m ρ _ => Cert.KernelNormF.Gen.frame m ρ
theorem frame_pi : Cert.quiescent_KernelNormFIdeal := fun m ρ _ => Cert.KernelNormFIdeal.Gen.frame m ρ

/-- The reference runs, keeps its arguments and declares no semaphore. -/
theorem frame_ri : Cert.quiescent_ReferenceNormFIdeal := fun m ρ _ =>
  (θ_run Cert.ReferenceNormFIdeal.defs _ _).mono (fun r h => ⟨fun c => (h c).2.2, sem_eq_zero_of_no_sems (by decide) r.2⟩)
    (ref_run m ρ)

theorem preserves : Cert.preserves_KernelNormF_KernelNormFIdeal := trivial

theorem algebraic : Cert.algebraic_KernelNormFIdeal_ReferenceNormFIdeal := by
  intro m ρ m' ρ' _ hagree
  refine ⟨_, _, (θ_run Cert.KernelNormFIdeal.defs _ _).mono
    (fun r h c => ⟨(h c).1.trans (arr2 m c), (h c).2.1.trans (arr3 m c), (h c).2.2⟩)
    (Cert.KernelNormFIdeal.Value.run_blocks (F := Ideal) m ρ), ?_⟩
  refine (θ_run Cert.ReferenceNormFIdeal.defs _ _).mono (fun r h c => ?_) (ref_run m' ρ')
  obtain ⟨h1, h2, h3⟩ := h c
  rw [(hagree c).1, (hagree c).2] at h1
  rw [(hagree c).1] at h2
  exact ⟨h1, h2, h3⟩

end Cert.Hand.NormF
end
-- ==== Proof.LossMath.lean ====
/- The constants of the loss and of its gradient, on extended reals. -/
module

public import proofs.«01_k».proof.Proof.NormMath

@[expose] public section
noncomputable section
namespace Cert.Hand.Loss
open Idealize.ShloMosaic

theorem half_coe : Ideal.ofBits .f32 0x3F000000#32 = ((1 / 2 : ℝ) : EReal) := by
  simp only [Ideal.ofBits, Ideal.ieee]
  norm_num [Nat.shiftRight_eq_div_pow, show BitVec.extractLsb' 31 1 0x3F000000#32 = 0#1 from by decide]
theorem one_coe : Ideal.ofBits .f32 0x3F800000#32 = ((1 : ℝ) : EReal) := by
  simp only [Ideal.ofBits, Ideal.ieee]
  norm_num [Nat.shiftRight_eq_div_pow, show BitVec.extractLsb' 31 1 0x3F800000#32 = 0#1 from by decide]
theorem two_coe : Ideal.ofBits .f32 0x40000000#32 = ((2 : ℝ) : EReal) := by
  simp only [Ideal.ofBits, Ideal.ieee]
  norm_num [Nat.shiftRight_eq_div_pow, show BitVec.extractLsb' 31 1 0x40000000#32 = 0#1 from by decide]
theorem recip_coe : Ideal.ofBits .f32 0x39800000#32 = ((1 / 4096 : ℝ) : EReal) := by
  simp only [Ideal.ofBits, Ideal.ieee]
  norm_num [Nat.shiftRight_eq_div_pow, show BitVec.extractLsb' 31 1 0x39800000#32 = 0#1 from by decide]

/-- The derivative of half the mean square is the error over the row's length. -/
theorem slope (e : EReal) : Ideal.div (Ideal.ofBits .f32 0x3F000000#32 * Ideal.ofBits .f32 0x3F800000#32) (Ideal.ofBits .f32 0x45800000#32)
    * (Ideal.ofBits .f32 0x40000000#32 * e) = e * Ideal.ofBits .f32 0x39800000#32 := by
  rw [half_coe, one_coe, two_coe, recip_coe, Norm.n_coe, Ideal.div_coe (by norm_num), ← mul_assoc, ← EReal.coe_mul, ← EReal.coe_mul, ← EReal.coe_mul,
    mul_comm e]
  refine congrArg (fun t : ℝ => ((t : ℝ) : EReal) * e) ?_
  norm_num

/-- Half a sum is the sum of the halves. -/
theorem half_sum {ι : Type} [Fintype ι] (f : ι → EReal) : Ideal.ofBits .f32 0x3F000000#32 * ∑ i, f i = ∑ i, Ideal.ofBits .f32 0x3F000000#32 * f i := by
  rw [half_coe]
  exact Norm.mul_sum_coe _ (by norm_num) _ f

end Cert.Hand.Loss
end
-- ==== Proof.LossRef.lean ====
/- The loss and its gradients in the reference: their parts, each read at an index. -/
module

public import proofs.«01_k».proof.Proof.Gen.ReferenceLossIdeal.Run
public import proofs.«01_k».proof.Proof.NormRef
public import proofs.«01_k».proof.Proof.LossMath

@[expose] public section
set_option maxRecDepth 16384
noncomputable section
namespace Cert.Hand.Loss
open Idealize.ShloMosaic Idealize.ShloMosaic.TcCoe Idealize.SL.Sem Idealize.ShloMosaic.Pointwise Cert.Hand.Tiles
open Cert.ReferenceLossIdeal Cert.ReferenceLossIdeal.Gen
open Norm (rR cR uR ggR rs rR_at cR_at uR_at ggR_at)

variable (x : FVec Ideal S4096x4096 .f32) (g : FVec Ideal S1x4096 .f32) (t u : FVec Ideal S4096x4096 .f32)

/-- The error, the gradient of the norm's output, the input's gradient from it, and the loss. -/
def errR : FVec Ideal S4096x4096 .f32 := subf (mulf (mulf x (broadcastInDim S4096x4096 ![0, 1] bcast_S4096x1_S4096x4096_0_1 (rR x)))
  (broadcastInDim S4096x4096 ![0, 1] bcast_S1x4096_S4096x4096_0_1 g)) t
def dyR : FVec Ideal S4096x4096 .f32 := mulf (broadcastInDim S4096x4096 ![0] bcast_S4096_S4096x4096_0 (Host.divf
    (broadcastInDim S4096 ![] bcast_S_S4096 (mulf (constant S_ .f32 0x3F000000#32) (constant S_ .f32 0x3F800000#32)))
    (broadcastInDim S4096 ![] bcast_S_S4096 (constant S_ .f32 0x45800000#32))))
  (mulf (broadcastInDim S4096x4096 ![] bcast_S_S4096x4096 (constant S_ .f32 0x40000000#32)) (errR x g t))
def dxU : FVec Ideal S4096x4096 .f32 := addf (addf (mulf (uR u g) (broadcastInDim S4096x4096 ![0, 1] bcast_S4096x1_S4096x4096_0_1 (rR x)))
  (mulf x (broadcastInDim S4096x4096 ![0] bcast_S4096_S4096x4096_0 (cR u x g)))) (mulf (broadcastInDim S4096x4096 ![0] bcast_S4096_S4096x4096_0 (cR u x g)) x)
def dxR : FVec Ideal S4096x4096 .f32 := dxU x g (dyR x g t)
def lossR : FVec Ideal S1x1 .f32 := shapeCast _ (mulf (constant S_ .f32 0x3F000000#32) (Host.reduceAdd (Host.divf
    (Host.reduceAdd (mulf (errR x g t) (errR x g t)) (constant S_ .f32 0x00000000#32) reducesTo_S4096x4096_S4096_d1 h_S_)
    (broadcastInDim S4096 ![] bcast_S_S4096 (constant S_ .f32 0x45800000#32))) (constant S_ .f32 0x00000000#32) reducesTo_S4096_S_d0 h_S_)) shapeCasts_S_S1x1

theorem errR_at (r d : Fin 4096) : errR x g t (ix2 r d) = x (ix2 r d) * rs x r * g (ix2 0 d) - t (ix2 r d) := by
  have h' := rR_at x r
  pointwise [errR]
  rw [h']
theorem dyR_at (r d : Fin 4096) : dyR x g t (ix2 r d) = errR x g t (ix2 r d) * Ideal.ofBits .f32 0x39800000#32 := by
  rw [← slope]
  pointwise [dyR]
theorem dxU_at (r d : Fin 4096) : dxU x g u (ix2 r d) = u (ix2 r d) * g (ix2 0 d) * rs x r + x (ix2 r d) * cR u x g (ix1 r) + cR u x g (ix1 r) * x (ix2 r d) := by
  have h := uR_at u g r d
  have h' := rR_at x r
  pointwise [dxU]
  rw [h, h']
/-- A row's part of the loss. -/
def lpart (r : Fin 4096) : EReal := Ideal.ofBits .f32 0x3F000000#32
  * Ideal.div (∑ k, errR x g t (ix2 r k) * errR x g t (ix2 r k)) (Ideal.ofBits .f32 0x45800000#32)
theorem lossR_at : lossR x g t (ix2 0 0) = ∑ r, lpart x g t r := by
  unfold lpart
  rw [← half_sum]
  pointwise [lossR]

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v48) = dxR (m ((c.tc : Thread nD τ).loc main_arg0)) (m ((c.tc : Thread nD τ).loc main_arg1)) (m ((c.tc : Thread nD τ).loc main_arg2))
      ∧ r.2.mem ((c.tc : Thread nD τ).loc main_v49) = lossR (m ((c.tc : Thread nD τ).loc main_arg0)) (m ((c.tc : Thread nD τ).loc main_arg1)) (m ((c.tc : Thread nD τ).loc main_arg2))
      ∧ r.2.mem ((c.tc : Thread nD τ).loc main_v32) = ggR (dyR (m ((c.tc : Thread nD τ).loc main_arg0)) (m ((c.tc : Thread nD τ).loc main_arg1)) (m ((c.tc : Thread nD τ).loc main_arg2))) (m ((c.tc : Thread nD τ).loc main_arg0))
      ∧ r.2.mem ((c.tc : Thread nD τ).loc main_v50) = truncf .bf16 (dxR (m ((c.tc : Thread nD τ).loc main_arg0)) (m ((c.tc : Thread nD τ).loc main_arg1)) (m ((c.tc : Thread nD τ).loc main_arg2))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceLossIdeal.Value.run (F := Ideal) m ρ

end Cert.Hand.Loss
end
-- ==== Proof.Loss.lean ====
/- The loss head: the last norm, the loss, and the gradients of the norm's input and of its gain. -/
module

public import proofs.«01_k».proof.Proof.Gen.KernelLossIdeal.Frame
public import proofs.«01_k».proof.Proof.Gen.KernelLossIdeal.Value
public import proofs.«01_k».proof.Proof.LossRef
public import proofs.«01_k».proof.Defs
public import proofs.«01_k».proof.Proof.Gen.KernelLoss.Frame

@[expose] public section
set_option maxRecDepth 16384
noncomputable section
namespace Cert.Hand.Loss
open Idealize.ShloMosaic Idealize.ShloMosaic.TcCoe Idealize.SL.Sem Idealize.ShloMosaic.Pointwise Cert.Hand.Tiles

section kernel
open Cert.KernelLossIdeal Cert.KernelLossIdeal.Gen
open Norm (rs ggR ggR_at cR cR_at)

section tile
variable (x t : FVec Ideal S256x4096 .f32) (g : FVec Ideal S1x4096 .f32) (r : Fin 256) (d : Fin 4096)

theorem pay1_at (q : FVec Ideal S256x1 .f32) (a b e : FVec Ideal S256x4096 .f32) :
    k0_pay1 (F := Ideal) q a b e (ix2 r d) = q (ix2 r 0) * (b (ix2 r d) - a (ix2 r d) * Ideal.div (∑ k, e (ix2 r k)) (Ideal.ofBits .f32 0x45800000#32)) := by
  pointwise [k0_pay1]
theorem pay3_at (a b : FVec Ideal S256x4096 .f32) (v : FVec Ideal S1x4096 .f32) : k0_pay3 (F := Ideal) a b v (ix2 0 d) = v (ix2 0 d) + ∑ r, b (ix2 r d) * a (ix2 r d) := by
  pointwise [k0_pay3]
theorem pay4_at : k0_pay4 (F := Ideal) (ix2 0 d) = 0 := by
  pointwise [k0_pay4]
theorem pay5_at : k0_pay5 (F := Ideal) (ix2 0 0) = 0 := by
  pointwise [k0_pay5]
theorem pay6_at : k0_pay6 (F := Ideal) x (ix2 r 0) = Ideal.rsqrt (Ideal.div (∑ k, x (ix2 r k) * x (ix2 r k)) (Ideal.ofBits .f32 0x45800000#32) + Ideal.ofBits .f32 0x358637BD#32) := by
  pointwise [k0_pay6]
theorem pay7_at : k0_pay7 (F := Ideal) x (ix2 r d) = x (ix2 r d) * k0_pay6 (F := Ideal) x (ix2 r 0) := by
  pointwise [k0_pay7]
theorem pay8_at : k0_pay8 (F := Ideal) x g t (ix2 r d) = x (ix2 r d) * k0_pay6 (F := Ideal) x (ix2 r 0) * g (ix2 0 d) - t (ix2 r d) := by
  rw [← pay7_at]
  pointwise [k0_pay8]
theorem pay9_at (v : FVec Ideal S1x1 .f32) : k0_pay9 (F := Ideal) x g t v (ix2 0 0)
    = v (ix2 0 0) + Ideal.ofBits .f32 0x3F000000#32 * ∑ r, Ideal.div (∑ k, k0_pay8 (F := Ideal) x g t (ix2 r k) * k0_pay8 (F := Ideal) x g t (ix2 r k)) (Ideal.ofBits .f32 0x45800000#32) := by
  pointwise [k0_pay9]
theorem pay10_at : k0_pay10 (F := Ideal) x g t (ix2 r d) = k0_pay8 (F := Ideal) x g t (ix2 r d) * Ideal.ofBits .f32 0x39800000#32 := by
  pointwise [k0_pay10]
theorem pay11_at : k0_pay11 (F := Ideal) x g t (ix2 r d) = k0_pay10 (F := Ideal) x g t (ix2 r d) * g (ix2 0 d) := by
  pointwise [k0_pay11]
theorem pay12_at : k0_pay12 (F := Ideal) x g t (ix2 r d) = k0_pay11 (F := Ideal) x g t (ix2 r d) * k0_pay7 (F := Ideal) x (ix2 r d) := by
  pointwise [k0_pay12]
end tile

theorem idx : ∀ t : Fin cfg0.N,
    (win0_0.index t 0 = t.val % 16 ∧ win0_0.index t 1 = 0) ∧ (win0_1.index t 0 = 0 ∧ win0_1.index t 1 = 0)
    ∧ (win0_2.index t 0 = t.val % 16 ∧ win0_2.index t 1 = 0) ∧ (win0_3.index t 0 = t.val % 16 ∧ win0_3.index t 1 = 0)
    ∧ (win0_4.index t 0 = 0 ∧ win0_4.index t 1 = 0) ∧ (win0_5.index t 0 = 0 ∧ win0_5.index t 1 = 0)
    ∧ (win0_6.index t 0 = t.val % 16 ∧ win0_6.index t 1 = 0) := by decide +kernel

/-- A grid point's place in its run. -/
def kP (t : Fin cfg0.N) : Fin 16 := ⟨t.val % 16, by omega⟩

theorem emb0 (t : Fin cfg0.N) (r : Fin 256) (d : Fin 4096) : (((cfg0.win 0).blk t).view.emb (ix2 r d) : S4096x4096.Idx) = ix2 (at_ rfl (kP t) r) d := by
  have e := (idx t).1
  unfold at_ kP
  refine ext2 _ _ _ ?_ ?_ <;> (blk_simp [e]; try simp; try omega)
theorem emb1 (t : Fin cfg0.N) (d : Fin 4096) : (((cfg0.win 1).blk t).view.emb (ix2 0 d) : S1x4096.Idx) = ix2 0 d := by
  have e := (idx t).2.1
  refine ext2 _ _ _ ?_ ?_ <;> (blk_simp [e]; try simp; try omega)
theorem emb2 (t : Fin cfg0.N) (r : Fin 256) (d : Fin 4096) : (((cfg0.win 2).blk t).view.emb (ix2 r d) : S4096x4096.Idx) = ix2 (at_ rfl (kP t) r) d := by
  have e := (idx t).2.2.1
  unfold at_ kP
  refine ext2 _ _ _ ?_ ?_ <;> (blk_simp [e]; try simp; try omega)
theorem emb3 (t : Fin cfg0.N) (r : Fin 256) (d : Fin 4096) : ((win0_3.blk t).view.emb (ix2 r d) : S4096x4096.Idx) = ix2 (at_ rfl (kP t) r) d := by
  have e := (idx t).2.2.2.1
  unfold at_ kP
  refine ext2 _ _ _ ?_ ?_ <;> (blk_simp [e]; try simp; try omega)
theorem emb4 (t : Fin cfg0.N)  : ((win0_4.blk t).view.emb (ix2 0 0) : S1x1.Idx) = ix2 0 0 := by
  have e := (idx t).2.2.2.2.1
  refine ext2 _ _ _ ?_ ?_ <;> (blk_simp [e]; try simp; try omega)
theorem emb5 (t : Fin cfg0.N) (d : Fin 4096) : ((win0_5.blk t).view.emb (ix2 0 d) : S1x4096.Idx) = ix2 0 d := by
  have e := (idx t).2.2.2.2.2.1
  refine ext2 _ _ _ ?_ ?_ <;> (blk_simp [e]; try simp; try omega)
theorem emb6 (t : Fin cfg0.N) (r : Fin 256) (d : Fin 4096) : ((win0_6.blk t).view.emb (ix2 r d) : S4096x4096.Idx) = ix2 (at_ rfl (kP t) r) d := by
  have e := (idx t).2.2.2.2.2.2
  unfold at_ kP
  refine ext2 _ _ _ ?_ ?_ <;> (blk_simp [e]; try simp; try omega)

variable (m : (ℓ : Loc nD τ sig) → Buf (Elt Ideal) ℓ) (c : Dev nD)

abbrev X : FVec Ideal S4096x4096 .f32 := m ((c.tc : Thread nD τ).loc main_arg0)
abbrev G : FVec Ideal S1x4096 .f32 := m ((c.tc : Thread nD τ).loc main_arg1)
abbrev TT : FVec Ideal S4096x4096 .f32 := m ((c.tc : Thread nD τ).loc main_arg2)

theorem blk0_at (t : Fin cfg0.N) (r : Fin 256) (d : Fin 4096) : (iblk m c 0 t : FVec Ideal S256x4096 .f32) (ix2 r d) = X m c (ix2 (at_ rfl (kP t) r) d) :=
  (congrArg (V m c main_arg0) (emb0 t r d)).trans (congrFun (V_main_arg0 m c) _)
theorem blk1_at (t : Fin cfg0.N) (d : Fin 4096) : (iblk m c 1 t : FVec Ideal S1x4096 .f32) (ix2 0 d) = G m c (ix2 0 d) :=
  (congrArg (V m c main_arg1) (emb1 t d)).trans (congrFun (V_main_arg1 m c) _)
theorem blk2_at (t : Fin cfg0.N) (r : Fin 256) (d : Fin 4096) : (iblk m c 2 t : FVec Ideal S256x4096 .f32) (ix2 r d) = TT m c (ix2 (at_ rfl (kP t) r) d) :=
  (congrArg (V m c main_arg2) (emb2 t r d)).trans (congrFun (V_main_arg2 m c) _)

/-- A tile's reciprocal roots, errors and gradients of the norm's output are the reference's. -/
theorem root_at (t : Fin cfg0.N) (r : Fin 256) : k0_pay6 (F := Ideal) (iblk m c 0 t) (ix2 r 0) = rs (X m c) (at_ rfl (kP t) r) := by
  refine (pay6_at _ r).trans ?_
  simp only [blk0_at]
  rfl
theorem err_at (t : Fin cfg0.N) (r : Fin 256) (d : Fin 4096) : k0_pay8 (F := Ideal) (iblk m c 0 t) (iblk m c 1 t) (iblk m c 2 t) (ix2 r d)
    = errR (X m c) (G m c) (TT m c) (ix2 (at_ rfl (kP t) r) d) := by
  rw [errR_at]
  refine (pay8_at _ _ _ r d).trans ?_
  rw [root_at, blk0_at, blk1_at, blk2_at]
theorem dy_at (t : Fin cfg0.N) (r : Fin 256) (d : Fin 4096) : k0_pay10 (F := Ideal) (iblk m c 0 t) (iblk m c 1 t) (iblk m c 2 t) (ix2 r d)
    = dyR (X m c) (G m c) (TT m c) (ix2 (at_ rfl (kP t) r) d) := by
  rw [dyR_at, ← err_at]
  exact pay10_at _ _ _ r d
theorem xhat_at (t : Fin cfg0.N) (r : Fin 256) (d : Fin 4096) : k0_pay7 (F := Ideal) (iblk m c 0 t) (ix2 r d)
    = X m c (ix2 (at_ rfl (kP t) r) d) * rs (X m c) (at_ rfl (kP t) r) := by
  refine (pay7_at _ r d).trans ?_
  rw [root_at, blk0_at]
theorem u_at (t : Fin cfg0.N) (r : Fin 256) (d : Fin 4096) : k0_pay11 (F := Ideal) (iblk m c 0 t) (iblk m c 1 t) (iblk m c 2 t) (ix2 r d)
    = dyR (X m c) (G m c) (TT m c) (ix2 (at_ rfl (kP t) r) d) * G m c (ix2 0 d) := by
  refine (pay11_at _ _ _ r d).trans ?_
  rw [dy_at, blk1_at]

/-- What the point before `t` left, and what `t` leaves. -/
abbrev prev (t : Fin cfg0.N) := outsAt0 m c (t.val - 1) (lt_of_le_of_lt (Nat.sub_le _ _) t.isLt)
abbrev cur (t : Fin cfg0.N) := outsAt0 m c t.val t.isLt

/-- A tile of the input's gradient. -/
abbrev tile (t : Fin cfg0.N) : FVec Ideal S256x4096 .f32 := k0_pay1 (F := Ideal) (k0_pay6 (iblk m c 0 t)) (k0_pay7 (iblk m c 0 t))
  (k0_pay11 (iblk m c 0 t) (iblk m c 1 t) (iblk m c 2 t)) (k0_pay12 (iblk m c 0 t) (iblk m c 1 t) (iblk m c 2 t))
theorem tile_at (t : Fin cfg0.N) (r : Fin 256) (d : Fin 4096) : tile m c t (ix2 r d)
    = dxR (X m c) (G m c) (TT m c) (ix2 (at_ rfl (kP t) r) d) := by
  unfold dxR
  rw [dxU_at, cR_at]
  refine (pay1_at r d _ _ _ _).trans ?_
  have e : ∀ k, k0_pay12 (F := Ideal) (iblk m c 0 t) (iblk m c 1 t) (iblk m c 2 t) (ix2 r k) = _ := fun k => pay12_at _ _ _ r k
  simp only [e, root_at, xhat_at, u_at]
  exact Norm.row (fun k => X m c (ix2 (at_ rfl (kP t) r) k))
    (fun k => dyR (X m c) (G m c) (TT m c) (ix2 (at_ rfl (kP t) r) k) * G m c (ix2 0 k)) _ _ rfl rfl d

/-- The output tiles' contents after a point. -/
theorem dx_at (t : Fin cfg0.N) : ((cur m c t).1 : FVec Ideal S256x4096 .f32) = tile m c t := by
  by_cases h0 : t.val % 16 = 0
  · rw [cur, outsAt0_A m c t h0]; frame_out
  · rw [cur, outsAt0_B m c t h0]; frame_out
theorem dxb_at (t : Fin cfg0.N) : ((cur m c t).2.2.2 : FVec Ideal S256x4096 .bf16) = truncf .bf16 (tile m c t) bitsLt_bf16_f32 := by
  by_cases h0 : t.val % 16 = 0
  · rw [cur, outsAt0_A m c t h0]; frame_out
    rfl
  · rw [cur, outsAt0_B m c t h0]; frame_out
    rfl

/-- A row's part of the gain's gradient. -/
def gpart (d r : Fin 4096) : EReal := dyR (X m c) (G m c) (TT m c) (ix2 r d) * (X m c (ix2 r d) * rs (X m c) r)

/-- A point adds its rows' parts to the loss and to the gain's gradient, which the first point begins at zero. -/
theorem loss_step (t : Fin cfg0.N) : ((cur m c t).2.1 : FVec Ideal S1x1 .f32) (ix2 0 0)
    = (if t.val % 16 = 0 then 0 else ((prev m c t).2.1 : FVec Ideal S1x1 .f32) (ix2 0 0))
      + ∑ r : Fin 256, lpart (X m c) (G m c) (TT m c) (at_ rfl (kP t) r) := by
  have e (v : FVec Ideal S1x1 .f32) : k0_pay9 (F := Ideal) (iblk m c 0 t) (iblk m c 1 t) (iblk m c 2 t) v (ix2 0 0)
      = v (ix2 0 0) + ∑ r : Fin 256, lpart (X m c) (G m c) (TT m c) (at_ rfl (kP t) r) := by
    refine (pay9_at _ _ _ v).trans ?_
    rw [half_sum]
    simp only [err_at]
    rfl
  by_cases h0 : t.val % 16 = 0
  · rw [if_pos h0, cur, outsAt0_A m c t h0]; frame_out
    refine (e _).trans ?_
    rw [pay5_at]
  · rw [if_neg h0, cur, outsAt0_B m c t h0]; frame_out
    exact e _
theorem gain_step (t : Fin cfg0.N) (d : Fin 4096) : ((cur m c t).2.2.1 : FVec Ideal S1x4096 .f32) (ix2 0 d)
    = (if t.val % 16 = 0 then 0 else ((prev m c t).2.2.1 : FVec Ideal S1x4096 .f32) (ix2 0 d))
      + ∑ r : Fin 256, gpart m c d (at_ rfl (kP t) r) := by
  have e (v : FVec Ideal S1x4096 .f32) : k0_pay3 (F := Ideal) (k0_pay7 (iblk m c 0 t)) (k0_pay10 (iblk m c 0 t) (iblk m c 1 t) (iblk m c 2 t)) v (ix2 0 d)
      = v (ix2 0 d) + ∑ r : Fin 256, gpart m c d (at_ rfl (kP t) r) := by
    refine (pay3_at d _ _ v).trans ?_
    simp only [dy_at, xhat_at]
    rfl
  by_cases h0 : t.val % 16 = 0
  · rw [if_pos h0, cur, outsAt0_A m c t h0]; frame_out
    refine (e _).trans ?_
    rw [pay4_at]
  · rw [if_neg h0, cur, outsAt0_B m c t h0]; frame_out
    exact e _

/-- The four result arrays. -/
theorem arr3 : (dats m 0 c).arrAt 3 cfg0.N = dxR (X m c) (G m c) (TT m c) := by
  refine (dats m 0 c).arrAt_eq_of_covers 3 _ (by decide +kernel) fun t hf y => ?_
  blk_simp
  rw [after0_3]
  obtain ⟨r, d, rfl⟩ := pair 256 4096 y
  rw [emb3]
  exact (congrFun (dx_at m c t) _).trans (tile_at m c t r d)
theorem arr6 : (dats m 0 c).arrAt 6 cfg0.N = (truncf .bf16 (dxR (X m c) (G m c) (TT m c)) bitsLt_bf16_f32 : FVec Ideal S4096x4096 .bf16) := by
  refine (dats m 0 c).arrAt_eq_of_covers 6 _ (by decide +kernel) fun t hf y => ?_
  blk_simp
  rw [after0_6]
  obtain ⟨r, d, rfl⟩ := pair 256 4096 y
  rw [emb6]
  exact (congrFun (dxb_at m c t) _).trans (tile_at m c t r d)
theorem arr4 : (dats m 0 c).arrAt 4 cfg0.N = lossR (X m c) (G m c) (TT m c) := by
  refine (dats m 0 c).arrAt_eq_of_covers 4 _ (by decide +kernel) fun t hf y => ?_
  have h3 := (flush0_4 t).mp hf
  blk_simp
  rw [after0_4]
  obtain ⟨z, z', rfl⟩ := pair 1 1 y
  obtain rfl : z = 0 := Subsingleton.elim _ _
  obtain rfl : z' = 0 := Subsingleton.elim _ _
  rw [emb4, lossR_at]
  have e := fold (by decide) (fun n hn => ((outsAt0 m c n hn).2.1 : FVec Ideal S1x1 .f32) (ix2 0 0))
    (fun _ k => ∑ r : Fin 256, lpart (X m c) (G m c) (TT m c) (at_ rfl k r)) (fun n hn => loss_step m c ⟨n, hn⟩) t.val t.isLt
  have h4 : t.val % 16 = 15 := by omega
  rw [h4, upTo_all] at e
  exact e.trans (sum_at (n := 16) (s := 256) rfl (lpart (X m c) (G m c) (TT m c)))
theorem arr5 : (dats m 0 c).arrAt 5 cfg0.N = ggR (dyR (X m c) (G m c) (TT m c)) (X m c) := by
  refine (dats m 0 c).arrAt_eq_of_covers 5 _ (by decide +kernel) fun t hf y => ?_
  have h3 := (flush0_5 t).mp hf
  blk_simp
  rw [after0_5]
  obtain ⟨z, d, rfl⟩ := pair 1 4096 y
  obtain rfl : z = 0 := Subsingleton.elim _ _
  rw [emb5, ggR_at]
  have e := fold (by decide) (fun n hn => ((outsAt0 m c n hn).2.2.1 : FVec Ideal S1x4096 .f32) (ix2 0 d))
    (fun _ k => ∑ r : Fin 256, gpart m c d (at_ rfl k r)) (fun n hn => gain_step m c ⟨n, hn⟩ d) t.val t.isLt
  have h4 : t.val % 16 = 15 := by omega
  rw [h4, upTo_all] at e
  refine e.trans ((sum_at (n := 16) (s := 256) rfl (gpart m c d)).trans ?_)
  exact Finset.sum_congr rfl fun r _ => mul_comm _ _

end kernel

theorem frame_p : Cert.quiescent_KernelLoss := fun m ρ _ => Cert.KernelLoss.Gen.frame m ρ
theorem frame_pi : Cert.quiescent_KernelLossIdeal := fun m ρ _ => Cert.KernelLossIdeal.Gen.frame m ρ

/-- The reference runs, keeps its arguments and declares no semaphore. -/
theorem frame_ri : Cert.quiescent_ReferenceLossIdeal := fun m ρ _ =>
  (θ_run Cert.ReferenceLossIdeal.defs _ _).mono (fun r h => ⟨fun c => (h c).2.2.2.2, sem_eq_zero_of_no_sems (by decide) r.2⟩)
    (ref_run m ρ)

theorem preserves : Cert.preserves_KernelLoss_KernelLossIdeal := trivial

theorem algebraic : Cert.algebraic_KernelLossIdeal_ReferenceLossIdeal := by
  intro m ρ m' ρ' _ hagree
  refine ⟨_, _, _, _, (θ_run Cert.KernelLossIdeal.defs _ _).mono
    (fun r h c => ⟨(h c).1.trans (arr3 m c), (h c).2.1.trans (arr4 m c), (h c).2.2.1.trans (arr5 m c), (h c).2.2.2.1.trans (arr6 m c), (h c).2.2.2.2⟩)
    (Cert.KernelLossIdeal.Value.run_blocks (F := Ideal) m ρ), ?_⟩
  refine (θ_run Cert.ReferenceLossIdeal.defs _ _).mono (fun r h c => ?_) (ref_run m' ρ')
  obtain ⟨h1, h2, h3, h4, h5⟩ := h c
  rw [(hagree c).1, (hagree c).2.1, (hagree c).2.2] at h1 h2 h3 h4
  exact ⟨h1, h2, h3, h4, h5⟩

end Cert.Hand.Loss
end
-- ==== Proof.AdamMath.lean ====
/- An AdamW step: of one number, on extended reals, and of an array of any shape, as the reference writes it; and the sum of the
   devices' parts of a gradient. -/
module

public import Idealize.ShloMosaic.Lib.IdealHost
public import Idealize.ShloMosaic.Lib.Pointwise

@[expose] public section
noncomputable section
namespace Cert.Hand.Adam
open Idealize.ShloMosaic Idealize.ShloMosaic.Pointwise

/-- The new moments and the weight's change, from the weight `w`, its gradient `g` and the moments `m` and `v`. -/
def mE (g m : EReal) : EReal := Ideal.ofBits .f32 0x3F666666#32 * m + Ideal.ofBits .f32 0x3DCCCCCD#32 * g
def vE (g v : EReal) : EReal := Ideal.ofBits .f32 0x3F7FBE77#32 * v + Ideal.ofBits .f32 0x3A83126F#32 * (g * g)
def dE (g w m v : EReal) : EReal := Ideal.ofBits .f32 0xBA83126F#32 * (Ideal.div (Ideal.div (mE g m) (Ideal.ofBits .f32 0x3F26BD02#32))
  (Ideal.sqrt (Ideal.div (vE g v) (Ideal.ofBits .f32 0x3C231ACC#32)) + Ideal.ofBits .f32 0x322BCC77#32) + Ideal.ofBits .f32 0x3C23D70A#32 * w)

section arrays
variable {s : Shape} (g w m v : FVec Ideal s .f32) (h : (⟨0, ![]⟩ : Shape).BroadcastsInDim s (![] : Fin 0 → Fin s.rank))

/-- The same of arrays. -/
def newD : FVec Ideal s .f32 := fun i => dE (g i) (w i) (m i) (v i)
def newM : FVec Ideal s .f32 := fun i => mE (g i) (m i)
def newV : FVec Ideal s .f32 := fun i => vE (g i) (v i)

/-- A constant array, and the reference's three arrays. -/
abbrev con (b : BitVec 32) : FVec Ideal s .f32 := broadcastInDim s ![] h (constant ⟨0, ![]⟩ .f32 b)
def mR : FVec Ideal s .f32 := addf (mulf (con h 0x3F666666#32) m) (mulf (con h 0x3DCCCCCD#32) g)
def vR : FVec Ideal s .f32 := addf (mulf (con h 0x3F7FBE77#32) v) (mulf (con h 0x3A83126F#32) (mulf g g))
def dR : FVec Ideal s .f32 := mulf (con h 0xBA83126F#32) (addf (Host.divf (Host.divf (mR g m h) (con h 0x3F26BD02#32))
  (addf (Host.sqrt (Host.divf (vR g v h) (con h 0x3C231ACC#32))) (con h 0x322BCC77#32))) (mulf (con h 0x3C23D70A#32) w))
theorem m_ref : mR g m h = newM g m := rfl
theorem v_ref : vR g v h = newV g v := rfl
theorem d_ref : dR g w m v h = newD g w m v := rfl
end arrays

/-- The summed gradient. -/
def sumG {n R C : ℕ} (l : FVec Ideal ⟨3, ![n, R, C]⟩ .bf16) : FVec Ideal ⟨2, ![R, C]⟩ .f32 :=
  fun i => ∑ k : Fin n, l (ix3 k (i 0 : Fin R) (i 1 : Fin C))

/-- A device's part of a block. -/
theorem part {n R C : ℕ} (l : FVec Ideal ⟨3, ![n, R, C]⟩ .bf16) (T : Rect ⟨3, ![n, R, C]⟩) (k : Fin n) (r : Fin R) (s : Fin C) (x : T.shape.Idx)
    (h0 : (T.idx x 0 : ℕ) = k) (h1 : (T.idx x 1 : ℕ) = r) (h2 : (T.idx x 2 : ℕ) = s) : l (T.idx x) = l (ix3 k r s) :=
  congrArg l (funext fun a => Fin.ext (match a with | ⟨0, _⟩ => h0 | ⟨1, _⟩ => h1 | ⟨2, _⟩ => h2))

end Cert.Hand.Adam
end
-- ==== Proof.AdamS.lean ====
/- The AdamW step of the six small weights, packed in eight rows. -/
module

public import proofs.«01_k».proof.Proof.Gen.KernelAdamSIdeal.Frame
public import proofs.«01_k».proof.Proof.Gen.KernelAdamSIdeal.Value
public import proofs.«01_k».proof.Proof.Gen.ReferenceAdamSIdeal.Run
public import proofs.«01_k».proof.Proof.Sums
public import proofs.«01_k».proof.Proof.AdamMath
public import proofs.«01_k».proof.Defs
public import proofs.«01_k».proof.Proof.Gen.KernelAdamS.Frame

@[expose] public section
set_option maxRecDepth 16384
noncomputable section
namespace Cert.Hand.AdamS
open Idealize.ShloMosaic Idealize.ShloMosaic.TcCoe Idealize.SL.Sem Idealize.ShloMosaic.Pointwise Cert.Hand.Tiles Cert.Hand.Adam

section kernel
open Cert.KernelAdamSIdeal Cert.KernelAdamSIdeal.Gen

section tile
variable (w g m v : FVec Ideal S8x4096 .f32) (r : Fin 8) (s : Fin 4096)

theorem pay1_at : k0_pay1 (F := Ideal) g m (ix2 r s) = mE (g (ix2 r s)) (m (ix2 r s)) := by
  pointwise [k0_pay1, mE]
theorem pay2_at : k0_pay2 (F := Ideal) g v (ix2 r s) = vE (g (ix2 r s)) (v (ix2 r s)) := by
  pointwise [k0_pay2, vE]
theorem pay3_at : k0_pay3 (F := Ideal) w g m v (ix2 r s) = dE (g (ix2 r s)) (w (ix2 r s)) (m (ix2 r s)) (v (ix2 r s)) := by
  have h1 := pay1_at g m r s
  have h2 := pay2_at g v r s
  pointwise [k0_pay3, dE]
  rw [h1, h2]

/-- The blocks stored. -/
theorem out4_at : out0_4 (F := Ideal) w g m v (ix2 r s) = dE (g (ix2 r s)) (w (ix2 r s)) (m (ix2 r s)) (v (ix2 r s)) := by
  unfold out0_4
  rw [View.canon_unit_zero zero2]
  repeat rw [View.ld_unit_zero zero2]
  rw [pay3_at]
theorem out5_at : out0_5 (F := Ideal) w g m v (ix2 r s) = mE (g (ix2 r s)) (m (ix2 r s)) := by
  unfold out0_5
  rw [View.canon_unit_zero zero2]
  repeat rw [View.ld_unit_zero zero2]
  rw [pay1_at]
theorem out6_at : out0_6 (F := Ideal) w g m v (ix2 r s) = vE (g (ix2 r s)) (v (ix2 r s)) := by
  unfold out0_6
  rw [View.canon_unit_zero zero2]
  repeat rw [View.ld_unit_zero zero2]
  rw [pay2_at]
end tile

theorem idx : ∀ t : Fin cfg0.N,
    (win0_0.index t 0 = 0 ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) ∧ (win0_4.index t 0 = 0 ∧ win0_4.index t 1 = 0) ∧ (win0_5.index t 0 = 0 ∧ win0_5.index t 1 = 0) ∧ (win0_6.index t 0 = 0 ∧ win0_6.index t 1 = 0) := by decide +kernel

theorem emb0 (t : Fin cfg0.N) (r : Fin 8) (s : Fin 4096) :
    (((cfg0.win 0).blk t).view.emb (ix2 r s) : S8x4096.Idx) = ix2 r s := by
  have e := (idx t).1
  refine ext2 _ _ _ ?_ ?_ <;> (blk_simp [e]; try simp; try omega)
theorem emb1 (t : Fin cfg0.N) (r : Fin 8) (s : Fin 4096) :
    (((cfg0.win 1).blk t).view.emb (ix2 r s) : S8x4096.Idx) = ix2 r s := by
  have e := (idx t).2.1
  refine ext2 _ _ _ ?_ ?_ <;> (blk_simp [e]; try simp; try omega)
theorem emb2 (t : Fin cfg0.N) (r : Fin 8) (s : Fin 4096) :
    (((cfg0.win 2).blk t).view.emb (ix2 r s) : S8x4096.Idx) = ix2 r s := by
  have e := (idx t).2.2.1
  refine ext2 _ _ _ ?_ ?_ <;> (blk_simp [e]; try simp; try omega)
theorem emb3 (t : Fin cfg0.N) (r : Fin 8) (s : Fin 4096) :
    (((cfg0.win 3).blk t).view.emb (ix2 r s) : S8x4096.Idx) = ix2 r s := by
  have e := (idx t).2.2.2.1
  refine ext2 _ _ _ ?_ ?_ <;> (blk_simp [e]; try simp; try omega)
theorem emb4 (t : Fin cfg0.N) (r : Fin 8) (s : Fin 4096) :
    ((win0_4.blk t).view.emb (ix2 r s) : S8x4096.Idx) = ix2 r s := by
  have e := (idx t).2.2.2.2.1
  refine ext2 _ _ _ ?_ ?_ <;> (blk_simp [e]; try simp; try omega)
theorem emb5 (t : Fin cfg0.N) (r : Fin 8) (s : Fin 4096) :
    ((win0_5.blk t).view.emb (ix2 r s) : S8x4096.Idx) = ix2 r s := by
  have e := (idx t).2.2.2.2.2.1
  refine ext2 _ _ _ ?_ ?_ <;> (blk_simp [e]; try simp; try omega)
theorem emb6 (t : Fin cfg0.N) (r : Fin 8) (s : Fin 4096) :
    ((win0_6.blk t).view.emb (ix2 r s) : S8x4096.Idx) = ix2 r s := by
  have e := (idx t).2.2.2.2.2.2
  refine ext2 _ _ _ ?_ ?_ <;> (blk_simp [e]; try simp; try omega)

variable (m : (ℓ : Loc nD τ sig) → Buf (Elt Ideal) ℓ) (c : Dev nD)

abbrev W : FVec Ideal S8x4096 .f32 := m ((c.tc : Thread nD τ).loc main_arg0)
abbrev G : FVec Ideal S8x4096 .f32 := m ((c.tc : Thread nD τ).loc main_arg1)
abbrev M : FVec Ideal S8x4096 .f32 := m ((c.tc : Thread nD τ).loc main_arg2)
abbrev VV : FVec Ideal S8x4096 .f32 := m ((c.tc : Thread nD τ).loc main_arg3)

theorem blk0_at (t : Fin cfg0.N) (r : Fin 8) (s : Fin 4096) : (iblk m c 0 t : FVec Ideal S8x4096 .f32) (ix2 r s) = W m c (ix2 r s) :=
  (congrArg (V m c main_arg0) (emb0 t r s)).trans (congrFun (V_main_arg0 m c) _)
theorem blk1_at (t : Fin cfg0.N) (r : Fin 8) (s : Fin 4096) : (iblk m c 1 t : FVec Ideal S8x4096 .f32) (ix2 r s) = G m c (ix2 r s) :=
  (congrArg (V m c main_arg1) (emb1 t r s)).trans (congrFun (V_main_arg1 m c) _)
theorem blk2_at (t : Fin cfg0.N) (r : Fin 8) (s : Fin 4096) : (iblk m c 2 t : FVec Ideal S8x4096 .f32) (ix2 r s) = M m c (ix2 r s) :=
  (congrArg (V m c main_arg2) (emb2 t r s)).trans (congrFun (V_main_arg2 m c) _)
theorem blk3_at (t : Fin cfg0.N) (r : Fin 8) (s : Fin 4096) : (iblk m c 3 t : FVec Ideal S8x4096 .f32) (ix2 r s) = VV m c (ix2 r s) :=
  (congrArg (V m c main_arg3) (emb3 t r s)).trans (congrFun (V_main_arg3 m c) _)

/-- The three result arrays. -/
theorem arr4 : (dats m 0 c).arrAt 4 cfg0.N = newD (G m c) (W m c) (M m c) (VV m c) := by
  refine (dats m 0 c).arrAt_eq_of_covers 4 _ (by decide +kernel) fun t hf y => ?_
  blk_simp
  rw [after0_4]
  obtain ⟨r, s, rfl⟩ := pair 8 4096 y
  rw [emb4]
  refine (out4_at _ _ _ _ r s).trans ?_
  simp only [blk0_at, blk1_at, blk2_at, blk3_at]
  rfl
theorem arr5 : (dats m 0 c).arrAt 5 cfg0.N = newM (G m c) (M m c) := by
  refine (dats m 0 c).arrAt_eq_of_covers 5 _ (by decide +kernel) fun t hf y => ?_
  blk_simp
  rw [after0_5]
  obtain ⟨r, s, rfl⟩ := pair 8 4096 y
  rw [emb5]
  refine (out5_at _ _ _ _ r s).trans ?_
  simp only [blk0_at, blk1_at, blk2_at, blk3_at]
  rfl
theorem arr6 : (dats m 0 c).arrAt 6 cfg0.N = newV (G m c) (VV m c) := by
  refine (dats m 0 c).arrAt_eq_of_covers 6 _ (by decide +kernel) fun t hf y => ?_
  blk_simp
  rw [after0_6]
  obtain ⟨r, s, rfl⟩ := pair 8 4096 y
  rw [emb6]
  refine (out6_at _ _ _ _ r s).trans ?_
  simp only [blk0_at, blk1_at, blk2_at, blk3_at]
  rfl

end kernel

section reference
open Cert.ReferenceAdamSIdeal Cert.ReferenceAdamSIdeal.Gen

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = newD (m ((c.tc : Thread nD τ).loc main_arg1)) (m ((c.tc : Thread nD τ).loc main_arg0)) (m ((c.tc : Thread nD τ).loc main_arg2)) (m ((c.tc : Thread nD τ).loc main_arg3))
      ∧ r.2.mem ((c.tc : Thread nD τ).loc main_v4) = newM (m ((c.tc : Thread nD τ).loc main_arg1)) (m ((c.tc : Thread nD τ).loc main_arg2))
      ∧ r.2.mem ((c.tc : Thread nD τ).loc main_v10) = newV (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceAdamSIdeal.Value.run (F := Ideal) m ρ)
  exact ⟨(h c).1.trans (d_ref _ _ _ _ bcast_S_S8x4096), (h c).2.1.trans (m_ref _ _ bcast_S_S8x4096), (h c).2.2.1.trans (v_ref _ _ bcast_S_S8x4096), (h c).2.2.2⟩

end reference

theorem frame_p : Cert.quiescent_KernelAdamS := fun m ρ _ => Cert.KernelAdamS.Gen.frame m ρ
theorem frame_pi : Cert.quiescent_KernelAdamSIdeal := fun m ρ _ => Cert.KernelAdamSIdeal.Gen.frame m ρ

/-- The reference runs, keeps its arguments and declares no semaphore. -/
theorem frame_ri : Cert.quiescent_ReferenceAdamSIdeal := fun m ρ _ =>
  (θ_run Cert.ReferenceAdamSIdeal.defs _ _).mono (fun r h => ⟨fun c => (h c).2.2.2, sem_eq_zero_of_no_sems (by decide) r.2⟩)
    (ref_run m ρ)

theorem preserves : Cert.preserves_KernelAdamS_KernelAdamSIdeal := trivial

theorem algebraic : Cert.algebraic_KernelAdamSIdeal_ReferenceAdamSIdeal := by
  intro m ρ m' ρ' _ hagree
  refine ⟨_, _, _, (θ_run Cert.KernelAdamSIdeal.defs _ _).mono
    (fun r h c => ⟨(h c).1.trans (arr4 m c), (h c).2.1.trans (arr5 m c), (h c).2.2.1.trans (arr6 m c), (h c).2.2.2⟩)
    (Cert.KernelAdamSIdeal.Value.run_blocks (F := Ideal) m ρ), ?_⟩
  refine (θ_run Cert.ReferenceAdamSIdeal.defs _ _).mono (fun r h c => ?_) (ref_run m' ρ')
  obtain ⟨h1, h2, h3, h4⟩ := h c
  rw [(hagree c).1, (hagree c).2.1, (hagree c).2.2.1, (hagree c).2.2.2] at h1
  rw [(hagree c).2.1, (hagree c).2.2.1] at h2
  rw [(hagree c).2.1, (hagree c).2.2.2] at h3
  exact ⟨h1, h2, h3, h4⟩

end Cert.Hand.AdamS
end
-- ==== Proof.AdamF.lean ====
/- The sum of the devices' parts of a gradient of 1376 x 4096 and its AdamW step: the three weights of the SwiGLU network. -/
module

public import proofs.«01_k».proof.Proof.Gen.KernelAdamFIdeal.Frame
public import proofs.«01_k».proof.Proof.Gen.KernelAdamFIdeal.Value
public import proofs.«01_k».proof.Proof.Gen.ReferenceAdamFIdeal.Run
public import proofs.«01_k».proof.Proof.Sums
public import proofs.«01_k».proof.Proof.AdamMath
public import proofs.«01_k».proof.Defs
public import proofs.«01_k».proof.Proof.Gen.KernelAdamF.Frame

@[expose] public section
set_option maxRecDepth 16384
noncomputable section
namespace Cert.Hand.AdamF
open Idealize.ShloMosaic Idealize.ShloMosaic.TcCoe Idealize.SL.Sem Idealize.ShloMosaic.Pointwise Cert.Hand.Tiles Cert.Hand.Adam

section kernel
open Cert.KernelAdamFIdeal Cert.KernelAdamFIdeal.Gen

section tile
variable (l : FVec Ideal S8x1376x128 .bf16) (g w m v : FVec Ideal S1376x128 .f32) (r : Fin 1376) (s : Fin 128)

theorem pay1_at : k0_pay1 (F := Ideal) g m (ix2 r s) = mE (g (ix2 r s)) (m (ix2 r s)) := by
  pointwise [k0_pay1, mE]
theorem pay2_at : k0_pay2 (F := Ideal) g v (ix2 r s) = vE (g (ix2 r s)) (v (ix2 r s)) := by
  pointwise [k0_pay2, vE]
theorem pay3_at : k0_pay3 (F := Ideal) g w m v (ix2 r s) = dE (g (ix2 r s)) (w (ix2 r s)) (m (ix2 r s)) (v (ix2 r s)) := by
  have h1 := pay1_at g m r s
  have h2 := pay2_at g v r s
  pointwise [k0_pay3, dE]
  rw [h1, h2]
theorem pay4_at (p0 p1 p2 p3 p4 p5 p6 p7 : FVec Ideal S1x1376x128 .bf16) : k0_pay4 (F := Ideal) p0 p1 p2 p3 p4 p5 p6 p7 (ix2 r s)
    = p0 (ix3 0 r s) + p1 (ix3 0 r s) + p2 (ix3 0 r s) + p3 (ix3 0 r s) + p4 (ix3 0 r s) + p5 (ix3 0 r s) + p6 (ix3 0 r s) + p7 (ix3 0 r s) := by
  pointwise [k0_pay4]

/-- The blocks stored. -/
theorem sum_at8 : k0_pay4 (F := Ideal) (View.ld l r0_0) (View.ld l r0_1) (View.ld l r0_2) (View.ld l r0_3) (View.ld l r0_4) (View.ld l r0_5)
    (View.ld l r0_6) (View.ld l r0_7) (ix2 r s) = ∑ k, l (ix3 k r s) := by
  refine (pay4_at r s _ _ _ _ _ _ _ _).trans ?_
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact part l r0_0 0 r s (ix3 0 r s) (by simp) (by simp) (by simp)
  · exact part l r0_1 1 r s (ix3 0 r s) (by simp) (by simp) (by simp)
  · exact part l r0_2 2 r s (ix3 0 r s) (by simp) (by simp) (by simp)
  · exact part l r0_3 3 r s (ix3 0 r s) (by simp) (by simp) (by simp)
  · exact part l r0_4 4 r s (ix3 0 r s) (by simp) (by simp) (by simp)
  · exact part l r0_5 5 r s (ix3 0 r s) (by simp) (by simp) (by simp)
  · exact part l r0_6 6 r s (ix3 0 r s) (by simp) (by simp) (by simp)
  · exact part l r0_7 7 r s (ix3 0 r s) (by simp) (by simp) (by simp)
theorem out4_at : out0_4 (F := Ideal) l w m v (ix2 r s) = ∑ k, l (ix3 k r s) := by
  unfold out0_4
  rw [View.canon_unit_zero zero2]
  exact sum_at8 l r s
theorem out5_at : out0_5 (F := Ideal) l w m v (ix2 r s) = dE (∑ k, l (ix3 k r s)) (w (ix2 r s)) (m (ix2 r s)) (v (ix2 r s)) := by
  unfold out0_5 k0_pay5
  rw [View.canon_unit_zero zero2, View.ld_unit_zero zero2, View.ld_unit_zero zero2, View.ld_unit_zero zero2, pay3_at, sum_at8]
theorem out6_at : out0_6 (F := Ideal) l w m v (ix2 r s) = mE (∑ k, l (ix3 k r s)) (m (ix2 r s)) := by
  unfold out0_6 k0_pay5
  rw [View.canon_unit_zero zero2, View.ld_unit_zero zero2, pay1_at, sum_at8]
theorem out7_at : out0_7 (F := Ideal) l w m v (ix2 r s) = vE (∑ k, l (ix3 k r s)) (v (ix2 r s)) := by
  unfold out0_7 k0_pay5
  rw [View.canon_unit_zero zero2, View.ld_unit_zero zero2, pay2_at, sum_at8]
end tile

theorem idx : ∀ t : Fin cfg0.N,
    (win0_0.index t 0 = 0 ∧ win0_0.index t 1 = 0 ∧ win0_0.index t 2 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val) := by decide +kernel

/-- The block's column of a grid point. -/
def jP (t : Fin cfg0.N) : Fin 32 := ⟨t.val, lt_of_lt_of_eq t.isLt N_0⟩

theorem emb0 (t : Fin cfg0.N) (k : Fin 8) (r : Fin 1376) (s : Fin 128) :
    (((cfg0.win 0).blk t).view.emb (ix3 k r s) : S8x1376x4096.Idx) = ix3 k r (at_ rfl (jP t) s) := by
  have e := (idx t).1
  unfold at_ jP
  refine funext fun a => Fin.ext ?_
  match a with
  | ⟨0, _⟩ => blk_simp [e]; try simp; try omega
  | ⟨1, _⟩ => blk_simp [e]; try simp; try omega
  | ⟨2, _⟩ => blk_simp [e]; try simp; try omega
theorem emb (t : Fin cfg0.N) (r : Fin 1376) (s : Fin 128) :
    (((cfg0.win 1).blk t).view.emb (ix2 r s) : S1376x4096.Idx) = ix2 r (at_ rfl (jP t) s)
    ∧ (((cfg0.win 2).blk t).view.emb (ix2 r s) : S1376x4096.Idx) = ix2 r (at_ rfl (jP t) s)
    ∧ (((cfg0.win 3).blk t).view.emb (ix2 r s) : S1376x4096.Idx) = ix2 r (at_ rfl (jP t) s)
    ∧ ((win0_4.blk t).view.emb (ix2 r s) : S1376x4096.Idx) = ix2 r (at_ rfl (jP t) s)
    ∧ ((win0_5.blk t).view.emb (ix2 r s) : S1376x4096.Idx) = ix2 r (at_ rfl (jP t) s)
    ∧ ((win0_6.blk t).view.emb (ix2 r s) : S1376x4096.Idx) = ix2 r (at_ rfl (jP t) s)
    ∧ ((win0_7.blk t).view.emb (ix2 r s) : S1376x4096.Idx) = ix2 r (at_ rfl (jP t) s) := by
  obtain ⟨-, e1, e2, e3, e4, e5, e6, e7⟩ := idx t
  unfold at_ jP
  refine ⟨?_, ?_, ?_, ?_, ?_, ?_, ?_⟩ <;> refine ext2 _ _ _ ?_ ?_ <;>
    (blk_simp [e1, e2, e3, e4, e5, e6, e7]; try simp; try omega)

variable (m : (ℓ : Loc nD τ sig) → Buf (Elt Ideal) ℓ) (c : Dev nD)

abbrev L : FVec Ideal S8x1376x4096 .bf16 := m ((c.tc : Thread nD τ).loc main_arg0)
abbrev W : FVec Ideal S1376x4096 .f32 := m ((c.tc : Thread nD τ).loc main_arg1)
abbrev M : FVec Ideal S1376x4096 .f32 := m ((c.tc : Thread nD τ).loc main_arg2)
abbrev VV : FVec Ideal S1376x4096 .f32 := m ((c.tc : Thread nD τ).loc main_arg3)

theorem blk0_at (t : Fin cfg0.N) (k : Fin 8) (r : Fin 1376) (s : Fin 128) :
    (iblk m c 0 t : FVec Ideal S8x1376x128 .bf16) (ix3 k r s) = L m c (ix3 k r (at_ rfl (jP t) s)) :=
  (congrArg (V m c main_arg0) (emb0 t k r s)).trans (congrFun (V_main_arg0 m c) _)
theorem blk1_at (t : Fin cfg0.N) (r : Fin 1376) (s : Fin 128) :
    (iblk m c 1 t : FVec Ideal S1376x128 .f32) (ix2 r s) = W m c (ix2 r (at_ rfl (jP t) s)) :=
  (congrArg (V m c main_arg1) (emb t r s).1).trans (congrFun (V_main_arg1 m c) _)
theorem blk2_at (t : Fin cfg0.N) (r : Fin 1376) (s : Fin 128) :
    (iblk m c 2 t : FVec Ideal S1376x128 .f32) (ix2 r s) = M m c (ix2 r (at_ rfl (jP t) s)) :=
  (congrArg (V m c main_arg2) (emb t r s).2.1).trans (congrFun (V_main_arg2 m c) _)
theorem blk3_at (t : Fin cfg0.N) (r : Fin 1376) (s : Fin 128) :
    (iblk m c 3 t : FVec Ideal S1376x128 .f32) (ix2 r s) = VV m c (ix2 r (at_ rfl (jP t) s)) :=
  (congrArg (V m c main_arg3) (emb t r s).2.2.1).trans (congrFun (V_main_arg3 m c) _)

/-- The four result arrays. -/
theorem arr4 : (dats m 0 c).arrAt 4 cfg0.N = sumG (L m c) := by
  refine (dats m 0 c).arrAt_eq_of_covers 4 _ (by decide +kernel) fun t hf y => ?_
  blk_simp
  rw [after0_4]
  obtain ⟨r, s, rfl⟩ := pair 1376 128 y
  rw [(emb t r s).2.2.2.1]
  refine (out4_at _ _ _ _ r s).trans ?_
  simp only [blk0_at, blk1_at, blk2_at, blk3_at]
  rfl
theorem arr5 : (dats m 0 c).arrAt 5 cfg0.N = newD (sumG (L m c)) (W m c) (M m c) (VV m c) := by
  refine (dats m 0 c).arrAt_eq_of_covers 5 _ (by decide +kernel) fun t hf y => ?_
  blk_simp
  rw [after0_5]
  obtain ⟨r, s, rfl⟩ := pair 1376 128 y
  rw [(emb t r s).2.2.2.2.1]
  refine (out5_at _ _ _ _ r s).trans ?_
  simp only [blk0_at, blk1_at, blk2_at, blk3_at]
  rfl
theorem arr6 : (dats m 0 c).arrAt 6 cfg0.N = newM (sumG (L m c)) (M m c) := by
  refine (dats m 0 c).arrAt_eq_of_covers 6 _ (by decide +kernel) fun t hf y => ?_
  blk_simp
  rw [after0_6]
  obtain ⟨r, s, rfl⟩ := pair 1376 128 y
  rw [(emb t r s).2.2.2.2.2.1]
  refine (out6_at _ _ _ _ r s).trans ?_
  simp only [blk0_at, blk1_at, blk2_at, blk3_at]
  rfl
theorem arr7 : (dats m 0 c).arrAt 7 cfg0.N = newV (sumG (L m c)) (VV m c) := by
  refine (dats m 0 c).arrAt_eq_of_covers 7 _ (by decide +kernel) fun t hf y => ?_
  blk_simp
  rw [after0_7]
  obtain ⟨r, s, rfl⟩ := pair 1376 128 y
  rw [(emb t r s).2.2.2.2.2.2]
  refine (out7_at _ _ _ _ r s).trans ?_
  simp only [blk0_at, blk1_at, blk2_at, blk3_at]
  rfl

end kernel

section reference
open Cert.ReferenceAdamFIdeal Cert.ReferenceAdamFIdeal.Gen

/-- The reference's sum. -/
theorem sum_ref (l : FVec Ideal S8x1376x4096 .bf16) : Host.reduceAdd (extf .f32 l bitsLt_bf16_f32) (constant S_ .f32 0x00000000#32)
    reducesTo_S8x1376x4096_S1376x4096_d0 h_S_ = sumG l := by
  funext i
  obtain ⟨r, s, rfl⟩ := pair 1376 4096 i
  pointwise []
  rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = sumG (m ((c.tc : Thread nD τ).loc main_arg0))
      ∧ r.2.mem ((c.tc : Thread nD τ).loc main_v25) = newD (sumG (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v6) = newM (sumG (m ((c.tc : Thread nD τ).loc main_arg0))) (m ((c.tc : Thread nD τ).loc main_arg2))
      ∧ r.2.mem ((c.tc : Thread nD τ).loc main_v12) = newV (sumG (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceAdamFIdeal.Value.run (F := Ideal) m ρ)
  refine ⟨(h c).1.trans (sum_ref _), (h c).2.1.trans (Eq.trans ?_ (d_ref _ _ _ _ bcast_S_S1376x4096)), (h c).2.2.1.trans (Eq.trans ?_ (m_ref _ _ bcast_S_S1376x4096)),
    (h c).2.2.2.1.trans (Eq.trans ?_ (v_ref _ _ bcast_S_S1376x4096)), (h c).2.2.2.2⟩
  · rw [← sum_ref]; rfl
  · rw [← sum_ref]; rfl
  · rw [← sum_ref]; rfl

end reference

theorem frame_p : Cert.quiescent_KernelAdamF := fun m ρ _ => Cert.KernelAdamF.Gen.frame m ρ
theorem frame_pi : Cert.quiescent_KernelAdamFIdeal := fun m ρ _ => Cert.KernelAdamFIdeal.Gen.frame m ρ

/-- The reference runs, keeps its arguments and declares no semaphore. -/
theorem frame_ri : Cert.quiescent_ReferenceAdamFIdeal := fun m ρ _ =>
  (θ_run Cert.ReferenceAdamFIdeal.defs _ _).mono (fun r h => ⟨fun c => (h c).2.2.2.2, sem_eq_zero_of_no_sems (by decide) r.2⟩)
    (ref_run m ρ)

theorem preserves : Cert.preserves_KernelAdamF_KernelAdamFIdeal := trivial

theorem algebraic : Cert.algebraic_KernelAdamFIdeal_ReferenceAdamFIdeal := by
  intro m ρ m' ρ' _ hagree
  refine ⟨_, _, _, _, (θ_run Cert.KernelAdamFIdeal.defs _ _).mono
    (fun r h c => ⟨(h c).1.trans (arr4 m c), (h c).2.1.trans (arr5 m c), (h c).2.2.1.trans (arr6 m c), (h c).2.2.2.1.trans (arr7 m c), (h c).2.2.2.2⟩)
    (Cert.KernelAdamFIdeal.Value.run_blocks (F := Ideal) m ρ), ?_⟩
  refine (θ_run Cert.ReferenceAdamFIdeal.defs _ _).mono (fun r h c => ?_) (ref_run m' ρ')
  obtain ⟨h1, h2, h3, h4, h5⟩ := h c
  rw [(hagree c).1] at h1
  rw [(hagree c).1, (hagree c).2.1, (hagree c).2.2.1, (hagree c).2.2.2] at h2
  rw [(hagree c).1, (hagree c).2.2.1] at h3
  rw [(hagree c).1, (hagree c).2.2.2] at h4
  exact ⟨h1, h2, h3, h4, h5⟩

end Cert.Hand.AdamF
end
-- ==== Proof.AdamI.lean ====
/- The sum of the devices' parts of a gradient of 2114 x 4096 and its AdamW step: the combined projection's weight. -/
module

public import proofs.«01_k».proof.Proof.Gen.KernelAdamIIdeal.Frame
public import proofs.«01_k».proof.Proof.Gen.KernelAdamIIdeal.Value
public import proofs.«01_k».proof.Proof.Gen.ReferenceAdamIIdeal.Run
public import proofs.«01_k».proof.Proof.Sums
public import proofs.«01_k».proof.Proof.AdamMath
public import proofs.«01_k».proof.Defs
public import proofs.«01_k».proof.Proof.Gen.KernelAdamI.Frame

@[expose] public section
set_option maxRecDepth 16384
noncomputable section
namespace Cert.Hand.AdamI
open Idealize.ShloMosaic Idealize.ShloMosaic.TcCoe Idealize.SL.Sem Idealize.ShloMosaic.Pointwise Cert.Hand.Tiles Cert.Hand.Adam

section kernel
open Cert.KernelAdamIIdeal Cert.KernelAdamIIdeal.Gen

section tile
variable (l : FVec Ideal S8x2114x128 .bf16) (g w m v : FVec Ideal S2114x128 .f32) (r : Fin 2114) (s : Fin 128)

theorem pay1_at : k0_pay1 (F := Ideal) g m (ix2 r s) = mE (g (ix2 r s)) (m (ix2 r s)) := by
  pointwise [k0_pay1, mE]
theorem pay2_at : k0_pay2 (F := Ideal) g v (ix2 r s) = vE (g (ix2 r s)) (v (ix2 r s)) := by
  pointwise [k0_pay2, vE]
theorem pay3_at : k0_pay3 (F := Ideal) g w m v (ix2 r s) = dE (g (ix2 r s)) (w (ix2 r s)) (m (ix2 r s)) (v (ix2 r s)) := by
  have h1 := pay1_at g m r s
  have h2 := pay2_at g v r s
  pointwise [k0_pay3, dE]
  rw [h1, h2]
theorem pay4_at (p0 p1 p2 p3 p4 p5 p6 p7 : FVec Ideal S1x2114x128 .bf16) : k0_pay4 (F := Ideal) p0 p1 p2 p3 p4 p5 p6 p7 (ix2 r s)
    = p0 (ix3 0 r s) + p1 (ix3 0 r s) + p2 (ix3 0 r s) + p3 (ix3 0 r s) + p4 (ix3 0 r s) + p5 (ix3 0 r s) + p6 (ix3 0 r s) + p7 (ix3 0 r s) := by
  pointwise [k0_pay4]

/-- The blocks stored. -/
theorem sum_at8 : k0_pay4 (F := Ideal) (View.ld l r0_0) (View.ld l r0_1) (View.ld l r0_2) (View.ld l r0_3) (View.ld l r0_4) (View.ld l r0_5)
    (View.ld l r0_6) (View.ld l r0_7) (ix2 r s) = ∑ k, l (ix3 k r s) := by
  refine (pay4_at r s _ _ _ _ _ _ _ _).trans ?_
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact part l r0_0 0 r s (ix3 0 r s) (by simp) (by simp) (by simp)
  · exact part l r0_1 1 r s (ix3 0 r s) (by simp) (by simp) (by simp)
  · exact part l r0_2 2 r s (ix3 0 r s) (by simp) (by simp) (by simp)
  · exact part l r0_3 3 r s (ix3 0 r s) (by simp) (by simp) (by simp)
  · exact part l r0_4 4 r s (ix3 0 r s) (by simp) (by simp) (by simp)
  · exact part l r0_5 5 r s (ix3 0 r s) (by simp) (by simp) (by simp)
  · exact part l r0_6 6 r s (ix3 0 r s) (by simp) (by simp) (by simp)
  · exact part l r0_7 7 r s (ix3 0 r s) (by simp) (by simp) (by simp)
theorem out4_at : out0_4 (F := Ideal) l w m v (ix2 r s) = ∑ k, l (ix3 k r s) := by
  unfold out0_4
  rw [View.canon_unit_zero zero2]
  exact sum_at8 l r s
theorem out5_at : out0_5 (F := Ideal) l w m v (ix2 r s) = dE (∑ k, l (ix3 k r s)) (w (ix2 r s)) (m (ix2 r s)) (v (ix2 r s)) := by
  unfold out0_5 k0_pay5
  rw [View.canon_unit_zero zero2, View.ld_unit_zero zero2, View.ld_unit_zero zero2, View.ld_unit_zero zero2, pay3_at, sum_at8]
theorem out6_at : out0_6 (F := Ideal) l w m v (ix2 r s) = mE (∑ k, l (ix3 k r s)) (m (ix2 r s)) := by
  unfold out0_6 k0_pay5
  rw [View.canon_unit_zero zero2, View.ld_unit_zero zero2, pay1_at, sum_at8]
theorem out7_at : out0_7 (F := Ideal) l w m v (ix2 r s) = vE (∑ k, l (ix3 k r s)) (v (ix2 r s)) := by
  unfold out0_7 k0_pay5
  rw [View.canon_unit_zero zero2, View.ld_unit_zero zero2, pay2_at, sum_at8]
end tile

theorem idx : ∀ t : Fin cfg0.N,
    (win0_0.index t 0 = 0 ∧ win0_0.index t 1 = 0 ∧ win0_0.index t 2 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val) := by decide +kernel

/-- The block's column of a grid point. -/
def jP (t : Fin cfg0.N) : Fin 32 := ⟨t.val, lt_of_lt_of_eq t.isLt N_0⟩

theorem emb0 (t : Fin cfg0.N) (k : Fin 8) (r : Fin 2114) (s : Fin 128) :
    (((cfg0.win 0).blk t).view.emb (ix3 k r s) : S8x2114x4096.Idx) = ix3 k r (at_ rfl (jP t) s) := by
  have e := (idx t).1
  unfold at_ jP
  refine funext fun a => Fin.ext ?_
  match a with
  | ⟨0, _⟩ => blk_simp [e]; try simp; try omega
  | ⟨1, _⟩ => blk_simp [e]; try simp; try omega
  | ⟨2, _⟩ => blk_simp [e]; try simp; try omega
theorem emb (t : Fin cfg0.N) (r : Fin 2114) (s : Fin 128) :
    (((cfg0.win 1).blk t).view.emb (ix2 r s) : S2114x4096.Idx) = ix2 r (at_ rfl (jP t) s)
    ∧ (((cfg0.win 2).blk t).view.emb (ix2 r s) : S2114x4096.Idx) = ix2 r (at_ rfl (jP t) s)
    ∧ (((cfg0.win 3).blk t).view.emb (ix2 r s) : S2114x4096.Idx) = ix2 r (at_ rfl (jP t) s)
    ∧ ((win0_4.blk t).view.emb (ix2 r s) : S2114x4096.Idx) = ix2 r (at_ rfl (jP t) s)
    ∧ ((win0_5.blk t).view.emb (ix2 r s) : S2114x4096.Idx) = ix2 r (at_ rfl (jP t) s)
    ∧ ((win0_6.blk t).view.emb (ix2 r s) : S2114x4096.Idx) = ix2 r (at_ rfl (jP t) s)
    ∧ ((win0_7.blk t).view.emb (ix2 r s) : S2114x4096.Idx) = ix2 r (at_ rfl (jP t) s) := by
  obtain ⟨-, e1, e2, e3, e4, e5, e6, e7⟩ := idx t
  unfold at_ jP
  refine ⟨?_, ?_, ?_, ?_, ?_, ?_, ?_⟩ <;> refine ext2 _ _ _ ?_ ?_ <;>
    (blk_simp [e1, e2, e3, e4, e5, e6, e7]; try simp; try omega)

variable (m : (ℓ : Loc nD τ sig) → Buf (Elt Ideal) ℓ) (c : Dev nD)

abbrev L : FVec Ideal S8x2114x4096 .bf16 := m ((c.tc : Thread nD τ).loc main_arg0)
abbrev W : FVec Ideal S2114x4096 .f32 := m ((c.tc : Thread nD τ).loc main_arg1)
abbrev M : FVec Ideal S2114x4096 .f32 := m ((c.tc : Thread nD τ).loc main_arg2)
abbrev VV : FVec Ideal S2114x4096 .f32 := m ((c.tc : Thread nD τ).loc main_arg3)

theorem blk0_at (t : Fin cfg0.N) (k : Fin 8) (r : Fin 2114) (s : Fin 128) :
    (iblk m c 0 t : FVec Ideal S8x2114x128 .bf16) (ix3 k r s) = L m c (ix3 k r (at_ rfl (jP t) s)) :=
  (congrArg (V m c main_arg0) (emb0 t k r s)).trans (congrFun (V_main_arg0 m c) _)
theorem blk1_at (t : Fin cfg0.N) (r : Fin 2114) (s : Fin 128) :
    (iblk m c 1 t : FVec Ideal S2114x128 .f32) (ix2 r s) = W m c (ix2 r (at_ rfl (jP t) s)) :=
  (congrArg (V m c main_arg1) (emb t r s).1).trans (congrFun (V_main_arg1 m c) _)
theorem blk2_at (t : Fin cfg0.N) (r : Fin 2114) (s : Fin 128) :
    (iblk m c 2 t : FVec Ideal S2114x128 .f32) (ix2 r s) = M m c (ix2 r (at_ rfl (jP t) s)) :=
  (congrArg (V m c main_arg2) (emb t r s).2.1).trans (congrFun (V_main_arg2 m c) _)
theorem blk3_at (t : Fin cfg0.N) (r : Fin 2114) (s : Fin 128) :
    (iblk m c 3 t : FVec Ideal S2114x128 .f32) (ix2 r s) = VV m c (ix2 r (at_ rfl (jP t) s)) :=
  (congrArg (V m c main_arg3) (emb t r s).2.2.1).trans (congrFun (V_main_arg3 m c) _)

/-- The four result arrays. -/
theorem arr4 : (dats m 0 c).arrAt 4 cfg0.N = sumG (L m c) := by
  refine (dats m 0 c).arrAt_eq_of_covers 4 _ (by decide +kernel) fun t hf y => ?_
  blk_simp
  rw [after0_4]
  obtain ⟨r, s, rfl⟩ := pair 2114 128 y
  rw [(emb t r s).2.2.2.1]
  refine (out4_at _ _ _ _ r s).trans ?_
  simp only [blk0_at, blk1_at, blk2_at, blk3_at]
  rfl
theorem arr5 : (dats m 0 c).arrAt 5 cfg0.N = newD (sumG (L m c)) (W m c) (M m c) (VV m c) := by
  refine (dats m 0 c).arrAt_eq_of_covers 5 _ (by decide +kernel) fun t hf y => ?_
  blk_simp
  rw [after0_5]
  obtain ⟨r, s, rfl⟩ := pair 2114 128 y
  rw [(emb t r s).2.2.2.2.1]
  refine (out5_at _ _ _ _ r s).trans ?_
  simp only [blk0_at, blk1_at, blk2_at, blk3_at]
  rfl
theorem arr6 : (dats m 0 c).arrAt 6 cfg0.N = newM (sumG (L m c)) (M m c) := by
  refine (dats m 0 c).arrAt_eq_of_covers 6 _ (by decide +kernel) fun t hf y => ?_
  blk_simp
  rw [after0_6]
  obtain ⟨r, s, rfl⟩ := pair 2114 128 y
  rw [(emb t r s).2.2.2.2.2.1]
  refine (out6_at _ _ _ _ r s).trans ?_
  simp only [blk0_at, blk1_at, blk2_at, blk3_at]
  rfl
theorem arr7 : (dats m 0 c).arrAt 7 cfg0.N = newV (sumG (L m c)) (VV m c) := by
  refine (dats m 0 c).arrAt_eq_of_covers 7 _ (by decide +kernel) fun t hf y => ?_
  blk_simp
  rw [after0_7]
  obtain ⟨r, s, rfl⟩ := pair 2114 128 y
  rw [(emb t r s).2.2.2.2.2.2]
  refine (out7_at _ _ _ _ r s).trans ?_
  simp only [blk0_at, blk1_at, blk2_at, blk3_at]
  rfl

end kernel

section reference
open Cert.ReferenceAdamIIdeal Cert.ReferenceAdamIIdeal.Gen

/-- The reference's sum. -/
theorem sum_ref (l : FVec Ideal S8x2114x4096 .bf16) : Host.reduceAdd (extf .f32 l bitsLt_bf16_f32) (constant S_ .f32 0x00000000#32)
    reducesTo_S8x2114x4096_S2114x4096_d0 h_S_ = sumG l := by
  funext i
  obtain ⟨r, s, rfl⟩ := pair 2114 4096 i
  pointwise []
  rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = sumG (m ((c.tc : Thread nD τ).loc main_arg0))
      ∧ r.2.mem ((c.tc : Thread nD τ).loc main_v25) = newD (sumG (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v6) = newM (sumG (m ((c.tc : Thread nD τ).loc main_arg0))) (m ((c.tc : Thread nD τ).loc main_arg2))
      ∧ r.2.mem ((c.tc : Thread nD τ).loc main_v12) = newV (sumG (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceAdamIIdeal.Value.run (F := Ideal) m ρ)
  refine ⟨(h c).1.trans (sum_ref _), (h c).2.1.trans (Eq.trans ?_ (d_ref _ _ _ _ bcast_S_S2114x4096)), (h c).2.2.1.trans (Eq.trans ?_ (m_ref _ _ bcast_S_S2114x4096)),
    (h c).2.2.2.1.trans (Eq.trans ?_ (v_ref _ _ bcast_S_S2114x4096)), (h c).2.2.2.2⟩
  · rw [← sum_ref]; rfl
  · rw [← sum_ref]; rfl
  · rw [← sum_ref]; rfl

end reference

theorem frame_p : Cert.quiescent_KernelAdamI := fun m ρ _ => Cert.KernelAdamI.Gen.frame m ρ
theorem frame_pi : Cert.quiescent_KernelAdamIIdeal := fun m ρ _ => Cert.KernelAdamIIdeal.Gen.frame m ρ

/-- The reference runs, keeps its arguments and declares no semaphore. -/
theorem frame_ri : Cert.quiescent_ReferenceAdamIIdeal := fun m ρ _ =>
  (θ_run Cert.ReferenceAdamIIdeal.defs _ _).mono (fun r h => ⟨fun c => (h c).2.2.2.2, sem_eq_zero_of_no_sems (by decide) r.2⟩)
    (ref_run m ρ)

theorem preserves : Cert.preserves_KernelAdamI_KernelAdamIIdeal := trivial

theorem algebraic : Cert.algebraic_KernelAdamIIdeal_ReferenceAdamIIdeal := by
  intro m ρ m' ρ' _ hagree
  refine ⟨_, _, _, _, (θ_run Cert.KernelAdamIIdeal.defs _ _).mono
    (fun r h c => ⟨(h c).1.trans (arr4 m c), (h c).2.1.trans (arr5 m c), (h c).2.2.1.trans (arr6 m c), (h c).2.2.2.1.trans (arr7 m c), (h c).2.2.2.2⟩)
    (Cert.KernelAdamIIdeal.Value.run_blocks (F := Ideal) m ρ), ?_⟩
  refine (θ_run Cert.ReferenceAdamIIdeal.defs _ _).mono (fun r h c => ?_) (ref_run m' ρ')
  obtain ⟨h1, h2, h3, h4, h5⟩ := h c
  rw [(hagree c).1] at h1
  rw [(hagree c).1, (hagree c).2.1, (hagree c).2.2.1, (hagree c).2.2.2] at h2
  rw [(hagree c).1, (hagree c).2.2.1] at h3
  rw [(hagree c).1, (hagree c).2.2.2] at h4
  exact ⟨h1, h2, h3, h4, h5⟩

end Cert.Hand.AdamI
end
-- ==== Proof.AdamO.lean ====
/- The sum of the devices' parts of a gradient of 512 x 4096 and its AdamW step: the output projection's weight. -/
module

public import proofs.«01_k».proof.Proof.Gen.KernelAdamOIdeal.Frame
public import proofs.«01_k».proof.Proof.Gen.KernelAdamOIdeal.Value
public import proofs.«01_k».proof.Proof.Gen.ReferenceAdamOIdeal.Run
public import proofs.«01_k».proof.Proof.Sums
public import proofs.«01_k».proof.Proof.AdamMath
public import proofs.«01_k».proof.Defs
public import proofs.«01_k».proof.Proof.Gen.KernelAdamO.Frame

@[expose] public section
set_option maxRecDepth 16384
noncomputable section
namespace Cert.Hand.AdamO
open Idealize.ShloMosaic Idealize.ShloMosaic.TcCoe Idealize.SL.Sem Idealize.ShloMosaic.Pointwise Cert.Hand.Tiles Cert.Hand.Adam

section kernel
open Cert.KernelAdamOIdeal Cert.KernelAdamOIdeal.Gen

section tile
variable (l : FVec Ideal S8x512x512 .bf16) (g w m v : FVec Ideal S512x512 .f32) (r : Fin 512) (s : Fin 512)

theorem pay1_at : k0_pay1 (F := Ideal) g m (ix2 r s) = mE (g (ix2 r s)) (m (ix2 r s)) := by
  pointwise [k0_pay1, mE]
theorem pay2_at : k0_pay2 (F := Ideal) g v (ix2 r s) = vE (g (ix2 r s)) (v (ix2 r s)) := by
  pointwise [k0_pay2, vE]
theorem pay3_at : k0_pay3 (F := Ideal) g w m v (ix2 r s) = dE (g (ix2 r s)) (w (ix2 r s)) (m (ix2 r s)) (v (ix2 r s)) := by
  have h1 := pay1_at g m r s
  have h2 := pay2_at g v r s
  pointwise [k0_pay3, dE]
  rw [h1, h2]
theorem pay4_at (p0 p1 p2 p3 p4 p5 p6 p7 : FVec Ideal S1x512x512 .bf16) : k0_pay4 (F := Ideal) p0 p1 p2 p3 p4 p5 p6 p7 (ix2 r s)
    = p0 (ix3 0 r s) + p1 (ix3 0 r s) + p2 (ix3 0 r s) + p3 (ix3 0 r s) + p4 (ix3 0 r s) + p5 (ix3 0 r s) + p6 (ix3 0 r s) + p7 (ix3 0 r s) := by
  pointwise [k0_pay4]

/-- The blocks stored. -/
theorem sum_at8 : k0_pay4 (F := Ideal) (View.ld l r0_0) (View.ld l r0_1) (View.ld l r0_2) (View.ld l r0_3) (View.ld l r0_4) (View.ld l r0_5)
    (View.ld l r0_6) (View.ld l r0_7) (ix2 r s) = ∑ k, l (ix3 k r s) := by
  refine (pay4_at r s _ _ _ _ _ _ _ _).trans ?_
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact part l r0_0 0 r s (ix3 0 r s) (by simp) (by simp) (by simp)
  · exact part l r0_1 1 r s (ix3 0 r s) (by simp) (by simp) (by simp)
  · exact part l r0_2 2 r s (ix3 0 r s) (by simp) (by simp) (by simp)
  · exact part l r0_3 3 r s (ix3 0 r s) (by simp) (by simp) (by simp)
  · exact part l r0_4 4 r s (ix3 0 r s) (by simp) (by simp) (by simp)
  · exact part l r0_5 5 r s (ix3 0 r s) (by simp) (by simp) (by simp)
  · exact part l r0_6 6 r s (ix3 0 r s) (by simp) (by simp) (by simp)
  · exact part l r0_7 7 r s (ix3 0 r s) (by simp) (by simp) (by simp)
theorem out4_at : out0_4 (F := Ideal) l w m v (ix2 r s) = ∑ k, l (ix3 k r s) := by
  unfold out0_4
  rw [View.canon_unit_zero zero2]
  exact sum_at8 l r s
theorem out5_at : out0_5 (F := Ideal) l w m v (ix2 r s) = dE (∑ k, l (ix3 k r s)) (w (ix2 r s)) (m (ix2 r s)) (v (ix2 r s)) := by
  unfold out0_5 k0_pay5
  rw [View.canon_unit_zero zero2, View.ld_unit_zero zero2, View.ld_unit_zero zero2, View.ld_unit_zero zero2, pay3_at, sum_at8]
theorem out6_at : out0_6 (F := Ideal) l w m v (ix2 r s) = mE (∑ k, l (ix3 k r s)) (m (ix2 r s)) := by
  unfold out0_6 k0_pay5
  rw [View.canon_unit_zero zero2, View.ld_unit_zero zero2, pay1_at, sum_at8]
theorem out7_at : out0_7 (F := Ideal) l w m v (ix2 r s) = vE (∑ k, l (ix3 k r s)) (v (ix2 r s)) := by
  unfold out0_7 k0_pay5
  rw [View.canon_unit_zero zero2, View.ld_unit_zero zero2, pay2_at, sum_at8]
end tile

theorem idx : ∀ t : Fin cfg0.N,
    (win0_0.index t 0 = 0 ∧ win0_0.index t 1 = 0 ∧ win0_0.index t 2 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val) := by decide +kernel

/-- The block's column of a grid point. -/
def jP (t : Fin cfg0.N) : Fin 8 := ⟨t.val, lt_of_lt_of_eq t.isLt N_0⟩

theorem emb0 (t : Fin cfg0.N) (k : Fin 8) (r : Fin 512) (s : Fin 512) :
    (((cfg0.win 0).blk t).view.emb (ix3 k r s) : S8x512x4096.Idx) = ix3 k r (at_ rfl (jP t) s) := by
  have e := (idx t).1
  unfold at_ jP
  refine funext fun a => Fin.ext ?_
  match a with
  | ⟨0, _⟩ => blk_simp [e]; try simp; try omega
  | ⟨1, _⟩ => blk_simp [e]; try simp; try omega
  | ⟨2, _⟩ => blk_simp [e]; try simp; try omega
theorem emb (t : Fin cfg0.N) (r : Fin 512) (s : Fin 512) :
    (((cfg0.win 1).blk t).view.emb (ix2 r s) : S512x4096.Idx) = ix2 r (at_ rfl (jP t) s)
    ∧ (((cfg0.win 2).blk t).view.emb (ix2 r s) : S512x4096.Idx) = ix2 r (at_ rfl (jP t) s)
    ∧ (((cfg0.win 3).blk t).view.emb (ix2 r s) : S512x4096.Idx) = ix2 r (at_ rfl (jP t) s)
    ∧ ((win0_4.blk t).view.emb (ix2 r s) : S512x4096.Idx) = ix2 r (at_ rfl (jP t) s)
    ∧ ((win0_5.blk t).view.emb (ix2 r s) : S512x4096.Idx) = ix2 r (at_ rfl (jP t) s)
    ∧ ((win0_6.blk t).view.emb (ix2 r s) : S512x4096.Idx) = ix2 r (at_ rfl (jP t) s)
    ∧ ((win0_7.blk t).view.emb (ix2 r s) : S512x4096.Idx) = ix2 r (at_ rfl (jP t) s) := by
  obtain ⟨-, e1, e2, e3, e4, e5, e6, e7⟩ := idx t
  unfold at_ jP
  refine ⟨?_, ?_, ?_, ?_, ?_, ?_, ?_⟩ <;> refine ext2 _ _ _ ?_ ?_ <;>
    (blk_simp [e1, e2, e3, e4, e5, e6, e7]; try simp; try omega)

variable (m : (ℓ : Loc nD τ sig) → Buf (Elt Ideal) ℓ) (c : Dev nD)

abbrev L : FVec Ideal S8x512x4096 .bf16 := m ((c.tc : Thread nD τ).loc main_arg0)
abbrev W : FVec Ideal S512x4096 .f32 := m ((c.tc : Thread nD τ).loc main_arg1)
abbrev M : FVec Ideal S512x4096 .f32 := m ((c.tc : Thread nD τ).loc main_arg2)
abbrev VV : FVec Ideal S512x4096 .f32 := m ((c.tc : Thread nD τ).loc main_arg3)

theorem blk0_at (t : Fin cfg0.N) (k : Fin 8) (r : Fin 512) (s : Fin 512) :
    (iblk m c 0 t : FVec Ideal S8x512x512 .bf16) (ix3 k r s) = L m c (ix3 k r (at_ rfl (jP t) s)) :=
  (congrArg (V m c main_arg0) (emb0 t k r s)).trans (congrFun (V_main_arg0 m c) _)
theorem blk1_at (t : Fin cfg0.N) (r : Fin 512) (s : Fin 512) :
    (iblk m c 1 t : FVec Ideal S512x512 .f32) (ix2 r s) = W m c (ix2 r (at_ rfl (jP t) s)) :=
  (congrArg (V m c main_arg1) (emb t r s).1).trans (congrFun (V_main_arg1 m c) _)
theorem blk2_at (t : Fin cfg0.N) (r : Fin 512) (s : Fin 512) :
    (iblk m c 2 t : FVec Ideal S512x512 .f32) (ix2 r s) = M m c (ix2 r (at_ rfl (jP t) s)) :=
  (congrArg (V m c main_arg2) (emb t r s).2.1).trans (congrFun (V_main_arg2 m c) _)
theorem blk3_at (t : Fin cfg0.N) (r : Fin 512) (s : Fin 512) :
    (iblk m c 3 t : FVec Ideal S512x512 .f32) (ix2 r s) = VV m c (ix2 r (at_ rfl (jP t) s)) :=
  (congrArg (V m c main_arg3) (emb t r s).2.2.1).trans (congrFun (V_main_arg3 m c) _)

/-- The four result arrays. -/
theorem arr4 : (dats m 0 c).arrAt 4 cfg0.N = sumG (L m c) := by
  refine (dats m 0 c).arrAt_eq_of_covers 4 _ (by decide +kernel) fun t hf y => ?_
  blk_simp
  rw [after0_4]
  obtain ⟨r, s, rfl⟩ := pair 512 512 y
  rw [(emb t r s).2.2.2.1]
  refine (out4_at _ _ _ _ r s).trans ?_
  simp only [blk0_at, blk1_at, blk2_at, blk3_at]
  rfl
theorem arr5 : (dats m 0 c).arrAt 5 cfg0.N = newD (sumG (L m c)) (W m c) (M m c) (VV m c) := by
  refine (dats m 0 c).arrAt_eq_of_covers 5 _ (by decide +kernel) fun t hf y => ?_
  blk_simp
  rw [after0_5]
  obtain ⟨r, s, rfl⟩ := pair 512 512 y
  rw [(emb t r s).2.2.2.2.1]
  refine (out5_at _ _ _ _ r s).trans ?_
  simp only [blk0_at, blk1_at, blk2_at, blk3_at]
  rfl
theorem arr6 : (dats m 0 c).arrAt 6 cfg0.N = newM (sumG (L m c)) (M m c) := by
  refine (dats m 0 c).arrAt_eq_of_covers 6 _ (by decide +kernel) fun t hf y => ?_
  blk_simp
  rw [after0_6]
  obtain ⟨r, s, rfl⟩ := pair 512 512 y
  rw [(emb t r s).2.2.2.2.2.1]
  refine (out6_at _ _ _ _ r s).trans ?_
  simp only [blk0_at, blk1_at, blk2_at, blk3_at]
  rfl
theorem arr7 : (dats m 0 c).arrAt 7 cfg0.N = newV (sumG (L m c)) (VV m c) := by
  refine (dats m 0 c).arrAt_eq_of_covers 7 _ (by decide +kernel) fun t hf y => ?_
  blk_simp
  rw [after0_7]
  obtain ⟨r, s, rfl⟩ := pair 512 512 y
  rw [(emb t r s).2.2.2.2.2.2]
  refine (out7_at _ _ _ _ r s).trans ?_
  simp only [blk0_at, blk1_at, blk2_at, blk3_at]
  rfl

end kernel

section reference
open Cert.ReferenceAdamOIdeal Cert.ReferenceAdamOIdeal.Gen

/-- The reference's sum. -/
theorem sum_ref (l : FVec Ideal S8x512x4096 .bf16) : Host.reduceAdd (extf .f32 l bitsLt_bf16_f32) (constant S_ .f32 0x00000000#32)
    reducesTo_S8x512x4096_S512x4096_d0 h_S_ = sumG l := by
  funext i
  obtain ⟨r, s, rfl⟩ := pair 512 4096 i
  pointwise []
  rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = sumG (m ((c.tc : Thread nD τ).loc main_arg0))
      ∧ r.2.mem ((c.tc : Thread nD τ).loc main_v25) = newD (sumG (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v6) = newM (sumG (m ((c.tc : Thread nD τ).loc main_arg0))) (m ((c.tc : Thread nD τ).loc main_arg2))
      ∧ r.2.mem ((c.tc : Thread nD τ).loc main_v12) = newV (sumG (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceAdamOIdeal.Value.run (F := Ideal) m ρ)
  refine ⟨(h c).1.trans (sum_ref _), (h c).2.1.trans (Eq.trans ?_ (d_ref _ _ _ _ bcast_S_S512x4096)), (h c).2.2.1.trans (Eq.trans ?_ (m_ref _ _ bcast_S_S512x4096)),
    (h c).2.2.2.1.trans (Eq.trans ?_ (v_ref _ _ bcast_S_S512x4096)), (h c).2.2.2.2⟩
  · rw [← sum_ref]; rfl
  · rw [← sum_ref]; rfl
  · rw [← sum_ref]; rfl

end reference

theorem frame_p : Cert.quiescent_KernelAdamO := fun m ρ _ => Cert.KernelAdamO.Gen.frame m ρ
theorem frame_pi : Cert.quiescent_KernelAdamOIdeal := fun m ρ _ => Cert.KernelAdamOIdeal.Gen.frame m ρ

/-- The reference runs, keeps its arguments and declares no semaphore. -/
theorem frame_ri : Cert.quiescent_ReferenceAdamOIdeal := fun m ρ _ =>
  (θ_run Cert.ReferenceAdamOIdeal.defs _ _).mono (fun r h => ⟨fun c => (h c).2.2.2.2, sem_eq_zero_of_no_sems (by decide) r.2⟩)
    (ref_run m ρ)

theorem preserves : Cert.preserves_KernelAdamO_KernelAdamOIdeal := trivial

theorem algebraic : Cert.algebraic_KernelAdamOIdeal_ReferenceAdamOIdeal := by
  intro m ρ m' ρ' _ hagree
  refine ⟨_, _, _, _, (θ_run Cert.KernelAdamOIdeal.defs _ _).mono
    (fun r h c => ⟨(h c).1.trans (arr4 m c), (h c).2.1.trans (arr5 m c), (h c).2.2.1.trans (arr6 m c), (h c).2.2.2.1.trans (arr7 m c), (h c).2.2.2.2⟩)
    (Cert.KernelAdamOIdeal.Value.run_blocks (F := Ideal) m ρ), ?_⟩
  refine (θ_run Cert.ReferenceAdamOIdeal.defs _ _).mono (fun r h c => ?_) (ref_run m' ρ')
  obtain ⟨h1, h2, h3, h4, h5⟩ := h c
  rw [(hagree c).1] at h1
  rw [(hagree c).1, (hagree c).2.1, (hagree c).2.2.1, (hagree c).2.2.2] at h2
  rw [(hagree c).1, (hagree c).2.2.1] at h3
  rw [(hagree c).1, (hagree c).2.2.2] at h4
  exact ⟨h1, h2, h3, h4, h5⟩

end Cert.Hand.AdamO
end
-- ==== Proof.AdamB.lean ====
/- The sum of the devices' parts of a gradient of 512 x 2048 and its AdamW step: the branch projections' weights. -/
module

public import proofs.«01_k».proof.Proof.Gen.KernelAdamBIdeal.Frame
public import proofs.«01_k».proof.Proof.Gen.KernelAdamBIdeal.Value
public import proofs.«01_k».proof.Proof.Gen.ReferenceAdamBIdeal.Run
public import proofs.«01_k».proof.Proof.Sums
public import proofs.«01_k».proof.Proof.AdamMath
public import proofs.«01_k».proof.Defs
public import proofs.«01_k».proof.Proof.Gen.KernelAdamB.Frame

@[expose] public section
set_option maxRecDepth 16384
noncomputable section
namespace Cert.Hand.AdamB
open Idealize.ShloMosaic Idealize.ShloMosaic.TcCoe Idealize.SL.Sem Idealize.ShloMosaic.Pointwise Cert.Hand.Tiles Cert.Hand.Adam

section kernel
open Cert.KernelAdamBIdeal Cert.KernelAdamBIdeal.Gen

section tile
variable (l : FVec Ideal S8x512x512 .bf16) (g w m v : FVec Ideal S512x512 .f32) (r : Fin 512) (s : Fin 512)

theorem pay1_at : k0_pay1 (F := Ideal) g m (ix2 r s) = mE (g (ix2 r s)) (m (ix2 r s)) := by
  pointwise [k0_pay1, mE]
theorem pay2_at : k0_pay2 (F := Ideal) g v (ix2 r s) = vE (g (ix2 r s)) (v (ix2 r s)) := by
  pointwise [k0_pay2, vE]
theorem pay3_at : k0_pay3 (F := Ideal) g w m v (ix2 r s) = dE (g (ix2 r s)) (w (ix2 r s)) (m (ix2 r s)) (v (ix2 r s)) := by
  have h1 := pay1_at g m r s
  have h2 := pay2_at g v r s
  pointwise [k0_pay3, dE]
  rw [h1, h2]
theorem pay4_at (p0 p1 p2 p3 p4 p5 p6 p7 : FVec Ideal S1x512x512 .bf16) : k0_pay4 (F := Ideal) p0 p1 p2 p3 p4 p5 p6 p7 (ix2 r s)
    = p0 (ix3 0 r s) + p1 (ix3 0 r s) + p2 (ix3 0 r s) + p3 (ix3 0 r s) + p4 (ix3 0 r s) + p5 (ix3 0 r s) + p6 (ix3 0 r s) + p7 (ix3 0 r s) := by
  pointwise [k0_pay4]

/-- The blocks stored. -/
theorem sum_at8 : k0_pay4 (F := Ideal) (View.ld l r0_0) (View.ld l r0_1) (View.ld l r0_2) (View.ld l r0_3) (View.ld l r0_4) (View.ld l r0_5)
    (View.ld l r0_6) (View.ld l r0_7) (ix2 r s) = ∑ k, l (ix3 k r s) := by
  refine (pay4_at r s _ _ _ _ _ _ _ _).trans ?_
  rw [Fin.sum_univ_eight]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact part l r0_0 0 r s (ix3 0 r s) (by simp) (by simp) (by simp)
  · exact part l r0_1 1 r s (ix3 0 r s) (by simp) (by simp) (by simp)
  · exact part l r0_2 2 r s (ix3 0 r s) (by simp) (by simp) (by simp)
  · exact part l r0_3 3 r s (ix3 0 r s) (by simp) (by simp) (by simp)
  · exact part l r0_4 4 r s (ix3 0 r s) (by simp) (by simp) (by simp)
  · exact part l r0_5 5 r s (ix3 0 r s) (by simp) (by simp) (by simp)
  · exact part l r0_6 6 r s (ix3 0 r s) (by simp) (by simp) (by simp)
  · exact part l r0_7 7 r s (ix3 0 r s) (by simp) (by simp) (by simp)
theorem out4_at : out0_4 (F := Ideal) l w m v (ix2 r s) = ∑ k, l (ix3 k r s) := by
  unfold out0_4
  rw [View.canon_unit_zero zero2]
  exact sum_at8 l r s
theorem out5_at : out0_5 (F := Ideal) l w m v (ix2 r s) = dE (∑ k, l (ix3 k r s)) (w (ix2 r s)) (m (ix2 r s)) (v (ix2 r s)) := by
  unfold out0_5 k0_pay5
  rw [View.canon_unit_zero zero2, View.ld_unit_zero zero2, View.ld_unit_zero zero2, View.ld_unit_zero zero2, pay3_at, sum_at8]
theorem out6_at : out0_6 (F := Ideal) l w m v (ix2 r s) = mE (∑ k, l (ix3 k r s)) (m (ix2 r s)) := by
  unfold out0_6 k0_pay5
  rw [View.canon_unit_zero zero2, View.ld_unit_zero zero2, pay1_at, sum_at8]
theorem out7_at : out0_7 (F := Ideal) l w m v (ix2 r s) = vE (∑ k, l (ix3 k r s)) (v (ix2 r s)) := by
  unfold out0_7 k0_pay5
  rw [View.canon_unit_zero zero2, View.ld_unit_zero zero2, pay2_at, sum_at8]
end tile

theorem idx : ∀ t : Fin cfg0.N,
    (win0_0.index t 0 = 0 ∧ win0_0.index t 1 = 0 ∧ win0_0.index t 2 = t.val) ∧ (win0_1.index t 0 = 0 ∧ win0_1.index t 1 = t.val)
    ∧ (win0_2.index t 0 = 0 ∧ win0_2.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val) := by decide +kernel

/-- The block's column of a grid point. -/
def jP (t : Fin cfg0.N) : Fin 4 := ⟨t.val, lt_of_lt_of_eq t.isLt N_0⟩

theorem emb0 (t : Fin cfg0.N) (k : Fin 8) (r : Fin 512) (s : Fin 512) :
    (((cfg0.win 0).blk t).view.emb (ix3 k r s) : S8x512x2048.Idx) = ix3 k r (at_ rfl (jP t) s) := by
  have e := (idx t).1
  unfold at_ jP
  refine funext fun a => Fin.ext ?_
  match a with
  | ⟨0, _⟩ => blk_simp [e]; try simp; try omega
  | ⟨1, _⟩ => blk_simp [e]; try simp; try omega
  | ⟨2, _⟩ => blk_simp [e]; try simp; try omega
theorem emb (t : Fin cfg0.N) (r : Fin 512) (s : Fin 512) :
    (((cfg0.win 1).blk t).view.emb (ix2 r s) : S512x2048.Idx) = ix2 r (at_ rfl (jP t) s)
    ∧ (((cfg0.win 2).blk t).view.emb (ix2 r s) : S512x2048.Idx) = ix2 r (at_ rfl (jP t) s)
    ∧ (((cfg0.win 3).blk t).view.emb (ix2 r s) : S512x2048.Idx) = ix2 r (at_ rfl (jP t) s)
    ∧ ((win0_4.blk t).view.emb (ix2 r s) : S512x2048.Idx) = ix2 r (at_ rfl (jP t) s)
    ∧ ((win0_5.blk t).view.emb (ix2 r s) : S512x2048.Idx) = ix2 r (at_ rfl (jP t) s)
    ∧ ((win0_6.blk t).view.emb (ix2 r s) : S512x2048.Idx) = ix2 r (at_ rfl (jP t) s)
    ∧ ((win0_7.blk t).view.emb (ix2 r s) : S512x2048.Idx) = ix2 r (at_ rfl (jP t) s) := by
  obtain ⟨-, e1, e2, e3, e4, e5, e6, e7⟩ := idx t
  unfold at_ jP
  refine ⟨?_, ?_, ?_, ?_, ?_, ?_, ?_⟩ <;> refine ext2 _ _ _ ?_ ?_ <;>
    (blk_simp [e1, e2, e3, e4, e5, e6, e7]; try simp; try omega)

variable (m : (ℓ : Loc nD τ sig) → Buf (Elt Ideal) ℓ) (c : Dev nD)

abbrev L : FVec Ideal S8x512x2048 .bf16 := m ((c.tc : Thread nD τ).loc main_arg0)
abbrev W : FVec Ideal S512x2048 .f32 := m ((c.tc : Thread nD τ).loc main_arg1)
abbrev M : FVec Ideal S512x2048 .f32 := m ((c.tc : Thread nD τ).loc main_arg2)
abbrev VV : FVec Ideal S512x2048 .f32 := m ((c.tc : Thread nD τ).loc main_arg3)

theorem blk0_at (t : Fin cfg0.N) (k : Fin 8) (r : Fin 512) (s : Fin 512) :
    (iblk m c 0 t : FVec Ideal S8x512x512 .bf16) (ix3 k r s) = L m c (ix3 k r (at_ rfl (jP t) s)) :=
  (congrArg (V m c main_arg0) (emb0 t k r s)).trans (congrFun (V_main_arg0 m c) _)
theorem blk1_at (t : Fin cfg0.N) (r : Fin 512) (s : Fin 512) :
    (iblk m c 1 t : FVec Ideal S512x512 .f32) (ix2 r s) = W m c (ix2 r (at_ rfl (jP t) s)) :=
  (congrArg (V m c main_arg1) (emb t r s).1).trans (congrFun (V_main_arg1 m c) _)
theorem blk2_at (t : Fin cfg0.N) (r : Fin 512) (s : Fin 512) :
    (iblk m c 2 t : FVec Ideal S512x512 .f32) (ix2 r s) = M m c (ix2 r (at_ rfl (jP t) s)) :=
  (congrArg (V m c main_arg2) (emb t r s).2.1).trans (congrFun (V_main_arg2 m c) _)
theorem blk3_at (t : Fin cfg0.N) (r : Fin 512) (s : Fin 512) :
    (iblk m c 3 t : FVec Ideal S512x512 .f32) (ix2 r s) = VV m c (ix2 r (at_ rfl (jP t) s)) :=
  (congrArg (V m c main_arg3) (emb t r s).2.2.1).trans (congrFun (V_main_arg3 m c) _)

/-- The four result arrays. -/
theorem arr4 : (dats m 0 c).arrAt 4 cfg0.N = sumG (L m c) := by
  refine (dats m 0 c).arrAt_eq_of_covers 4 _ (by decide +kernel) fun t hf y => ?_
  blk_simp
  rw [after0_4]
  obtain ⟨r, s, rfl⟩ := pair 512 512 y
  rw [(emb t r s).2.2.2.1]
  refine (out4_at _ _ _ _ r s).trans ?_
  simp only [blk0_at, blk1_at, blk2_at, blk3_at]
  rfl
theorem arr5 : (dats m 0 c).arrAt 5 cfg0.N = newD (sumG (L m c)) (W m c) (M m c) (VV m c) := by
  refine (dats m 0 c).arrAt_eq_of_covers 5 _ (by decide +kernel) fun t hf y => ?_
  blk_simp
  rw [after0_5]
  obtain ⟨r, s, rfl⟩ := pair 512 512 y
  rw [(emb t r s).2.2.2.2.1]
  refine (out5_at _ _ _ _ r s).trans ?_
  simp only [blk0_at, blk1_at, blk2_at, blk3_at]
  rfl
theorem arr6 : (dats m 0 c).arrAt 6 cfg0.N = newM (sumG (L m c)) (M m c) := by
  refine (dats m 0 c).arrAt_eq_of_covers 6 _ (by decide +kernel) fun t hf y => ?_
  blk_simp
  rw [after0_6]
  obtain ⟨r, s, rfl⟩ := pair 512 512 y
  rw [(emb t r s).2.2.2.2.2.1]
  refine (out6_at _ _ _ _ r s).trans ?_
  simp only [blk0_at, blk1_at, blk2_at, blk3_at]
  rfl
theorem arr7 : (dats m 0 c).arrAt 7 cfg0.N = newV (sumG (L m c)) (VV m c) := by
  refine (dats m 0 c).arrAt_eq_of_covers 7 _ (by decide +kernel) fun t hf y => ?_
  blk_simp
  rw [after0_7]
  obtain ⟨r, s, rfl⟩ := pair 512 512 y
  rw [(emb t r s).2.2.2.2.2.2]
  refine (out7_at _ _ _ _ r s).trans ?_
  simp only [blk0_at, blk1_at, blk2_at, blk3_at]
  rfl

end kernel

section reference
open Cert.ReferenceAdamBIdeal Cert.ReferenceAdamBIdeal.Gen

/-- The reference's sum. -/
theorem sum_ref (l : FVec Ideal S8x512x2048 .bf16) : Host.reduceAdd (extf .f32 l bitsLt_bf16_f32) (constant S_ .f32 0x00000000#32)
    reducesTo_S8x512x2048_S512x2048_d0 h_S_ = sumG l := by
  funext i
  obtain ⟨r, s, rfl⟩ := pair 512 2048 i
  pointwise []
  rfl

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1) = sumG (m ((c.tc : Thread nD τ).loc main_arg0))
      ∧ r.2.mem ((c.tc : Thread nD τ).loc main_v25) = newD (sumG (m ((c.tc : Thread nD τ).loc main_arg0))) (m ((c.tc : Thread nD τ).loc main_arg1)) (m ((c.tc : Thread nD τ).loc main_arg2)) (m ((c.tc : Thread nD τ).loc main_arg3))
      ∧ r.2.mem ((c.tc : Thread nD τ).loc main_v6) = newM (sumG (m ((c.tc : Thread nD τ).loc main_arg0))) (m ((c.tc : Thread nD τ).loc main_arg2))
      ∧ r.2.mem ((c.tc : Thread nD τ).loc main_v12) = newV (sumG (m ((c.tc : Thread nD τ).loc main_arg0))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Cert.ReferenceAdamBIdeal.Value.run (F := Ideal) m ρ)
  refine ⟨(h c).1.trans (sum_ref _), (h c).2.1.trans (Eq.trans ?_ (d_ref _ _ _ _ bcast_S_S512x2048)), (h c).2.2.1.trans (Eq.trans ?_ (m_ref _ _ bcast_S_S512x2048)),
    (h c).2.2.2.1.trans (Eq.trans ?_ (v_ref _ _ bcast_S_S512x2048)), (h c).2.2.2.2⟩
  · rw [← sum_ref]; rfl
  · rw [← sum_ref]; rfl
  · rw [← sum_ref]; rfl

end reference

theorem frame_p : Cert.quiescent_KernelAdamB := fun m ρ _ => Cert.KernelAdamB.Gen.frame m ρ
theorem frame_pi : Cert.quiescent_KernelAdamBIdeal := fun m ρ _ => Cert.KernelAdamBIdeal.Gen.frame m ρ

/-- The reference runs, keeps its arguments and declares no semaphore. -/
theorem frame_ri : Cert.quiescent_ReferenceAdamBIdeal := fun m ρ _ =>
  (θ_run Cert.ReferenceAdamBIdeal.defs _ _).mono (fun r h => ⟨fun c => (h c).2.2.2.2, sem_eq_zero_of_no_sems (by decide) r.2⟩)
    (ref_run m ρ)

theorem preserves : Cert.preserves_KernelAdamB_KernelAdamBIdeal := trivial

theorem algebraic : Cert.algebraic_KernelAdamBIdeal_ReferenceAdamBIdeal := by
  intro m ρ m' ρ' _ hagree
  refine ⟨_, _, _, _, (θ_run Cert.KernelAdamBIdeal.defs _ _).mono
    (fun r h c => ⟨(h c).1.trans (arr4 m c), (h c).2.1.trans (arr5 m c), (h c).2.2.1.trans (arr6 m c), (h c).2.2.2.1.trans (arr7 m c), (h c).2.2.2.2⟩)
    (Cert.KernelAdamBIdeal.Value.run_blocks (F := Ideal) m ρ), ?_⟩
  refine (θ_run Cert.ReferenceAdamBIdeal.defs _ _).mono (fun r h c => ?_) (ref_run m' ρ')
  obtain ⟨h1, h2, h3, h4, h5⟩ := h c
  rw [(hagree c).1] at h1
  rw [(hagree c).1, (hagree c).2.1, (hagree c).2.2.1, (hagree c).2.2.2] at h2
  rw [(hagree c).1, (hagree c).2.2.1] at h3
  rw [(hagree c).1, (hagree c).2.2.2] at h4
  exact ⟨h1, h2, h3, h4, h5⟩

end Cert.Hand.AdamB
end
-- ==== Proof.lean ====
/- The certificate: the generated frames and runs, and the two programs' gradients as the same real formulas. -/
module

public import proofs.«01_k».proof.Defs
public import proofs.«01_k».proof.Proof.Gen.Kernel.Frame
public import proofs.«01_k».proof.Proof.Host
public import proofs.«01_k».proof.Proof.Pre
public import proofs.«01_k».proof.Proof.Up
public import proofs.«01_k».proof.Proof.Down
public import proofs.«01_k».proof.Proof.Act
public import proofs.«01_k».proof.Proof.DownW
public import proofs.«01_k».proof.Proof.UpW
public import proofs.«01_k».proof.Proof.UpX
public import proofs.«01_k».proof.Proof.Proj
public import proofs.«01_k».proof.Proof.ProjX
public import proofs.«01_k».proof.Proof.MixX
public import proofs.«01_k».proof.Proof.OutW
public import proofs.«01_k».proof.Proof.BranchW
public import proofs.«01_k».proof.Proof.BranchX
public import proofs.«01_k».proof.Proof.Out
public import proofs.«01_k».proof.Proof.Mix
public import proofs.«01_k».proof.Proof.ProjW
public import proofs.«01_k».proof.Proof.FoxF
public import proofs.«01_k».proof.Proof.Norm
public import proofs.«01_k».proof.Proof.NormF
public import proofs.«01_k».proof.Proof.Loss
public import proofs.«01_k».proof.Proof.AdamS
public import proofs.«01_k».proof.Proof.AdamF
public import proofs.«01_k».proof.Proof.AdamI
public import proofs.«01_k».proof.Proof.AdamO
public import proofs.«01_k».proof.Proof.AdamB
public import Idealize.ShloMosaic.Adequacy
public import Idealize.ShloMosaic.Init

@[expose] public section

set_option maxRecDepth 16384

noncomputable section

namespace Cert.Proof

open Idealize.ShloMosaic Idealize.ShloMosaic.TcCoe Idealize.SL.Sem Cert.Hand

instance : Cert.Pre_finite.Facts := preFacts

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

/-- The reference runs, keeps its arguments and declares no semaphore. -/
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The mask's constant is minus infinity, by the certificate's table. -/
theorem preserves : Cert.preserves_Kernel_KernelIdeal :=
  IdealRules.named_const.statement Cert.KernelIdeal.κ "mask" .f32 0xF149F2CA#32 ⊥ rfl

set_option maxHeartbeats 4000000 in
open Cert.KernelIdeal Cert.KernelIdeal.Gen in
/-- The kernel's run: its five arrays hold the gradients, its arguments stay. -/
theorem run_pi (m : (ℓ : Loc nD τ sig) → Buf (Elt Ideal) ℓ) (ρ : Dev nD → PrngReg) (I : Dev nD → Inp)
    (R : ∀ c : Dev nD, Real3 (m ((c.tc : Thread nD τ).loc main_arg0)) (m ((c.tc : Thread nD τ).loc main_arg1)) (m ((c.tc : Thread nD τ).loc main_arg2)) (I c)) :
    θ_run defs (onTc (τ := τ) (main (F := Ideal))) ⟨m, fun _ => 0, ρ⟩ fun r => ∀ c : Dev nD,
      r.2.mem ((c.tc : Thread nD τ).loc main_v52_0) = heads .f32 (I c).data.gq
      ∧ r.2.mem ((c.tc : Thread nD τ).loc main_v52_1) = heads .bf16 (I c).data.gk
      ∧ r.2.mem ((c.tc : Thread nD τ).loc main_v52_2) = heads .bf16 (I c).data.gv
      ∧ r.2.mem ((c.tc : Thread nD τ).loc main_v52_3) = (fun i => (((I c).data.gck (i 0) (i 2) : ℝ) : EReal) : FVec Ideal S16x1x4096 .f32)
      ∧ r.2.mem ((c.tc : Thread nD τ).loc main_v52_4) = (fun i => (((I c).data.gcq (i 0) (i 1) : ℝ) : EReal) : FVec Ideal S16x4096x1 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).1 8).trans (arr8 (entry (R c))), ((h c).1 9).trans (arr9 (entry (R c))), ((h c).1 10).trans (arr10 (entry (R c))),
      ((h c).1 11).trans (arr11 (entry (R c))), ((h c).1 12).trans (arr12 (entry (R c))),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c)))⟩)
    (run_main m ρ)

theorem algebraic : Cert.algebraic_KernelIdeal_ReferenceIdeal_pre_finite := by
  intro m ρ m' ρ' hpre hagree
  have R := fun c => real3 (hpre c).1 (hpre c).2.1 (hpre c).2.2
  refine ⟨_, _, _, _, _, run_pi m ρ _ R, ?_⟩
  refine (θ_run Cert.ReferenceIdeal.defs _ _).mono (fun r h c => ?_) (Cert.ReferenceIdeal.Value.run (F := Ideal) m' ρ')
  have R' := R c
  rw [← (hagree c).1, ← (hagree c).2.1, ← (hagree c).2.2] at R' ⊢
  exact ⟨(h c).1.trans ((res88 m' c).trans (ref_dq R')), (h c).2.1.trans ((res90 m' c).trans (ref_dk R')),
    (h c).2.2.1.trans ((res92 m' c).trans (ref_dv R')), (h c).2.2.2.1.trans ((res93 m' c).trans (ref_dck R')),
    (h c).2.2.2.2.1.trans ((res94 m' c).trans (ref_dcq R')), (h c).2.2.2.2.2⟩

theorem claim : Cert.Claim :=
  ⟨Cert.Kernel.Gen.facts, Cert.KernelIdeal.Gen.facts, Cert.ReferenceIdeal.Gen.facts, Cert.KernelUp.Gen.facts,
    Cert.KernelUpIdeal.Gen.facts, Cert.ReferenceUpIdeal.Gen.facts, Cert.KernelDown.Gen.facts, Cert.KernelDownIdeal.Gen.facts,
    Cert.ReferenceDownIdeal.Gen.facts, Cert.KernelAct.Gen.facts, Cert.KernelActIdeal.Gen.facts,
    Cert.ReferenceActIdeal.Gen.facts, Cert.KernelDownW.Gen.facts, Cert.KernelDownWIdeal.Gen.facts,
    Cert.ReferenceDownWIdeal.Gen.facts, Cert.KernelUpW.Gen.facts, Cert.KernelUpWIdeal.Gen.facts,
    Cert.ReferenceUpWIdeal.Gen.facts, Cert.KernelUpX.Gen.facts, Cert.KernelUpXIdeal.Gen.facts,
    Cert.ReferenceUpXIdeal.Gen.facts, Cert.KernelProj.Gen.facts, Cert.KernelProjIdeal.Gen.facts,
    Cert.ReferenceProjIdeal.Gen.facts, Cert.KernelProjX.Gen.facts, Cert.KernelProjXIdeal.Gen.facts,
    Cert.ReferenceProjXIdeal.Gen.facts, Cert.KernelMixX.Gen.facts, Cert.KernelMixXIdeal.Gen.facts,
    Cert.ReferenceMixXIdeal.Gen.facts, Cert.KernelOutW.Gen.facts, Cert.KernelOutWIdeal.Gen.facts,
    Cert.ReferenceOutWIdeal.Gen.facts, Cert.KernelBranchW.Gen.facts, Cert.KernelBranchWIdeal.Gen.facts,
    Cert.ReferenceBranchWIdeal.Gen.facts, Cert.KernelBranchX.Gen.facts, Cert.KernelBranchXIdeal.Gen.facts,
    Cert.ReferenceBranchXIdeal.Gen.facts, Cert.KernelOut.Gen.facts, Cert.KernelOutIdeal.Gen.facts,
    Cert.ReferenceOutIdeal.Gen.facts, Cert.KernelMix.Gen.facts, Cert.KernelMixIdeal.Gen.facts,
    Cert.ReferenceMixIdeal.Gen.facts, Cert.KernelFoxF.Gen.facts, Cert.KernelFoxFIdeal.Gen.facts,
    Cert.ReferenceFoxFIdeal.Gen.facts, Cert.KernelProjW.Gen.facts, Cert.KernelProjWIdeal.Gen.facts,
    Cert.ReferenceProjWIdeal.Gen.facts, Cert.KernelNorm.Gen.facts, Cert.KernelNormIdeal.Gen.facts,
    Cert.ReferenceNormIdeal.Gen.facts, Cert.KernelNormF.Gen.facts, Cert.KernelNormFIdeal.Gen.facts,
    Cert.ReferenceNormFIdeal.Gen.facts, Cert.KernelLoss.Gen.facts, Cert.KernelLossIdeal.Gen.facts,
    Cert.ReferenceLossIdeal.Gen.facts, Cert.KernelAdamS.Gen.facts, Cert.KernelAdamSIdeal.Gen.facts,
    Cert.ReferenceAdamSIdeal.Gen.facts, Cert.KernelAdamF.Gen.facts, Cert.KernelAdamFIdeal.Gen.facts,
    Cert.ReferenceAdamFIdeal.Gen.facts, Cert.KernelAdamI.Gen.facts, Cert.KernelAdamIIdeal.Gen.facts,
    Cert.ReferenceAdamIIdeal.Gen.facts, Cert.KernelAdamO.Gen.facts, Cert.KernelAdamOIdeal.Gen.facts,
    Cert.ReferenceAdamOIdeal.Gen.facts, Cert.KernelAdamB.Gen.facts, Cert.KernelAdamBIdeal.Gen.facts,
    Cert.ReferenceAdamBIdeal.Gen.facts, preFacts, Act.preFacts, FoxF.preFacts, frame_p, frame_pi, frame_pi_finite, frame_ri,
    frame_ri_finite, Up.frame_p, Up.frame_pi, Up.frame_ri, Down.frame_p, Down.frame_pi, Down.frame_ri, Act.frame_p,
    Act.frame_pi, Act.frame_pi_finite, Act.frame_ri, Act.frame_ri_finite, DownW.frame_p, DownW.frame_pi, DownW.frame_ri,
    UpW.frame_p, UpW.frame_pi, UpW.frame_ri, UpX.frame_p, UpX.frame_pi, UpX.frame_ri, Proj.frame_p, Proj.frame_pi,
    Proj.frame_ri, ProjX.frame_p, ProjX.frame_pi, ProjX.frame_ri, MixX.frame_p, MixX.frame_pi, MixX.frame_ri, OutW.frame_p,
    OutW.frame_pi, OutW.frame_ri, BranchW.frame_p, BranchW.frame_pi, BranchW.frame_ri, BranchX.frame_p, BranchX.frame_pi,
    BranchX.frame_ri, Out.frame_p, Out.frame_pi, Out.frame_ri, Mix.frame_p, Mix.frame_pi, Mix.frame_ri, FoxF.frame_p,
    FoxF.frame_pi, FoxF.frame_pi_finite, FoxF.frame_ri, FoxF.frame_ri_finite, ProjW.frame_p, ProjW.frame_pi, ProjW.frame_ri,
    Norm.frame_p, Norm.frame_pi, Norm.frame_ri, NormF.frame_p, NormF.frame_pi, NormF.frame_ri, Loss.frame_p, Loss.frame_pi,
    Loss.frame_ri, AdamS.frame_p, AdamS.frame_pi, AdamS.frame_ri, AdamF.frame_p, AdamF.frame_pi, AdamF.frame_ri,
    AdamI.frame_p, AdamI.frame_pi, AdamI.frame_ri, AdamO.frame_p, AdamO.frame_pi, AdamO.frame_ri, AdamB.frame_p,
    AdamB.frame_pi, AdamB.frame_ri, preserves, algebraic, Up.preserves, Up.algebraic, Down.preserves, Down.algebraic,
    Act.preserves, Act.algebraic, DownW.preserves, DownW.algebraic, UpW.preserves, UpW.algebraic, UpX.preserves,
    UpX.algebraic, Proj.preserves, Proj.algebraic, ProjX.preserves, ProjX.algebraic, MixX.preserves, MixX.algebraic,
    OutW.preserves, OutW.algebraic, BranchW.preserves, BranchW.algebraic, BranchX.preserves, BranchX.algebraic,
    Out.preserves, Out.algebraic, Mix.preserves, Mix.algebraic, FoxF.preserves, FoxF.algebraic, ProjW.preserves,
    ProjW.algebraic, Norm.preserves, Norm.algebraic, NormF.preserves, NormF.algebraic, Loss.preserves, Loss.algebraic,
    AdamS.preserves, AdamS.algebraic, AdamF.preserves, AdamF.algebraic, AdamI.preserves, AdamI.algebraic, AdamO.preserves,
    AdamO.algebraic, AdamB.preserves, AdamB.algebraic⟩

end Cert.Proof

end
